-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite_gla [hPre_finite_gla : Cert.Pre_finite_gla.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite_gla.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite_gla [hPre_finite_gla : Cert.Pre_finite_gla.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite_gla.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1))) = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_carried [hPre_carried : Cert.Pre_carried.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_carried.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_carried [hPre_carried : Cert.Pre_carried.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_carried.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))) = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Kernel20Ideal_pre_finite_gla [hKernel20Ideal : Cert.Kernel20Ideal.Facts] [hPre_finite_gla : Cert.Pre_finite_gla.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite_gla m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Reference20Ideal_pre_finite_gla [hReference20Ideal : Cert.Reference20Ideal.Facts] [hPre_finite_gla : Cert.Pre_finite_gla.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite_gla m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Kernel21Ideal_pre_carried [hKernel21Ideal : Cert.Kernel21Ideal.Facts] [hPre_carried : Cert.Pre_carried.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_carried m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Reference21Ideal_pre_carried [hReference21Ideal : Cert.Reference21Ideal.Facts] [hPre_carried : Cert.Pre_carried.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_carried m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)) (v2 : (c : Dev Cert.Kernel19Ideal.nD) → Buf (Elt Ideal) ((c.tc : Thread Cert.Kernel19Ideal.nD Cert.Kernel19Ideal.τ).loc Cert.Kernel19Ideal.main_v3_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_v3_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_v5) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal_pre_finite_gla [hKernel20Ideal : Cert.Kernel20Ideal.Facts] [hReference20Ideal : Cert.Reference20Ideal.Facts] [hPre_finite_gla : Cert.Pre_finite_gla.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite_gla m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v42) = v0 c
          ∧ r.2.mem ((c.tc : Thread Cert.Reference20Ideal.nD Cert.Reference20Ideal.τ).loc Cert.Reference20Ideal.main_v44) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal_pre_carried [hKernel21Ideal : Cert.Kernel21Ideal.Facts] [hReference21Ideal : Cert.Reference21Ideal.Facts] [hPre_carried : Cert.Pre_carried.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_carried m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v107) = v0 c
          ∧ r.2.mem ((c.tc : Thread Cert.Reference21Ideal.nD Cert.Reference21Ideal.τ).loc Cert.Reference21Ideal.main_v104) = v1 c
          ∧ r.2.mem ((c.tc : Thread Cert.Reference21Ideal.nD Cert.Reference21Ideal.τ).loc Cert.Reference21Ideal.main_v103) = v2 c
          ∧ r.2.mem ((c.tc : Thread Cert.Reference21Ideal.nD Cert.Reference21Ideal.τ).loc Cert.Reference21Ideal.main_v102) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v13) = v0 c
          ∧ r.2.mem ((c.tc : Thread Cert.Reference22Ideal.nD Cert.Reference22Ideal.τ).loc Cert.Reference22Ideal.main_v11) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v1_0)) (v1 : (c : Dev Cert.Kernel24Ideal.nD) → Buf (Elt Ideal) ((c.tc : Thread Cert.Kernel24Ideal.nD Cert.Kernel24Ideal.τ).loc Cert.Kernel24Ideal.main_v1_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1_0) = v0 c
          ∧ r.2.mem ((c.tc : Thread Cert.Kernel24Ideal.nD Cert.Kernel24Ideal.τ).loc Cert.Kernel24Ideal.main_v1_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v36) = v0 c
          ∧ r.2.mem ((c.tc : Thread Cert.Reference24Ideal.nD Cert.Reference24Ideal.τ).loc Cert.Reference24Ideal.main_v37) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts) (hPre_finite_gla : Cert.Pre_finite_gla.Facts) (hPre_carried : Cert.Pre_carried.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite_gla (hKernel20Ideal := hKernel20Ideal) (hPre_finite_gla := hPre_finite_gla)
    ∧ quiescent_Reference20Ideal (hReference20Ideal := hReference20Ideal)
    ∧ quiescent_Reference20Ideal_pre_finite_gla (hReference20Ideal := hReference20Ideal) (hPre_finite_gla := hPre_finite_gla)
    ∧ quiescent_Kernel21 (hKernel21 := hKernel21)
    ∧ quiescent_Kernel21Ideal (hKernel21Ideal := hKernel21Ideal)
    ∧ quiescent_Kernel21Ideal_pre_carried (hKernel21Ideal := hKernel21Ideal) (hPre_carried := hPre_carried)
    ∧ quiescent_Reference21Ideal (hReference21Ideal := hReference21Ideal)
    ∧ quiescent_Reference21Ideal_pre_carried (hReference21Ideal := hReference21Ideal) (hPre_carried := hPre_carried)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite_gla (hKernel20Ideal := hKernel20Ideal) (hReference20Ideal := hReference20Ideal) (hPre_finite_gla := hPre_finite_gla)
    ∧ preserves_Kernel21_Kernel21Ideal
    ∧ algebraic_Kernel21Ideal_Reference21Ideal_pre_carried (hKernel21Ideal := hKernel21Ideal) (hReference21Ideal := hReference21Ideal) (hPre_carried := hPre_carried)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_carried.lean ====
abbrev S4096x6656 : Shape := ⟨2, ![4096, 6656]⟩
abbrev S4096x512 : Shape := ⟨2, ![4096, 512]⟩
abbrev S64x512x128 : Shape := ⟨3, ![64, 512, 128]⟩
abbrev S64x64x4x128 : Shape := ⟨4, ![64, 64, 4, 128]⟩
abbrev S_ : Shape := ⟨0, ![]⟩
abbrev S64x1x4x128 : Shape := ⟨4, ![64, 1, 4, 128]⟩
abbrev S64x4x128 : Shape := ⟨3, ![64, 4, 128]⟩
abbrev S64x4x128x128 : Shape := ⟨4, ![64, 4, 128, 128]⟩
abbrev S64x4x1x128 : Shape := ⟨4, ![64, 4, 1, 128]⟩
abbrev S1x4x128x128 : Shape := ⟨4, ![1, 4, 128, 128]⟩
abbrev S4x128x128 : Shape := ⟨3, ![4, 128, 128]⟩
abbrev S63x4x128x128 : Shape := ⟨4, ![63, 4, 128, 128]⟩

class Facts : Prop where
  slices_S4096x6656_S4096x512_0_3584 : S4096x6656.Slices ![0, 3584] S4096x512
  slices_S4096x6656_S4096x512_0_4096 : S4096x6656.Slices ![0, 4096] S4096x512
  slices_S4096x6656_S4096x512_0_4608 : S4096x6656.Slices ![0, 4608] S4096x512
  shapeCasts_S4096x512_S64x64x4x128 : S4096x512.ShapeCasts S64x64x4x128
  bcast_S_S_ : S_.BroadcastsInDim S_ (![] : Fin 0 → Fin S_.rank)
  reduceWindows_S64x64x4x128_S64x64x4x128_w1s1p0_0_w64s1p63_0_w1s1p0_0_w1s1p0_0 : S64x64x4x128.ReduceWindows (![1, 64, 1, 1] : Fin 4 → Nat) ![1, 1, 1, 1] ![0, 63, 0, 0] ![0, 0, 0, 0] S64x64x4x128
  h_S_ : 0 < S_.numel
  slices_S64x64x4x128_S64x1x4x128_0_63_0_0 : S64x64x4x128.Slices ![0, 63, 0, 0] S64x1x4x128
  shapeCasts_S64x1x4x128_S64x4x128 : S64x1x4x128.ShapeCasts S64x4x128
  bcast_S64x4x128_S64x1x4x128_0_2_3 : S64x4x128.BroadcastsInDim S64x1x4x128 (![0, 2, 3] : Fin 3 → Fin S64x1x4x128.rank)
  bcast_S64x1x4x128_S64x64x4x128_0_1_2_3 : S64x1x4x128.BroadcastsInDim S64x64x4x128 (![0, 1, 2, 3] : Fin 4 → Fin S64x64x4x128.rank)
  shapeCasts_S64x512x128_S64x4x128x128 : S64x512x128.ShapeCasts S64x4x128x128
  bcast_S64x4x128_S64x4x1x128_0_1_3 : S64x4x128.BroadcastsInDim S64x4x1x128 (![0, 1, 3] : Fin 3 → Fin S64x4x1x128.rank)
  bcast_S64x4x1x128_S64x4x128x128_0_1_2_3 : S64x4x1x128.BroadcastsInDim S64x4x128x128 (![0, 1, 2, 3] : Fin 4 → Fin S64x4x128x128.rank)
  bcast_S_S4096x512 : S_.BroadcastsInDim S4096x512 (![] : Fin 0 → Fin S4096x512.rank)
  reducesTo_S4096x512_S_d0_1 : S4096x512.ReducesTo [0, 1] S_
  slices_S64x4x128x128_S1x4x128x128_0_0_0_0 : S64x4x128x128.Slices ![0, 0, 0, 0] S1x4x128x128
  shapeCasts_S1x4x128x128_S4x128x128 : S1x4x128x128.ShapeCasts S4x128x128
  bcast_S_S4x128x128 : S_.BroadcastsInDim S4x128x128 (![] : Fin 0 → Fin S4x128x128.rank)
  reducesTo_S4x128x128_S_d0_1_2 : S4x128x128.ReducesTo [0, 1, 2] S_
  slices_S64x4x128x128_S63x4x128x128_1_0_0_0 : S64x4x128x128.Slices ![1, 0, 0, 0] S63x4x128x128
  slices_S64x4x128x128_S63x4x128x128_0_0_0_0 : S64x4x128x128.Slices ![0, 0, 0, 0] S63x4x128x128
  reducesTo_S63x4x128x128_S_d0_1_2_3 : S63x4x128x128.ReducesTo [0, 1, 2, 3] S_
  dot_S64x64x4x128_S64x64x4x128_S64x4x128x128_1_1_3_3_02_02_wf : DotDims.WF S64x64x4x128 S64x64x4x128 S64x4x128x128 [1] [1] [3] [3] [0, 2] [0, 2]

variable [Facts]

def dot_S64x64x4x128_S64x64x4x128_S64x4x128x128_1_1_3_3_02_02 : DotDims S64x64x4x128 S64x64x4x128 S64x4x128x128 where
  lhsContracting := [1]
  rhsContracting := [1]
  lhsNonContracting := [3]
  rhsNonContracting := [3]
  lhsBatch := [0, 2]
  rhsBatch := [0, 2]
  wf := dot_S64x64x4x128_S64x64x4x128_S64x4x128x128_1_1_3_3_02_02_wf
def fn_cumsum_0 {F : FTy → Type} [FloatOps F] (arg0 : FVec F S64x64x4x128 .f32) : FVec F S64x64x4x128 .f32 :=
  let cst : FVec F S_ .f32 := constant S_ .f32 0x00000000#32
  let v0 : FVec F S_ .f32 := broadcastInDim S_ ![] bcast_S_S_ cst
  let v1 : FVec F S64x64x4x128 .f32 := (fun x v => Host.reduceWindowAdd ![1, 64, 1, 1] ![1, 1, 1, 1] ![0, 63, 0, 0] ![0, 0, 0, 0] x v reduceWindows_S64x64x4x128_S64x64x4x128_w1s1p0_0_w64s1p63_0_w1s1p0_0_w1s1p0_0 h_S_) arg0 v0
  v1

def fn_cumsum {F : FTy → Type} [FloatOps F] (arg0 : FVec F S64x64x4x128 .f32) : FVec F S64x64x4x128 .f32 :=
  let v0 : FVec F S64x64x4x128 .f32 := fn_cumsum_0 (F := F) arg0
  v0

def fn_part2 {F : FTy → Type} [FloatOps F] (main_arg2 : FVec F S4096x512 .f32) (main_v15 : FVec F S64x4x128x128 .f32) (main_v20 : FVec F S64x4x128x128 .f32) (main_v35 : IVec S_ 1) (main_v38 : IVec S4096x512 1) (main_c_6 : IVec S_ 1) : IVec S_ 1 :=
  let main_v39 : IVec S_ 1 := (fun x v => Host.reduce IntOp.andi x v reducesTo_S4096x512_S_d0_1 h_S_) main_v38 main_c_6
  let main_v40 : IVec S_ 1 := andi main_v35 main_v39
  let main_v41 : FVec F S4096x512 .f32 := Host.absf main_arg2
  let main_cst_7 : FVec F S_ .f32 := constant S_ .f32 0x7F800000#32
  let main_v42 : FVec F S4096x512 .f32 := broadcastInDim S4096x512 ![] bcast_S_S4096x512 main_cst_7
  let main_v43 : IVec S4096x512 1 := cmpf .olt main_v41 main_v42
  let main_c_8 : IVec S_ 1 := constantI S_ 1 1#1
  let main_v44 : IVec S_ 1 := (fun x v => Host.reduce IntOp.andi x v reducesTo_S4096x512_S_d0_1 h_S_) main_v43 main_c_8
  let main_v45 : IVec S_ 1 := andi main_v40 main_v44
  let main_v46 : FVec F S1x4x128x128 .f32 := (extractStridedSlice S1x4x128x128 ![0, 0, 0, 0] · slices_S64x4x128x128_S1x4x128x128_0_0_0_0) main_v15
  let main_v47 : FVec F S4x128x128 .f32 := shapeCast S4x128x128 main_v46 shapeCasts_S1x4x128x128_S4x128x128
  let main_cst_9 : FVec F S_ .f32 := constant S_ .f32 0x00000000#32
  let main_v48 : FVec F S4x128x128 .f32 := broadcastInDim S4x128x128 ![] bcast_S_S4x128x128 main_cst_9
  let main_v49 : IVec S4x128x128 1 := cmpf .oeq main_v47 main_v48
  let main_c_10 : IVec S_ 1 := constantI S_ 1 1#1
  let main_v50 : IVec S_ 1 := (fun x v => Host.reduce IntOp.andi x v reducesTo_S4x128x128_S_d0_1_2 h_S_) main_v49 main_c_10
  let main_v51 : IVec S_ 1 := andi main_v45 main_v50
  let main_v52 : FVec F S63x4x128x128 .f32 := (extractStridedSlice S63x4x128x128 ![1, 0, 0, 0] · slices_S64x4x128x128_S63x4x128x128_1_0_0_0) main_v15
  let main_v53 : FVec F S63x4x128x128 .f32 := (extractStridedSlice S63x4x128x128 ![0, 0, 0, 0] · slices_S64x4x128x128_S63x4x128x128_0_0_0_0) main_v20
  let main_v54 : IVec S63x4x128x128 1 := cmpf .oeq main_v52 main_v53
  let main_c_11 : IVec S_ 1 := constantI S_ 1 1#1
  let main_v55 : IVec S_ 1 := (fun x v => Host.reduce IntOp.andi x v reducesTo_S63x4x128x128_S_d0_1_2_3 h_S_) main_v54 main_c_11
  let main_v56 : IVec S_ 1 := andi main_v51 main_v55
  main_v56

def fn_part1 {F : FTy → Type} [FloatOps F] (main_arg1 : FVec F S4096x512 .f32) (main_arg2 : FVec F S4096x512 .f32) (main_v1 : FVec F S4096x512 .f32) (main_v2 : FVec F S4096x512 .f32) (main_v15 : FVec F S64x4x128x128 .f32) (main_v20 : FVec F S64x4x128x128 .f32) (main_v21 : FVec F S4096x512 .f32) (main_v22 : FVec F S4096x512 .f32) : IVec S_ 1 :=
  let main_v23 : IVec S4096x512 1 := cmpf .olt main_v21 main_v22
  let main_c : IVec S_ 1 := constantI S_ 1 1#1
  let main_v24 : IVec S_ 1 := (fun x v => Host.reduce IntOp.andi x v reducesTo_S4096x512_S_d0_1 h_S_) main_v23 main_c
  let main_c_0 : IVec S_ 1 := constantI S_ 1 1#1
  let main_v25 : IVec S_ 1 := andi main_c_0 main_v24
  let main_v26 : FVec F S4096x512 .f32 := Host.absf main_v1
  let main_cst_1 : FVec F S_ .f32 := constant S_ .f32 0x7F800000#32
  let main_v27 : FVec F S4096x512 .f32 := broadcastInDim S4096x512 ![] bcast_S_S4096x512 main_cst_1
  let main_v28 : IVec S4096x512 1 := cmpf .olt main_v26 main_v27
  let main_c_2 : IVec S_ 1 := constantI S_ 1 1#1
  let main_v29 : IVec S_ 1 := (fun x v => Host.reduce IntOp.andi x v reducesTo_S4096x512_S_d0_1 h_S_) main_v28 main_c_2
  let main_v30 : IVec S_ 1 := andi main_v25 main_v29
  let main_v31 : FVec F S4096x512 .f32 := Host.absf main_v2
  let main_cst_3 : FVec F S_ .f32 := constant S_ .f32 0x7F800000#32
  let main_v32 : FVec F S4096x512 .f32 := broadcastInDim S4096x512 ![] bcast_S_S4096x512 main_cst_3
  let main_v33 : IVec S4096x512 1 := cmpf .olt main_v31 main_v32
  let main_c_4 : IVec S_ 1 := constantI S_ 1 1#1
  let main_v34 : IVec S_ 1 := (fun x v => Host.reduce IntOp.andi x v reducesTo_S4096x512_S_d0_1 h_S_) main_v33 main_c_4
  let main_v35 : IVec S_ 1 := andi main_v30 main_v34
  let main_v36 : FVec F S4096x512 .f32 := Host.absf main_arg1
  let main_cst_5 : FVec F S_ .f32 := constant S_ .f32 0x7F800000#32
  let main_v37 : FVec F S4096x512 .f32 := broadcastInDim S4096x512 ![] bcast_S_S4096x512 main_cst_5
  let main_v38 : IVec S4096x512 1 := cmpf .olt main_v36 main_v37
  let main_c_6 : IVec S_ 1 := constantI S_ 1 1#1
  fn_part2 (F := F) main_arg2 main_v15 main_v20 main_v35 main_v38 main_c_6

def fn {F : FTy → Type} [FloatOps F] (main_arg0 : FVec F S4096x6656 .f32) (main_arg1 : FVec F S4096x512 .f32) (main_arg2 : FVec F S4096x512 .f32) (main_arg3 : FVec F S64x512x128 .f32) : IVec S_ 1 :=
  let main_v0 : FVec F S4096x512 .f32 := (extractStridedSlice S4096x512 ![0, 3584] · slices_S4096x6656_S4096x512_0_3584) main_arg0
  let main_v1 : FVec F S4096x512 .f32 := (extractStridedSlice S4096x512 ![0, 4096] · slices_S4096x6656_S4096x512_0_4096) main_arg0
  let main_v2 : FVec F S4096x512 .f32 := (extractStridedSlice S4096x512 ![0, 4608] · slices_S4096x6656_S4096x512_0_4608) main_arg0
  let main_v3 : FVec F S64x64x4x128 .f32 := shapeCast S64x64x4x128 main_arg1 shapeCasts_S4096x512_S64x64x4x128
  let main_v4 : FVec F S64x64x4x128 .f32 := fn_cumsum (F := F) main_v3
  let main_v5 : FVec F S64x1x4x128 .f32 := (extractStridedSlice S64x1x4x128 ![0, 63, 0, 0] · slices_S64x64x4x128_S64x1x4x128_0_63_0_0) main_v4
  let main_v6 : FVec F S64x4x128 .f32 := shapeCast S64x4x128 main_v5 shapeCasts_S64x1x4x128_S64x4x128
  let main_v7 : FVec F S64x64x4x128 .f32 := shapeCast S64x64x4x128 main_v1 shapeCasts_S4096x512_S64x64x4x128
  let main_v8 : FVec F S64x1x4x128 .f32 := broadcastInDim S64x1x4x128 ![0, 2, 3] bcast_S64x4x128_S64x1x4x128_0_2_3 main_v6
  let main_v9 : FVec F S64x64x4x128 .f32 := broadcastInDim S64x64x4x128 ![0, 1, 2, 3] bcast_S64x1x4x128_S64x64x4x128_0_1_2_3 main_v8
  let main_v10 : FVec F S64x64x4x128 .f32 := subf main_v9 main_v4
  let main_v11 : FVec F S64x64x4x128 .f32 := Host.exp main_v10
  let main_v12 : FVec F S64x64x4x128 .f32 := mulf main_v7 main_v11
  let main_v13 : FVec F S64x64x4x128 .f32 := shapeCast S64x64x4x128 main_v2 shapeCasts_S4096x512_S64x64x4x128
  let main_v14 : FVec F S64x4x128x128 .f32 := (fun l r => Host.dotGeneral dot_S64x64x4x128_S64x64x4x128_S64x4x128x128_1_1_3_3_02_02 none l r) main_v13 main_v12
  let main_v15 : FVec F S64x4x128x128 .f32 := shapeCast S64x4x128x128 main_arg3 shapeCasts_S64x512x128_S64x4x128x128
  let main_v16 : FVec F S64x4x128 .f32 := Host.exp main_v6
  let main_v17 : FVec F S64x4x1x128 .f32 := broadcastInDim S64x4x1x128 ![0, 1, 3] bcast_S64x4x128_S64x4x1x128_0_1_3 main_v16
  let main_v18 : FVec F S64x4x128x128 .f32 := broadcastInDim S64x4x128x128 ![0, 1, 2, 3] bcast_S64x4x1x128_S64x4x128x128_0_1_2_3 main_v17
  let main_v19 : FVec F S64x4x128x128 .f32 := mulf main_v18 main_v15
  let main_v20 : FVec F S64x4x128x128 .f32 := addf main_v19 main_v14
  let main_v21 : FVec F S4096x512 .f32 := Host.absf main_v0
  let main_cst : FVec F S_ .f32 := constant S_ .f32 0x7F800000#32
  let main_v22 : FVec F S4096x512 .f32 := broadcastInDim S4096x512 ![] bcast_S_S4096x512 main_cst
  fn_part1 (F := F) main_arg1 main_arg2 main_v1 main_v2 main_v15 main_v20 main_v21 main_v22
-- ==== Pre_finite.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S4096x1024 .f32) (main_v14 : IVec S_ 1) (main_v15 : FVec F S2816x1024 .f32) (main_cst_5 : FVec F S_ .f32) : IVec S_ 1 :=
  let main_v16 : FVec F S2816x1024 .f32 := broadcastInDim S2816x1024 ![] bcast_S_S2816x1024 main_cst_5
  let main_v17 : IVec S2816x1024 1 := cmpf .olt main_v15 main_v16
  let main_c_6 : IVec S_ 1 := constantI S_ 1 1#1
  let main_v18 : IVec S_ 1 := (fun x v => Host.reduce IntOp.andi x v reducesTo_S2816x1024_S_d0_1 h_S_) main_v17 main_c_6
  let main_v19 : IVec S_ 1 := andi main_v14 main_v18
  let main_v20 : FVec F S4096x1024 .f32 := Host.absf main_arg4
  let main_cst_7 : FVec F S_ .f32 := constant S_ .f32 0x7F800000#32
  let main_v21 : FVec F S4096x1024 .f32 := broadcastInDim S4096x1024 ![] bcast_S_S4096x1024 main_cst_7
  let main_v22 : IVec S4096x1024 1 := cmpf .olt main_v20 main_v21
  let main_c_8 : IVec S_ 1 := constantI S_ 1 1#1
  let main_v23 : IVec S_ 1 := (fun x v => Host.reduce IntOp.andi x v reducesTo_S4096x1024_S_d0_1 h_S_) main_v22 main_c_8
  let main_v24 : IVec S_ 1 := andi main_v19 main_v23
  main_v24

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S1024x2816 .f32 := Host.absf main_arg1
  let main_cst_1 : FVec F S_ .f32 := constant S_ .f32 0x7F800000#32
  let main_v6 : FVec F S1024x2816 .f32 := broadcastInDim S1024x2816 ![] bcast_S_S1024x2816 main_cst_1
  let main_v7 : IVec S1024x2816 1 := cmpf .olt main_v5 main_v6
  let main_c_2 : IVec S_ 1 := constantI S_ 1 1#1
  let main_v8 : IVec S_ 1 := (fun x v => Host.reduce IntOp.andi x v reducesTo_S1024x2816_S_d0_1 h_S_) main_v7 main_c_2
  let main_v9 : IVec S_ 1 := andi main_v4 main_v8
  let main_v10 : FVec F S1024x2816 .f32 := Host.absf main_arg2
  let main_cst_3 : FVec F S_ .f32 := constant S_ .f32 0x7F800000#32
  let main_v11 : FVec F S1024x2816 .f32 := broadcastInDim S1024x2816 ![] bcast_S_S1024x2816 main_cst_3
  let main_v12 : IVec S1024x2816 1 := cmpf .olt main_v10 main_v11
  let main_c_4 : IVec S_ 1 := constantI S_ 1 1#1
  let main_v13 : IVec S_ 1 := (fun x v => Host.reduce IntOp.andi x v reducesTo_S1024x2816_S_d0_1 h_S_) main_v12 main_c_4
  let main_v14 : IVec S_ 1 := andi main_v9 main_v13
  let main_v15 : FVec F S2816x1024 .f32 := Host.absf main_arg3
  let main_cst_5 : FVec F S_ .f32 := constant S_ .f32 0x7F800000#32
  fn_part1 (F := F) main_arg4 main_v14 main_v15 main_cst_5
-- ==== Pre_finite_gla.lean ====
abbrev S4096x6656 : Shape := ⟨2, ![4096, 6656]⟩
abbrev S4096x512 : Shape := ⟨2, ![4096, 512]⟩
abbrev S_ : Shape := ⟨0, ![]⟩

class Facts : Prop where
  slices_S4096x6656_S4096x512_0_3584 : S4096x6656.Slices ![0, 3584] S4096x512
  slices_S4096x6656_S4096x512_0_4096 : S4096x6656.Slices ![0, 4096] S4096x512
  slices_S4096x6656_S4096x512_0_4608 : S4096x6656.Slices ![0, 4608] S4096x512
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn_part1 {F : FTy → Type} [FloatOps F] (main_arg1 : FVec F S4096x512 .f32) (main_v12 : IVec S_ 1) (main_v16 : IVec S_ 1) : IVec S_ 1 :=
  let main_v17 : IVec S_ 1 := andi main_v12 main_v16
  let main_v18 : FVec F S4096x512 .f32 := Host.absf main_arg1
  let main_cst_5 : FVec F S_ .f32 := constant S_ .f32 0x7F800000#32
  let main_v19 : FVec F S4096x512 .f32 := broadcastInDim S4096x512 ![] bcast_S_S4096x512 main_cst_5
  let main_v20 : IVec S4096x512 1 := cmpf .olt main_v18 main_v19
  let main_c_6 : IVec S_ 1 := constantI S_ 1 1#1
  let main_v21 : IVec S_ 1 := (fun x v => Host.reduce IntOp.andi x v reducesTo_S4096x512_S_d0_1 h_S_) main_v20 main_c_6
  let main_v22 : IVec S_ 1 := andi main_v17 main_v21
  main_v22

def fn {F : FTy → Type} [FloatOps F] (main_arg0 : FVec F S4096x6656 .f32) (main_arg1 : FVec F S4096x512 .f32) : IVec S_ 1 :=
  let main_v0 : FVec F S4096x512 .f32 := (extractStridedSlice S4096x512 ![0, 3584] · slices_S4096x6656_S4096x512_0_3584) main_arg0
  let main_v1 : FVec F S4096x512 .f32 := (extractStridedSlice S4096x512 ![0, 4096] · slices_S4096x6656_S4096x512_0_4096) main_arg0
  let main_v2 : FVec F S4096x512 .f32 := (extractStridedSlice S4096x512 ![0, 4608] · slices_S4096x6656_S4096x512_0_4608) main_arg0
  let main_v3 : FVec F S4096x512 .f32 := Host.absf main_v0
  let main_cst : FVec F S_ .f32 := constant S_ .f32 0x7F800000#32
  let main_v4 : FVec F S4096x512 .f32 := broadcastInDim S4096x512 ![] bcast_S_S4096x512 main_cst
  let main_v5 : IVec S4096x512 1 := cmpf .olt main_v3 main_v4
  let main_c : IVec S_ 1 := constantI S_ 1 1#1
  let main_v6 : IVec S_ 1 := (fun x v => Host.reduce IntOp.andi x v reducesTo_S4096x512_S_d0_1 h_S_) main_v5 main_c
  let main_c_0 : IVec S_ 1 := constantI S_ 1 1#1
  let main_v7 : IVec S_ 1 := andi main_c_0 main_v6
  let main_v8 : FVec F S4096x512 .f32 := Host.absf main_v1
  let main_cst_1 : FVec F S_ .f32 := constant S_ .f32 0x7F800000#32
  let main_v9 : FVec F S4096x512 .f32 := broadcastInDim S4096x512 ![] bcast_S_S4096x512 main_cst_1
  let main_v10 : IVec S4096x512 1 := cmpf .olt main_v8 main_v9
  let main_c_2 : IVec S_ 1 := constantI S_ 1 1#1
  let main_v11 : IVec S_ 1 := (fun x v => Host.reduce IntOp.andi x v reducesTo_S4096x512_S_d0_1 h_S_) main_v10 main_c_2
  let main_v12 : IVec S_ 1 := andi main_v7 main_v11
  let main_v13 : FVec F S4096x512 .f32 := Host.absf main_v2
  let main_cst_3 : FVec F S_ .f32 := constant S_ .f32 0x7F800000#32
  let main_v14 : FVec F S4096x512 .f32 := broadcastInDim S4096x512 ![] bcast_S_S4096x512 main_cst_3
  let main_v15 : IVec S4096x512 1 := cmpf .olt main_v13 main_v14
  let main_c_4 : IVec S_ 1 := constantI S_ 1 1#1
  let main_v16 : IVec S_ 1 := (fun x v => Host.reduce IntOp.andi x v reducesTo_S4096x512_S_d0_1 h_S_) main_v15 main_c_4
  fn_part1 (F := F) main_arg1 main_v12 main_v16
-- ==== Kernel.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .bf16⟩
  | .hbm, ⟨7, _⟩ => ⟨S4096x2816, .f32⟩
  | .hbm, ⟨8, _⟩ => ⟨S4096x2816, .bf16⟩
  | .hbm, ⟨9, _⟩ => ⟨S4096x1024, .bf16⟩
  | .hbm, ⟨10, _⟩ => ⟨S2816x1024, .bf16⟩
  | .hbm, ⟨11, _⟩ => ⟨S4096x2816, .bf16⟩
  | .hbm, ⟨12, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .bf16⟩
  | .hbm, ⟨36, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩

abbrev nD : Nat := 1
abbrev τ : Topo := Topo.v7x

variable {F : FTy → Type} [FloatOps F]
-- ==== Kernel2.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 19
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .bf16⟩
  | .hbm, ⟨17, _⟩ => ⟨S4096x1024, .bf16⟩
  | .hbm, ⟨18, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S1024x2816 : Shape := ⟨2, ![1024, 2816]⟩
abbrev S_ : Shape := ⟨0, ![]⟩
abbrev S2816x1024 : Shape := ⟨2, ![2816, 1024]⟩
abbrev S4096x2816 : Shape := ⟨2, ![4096, 2816]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S1024x2816, .f32⟩
  | .hbm, ⟨26, _⟩ => ⟨S2816x1024, .f32⟩
  | .hbm, ⟨27, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩

abbrev nD : Nat := 1
abbrev τ : Topo := Topo.v7x

variable {F : FTy → Type} [FloatOps F]
-- ==== Kernel3.lean ====
abbrev S4096x1024 : Shape := ⟨2, ![4096, 1024]⟩
abbrev S4096x2816 : Shape := ⟨2, ![4096, 2816]⟩
abbrev S1024x2816 : Shape := ⟨2, ![1024, 2816]⟩
abbrev S4096x256 : Shape := ⟨2, ![4096, 256]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x1024, .bf16⟩
  | .hbm, ⟨3, _⟩ => ⟨S4096x2816, .bf16⟩
  | .hbm, ⟨4, _⟩ => ⟨S1024x2816, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .bf16⟩
  | .local _ .vmem, ⟨4, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S1024x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S1024x2816 : Shape := ⟨2, ![1024, 2816]⟩
abbrev S4096x2816 : Shape := ⟨2, ![4096, 2816]⟩
abbrev S4096x1024 : Shape := ⟨2, ![4096, 1024]⟩
abbrev S512x2816 : Shape := ⟨2, ![512, 2816]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S1024x2816, .f32⟩
  | .hbm, ⟨1, _⟩ => ⟨S4096x2816, .f32⟩
  | .hbm, ⟨2, _⟩ => ⟨S4096x2816, .bf16⟩
  | .hbm, ⟨3, _⟩ => ⟨S1024x2816, .bf16⟩
  | .hbm, ⟨4, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x512, .f32⟩
  | .local _ .vmem, ⟨5, _⟩ => ⟨S1024x512, .f32⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1024x2816 : Shape := ⟨2, ![1024, 2816]⟩
abbrev S4096x2816 : Shape := ⟨2, ![4096, 2816]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2816, .f32⟩
  | .hbm, ⟨1, _⟩ => ⟨S4096x2816, .f32⟩
  | .hbm, ⟨2, _⟩ => ⟨S_, .f32⟩
  | .hbm, ⟨3, _⟩ => ⟨S4096x1024, .f32⟩
  | .hbm, ⟨4, _⟩ => ⟨S4096x2816, .f32⟩
  | .hbm, ⟨5, _⟩ => ⟨S4096x1024, .f32⟩
  | _, _ => ⟨S1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S1024x2816 : Shape := ⟨2, ![1024, 2816]⟩
abbrev S4096x2816 : Shape := ⟨2, ![4096, 2816]⟩
abbrev S4096x1024 : Shape := ⟨2, ![4096, 1024]⟩
abbrev S512x2816 : Shape := ⟨2, ![512, 2816]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S1024x2816, .f32⟩
  | .hbm, ⟨1, _⟩ => ⟨S4096x2816, .f32⟩
  | .hbm, ⟨2, _⟩ => ⟨S4096x1024, .f32⟩
  | .hbm, ⟨3, _⟩ => ⟨S4096x2816, .bf16⟩
  | .hbm, ⟨4, _⟩ => ⟨S1024x2816, .bf16⟩
  | .hbm, ⟨5, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S1024x2816 : Shape := ⟨2, ![1024, 2816]⟩
abbrev S4096x2816 : Shape := ⟨2, ![4096, 2816]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x2816, .f32⟩
  | .hbm, ⟨1, _⟩ => ⟨S4096x2816, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x2816, .f32⟩
  | .hbm, ⟨6, _⟩ => ⟨S4096x1024, .f32⟩
  | .hbm, ⟨7, _⟩ => ⟨S4096x1024, .f32⟩
  | _, _ => ⟨S1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel6.lean ====
abbrev S4096x1024 : Shape := ⟨2, ![4096, 1024]⟩
abbrev S4096x6656 : Shape := ⟨2, ![4096, 6656]⟩
abbrev S1024x6656 : Shape := ⟨2, ![1024, 6656]⟩
abbrev S4096x512 : Shape := ⟨2, ![4096, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x6656, .f32⟩
  | .hbm, ⟨2, _⟩ => ⟨S4096x1024, .bf16⟩
  | .hbm, ⟨3, _⟩ => ⟨S4096x6656, .bf16⟩
  | .hbm, ⟨4, _⟩ => ⟨S1024x6656, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S4096x6656 : Shape := ⟨2, ![4096, 6656]⟩
abbrev S_ : Shape := ⟨0, ![]⟩
abbrev S1024x6656 : Shape := ⟨2, ![1024, 6656]⟩
abbrev S6656x1024 : Shape := ⟨2, ![6656, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6656, .f32⟩
  | .hbm, ⟨2, _⟩ => ⟨S_, .f32⟩
  | .hbm, ⟨3, _⟩ => ⟨S1024x6656, .f32⟩
  | .hbm, ⟨4, _⟩ => ⟨S4096x6656, .f32⟩
  | .hbm, ⟨5, _⟩ => ⟨S6656x1024, .f32⟩
  | .hbm, ⟨6, _⟩ => ⟨S1024x6656, .f32⟩
  | .hbm, ⟨7, _⟩ => ⟨S1024x6656, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S1024x6656 : Shape := ⟨2, ![1024, 6656]⟩
abbrev S4096x6656 : Shape := ⟨2, ![4096, 6656]⟩
abbrev S4096x1024 : Shape := ⟨2, ![4096, 1024]⟩
abbrev S256x6656 : Shape := ⟨2, ![256, 6656]⟩
abbrev S1024x256 : Shape := ⟨2, ![1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S1024x6656, .f32⟩
  | .hbm, ⟨1, _⟩ => ⟨S4096x6656, .f32⟩
  | .hbm, ⟨2, _⟩ => ⟨S4096x6656, .bf16⟩
  | .hbm, ⟨3, _⟩ => ⟨S1024x6656, .bf16⟩
  | .hbm, ⟨4, _⟩ => ⟨S4096x1024, .f32⟩
  | .local _ .vmem, ⟨0, _⟩ => ⟨S1024x6656, .bf16⟩
  | .local _ .vmem, ⟨1, _⟩ => ⟨S1024x6656, .bf16⟩
  | .local _ .vmem, ⟨2, _⟩ => ⟨S256x6656, .bf16⟩
  | .local _ .vmem, ⟨3, _⟩ => ⟨S256x6656, .bf16⟩
  | .local _ .vmem, ⟨4, _⟩ => ⟨S1024x256, .f32⟩
  | .local _ .vmem, ⟨5, _⟩ => ⟨S1024x256, .f32⟩
  | _, _ => ⟨S1024x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x6656 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1024x6656 : Shape := ⟨2, ![1024, 6656]⟩
abbrev S4096x6656 : Shape := ⟨2, ![4096, 6656]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x6656, .f32⟩
  | .hbm, ⟨1, _⟩ => ⟨S4096x6656, .f32⟩
  | .hbm, ⟨2, _⟩ => ⟨S_, .f32⟩
  | .hbm, ⟨3, _⟩ => ⟨S4096x1024, .f32⟩
  | .hbm, ⟨4, _⟩ => ⟨S4096x6656, .f32⟩
  | .hbm, ⟨5, _⟩ => ⟨S4096x1024, .f32⟩
  | _, _ => ⟨S1024x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .local _ .vmem, ⟨0, _⟩ => ⟨S4096x1024, .bf16⟩
  | .local _ .vmem, ⟨1, _⟩ => ⟨S4096x512, .f32⟩
  | .local _ .vmem, ⟨2, _⟩ => ⟨S4096x512, .f32⟩
  | .local _ .vmem, ⟨3, _⟩ => ⟨S1024x512, .bf16⟩
  | .local _ .vmem, ⟨4, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S1024x1024 : Shape := ⟨2, ![1024, 1024]⟩
abbrev S4096x1024 : Shape := ⟨2, ![4096, 1024]⟩
abbrev S512x1024 : Shape := ⟨2, ![512, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S4096x1024, .bf16⟩
  | .hbm, ⟨4, _⟩ => ⟨S512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S512x1024 : Shape := ⟨2, ![512, 1024]⟩
abbrev S4096x1024 : Shape := ⟨2, ![4096, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S4096x1024, .f32⟩
  | .hbm, ⟨2, _⟩ => ⟨S4096x1024, .bf16⟩
  | .hbm, ⟨3, _⟩ => ⟨S512x1024, .bf16⟩
  | .hbm, ⟨4, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S512x1024 : Shape := ⟨2, ![512, 1024]⟩
abbrev S4096x1024 : Shape := ⟨2, ![4096, 1024]⟩
abbrev S_ : Shape := ⟨0, ![]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S4096x1024, .f32⟩
  | .hbm, ⟨2, _⟩ => ⟨S_, .f32⟩
  | .hbm, ⟨3, _⟩ => ⟨S4096x512, .f32⟩
  | .hbm, ⟨4, _⟩ => ⟨S4096x1024, .f32⟩
  | .hbm, ⟨5, _⟩ => ⟨S4096x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S4096x512 : Shape := ⟨2, ![4096, 512]⟩
abbrev S512x512 : Shape := ⟨2, ![512, 512]⟩

abbrev nBuf : Space → Nat
  | .hbm => 4
  | .vmem => 3
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .bf16⟩
  | .hbm, ⟨3, _⟩ => ⟨S512x512, .bf16⟩
  | .local _ .vmem, ⟨0, _⟩ => ⟨S4096x512, .f32⟩
  | .local _ .vmem, ⟨1, _⟩ => ⟨S4096x512, .bf16⟩
  | .local _ .vmem, ⟨2, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4096x512 : Shape := ⟨2, ![4096, 512]⟩
abbrev S_ : Shape := ⟨0, ![]⟩
abbrev S512x512 : Shape := ⟨2, ![512, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S_, .f32⟩
  | .hbm, ⟨3, _⟩ => ⟨S512x512, .f32⟩
  | .hbm, ⟨4, _⟩ => ⟨S4096x512, .f32⟩
  | .hbm, ⟨5, _⟩ => ⟨S512x512, .f32⟩
  | .hbm, ⟨6, _⟩ => ⟨S512x512, .f32⟩
  | .hbm, ⟨7, _⟩ => ⟨S512x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S512x512 : Shape := ⟨2, ![512, 512]⟩
abbrev S4096x512 : Shape := ⟨2, ![4096, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x512, .f32⟩
  | .hbm, ⟨1, _⟩ => ⟨S4096x512, .f32⟩
  | .hbm, ⟨2, _⟩ => ⟨S4096x512, .bf16⟩
  | .hbm, ⟨3, _⟩ => ⟨S512x512, .bf16⟩
  | .hbm, ⟨4, _⟩ => ⟨S4096x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S512x512 : Shape := ⟨2, ![512, 512]⟩
abbrev S4096x512 : Shape := ⟨2, ![4096, 512]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S4096x512, .f32⟩
  | .hbm, ⟨2, _⟩ => ⟨S_, .f32⟩
  | .hbm, ⟨3, _⟩ => ⟨S4096x512, .f32⟩
  | .hbm, ⟨4, _⟩ => ⟨S4096x512, .f32⟩
  | .hbm, ⟨5, _⟩ => ⟨S4096x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S4096x1024 : Shape := ⟨2, ![4096, 1024]⟩
abbrev S1024x6656 : Shape := ⟨2, ![1024, 6656]⟩
abbrev S4096x6656 : Shape := ⟨2, ![4096, 6656]⟩
abbrev S1024x1024 : Shape := ⟨2, ![1024, 1024]⟩
abbrev S1024x1664 : Shape := ⟨2, ![1024, 1664]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x6656, .f32⟩
  | .hbm, ⟨2, _⟩ => ⟨S4096x1024, .bf16⟩
  | .hbm, ⟨3, _⟩ => ⟨S1024x6656, .bf16⟩
  | .hbm, ⟨4, _⟩ => ⟨S4096x6656, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .f32⟩
  | .local _ .vmem, ⟨5, _⟩ => ⟨S1024x1664, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x6656 : Shape := ⟨2, ![1024, 6656]⟩
abbrev S4096x6656 : Shape := ⟨2, ![4096, 6656]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6656, .f32⟩
  | .hbm, ⟨2, _⟩ => ⟨S4096x6656, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x512, .bf16⟩
  | .hbm, ⟨3, _⟩ => ⟨S512x1024, .bf16⟩
  | .hbm, ⟨4, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel17.lean ====
abbrev S4096x1024 : Shape := ⟨2, ![4096, 1024]⟩
abbrev S4096x2816 : Shape := ⟨2, ![4096, 2816]⟩
abbrev S2816x1024 : Shape := ⟨2, ![2816, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel18.lean ====
abbrev S4096x512 : Shape := ⟨2, ![4096, 512]⟩
abbrev S512x512 : Shape := ⟨2, ![512, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512x512, .bf16⟩
  | .hbm, ⟨3, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x512 : Shape := ⟨2, ![4096, 512]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S4096x1024 : Shape := ⟨2, ![4096, 1024]⟩
abbrev S1024x2816 : Shape := ⟨2, ![1024, 2816]⟩
abbrev S4096x2816 : Shape := ⟨2, ![4096, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S1024x2816, .bf16⟩
  | .hbm, ⟨5, _⟩ => ⟨S1024x2816, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference19Ideal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .bf16⟩
  | .hbm, ⟨16, _⟩ => ⟨S4096x2816, .bf16⟩
  | .hbm, ⟨17, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel20.lean ====
abbrev S4096x6656 : Shape := ⟨2, ![4096, 6656]⟩
abbrev S4096x512 : Shape := ⟨2, ![4096, 512]⟩
abbrev S64x512x128 : Shape := ⟨3, ![64, 512, 128]⟩
abbrev S64x512 : Shape := ⟨2, ![64, 512]⟩
abbrev S1x512x128 : Shape := ⟨3, ![1, 512, 128]⟩
abbrev S512x128 : Shape := ⟨2, ![512, 128]⟩
abbrev S64x64 : Shape := ⟨2, ![64, 64]⟩
abbrev S64x128 : Shape := ⟨2, ![64, 128]⟩
abbrev S1x128 : Shape := ⟨2, ![1, 128]⟩
abbrev S128x128 : Shape := ⟨2, ![128, 128]⟩

abbrev nBuf : Space → Nat
  | .hbm => 4
  | .vmem => 13
  | .smem => 0
  | _ => 0

abbrev bufTy : (tb : Table) → Fin (tcTables nBuf tb) → BufTy
  | .hbm, ⟨0, _⟩ => ⟨S4096x6656, .f32⟩
  | .hbm, ⟨1, _⟩ => ⟨S4096x512, .f32⟩
  | .hbm, ⟨2, _⟩ => ⟨S4096x512, .f32⟩
  | .hbm, ⟨3, _⟩ => ⟨S64x512x128, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S1x512x128, .f32⟩
  | .local _ .vmem, ⟨11, _⟩ => ⟨S1x512x128, .f32⟩
  | .local _ .vmem, ⟨12, _⟩ => ⟨S512x128, .f32⟩
  | _, _ => ⟨S4096x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference20Ideal.lean ====
abbrev S4096x6656 : Shape := ⟨2, ![4096, 6656]⟩
abbrev S4096x512 : Shape := ⟨2, ![4096, 512]⟩
abbrev S1x4096x4x128 : Shape := ⟨4, ![1, 4096, 4, 128]⟩
abbrev S_ : Shape := ⟨0, ![]⟩
abbrev S1x64x64x4x128 : Shape := ⟨5, ![1, 64, 64, 4, 128]⟩
abbrev S1x64x1x4x128 : Shape := ⟨5, ![1, 64, 1, 4, 128]⟩
abbrev S1x64x4x128 : Shape := ⟨4, ![1, 64, 4, 128]⟩
abbrev S64x64 : Shape := ⟨2, ![64, 64]⟩
abbrev S1x64x4x64x64 : Shape := ⟨5, ![1, 64, 4, 64, 64]⟩
abbrev S1x64x4x128x64 : Shape := ⟨5, ![1, 64, 4, 128, 64]⟩
abbrev S64x1x4x128x128 : Shape := ⟨5, ![64, 1, 4, 128, 128]⟩
abbrev S64x1x4x128 : Shape := ⟨4, ![64, 1, 4, 128]⟩
abbrev S1x4x128x128 : Shape := ⟨4, ![1, 4, 128, 128]⟩
abbrev S1x1x4x128 : Shape := ⟨4, ![1, 1, 4, 128]⟩
abbrev S1x4x128 : Shape := ⟨3, ![1, 4, 128]⟩
abbrev S1x1x4x128x128 : Shape := ⟨5, ![1, 1, 4, 128, 128]⟩
abbrev S1x4x128x1 : Shape := ⟨4, ![1, 4, 128, 1]⟩
abbrev S64x512x128 : Shape := ⟨3, ![64, 512, 128]⟩

abbrev nBuf : Space → Nat
  | .hbm => 95
  | .vmem => 0
  | .smem => 0
  | _ => 0

abbrev bufTy : (tb : Table) → Fin (tcTables nBuf tb) → BufTy
  | .hbm, ⟨0, _⟩ => ⟨S4096x6656, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S1x4096x4x128, .f32⟩
  | .hbm, ⟨6, _⟩ => ⟨S_, .f32⟩
  | .hbm, ⟨7, _⟩ => ⟨S1x4096x4x128, .f32⟩
  | .hbm, ⟨8, _⟩ => ⟨S1x4096x4x128, .f32⟩
  | .hbm, ⟨9, _⟩ => ⟨S1x4096x4x128, .f32⟩
  | .hbm, ⟨10, _⟩ => ⟨S1x4096x4x128, .f32⟩
  | .hbm, ⟨11, _⟩ => ⟨S1x4096x4x128, .f32⟩
  | .hbm, ⟨12, _⟩ => ⟨S1x64x64x4x128, .f32⟩
  | .hbm, ⟨13, _⟩ => ⟨S1x64x64x4x128, .f32⟩
  | .hbm, ⟨14, _⟩ => ⟨S1x64x64x4x128, .f32⟩
  | .hbm, ⟨15, _⟩ => ⟨S1x64x64x4x128, .f32⟩
  | .hbm, ⟨16, _⟩ => ⟨S_, .f32⟩
  | .hbm, ⟨17, _⟩ => ⟨S_, .f32⟩
  | .hbm, ⟨18, _⟩ => ⟨S1x64x64x4x128, .f32⟩
  | .hbm, ⟨19, _⟩ => ⟨S1x64x1x4x128, .f32⟩
  | .hbm, ⟨20, _⟩ => ⟨S1x64x4x128, .f32⟩
  | .hbm, ⟨21, _⟩ => ⟨S1x64x64x4x128, .f32⟩
  | .hbm, ⟨22, _⟩ => ⟨S1x64x64x4x128, .f32⟩
  | .hbm, ⟨23, _⟩ => ⟨S1x64x64x4x128, .f32⟩
  | .hbm, ⟨24, _⟩ => ⟨S1x64x64x4x128, .f32⟩
  | .hbm, ⟨25, _⟩ => ⟨S1x64x64x4x128, .f32⟩
  | .hbm, ⟨26, _⟩ => ⟨S_, .i1⟩
  | .hbm, ⟨27, _⟩ => ⟨S64x64, .i1⟩
  | .hbm, ⟨28, _⟩ => ⟨S64x64, .i32⟩
  | .hbm, ⟨29, _⟩ => ⟨S_, .i32⟩
  | .hbm, ⟨30, _⟩ => ⟨S64x64, .i32⟩
  | .hbm, ⟨31, _⟩ => ⟨S64x64, .i32⟩
  | .hbm, ⟨32, _⟩ => ⟨S64x64, .i32⟩
  | .hbm, ⟨33, _⟩ => ⟨S64x64, .i1⟩
  | .hbm, ⟨34, _⟩ => ⟨S_, .i1⟩
  | .hbm, ⟨35, _⟩ => ⟨S64x64, .i1⟩
  | .hbm, ⟨36, _⟩ => ⟨S64x64, .i1⟩
  | .hbm, ⟨37, _⟩ => ⟨S1x64x4x64x64, .f32⟩
  | .hbm, ⟨38, _⟩ => ⟨S_, .f32⟩
  | .hbm, ⟨39, _⟩ => ⟨S_, .f32⟩
  | .hbm, ⟨40, _⟩ => ⟨S1x64x4x64x64, .i1⟩
  | .hbm, ⟨41, _⟩ => ⟨S1x64x4x64x64, .f32⟩
  | .hbm, ⟨42, _⟩ => ⟨S1x64x4x64x64, .f32⟩
  | .hbm, ⟨43, _⟩ => ⟨S1x64x4x128x64, .f32⟩
  | .hbm, ⟨44, _⟩ => ⟨S1x64x64x4x128, .f32⟩
  | .hbm, ⟨45, _⟩ => ⟨S1x64x1x4x128, .f32⟩
  | .hbm, ⟨46, _⟩ => ⟨S1x64x64x4x128, .f32⟩
  | .hbm, ⟨47, _⟩ => ⟨S1x64x64x4x128, .f32⟩
  | .hbm, ⟨48, _⟩ => ⟨S1x64x64x4x128, .f32⟩
  | .hbm, ⟨49, _⟩ => ⟨S1x64x64x4x128, .f32⟩
  | .hbm, ⟨50, _⟩ => ⟨S64x1x4x128x128, .f32⟩
  | .hbm, ⟨51, _⟩ => ⟨S64x1x4x128, .f32⟩
  | .hbm, ⟨52, _⟩ => ⟨S64x1x4x128, .f32⟩
  | .hbm, ⟨53, _⟩ => ⟨S_, .f32⟩
  | .hbm, ⟨54, _⟩ => ⟨S1x4x128x128, .f32⟩
  | .hbm, ⟨55, _⟩ => ⟨S_, .f32⟩
  | .hbm, ⟨56, _⟩ => ⟨S64x1x4x128x128, .f32⟩
  | .hbm, ⟨57, _⟩ => ⟨S_, .i32⟩
  | .hbm, ⟨58, _⟩ => ⟨S64x1x4x128, .f32⟩
  | .hbm, ⟨59, _⟩ => ⟨S64x1x4x128x128, .f32⟩
  | .hbm, ⟨60, _⟩ => ⟨S_, .i32⟩
  | .hbm, ⟨61, _⟩ => ⟨S1x4x128x128, .f32⟩
  | .hbm, ⟨62, _⟩ => ⟨S64x1x4x128x128, .f32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x1x4x128, .f32⟩
  | .hbm, ⟨69, _⟩ => ⟨S1x4x128, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S1x1x4x128x128, .f32⟩
  | .hbm, ⟨75, _⟩ => ⟨S1x4x128x128, .f32⟩
  | .hbm, ⟨76, _⟩ => ⟨S1x4x128x1, .f32⟩
  | .hbm, ⟨77, _⟩ => ⟨S1x4x128x128, .f32⟩
  | .hbm, ⟨78, _⟩ => ⟨S1x4x128x128, .f32⟩
  | .hbm, ⟨79, _⟩ => ⟨S1x4x128x128, .f32⟩
  | .hbm, ⟨80, _⟩ => ⟨S1x1x4x128x128, .f32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S64x1x4x128x128, .f32⟩
  | .hbm, ⟨86, _⟩ => ⟨S_, .i32⟩
  | .hbm, ⟨87, _⟩ => ⟨S_, .i32⟩
  | .hbm, ⟨88, _⟩ => ⟨S1x64x4x128x64, .f32⟩
  | .hbm, ⟨89, _⟩ => ⟨S1x64x64x4x128, .f32⟩
  | .hbm, ⟨90, _⟩ => ⟨S1x64x64x4x128, .f32⟩
  | .hbm, ⟨91, _⟩ => ⟨S1x4096x4x128, .f32⟩
  | .hbm, ⟨92, _⟩ => ⟨S4096x512, .f32⟩
  | .hbm, ⟨93, _⟩ => ⟨S64x1x4x128x128, .f32⟩
  | .hbm, ⟨94, _⟩ => ⟨S64x512x128, .f32⟩
  | _, _ => ⟨S4096x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_call0_cst : Ref sig .tc := ⟨.hbm, 16, rfl⟩
abbrev main_call0_call0_v0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_0 : Ref sig .tc := ⟨.hbm, 34, rfl⟩
abbrev main_call1_v5 : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_1 : Ref sig .tc := ⟨.hbm, 53, rfl⟩
abbrev main_v35 : Ref sig .tc := ⟨.hbm, 54, rfl⟩
abbrev main_cst_2 : Ref sig .tc := ⟨.hbm, 55, rfl⟩
abbrev main_v36 : Ref sig .tc := ⟨.hbm, 56, rfl⟩
abbrev main_c_3 : Ref sig .tc := ⟨.hbm, 57, rfl⟩
abbrev main_v37_0 : Ref sig .tc := ⟨.hbm, 58, rfl⟩
abbrev main_v37_1 : Ref sig .tc := ⟨.hbm, 59, rfl⟩
abbrev main_v37_2 : Ref sig .tc := ⟨.hbm, 60, rfl⟩
abbrev main_v37_3 : Ref sig .tc := ⟨.hbm, 61, rfl⟩
abbrev main_v37_4 : Ref sig .tc := ⟨.hbm, 62, rfl⟩
abbrev main_while0c_c_8 : Ref sig .tc := ⟨.hbm, 63, rfl⟩
abbrev main_while0c_v45 : Ref sig .tc := ⟨.hbm, 64, rfl⟩
abbrev main_while0b_call3_c : Ref sig .tc := ⟨.hbm, 65, rfl⟩
abbrev main_while0b_call3_c_0 : Ref sig .tc := ⟨.hbm, 66, rfl⟩
abbrev main_while0b_call3_c_1 : Ref sig .tc := ⟨.hbm, 67, rfl⟩
abbrev main_while0b_call3_v0 : Ref sig .tc := ⟨.hbm, 68, rfl⟩
abbrev main_while0b_v45 : Ref sig .tc := ⟨.hbm, 69, rfl⟩
abbrev main_while0b_call4_c : Ref sig .tc := ⟨.hbm, 70, rfl⟩
abbrev main_while0b_call4_c_0 : Ref sig .tc := ⟨.hbm, 71, rfl⟩
abbrev main_while0b_call4_c_1 : Ref sig .tc := ⟨.hbm, 72, rfl⟩
abbrev main_while0b_call4_c_2 : Ref sig .tc := ⟨.hbm, 73, rfl⟩
abbrev main_while0b_call4_v0 : Ref sig .tc := ⟨.hbm, 74, rfl⟩
abbrev main_while0b_v46 : Ref sig .tc := ⟨.hbm, 75, rfl⟩
abbrev main_while0b_v47 : Ref sig .tc := ⟨.hbm, 76, rfl⟩
abbrev main_while0b_v48 : Ref sig .tc := ⟨.hbm, 77, rfl⟩
abbrev main_while0b_v49 : Ref sig .tc := ⟨.hbm, 78, rfl⟩
abbrev main_while0b_v50 : Ref sig .tc := ⟨.hbm, 79, rfl⟩
abbrev main_while0b_call5_v0 : Ref sig .tc := ⟨.hbm, 80, rfl⟩
abbrev main_while0b_call5_c : Ref sig .tc := ⟨.hbm, 81, rfl⟩
abbrev main_while0b_call5_c_0 : Ref sig .tc := ⟨.hbm, 82, rfl⟩
abbrev main_while0b_call5_c_1 : Ref sig .tc := ⟨.hbm, 83, rfl⟩
abbrev main_while0b_call5_c_2 : Ref sig .tc := ⟨.hbm, 84, rfl⟩
abbrev main_while0b_v51 : Ref sig .tc := ⟨.hbm, 85, rfl⟩
abbrev main_while0b_c_8 : Ref sig .tc := ⟨.hbm, 86, rfl⟩
abbrev main_while0b_v52 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩

abbrev nD : Nat := 1
abbrev τ : Topo := Topo.v7x

variable {F : FTy → Type} [FloatOps F]

abbrev main_while0_count : Scf.Loop 32 := ⟨0#32, 64#32, 1#32⟩
-- ==== Kernel21.lean ====
abbrev S4096x6656 : Shape := ⟨2, ![4096, 6656]⟩
abbrev S4096x512 : Shape := ⟨2, ![4096, 512]⟩
abbrev S64x512x128 : Shape := ⟨3, ![64, 512, 128]⟩
abbrev S64x512 : Shape := ⟨2, ![64, 512]⟩
abbrev S1x512x128 : Shape := ⟨3, ![1, 512, 128]⟩
abbrev S512x128 : Shape := ⟨2, ![512, 128]⟩
abbrev S64x64 : Shape := ⟨2, ![64, 64]⟩
abbrev S64x128 : Shape := ⟨2, ![64, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩

abbrev nBuf : Space → Nat
  | .hbm => 8
  | .vmem => 21
  | .smem => 0
  | _ => 0

abbrev bufTy : (tb : Table) → Fin (tcTables nBuf tb) → BufTy
  | .hbm, ⟨0, _⟩ => ⟨S4096x6656, .f32⟩
  | .hbm, ⟨1, _⟩ => ⟨S4096x512, .f32⟩
  | .hbm, ⟨2, _⟩ => ⟨S4096x512, .f32⟩
  | .hbm, ⟨3, _⟩ => ⟨S64x512x128, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S1x512x128, .f32⟩
  | .local _ .vmem, ⟨11, _⟩ => ⟨S1x512x128, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | .local _ .vmem, ⟨17, _⟩ => ⟨S64x512, .f32⟩
  | .local _ .vmem, ⟨18, _⟩ => ⟨S64x512, .f32⟩
  | .local _ .vmem, ⟨19, _⟩ => ⟨S64x512, .f32⟩
  | .local _ .vmem, ⟨20, _⟩ => ⟨S512x128, .f32⟩
  | _, _ => ⟨S4096x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c7_i32 : BitVec 32 := 7#32
  let c0_i32 : BitVec 32 := 0#32
  ![v0.toNat, c7_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c8_i32 : BitVec 32 := 8#32
  let c0_i32 : BitVec 32 := 0#32
  ![v0.toNat, c8_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c9_i32 : BitVec 32 := 9#32
  let c0_i32 : BitVec 32 := 0#32
  ![v0.toNat, c9_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference21Ideal.lean ====
abbrev S4096x6656 : Shape := ⟨2, ![4096, 6656]⟩
abbrev S4096x512 : Shape := ⟨2, ![4096, 512]⟩
abbrev S64x512x128 : Shape := ⟨3, ![64, 512, 128]⟩
abbrev S1x4096x4x128 : Shape := ⟨4, ![1, 4096, 4, 128]⟩
abbrev S_ : Shape := ⟨0, ![]⟩
abbrev S1x64x64x4x128 : Shape := ⟨5, ![1, 64, 64, 4, 128]⟩
abbrev S1x64x1x4x128 : Shape := ⟨5, ![1, 64, 1, 4, 128]⟩
abbrev S1x64x4x128 : Shape := ⟨4, ![1, 64, 4, 128]⟩
abbrev S64x64 : Shape := ⟨2, ![64, 64]⟩
abbrev S1x64x4x64x64 : Shape := ⟨5, ![1, 64, 4, 64, 64]⟩
abbrev S1x64x4x128x64 : Shape := ⟨5, ![1, 64, 4, 128, 64]⟩
abbrev S64x1x4x128x128 : Shape := ⟨5, ![64, 1, 4, 128, 128]⟩
abbrev S64x1x4x128 : Shape := ⟨4, ![64, 1, 4, 128]⟩
abbrev S1x4x128x128 : Shape := ⟨4, ![1, 4, 128, 128]⟩
abbrev S64x1x4x128x1 : Shape := ⟨5, ![64, 1, 4, 128, 1]⟩
abbrev S1x1x4x128 : Shape := ⟨4, ![1, 1, 4, 128]⟩
abbrev S1x4x128 : Shape := ⟨3, ![1, 4, 128]⟩
abbrev S1x1x4x128x128 : Shape := ⟨5, ![1, 1, 4, 128, 128]⟩
abbrev S1x4x128x1 : Shape := ⟨4, ![1, 4, 128, 1]⟩
abbrev S1x1x4x128x1 : Shape := ⟨5, ![1, 1, 4, 128, 1]⟩
abbrev S1x64x4x64x128 : Shape := ⟨5, ![1, 64, 4, 64, 128]⟩
abbrev S1x64x4x128x128 : Shape := ⟨5, ![1, 64, 4, 128, 128]⟩
abbrev S4x128 : Shape := ⟨2, ![4, 128]⟩
abbrev S64x1x4x128x64 : Shape := ⟨5, ![64, 1, 4, 128, 64]⟩
abbrev S64x4x128 : Shape := ⟨3, ![64, 4, 128]⟩

abbrev nBuf : Space → Nat
  | .hbm => 236
  | .vmem => 0
  | .smem => 0
  | _ => 0

abbrev hbmTy0_0 (i : Nat) : BufTy := match i % 128 with
  | 0 => ⟨S4096x6656, .f32⟩
  | 1 => ⟨S4096x512, .f32⟩
  | 2 => ⟨S4096x512, .f32⟩
  | 3 => ⟨S64x512x128, .f32⟩
  | 4 => ⟨S4096x512, .f32⟩
  | 5 => ⟨S4096x512, .f32⟩
  | 6 => ⟨S4096x512, .f32⟩
  | 7 => ⟨S1x4096x4x128, .f32⟩
  | 8 => ⟨S_, .f32⟩
  | 9 => ⟨S1x4096x4x128, .f32⟩
  | 10 => ⟨S1x4096x4x128, .f32⟩
  | 11 => ⟨S1x4096x4x128, .f32⟩
  | 12 => ⟨S1x4096x4x128, .f32⟩
  | 13 => ⟨S1x4096x4x128, .f32⟩
  | 14 => ⟨S1x64x64x4x128, .f32⟩
  | 15 => ⟨S1x64x64x4x128, .f32⟩
  | 16 => ⟨S1x64x64x4x128, .f32⟩
  | 17 => ⟨S1x64x64x4x128, .f32⟩
  | 18 => ⟨S_, .f32⟩
  | 19 => ⟨S_, .f32⟩
  | 20 => ⟨S1x64x64x4x128, .f32⟩
  | 21 => ⟨S1x64x1x4x128, .f32⟩
  | 22 => ⟨S1x64x4x128, .f32⟩
  | 23 => ⟨S1x64x64x4x128, .f32⟩
  | 24 => ⟨S1x64x64x4x128, .f32⟩
  | 25 => ⟨S1x64x64x4x128, .f32⟩
  | 26 => ⟨S1x64x64x4x128, .f32⟩
  | 27 => ⟨S1x64x64x4x128, .f32⟩
  | 28 => ⟨S_, .i1⟩
  | 29 => ⟨S64x64, .i1⟩
  | 30 => ⟨S64x64, .i32⟩
  | 31 => ⟨S_, .i32⟩
  | 32 => ⟨S64x64, .i32⟩
  | 33 => ⟨S64x64, .i32⟩
  | 34 => ⟨S64x64, .i32⟩
  | 35 => ⟨S64x64, .i1⟩
  | 36 => ⟨S_, .i1⟩
  | 37 => ⟨S64x64, .i1⟩
  | 38 => ⟨S64x64, .i1⟩
  | 39 => ⟨S1x64x4x64x64, .f32⟩
  | 40 => ⟨S_, .f32⟩
  | 41 => ⟨S_, .f32⟩
  | 42 => ⟨S1x64x4x64x64, .i1⟩
  | 43 => ⟨S1x64x4x64x64, .f32⟩
  | 44 => ⟨S1x64x4x64x64, .f32⟩
  | 45 => ⟨S_, .f32⟩
  | 46 => ⟨S1x64x4x64x64, .f32⟩
  | 47 => ⟨S1x64x4x128x64, .f32⟩
  | 48 => ⟨S1x64x64x4x128, .f32⟩
  | 49 => ⟨S1x64x1x4x128, .f32⟩
  | 50 => ⟨S1x64x64x4x128, .f32⟩
  | 51 => ⟨S1x64x64x4x128, .f32⟩
  | 52 => ⟨S1x64x64x4x128, .f32⟩
  | 53 => ⟨S1x64x64x4x128, .f32⟩
  | 54 => ⟨S64x1x4x128x128, .f32⟩
  | 55 => ⟨S64x1x4x128, .f32⟩
  | 56 => ⟨S64x1x4x128, .f32⟩
  | 57 => ⟨S_, .f32⟩
  | 58 => ⟨S1x4x128x128, .f32⟩
  | 59 => ⟨S_, .f32⟩
  | 60 => ⟨S64x1x4x128x128, .f32⟩
  | 61 => ⟨S_, .f32⟩
  | 62 => ⟨S64x1x4x128x1, .f32⟩
  | 63 => ⟨S_, .i32⟩
  | 64 => ⟨S64x1x4x128, .f32⟩
  | 65 => ⟨S64x1x4x128x128, .f32⟩
  | 66 => ⟨S_, .i32⟩
  | 67 => ⟨S1x4x128x128, .f32⟩
  | 68 => ⟨S64x1x4x128x128, .f32⟩
  | 69 => ⟨S64x1x4x128x1, .f32⟩
  | 70 => ⟨S_, .i32⟩
  | 71 => ⟨S_, .i1⟩
  | 72 => ⟨S_, .i32⟩
  | 73 => ⟨S_, .i32⟩
  | 74 => ⟨S_, .i32⟩
  | 75 => ⟨S1x1x4x128, .f32⟩
  | 76 => ⟨S1x4x128, .f32⟩
  | 77 => ⟨S_, .i32⟩
  | 78 => ⟨S_, .i32⟩
  | 79 => ⟨S_, .i32⟩
  | 80 => ⟨S_, .i32⟩
  | 81 => ⟨S1x1x4x128x128, .f32⟩
  | 82 => ⟨S1x4x128x128, .f32⟩
  | 83 => ⟨S1x4x128x1, .f32⟩
  | 84 => ⟨S1x4x128x128, .f32⟩
  | 85 => ⟨S1x4x128x128, .f32⟩
  | 86 => ⟨S1x4x128x128, .f32⟩
  | 87 => ⟨S1x1x4x128x128, .f32⟩
  | 88 => ⟨S_, .i32⟩
  | 89 => ⟨S_, .i32⟩
  | 90 => ⟨S_, .i32⟩
  | 91 => ⟨S_, .i32⟩
  | 92 => ⟨S64x1x4x128x128, .f32⟩
  | 93 => ⟨S1x1x4x128x1, .f32⟩
  | 94 => ⟨S_, .i32⟩
  | 95 => ⟨S_, .i32⟩
  | 96 => ⟨S_, .i32⟩
  | 97 => ⟨S_, .i32⟩
  | 98 => ⟨S64x1x4x128x1, .f32⟩
  | 99 => ⟨S_, .i32⟩
  | 100 => ⟨S_, .i32⟩
  | 101 => ⟨S1x64x4x128x64, .f32⟩
  | 102 => ⟨S1x64x64x4x128, .f32⟩
  | 103 => ⟨S1x64x64x4x128, .f32⟩
  | 104 => ⟨S1x4096x4x128, .f32⟩
  | 105 => ⟨S4096x512, .f32⟩
  | 106 => ⟨S64x1x4x128x128, .f32⟩
  | 107 => ⟨S64x512x128, .f32⟩
  | 108 => ⟨S_, .f32⟩
  | 109 => ⟨S1x4x128x128, .f32⟩
  | 110 => ⟨S1x4096x4x128, .f32⟩
  | 111 => ⟨S1x64x64x4x128, .f32⟩
  | 112 => ⟨S1x64x4x128x64, .f32⟩
  | 113 => ⟨S1x64x4x64x128, .f32⟩
  | 114 => ⟨S1x64x64x4x128, .f32⟩
  | 115 => ⟨S1x64x4x128x128, .f32⟩
  | 116 => ⟨S64x1x4x128x128, .f32⟩
  | 117 => ⟨S_, .f32⟩
  | 118 => ⟨S1x4x128x128, .f32⟩
  | 119 => ⟨S_, .f32⟩
  | 120 => ⟨S64x1x4x128, .f32⟩
  | 121 => ⟨S_, .f32⟩
  | 122 => ⟨S64x1x4x128x128, .f32⟩
  | 123 => ⟨S_, .i32⟩
  | 124 => ⟨S64x1x4x128x128, .f32⟩
  | 125 => ⟨S64x1x4x128x128, .f32⟩
  | 126 => ⟨S64x1x4x128x1, .f32⟩
  | 127 => ⟨S_, .i32⟩
  | _ => ⟨S4096x6656, .f32⟩

abbrev hbmTy0_1 (i : Nat) : BufTy := match i % 128 with
  | 0 => ⟨S1x4x128x128, .f32⟩
  | 1 => ⟨S64x1x4x128, .f32⟩
  | 2 => ⟨S64x1x4x128x128, .f32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S1x1x4x128x128, .f32⟩
  | 14 => ⟨S1x4x128x128, .f32⟩
  | 15 => ⟨S_, .i32⟩
  | 16 => ⟨S_, .i32⟩
  | 17 => ⟨S_, .i32⟩
  | 18 => ⟨S_, .i32⟩
  | 19 => ⟨S1x1x4x128x128, .f32⟩
  | 20 => ⟨S1x4x128x128, .f32⟩
  | 21 => ⟨S_, .i32⟩
  | 22 => ⟨S_, .i32⟩
  | 23 => ⟨S_, .i32⟩
  | 24 => ⟨S_, .i32⟩
  | 25 => ⟨S1x1x4x128x1, .f32⟩
  | 26 => ⟨S1x4x128x1, .f32⟩
  | 27 => ⟨S1x4x128x128, .f32⟩
  | 28 => ⟨S1x4x128x128, .f32⟩
  | 29 => ⟨S1x4x128x128, .f32⟩
  | 30 => ⟨S1x4x128x128, .f32⟩
  | 31 => ⟨S_, .f32⟩
  | 32 => ⟨S1x4x128, .f32⟩
  | 33 => ⟨S1x4x128x1, .f32⟩
  | 34 => ⟨S_, .f32⟩
  | 35 => ⟨S4x128, .f32⟩
  | 36 => ⟨S1x4x128, .f32⟩
  | 37 => ⟨S1x1x4x128, .f32⟩
  | 38 => ⟨S_, .i32⟩
  | 39 => ⟨S_, .i32⟩
  | 40 => ⟨S_, .i32⟩
  | 41 => ⟨S64x1x4x128, .f32⟩
  | 42 => ⟨S1x1x4x128x128, .f32⟩
  | 43 => ⟨S_, .i32⟩
  | 44 => ⟨S_, .i32⟩
  | 45 => ⟨S_, .i32⟩
  | 46 => ⟨S_, .i32⟩
  | 47 => ⟨S64x1x4x128x128, .f32⟩
  | 48 => ⟨S_, .i32⟩
  | 49 => ⟨S_, .i32⟩
  | 50 => ⟨S64x1x4x128, .f32⟩
  | 51 => ⟨S1x64x4x128, .f32⟩
  | 52 => ⟨S64x1x4x128x64, .f32⟩
  | 53 => ⟨S1x64x64x4x128, .f32⟩
  | 54 => ⟨S64x1x4x128x64, .f32⟩
  | 55 => ⟨S1x64x64x4x128, .f32⟩
  | 56 => ⟨S1x64x64x4x128, .f32⟩
  | 57 => ⟨S1x64x64x4x128, .f32⟩
  | 58 => ⟨S1x64x64x4x128, .f32⟩
  | 59 => ⟨S_, .f32⟩
  | 60 => ⟨S1x64x4x128, .f32⟩
  | 61 => ⟨S1x64x1x4x128, .f32⟩
  | 62 => ⟨S1x64x64x4x128, .f32⟩
  | 63 => ⟨S_, .f32⟩
  | 64 => ⟨S64x4x128, .f32⟩
  | 65 => ⟨S1x64x4x128, .f32⟩
  | 66 => ⟨S1x64x4x128, .f32⟩
  | 67 => ⟨S1x64x4x128x64, .f32⟩
  | 68 => ⟨S1x64x4x64x64, .f32⟩
  | 69 => ⟨S1x64x4x128x64, .f32⟩
  | 70 => ⟨S1x64x64x4x128, .f32⟩
  | 71 => ⟨S1x64x64x4x128, .f32⟩
  | 72 => ⟨S_, .f32⟩
  | 73 => ⟨S1x64x4x64x64, .f32⟩
  | 74 => ⟨S1x64x4x64x64, .f32⟩
  | 75 => ⟨S1x64x4x64x128, .f32⟩
  | 76 => ⟨S1x64x64x4x128, .f32⟩
  | 77 => ⟨S1x64x4x64x128, .f32⟩
  | 78 => ⟨S1x64x64x4x128, .f32⟩
  | 79 => ⟨S1x64x64x4x128, .f32⟩
  | 80 => ⟨S1x64x64x4x128, .f32⟩
  | 81 => ⟨S1x64x64x4x128, .f32⟩
  | 82 => ⟨S1x64x64x4x128, .f32⟩
  | 83 => ⟨S1x64x64x4x128, .f32⟩
  | 84 => ⟨S1x64x64x4x128, .f32⟩
  | 85 => ⟨S1x64x64x4x128, .f32⟩
  | 86 => ⟨S1x64x64x4x128, .f32⟩
  | 87 => ⟨S1x64x64x4x128, .f32⟩
  | 88 => ⟨S1x64x64x4x128, .f32⟩
  | 89 => ⟨S1x64x64x4x128, .f32⟩
  | 90 => ⟨S1x64x1x4x128, .f32⟩
  | 91 => ⟨S_, .f32⟩
  | 92 => ⟨S1x64x64x4x128, .f32⟩
  | 93 => ⟨S1x64x64x4x128, .f32⟩
  | 94 => ⟨S_, .f32⟩
  | 95 => ⟨S_, .f32⟩
  | 96 => ⟨S1x64x64x4x128, .f32⟩
  | 97 => ⟨S1x4096x4x128, .f32⟩
  | 98 => ⟨S1x4096x4x128, .f32⟩
  | 99 => ⟨S1x4096x4x128, .f32⟩
  | 100 => ⟨S1x4096x4x128, .f32⟩
  | 101 => ⟨S4096x512, .f32⟩
  | 102 => ⟨S4096x512, .f32⟩
  | 103 => ⟨S4096x512, .f32⟩
  | 104 => ⟨S_, .f32⟩
  | 105 => ⟨S1x4096x4x128, .f32⟩
  | 106 => ⟨S1x4096x4x128, .f32⟩
  | 107 => ⟨S4096x512, .f32⟩
  | _ => ⟨S4096x6656, .f32⟩

abbrev hbmTy (i : Nat) : BufTy := match i / 128 with
  | 0 => hbmTy0_0 i
  | 1 => hbmTy0_1 i
  | _ => ⟨S4096x6656, .f32⟩

abbrev bufTy : (tb : Table) → Fin (tcTables nBuf tb) → BufTy
  | .hbm, ⟨i, _⟩ => hbmTy i
  | _, _ => ⟨S4096x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_call0_cst : Ref sig .tc := ⟨.hbm, 18, rfl⟩
abbrev main_call0_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_0 : Ref sig .tc := ⟨.hbm, 36, rfl⟩
abbrev main_call1_v5 : Ref sig .tc := ⟨.hbm, 37, rfl⟩
abbrev main_v22 : Ref sig .tc := ⟨.hbm, 38, rfl⟩
abbrev main_v23 : Ref sig .tc := ⟨.hbm, 39, rfl⟩
abbrev main_cst_0 : Ref sig .tc := ⟨.hbm, 40, rfl⟩
abbrev main_call2_v0 : Ref sig .tc := ⟨.hbm, 41, rfl⟩
abbrev main_v24_1 : Ref sig .tc := ⟨.hbm, 42, rfl⟩
abbrev main_call2_v2 : Ref sig .tc := ⟨.hbm, 43, rfl⟩
abbrev main_v24_0 : Ref sig .tc := ⟨.hbm, 44, rfl⟩
abbrev main_call2_cst : Ref sig .tc := ⟨.hbm, 45, rfl⟩
abbrev main_v24_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_1 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_c_4 : Ref sig .tc := ⟨.hbm, 63, rfl⟩
abbrev main_v38_0 : Ref sig .tc := ⟨.hbm, 64, rfl⟩
abbrev main_v38_1 : Ref sig .tc := ⟨.hbm, 65, rfl⟩
abbrev main_v38_2 : Ref sig .tc := ⟨.hbm, 66, rfl⟩
abbrev main_v38_3 : Ref sig .tc := ⟨.hbm, 67, rfl⟩
abbrev main_v38_4 : Ref sig .tc := ⟨.hbm, 68, rfl⟩
abbrev main_v38_5 : Ref sig .tc := ⟨.hbm, 69, rfl⟩
abbrev main_while0c_c_19 : Ref sig .tc := ⟨.hbm, 70, rfl⟩
abbrev main_while0c_v108 : Ref sig .tc := ⟨.hbm, 71, rfl⟩
abbrev main_while0b_call3_c : Ref sig .tc := ⟨.hbm, 72, rfl⟩
abbrev main_while0b_call3_c_0 : Ref sig .tc := ⟨.hbm, 73, rfl⟩
abbrev main_while0b_call3_c_1 : Ref sig .tc := ⟨.hbm, 74, rfl⟩
abbrev main_while0b_call3_v0 : Ref sig .tc := ⟨.hbm, 75, rfl⟩
abbrev main_while0b_v108 : Ref sig .tc := ⟨.hbm, 76, rfl⟩
abbrev main_while0b_call4_c : Ref sig .tc := ⟨.hbm, 77, rfl⟩
abbrev main_while0b_call4_c_0 : Ref sig .tc := ⟨.hbm, 78, rfl⟩
abbrev main_while0b_call4_c_1 : Ref sig .tc := ⟨.hbm, 79, rfl⟩
abbrev main_while0b_call4_c_2 : Ref sig .tc := ⟨.hbm, 80, rfl⟩
abbrev main_while0b_call4_v0 : Ref sig .tc := ⟨.hbm, 81, rfl⟩
abbrev main_while0b_v109 : Ref sig .tc := ⟨.hbm, 82, rfl⟩
abbrev main_while0b_v110 : Ref sig .tc := ⟨.hbm, 83, rfl⟩
abbrev main_while0b_v111 : Ref sig .tc := ⟨.hbm, 84, rfl⟩
abbrev main_while0b_v112 : Ref sig .tc := ⟨.hbm, 85, rfl⟩
abbrev main_while0b_v113 : Ref sig .tc := ⟨.hbm, 86, rfl⟩
abbrev main_while0b_call5_v0 : Ref sig .tc := ⟨.hbm, 87, rfl⟩
abbrev main_while0b_call5_c : Ref sig .tc := ⟨.hbm, 88, rfl⟩
abbrev main_while0b_call5_c_0 : Ref sig .tc := ⟨.hbm, 89, rfl⟩
abbrev main_while0b_call5_c_1 : Ref sig .tc := ⟨.hbm, 90, rfl⟩
abbrev main_while0b_call5_c_2 : Ref sig .tc := ⟨.hbm, 91, rfl⟩
abbrev main_while0b_v114 : Ref sig .tc := ⟨.hbm, 92, rfl⟩
abbrev main_while0b_call6_v0 : Ref sig .tc := ⟨.hbm, 93, rfl⟩
abbrev main_while0b_call6_c : Ref sig .tc := ⟨.hbm, 94, rfl⟩
abbrev main_while0b_call6_c_0 : Ref sig .tc := ⟨.hbm, 95, rfl⟩
abbrev main_while0b_call6_c_1 : Ref sig .tc := ⟨.hbm, 96, rfl⟩
abbrev main_while0b_call6_c_2 : Ref sig .tc := ⟨.hbm, 97, rfl⟩
abbrev main_while0b_v115 : Ref sig .tc := ⟨.hbm, 98, rfl⟩
abbrev main_while0b_c_19 : Ref sig .tc := ⟨.hbm, 99, rfl⟩
abbrev main_while0b_v116 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_cst_5 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_cst_6 : Ref sig .tc := ⟨.hbm, 117, rfl⟩
abbrev main_v54 : Ref sig .tc := ⟨.hbm, 118, rfl⟩
abbrev main_cst_7 : Ref sig .tc := ⟨.hbm, 119, rfl⟩
abbrev main_v55 : Ref sig .tc := ⟨.hbm, 120, rfl⟩
abbrev main_cst_8 : Ref sig .tc := ⟨.hbm, 121, rfl⟩
abbrev main_v56 : Ref sig .tc := ⟨.hbm, 122, rfl⟩
abbrev main_c_9 : Ref sig .tc := ⟨.hbm, 123, rfl⟩
abbrev main_v57_0 : Ref sig .tc := ⟨.hbm, 124, rfl⟩
abbrev main_v57_1 : Ref sig .tc := ⟨.hbm, 125, rfl⟩
abbrev main_v57_2 : Ref sig .tc := ⟨.hbm, 126, rfl⟩
abbrev main_v57_3 : Ref sig .tc := ⟨.hbm, 127, rfl⟩
abbrev main_v57_4 : Ref sig .tc := ⟨.hbm, 128, rfl⟩
abbrev main_v57_5 : Ref sig .tc := ⟨.hbm, 129, rfl⟩
abbrev main_v57_6 : Ref sig .tc := ⟨.hbm, 130, rfl⟩
abbrev main_while1c_c_20 : Ref sig .tc := ⟨.hbm, 131, rfl⟩
abbrev main_while1c_v108 : Ref sig .tc := ⟨.hbm, 132, rfl⟩
abbrev main_while1b_c_20 : Ref sig .tc := ⟨.hbm, 133, rfl⟩
abbrev main_while1b_v108 : Ref sig .tc := ⟨.hbm, 134, rfl⟩
abbrev main_while1b_c_21 : Ref sig .tc := ⟨.hbm, 135, rfl⟩
abbrev main_while1b_v109 : Ref sig .tc := ⟨.hbm, 136, rfl⟩
abbrev main_while1b_call7_c : Ref sig .tc := ⟨.hbm, 137, rfl⟩
abbrev main_while1b_call7_c_0 : Ref sig .tc := ⟨.hbm, 138, rfl⟩
abbrev main_while1b_call7_c_1 : Ref sig .tc := ⟨.hbm, 139, rfl⟩
abbrev main_while1b_call7_c_2 : Ref sig .tc := ⟨.hbm, 140, rfl⟩
abbrev main_while1b_call7_v0 : Ref sig .tc := ⟨.hbm, 141, rfl⟩
abbrev main_while1b_v110 : Ref sig .tc := ⟨.hbm, 142, rfl⟩
abbrev main_while1b_call8_c : Ref sig .tc := ⟨.hbm, 143, rfl⟩
abbrev main_while1b_call8_c_0 : Ref sig .tc := ⟨.hbm, 144, rfl⟩
abbrev main_while1b_call8_c_1 : Ref sig .tc := ⟨.hbm, 145, rfl⟩
abbrev main_while1b_call8_c_2 : Ref sig .tc := ⟨.hbm, 146, rfl⟩
abbrev main_while1b_call8_v0 : Ref sig .tc := ⟨.hbm, 147, rfl⟩
abbrev main_while1b_v111 : Ref sig .tc := ⟨.hbm, 148, rfl⟩
abbrev main_while1b_call9_c : Ref sig .tc := ⟨.hbm, 149, rfl⟩
abbrev main_while1b_call9_c_0 : Ref sig .tc := ⟨.hbm, 150, rfl⟩
abbrev main_while1b_call9_c_1 : Ref sig .tc := ⟨.hbm, 151, rfl⟩
abbrev main_while1b_call9_c_2 : Ref sig .tc := ⟨.hbm, 152, rfl⟩
abbrev main_while1b_call9_v0 : Ref sig .tc := ⟨.hbm, 153, rfl⟩
abbrev main_while1b_v112 : Ref sig .tc := ⟨.hbm, 154, rfl⟩
abbrev main_while1b_v113 : Ref sig .tc := ⟨.hbm, 155, rfl⟩
abbrev main_while1b_v114 : Ref sig .tc := ⟨.hbm, 156, rfl⟩
abbrev main_while1b_v115 : Ref sig .tc := ⟨.hbm, 157, rfl⟩
abbrev main_while1b_v116 : Ref sig .tc := ⟨.hbm, 158, rfl⟩
abbrev main_while1b_cst_22 : Ref sig .tc := ⟨.hbm, 159, rfl⟩
abbrev main_while1b_v117 : Ref sig .tc := ⟨.hbm, 160, rfl⟩
abbrev main_while1b_v118 : Ref sig .tc := ⟨.hbm, 161, rfl⟩
abbrev main_while1b_cst_23 : Ref sig .tc := ⟨.hbm, 162, rfl⟩
abbrev main_while1b_v119 : Ref sig .tc := ⟨.hbm, 163, rfl⟩
abbrev main_while1b_v120 : Ref sig .tc := ⟨.hbm, 164, rfl⟩
abbrev main_while1b_call10_v0 : Ref sig .tc := ⟨.hbm, 165, rfl⟩
abbrev main_while1b_call10_c : Ref sig .tc := ⟨.hbm, 166, rfl⟩
abbrev main_while1b_call10_c_0 : Ref sig .tc := ⟨.hbm, 167, rfl⟩
abbrev main_while1b_call10_c_1 : Ref sig .tc := ⟨.hbm, 168, rfl⟩
abbrev main_while1b_v121 : Ref sig .tc := ⟨.hbm, 169, rfl⟩
abbrev main_while1b_call11_v0 : Ref sig .tc := ⟨.hbm, 170, rfl⟩
abbrev main_while1b_call11_c : Ref sig .tc := ⟨.hbm, 171, rfl⟩
abbrev main_while1b_call11_c_0 : Ref sig .tc := ⟨.hbm, 172, rfl⟩
abbrev main_while1b_call11_c_1 : Ref sig .tc := ⟨.hbm, 173, rfl⟩
abbrev main_while1b_call11_c_2 : Ref sig .tc := ⟨.hbm, 174, rfl⟩
abbrev main_while1b_v122 : Ref sig .tc := ⟨.hbm, 175, rfl⟩
abbrev main_while1b_c_24 : Ref sig .tc := ⟨.hbm, 176, rfl⟩
abbrev main_while1b_v123 : Ref sig .tc := ⟨.hbm, 177, rfl⟩
abbrev main_v58 : Ref sig .tc := ⟨.hbm, 178, rfl⟩
abbrev main_v59 : Ref sig .tc := ⟨.hbm, 179, rfl⟩
abbrev main_v60 : Ref sig .tc := ⟨.hbm, 180, rfl⟩
abbrev main_v61 : Ref sig .tc := ⟨.hbm, 181, rfl⟩
abbrev main_v62 : Ref sig .tc := ⟨.hbm, 182, rfl⟩
abbrev main_v63 : Ref sig .tc := ⟨.hbm, 183, rfl⟩
abbrev main_v64 : Ref sig .tc := ⟨.hbm, 184, rfl⟩
abbrev main_v65 : Ref sig .tc := ⟨.hbm, 185, rfl⟩
abbrev main_v66 : Ref sig .tc := ⟨.hbm, 186, rfl⟩
abbrev main_cst_10 : Ref sig .tc := ⟨.hbm, 187, rfl⟩
abbrev main_v67 : Ref sig .tc := ⟨.hbm, 188, rfl⟩
abbrev main_v68 : Ref sig .tc := ⟨.hbm, 189, rfl⟩
abbrev main_v69 : Ref sig .tc := ⟨.hbm, 190, rfl⟩
abbrev main_cst_11 : Ref sig .tc := ⟨.hbm, 191, rfl⟩
abbrev main_v70 : Ref sig .tc := ⟨.hbm, 192, rfl⟩
abbrev main_v71 : Ref sig .tc := ⟨.hbm, 193, rfl⟩
abbrev main_v72 : Ref sig .tc := ⟨.hbm, 194, rfl⟩
abbrev main_v73 : Ref sig .tc := ⟨.hbm, 195, rfl⟩
abbrev main_v74 : Ref sig .tc := ⟨.hbm, 196, rfl⟩
abbrev main_v75 : Ref sig .tc := ⟨.hbm, 197, rfl⟩
abbrev main_v76 : Ref sig .tc := ⟨.hbm, 198, rfl⟩
abbrev main_v77 : Ref sig .tc := ⟨.hbm, 199, rfl⟩
abbrev main_call12_cst : Ref sig .tc := ⟨.hbm, 200, rfl⟩
abbrev main_call12_v0 : Ref sig .tc := ⟨.hbm, 201, rfl⟩
abbrev main_v78 : Ref sig .tc := ⟨.hbm, 202, rfl⟩
abbrev main_v79 : Ref sig .tc := ⟨.hbm, 203, rfl⟩
abbrev main_v80 : Ref sig .tc := ⟨.hbm, 204, rfl⟩
abbrev main_v81 : Ref sig .tc := ⟨.hbm, 205, rfl⟩
abbrev main_v82 : Ref sig .tc := ⟨.hbm, 206, rfl⟩
abbrev main_v83 : Ref sig .tc := ⟨.hbm, 207, rfl⟩
abbrev main_v84 : Ref sig .tc := ⟨.hbm, 208, rfl⟩
abbrev main_v85 : Ref sig .tc := ⟨.hbm, 209, rfl⟩
abbrev main_v86 : Ref sig .tc := ⟨.hbm, 210, rfl⟩
abbrev main_v87 : Ref sig .tc := ⟨.hbm, 211, rfl⟩
abbrev main_v88 : Ref sig .tc := ⟨.hbm, 212, rfl⟩
abbrev main_v89 : Ref sig .tc := ⟨.hbm, 213, rfl⟩
abbrev main_v90 : Ref sig .tc := ⟨.hbm, 214, rfl⟩
abbrev main_v91 : Ref sig .tc := ⟨.hbm, 215, rfl⟩
abbrev main_v92 : Ref sig .tc := ⟨.hbm, 216, rfl⟩
abbrev main_v93 : Ref sig .tc := ⟨.hbm, 217, rfl⟩
abbrev main_v94 : Ref sig .tc := ⟨.hbm, 218, rfl⟩
abbrev main_cst_12 : Ref sig .tc := ⟨.hbm, 219, rfl⟩
abbrev main_v95 : Ref sig .tc := ⟨.hbm, 220, rfl⟩
abbrev main_v96 : Ref sig .tc := ⟨.hbm, 221, rfl⟩
abbrev main_call13_call0_cst : Ref sig .tc := ⟨.hbm, 222, rfl⟩
abbrev main_call13_call0_v0 : Ref sig .tc := ⟨.hbm, 223, rfl⟩
abbrev main_v97 : Ref sig .tc := ⟨.hbm, 224, rfl⟩
abbrev main_v98 : Ref sig .tc := ⟨.hbm, 225, rfl⟩
abbrev main_v99 : Ref sig .tc := ⟨.hbm, 226, rfl⟩
abbrev main_v100 : Ref sig .tc := ⟨.hbm, 227, rfl⟩
abbrev main_v101 : Ref sig .tc := ⟨.hbm, 228, rfl⟩
abbrev main_v102 : Ref sig .tc := ⟨.hbm, 229, rfl⟩
abbrev main_v103 : Ref sig .tc := ⟨.hbm, 230, rfl⟩
abbrev main_v104 : Ref sig .tc := ⟨.hbm, 231, rfl⟩
abbrev main_cst_13 : Ref sig .tc := ⟨.hbm, 232, rfl⟩
abbrev main_v105 : Ref sig .tc := ⟨.hbm, 233, rfl⟩
abbrev main_v106 : Ref sig .tc := ⟨.hbm, 234, rfl⟩
abbrev main_v107 : Ref sig .tc := ⟨.hbm, 235, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Kernel22.lean ====
abbrev S4096x512 : Shape := ⟨2, ![4096, 512]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .bf16⟩
  | .hbm, ⟨4, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference22Ideal.lean ====
abbrev S4096x512 : Shape := ⟨2, ![4096, 512]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel23.lean ====
abbrev S4096x6656 : Shape := ⟨2, ![4096, 6656]⟩
abbrev S4096x512 : Shape := ⟨2, ![4096, 512]⟩
abbrev S512x128 : Shape := ⟨2, ![512, 128]⟩
abbrev S4096x128 : Shape := ⟨2, ![4096, 128]⟩

abbrev nBuf : Space → Nat
  | .hbm => 4
  | .vmem => 3
  | .smem => 0
  | _ => 0

abbrev bufTy : (tb : Table) → Fin (tcTables nBuf tb) → BufTy
  | .hbm, ⟨0, _⟩ => ⟨S4096x6656, .f32⟩
  | .hbm, ⟨1, _⟩ => ⟨S4096x512, .f32⟩
  | .hbm, ⟨2, _⟩ => ⟨S4096x512, .bf16⟩
  | .hbm, ⟨3, _⟩ => ⟨S512x128, .f32⟩
  | .local _ .vmem, ⟨0, _⟩ => ⟨S4096x512, .bf16⟩
  | .local _ .vmem, ⟨1, _⟩ => ⟨S4096x128, .f32⟩
  | .local _ .vmem, ⟨2, _⟩ => ⟨S512x128, .f32⟩
  | _, _ => ⟨S4096x6656, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c50_i32 : BitVec 32 := 50#32
  let v0 : BitVec 32 := Scalar.addi arg1 c50_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S4096x6656 : Shape := ⟨2, ![4096, 6656]⟩
abbrev S4096x512 : Shape := ⟨2, ![4096, 512]⟩
abbrev S4096x128 : Shape := ⟨2, ![4096, 128]⟩
abbrev S_ : Shape := ⟨0, ![]⟩
abbrev S128x512 : Shape := ⟨2, ![128, 512]⟩
abbrev S512x128 : Shape := ⟨2, ![512, 128]⟩

abbrev nBuf : Space → Nat
  | .hbm => 9
  | .vmem => 0
  | .smem => 0
  | _ => 0

abbrev bufTy : (tb : Table) → Fin (tcTables nBuf tb) → BufTy
  | .hbm, ⟨0, _⟩ => ⟨S4096x6656, .f32⟩
  | .hbm, ⟨1, _⟩ => ⟨S4096x512, .f32⟩
  | .hbm, ⟨2, _⟩ => ⟨S4096x128, .f32⟩
  | .hbm, ⟨3, _⟩ => ⟨S_, .f32⟩
  | .hbm, ⟨4, _⟩ => ⟨S128x512, .f32⟩
  | .hbm, ⟨5, _⟩ => ⟨S4096x512, .f32⟩
  | .hbm, ⟨6, _⟩ => ⟨S512x128, .f32⟩
  | .hbm, ⟨7, _⟩ => ⟨S128x512, .f32⟩
  | .hbm, ⟨8, _⟩ => ⟨S512x128, .f32⟩
  | _, _ => ⟨S4096x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel24.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_14 : BitVec 32 := 0#32
  let v38 : BitVec 1 := Scalar.cmpi .ne v37 c0_i32_14
  v38

def k0_cond2 (i : grid0.Coords) : BitVec 1 :=
  let arg0 : BitVec 32 := BitVec.ofNat 32 (i 0).val
  let c0_i32_15 : BitVec 32 := 0#32
  let v39 : BitVec 1 := Scalar.cmpi .sgt arg0 c0_i32_15
  let v40 : BitVec 32 := Scalar.extui v39
  let c0_i32_16 : BitVec 32 := 0#32
  let v41 : BitVec 1 := Scalar.cmpi .ne v40 c0_i32_16
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference24Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Proof.Refs.lean ====
/- The frames of the references: host programs, which hold no semaphore. -/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference22Ideal.Run
public import proofs.«01_k».proof.Proof.Gen.Reference23Ideal.Run
public import proofs.«01_k».proof.Proof.Gen.Reference24Ideal.Run
public import proofs.«01_k».proof.Proof.Gen.Pre_finite
public import Idealize.ShloMosaic.Lib.Quiescent

@[expose] public section

noncomputable section

namespace Cert.Proof.Refs

open Idealize.ShloMosaic Idealize.SL.Sem

theorem frame1 : Cert.quiescent_ReferenceIdeal := fun m ρ _ =>
  (θ_run Cert.ReferenceIdeal.defs _ _).mono (fun r h => ⟨fun c => (h c).2.2, sem_eq_zero_of_no_sems rfl _⟩) (Cert.ReferenceIdeal.Value.run m ρ)
theorem frame2 : Cert.quiescent_Reference2Ideal := fun m ρ _ =>
  (θ_run Cert.Reference2Ideal.defs _ _).mono (fun r h => ⟨fun c => (h c).2, sem_eq_zero_of_no_sems rfl _⟩) (Cert.Reference2Ideal.Value.run m ρ)
theorem frame3 : Cert.quiescent_Reference3Ideal := fun m ρ _ =>
  (θ_run Cert.Reference3Ideal.defs _ _).mono (fun r h => ⟨fun c => (h c).2, sem_eq_zero_of_no_sems rfl _⟩) (Cert.Reference3Ideal.Value.run m ρ)
theorem frame4 : Cert.quiescent_Reference4Ideal := fun m ρ _ =>
  (θ_run Cert.Reference4Ideal.defs _ _).mono (fun r h => ⟨fun c => (h c).2, sem_eq_zero_of_no_sems rfl _⟩) (Cert.Reference4Ideal.Value.run m ρ)
theorem frame5 : Cert.quiescent_Reference5Ideal := fun m ρ _ =>
  (θ_run Cert.Reference5Ideal.defs _ _).mono (fun r h => ⟨fun c => (h c).2, sem_eq_zero_of_no_sems rfl _⟩) (Cert.Reference5Ideal.Value.run m ρ)
theorem frame6 : Cert.quiescent_Reference6Ideal := fun m ρ _ =>
  (θ_run Cert.Reference6Ideal.defs _ _).mono (fun r h => ⟨fun c => (h c).2, sem_eq_zero_of_no_sems rfl _⟩) (Cert.Reference6Ideal.Value.run m ρ)
theorem frame7 : Cert.quiescent_Reference7Ideal := fun m ρ _ =>
  (θ_run Cert.Reference7Ideal.defs _ _).mono (fun r h => ⟨fun c => (h c).2, sem_eq_zero_of_no_sems rfl _⟩) (Cert.Reference7Ideal.Value.run m ρ)
theorem frame8 : Cert.quiescent_Reference8Ideal := fun m ρ _ =>
  (θ_run Cert.Reference8Ideal.defs _ _).mono (fun r h => ⟨fun c => (h c).2, sem_eq_zero_of_no_sems rfl _⟩) (Cert.Reference8Ideal.Value.run m ρ)
theorem frame9 : Cert.quiescent_Reference9Ideal := fun m ρ _ =>
  (θ_run Cert.Reference9Ideal.defs _ _).mono (fun r h => ⟨fun c => (h c).2, sem_eq_zero_of_no_sems rfl _⟩) (Cert.Reference9Ideal.Value.run m ρ)
theorem frame10 : Cert.quiescent_Reference10Ideal := fun m ρ _ =>
  (θ_run Cert.Reference10Ideal.defs _ _).mono (fun r h => ⟨fun c => (h c).2, sem_eq_zero_of_no_sems rfl _⟩) (Cert.Reference10Ideal.Value.run m ρ)
theorem frame11 : Cert.quiescent_Reference11Ideal := fun m ρ _ =>
  (θ_run Cert.Reference11Ideal.defs _ _).mono (fun r h => ⟨fun c => (h c).2, sem_eq_zero_of_no_sems rfl _⟩) (Cert.Reference11Ideal.Value.run m ρ)
theorem frame12 : Cert.quiescent_Reference12Ideal := fun m ρ _ =>
  (θ_run Cert.Reference12Ideal.defs _ _).mono (fun r h => ⟨fun c => (h c).2, sem_eq_zero_of_no_sems rfl _⟩) (Cert.Reference12Ideal.Value.run m ρ)
theorem frame13 : Cert.quiescent_Reference13Ideal := fun m ρ _ =>
  (θ_run Cert.Reference13Ideal.defs _ _).mono (fun r h => ⟨fun c => (h c).2, sem_eq_zero_of_no_sems rfl _⟩) (Cert.Reference13Ideal.Value.run m ρ)
theorem frame14 : Cert.quiescent_Reference14Ideal := fun m ρ _ =>
  (θ_run Cert.Reference14Ideal.defs _ _).mono (fun r h => ⟨fun c => (h c).2, sem_eq_zero_of_no_sems rfl _⟩) (Cert.Reference14Ideal.Value.run m ρ)
theorem frame15 : Cert.quiescent_Reference15Ideal := fun m ρ _ =>
  (θ_run Cert.Reference15Ideal.defs _ _).mono (fun r h => ⟨fun c => (h c).2, sem_eq_zero_of_no_sems rfl _⟩) (Cert.Reference15Ideal.Value.run m ρ)
theorem frame16 : Cert.quiescent_Reference16Ideal := fun m ρ _ =>
  (θ_run Cert.Reference16Ideal.defs _ _).mono (fun r h => ⟨fun c => (h c).2, sem_eq_zero_of_no_sems rfl _⟩) (Cert.Reference16Ideal.Value.run m ρ)
theorem frame17 : Cert.quiescent_Reference17Ideal := fun m ρ _ =>
  (θ_run Cert.Reference17Ideal.defs _ _).mono (fun r h => ⟨fun c => (h c).2, sem_eq_zero_of_no_sems rfl _⟩) (Cert.Reference17Ideal.Value.run m ρ)
theorem frame18 : Cert.quiescent_Reference18Ideal := fun m ρ _ =>
  (θ_run Cert.Reference18Ideal.defs _ _).mono (fun r h => ⟨fun c => (h c).2, sem_eq_zero_of_no_sems rfl _⟩) (Cert.Reference18Ideal.Value.run m ρ)
theorem frame19 : Cert.quiescent_Reference19Ideal := fun m ρ _ =>
  (θ_run Cert.Reference19Ideal.defs _ _).mono (fun r h => ⟨fun c => (h c).2.2.2, sem_eq_zero_of_no_sems rfl _⟩) (Cert.Reference19Ideal.Value.run m ρ)
theorem frame22 : Cert.quiescent_Reference22Ideal := fun m ρ _ =>
  (θ_run Cert.Reference22Ideal.defs _ _).mono (fun r h => ⟨fun c => (h c).2.2, sem_eq_zero_of_no_sems rfl _⟩) (Cert.Reference22Ideal.Value.run m ρ)
theorem frame23 : Cert.quiescent_Reference23Ideal := fun m ρ _ =>
  (θ_run Cert.Reference23Ideal.defs _ _).mono (fun r h => ⟨fun c => (h c).2, sem_eq_zero_of_no_sems rfl _⟩) (Cert.Reference23Ideal.Value.run m ρ)
theorem frame24 : Cert.quiescent_Reference24Ideal := fun m ρ _ =>
  (θ_run Cert.Reference24Ideal.defs _ _).mono (fun r h => ⟨fun c => (h c).2.2, sem_eq_zero_of_no_sems rfl _⟩) (Cert.Reference24Ideal.Value.run m ρ)
theorem frame1_pre : Cert.quiescent_ReferenceIdeal_pre_finite := fun m ρ _ => frame1 m ρ trivial

end Cert.Proof.Refs

end
-- ==== Proof.Arith.lean ====
/- Arithmetic of the extended reals that the claims share. -/
module

public import Idealize.ShloMosaic.PureOps.Ideal.Laws

@[expose] public section

noncomputable section

namespace Cert.Proof.Arith

open Idealize.ShloMosaic

/-- The word of one half denotes it. -/
theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_top : Ideal.ofBits .f32 0x7F800000#32 = ⊤ := by
  simp [Ideal.ofBits, Ideal.ieee]

/-- A real scale that is not negative goes through any sum, infinite terms or not. -/
theorem sum_mul_real {ι : Type} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih, EReal.right_distrib_of_nonneg_of_ne_top (by exact_mod_cast hr) (EReal.coe_ne_top r)]

/-- A sum of reals is the real sum. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The logistic function, over the reals. -/
def sg (x : ℝ) : ℝ := 1 / (1 + Real.exp (-x))

/-- Half the hyperbolic tangent of the half, and a half, is the logistic function. -/
theorem half_tanh (x : ℝ) : 1 / 2 * Real.tanh (1 / 2 * x) + 1 / 2 = sg x := by
  unfold sg
  rw [Real.tanh_eq_sinh_div_cosh, Real.sinh_eq, Real.cosh_eq]
  have h1 : Real.exp (-x) = Real.exp (-(1 / 2 * x)) * Real.exp (-(1 / 2 * x)) := by rw [← Real.exp_add]; ring_nf
  have h2 : Real.exp (1 / 2 * x) * Real.exp (-(1 / 2 * x)) = 1 := by rw [← Real.exp_add]; simp
  have p := Real.exp_pos (1 / 2 * x)
  have q := Real.exp_pos (-(1 / 2 * x))
  rw [h1]
  generalize Real.exp (1 / 2 * x) = a at *
  generalize Real.exp (-(1 / 2 * x)) = b at *
  have : a + b ≠ 0 := by positivity
  have : 1 + b * b ≠ 0 := by positivity
  field_simp
  nlinarith [h2]

/-- The printed logistic of a real is the real one. -/
theorem logistic_coe (x : ℝ) : Ideal.div ((1 : ℝ) : EReal) (((1 : ℝ) : EReal) + Ideal.exp (-(x : EReal))) = ((sg x : ℝ) : EReal) := by
  have p := Real.exp_pos (-x)
  have e : ((1 : ℝ) : EReal) + Ideal.exp (-(x : EReal)) = ((1 + Real.exp (-x) : ℝ) : EReal) := by
    rw [← EReal.coe_neg]; exact (EReal.coe_add _ _).symm
  have z : ((1 + Real.exp (-x) : ℝ) : EReal) ≠ 0 := by
    intro h; have : (1 + Real.exp (-x) : ℝ) = 0 := by exact_mod_cast h
    linarith
  rw [e]; unfold Ideal.div sg
  rw [if_neg z, ← EReal.coe_inv, ← EReal.coe_mul, one_mul, one_div]

end Cert.Proof.Arith

end
-- ==== Proof.Dgu.lean ====
/- The gradient of the gate, `ffn_dgu`: each tile takes the cotangent of the activations as half of one product and
   multiplies it by the two slopes of the gate; the reference is the transposed rule of the half step. -/
module

public import proofs.«01_k».proof.Defs
public import proofs.«01_k».proof.Proof.Arith
public import proofs.«01_k».proof.Proof.Gen.KernelIdeal.Value
public import proofs.«01_k».proof.Proof.Gen.ReferenceIdeal.Read
public import proofs.«01_k».proof.Proof.Gen.Pre_finite
public import Idealize.ShloMosaic.Lib.Pointwise
public import Idealize.ShloMosaic.Lib.ReduceAll

@[expose] public section

noncomputable section

namespace Cert.Proof.Dgu

open Cert.KernelIdeal Cert.KernelIdeal.Gen Cert.KernelIdeal.Value Idealize.ShloMosaic Idealize.ShloMosaic.TcCoe Idealize.SL.Sem

/-- The kernel's logistic function, by the hyperbolic tangent. -/
def ks (x : EReal) : EReal := ((1 / 2 : ℝ) : EReal) * Ideal.tanh (((1 / 2 : ℝ) : EReal) * x) + ((1 / 2 : ℝ) : EReal)
/-- The kernel's two gradients at one entry, from the cotangent `D` of the activation, the gate `x` and the up projection `u`. -/
def kdg (D x u : EReal) : EReal := D * u * (ks x * (((1 : ℝ) : EReal) + x * (((1 : ℝ) : EReal) - ks x)))
def kdu (D x : EReal) : EReal := D * (x * ks x)

theorem hz : (![0, 0] : Fin 2 → Nat) = fun _ => 0 := funext fun a => by fin_cases a <;> rfl

/-- One tile of the cotangent of the activations: half of the product of its blocks. -/
def tile (x0 : Vec Ideal S512x1024 .bf16) (x1 : Vec Ideal S1408x1024 .bf16) (j : S512x1408.Idx) : EReal :=
  ((1 / 2 : ℝ) : EReal) * ∑ k : Fin 1024, x0 (ix2 (j 0) k) * x1 (ix2 (j 1) k)

/-- What one grid point writes for the gate. -/
theorem out_g (x0 : Vec Ideal S512x1024 .bf16) (x1 : Vec Ideal S1408x1024 .bf16) (x2 x3 : Vec Ideal S512x1408 .bf16) (j : S512x1408.Idx) :
    out0_4 x0 x1 x2 x3 j = kdg (tile x0 x1 j) (x2 j) (x3 j) := by
  unfold out0_4 kdg ks tile
  rw [View.canon_unit_zero hz, View.ld_unit_zero hz, View.ld_unit_zero hz, View.ld_unit_zero hz, View.ld_unit_zero hz]
  simp only [k0_pay4, k0_pay1, k0_pay2, k0_pay3, pointwise, zero_add, Arith.ofBits_half, Arith.ofBits_one]
/-- What one grid point writes for the up projection. -/
theorem out_u (x0 : Vec Ideal S512x1024 .bf16) (x1 : Vec Ideal S1408x1024 .bf16) (x2 x3 : Vec Ideal S512x1408 .bf16) (j : S512x1408.Idx) :
    out0_5 x0 x1 x2 x3 j = kdu (tile x0 x1 j) (x2 j) := by
  unfold out0_5 kdu ks tile
  rw [View.canon_unit_zero hz, View.ld_unit_zero hz, View.ld_unit_zero hz, View.ld_unit_zero hz]
  simp only [k0_pay5, k0_pay1, k0_pay2, k0_pay3, pointwise, zero_add, Arith.ofBits_half, Arith.ofBits_one]

/-- The cotangent of the activations: half of one whole product. -/
def DA (w : FVec Ideal S2816x1024 .f32) (d : FVec Ideal S4096x1024 .f32) : FVec Ideal S4096x2816 .f32 :=
  fun j => ((1 / 2 : ℝ) : EReal) * ∑ k : Fin 1024, d (ix2 (j 0) k) * w (ix2 (j 1) k)
/-- The gate, and the up projection, before the half step. -/
abbrev X (h : FVec Ideal S4096x1024 .f32) (w : FVec Ideal S1024x2816 .f32) : FVec Ideal S4096x2816 .f32 :=
  Cert.ReferenceIdeal.Read.val_main_v0 (F := Ideal) h w
/-- The whole gradients of the gate and of the up projection. -/
def Gg (h : FVec Ideal S4096x1024 .f32) (wg wu : FVec Ideal S1024x2816 .f32) (wd : FVec Ideal S2816x1024 .f32)
    (d : FVec Ideal S4096x1024 .f32) : FVec Ideal S4096x2816 .bf16 := fun j => kdg (DA wd d j) (X h wg j) (X h wu j)
def Gu (h : FVec Ideal S4096x1024 .f32) (wg : FVec Ideal S1024x2816 .f32) (wd : FVec Ideal S2816x1024 .f32)
    (d : FVec Ideal S4096x1024 .f32) : FVec Ideal S4096x2816 .bf16 := fun j => kdu (DA wd d j) (X h wg j)

variable (m : (ℓ : Loc nD τ sig) → Buf (Elt Ideal) ℓ) (ρ : Dev nD → PrngReg)

/-- What the host prepares for the call. -/
theorem V1 (c : Dev nD) : V m c main_v1 = X (m ((c : Thread nD τ).loc main_arg0)) (m ((c : Thread nD τ).loc main_arg1)) := by
  unfold V; after_results; rfl
theorem V3 (c : Dev nD) : V m c main_v3 = X (m ((c : Thread nD τ).loc main_arg0)) (m ((c : Thread nD τ).loc main_arg2)) := by
  unfold V; after_results; rfl
theorem V4 (c : Dev nD) : V m c main_v4 = m ((c : Thread nD τ).loc main_arg4) := by
  unfold V; after_results; rfl
theorem V5 (c : Dev nD) : V m c main_v5 = m ((c : Thread nD τ).loc main_arg3) := by
  unfold V; after_results; rfl

/-- How the operands' blocks move with the results'. -/
theorem idx : ∀ t : Fin cfg0.N, (win0_0.index t (0 : Fin 2) = win0_4.index t (0 : Fin 2) ∧ win0_0.index t (1 : Fin 2) = 0)
    ∧ (win0_1.index t (0 : Fin 2) = win0_4.index t (1 : Fin 2) ∧ win0_1.index t (1 : Fin 2) = 0)
    ∧ (win0_2.index t (0 : Fin 2) = win0_4.index t (0 : Fin 2) ∧ win0_2.index t (1 : Fin 2) = win0_4.index t (1 : Fin 2))
    ∧ (win0_3.index t (0 : Fin 2) = win0_4.index t (0 : Fin 2) ∧ win0_3.index t (1 : Fin 2) = win0_4.index t (1 : Fin 2))
    ∧ win0_5.index t (0 : Fin 2) = win0_4.index t (0 : Fin 2) ∧ win0_5.index t (1 : Fin 2) = win0_4.index t (1 : Fin 2) :=
  (by decide +kernel : ∀ t : Fin grid0.N, _)
theorem idx_onto : ∀ a : Fin 8, ∀ b : Fin 2, ∃ t : Fin cfg0.N, win0_4.index t (0 : Fin 2) = a.val ∧ win0_4.index t (1 : Fin 2) = b.val :=
  (by decide +kernel : ∀ a : Fin 8, ∀ b : Fin 2, ∃ t : Fin grid0.N, _)

/-- The entry of the whole result under entry `j` of point `t`'s tile. -/
def at4 (t : Fin cfg0.N) (j : S512x1408.Idx) : S4096x2816.Idx := ((cfg0.win 4).blk t).view.emb j

/-- The tile's product is the whole product's entry. -/
theorem da_eq (c : Dev nD) (t : Fin cfg0.N) (j : S512x1408.Idx) :
    tile (iblk m c 0 t) (iblk m c 1 t) j = DA (m ((c : Thread nD τ).loc main_arg3)) (m ((c : Thread nD τ).loc main_arg4)) (at4 t j) := by
  obtain ⟨⟨a0, a1⟩, ⟨b0, b1⟩, -⟩ := idx t
  unfold tile DA
  refine congrArg (((1 / 2 : ℝ) : EReal) * ·) (Finset.sum_congr rfl fun k _ => ?_)
  show HMul.hMul (α := EReal) (β := EReal) (γ := EReal) (V m c main_v4 (((cfg0.win 0).blk t).view.emb _))
    (V m c main_v5 (((cfg0.win 1).blk t).view.emb _)) = _
  rw [V4, V5]
  congr 1
  · congr 1; funext a; apply Fin.ext
    match a with
    | ⟨0, _⟩ => show win0_0.index t (0 : Fin 2) * 512 + 1 * (j 0).val = win0_4.index t (0 : Fin 2) * 512 + 1 * (j 0).val; omega
    | ⟨1, _⟩ => show win0_0.index t (1 : Fin 2) * 1024 + 1 * k.val = k.val; omega
  · congr 1; funext a; apply Fin.ext
    match a with
    | ⟨0, _⟩ => show win0_1.index t (0 : Fin 2) * 1408 + 1 * (j 1).val = win0_4.index t (1 : Fin 2) * 1408 + 1 * (j 1).val; omega
    | ⟨1, _⟩ => show win0_1.index t (1 : Fin 2) * 1024 + 1 * k.val = k.val; omega
theorem g_eq (c : Dev nD) (t : Fin cfg0.N) (j : S512x1408.Idx) : (iblk m c 2 t : Vec Ideal S512x1408 .bf16) j
    = X (m ((c : Thread nD τ).loc main_arg0)) (m ((c : Thread nD τ).loc main_arg1)) (at4 t j) := by
  show V m c main_v1 (((cfg0.win 2).blk t).view.emb j) = _
  rw [V1]
  rfl
theorem u_eq (c : Dev nD) (t : Fin cfg0.N) (j : S512x1408.Idx) : (iblk m c 3 t : Vec Ideal S512x1408 .bf16) j
    = X (m ((c : Thread nD τ).loc main_arg0)) (m ((c : Thread nD τ).loc main_arg2)) (at4 t j) := by
  show V m c main_v3 (((cfg0.win 3).blk t).view.emb j) = _
  rw [V3]
  rfl

theorem flushed_g (c : Dev nD) (t : Fin cfg0.N) :
    (dats m 0 c).flushed 4 t = ((cfg0.win 4).blk t).view.read (Elt Ideal)
      (Gg (m ((c : Thread nD τ).loc main_arg0)) (m ((c : Thread nD τ).loc main_arg1)) (m ((c : Thread nD τ).loc main_arg2))
        (m ((c : Thread nD τ).loc main_arg3)) (m ((c : Thread nD τ).loc main_arg4))) := by
  rw [flushed4]
  funext j
  refine (out_g _ _ _ _ j).trans ?_
  rw [da_eq, g_eq, u_eq]
  rfl
theorem flushed_u (c : Dev nD) (t : Fin cfg0.N) :
    (dats m 0 c).flushed 5 t = ((cfg0.win 5).blk t).view.read (Elt Ideal)
      (Gu (m ((c : Thread nD τ).loc main_arg0)) (m ((c : Thread nD τ).loc main_arg1))
        (m ((c : Thread nD τ).loc main_arg3)) (m ((c : Thread nD τ).loc main_arg4))) := by
  rw [flushed5]
  funext j
  refine (out_u _ _ _ (iblk m c 3 t) j).trans ?_
  rw [da_eq, g_eq]
  rfl

/-- The tiles cover the results. -/
theorem covered (i : S4096x2816.Idx) :
    ∃ t : Fin cfg0.N, (cfg0.win 4).flush t = true ∧ i ∈ ((cfg0.win 4).blk t).view.set := by
  have h0 : (i 0).val < 4096 := (i 0).isLt
  have h1 : (i 1).val < 2816 := (i 1).isLt
  obtain ⟨t, e0, e1⟩ := idx_onto ⟨(i 0).val / 512, by omega⟩ ⟨(i 1).val / 1408, by omega⟩
  refine ⟨t, flush0_4 t, ?_⟩
  have h := ((cfg0.win 4).blk t).view.emb_mem_set (ix2 ⟨(i 0).val % 512, by omega⟩ ⟨(i 1).val % 1408, by omega⟩ : S512x1408.Idx)
  have e : ((cfg0.win 4).blk t).view.emb (ix2 ⟨(i 0).val % 512, by omega⟩ ⟨(i 1).val % 1408, by omega⟩ : S512x1408.Idx) = i := by
    funext a; apply Fin.ext
    match a with
    | ⟨0, _⟩ => show win0_4.index t (0 : Fin 2) * 512 + 1 * ((i 0).val % 512) = (i 0).val; rw [e0]; show (i 0).val / 512 * 512 + _ = _; omega
    | ⟨1, _⟩ => show win0_4.index t (1 : Fin 2) * 1408 + 1 * ((i 1).val % 1408) = (i 1).val; rw [e1]; show (i 1).val / 1408 * 1408 + _ = _; omega
  rwa [e] at h
theorem covered5 (i : S4096x2816.Idx) :
    ∃ t : Fin cfg0.N, (cfg0.win 5).flush t = true ∧ i ∈ ((cfg0.win 5).blk t).view.set := by
  obtain ⟨t, -, h⟩ := covered i
  exact ⟨t, flush0_5 t, h⟩

theorem final_g (c : Dev nD) : (dats m 0 c).arrAt 4 cfg0.N
    = Gg (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 4 _ (fun t _ => flushed_g m c t) covered
theorem final_u (c : Dev nD) : (dats m 0 c).arrAt 5 cfg0.N
    = Gu (m ((c : Thread nD τ).loc main_arg0)) (m ((c : Thread nD τ).loc main_arg1))
        (m ((c : Thread nD τ).loc main_arg3)) (m ((c : Thread nD τ).loc main_arg4)) :=
  (dats m 0 c).arrAt_eq_of_cover 5 _ (fun t _ => flushed_u m c t) covered5

/-! ## The arithmetic of one entry -/

open Arith

theorem ks_coe (x : ℝ) : ks x = ((sg x : ℝ) : EReal) := by
  unfold ks
  rw [← half_tanh x, ← EReal.coe_mul, Ideal.tanh_coe, ← EReal.coe_mul, ← EReal.coe_add]

/-- The two ways of writing the gate's slope agree on reals. -/
theorem kdg_coe (D x u : ℝ) : kdg D x u
    = ((D * u : ℝ) : EReal) * ((sg x : ℝ) : EReal) + ((x : ℝ) : EReal) * ((D * u : ℝ) : EReal) * (((sg x : ℝ) : EReal) * (((1 : ℝ) : EReal) - ((sg x : ℝ) : EReal))) := by
  unfold kdg
  rw [ks_coe]
  simp only [← EReal.coe_mul, ← EReal.coe_add, ← EReal.coe_sub]
  congr 1
  ring
theorem kdu_coe (D x : ℝ) : kdu D x = ((x : ℝ) : EReal) * ((sg x : ℝ) : EReal) * (D : EReal) := by
  unfold kdu
  rw [ks_coe, mul_comm]

/-- An array of reals. -/
def Real' {s : Shape} (a : FVec Ideal s .f32) : Prop := ∀ i, ∃ r : ℝ, a i = (r : EReal)

/-- A product of arrays of reals has real entries. -/
theorem real_X (h : FVec Ideal S4096x1024 .f32) (w : FVec Ideal S1024x2816 .f32) (hh : Real' h) (hw : Real' w) : Real' (X h w) := by
  intro i
  choose fh eh using hh
  choose fw ew using hw
  refine ⟨∑ k, fh (Cert.ReferenceIdeal.Read.lidx_main_v0 i k) * fw (Cert.ReferenceIdeal.Read.ridx_main_v0 i k), ?_⟩
  rw [← coe_sum]
  refine (Cert.ReferenceIdeal.Read.val_main_v0_apply h w i).trans (Finset.sum_congr rfl fun k _ => ?_)
  rw [eh, ew, EReal.coe_mul]
theorem real_DA (w : FVec Ideal S2816x1024 .f32) (d : FVec Ideal S4096x1024 .f32) (hw : Real' w) (hd : Real' d) : Real' (DA w d) := by
  intro i
  choose fd ed using hd
  choose fw ew using hw
  refine ⟨1 / 2 * ∑ k : Fin 1024, fd (ix2 (i 0) k) * fw (ix2 (i 1) k), ?_⟩
  unfold DA
  rw [EReal.coe_mul, ← coe_sum]
  refine congrArg (((1 / 2 : ℝ) : EReal) * ·) (Finset.sum_congr rfl fun k _ => ?_)
  rw [ed, ew, EReal.coe_mul]

/-! ## The reference -/

open Cert.ReferenceIdeal.Read in
/-- The reference's cotangent of the activations: the halves are inside its sum. -/
theorem ref_da (w : FVec Ideal S2816x1024 .f32) (d : FVec Ideal S4096x1024 .f32) : val_main_v9 (F := Ideal) w d = DA w d := by
  funext j
  rw [val_main_v9_apply]
  unfold DA
  rw [mul_comm, sum_mul_real _ _ _ (by norm_num)]
  refine Finset.sum_congr rfl fun k _ => ?_
  rw [val_main_v8_apply, val_main_v7_apply, val_main_cst_0_apply]
  show HMul.hMul (α := EReal) (β := EReal) (γ := EReal) (HMul.hMul (α := EReal) (β := EReal) (γ := EReal) (Ideal.ofBits .f32 0x3F000000#32) (d _)) _ = _
  rw [ofBits_half, mul_comm ((1 / 2 : ℝ) : EReal), mul_right_comm]
  congr 2
  · congr 1; funext a; apply Fin.ext
    match a with
    | ⟨0, _⟩ => rfl
    | ⟨1, _⟩ => rfl
  · congr 1; funext a; apply Fin.ext
    match a with
    | ⟨0, _⟩ => rfl
    | ⟨1, _⟩ => rfl

open Cert.ReferenceIdeal.Read in
/-- The reference's logistic function at a real entry. -/
theorem ref_sg (h : FVec Ideal S4096x1024 .f32) (w : FVec Ideal S1024x2816 .f32) (j : S4096x2816.Idx) (x : ℝ) (hx : X h w j = (x : EReal)) :
    val_main_v2_2 (F := Ideal) h w j = ((sg x : ℝ) : EReal) := by
  rw [val_main_v2_2_apply, val_main_call0_v4_apply, val_main_call0_cst_0_apply, val_main_call0_v3_apply, val_main_call0_v2_apply,
    val_main_call0_cst_apply, val_main_call0_v1_apply, val_main_call0_v0_apply]
  show Ideal.div (Ideal.ofBits .f32 0x3F800000#32) (Ideal.ofBits .f32 0x3F800000#32 + Ideal.exp (-(X h w j))) = _
  rw [ofBits_one, hx]
  exact logistic_coe x

open Cert.ReferenceIdeal.Read in
theorem ref_g (h : FVec Ideal S4096x1024 .f32) (wg wu : FVec Ideal S1024x2816 .f32) (wd : FVec Ideal S2816x1024 .f32)
    (d : FVec Ideal S4096x1024 .f32) (r0 : Real' h) (r1 : Real' wg) (r2 : Real' wu) (r3 : Real' wd) (r4 : Real' d) :
    val_main_v13 (F := Ideal) h wg wu wd d = Gg h wg wu wd d := by
  funext j
  obtain ⟨x, hx⟩ := real_X h wg r0 r1 j
  obtain ⟨u, hu⟩ := real_X h wu r0 r2 j
  obtain ⟨D, hD⟩ := real_DA wd d r3 r4 j
  unfold Gg
  rw [hx, hu, hD, kdg_coe]
  rw [val_main_v13_apply, val_main_v12_apply, val_main_call1_v2_apply, val_main_call1_v1_apply, val_main_call1_v0_apply, val_main_v11_apply,
    val_main_v2_1_apply, val_main_call0_v7_apply, val_main_call0_v6_apply, val_main_call0_cst_1_apply, ref_sg h wg j x hx, ref_da, hD]
  show HMul.hMul (α := EReal) (β := EReal) (γ := EReal) (D * X h wu j) (sg x : ℝ) + HMul.hMul (α := EReal) (β := EReal) (γ := EReal)
    (X h wg j * (D * X h wu j)) ((sg x : ℝ) * (Ideal.ofBits .f32 0x3F800000#32 - (sg x : ℝ))) = _
  rw [hx, hu, ofBits_one, EReal.coe_mul]

open Cert.ReferenceIdeal.Read in
theorem ref_u (h : FVec Ideal S4096x1024 .f32) (wg : FVec Ideal S1024x2816 .f32) (wd : FVec Ideal S2816x1024 .f32)
    (d : FVec Ideal S4096x1024 .f32) (r0 : Real' h) (r1 : Real' wg) (r3 : Real' wd) (r4 : Real' d) :
    val_main_v14 (F := Ideal) h wg wd d = Gu h wg wd d := by
  funext j
  obtain ⟨x, hx⟩ := real_X h wg r0 r1 j
  obtain ⟨D, hD⟩ := real_DA wd d r3 r4 j
  unfold Gu
  rw [hx, hD, kdu_coe]
  rw [val_main_v14_apply, val_main_v10_apply, val_main_v2_0_apply, ref_sg h wg j x hx, ref_da, hD]
  show HMul.hMul (α := EReal) (β := EReal) (γ := EReal) (X h wg j * (sg x : ℝ)) D = _
  rw [hx]

/-! ## The precondition -/

/-- An entry whose magnitude is below the infinity is a real. -/
theorem real_of_lt (a : EReal) (h : Ideal.cmp .olt (max a (-a)) (Ideal.ofBits .f32 0x7F800000#32) = 1#1) : ∃ r : ℝ, a = (r : EReal) := by
  rw [ofBits_top] at h
  have h' : max a (-a) < ⊤ := by
    by_contra hn
    rw [Ideal.cmp, decide_eq_false hn] at h
    exact absurd h (by decide)
  have h1 : a ≠ ⊤ := ne_of_lt (lt_of_le_of_lt (le_max_left _ _) h')
  have h2 : a ≠ ⊥ := by
    rintro rfl
    exact absurd (lt_of_le_of_lt (le_max_right _ _) h') (by simp)
  exact ⟨a.toReal, (EReal.coe_toReal h1 h2).symm⟩

/-- The precondition holds of arrays of reals only. -/
theorem real_of_pre [Cert.Pre_finite.Facts] (a0 : FVec Ideal S4096x1024 .f32) (a1 a2 : FVec Ideal S1024x2816 .f32) (a3 : FVec Ideal S2816x1024 .f32)
    (a4 : FVec Ideal S4096x1024 .f32) (h : Cert.Pre_finite.fn (F := Ideal) a0 a1 a2 a3 a4 = fun _ => 1#1) :
    Real' a0 ∧ Real' a1 ∧ Real' a2 ∧ Real' a3 ∧ Real' a4 := by
  have e := congrFun h (fun a => a.elim0)
  haveI : Subsingleton Cert.Pre_finite.S_.Idx := ⟨fun x y => funext fun a => a.elim0⟩
  have and1 : ∀ x y : BitVec 1, IntOp.andi x y = 1#1 → x = 1#1 ∧ y = 1#1 := by decide
  obtain ⟨e, h4⟩ := and1 _ _ e
  obtain ⟨e, h3⟩ := and1 _ _ e
  obtain ⟨e, h2⟩ := and1 _ _ e
  obtain ⟨e, h1⟩ := and1 _ _ e
  obtain ⟨e, h0⟩ := and1 _ _ e
  refine ⟨fun i => ?_, fun i => ?_, fun i => ?_, fun i => ?_, fun i => ?_⟩
  · exact real_of_lt _ (Host.reduce_andi_all _ _ _ _ _ h0 i)
  · exact real_of_lt _ (Host.reduce_andi_all _ _ _ _ _ h1 i)
  · exact real_of_lt _ (Host.reduce_andi_all _ _ _ _ _ h2 i)
  · exact real_of_lt _ (Host.reduce_andi_all _ _ _ _ _ h3 i)
  · exact real_of_lt _ (Host.reduce_andi_all _ _ _ _ _ h4 i)

/-- The call and the transposed rule of the half step end with equal results. -/
theorem algebraic [Cert.Pre_finite.Facts] : Cert.algebraic_KernelIdeal_ReferenceIdeal_pre_finite := by
  intro m g m' g' hp hm
  refine ⟨fun c => Gg (m ((c : Thread nD τ).loc main_arg0)) (m ((c : Thread nD τ).loc main_arg1)) (m ((c : Thread nD τ).loc main_arg2))
        (m ((c : Thread nD τ).loc main_arg3)) (m ((c : Thread nD τ).loc main_arg4)),
      fun c => Gu (m ((c : Thread nD τ).loc main_arg0)) (m ((c : Thread nD τ).loc main_arg1))
        (m ((c : Thread nD τ).loc main_arg3)) (m ((c : Thread nD τ).loc main_arg4)), ?_, ?_⟩
  · exact (θ_run defs _ _).mono (fun r h c => ⟨(h c).1.trans (final_g m c), (h c).2.1.trans (final_u m c), (h c).2.2⟩) (run_blocks m g)
  · refine (θ_run Cert.ReferenceIdeal.defs _ _).mono (fun r h c => ?_) (Cert.ReferenceIdeal.Value.run m' g')
    obtain ⟨r0, r1, r2, r3, r4⟩ := real_of_pre _ _ _ _ _ (hp c)
    obtain ⟨e0, e1, e2, e3, e4⟩ := hm c
    refine ⟨(h c).1.trans ?_, (h c).2.1.trans ?_, (h c).2.2⟩
    · rw [e0, e1, e2, e3, e4]
      exact ref_g _ _ _ _ _ r0 r1 r2 r3 r4
    · rw [e0, e1, e3, e4]
      exact ref_u _ _ _ _ r0 r1 r3 r4

end Cert.Proof.Dgu

end
-- ==== Proof.Ddown.lean ====
/- The gradient of the feed-forward output weight, `ffn_dwdown`: the result array of the grid of tiles is half of one
   whole product, the activations transposed; the reference halves the cotangent before the product. -/
module

public import proofs.«01_k».proof.Defs
public import proofs.«01_k».proof.Proof.Gen.Kernel2Ideal.Value
public import proofs.«01_k».proof.Proof.Gen.Reference2Ideal.Read
public import proofs.«01_k».proof.Proof.Arith
public import Idealize.ShloMosaic.Lib.Pointwise

@[expose] public section

noncomputable section

namespace Cert.Proof.Ddown

open Cert.Kernel2Ideal Cert.Kernel2Ideal.Gen Cert.Kernel2Ideal.Value Idealize.ShloMosaic Idealize.ShloMosaic.TcCoe Idealize.SL.Sem

/-- The whole product, halved: entry `(i, j)` sums over the tokens. -/
def G (a : FVec Ideal S4096x2816 .f32) (d : FVec Ideal S4096x1024 .f32) : FVec Ideal S2816x1024 .bf16 :=
  fun j => (∑ k : Fin 4096, a (ix2 k (j 0)) * d (ix2 k (j 1))) * ((1 / 2 : ℝ) : EReal)

theorem hz : (![0, 0] : Fin 2 → Nat) = fun _ => 0 := funext fun a => by fin_cases a <;> rfl

/-- What one grid point writes: its tile's product, halved. -/
theorem out_apply (x0 : Vec Ideal S4096x1408 .bf16) (x1 : Vec Ideal S4096x512 .bf16) (j : S1408x512.Idx) :
    out0_2 x0 x1 j = (∑ k : Fin 4096, x0 (ix2 k (j 0)) * x1 (ix2 k (j 1))) * ((1 / 2 : ℝ) : EReal) := by
  unfold out0_2
  rw [View.canon_unit_zero hz, View.ld_unit_zero hz, View.ld_unit_zero hz]
  simp only [k0_pay1, pointwise, zero_add, Arith.ofBits_half]

variable (m : (ℓ : Loc nD τ sig) → Buf (Elt Ideal) ℓ) (ρ : Dev nD → PrngReg)

/-- The activations the host prepares are the reference's own. -/
theorem V0 (c : Dev nD) : V m c main_v4 = Cert.Reference2Ideal.Read.val_main_v4 (F := Ideal) (m ((c : Thread nD τ).loc main_arg0))
    (m ((c : Thread nD τ).loc main_arg1)) (m ((c : Thread nD τ).loc main_arg2)) := by
  unfold V
  simp only [hostOps0, hostOps0_1, hostOps0_2, List.flatten_cons, List.flatten_nil, List.append_nil, List.cons_append, List.nil_append]
  after_results; rfl
theorem V1 (c : Dev nD) : V m c main_v5 = m ((c : Thread nD τ).loc main_arg3) := by
  unfold V
  simp only [hostOps0, hostOps0_1, hostOps0_2, List.flatten_cons, List.flatten_nil, List.append_nil, List.cons_append, List.nil_append]
  after_results; rfl

/-- How the operands' blocks move with the result's. -/
theorem idx : ∀ t : Fin cfg0.N, win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)
theorem idx_onto : ∀ a : Fin 2, ∀ b : Fin 2, ∃ t : Fin cfg0.N, win0_2.index t (0 : Fin 2) = a.val ∧ win0_2.index t (1 : Fin 2) = b.val :=
  (by decide +kernel : ∀ a : Fin 2, ∀ b : Fin 2, ∃ t : Fin grid0.N, _)

theorem flushed_eq (c : Dev nD) (t : Fin cfg0.N) :
    (dats m 0 c).flushed 2 t = ((cfg0.win 2).blk t).view.read (Elt Ideal)
      (G (Cert.Reference2Ideal.Read.val_main_v4 (F := Ideal) (m ((c : Thread nD τ).loc main_arg0))
        (m ((c : Thread nD τ).loc main_arg1)) (m ((c : Thread nD τ).loc main_arg2))) (m ((c : Thread nD τ).loc main_arg3))) := by
  obtain ⟨e0, e1, e2, e3⟩ := idx t
  rw [flushed2]
  funext j
  refine (out_apply _ _ j).trans ?_
  show _ = G _ _ (((cfg0.win 2).blk t).view.emb j)
  unfold G
  refine congrArg (· * ((1 / 2 : ℝ) : EReal)) (Finset.sum_congr rfl fun k _ => ?_)
  show HMul.hMul (α := EReal) (β := EReal) (γ := EReal) (V m c main_v4 (((cfg0.win 0).blk t).view.emb _))
    (V m c main_v5 (((cfg0.win 1).blk t).view.emb _)) = _
  rw [V0, V1]
  congr 1
  · congr 1; funext a; apply Fin.ext
    match a with
    | ⟨0, _⟩ => show win0_0.index t (0 : Fin 2) * 4096 + 1 * k.val = k.val; omega
    | ⟨1, _⟩ => show win0_0.index t (1 : Fin 2) * 1408 + 1 * (j 0).val = win0_2.index t (0 : Fin 2) * 1408 + 1 * (j 0).val; omega
  · congr 1; funext a; apply Fin.ext
    match a with
    | ⟨0, _⟩ => show win0_1.index t (0 : Fin 2) * 4096 + 1 * k.val = k.val; omega
    | ⟨1, _⟩ => show win0_1.index t (1 : Fin 2) * 512 + 1 * (j 1).val = win0_2.index t (1 : Fin 2) * 512 + 1 * (j 1).val; omega

/-- The tiles cover the result. -/
theorem covered (i : S2816x1024.Idx) :
    ∃ t : Fin cfg0.N, (cfg0.win 2).flush t = true ∧ i ∈ ((cfg0.win 2).blk t).view.set := by
  have h0 : (i 0).val < 2816 := (i 0).isLt
  have h1 : (i 1).val < 1024 := (i 1).isLt
  obtain ⟨t, e0, e1⟩ := idx_onto ⟨(i 0).val / 1408, by omega⟩ ⟨(i 1).val / 512, by omega⟩
  refine ⟨t, flush0_2 t, ?_⟩
  have h := ((cfg0.win 2).blk t).view.emb_mem_set (ix2 ⟨(i 0).val % 1408, by omega⟩ ⟨(i 1).val % 512, by omega⟩ : S1408x512.Idx)
  have e : ((cfg0.win 2).blk t).view.emb (ix2 ⟨(i 0).val % 1408, by omega⟩ ⟨(i 1).val % 512, by omega⟩ : S1408x512.Idx) = i := by
    funext a; apply Fin.ext
    match a with
    | ⟨0, _⟩ => show win0_2.index t (0 : Fin 2) * 1408 + 1 * ((i 0).val % 1408) = (i 0).val; rw [e0]; show (i 0).val / 1408 * 1408 + _ = _; omega
    | ⟨1, _⟩ => show win0_2.index t (1 : Fin 2) * 512 + 1 * ((i 1).val % 512) = (i 1).val; rw [e1]; show (i 1).val / 512 * 512 + _ = _; omega
  rwa [e] at h

theorem final (c : Dev nD) : (dats m 0 c).arrAt 2 cfg0.N
    = G (Cert.Reference2Ideal.Read.val_main_v4 (F := Ideal) (m ((c : Thread nD τ).loc main_arg0))
        (m ((c : Thread nD τ).loc main_arg1)) (m ((c : Thread nD τ).loc main_arg2))) (m ((c : Thread nD τ).loc main_arg3)) :=
  (dats m 0 c).arrAt_eq_of_cover 2 _ (fun t _ => flushed_eq m c t) covered

/-- The reference's product of the halved cotangent is the same: the half goes through the sum. -/
theorem ref_eq (h : FVec Ideal S4096x1024 .f32) (w u : FVec Ideal S1024x2816 .f32) (d : FVec Ideal S4096x1024 .f32) :
    Cert.Reference2Ideal.Read.val_main_v12 (F := Ideal) h w u d = G (Cert.Reference2Ideal.Read.val_main_v4 (F := Ideal) h w u) d := by
  funext j
  rw [Cert.Reference2Ideal.Read.val_main_v12_apply, Cert.Reference2Ideal.Read.val_main_v11_apply, Cert.Reference2Ideal.Read.val_main_v10_apply]
  show (∑ k, _) = _
  unfold G
  rw [Arith.sum_mul_real _ _ _ (by norm_num)]
  refine Finset.sum_congr rfl fun k _ => ?_
  rw [Cert.Reference2Ideal.Read.val_main_v9_apply, Cert.Reference2Ideal.Read.val_main_v8_apply, Cert.Reference2Ideal.Read.val_main_cst_1_apply]
  show HMul.hMul (α := EReal) (β := EReal) (γ := EReal) (HMul.hMul (α := EReal) (β := EReal) (γ := EReal) (Ideal.ofBits .f32 0x3F000000#32) (d _)) _ = _
  rw [Arith.ofBits_half, mul_comm, mul_comm ((1 / 2 : ℝ) : EReal), ← mul_assoc]
  congr 2
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The call and the gradient of the half step with respect to its output weight end with equal results. -/
theorem algebraic : Cert.algebraic_Kernel2Ideal_Reference2Ideal := by
  intro m g m' g' _ hm
  refine ⟨fun c => G (Cert.Reference2Ideal.Read.val_main_v4 (F := Ideal) (m ((c : Thread nD τ).loc main_arg0))
        (m ((c : Thread nD τ).loc main_arg1)) (m ((c : Thread nD τ).loc main_arg2))) (m ((c : Thread nD τ).loc main_arg3)), ?_, ?_⟩
  · exact (θ_run defs _ _).mono (fun r h c => ⟨(h c).1.trans (final m c), (h c).2⟩) (run_blocks m g)
  · refine (θ_run Cert.Reference2Ideal.defs _ _).mono (fun r h c => ⟨(h c).1.trans ?_, (h c).2⟩) (Cert.Reference2Ideal.Value.run m' g')
    rw [(hm c).1, (hm c).2.1, (hm c).2.2.1, (hm c).2.2.2]
    exact ref_eq _ _ _ _

end Cert.Proof.Ddown

end
-- ==== Proof.Dwgu.lean ====
/- The gradient of a feed-forward weight, `ffn_dwgu`: the result array of the grid of tiles is one whole product,
   the left operand transposed, and so is the reference's. -/
module

public import proofs.«01_k».proof.Defs
public import proofs.«01_k».proof.Proof.Gen.Kernel3Ideal.Value
public import proofs.«01_k».proof.Proof.Gen.Reference3Ideal.Read
public import Idealize.ShloMosaic.Lib.Pointwise

@[expose] public section

noncomputable section

namespace Cert.Proof.Dwgu

open Cert.Kernel3Ideal Cert.Kernel3Ideal.Gen Cert.Kernel3Ideal.Value Idealize.ShloMosaic Idealize.ShloMosaic.TcCoe Idealize.SL.Sem

/-- The whole product: entry `(i, j)` sums over the tokens. -/
def G (h : FVec Ideal S4096x1024 .f32) (d : FVec Ideal S4096x2816 .f32) : FVec Ideal S1024x2816 .bf16 :=
  fun j => ∑ k : Fin 4096, h (ix2 k (j 0)) * d (ix2 k (j 1))

theorem hz : (![0, 0] : Fin 2 → Nat) = fun _ => 0 := funext fun a => by fin_cases a <;> rfl

/-- What one grid point writes: its tile's product. -/
theorem out_apply (x0 : Vec Ideal S4096x1024 .bf16) (x1 : Vec Ideal S4096x256 .bf16) (j : S1024x256.Idx) :
    out0_2 x0 x1 j = ∑ k : Fin 4096, x0 (ix2 k (j 0)) * x1 (ix2 k (j 1)) := by
  unfold out0_2
  rw [View.canon_unit_zero hz, View.ld_unit_zero hz, View.ld_unit_zero hz]
  simp only [k0_pay1, pointwise, zero_add]

variable (m : (ℓ : Loc nD τ sig) → Buf (Elt Ideal) ℓ) (ρ : Dev nD → PrngReg)

/-- The host's rounding of an operand is the operand itself. -/
theorem V0 (c : Dev nD) : V m c main_v0 = m ((c : Thread nD τ).loc main_arg0) := by
  unfold V; after_results; rfl
theorem V1 (c : Dev nD) : V m c main_v1 = m ((c : Thread nD τ).loc main_arg1) := by
  unfold V; after_results; rfl

/-- How the operands' blocks move with the result's. -/
theorem idx : ∀ t : Fin cfg0.N, win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)
theorem idx_onto : ∀ a : Fin 1, ∀ b : Fin 11, ∃ t : Fin cfg0.N, win0_2.index t (0 : Fin 2) = a.val ∧ win0_2.index t (1 : Fin 2) = b.val :=
  (by decide +kernel : ∀ a : Fin 1, ∀ b : Fin 11, ∃ t : Fin grid0.N, _)

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨e0, e1, e2, e3⟩ := idx t
  rw [flushed2]
  funext j
  refine (out_apply _ _ j).trans ?_
  show _ = G _ _ (((cfg0.win 2).blk t).view.emb j)
  unfold G
  refine Finset.sum_congr rfl fun k _ => ?_
  show HMul.hMul (α := EReal) (β := EReal) (γ := EReal) (V m c main_v0 (((cfg0.win 0).blk t).view.emb _))
    (V m c main_v1 (((cfg0.win 1).blk t).view.emb _)) = _
  rw [V0, V1]
  congr 1
  · congr 1; funext a; apply Fin.ext
    match a with
    | ⟨0, _⟩ => show win0_0.index t (0 : Fin 2) * 4096 + 1 * k.val = k.val; omega
    | ⟨1, _⟩ => show win0_0.index t (1 : Fin 2) * 1024 + 1 * (j 0).val = win0_2.index t (0 : Fin 2) * 1024 + 1 * (j 0).val; omega
  · congr 1; funext a; apply Fin.ext
    match a with
    | ⟨0, _⟩ => show win0_1.index t (0 : Fin 2) * 4096 + 1 * k.val = k.val; omega
    | ⟨1, _⟩ => show win0_1.index t (1 : Fin 2) * 256 + 1 * (j 1).val = win0_2.index t (1 : Fin 2) * 256 + 1 * (j 1).val; omega

/-- The tiles cover the result. -/
theorem covered (i : S1024x2816.Idx) :
    ∃ t : Fin cfg0.N, (cfg0.win 2).flush t = true ∧ i ∈ ((cfg0.win 2).blk t).view.set := by
  have h0 : (i 0).val < 1024 := (i 0).isLt
  have h1 : (i 1).val < 2816 := (i 1).isLt
  obtain ⟨t, e0, e1⟩ := idx_onto ⟨(i 0).val / 1024, by omega⟩ ⟨(i 1).val / 256, by omega⟩
  refine ⟨t, flush0_2 t, ?_⟩
  have h := ((cfg0.win 2).blk t).view.emb_mem_set (ix2 ⟨(i 0).val % 1024, by omega⟩ ⟨(i 1).val % 256, by omega⟩ : S1024x256.Idx)
  have e : ((cfg0.win 2).blk t).view.emb (ix2 ⟨(i 0).val % 1024, by omega⟩ ⟨(i 1).val % 256, by omega⟩ : S1024x256.Idx) = i := by
    funext a; apply Fin.ext
    match a with
    | ⟨0, _⟩ => show win0_2.index t (0 : Fin 2) * 1024 + 1 * ((i 0).val % 1024) = (i 0).val; rw [e0]; show (i 0).val / 1024 * 1024 + _ = _; omega
    | ⟨1, _⟩ => show win0_2.index t (1 : Fin 2) * 256 + 1 * ((i 1).val % 256) = (i 1).val; rw [e1]; show (i 1).val / 256 * 256 + _ = _; omega
  rwa [e] at h

theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) covered

/-- The reference's product is the same sum, its factors in the other order. -/
theorem ref_eq (h : FVec Ideal S4096x1024 .f32) (d : FVec Ideal S4096x2816 .f32) :
    Cert.Reference3Ideal.Read.val_main_v4 (F := Ideal) h d = G h d := by
  funext j
  rw [Cert.Reference3Ideal.Read.val_main_v4_apply, Cert.Reference3Ideal.Read.val_main_v3_apply, Cert.Reference3Ideal.Read.val_main_v2_apply]
  show (∑ k, _) = _
  unfold G
  refine Finset.sum_congr rfl fun k _ => ?_
  rw [mul_comm]
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The call and the gradient of the product with respect to its right factor end with equal results. -/
theorem algebraic : Cert.algebraic_Kernel3Ideal_Reference3Ideal := by
  intro m g m' g' _ hm
  refine ⟨fun c => G (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference3Ideal.defs _ _).mono (fun r h c => ⟨(h c).1.trans ?_, (h c).2⟩) (Cert.Reference3Ideal.Value.run m' g')
    rw [(hm c).1, (hm c).2]
    exact ref_eq _ _

end Cert.Proof.Dwgu

end
-- ==== Proof.Dh.lean ====
/- The gradient of the feed-forward input through the gate, `ffn_dh`: the result array of the grid of tiles is one whole
   product, the right operand transposed, and so is the reference's. -/
module

public import proofs.«01_k».proof.Defs
public import proofs.«01_k».proof.Proof.Gen.Kernel4Ideal.Value
public import proofs.«01_k».proof.Proof.Gen.Reference4Ideal.Read
public import Idealize.ShloMosaic.Lib.Pointwise

@[expose] public section

noncomputable section

namespace Cert.Proof.Dh

open Cert.Kernel4Ideal Cert.Kernel4Ideal.Gen Cert.Kernel4Ideal.Value Idealize.ShloMosaic Idealize.ShloMosaic.TcCoe Idealize.SL.Sem

/-- The whole product: entry `(i, j)` sums over the hidden features. -/
def G (w : FVec Ideal S1024x2816 .f32) (d : FVec Ideal S4096x2816 .f32) : FVec Ideal S4096x1024 .f32 :=
  fun j => ∑ k : Fin 2816, d (ix2 (j 0) k) * w (ix2 (j 1) k)

theorem hz : (![0, 0] : Fin 2 → Nat) = fun _ => 0 := funext fun a => by fin_cases a <;> rfl

/-- What one grid point writes: its tile's product. -/
theorem out_apply (x0 : Vec Ideal S1024x2816 .bf16) (x1 : Vec Ideal S512x2816 .bf16) (j : S1024x512.Idx) :
    out0_2 x0 x1 j = ∑ k : Fin 2816, x0 (ix2 (j 0) k) * x1 (ix2 (j 1) k) := by
  unfold out0_2
  rw [View.canon_unit_zero hz, View.ld_unit_zero hz, View.ld_unit_zero hz]
  simp only [k0_pay1, pointwise, zero_add]

variable (m : (ℓ : Loc nD τ sig) → Buf (Elt Ideal) ℓ) (ρ : Dev nD → PrngReg)

/-- The host's rounding of an operand is the operand itself. -/
theorem V0 (c : Dev nD) : V m c main_v0 = m ((c : Thread nD τ).loc main_arg1) := by
  unfold V; after_results; rfl
theorem V1 (c : Dev nD) : V m c main_v1 = m ((c : Thread nD τ).loc main_arg0) := by
  unfold V; after_results; rfl

/-- How the operands' blocks move with the result's. -/
theorem idx : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)
theorem idx_onto : ∀ a : Fin 4, ∀ b : Fin 2, ∃ t : Fin cfg0.N, win0_2.index t (0 : Fin 2) = a.val ∧ win0_2.index t (1 : Fin 2) = b.val :=
  (by decide +kernel : ∀ a : Fin 4, ∀ b : Fin 2, ∃ t : Fin grid0.N, _)

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨e0, e1, e2, e3⟩ := idx t
  rw [flushed2]
  funext j
  refine (out_apply _ _ j).trans ?_
  show _ = G _ _ (((cfg0.win 2).blk t).view.emb j)
  unfold G
  refine Finset.sum_congr rfl fun k _ => ?_
  show HMul.hMul (α := EReal) (β := EReal) (γ := EReal) (V m c main_v0 (((cfg0.win 0).blk t).view.emb _))
    (V m c main_v1 (((cfg0.win 1).blk t).view.emb _)) = _
  rw [V0, V1]
  congr 1
  · congr 1; funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 2816 + 1 * k.val = k.val; omega
  · congr 1; funext a; apply Fin.ext
    match a with
    | ⟨0, _⟩ => show win0_1.index t (0 : Fin 2) * 512 + 1 * (j 1).val = win0_2.index t (1 : Fin 2) * 512 + 1 * (j 1).val; omega
    | ⟨1, _⟩ => show win0_1.index t (1 : Fin 2) * 2816 + 1 * k.val = k.val; omega

/-- The tiles cover the result. -/
theorem covered (i : S4096x1024.Idx) :
    ∃ t : Fin cfg0.N, (cfg0.win 2).flush t = true ∧ i ∈ ((cfg0.win 2).blk t).view.set := by
  have h0 : (i 0).val < 4096 := (i 0).isLt
  have h1 : (i 1).val < 1024 := (i 1).isLt
  obtain ⟨t, e0, e1⟩ := idx_onto ⟨(i 0).val / 1024, by omega⟩ ⟨(i 1).val / 512, by omega⟩
  refine ⟨t, flush0_2 t, ?_⟩
  have h := ((cfg0.win 2).blk t).view.emb_mem_set (ix2 ⟨(i 0).val % 1024, by omega⟩ ⟨(i 1).val % 512, by omega⟩ : S1024x512.Idx)
  have e : ((cfg0.win 2).blk t).view.emb (ix2 ⟨(i 0).val % 1024, by omega⟩ ⟨(i 1).val % 512, by omega⟩ : S1024x512.Idx) = i := by
    funext a; apply Fin.ext
    match a with
    | ⟨0, _⟩ => show win0_2.index t (0 : Fin 2) * 1024 + 1 * ((i 0).val % 1024) = (i 0).val; rw [e0]; show (i 0).val / 1024 * 1024 + _ = _; omega
    | ⟨1, _⟩ => show win0_2.index t (1 : Fin 2) * 512 + 1 * ((i 1).val % 512) = (i 1).val; rw [e1]; show (i 1).val / 512 * 512 + _ = _; omega
  rwa [e] at h

theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) covered

/-- The reference's product is the same sum. -/
theorem ref_eq (w : FVec Ideal S1024x2816 .f32) (d : FVec Ideal S4096x2816 .f32) :
    Cert.Reference4Ideal.Read.val_main_v2 (F := Ideal) w d = G w d := by
  funext j
  rw [Cert.Reference4Ideal.Read.val_main_v2_apply]
  unfold G
  refine Finset.sum_congr rfl fun k _ => ?_
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The call and the gradient of the product with respect to its left factor end with equal results. -/
theorem algebraic : Cert.algebraic_Kernel4Ideal_Reference4Ideal := by
  intro m g m' g' _ hm
  refine ⟨fun c => G (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference4Ideal.defs _ _).mono (fun r h c => ⟨(h c).1.trans ?_, (h c).2⟩) (Cert.Reference4Ideal.Value.run m' g')
    rw [(hm c).1, (hm c).2]
    exact ref_eq _ _

end Cert.Proof.Dh

end
-- ==== Proof.DhAdd.lean ====
/- The gradient of the feed-forward input through the up projection, `ffn_dh_add`, added to the part that came
   through the other product: the result array of the grid of tiles is one whole product and that part. -/
module

public import proofs.«01_k».proof.Defs
public import proofs.«01_k».proof.Proof.Gen.Kernel5Ideal.Value
public import proofs.«01_k».proof.Proof.Gen.Reference5Ideal.Read
public import Idealize.ShloMosaic.Lib.Pointwise

@[expose] public section

noncomputable section

namespace Cert.Proof.DhAdd

open Cert.Kernel5Ideal Cert.Kernel5Ideal.Gen Cert.Kernel5Ideal.Value Idealize.ShloMosaic Idealize.ShloMosaic.TcCoe Idealize.SL.Sem

/-- The whole product and the part it is added to. -/
def G (w : FVec Ideal S1024x2816 .f32) (d : FVec Ideal S4096x2816 .f32) (p : FVec Ideal S4096x1024 .f32) : FVec Ideal S4096x1024 .f32 :=
  fun j => (∑ k : Fin 2816, d (ix2 (j 0) k) * w (ix2 (j 1) k)) + p j

theorem hz : (![0, 0] : Fin 2 → Nat) = fun _ => 0 := funext fun a => by fin_cases a <;> rfl

/-- What one grid point writes: its tile's product. -/
theorem out_apply (x0 : Vec Ideal S1024x2816 .bf16) (x1 : Vec Ideal S512x2816 .bf16) (x2 : Vec Ideal S1024x512 .f32)
    (j : S1024x512.Idx) : out0_3 x0 x1 x2 j = (∑ k : Fin 2816, x0 (ix2 (j 0) k) * x1 (ix2 (j 1) k)) + x2 j := by
  unfold out0_3
  rw [View.canon_unit_zero hz, View.ld_unit_zero hz, View.ld_unit_zero hz, View.ld_unit_zero hz]
  simp only [k0_pay1, pointwise, zero_add]

variable (m : (ℓ : Loc nD τ sig) → Buf (Elt Ideal) ℓ) (ρ : Dev nD → PrngReg)

/-- The host's rounding of an operand is the operand itself. -/
theorem V0 (c : Dev nD) : V m c main_v0 = m ((c : Thread nD τ).loc main_arg1) := by
  unfold V; after_results; rfl
theorem V1 (c : Dev nD) : V m c main_v1 = m ((c : Thread nD τ).loc main_arg0) := by
  unfold V; after_results; rfl

/-- How the operands' blocks move with the result's. -/
theorem idx : ∀ t : Fin cfg0.N, win0_0.index t (0 : Fin 2) = win0_3.index t (0 : Fin 2) ∧ win0_0.index t (1 : Fin 2) = 0
    ∧ win0_1.index t (0 : Fin 2) = win0_3.index t (1 : Fin 2) ∧ win0_1.index t (1 : Fin 2) = 0 :=
  (by decide +kernel : ∀ t : Fin grid0.N, _)
theorem idx_onto : ∀ a : Fin 4, ∀ b : Fin 2, ∃ t : Fin cfg0.N, win0_3.index t (0 : Fin 2) = a.val ∧ win0_3.index t (1 : Fin 2) = b.val :=
  (by decide +kernel : ∀ a : Fin 4, ∀ b : Fin 2, ∃ t : Fin grid0.N, _)

theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  obtain ⟨e0, e1, e2, e3⟩ := idx t
  rw [flushed3]
  funext j
  refine (out_apply _ _ _ j).trans ?_
  show _ = G _ _ _ (((cfg0.win 3).blk t).view.emb j)
  unfold G
  refine congrArg₂ (· + ·) (Finset.sum_congr rfl fun k _ => ?_) ?_
  rotate_left
  · show V m c main_arg2 (((cfg0.win 2).blk t).view.emb j) = _
    rw [V_main_arg2]
    rfl
  show HMul.hMul (α := EReal) (β := EReal) (γ := EReal) (V m c main_v0 (((cfg0.win 0).blk t).view.emb _))
    (V m c main_v1 (((cfg0.win 1).blk t).view.emb _)) = _
  rw [V0, V1]
  congr 1
  · congr 1; funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 2816 + 1 * k.val = k.val; omega
  · congr 1; funext a; apply Fin.ext
    match a with
    | ⟨0, _⟩ => show win0_1.index t (0 : Fin 2) * 512 + 1 * (j 1).val = win0_3.index t (1 : Fin 2) * 512 + 1 * (j 1).val; omega
    | ⟨1, _⟩ => show win0_1.index t (1 : Fin 2) * 2816 + 1 * k.val = k.val; omega

/-- The tiles cover the result. -/
theorem covered (i : S4096x1024.Idx) :
    ∃ t : Fin cfg0.N, (cfg0.win 3).flush t = true ∧ i ∈ ((cfg0.win 3).blk t).view.set := by
  have h0 : (i 0).val < 4096 := (i 0).isLt
  have h1 : (i 1).val < 1024 := (i 1).isLt
  obtain ⟨t, e0, e1⟩ := idx_onto ⟨(i 0).val / 1024, by omega⟩ ⟨(i 1).val / 512, by omega⟩
  refine ⟨t, flush0_3 t, ?_⟩
  have h := ((cfg0.win 3).blk t).view.emb_mem_set (ix2 ⟨(i 0).val % 1024, by omega⟩ ⟨(i 1).val % 512, by omega⟩ : S1024x512.Idx)
  have e : ((cfg0.win 3).blk t).view.emb (ix2 ⟨(i 0).val % 1024, by omega⟩ ⟨(i 1).val % 512, by omega⟩ : S1024x512.Idx) = i := by
    funext a; apply Fin.ext
    match a with
    | ⟨0, _⟩ => show win0_3.index t (0 : Fin 2) * 1024 + 1 * ((i 0).val % 1024) = (i 0).val; rw [e0]; show (i 0).val / 1024 * 1024 + _ = _; omega
    | ⟨1, _⟩ => show win0_3.index t (1 : Fin 2) * 512 + 1 * ((i 1).val % 512) = (i 1).val; rw [e1]; show (i 1).val / 512 * 512 + _ = _; omega
  rwa [e] at h

theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) covered

/-- The reference's product is the same sum. -/
theorem ref_eq (w : FVec Ideal S1024x2816 .f32) (d : FVec Ideal S4096x2816 .f32) (p : FVec Ideal S4096x1024 .f32) :
    Cert.Reference5Ideal.Read.val_main_v3 (F := Ideal) w d p = G w d p := by
  funext j
  rw [Cert.Reference5Ideal.Read.val_main_v3_apply, Cert.Reference5Ideal.Read.val_main_v2_apply]
  unfold G
  refine congrArg (· + p j) (Finset.sum_congr rfl fun k _ => ?_)
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The call and the gradient of the product with respect to its left factor, with the other part, end with equal results. -/
theorem algebraic : Cert.algebraic_Kernel5Ideal_Reference5Ideal := by
  intro m g m' g' _ hm
  refine ⟨fun c => G (m ((c : Thread nD τ).loc main_arg0)) (m ((c : Thread nD τ).loc main_arg1)) (m ((c : Thread nD τ).loc main_arg2)), ?_, ?_⟩
  · exact (θ_run defs _ _).mono (fun r h c => ⟨(h c).1.trans (final m c), (h c).2⟩) (run_blocks m g)
  · refine (θ_run Cert.Reference5Ideal.defs _ _).mono (fun r h c => ⟨(h c).1.trans ?_, (h c).2⟩) (Cert.Reference5Ideal.Value.run m' g')
    rw [(hm c).1, (hm c).2.1, (hm c).2.2]
    exact ref_eq _ _ _

end Cert.Proof.DhAdd

end
-- ==== Proof.MixDwpg.lean ====
/- `mix_dwpg`, the gradient of the mixer's combined input and gate weight: the result array of the grid of tiles is one
   whole product, the left operand transposed, and so is the reference's. -/
module

public import proofs.«01_k».proof.Defs
public import proofs.«01_k».proof.Proof.Arith
public import proofs.«01_k».proof.Proof.Gen.Kernel6Ideal.Value
public import proofs.«01_k».proof.Proof.Gen.Reference6Ideal.Read
public import Idealize.ShloMosaic.Lib.Pointwise

@[expose] public section

noncomputable section

namespace Cert.Proof.MixDwpg

open Cert.Kernel6Ideal Cert.Kernel6Ideal.Gen Cert.Kernel6Ideal.Value Idealize.ShloMosaic Idealize.ShloMosaic.TcCoe Idealize.SL.Sem

/-- The whole result, entry by entry. -/
def G (h : FVec Ideal S4096x1024 .f32) (dpg : FVec Ideal S4096x6656 .f32) : FVec Ideal S1024x6656 .bf16 :=
  fun j => ∑ k : Fin 4096, h (ix2 k (j 0)) * dpg (ix2 k (j 1))

theorem hz : (![0, 0] : Fin 2 → Nat) = fun _ => 0 := funext fun a => by fin_cases a <;> rfl

/-- What one grid point writes: its tile of the result. -/
theorem out_apply (x0 : Vec Ideal S4096x1024 .bf16) (x1 : Vec Ideal S4096x512 .bf16) (j : S1024x512.Idx) :
    out0_2 x0 x1 j = ∑ k : Fin 4096, x0 (ix2 k (j 0)) * x1 (ix2 k (j 1)) := by
  unfold out0_2
  rw [View.canon_unit_zero hz, View.ld_unit_zero hz, View.ld_unit_zero hz]
  simp only [k0_pay1, pointwise, zero_add]

variable (m : (ℓ : Loc nD τ sig) → Buf (Elt Ideal) ℓ) (ρ : Dev nD → PrngReg)

/-- The operands the call takes are the arguments: the host's rounding is the identity over the extended reals. -/
theorem V0 (c : Dev nD) : V m c main_v0 = m ((c : Thread nD τ).loc main_arg0) := by
  unfold V; after_results; rfl
theorem V1 (c : Dev nD) : V m c main_v1 = m ((c : Thread nD τ).loc main_arg1) := by
  unfold V; after_results; rfl

/-- How the operands' blocks move with the result's. -/
theorem idx : ∀ t : Fin cfg0.N, win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)
theorem idx_onto : ∀ a : Fin 1, ∀ b : Fin 13, ∃ t : Fin cfg0.N, win0_2.index t (0 : Fin 2) = a.val ∧ win0_2.index t (1 : Fin 2) = b.val :=
  (by decide +kernel : ∀ a : Fin 1, ∀ b : Fin 13, ∃ t : Fin grid0.N, _)

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨e0, e1, e2, e3⟩ := idx t
  rw [flushed2]
  funext j
  refine (out_apply _ _ j).trans ?_
  show _ = G _ _ (((cfg0.win 2).blk t).view.emb j)
  unfold G
  refine Finset.sum_congr rfl fun k _ => ?_
  show HMul.hMul (α := EReal) (β := EReal) (γ := EReal) (V m c main_v0 (((cfg0.win 0).blk t).view.emb _))
    (V m c main_v1 (((cfg0.win 1).blk t).view.emb _)) = _
  rw [V0, V1]
  congr 1
  · congr 1; funext a; apply Fin.ext
    match a with
    | ⟨0, _⟩ => show win0_0.index t (0 : Fin 2) * 4096 + 1 * k.val = k.val; omega
    | ⟨1, _⟩ => show win0_0.index t (1 : Fin 2) * 1024 + 1 * (j 0).val = win0_2.index t (0 : Fin 2) * 1024 + 1 * (j 0).val; omega
  · congr 1; funext a; apply Fin.ext
    match a with
    | ⟨0, _⟩ => show win0_1.index t (0 : Fin 2) * 4096 + 1 * k.val = k.val; omega
    | ⟨1, _⟩ => show win0_1.index t (1 : Fin 2) * 512 + 1 * (j 1).val = win0_2.index t (1 : Fin 2) * 512 + 1 * (j 1).val; omega

/-- The tiles cover the result. -/
theorem covered (i : S1024x6656.Idx) :
    ∃ t : Fin cfg0.N, (cfg0.win 2).flush t = true ∧ i ∈ ((cfg0.win 2).blk t).view.set := by
  have h0 : (i 0).val < 1024 := (i 0).isLt
  have h1 : (i 1).val < 6656 := (i 1).isLt
  obtain ⟨t, e0, e1⟩ := idx_onto ⟨(i 0).val / 1024, by omega⟩ ⟨(i 1).val / 512, by omega⟩
  refine ⟨t, flush0_2 t, ?_⟩
  have h := ((cfg0.win 2).blk t).view.emb_mem_set (ix2 ⟨(i 0).val % 1024, by omega⟩ ⟨(i 1).val % 512, by omega⟩ : S1024x512.Idx)
  have e : ((cfg0.win 2).blk t).view.emb (ix2 ⟨(i 0).val % 1024, by omega⟩ ⟨(i 1).val % 512, by omega⟩ : S1024x512.Idx) = i := by
    funext a; apply Fin.ext
    match a with
    | ⟨0, _⟩ => show win0_2.index t (0 : Fin 2) * 1024 + 1 * ((i 0).val % 1024) = (i 0).val; rw [e0]; show (i 0).val / 1024 * 1024 + _ = _; omega
    | ⟨1, _⟩ => show win0_2.index t (1 : Fin 2) * 512 + 1 * ((i 1).val % 512) = (i 1).val; rw [e1]; show (i 1).val / 512 * 512 + _ = _; omega
  rwa [e] at h

theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) covered

/-- The reference's product is the same sum, its factors in the other order. -/
theorem ref_eq (h : FVec Ideal S4096x1024 .f32) (dpg : FVec Ideal S4096x6656 .f32) :
    Cert.Reference6Ideal.Read.val_main_v4 (F := Ideal) h dpg = G h dpg := by
  funext j
  rw [Cert.Reference6Ideal.Read.val_main_v4_apply, Cert.Reference6Ideal.Read.val_main_v3_apply, Cert.Reference6Ideal.Read.val_main_v2_apply]
  show (∑ k, _) = _
  unfold G
  refine Finset.sum_congr rfl fun k _ => ?_
  rw [mul_comm]
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The call and its reference end with equal results. -/
theorem algebraic : Cert.algebraic_Kernel6Ideal_Reference6Ideal := by
  intro m g m' g' _ hm
  refine ⟨fun c => G (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference6Ideal.defs _ _).mono (fun r h c => ⟨(h c).1.trans ?_, (h c).2⟩) (Cert.Reference6Ideal.Value.run m' g')
    rw [(hm c).1, (hm c).2]
    exact ref_eq _ _

end Cert.Proof.MixDwpg

end
-- ==== Proof.MixDh.lean ====
/- `mix_dh`, the gradient of the mixer's normalised input: the result array of the grid of tiles is one
   whole product, the right operand transposed, and so is the reference's. -/
module

public import proofs.«01_k».proof.Defs
public import proofs.«01_k».proof.Proof.Arith
public import proofs.«01_k».proof.Proof.Gen.Kernel7Ideal.Value
public import proofs.«01_k».proof.Proof.Gen.Reference7Ideal.Read
public import Idealize.ShloMosaic.Lib.Pointwise

@[expose] public section

set_option maxRecDepth 8000

noncomputable section

namespace Cert.Proof.MixDh

open Cert.Kernel7Ideal Cert.Kernel7Ideal.Gen Cert.Kernel7Ideal.Value Idealize.ShloMosaic Idealize.ShloMosaic.TcCoe Idealize.SL.Sem

/-- The whole result, entry by entry. -/
def G (w_pg : FVec Ideal S1024x6656 .f32) (dpg : FVec Ideal S4096x6656 .f32) : FVec Ideal S4096x1024 .f32 :=
  fun j => ∑ k : Fin 6656, dpg (ix2 (j 0) k) * w_pg (ix2 (j 1) k)

theorem hz : (![0, 0] : Fin 2 → Nat) = fun _ => 0 := funext fun a => by fin_cases a <;> rfl

/-- What one grid point writes: its tile of the result. -/
theorem out_apply (x0 : Vec Ideal S1024x6656 .bf16) (x1 : Vec Ideal S256x6656 .bf16) (j : S1024x256.Idx) :
    out0_2 x0 x1 j = ∑ k : Fin 6656, x0 (ix2 (j 0) k) * x1 (ix2 (j 1) k) := by
  unfold out0_2
  rw [View.canon_unit_zero hz, View.ld_unit_zero hz, View.ld_unit_zero hz]
  simp only [k0_pay1, pointwise, zero_add]

variable (m : (ℓ : Loc nD τ sig) → Buf (Elt Ideal) ℓ) (ρ : Dev nD → PrngReg)

/-- The operands the call takes are the arguments: the host's rounding is the identity over the extended reals. -/
theorem V0 (c : Dev nD) : V m c main_v0 = m ((c : Thread nD τ).loc main_arg1) := by
  unfold V; after_results; rfl
theorem V1 (c : Dev nD) : V m c main_v1 = m ((c : Thread nD τ).loc main_arg0) := by
  unfold V; after_results; rfl

/-- How the operands' blocks move with the result's. -/
theorem idx : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)
theorem idx_onto : ∀ a : Fin 4, ∀ b : Fin 4, ∃ t : Fin cfg0.N, win0_2.index t (0 : Fin 2) = a.val ∧ win0_2.index t (1 : Fin 2) = b.val :=
  (by decide +kernel : ∀ a : Fin 4, ∀ b : Fin 4, ∃ t : Fin grid0.N, _)

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨e0, e1, e2, e3⟩ := idx t
  rw [flushed2]
  funext j
  refine (out_apply _ _ j).trans ?_
  show _ = G _ _ (((cfg0.win 2).blk t).view.emb j)
  unfold G
  refine Finset.sum_congr rfl fun k _ => ?_
  show HMul.hMul (α := EReal) (β := EReal) (γ := EReal) (V m c main_v0 (((cfg0.win 0).blk t).view.emb _))
    (V m c main_v1 (((cfg0.win 1).blk t).view.emb _)) = _
  rw [V0, V1]
  congr 1
  · congr 1; funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 6656 + 1 * k.val = k.val; omega
  · congr 1; funext a; apply Fin.ext
    match a with
    | ⟨0, _⟩ => show win0_1.index t (0 : Fin 2) * 256 + 1 * (j 1).val = win0_2.index t (1 : Fin 2) * 256 + 1 * (j 1).val; omega
    | ⟨1, _⟩ => show win0_1.index t (1 : Fin 2) * 6656 + 1 * k.val = k.val; omega

/-- The tiles cover the result. -/
theorem covered (i : S4096x1024.Idx) :
    ∃ t : Fin cfg0.N, (cfg0.win 2).flush t = true ∧ i ∈ ((cfg0.win 2).blk t).view.set := by
  have h0 : (i 0).val < 4096 := (i 0).isLt
  have h1 : (i 1).val < 1024 := (i 1).isLt
  obtain ⟨t, e0, e1⟩ := idx_onto ⟨(i 0).val / 1024, by omega⟩ ⟨(i 1).val / 256, by omega⟩
  refine ⟨t, flush0_2 t, ?_⟩
  have h := ((cfg0.win 2).blk t).view.emb_mem_set (ix2 ⟨(i 0).val % 1024, by omega⟩ ⟨(i 1).val % 256, by omega⟩ : S1024x256.Idx)
  have e : ((cfg0.win 2).blk t).view.emb (ix2 ⟨(i 0).val % 1024, by omega⟩ ⟨(i 1).val % 256, by omega⟩ : S1024x256.Idx) = i := by
    funext a; apply Fin.ext
    match a with
    | ⟨0, _⟩ => show win0_2.index t (0 : Fin 2) * 1024 + 1 * ((i 0).val % 1024) = (i 0).val; rw [e0]; show (i 0).val / 1024 * 1024 + _ = _; omega
    | ⟨1, _⟩ => show win0_2.index t (1 : Fin 2) * 256 + 1 * ((i 1).val % 256) = (i 1).val; rw [e1]; show (i 1).val / 256 * 256 + _ = _; omega
  rwa [e] at h

theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) covered

/-- The reference's product is the same sum, its factors in the same order. -/
theorem ref_eq (w_pg : FVec Ideal S1024x6656 .f32) (dpg : FVec Ideal S4096x6656 .f32) :
    Cert.Reference7Ideal.Read.val_main_v2 (F := Ideal) w_pg dpg = G w_pg dpg := by
  funext j
  rw [Cert.Reference7Ideal.Read.val_main_v2_apply]
  unfold G
  refine Finset.sum_congr rfl fun k _ => ?_
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The call and its reference end with equal results. -/
theorem algebraic : Cert.algebraic_Kernel7Ideal_Reference7Ideal := by
  intro m g m' g' _ hm
  refine ⟨fun c => G (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference7Ideal.defs _ _).mono (fun r h c => ⟨(h c).1.trans ?_, (h c).2⟩) (Cert.Reference7Ideal.Value.run m' g')
    rw [(hm c).1, (hm c).2]
    exact ref_eq _ _

end Cert.Proof.MixDh

end
-- ==== Proof.MixDwout.lean ====
/- `mix_dwout`, the gradient of the mixer's output weight: the result array of the grid of tiles is one
   whole product, the left operand transposed, and so is the reference's. -/
module

public import proofs.«01_k».proof.Defs
public import proofs.«01_k».proof.Proof.Arith
public import proofs.«01_k».proof.Proof.Gen.Kernel8Ideal.Value
public import proofs.«01_k».proof.Proof.Gen.Reference8Ideal.Read
public import Idealize.ShloMosaic.Lib.Pointwise

@[expose] public section

noncomputable section

namespace Cert.Proof.MixDwout

open Cert.Kernel8Ideal Cert.Kernel8Ideal.Gen Cert.Kernel8Ideal.Value Idealize.ShloMosaic Idealize.ShloMosaic.TcCoe Idealize.SL.Sem

/-- The whole result, entry by entry. -/
def G (merged : FVec Ideal S4096x1024 .f32) (dx_out : FVec Ideal S4096x1024 .f32) : FVec Ideal S1024x1024 .bf16 :=
  fun j => ∑ k : Fin 4096, merged (ix2 k (j 0)) * dx_out (ix2 k (j 1))

theorem hz : (![0, 0] : Fin 2 → Nat) = fun _ => 0 := funext fun a => by fin_cases a <;> rfl

/-- What one grid point writes: its tile of the result. -/
theorem out_apply (x0 : Vec Ideal S4096x1024 .bf16) (x1 : Vec Ideal S4096x512 .f32) (j : S1024x512.Idx) :
    out0_2 x0 x1 j = ∑ k : Fin 4096, x0 (ix2 k (j 0)) * x1 (ix2 k (j 1)) := by
  unfold out0_2
  rw [View.canon_unit_zero hz, View.ld_unit_zero hz, View.ld_unit_zero hz]
  simp only [k0_pay1, pointwise, zero_add]

variable (m : (ℓ : Loc nD τ sig) → Buf (Elt Ideal) ℓ) (ρ : Dev nD → PrngReg)

/-- The operands the call takes are the arguments: the host's rounding is the identity over the extended reals. -/
theorem V0 (c : Dev nD) : V m c main_v0 = m ((c : Thread nD τ).loc main_arg0) := by
  unfold V; after_results; rfl
theorem V1 (c : Dev nD) : V m c main_arg1 = m ((c : Thread nD τ).loc main_arg1) := V_main_arg1 m c

/-- How the operands' blocks move with the result's. -/
theorem idx : ∀ t : Fin cfg0.N, win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)
theorem idx_onto : ∀ a : Fin 1, ∀ b : Fin 2, ∃ t : Fin cfg0.N, win0_2.index t (0 : Fin 2) = a.val ∧ win0_2.index t (1 : Fin 2) = b.val :=
  (by decide +kernel : ∀ a : Fin 1, ∀ b : Fin 2, ∃ t : Fin grid0.N, _)

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨e0, e1, e2, e3⟩ := idx t
  rw [flushed2]
  funext j
  refine (out_apply _ _ j).trans ?_
  show _ = G _ _ (((cfg0.win 2).blk t).view.emb j)
  unfold G
  refine Finset.sum_congr rfl fun k _ => ?_
  show HMul.hMul (α := EReal) (β := EReal) (γ := EReal) (V m c main_v0 (((cfg0.win 0).blk t).view.emb _))
    (V m c main_arg1 (((cfg0.win 1).blk t).view.emb _)) = _
  rw [V0, V1]
  congr 1
  · congr 1; funext a; apply Fin.ext
    match a with
    | ⟨0, _⟩ => show win0_0.index t (0 : Fin 2) * 4096 + 1 * k.val = k.val; omega
    | ⟨1, _⟩ => show win0_0.index t (1 : Fin 2) * 1024 + 1 * (j 0).val = win0_2.index t (0 : Fin 2) * 1024 + 1 * (j 0).val; omega
  · congr 1; funext a; apply Fin.ext
    match a with
    | ⟨0, _⟩ => show win0_1.index t (0 : Fin 2) * 4096 + 1 * k.val = k.val; omega
    | ⟨1, _⟩ => show win0_1.index t (1 : Fin 2) * 512 + 1 * (j 1).val = win0_2.index t (1 : Fin 2) * 512 + 1 * (j 1).val; omega

/-- The tiles cover the result. -/
theorem covered (i : S1024x1024.Idx) :
    ∃ t : Fin cfg0.N, (cfg0.win 2).flush t = true ∧ i ∈ ((cfg0.win 2).blk t).view.set := by
  have h0 : (i 0).val < 1024 := (i 0).isLt
  have h1 : (i 1).val < 1024 := (i 1).isLt
  obtain ⟨t, e0, e1⟩ := idx_onto ⟨(i 0).val / 1024, by omega⟩ ⟨(i 1).val / 512, by omega⟩
  refine ⟨t, flush0_2 t, ?_⟩
  have h := ((cfg0.win 2).blk t).view.emb_mem_set (ix2 ⟨(i 0).val % 1024, by omega⟩ ⟨(i 1).val % 512, by omega⟩ : S1024x512.Idx)
  have e : ((cfg0.win 2).blk t).view.emb (ix2 ⟨(i 0).val % 1024, by omega⟩ ⟨(i 1).val % 512, by omega⟩ : S1024x512.Idx) = i := by
    funext a; apply Fin.ext
    match a with
    | ⟨0, _⟩ => show win0_2.index t (0 : Fin 2) * 1024 + 1 * ((i 0).val % 1024) = (i 0).val; rw [e0]; show (i 0).val / 1024 * 1024 + _ = _; omega
    | ⟨1, _⟩ => show win0_2.index t (1 : Fin 2) * 512 + 1 * ((i 1).val % 512) = (i 1).val; rw [e1]; show (i 1).val / 512 * 512 + _ = _; omega
  rwa [e] at h

theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) covered

/-- The reference's product is the same sum, its factors in the other order. -/
theorem ref_eq (merged : FVec Ideal S4096x1024 .f32) (dx_out : FVec Ideal S4096x1024 .f32) :
    Cert.Reference8Ideal.Read.val_main_v4 (F := Ideal) merged dx_out = G merged dx_out := by
  funext j
  rw [Cert.Reference8Ideal.Read.val_main_v4_apply, Cert.Reference8Ideal.Read.val_main_v3_apply, Cert.Reference8Ideal.Read.val_main_v2_apply]
  show (∑ k, _) = _
  unfold G
  refine Finset.sum_congr rfl fun k _ => ?_
  rw [mul_comm]
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The call and its reference end with equal results. -/
theorem algebraic : Cert.algebraic_Kernel8Ideal_Reference8Ideal := by
  intro m g m' g' _ hm
  refine ⟨fun c => G (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference8Ideal.defs _ _).mono (fun r h c => ⟨(h c).1.trans ?_, (h c).2⟩) (Cert.Reference8Ideal.Value.run m' g')
    rw [(hm c).1, (hm c).2]
    exact ref_eq _ _

end Cert.Proof.MixDwout

end
-- ==== Proof.MixDmerged.lean ====
/- `mix_dmerged`, the gradient of the merged branches: the result array of the grid of tiles is one
   whole product, the right operand transposed, and so is the reference's. -/
module

public import proofs.«01_k».proof.Defs
public import proofs.«01_k».proof.Proof.Arith
public import proofs.«01_k».proof.Proof.Gen.Kernel9Ideal.Value
public import proofs.«01_k».proof.Proof.Gen.Reference9Ideal.Read
public import Idealize.ShloMosaic.Lib.Pointwise

@[expose] public section

noncomputable section

namespace Cert.Proof.MixDmerged

open Cert.Kernel9Ideal Cert.Kernel9Ideal.Gen Cert.Kernel9Ideal.Value Idealize.ShloMosaic Idealize.ShloMosaic.TcCoe Idealize.SL.Sem

/-- The whole result, entry by entry. -/
def G (w_out : FVec Ideal S1024x1024 .f32) (dx_out : FVec Ideal S4096x1024 .f32) : FVec Ideal S4096x1024 .f32 :=
  fun j => ∑ k : Fin 1024, dx_out (ix2 (j 0) k) * w_out (ix2 (j 1) k)

theorem hz : (![0, 0] : Fin 2 → Nat) = fun _ => 0 := funext fun a => by fin_cases a <;> rfl

/-- What one grid point writes: its tile of the result. -/
theorem out_apply (x0 : Vec Ideal S1024x1024 .f32) (x1 : Vec Ideal S512x1024 .bf16) (j : S1024x512.Idx) :
    out0_2 x0 x1 j = ∑ k : Fin 1024, x0 (ix2 (j 0) k) * x1 (ix2 (j 1) k) := by
  unfold out0_2
  rw [View.canon_unit_zero hz, View.ld_unit_zero hz, View.ld_unit_zero hz]
  simp only [k0_pay1, pointwise, zero_add]

variable (m : (ℓ : Loc nD τ sig) → Buf (Elt Ideal) ℓ) (ρ : Dev nD → PrngReg)

/-- The operands the call takes are the arguments: the host's rounding is the identity over the extended reals. -/
theorem V0 (c : Dev nD) : V m c main_arg1 = m ((c : Thread nD τ).loc main_arg1) := V_main_arg1 m c
theorem V1 (c : Dev nD) : V m c main_v0 = m ((c : Thread nD τ).loc main_arg0) := by
  unfold V; after_results; rfl

/-- How the operands' blocks move with the result's. -/
theorem idx : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)
theorem idx_onto : ∀ a : Fin 4, ∀ b : Fin 2, ∃ t : Fin cfg0.N, win0_2.index t (0 : Fin 2) = a.val ∧ win0_2.index t (1 : Fin 2) = b.val :=
  (by decide +kernel : ∀ a : Fin 4, ∀ b : Fin 2, ∃ t : Fin grid0.N, _)

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨e0, e1, e2, e3⟩ := idx t
  rw [flushed2]
  funext j
  refine (out_apply _ _ j).trans ?_
  show _ = G _ _ (((cfg0.win 2).blk t).view.emb j)
  unfold G
  refine Finset.sum_congr rfl fun k _ => ?_
  show HMul.hMul (α := EReal) (β := EReal) (γ := EReal) (V m c main_arg1 (((cfg0.win 0).blk t).view.emb _))
    (V m c main_v0 (((cfg0.win 1).blk t).view.emb _)) = _
  rw [V0, V1]
  congr 1
  · congr 1; funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * k.val = k.val; omega
  · congr 1; funext a; apply Fin.ext
    match a with
    | ⟨0, _⟩ => show win0_1.index t (0 : Fin 2) * 512 + 1 * (j 1).val = win0_2.index t (1 : Fin 2) * 512 + 1 * (j 1).val; omega
    | ⟨1, _⟩ => show win0_1.index t (1 : Fin 2) * 1024 + 1 * k.val = k.val; omega

/-- The tiles cover the result. -/
theorem covered (i : S4096x1024.Idx) :
    ∃ t : Fin cfg0.N, (cfg0.win 2).flush t = true ∧ i ∈ ((cfg0.win 2).blk t).view.set := by
  have h0 : (i 0).val < 4096 := (i 0).isLt
  have h1 : (i 1).val < 1024 := (i 1).isLt
  obtain ⟨t, e0, e1⟩ := idx_onto ⟨(i 0).val / 1024, by omega⟩ ⟨(i 1).val / 512, by omega⟩
  refine ⟨t, flush0_2 t, ?_⟩
  have h := ((cfg0.win 2).blk t).view.emb_mem_set (ix2 ⟨(i 0).val % 1024, by omega⟩ ⟨(i 1).val % 512, by omega⟩ : S1024x512.Idx)
  have e : ((cfg0.win 2).blk t).view.emb (ix2 ⟨(i 0).val % 1024, by omega⟩ ⟨(i 1).val % 512, by omega⟩ : S1024x512.Idx) = i := by
    funext a; apply Fin.ext
    match a with
    | ⟨0, _⟩ => show win0_2.index t (0 : Fin 2) * 1024 + 1 * ((i 0).val % 1024) = (i 0).val; rw [e0]; show (i 0).val / 1024 * 1024 + _ = _; omega
    | ⟨1, _⟩ => show win0_2.index t (1 : Fin 2) * 512 + 1 * ((i 1).val % 512) = (i 1).val; rw [e1]; show (i 1).val / 512 * 512 + _ = _; omega
  rwa [e] at h

theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) covered

/-- The reference's product is the same sum, its factors in the same order. -/
theorem ref_eq (w_out : FVec Ideal S1024x1024 .f32) (dx_out : FVec Ideal S4096x1024 .f32) :
    Cert.Reference9Ideal.Read.val_main_v2 (F := Ideal) w_out dx_out = G w_out dx_out := by
  funext j
  rw [Cert.Reference9Ideal.Read.val_main_v2_apply]
  unfold G
  refine Finset.sum_congr rfl fun k _ => ?_
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The call and its reference end with equal results. -/
theorem algebraic : Cert.algebraic_Kernel9Ideal_Reference9Ideal := by
  intro m g m' g' _ hm
  refine ⟨fun c => G (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference9Ideal.defs _ _).mono (fun r h c => ⟨(h c).1.trans ?_, (h c).2⟩) (Cert.Reference9Ideal.Value.run m' g')
    rw [(hm c).1, (hm c).2]
    exact ref_eq _ _

end Cert.Proof.MixDmerged

end
-- ==== Proof.MixDwbranch.lean ====
/- `mix_dwbranch`, the gradient of a branch's output weight (the three branches: the same call): the result array of the grid of tiles is one
   whole product, the left operand transposed, and so is the reference's. -/
module

public import proofs.«01_k».proof.Defs
public import proofs.«01_k».proof.Proof.Arith
public import proofs.«01_k».proof.Proof.Gen.Kernel10Ideal.Value
public import proofs.«01_k».proof.Proof.Gen.Reference10Ideal.Read
public import Idealize.ShloMosaic.Lib.Pointwise

@[expose] public section

noncomputable section

namespace Cert.Proof.MixDwbranch

open Cert.Kernel10Ideal Cert.Kernel10Ideal.Gen Cert.Kernel10Ideal.Value Idealize.ShloMosaic Idealize.ShloMosaic.TcCoe Idealize.SL.Sem

/-- The whole result, entry by entry. -/
def G (y : FVec Ideal S4096x512 .f32) (dbr : FVec Ideal S4096x1024 .f32) : FVec Ideal S512x1024 .bf16 :=
  fun j => ∑ k : Fin 4096, y (ix2 k (j 0)) * dbr (ix2 k (j 1))

theorem hz : (![0, 0] : Fin 2 → Nat) = fun _ => 0 := funext fun a => by fin_cases a <;> rfl

/-- What one grid point writes: its tile of the result. -/
theorem out_apply (x0 : Vec Ideal S4096x512 .bf16) (x1 : Vec Ideal S4096x512 .bf16) (j : S512x512.Idx) :
    out0_2 x0 x1 j = ∑ k : Fin 4096, x0 (ix2 k (j 0)) * x1 (ix2 k (j 1)) := by
  unfold out0_2
  rw [View.canon_unit_zero hz, View.ld_unit_zero hz, View.ld_unit_zero hz]
  simp only [k0_pay1, pointwise, zero_add]

variable (m : (ℓ : Loc nD τ sig) → Buf (Elt Ideal) ℓ) (ρ : Dev nD → PrngReg)

/-- The operands the call takes are the arguments: the host's rounding is the identity over the extended reals. -/
theorem V0 (c : Dev nD) : V m c main_v0 = m ((c : Thread nD τ).loc main_arg0) := by
  unfold V; after_results; rfl
theorem V1 (c : Dev nD) : V m c main_v1 = m ((c : Thread nD τ).loc main_arg1) := by
  unfold V; after_results; rfl

/-- How the operands' blocks move with the result's. -/
theorem idx : ∀ t : Fin cfg0.N, win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)
theorem idx_onto : ∀ a : Fin 1, ∀ b : Fin 2, ∃ t : Fin cfg0.N, win0_2.index t (0 : Fin 2) = a.val ∧ win0_2.index t (1 : Fin 2) = b.val :=
  (by decide +kernel : ∀ a : Fin 1, ∀ b : Fin 2, ∃ t : Fin grid0.N, _)

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨e0, e1, e2, e3⟩ := idx t
  rw [flushed2]
  funext j
  refine (out_apply _ _ j).trans ?_
  show _ = G _ _ (((cfg0.win 2).blk t).view.emb j)
  unfold G
  refine Finset.sum_congr rfl fun k _ => ?_
  show HMul.hMul (α := EReal) (β := EReal) (γ := EReal) (V m c main_v0 (((cfg0.win 0).blk t).view.emb _))
    (V m c main_v1 (((cfg0.win 1).blk t).view.emb _)) = _
  rw [V0, V1]
  congr 1
  · congr 1; funext a; apply Fin.ext
    match a with
    | ⟨0, _⟩ => show win0_0.index t (0 : Fin 2) * 4096 + 1 * k.val = k.val; omega
    | ⟨1, _⟩ => show win0_0.index t (1 : Fin 2) * 512 + 1 * (j 0).val = win0_2.index t (0 : Fin 2) * 512 + 1 * (j 0).val; omega
  · congr 1; funext a; apply Fin.ext
    match a with
    | ⟨0, _⟩ => show win0_1.index t (0 : Fin 2) * 4096 + 1 * k.val = k.val; omega
    | ⟨1, _⟩ => show win0_1.index t (1 : Fin 2) * 512 + 1 * (j 1).val = win0_2.index t (1 : Fin 2) * 512 + 1 * (j 1).val; omega

/-- The tiles cover the result. -/
theorem covered (i : S512x1024.Idx) :
    ∃ t : Fin cfg0.N, (cfg0.win 2).flush t = true ∧ i ∈ ((cfg0.win 2).blk t).view.set := by
  have h0 : (i 0).val < 512 := (i 0).isLt
  have h1 : (i 1).val < 1024 := (i 1).isLt
  obtain ⟨t, e0, e1⟩ := idx_onto ⟨(i 0).val / 512, by omega⟩ ⟨(i 1).val / 512, by omega⟩
  refine ⟨t, flush0_2 t, ?_⟩
  have h := ((cfg0.win 2).blk t).view.emb_mem_set (ix2 ⟨(i 0).val % 512, by omega⟩ ⟨(i 1).val % 512, by omega⟩ : S512x512.Idx)
  have e : ((cfg0.win 2).blk t).view.emb (ix2 ⟨(i 0).val % 512, by omega⟩ ⟨(i 1).val % 512, by omega⟩ : S512x512.Idx) = i := by
    funext a; apply Fin.ext
    match a with
    | ⟨0, _⟩ => show win0_2.index t (0 : Fin 2) * 512 + 1 * ((i 0).val % 512) = (i 0).val; rw [e0]; show (i 0).val / 512 * 512 + _ = _; omega
    | ⟨1, _⟩ => show win0_2.index t (1 : Fin 2) * 512 + 1 * ((i 1).val % 512) = (i 1).val; rw [e1]; show (i 1).val / 512 * 512 + _ = _; omega
  rwa [e] at h

theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) covered

/-- The reference's product is the same sum, its factors in the other order. -/
theorem ref_eq (y : FVec Ideal S4096x512 .f32) (dbr : FVec Ideal S4096x1024 .f32) :
    Cert.Reference10Ideal.Read.val_main_v4 (F := Ideal) y dbr = G y dbr := by
  funext j
  rw [Cert.Reference10Ideal.Read.val_main_v4_apply, Cert.Reference10Ideal.Read.val_main_v3_apply, Cert.Reference10Ideal.Read.val_main_v2_apply]
  show (∑ k, _) = _
  unfold G
  refine Finset.sum_congr rfl fun k _ => ?_
  rw [mul_comm]
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The call and its reference end with equal results. -/
theorem algebraic : Cert.algebraic_Kernel10Ideal_Reference10Ideal := by
  intro m g m' g' _ hm
  refine ⟨fun c => G (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference10Ideal.defs _ _).mono (fun r h c => ⟨(h c).1.trans ?_, (h c).2⟩) (Cert.Reference10Ideal.Value.run m' g')
    rw [(hm c).1, (hm c).2]
    exact ref_eq _ _

end Cert.Proof.MixDwbranch

end
-- ==== Proof.MixDy.lean ====
/- `mix_dy`, the gradient of a branch's output (the three branches: the same call): the result array of the grid of tiles is one
   whole product, the right operand transposed, and so is the reference's. -/
module

public import proofs.«01_k».proof.Defs
public import proofs.«01_k».proof.Proof.Arith
public import proofs.«01_k».proof.Proof.Gen.Kernel11Ideal.Value
public import proofs.«01_k».proof.Proof.Gen.Reference11Ideal.Read
public import Idealize.ShloMosaic.Lib.Pointwise

@[expose] public section

noncomputable section

namespace Cert.Proof.MixDy

open Cert.Kernel11Ideal Cert.Kernel11Ideal.Gen Cert.Kernel11Ideal.Value Idealize.ShloMosaic Idealize.ShloMosaic.TcCoe Idealize.SL.Sem

/-- The whole result, entry by entry. -/
def G (w : FVec Ideal S512x1024 .f32) (dbr : FVec Ideal S4096x1024 .f32) : FVec Ideal S4096x512 .f32 :=
  fun j => ∑ k : Fin 1024, dbr (ix2 (j 0) k) * w (ix2 (j 1) k)

theorem hz : (![0, 0] : Fin 2 → Nat) = fun _ => 0 := funext fun a => by fin_cases a <;> rfl

/-- What one grid point writes: its tile of the result. -/
theorem out_apply (x0 : Vec Ideal S1024x1024 .bf16) (x1 : Vec Ideal S512x1024 .bf16) (j : S1024x512.Idx) :
    out0_2 x0 x1 j = ∑ k : Fin 1024, x0 (ix2 (j 0) k) * x1 (ix2 (j 1) k) := by
  unfold out0_2
  rw [View.canon_unit_zero hz, View.ld_unit_zero hz, View.ld_unit_zero hz]
  simp only [k0_pay1, pointwise, zero_add]

variable (m : (ℓ : Loc nD τ sig) → Buf (Elt Ideal) ℓ) (ρ : Dev nD → PrngReg)

/-- The operands the call takes are the arguments: the host's rounding is the identity over the extended reals. -/
theorem V0 (c : Dev nD) : V m c main_v0 = m ((c : Thread nD τ).loc main_arg1) := by
  unfold V; after_results; rfl
theorem V1 (c : Dev nD) : V m c main_v1 = m ((c : Thread nD τ).loc main_arg0) := by
  unfold V; after_results; rfl

/-- How the operands' blocks move with the result's. -/
theorem idx : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)
theorem idx_onto : ∀ a : Fin 4, ∀ b : Fin 1, ∃ t : Fin cfg0.N, win0_2.index t (0 : Fin 2) = a.val ∧ win0_2.index t (1 : Fin 2) = b.val :=
  (by decide +kernel : ∀ a : Fin 4, ∀ b : Fin 1, ∃ t : Fin grid0.N, _)

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨e0, e1, e2, e3⟩ := idx t
  rw [flushed2]
  funext j
  refine (out_apply _ _ j).trans ?_
  show _ = G _ _ (((cfg0.win 2).blk t).view.emb j)
  unfold G
  refine Finset.sum_congr rfl fun k _ => ?_
  show HMul.hMul (α := EReal) (β := EReal) (γ := EReal) (V m c main_v0 (((cfg0.win 0).blk t).view.emb _))
    (V m c main_v1 (((cfg0.win 1).blk t).view.emb _)) = _
  rw [V0, V1]
  congr 1
  · congr 1; funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * k.val = k.val; omega
  · congr 1; funext a; apply Fin.ext
    match a with
    | ⟨0, _⟩ => show win0_1.index t (0 : Fin 2) * 512 + 1 * (j 1).val = win0_2.index t (1 : Fin 2) * 512 + 1 * (j 1).val; omega
    | ⟨1, _⟩ => show win0_1.index t (1 : Fin 2) * 1024 + 1 * k.val = k.val; omega

/-- The tiles cover the result. -/
theorem covered (i : S4096x512.Idx) :
    ∃ t : Fin cfg0.N, (cfg0.win 2).flush t = true ∧ i ∈ ((cfg0.win 2).blk t).view.set := by
  have h0 : (i 0).val < 4096 := (i 0).isLt
  have h1 : (i 1).val < 512 := (i 1).isLt
  obtain ⟨t, e0, e1⟩ := idx_onto ⟨(i 0).val / 1024, by omega⟩ ⟨(i 1).val / 512, by omega⟩
  refine ⟨t, flush0_2 t, ?_⟩
  have h := ((cfg0.win 2).blk t).view.emb_mem_set (ix2 ⟨(i 0).val % 1024, by omega⟩ ⟨(i 1).val % 512, by omega⟩ : S1024x512.Idx)
  have e : ((cfg0.win 2).blk t).view.emb (ix2 ⟨(i 0).val % 1024, by omega⟩ ⟨(i 1).val % 512, by omega⟩ : S1024x512.Idx) = i := by
    funext a; apply Fin.ext
    match a with
    | ⟨0, _⟩ => show win0_2.index t (0 : Fin 2) * 1024 + 1 * ((i 0).val % 1024) = (i 0).val; rw [e0]; show (i 0).val / 1024 * 1024 + _ = _; omega
    | ⟨1, _⟩ => show win0_2.index t (1 : Fin 2) * 512 + 1 * ((i 1).val % 512) = (i 1).val; rw [e1]; show (i 1).val / 512 * 512 + _ = _; omega
  rwa [e] at h

theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) covered

/-- The reference's product is the same sum, its factors in the same order. -/
theorem ref_eq (w : FVec Ideal S512x1024 .f32) (dbr : FVec Ideal S4096x1024 .f32) :
    Cert.Reference11Ideal.Read.val_main_v2 (F := Ideal) w dbr = G w dbr := by
  funext j
  rw [Cert.Reference11Ideal.Read.val_main_v2_apply]
  unfold G
  refine Finset.sum_congr rfl fun k _ => ?_
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The call and its reference end with equal results. -/
theorem algebraic : Cert.algebraic_Kernel11Ideal_Reference11Ideal := by
  intro m g m' g' _ hm
  refine ⟨fun c => G (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference11Ideal.defs _ _).mono (fun r h c => ⟨(h c).1.trans ?_, (h c).2⟩) (Cert.Reference11Ideal.Value.run m' g')
    rw [(hm c).1, (hm c).2]
    exact ref_eq _ _

end Cert.Proof.MixDy

end
-- ==== Proof.S5Dwglu.lean ====
/- `s5_dwglu`, the gradient of the state space branch's gate weight: the result array of the grid of tiles is one
   whole product, the left operand transposed, and so is the reference's. -/
module

public import proofs.«01_k».proof.Defs
public import proofs.«01_k».proof.Proof.Arith
public import proofs.«01_k».proof.Proof.Gen.Kernel12Ideal.Value
public import proofs.«01_k».proof.Proof.Gen.Reference12Ideal.Read
public import Idealize.ShloMosaic.Lib.Pointwise

@[expose] public section

noncomputable section

namespace Cert.Proof.S5Dwglu

open Cert.Kernel12Ideal Cert.Kernel12Ideal.Gen Cert.Kernel12Ideal.Value Idealize.ShloMosaic Idealize.ShloMosaic.TcCoe Idealize.SL.Sem

/-- The whole result, entry by entry. -/
def G (yg : FVec Ideal S4096x512 .f32) (dt : FVec Ideal S4096x512 .f32) : FVec Ideal S512x512 .bf16 :=
  fun j => ∑ k : Fin 4096, yg (ix2 k (j 0)) * dt (ix2 k (j 1))

theorem hz : (![0, 0] : Fin 2 → Nat) = fun _ => 0 := funext fun a => by fin_cases a <;> rfl

/-- What one grid point writes: its tile of the result. -/
theorem out_apply (x0 : Vec Ideal S4096x512 .f32) (x1 : Vec Ideal S4096x512 .bf16) (j : S512x512.Idx) :
    out0_2 x0 x1 j = ∑ k : Fin 4096, x0 (ix2 k (j 0)) * x1 (ix2 k (j 1)) := by
  unfold out0_2
  rw [View.canon_unit_zero hz, View.ld_unit_zero hz, View.ld_unit_zero hz]
  simp only [k0_pay1, pointwise, zero_add]

variable (m : (ℓ : Loc nD τ sig) → Buf (Elt Ideal) ℓ) (ρ : Dev nD → PrngReg)

/-- The operands the call takes are the arguments: the host's rounding is the identity over the extended reals. -/
theorem V0 (c : Dev nD) : V m c main_arg0 = m ((c : Thread nD τ).loc main_arg0) := V_main_arg0 m c
theorem V1 (c : Dev nD) : V m c main_v0 = m ((c : Thread nD τ).loc main_arg1) := by
  unfold V; after_results; rfl

/-- How the operands' blocks move with the result's. -/
theorem idx : ∀ t : Fin cfg0.N, win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)
theorem idx_onto : ∀ a : Fin 1, ∀ b : Fin 1, ∃ t : Fin cfg0.N, win0_2.index t (0 : Fin 2) = a.val ∧ win0_2.index t (1 : Fin 2) = b.val :=
  (by decide +kernel : ∀ a : Fin 1, ∀ b : Fin 1, ∃ t : Fin grid0.N, _)

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨e0, e1, e2, e3⟩ := idx t
  rw [flushed2]
  funext j
  refine (out_apply _ _ j).trans ?_
  show _ = G _ _ (((cfg0.win 2).blk t).view.emb j)
  unfold G
  refine Finset.sum_congr rfl fun k _ => ?_
  show HMul.hMul (α := EReal) (β := EReal) (γ := EReal) (V m c main_arg0 (((cfg0.win 0).blk t).view.emb _))
    (V m c main_v0 (((cfg0.win 1).blk t).view.emb _)) = _
  rw [V0, V1]
  congr 1
  · congr 1; funext a; apply Fin.ext
    match a with
    | ⟨0, _⟩ => show win0_0.index t (0 : Fin 2) * 4096 + 1 * k.val = k.val; omega
    | ⟨1, _⟩ => show win0_0.index t (1 : Fin 2) * 512 + 1 * (j 0).val = win0_2.index t (0 : Fin 2) * 512 + 1 * (j 0).val; omega
  · congr 1; funext a; apply Fin.ext
    match a with
    | ⟨0, _⟩ => show win0_1.index t (0 : Fin 2) * 4096 + 1 * k.val = k.val; omega
    | ⟨1, _⟩ => show win0_1.index t (1 : Fin 2) * 512 + 1 * (j 1).val = win0_2.index t (1 : Fin 2) * 512 + 1 * (j 1).val; omega

/-- The tiles cover the result. -/
theorem covered (i : S512x512.Idx) :
    ∃ t : Fin cfg0.N, (cfg0.win 2).flush t = true ∧ i ∈ ((cfg0.win 2).blk t).view.set := by
  have h0 : (i 0).val < 512 := (i 0).isLt
  have h1 : (i 1).val < 512 := (i 1).isLt
  obtain ⟨t, e0, e1⟩ := idx_onto ⟨(i 0).val / 512, by omega⟩ ⟨(i 1).val / 512, by omega⟩
  refine ⟨t, flush0_2 t, ?_⟩
  have h := ((cfg0.win 2).blk t).view.emb_mem_set (ix2 ⟨(i 0).val % 512, by omega⟩ ⟨(i 1).val % 512, by omega⟩ : S512x512.Idx)
  have e : ((cfg0.win 2).blk t).view.emb (ix2 ⟨(i 0).val % 512, by omega⟩ ⟨(i 1).val % 512, by omega⟩ : S512x512.Idx) = i := by
    funext a; apply Fin.ext
    match a with
    | ⟨0, _⟩ => show win0_2.index t (0 : Fin 2) * 512 + 1 * ((i 0).val % 512) = (i 0).val; rw [e0]; show (i 0).val / 512 * 512 + _ = _; omega
    | ⟨1, _⟩ => show win0_2.index t (1 : Fin 2) * 512 + 1 * ((i 1).val % 512) = (i 1).val; rw [e1]; show (i 1).val / 512 * 512 + _ = _; omega
  rwa [e] at h

theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) covered

/-- The reference's product is the same sum, its factors in the other order. -/
theorem ref_eq (yg : FVec Ideal S4096x512 .f32) (dt : FVec Ideal S4096x512 .f32) :
    Cert.Reference12Ideal.Read.val_main_v4 (F := Ideal) yg dt = G yg dt := by
  funext j
  rw [Cert.Reference12Ideal.Read.val_main_v4_apply, Cert.Reference12Ideal.Read.val_main_v3_apply, Cert.Reference12Ideal.Read.val_main_v2_apply]
  show (∑ k, _) = _
  unfold G
  refine Finset.sum_congr rfl fun k _ => ?_
  rw [mul_comm]
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The call and its reference end with equal results. -/
theorem algebraic : Cert.algebraic_Kernel12Ideal_Reference12Ideal := by
  intro m g m' g' _ hm
  refine ⟨fun c => G (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference12Ideal.defs _ _).mono (fun r h c => ⟨(h c).1.trans ?_, (h c).2⟩) (Cert.Reference12Ideal.Value.run m' g')
    rw [(hm c).1, (hm c).2]
    exact ref_eq _ _

end Cert.Proof.S5Dwglu

end
-- ==== Proof.S5Dyg.lean ====
/- `s5_dyg`, the gradient of the state space branch's activations through its gate: the result array of the grid of tiles is one
   whole product, the right operand transposed, and so is the reference's. -/
module

public import proofs.«01_k».proof.Defs
public import proofs.«01_k».proof.Proof.Arith
public import proofs.«01_k».proof.Proof.Gen.Kernel13Ideal.Value
public import proofs.«01_k».proof.Proof.Gen.Reference13Ideal.Read
public import Idealize.ShloMosaic.Lib.Pointwise

@[expose] public section

noncomputable section

namespace Cert.Proof.S5Dyg

open Cert.Kernel13Ideal Cert.Kernel13Ideal.Gen Cert.Kernel13Ideal.Value Idealize.ShloMosaic Idealize.ShloMosaic.TcCoe Idealize.SL.Sem

/-- The whole result, entry by entry. -/
def G (w_glu : FVec Ideal S512x512 .f32) (dt : FVec Ideal S4096x512 .f32) : FVec Ideal S4096x512 .f32 :=
  fun j => ∑ k : Fin 512, dt (ix2 (j 0) k) * w_glu (ix2 (j 1) k)

theorem hz : (![0, 0] : Fin 2 → Nat) = fun _ => 0 := funext fun a => by fin_cases a <;> rfl

/-- What one grid point writes: its tile of the result. -/
theorem out_apply (x0 : Vec Ideal S1024x512 .bf16) (x1 : Vec Ideal S512x512 .bf16) (j : S1024x512.Idx) :
    out0_2 x0 x1 j = ∑ k : Fin 512, x0 (ix2 (j 0) k) * x1 (ix2 (j 1) k) := by
  unfold out0_2
  rw [View.canon_unit_zero hz, View.ld_unit_zero hz, View.ld_unit_zero hz]
  simp only [k0_pay1, pointwise, zero_add]

variable (m : (ℓ : Loc nD τ sig) → Buf (Elt Ideal) ℓ) (ρ : Dev nD → PrngReg)

/-- The operands the call takes are the arguments: the host's rounding is the identity over the extended reals. -/
theorem V0 (c : Dev nD) : V m c main_v0 = m ((c : Thread nD τ).loc main_arg1) := by
  unfold V; after_results; rfl
theorem V1 (c : Dev nD) : V m c main_v1 = m ((c : Thread nD τ).loc main_arg0) := by
  unfold V; after_results; rfl

/-- How the operands' blocks move with the result's. -/
theorem idx : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)
theorem idx_onto : ∀ a : Fin 4, ∀ b : Fin 1, ∃ t : Fin cfg0.N, win0_2.index t (0 : Fin 2) = a.val ∧ win0_2.index t (1 : Fin 2) = b.val :=
  (by decide +kernel : ∀ a : Fin 4, ∀ b : Fin 1, ∃ t : Fin grid0.N, _)

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨e0, e1, e2, e3⟩ := idx t
  rw [flushed2]
  funext j
  refine (out_apply _ _ j).trans ?_
  show _ = G _ _ (((cfg0.win 2).blk t).view.emb j)
  unfold G
  refine Finset.sum_congr rfl fun k _ => ?_
  show HMul.hMul (α := EReal) (β := EReal) (γ := EReal) (V m c main_v0 (((cfg0.win 0).blk t).view.emb _))
    (V m c main_v1 (((cfg0.win 1).blk t).view.emb _)) = _
  rw [V0, V1]
  congr 1
  · congr 1; funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 512 + 1 * k.val = k.val; omega
  · congr 1; funext a; apply Fin.ext
    match a with
    | ⟨0, _⟩ => show win0_1.index t (0 : Fin 2) * 512 + 1 * (j 1).val = win0_2.index t (1 : Fin 2) * 512 + 1 * (j 1).val; omega
    | ⟨1, _⟩ => show win0_1.index t (1 : Fin 2) * 512 + 1 * k.val = k.val; omega

/-- The tiles cover the result. -/
theorem covered (i : S4096x512.Idx) :
    ∃ t : Fin cfg0.N, (cfg0.win 2).flush t = true ∧ i ∈ ((cfg0.win 2).blk t).view.set := by
  have h0 : (i 0).val < 4096 := (i 0).isLt
  have h1 : (i 1).val < 512 := (i 1).isLt
  obtain ⟨t, e0, e1⟩ := idx_onto ⟨(i 0).val / 1024, by omega⟩ ⟨(i 1).val / 512, by omega⟩
  refine ⟨t, flush0_2 t, ?_⟩
  have h := ((cfg0.win 2).blk t).view.emb_mem_set (ix2 ⟨(i 0).val % 1024, by omega⟩ ⟨(i 1).val % 512, by omega⟩ : S1024x512.Idx)
  have e : ((cfg0.win 2).blk t).view.emb (ix2 ⟨(i 0).val % 1024, by omega⟩ ⟨(i 1).val % 512, by omega⟩ : S1024x512.Idx) = i := by
    funext a; apply Fin.ext
    match a with
    | ⟨0, _⟩ => show win0_2.index t (0 : Fin 2) * 1024 + 1 * ((i 0).val % 1024) = (i 0).val; rw [e0]; show (i 0).val / 1024 * 1024 + _ = _; omega
    | ⟨1, _⟩ => show win0_2.index t (1 : Fin 2) * 512 + 1 * ((i 1).val % 512) = (i 1).val; rw [e1]; show (i 1).val / 512 * 512 + _ = _; omega
  rwa [e] at h

theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) covered

/-- The reference's product is the same sum, its factors in the same order. -/
theorem ref_eq (w_glu : FVec Ideal S512x512 .f32) (dt : FVec Ideal S4096x512 .f32) :
    Cert.Reference13Ideal.Read.val_main_v2 (F := Ideal) w_glu dt = G w_glu dt := by
  funext j
  rw [Cert.Reference13Ideal.Read.val_main_v2_apply]
  unfold G
  refine Finset.sum_congr rfl fun k _ => ?_
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The call and its reference end with equal results. -/
theorem algebraic : Cert.algebraic_Kernel13Ideal_Reference13Ideal := by
  intro m g m' g' _ hm
  refine ⟨fun c => G (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference13Ideal.defs _ _).mono (fun r h c => ⟨(h c).1.trans ?_, (h c).2⟩) (Cert.Reference13Ideal.Value.run m' g')
    rw [(hm c).1, (hm c).2]
    exact ref_eq _ _

end Cert.Proof.S5Dyg

end
-- ==== Proof.MixIn.lean ====
/- `mix_in`, the mixer's combined input and gate projection: the result array of the grid of tiles is one
   whole product, neither operand transposed, and so is the reference's. -/
module

public import proofs.«01_k».proof.Defs
public import proofs.«01_k».proof.Proof.Arith
public import proofs.«01_k».proof.Proof.Gen.Kernel14Ideal.Value
public import proofs.«01_k».proof.Proof.Gen.Reference14Ideal.Read
public import Idealize.ShloMosaic.Lib.Pointwise

@[expose] public section

noncomputable section

namespace Cert.Proof.MixIn

open Cert.Kernel14Ideal Cert.Kernel14Ideal.Gen Cert.Kernel14Ideal.Value Idealize.ShloMosaic Idealize.ShloMosaic.TcCoe Idealize.SL.Sem

/-- The whole result, entry by entry. -/
def G (h : FVec Ideal S4096x1024 .f32) (w_pg : FVec Ideal S1024x6656 .f32) : FVec Ideal S4096x6656 .f32 :=
  fun j => ∑ k : Fin 1024, h (ix2 (j 0) k) * w_pg (ix2 k (j 1))

theorem hz : (![0, 0] : Fin 2 → Nat) = fun _ => 0 := funext fun a => by fin_cases a <;> rfl

/-- What one grid point writes: its tile of the result. -/
theorem out_apply (x0 : Vec Ideal S1024x1024 .bf16) (x1 : Vec Ideal S1024x1664 .bf16) (j : S1024x1664.Idx) :
    out0_2 x0 x1 j = ∑ k : Fin 1024, x0 (ix2 (j 0) k) * x1 (ix2 k (j 1)) := by
  unfold out0_2
  rw [View.canon_unit_zero hz, View.ld_unit_zero hz, View.ld_unit_zero hz]
  simp only [k0_pay1, pointwise, zero_add]

variable (m : (ℓ : Loc nD τ sig) → Buf (Elt Ideal) ℓ) (ρ : Dev nD → PrngReg)

/-- The operands the call takes are the arguments: the host's rounding is the identity over the extended reals. -/
theorem V0 (c : Dev nD) : V m c main_v0 = m ((c : Thread nD τ).loc main_arg0) := by
  unfold V; after_results; rfl
theorem V1 (c : Dev nD) : V m c main_v1 = m ((c : Thread nD τ).loc main_arg1) := by
  unfold V; after_results; rfl

/-- How the operands' blocks move with the result's. -/
theorem idx : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)
theorem idx_onto : ∀ a : Fin 4, ∀ b : Fin 4, ∃ t : Fin cfg0.N, win0_2.index t (0 : Fin 2) = a.val ∧ win0_2.index t (1 : Fin 2) = b.val :=
  (by decide +kernel : ∀ a : Fin 4, ∀ b : Fin 4, ∃ t : Fin grid0.N, _)

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨e0, e1, e2, e3⟩ := idx t
  rw [flushed2]
  funext j
  refine (out_apply _ _ j).trans ?_
  show _ = G _ _ (((cfg0.win 2).blk t).view.emb j)
  unfold G
  refine Finset.sum_congr rfl fun k _ => ?_
  show HMul.hMul (α := EReal) (β := EReal) (γ := EReal) (V m c main_v0 (((cfg0.win 0).blk t).view.emb _))
    (V m c main_v1 (((cfg0.win 1).blk t).view.emb _)) = _
  rw [V0, V1]
  congr 1
  · congr 1; funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * k.val = k.val; omega
  · congr 1; funext a; apply Fin.ext
    match a with
    | ⟨0, _⟩ => show win0_1.index t (0 : Fin 2) * 1024 + 1 * k.val = k.val; omega
    | ⟨1, _⟩ => show win0_1.index t (1 : Fin 2) * 1664 + 1 * (j 1).val = win0_2.index t (1 : Fin 2) * 1664 + 1 * (j 1).val; omega

/-- The tiles cover the result. -/
theorem covered (i : S4096x6656.Idx) :
    ∃ t : Fin cfg0.N, (cfg0.win 2).flush t = true ∧ i ∈ ((cfg0.win 2).blk t).view.set := by
  have h0 : (i 0).val < 4096 := (i 0).isLt
  have h1 : (i 1).val < 6656 := (i 1).isLt
  obtain ⟨t, e0, e1⟩ := idx_onto ⟨(i 0).val / 1024, by omega⟩ ⟨(i 1).val / 1664, by omega⟩
  refine ⟨t, flush0_2 t, ?_⟩
  have h := ((cfg0.win 2).blk t).view.emb_mem_set (ix2 ⟨(i 0).val % 1024, by omega⟩ ⟨(i 1).val % 1664, by omega⟩ : S1024x1664.Idx)
  have e : ((cfg0.win 2).blk t).view.emb (ix2 ⟨(i 0).val % 1024, by omega⟩ ⟨(i 1).val % 1664, by omega⟩ : S1024x1664.Idx) = i := by
    funext a; apply Fin.ext
    match a with
    | ⟨0, _⟩ => show win0_2.index t (0 : Fin 2) * 1024 + 1 * ((i 0).val % 1024) = (i 0).val; rw [e0]; show (i 0).val / 1024 * 1024 + _ = _; omega
    | ⟨1, _⟩ => show win0_2.index t (1 : Fin 2) * 1664 + 1 * ((i 1).val % 1664) = (i 1).val; rw [e1]; show (i 1).val / 1664 * 1664 + _ = _; omega
  rwa [e] at h

theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) covered

/-- The reference's product is the same sum, its factors in the same order. -/
theorem ref_eq (h : FVec Ideal S4096x1024 .f32) (w_pg : FVec Ideal S1024x6656 .f32) :
    Cert.Reference14Ideal.Read.val_main_v0 (F := Ideal) h w_pg = G h w_pg := by
  funext j
  rw [Cert.Reference14Ideal.Read.val_main_v0_apply]
  unfold G
  refine Finset.sum_congr rfl fun k _ => ?_
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The call and its reference end with equal results. -/
theorem algebraic : Cert.algebraic_Kernel14Ideal_Reference14Ideal := by
  intro m g m' g' _ hm
  refine ⟨fun c => G (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference14Ideal.defs _ _).mono (fun r h c => ⟨(h c).1.trans ?_, (h c).2⟩) (Cert.Reference14Ideal.Value.run m' g')
    rw [(hm c).1, (hm c).2]
    exact ref_eq _ _

end Cert.Proof.MixIn

end
-- ==== Proof.MixBranch.lean ====
/- `mix_branch`, a branch's output projection (the three branches: the same call): the result array of the grid of tiles is one
   whole product, neither operand transposed, and so is the reference's. -/
module

public import proofs.«01_k».proof.Defs
public import proofs.«01_k».proof.Proof.Arith
public import proofs.«01_k».proof.Proof.Gen.Kernel15Ideal.Value
public import proofs.«01_k».proof.Proof.Gen.Reference15Ideal.Read
public import Idealize.ShloMosaic.Lib.Pointwise

@[expose] public section

noncomputable section

namespace Cert.Proof.MixBranch

open Cert.Kernel15Ideal Cert.Kernel15Ideal.Gen Cert.Kernel15Ideal.Value Idealize.ShloMosaic Idealize.ShloMosaic.TcCoe Idealize.SL.Sem

/-- The whole result, entry by entry. -/
def G (y : FVec Ideal S4096x512 .f32) (w : FVec Ideal S512x1024 .f32) : FVec Ideal S4096x1024 .f32 :=
  fun j => ∑ k : Fin 512, y (ix2 (j 0) k) * w (ix2 k (j 1))

theorem hz : (![0, 0] : Fin 2 → Nat) = fun _ => 0 := funext fun a => by fin_cases a <;> rfl

/-- What one grid point writes: its tile of the result. -/
theorem out_apply (x0 : Vec Ideal S1024x512 .bf16) (x1 : Vec Ideal S512x512 .bf16) (j : S1024x512.Idx) :
    out0_2 x0 x1 j = ∑ k : Fin 512, x0 (ix2 (j 0) k) * x1 (ix2 k (j 1)) := by
  unfold out0_2
  rw [View.canon_unit_zero hz, View.ld_unit_zero hz, View.ld_unit_zero hz]
  simp only [k0_pay1, pointwise, zero_add]

variable (m : (ℓ : Loc nD τ sig) → Buf (Elt Ideal) ℓ) (ρ : Dev nD → PrngReg)

/-- The operands the call takes are the arguments: the host's rounding is the identity over the extended reals. -/
theorem V0 (c : Dev nD) : V m c main_v0 = m ((c : Thread nD τ).loc main_arg0) := by
  unfold V; after_results; rfl
theorem V1 (c : Dev nD) : V m c main_v1 = m ((c : Thread nD τ).loc main_arg1) := by
  unfold V; after_results; rfl

/-- How the operands' blocks move with the result's. -/
theorem idx : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)
theorem idx_onto : ∀ a : Fin 4, ∀ b : Fin 2, ∃ t : Fin cfg0.N, win0_2.index t (0 : Fin 2) = a.val ∧ win0_2.index t (1 : Fin 2) = b.val :=
  (by decide +kernel : ∀ a : Fin 4, ∀ b : Fin 2, ∃ t : Fin grid0.N, _)

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨e0, e1, e2, e3⟩ := idx t
  rw [flushed2]
  funext j
  refine (out_apply _ _ j).trans ?_
  show _ = G _ _ (((cfg0.win 2).blk t).view.emb j)
  unfold G
  refine Finset.sum_congr rfl fun k _ => ?_
  show HMul.hMul (α := EReal) (β := EReal) (γ := EReal) (V m c main_v0 (((cfg0.win 0).blk t).view.emb _))
    (V m c main_v1 (((cfg0.win 1).blk t).view.emb _)) = _
  rw [V0, V1]
  congr 1
  · congr 1; funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 512 + 1 * k.val = k.val; omega
  · congr 1; funext a; apply Fin.ext
    match a with
    | ⟨0, _⟩ => show win0_1.index t (0 : Fin 2) * 512 + 1 * k.val = k.val; omega
    | ⟨1, _⟩ => show win0_1.index t (1 : Fin 2) * 512 + 1 * (j 1).val = win0_2.index t (1 : Fin 2) * 512 + 1 * (j 1).val; omega

/-- The tiles cover the result. -/
theorem covered (i : S4096x1024.Idx) :
    ∃ t : Fin cfg0.N, (cfg0.win 2).flush t = true ∧ i ∈ ((cfg0.win 2).blk t).view.set := by
  have h0 : (i 0).val < 4096 := (i 0).isLt
  have h1 : (i 1).val < 1024 := (i 1).isLt
  obtain ⟨t, e0, e1⟩ := idx_onto ⟨(i 0).val / 1024, by omega⟩ ⟨(i 1).val / 512, by omega⟩
  refine ⟨t, flush0_2 t, ?_⟩
  have h := ((cfg0.win 2).blk t).view.emb_mem_set (ix2 ⟨(i 0).val % 1024, by omega⟩ ⟨(i 1).val % 512, by omega⟩ : S1024x512.Idx)
  have e : ((cfg0.win 2).blk t).view.emb (ix2 ⟨(i 0).val % 1024, by omega⟩ ⟨(i 1).val % 512, by omega⟩ : S1024x512.Idx) = i := by
    funext a; apply Fin.ext
    match a with
    | ⟨0, _⟩ => show win0_2.index t (0 : Fin 2) * 1024 + 1 * ((i 0).val % 1024) = (i 0).val; rw [e0]; show (i 0).val / 1024 * 1024 + _ = _; omega
    | ⟨1, _⟩ => show win0_2.index t (1 : Fin 2) * 512 + 1 * ((i 1).val % 512) = (i 1).val; rw [e1]; show (i 1).val / 512 * 512 + _ = _; omega
  rwa [e] at h

theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) covered

/-- The reference's product is the same sum, its factors in the same order. -/
theorem ref_eq (y : FVec Ideal S4096x512 .f32) (w : FVec Ideal S512x1024 .f32) :
    Cert.Reference15Ideal.Read.val_main_v0 (F := Ideal) y w = G y w := by
  funext j
  rw [Cert.Reference15Ideal.Read.val_main_v0_apply]
  unfold G
  refine Finset.sum_congr rfl fun k _ => ?_
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The call and its reference end with equal results. -/
theorem algebraic : Cert.algebraic_Kernel15Ideal_Reference15Ideal := by
  intro m g m' g' _ hm
  refine ⟨fun c => G (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference15Ideal.defs _ _).mono (fun r h c => ⟨(h c).1.trans ?_, (h c).2⟩) (Cert.Reference15Ideal.Value.run m' g')
    rw [(hm c).1, (hm c).2]
    exact ref_eq _ _

end Cert.Proof.MixBranch

end
-- ==== Proof.MixOut.lean ====
/- `mix_out`, the mixer's output projection, added to its input: the result array of the grid of tiles is one
   whole product, neither operand transposed, and so is the reference's. -/
module

public import proofs.«01_k».proof.Defs
public import proofs.«01_k».proof.Proof.Arith
public import proofs.«01_k».proof.Proof.Gen.Kernel16Ideal.Value
public import proofs.«01_k».proof.Proof.Gen.Reference16Ideal.Read
public import Idealize.ShloMosaic.Lib.Pointwise

@[expose] public section

noncomputable section

namespace Cert.Proof.MixOut

open Cert.Kernel16Ideal Cert.Kernel16Ideal.Gen Cert.Kernel16Ideal.Value Idealize.ShloMosaic Idealize.ShloMosaic.TcCoe Idealize.SL.Sem

/-- The whole result, entry by entry. -/
def G (x : FVec Ideal S4096x1024 .f32) (merged : FVec Ideal S4096x1024 .f32) (w_out : FVec Ideal S1024x1024 .f32) : FVec Ideal S4096x1024 .f32 :=
  fun j => (∑ k : Fin 1024, merged (ix2 (j 0) k) * w_out (ix2 k (j 1))) + x j

theorem hz : (![0, 0] : Fin 2 → Nat) = fun _ => 0 := funext fun a => by fin_cases a <;> rfl

/-- What one grid point writes: its tile of the result. -/
theorem out_apply (x0 : Vec Ideal S1024x1024 .bf16) (x1 : Vec Ideal S1024x512 .bf16) (x2 : Vec Ideal S1024x512 .f32) (j : S1024x512.Idx) :
    out0_3 x0 x1 x2 j = (∑ k : Fin 1024, x0 (ix2 (j 0) k) * x1 (ix2 k (j 1))) + x2 j := by
  unfold out0_3
  rw [View.canon_unit_zero hz, View.ld_unit_zero hz, View.ld_unit_zero hz, View.ld_unit_zero hz]
  simp only [k0_pay1, pointwise, zero_add]

variable (m : (ℓ : Loc nD τ sig) → Buf (Elt Ideal) ℓ) (ρ : Dev nD → PrngReg)

/-- The operands the call takes are the arguments: the host's rounding is the identity over the extended reals. -/
theorem V0 (c : Dev nD) : V m c main_v0 = m ((c : Thread nD τ).loc main_arg1) := by
  unfold V; after_results; rfl
theorem V1 (c : Dev nD) : V m c main_v1 = m ((c : Thread nD τ).loc main_arg2) := by
  unfold V; after_results; rfl

/-- How the operands' blocks move with the result's. -/
theorem idx : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = win0_3.index t (1 : Fin 2) :=
  (by decide +kernel : ∀ t : Fin grid0.N, _)
theorem idx_onto : ∀ a : Fin 4, ∀ b : Fin 2, ∃ t : Fin cfg0.N, win0_3.index t (0 : Fin 2) = a.val ∧ win0_3.index t (1 : Fin 2) = b.val :=
  (by decide +kernel : ∀ a : Fin 4, ∀ b : Fin 2, ∃ t : Fin grid0.N, _)

theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  obtain ⟨e0, e1, e2, e3⟩ := idx t
  rw [flushed3]
  funext j
  refine (out_apply _ _ _ j).trans ?_
  show _ = G _ _ _ (((cfg0.win 3).blk t).view.emb j)
  unfold G
  refine congrArg₂ (· + ·) (Finset.sum_congr rfl fun k _ => ?_) ?_
  rotate_left
  · show V m c main_arg0 (((cfg0.win 2).blk t).view.emb j) = _
    rw [V_main_arg0]
    rfl
  show HMul.hMul (α := EReal) (β := EReal) (γ := EReal) (V m c main_v0 (((cfg0.win 0).blk t).view.emb _))
    (V m c main_v1 (((cfg0.win 1).blk t).view.emb _)) = _
  rw [V0, V1]
  congr 1
  · congr 1; funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * k.val = k.val; omega
  · congr 1; funext a; apply Fin.ext
    match a with
    | ⟨0, _⟩ => show win0_1.index t (0 : Fin 2) * 1024 + 1 * k.val = k.val; omega
    | ⟨1, _⟩ => show win0_1.index t (1 : Fin 2) * 512 + 1 * (j 1).val = win0_3.index t (1 : Fin 2) * 512 + 1 * (j 1).val; omega

/-- The tiles cover the result. -/
theorem covered (i : S4096x1024.Idx) :
    ∃ t : Fin cfg0.N, (cfg0.win 3).flush t = true ∧ i ∈ ((cfg0.win 3).blk t).view.set := by
  have h0 : (i 0).val < 4096 := (i 0).isLt
  have h1 : (i 1).val < 1024 := (i 1).isLt
  obtain ⟨t, e0, e1⟩ := idx_onto ⟨(i 0).val / 1024, by omega⟩ ⟨(i 1).val / 512, by omega⟩
  refine ⟨t, flush0_3 t, ?_⟩
  have h := ((cfg0.win 3).blk t).view.emb_mem_set (ix2 ⟨(i 0).val % 1024, by omega⟩ ⟨(i 1).val % 512, by omega⟩ : S1024x512.Idx)
  have e : ((cfg0.win 3).blk t).view.emb (ix2 ⟨(i 0).val % 1024, by omega⟩ ⟨(i 1).val % 512, by omega⟩ : S1024x512.Idx) = i := by
    funext a; apply Fin.ext
    match a with
    | ⟨0, _⟩ => show win0_3.index t (0 : Fin 2) * 1024 + 1 * ((i 0).val % 1024) = (i 0).val; rw [e0]; show (i 0).val / 1024 * 1024 + _ = _; omega
    | ⟨1, _⟩ => show win0_3.index t (1 : Fin 2) * 512 + 1 * ((i 1).val % 512) = (i 1).val; rw [e1]; show (i 1).val / 512 * 512 + _ = _; omega
  rwa [e] at h

theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) covered

/-- The reference's product is the same sum, its factors in the same order. -/
theorem ref_eq (x : FVec Ideal S4096x1024 .f32) (merged : FVec Ideal S4096x1024 .f32) (w_out : FVec Ideal S1024x1024 .f32) :
    Cert.Reference16Ideal.Read.val_main_v1 (F := Ideal) x merged w_out = G x merged w_out := by
  funext j
  rw [Cert.Reference16Ideal.Read.val_main_v1_apply, Cert.Reference16Ideal.Read.val_main_v0_apply]
  show HAdd.hAdd (α := EReal) (β := EReal) (γ := EReal) (x j) _ = _
  unfold G
  rw [add_comm]
  refine congrArg (fun z : EReal => z + x j) (Finset.sum_congr rfl fun k _ => ?_)
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The call and its reference end with equal results. -/
theorem algebraic : Cert.algebraic_Kernel16Ideal_Reference16Ideal := by
  intro m g m' g' _ hm
  refine ⟨fun c => G (m ((c : Thread nD τ).loc main_arg0)) (m ((c : Thread nD τ).loc main_arg1)) (m ((c : Thread nD τ).loc main_arg2)), ?_, ?_⟩
  · exact (θ_run defs _ _).mono (fun r h c => ⟨(h c).1.trans (final m c), (h c).2⟩) (run_blocks m g)
  · refine (θ_run Cert.Reference16Ideal.defs _ _).mono (fun r h c => ⟨(h c).1.trans ?_, (h c).2⟩) (Cert.Reference16Ideal.Value.run m' g')
    rw [(hm c).1, (hm c).2.1, (hm c).2.2]
    exact ref_eq _ _ _

end Cert.Proof.MixOut

end
-- ==== Proof.FfnDown.lean ====
/- `ffn_down`, the feed-forward half step's output projection, halved and added to its input: the result array of the grid of tiles is one
   whole product, neither operand transposed, and so is the reference's. -/
module

public import proofs.«01_k».proof.Defs
public import proofs.«01_k».proof.Proof.Arith
public import proofs.«01_k».proof.Proof.Gen.Kernel17Ideal.Value
public import proofs.«01_k».proof.Proof.Gen.Reference17Ideal.Read
public import Idealize.ShloMosaic.Lib.Pointwise

@[expose] public section

noncomputable section

namespace Cert.Proof.FfnDown

open Cert.Kernel17Ideal Cert.Kernel17Ideal.Gen Cert.Kernel17Ideal.Value Idealize.ShloMosaic Idealize.ShloMosaic.TcCoe Idealize.SL.Sem

/-- The whole result, entry by entry. -/
def G (x : FVec Ideal S4096x1024 .f32) (a : FVec Ideal S4096x2816 .f32) (w_down : FVec Ideal S2816x1024 .f32) : FVec Ideal S4096x1024 .f32 :=
  fun j => (∑ k : Fin 2816, a (ix2 (j 0) k) * w_down (ix2 k (j 1))) * ((1 / 2 : ℝ) : EReal) + x j

theorem hz : (![0, 0] : Fin 2 → Nat) = fun _ => 0 := funext fun a => by fin_cases a <;> rfl

/-- What one grid point writes: its tile of the result. -/
theorem out_apply (x0 : Vec Ideal S1024x2816 .bf16) (x1 : Vec Ideal S2816x512 .bf16) (x2 : Vec Ideal S1024x512 .f32) (j : S1024x512.Idx) :
    out0_3 x0 x1 x2 j = (∑ k : Fin 2816, x0 (ix2 (j 0) k) * x1 (ix2 k (j 1))) * ((1 / 2 : ℝ) : EReal) + x2 j := by
  unfold out0_3
  rw [View.canon_unit_zero hz, View.ld_unit_zero hz, View.ld_unit_zero hz, View.ld_unit_zero hz]
  simp only [k0_pay1, pointwise, zero_add, Arith.ofBits_half]

variable (m : (ℓ : Loc nD τ sig) → Buf (Elt Ideal) ℓ) (ρ : Dev nD → PrngReg)

/-- The operands the call takes are the arguments: the host's rounding is the identity over the extended reals. -/
theorem V0 (c : Dev nD) : V m c main_v0 = m ((c : Thread nD τ).loc main_arg1) := by
  unfold V; after_results; rfl
theorem V1 (c : Dev nD) : V m c main_v1 = m ((c : Thread nD τ).loc main_arg2) := by
  unfold V; after_results; rfl

/-- How the operands' blocks move with the result's. -/
theorem idx : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = win0_3.index t (1 : Fin 2) :=
  (by decide +kernel : ∀ t : Fin grid0.N, _)
theorem idx_onto : ∀ a : Fin 4, ∀ b : Fin 2, ∃ t : Fin cfg0.N, win0_3.index t (0 : Fin 2) = a.val ∧ win0_3.index t (1 : Fin 2) = b.val :=
  (by decide +kernel : ∀ a : Fin 4, ∀ b : Fin 2, ∃ t : Fin grid0.N, _)

theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  obtain ⟨e0, e1, e2, e3⟩ := idx t
  rw [flushed3]
  funext j
  refine (out_apply _ _ _ j).trans ?_
  show _ = G _ _ _ (((cfg0.win 3).blk t).view.emb j)
  unfold G
  refine congrArg₂ (· + ·) (congrArg (· * ((1 / 2 : ℝ) : EReal)) (Finset.sum_congr rfl fun k _ => ?_)) ?_
  rotate_left
  · show V m c main_arg0 (((cfg0.win 2).blk t).view.emb j) = _
    rw [V_main_arg0]
    rfl
  show HMul.hMul (α := EReal) (β := EReal) (γ := EReal) (V m c main_v0 (((cfg0.win 0).blk t).view.emb _))
    (V m c main_v1 (((cfg0.win 1).blk t).view.emb _)) = _
  rw [V0, V1]
  congr 1
  · congr 1; funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 2816 + 1 * k.val = k.val; omega
  · congr 1; funext a; apply Fin.ext
    match a with
    | ⟨0, _⟩ => show win0_1.index t (0 : Fin 2) * 2816 + 1 * k.val = k.val; omega
    | ⟨1, _⟩ => show win0_1.index t (1 : Fin 2) * 512 + 1 * (j 1).val = win0_3.index t (1 : Fin 2) * 512 + 1 * (j 1).val; omega

/-- The tiles cover the result. -/
theorem covered (i : S4096x1024.Idx) :
    ∃ t : Fin cfg0.N, (cfg0.win 3).flush t = true ∧ i ∈ ((cfg0.win 3).blk t).view.set := by
  have h0 : (i 0).val < 4096 := (i 0).isLt
  have h1 : (i 1).val < 1024 := (i 1).isLt
  obtain ⟨t, e0, e1⟩ := idx_onto ⟨(i 0).val / 1024, by omega⟩ ⟨(i 1).val / 512, by omega⟩
  refine ⟨t, flush0_3 t, ?_⟩
  have h := ((cfg0.win 3).blk t).view.emb_mem_set (ix2 ⟨(i 0).val % 1024, by omega⟩ ⟨(i 1).val % 512, by omega⟩ : S1024x512.Idx)
  have e : ((cfg0.win 3).blk t).view.emb (ix2 ⟨(i 0).val % 1024, by omega⟩ ⟨(i 1).val % 512, by omega⟩ : S1024x512.Idx) = i := by
    funext a; apply Fin.ext
    match a with
    | ⟨0, _⟩ => show win0_3.index t (0 : Fin 2) * 1024 + 1 * ((i 0).val % 1024) = (i 0).val; rw [e0]; show (i 0).val / 1024 * 1024 + _ = _; omega
    | ⟨1, _⟩ => show win0_3.index t (1 : Fin 2) * 512 + 1 * ((i 1).val % 512) = (i 1).val; rw [e1]; show (i 1).val / 512 * 512 + _ = _; omega
  rwa [e] at h

theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) covered

/-- The reference's product is the same sum, its factors in the same order. -/
theorem ref_eq (x : FVec Ideal S4096x1024 .f32) (a : FVec Ideal S4096x2816 .f32) (w_down : FVec Ideal S2816x1024 .f32) :
    Cert.Reference17Ideal.Read.val_main_v3 (F := Ideal) x a w_down = G x a w_down := by
  funext j
  rw [Cert.Reference17Ideal.Read.val_main_v3_apply, Cert.Reference17Ideal.Read.val_main_v2_apply, Cert.Reference17Ideal.Read.val_main_v1_apply, Cert.Reference17Ideal.Read.val_main_cst_apply, Cert.Reference17Ideal.Read.val_main_v0_apply]
  show HAdd.hAdd (α := EReal) (β := EReal) (γ := EReal) (x j) (HMul.hMul (α := EReal) (β := EReal) (γ := EReal) (Ideal.ofBits .f32 0x3F000000#32) _) = _
  unfold G
  rw [Arith.ofBits_half, add_comm, mul_comm]
  refine congrArg (fun z : EReal => z * ((1 / 2 : ℝ) : EReal) + x j) (Finset.sum_congr rfl fun k _ => ?_)
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The call and its reference end with equal results. -/
theorem algebraic : Cert.algebraic_Kernel17Ideal_Reference17Ideal := by
  intro m g m' g' _ hm
  refine ⟨fun c => G (m ((c : Thread nD τ).loc main_arg0)) (m ((c : Thread nD τ).loc main_arg1)) (m ((c : Thread nD τ).loc main_arg2)), ?_, ?_⟩
  · exact (θ_run defs _ _).mono (fun r h c => ⟨(h c).1.trans (final m c), (h c).2⟩) (run_blocks m g)
  · refine (θ_run Cert.Reference17Ideal.defs _ _).mono (fun r h c => ⟨(h c).1.trans ?_, (h c).2⟩) (Cert.Reference17Ideal.Value.run m' g')
    rw [(hm c).1, (hm c).2.1, (hm c).2.2]
    exact ref_eq _ _ _

end Cert.Proof.FfnDown

end
-- ==== Proof.S5Glu.lean ====
/- `s5_glu_mm`, the product of the state space branch's gate: the result array of the grid of tiles is one
   whole product, neither operand transposed, and so is the reference's. -/
module

public import proofs.«01_k».proof.Defs
public import proofs.«01_k».proof.Proof.Arith
public import proofs.«01_k».proof.Proof.Gen.Kernel18Ideal.Value
public import proofs.«01_k».proof.Proof.Gen.Reference18Ideal.Read
public import Idealize.ShloMosaic.Lib.Pointwise

@[expose] public section

noncomputable section

namespace Cert.Proof.S5Glu

open Cert.Kernel18Ideal Cert.Kernel18Ideal.Gen Cert.Kernel18Ideal.Value Idealize.ShloMosaic Idealize.ShloMosaic.TcCoe Idealize.SL.Sem

/-- The whole result, entry by entry. -/
def G (yg : FVec Ideal S4096x512 .f32) (w_glu : FVec Ideal S512x512 .f32) : FVec Ideal S4096x512 .f32 :=
  fun j => ∑ k : Fin 512, yg (ix2 (j 0) k) * w_glu (ix2 k (j 1))

theorem hz : (![0, 0] : Fin 2 → Nat) = fun _ => 0 := funext fun a => by fin_cases a <;> rfl

/-- What one grid point writes: its tile of the result. -/
theorem out_apply (x0 : Vec Ideal S1024x512 .f32) (x1 : Vec Ideal S512x512 .bf16) (j : S1024x512.Idx) :
    out0_2 x0 x1 j = ∑ k : Fin 512, x0 (ix2 (j 0) k) * x1 (ix2 k (j 1)) := by
  unfold out0_2
  rw [View.canon_unit_zero hz, View.ld_unit_zero hz, View.ld_unit_zero hz]
  simp only [k0_pay1, pointwise, zero_add]

variable (m : (ℓ : Loc nD τ sig) → Buf (Elt Ideal) ℓ) (ρ : Dev nD → PrngReg)

/-- The operands the call takes are the arguments: the host's rounding is the identity over the extended reals. -/
theorem V0 (c : Dev nD) : V m c main_arg0 = m ((c : Thread nD τ).loc main_arg0) := V_main_arg0 m c
theorem V1 (c : Dev nD) : V m c main_v0 = m ((c : Thread nD τ).loc main_arg1) := by
  unfold V; after_results; rfl

/-- How the operands' blocks move with the result's. -/
theorem idx : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)
theorem idx_onto : ∀ a : Fin 4, ∀ b : Fin 1, ∃ t : Fin cfg0.N, win0_2.index t (0 : Fin 2) = a.val ∧ win0_2.index t (1 : Fin 2) = b.val :=
  (by decide +kernel : ∀ a : Fin 4, ∀ b : Fin 1, ∃ t : Fin grid0.N, _)

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨e0, e1, e2, e3⟩ := idx t
  rw [flushed2]
  funext j
  refine (out_apply _ _ j).trans ?_
  show _ = G _ _ (((cfg0.win 2).blk t).view.emb j)
  unfold G
  refine Finset.sum_congr rfl fun k _ => ?_
  show HMul.hMul (α := EReal) (β := EReal) (γ := EReal) (V m c main_arg0 (((cfg0.win 0).blk t).view.emb _))
    (V m c main_v0 (((cfg0.win 1).blk t).view.emb _)) = _
  rw [V0, V1]
  congr 1
  · congr 1; funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 512 + 1 * k.val = k.val; omega
  · congr 1; funext a; apply Fin.ext
    match a with
    | ⟨0, _⟩ => show win0_1.index t (0 : Fin 2) * 512 + 1 * k.val = k.val; omega
    | ⟨1, _⟩ => show win0_1.index t (1 : Fin 2) * 512 + 1 * (j 1).val = win0_2.index t (1 : Fin 2) * 512 + 1 * (j 1).val; omega

/-- The tiles cover the result. -/
theorem covered (i : S4096x512.Idx) :
    ∃ t : Fin cfg0.N, (cfg0.win 2).flush t = true ∧ i ∈ ((cfg0.win 2).blk t).view.set := by
  have h0 : (i 0).val < 4096 := (i 0).isLt
  have h1 : (i 1).val < 512 := (i 1).isLt
  obtain ⟨t, e0, e1⟩ := idx_onto ⟨(i 0).val / 1024, by omega⟩ ⟨(i 1).val / 512, by omega⟩
  refine ⟨t, flush0_2 t, ?_⟩
  have h := ((cfg0.win 2).blk t).view.emb_mem_set (ix2 ⟨(i 0).val % 1024, by omega⟩ ⟨(i 1).val % 512, by omega⟩ : S1024x512.Idx)
  have e : ((cfg0.win 2).blk t).view.emb (ix2 ⟨(i 0).val % 1024, by omega⟩ ⟨(i 1).val % 512, by omega⟩ : S1024x512.Idx) = i := by
    funext a; apply Fin.ext
    match a with
    | ⟨0, _⟩ => show win0_2.index t (0 : Fin 2) * 1024 + 1 * ((i 0).val % 1024) = (i 0).val; rw [e0]; show (i 0).val / 1024 * 1024 + _ = _; omega
    | ⟨1, _⟩ => show win0_2.index t (1 : Fin 2) * 512 + 1 * ((i 1).val % 512) = (i 1).val; rw [e1]; show (i 1).val / 512 * 512 + _ = _; omega
  rwa [e] at h

theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) covered

/-- The reference's product is the same sum, its factors in the same order. -/
theorem ref_eq (yg : FVec Ideal S4096x512 .f32) (w_glu : FVec Ideal S512x512 .f32) :
    Cert.Reference18Ideal.Read.val_main_v0 (F := Ideal) yg w_glu = G yg w_glu := by
  funext j
  rw [Cert.Reference18Ideal.Read.val_main_v0_apply]
  unfold G
  refine Finset.sum_congr rfl fun k _ => ?_
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The call and its reference end with equal results. -/
theorem algebraic : Cert.algebraic_Kernel18Ideal_Reference18Ideal := by
  intro m g m' g' _ hm
  refine ⟨fun c => G (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference18Ideal.defs _ _).mono (fun r h c => ⟨(h c).1.trans ?_, (h c).2⟩) (Cert.Reference18Ideal.Value.run m' g')
    rw [(hm c).1, (hm c).2]
    exact ref_eq _ _

end Cert.Proof.S5Glu

end
-- ==== Proof.FfnUp.lean ====
/- `ffn_up`, the feed-forward gate: each tile takes two products of its rows and multiplies the logistic gate of the one
   by the other; the reference's logistic function is the quotient, the kernel's the hyperbolic tangent. -/
module

public import proofs.«01_k».proof.Defs
public import proofs.«01_k».proof.Proof.Arith
public import proofs.«01_k».proof.Proof.Gen.Kernel19Ideal.Value
public import proofs.«01_k».proof.Proof.Gen.Reference19Ideal.Read
public import Idealize.ShloMosaic.Lib.Pointwise

@[expose] public section

noncomputable section

namespace Cert.Proof.FfnUp

open Cert.Kernel19Ideal Cert.Kernel19Ideal.Gen Cert.Kernel19Ideal.Value Idealize.ShloMosaic Idealize.ShloMosaic.TcCoe Idealize.SL.Sem

/-- The kernel's logistic function, by the hyperbolic tangent. -/
def ks (x : EReal) : EReal := ((1 / 2 : ℝ) : EReal) * Ideal.tanh (((1 / 2 : ℝ) : EReal) * x) + ((1 / 2 : ℝ) : EReal)

/-- The two ways of writing the logistic function agree everywhere, the infinities included. -/
theorem ks_eq (x : EReal) : ks x = Ideal.div ((1 : ℝ) : EReal) (((1 : ℝ) : EReal) + Ideal.exp (-x)) := by
  induction x with
  | bot =>
    have e : Ideal.div ((1 : ℝ) : EReal) (((1 : ℝ) : EReal) + Ideal.exp (-⊥)) = 0 := by
      rw [EReal.neg_bot, show Ideal.exp ⊤ = ⊤ from rfl, EReal.coe_add_top]
      unfold Ideal.div
      rw [if_neg (by simp), EReal.inv_top, mul_zero]
    rw [e]
    unfold ks
    rw [EReal.coe_mul_bot_of_pos (by norm_num)]
    show ((1 / 2 : ℝ) : EReal) * (-1) + ((1 / 2 : ℝ) : EReal) = 0
    have : (-1 : EReal) = ((-1 : ℝ) : EReal) := by simp
    rw [this, ← EReal.coe_mul, ← EReal.coe_add]
    norm_num
  | top =>
    have e : Ideal.div ((1 : ℝ) : EReal) (((1 : ℝ) : EReal) + Ideal.exp (-⊤)) = ((1 : ℝ) : EReal) := by
      rw [EReal.neg_top, show Ideal.exp ⊥ = 0 from rfl, add_zero]
      unfold Ideal.div
      rw [if_neg (by simp)]
      simp
    rw [e]
    unfold ks
    rw [EReal.coe_mul_top_of_pos (by norm_num)]
    show ((1 / 2 : ℝ) : EReal) * 1 + ((1 / 2 : ℝ) : EReal) = _
    rw [mul_one, ← EReal.coe_add]
    norm_num
  | coe r =>
    rw [Arith.logistic_coe]
    unfold ks
    rw [← Arith.half_tanh r, ← EReal.coe_mul, Ideal.tanh_coe, ← EReal.coe_mul, ← EReal.coe_add]

theorem hz : (![0, 0] : Fin 2 → Nat) = fun _ => 0 := funext fun a => by fin_cases a <;> rfl

/-- One tile of a product. -/
def tile (x : Vec Ideal S512x1024 .bf16) (w : Vec Ideal S1024x1408 .bf16) (j : S512x1408.Idx) : EReal :=
  ∑ k : Fin 1024, x (ix2 (j 0) k) * w (ix2 k (j 1))

/-- What one grid point writes: the activations, and the two products. -/
theorem out_a (x0 : Vec Ideal S512x1024 .bf16) (x1 x2 : Vec Ideal S1024x1408 .bf16) (j : S512x1408.Idx) :
    out0_3 x0 x1 x2 j = tile x0 x1 j * ks (tile x0 x1 j) * tile x0 x2 j := by
  unfold out0_3 tile ks
  rw [View.canon_unit_zero hz, View.ld_unit_zero hz, View.ld_unit_zero hz, View.ld_unit_zero hz]
  simp only [k0_pay4, k0_pay1, k0_pay2, k0_pay3, pointwise, zero_add, Arith.ofBits_half]
theorem out_g (x0 : Vec Ideal S512x1024 .bf16) (x1 x2 : Vec Ideal S1024x1408 .bf16) (j : S512x1408.Idx) : out0_4 x0 x1 x2 j = tile x0 x1 j := by
  unfold out0_4 tile
  rw [View.canon_unit_zero hz, View.ld_unit_zero hz, View.ld_unit_zero hz]
  simp only [k0_pay5, k0_pay1, k0_pay2, pointwise, zero_add]
theorem out_u (x0 : Vec Ideal S512x1024 .bf16) (x1 x2 : Vec Ideal S1024x1408 .bf16) (j : S512x1408.Idx) : out0_5 x0 x1 x2 j = tile x0 x2 j := by
  unfold out0_5 tile
  rw [View.canon_unit_zero hz, View.ld_unit_zero hz, View.ld_unit_zero hz]
  simp only [k0_pay6, k0_pay1, k0_pay3, pointwise, zero_add]

/-- A whole product, and the whole activations. -/
def X (h : FVec Ideal S4096x1024 .f32) (w : FVec Ideal S1024x2816 .f32) : FVec Ideal S4096x2816 .bf16 :=
  fun j => ∑ k : Fin 1024, h (ix2 (j 0) k) * w (ix2 k (j 1))
def A (h : FVec Ideal S4096x1024 .f32) (wg wu : FVec Ideal S1024x2816 .f32) : FVec Ideal S4096x2816 .bf16 :=
  fun j => HMul.hMul (α := EReal) (β := EReal) (γ := EReal) (HMul.hMul (α := EReal) (β := EReal) (γ := EReal) (X h wg j) (ks (X h wg j))) (X h wu j)

variable (m : (ℓ : Loc nD τ sig) → Buf (Elt Ideal) ℓ) (ρ : Dev nD → PrngReg)

/-- The operands the call takes are the arguments. -/
theorem V0 (c : Dev nD) : V m c main_v0 = m ((c : Thread nD τ).loc main_arg0) := by
  unfold V; after_results; rfl
theorem V1 (c : Dev nD) : V m c main_v1 = m ((c : Thread nD τ).loc main_arg1) := by
  unfold V; after_results; rfl
theorem V2 (c : Dev nD) : V m c main_v2 = m ((c : Thread nD τ).loc main_arg2) := by
  unfold V; after_results; rfl

/-- How the operands' blocks move with the results'. -/
theorem idx : ∀ t : Fin cfg0.N, (win0_0.index t (0 : Fin 2) = win0_3.index t (0 : Fin 2) ∧ win0_0.index t (1 : Fin 2) = 0)
    ∧ (win0_1.index t (0 : Fin 2) = 0 ∧ win0_1.index t (1 : Fin 2) = win0_3.index t (1 : Fin 2))
    ∧ win0_2.index t (0 : Fin 2) = 0 ∧ win0_2.index t (1 : Fin 2) = win0_3.index t (1 : Fin 2) :=
  (by decide +kernel : ∀ t : Fin grid0.N, _)
theorem idx_onto : ∀ a : Fin 8, ∀ b : Fin 2, ∃ t : Fin cfg0.N, win0_3.index t (0 : Fin 2) = a.val ∧ win0_3.index t (1 : Fin 2) = b.val :=
  (by decide +kernel : ∀ a : Fin 8, ∀ b : Fin 2, ∃ t : Fin grid0.N, _)

/-- The entry of the whole result under entry `j` of point `t`'s tile. -/
def at3 (t : Fin cfg0.N) (j : S512x1408.Idx) : S4096x2816.Idx := ((cfg0.win 3).blk t).view.emb j

/-- The tile's product is the whole product's entry. -/
theorem g_eq (c : Dev nD) (t : Fin cfg0.N) (j : S512x1408.Idx) :
    tile (iblk m c 0 t) (iblk m c 1 t) j = X (m ((c : Thread nD τ).loc main_arg0)) (m ((c : Thread nD τ).loc main_arg1)) (at3 t j) := by
  obtain ⟨⟨a0, a1⟩, ⟨b0, b1⟩, c0, c1⟩ := idx t
  unfold tile X
  refine Finset.sum_congr rfl fun k _ => ?_
  show HMul.hMul (α := EReal) (β := EReal) (γ := EReal) (V m c main_v0 (((cfg0.win 0).blk t).view.emb _))
    (V m c main_v1 (((cfg0.win 1).blk t).view.emb _)) = _
  rw [V0, V1]
  congr 1
  · congr 1; funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * k.val = k.val; omega
  · congr 1; funext a; apply Fin.ext
    match a with
    | ⟨0, _⟩ => show win0_1.index t (0 : Fin 2) * 1024 + 1 * k.val = k.val; omega
    | ⟨1, _⟩ => show win0_1.index t (1 : Fin 2) * 1408 + 1 * (j 1).val = win0_3.index t (1 : Fin 2) * 1408 + 1 * (j 1).val; omega
theorem u_eq (c : Dev nD) (t : Fin cfg0.N) (j : S512x1408.Idx) :
    tile (iblk m c 0 t) (iblk m c 2 t) j = X (m ((c : Thread nD τ).loc main_arg0)) (m ((c : Thread nD τ).loc main_arg2)) (at3 t j) := by
  obtain ⟨⟨a0, a1⟩, ⟨b0, b1⟩, c0, c1⟩ := idx t
  unfold tile X
  refine Finset.sum_congr rfl fun k _ => ?_
  show HMul.hMul (α := EReal) (β := EReal) (γ := EReal) (V m c main_v0 (((cfg0.win 0).blk t).view.emb _))
    (V m c main_v2 (((cfg0.win 2).blk t).view.emb _)) = _
  rw [V0, V2]
  congr 1
  · congr 1; funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * k.val = k.val; omega
  · congr 1; funext a; apply Fin.ext
    match a with
    | ⟨0, _⟩ => show win0_2.index t (0 : Fin 2) * 1024 + 1 * k.val = k.val; omega
    | ⟨1, _⟩ => show win0_2.index t (1 : Fin 2) * 1408 + 1 * (j 1).val = win0_3.index t (1 : Fin 2) * 1408 + 1 * (j 1).val; omega

theorem flushed_a (c : Dev nD) (t : Fin cfg0.N) :
    (dats m 0 c).flushed 3 t = ((cfg0.win 3).blk t).view.read (Elt Ideal) (A (m ((c : Thread nD τ).loc main_arg0)) (m ((c : Thread nD τ).loc main_arg1)) (m ((c : Thread nD τ).loc main_arg2))) := by
  rw [flushed3]
  funext j
  refine (out_a _ _ _ j).trans ?_
  rw [g_eq, u_eq]
  rfl
theorem flushed_g (c : Dev nD) (t : Fin cfg0.N) :
    (dats m 0 c).flushed 4 t = ((cfg0.win 4).blk t).view.read (Elt Ideal) (X (m ((c : Thread nD τ).loc main_arg0)) (m ((c : Thread nD τ).loc main_arg1))) := by
  rw [flushed4]
  funext j
  refine (out_g _ _ (iblk m c 2 t) j).trans ?_
  rw [g_eq]
  rfl
theorem flushed_u (c : Dev nD) (t : Fin cfg0.N) :
    (dats m 0 c).flushed 5 t = ((cfg0.win 5).blk t).view.read (Elt Ideal) (X (m ((c : Thread nD τ).loc main_arg0)) (m ((c : Thread nD τ).loc main_arg2))) := by
  rw [flushed5]
  funext j
  refine (out_u _ (iblk m c 1 t) _ j).trans ?_
  rw [u_eq]
  rfl

/-- The tiles cover the results. -/
theorem covered (i : S4096x2816.Idx) :
    ∃ t : Fin cfg0.N, (cfg0.win 3).flush t = true ∧ i ∈ ((cfg0.win 3).blk t).view.set := by
  have h0 : (i 0).val < 4096 := (i 0).isLt
  have h1 : (i 1).val < 2816 := (i 1).isLt
  obtain ⟨t, e0, e1⟩ := idx_onto ⟨(i 0).val / 512, by omega⟩ ⟨(i 1).val / 1408, by omega⟩
  refine ⟨t, flush0_3 t, ?_⟩
  have h := ((cfg0.win 3).blk t).view.emb_mem_set (ix2 ⟨(i 0).val % 512, by omega⟩ ⟨(i 1).val % 1408, by omega⟩ : S512x1408.Idx)
  have e : ((cfg0.win 3).blk t).view.emb (ix2 ⟨(i 0).val % 512, by omega⟩ ⟨(i 1).val % 1408, by omega⟩ : S512x1408.Idx) = i := by
    funext a; apply Fin.ext
    match a with
    | ⟨0, _⟩ => show win0_3.index t (0 : Fin 2) * 512 + 1 * ((i 0).val % 512) = (i 0).val; rw [e0]; show (i 0).val / 512 * 512 + _ = _; omega
    | ⟨1, _⟩ => show win0_3.index t (1 : Fin 2) * 1408 + 1 * ((i 1).val % 1408) = (i 1).val; rw [e1]; show (i 1).val / 1408 * 1408 + _ = _; omega
  rwa [e] at h
theorem covered4 (i : S4096x2816.Idx) :
    ∃ t : Fin cfg0.N, (cfg0.win 4).flush t = true ∧ i ∈ ((cfg0.win 4).blk t).view.set := by
  obtain ⟨t, -, h⟩ := covered i
  exact ⟨t, flush0_4 t, h⟩
theorem covered5 (i : S4096x2816.Idx) :
    ∃ t : Fin cfg0.N, (cfg0.win 5).flush t = true ∧ i ∈ ((cfg0.win 5).blk t).view.set := by
  obtain ⟨t, -, h⟩ := covered i
  exact ⟨t, flush0_5 t, h⟩

theorem final_a (c : Dev nD) : (dats m 0 c).arrAt 3 cfg0.N = A (m ((c : Thread nD τ).loc main_arg0)) (m ((c : Thread nD τ).loc main_arg1)) (m ((c : Thread nD τ).loc main_arg2)) :=
  (dats m 0 c).arrAt_eq_of_cover 3 _ (fun t _ => flushed_a m c t) covered
theorem final_g (c : Dev nD) : (dats m 0 c).arrAt 4 cfg0.N = X (m ((c : Thread nD τ).loc main_arg0)) (m ((c : Thread nD τ).loc main_arg1)) :=
  (dats m 0 c).arrAt_eq_of_cover 4 _ (fun t _ => flushed_g m c t) covered4
theorem final_u (c : Dev nD) : (dats m 0 c).arrAt 5 cfg0.N = X (m ((c : Thread nD τ).loc main_arg0)) (m ((c : Thread nD τ).loc main_arg2)) :=
  (dats m 0 c).arrAt_eq_of_cover 5 _ (fun t _ => flushed_u m c t) covered5

open Cert.Reference19Ideal.Read

/-- The reference's products are the same sums. -/
theorem ref_p (h : FVec Ideal S4096x1024 .f32) (w : FVec Ideal S1024x2816 .f32) (j : S4096x2816.Idx) :
    val_main_v0 (F := Ideal) h w j = X h w j := by
  rw [val_main_v0_apply]
  unfold X
  refine Finset.sum_congr rfl fun k _ => ?_
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl
theorem ref_q (h : FVec Ideal S4096x1024 .f32) (w : FVec Ideal S1024x2816 .f32) (j : S4096x2816.Idx) :
    val_main_v1 (F := Ideal) h w j = X h w j := by
  rw [val_main_v1_apply]
  unfold X
  refine Finset.sum_congr rfl fun k _ => ?_
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The reference's activations. -/
theorem ref_a (h : FVec Ideal S4096x1024 .f32) (wg wu : FVec Ideal S1024x2816 .f32) :
    val_main_v4 (F := Ideal) h wg wu = A h wg wu := by
  funext j
  rw [val_main_v4_apply, val_main_v3_apply, val_main_v2_apply, val_main_call0_v5_apply, val_main_call0_v4_apply, val_main_call0_cst_0_apply,
    val_main_call0_v3_apply, val_main_call0_v2_apply, val_main_call0_cst_apply, val_main_call0_v1_apply, val_main_call0_v0_apply,
    ref_p, ref_q]
  unfold A
  rw [ks_eq]
  show HMul.hMul (α := EReal) (β := EReal) (γ := EReal) (HMul.hMul (α := EReal) (β := EReal) (γ := EReal) (X h wg j)
    (Ideal.div (Ideal.ofBits .f32 0x3F800000#32) (Ideal.ofBits .f32 0x3F800000#32 + Ideal.exp (-(X h wg j))))) (X h wu j) = _
  rw [Arith.ofBits_one]
theorem ref_g (h : FVec Ideal S4096x1024 .f32) (w : FVec Ideal S1024x2816 .f32) : val_main_v5 (F := Ideal) h w = X h w := by
  funext j
  rw [val_main_v5_apply, ref_p]
  rfl
theorem ref_u (h : FVec Ideal S4096x1024 .f32) (w : FVec Ideal S1024x2816 .f32) : val_main_v6 (F := Ideal) h w = X h w := by
  funext j
  rw [val_main_v6_apply, ref_q]
  rfl

/-- The call and its reference end with equal results. -/
theorem algebraic : Cert.algebraic_Kernel19Ideal_Reference19Ideal := by
  intro m g m' g' _ hm
  refine ⟨fun c => A (m ((c : Thread nD τ).loc main_arg0)) (m ((c : Thread nD τ).loc main_arg1)) (m ((c : Thread nD τ).loc main_arg2)), fun c => X (m ((c : Thread nD τ).loc main_arg0)) (m ((c : Thread nD τ).loc main_arg1)), fun c => X (m ((c : Thread nD τ).loc main_arg0)) (m ((c : Thread nD τ).loc main_arg2)), ?_, ?_⟩
  · exact (θ_run defs _ _).mono (fun r h c => ⟨(h c).1.trans (final_a m c), (h c).2.1.trans (final_g m c), (h c).2.2.1.trans (final_u m c), (h c).2.2.2⟩) (run_blocks m g)
  · refine (θ_run Cert.Reference19Ideal.defs _ _).mono (fun r h c => ?_) (Cert.Reference19Ideal.Value.run m' g')
    obtain ⟨e0, e1, e2⟩ := hm c
    refine ⟨(h c).1.trans ?_, (h c).2.1.trans ?_, (h c).2.2.1.trans ?_, (h c).2.2.2⟩
    · rw [e0, e1, e2]
      exact ref_a _ _ _
    · rw [e0, e1]
      exact ref_g _ _
    · rw [e0, e2]
      exact ref_u _ _

end Cert.Proof.FfnUp

end
-- ==== Proof.GlaModel.lean ====
/- The gated recurrence over the reals: what a chunk of 64 rows adds to the state of a head, and what it reads from it. The arrays are functions of a row
   and a column; head `h` is the columns `128 h` to `128 h + 127`. -/
module

public import proofs.«01_k».proof.Proof.Arith
public import Idealize.ShloMosaic.Lib.Pointwise

@[expose] public section

noncomputable section

namespace Cert.Proof.GlaModel

open Idealize.ShloMosaic

/-- The scale of the queries: the real that its word denotes. -/
def sc : ℝ := (Ideal.ofBits .f32 0x3DB504F3#32).toReal

theorem sc_word : Ideal.ofBits .f32 0x3DB504F3#32 = (sc : EReal) := by
  unfold sc
  refine (EReal.coe_toReal ?_ ?_).symm <;> simp [Ideal.ofBits, Ideal.ieee, -EReal.coe_mul]

/-- The exponential of a real, and the other operations that stay among the reals. -/
theorem exp_coe (x : ℝ) : Ideal.exp (x : EReal) = ((Real.exp x : ℝ) : EReal) := rfl
theorem ite_coe (p : Prop) [Decidable p] (x : ℝ) : (if p then (x : EReal) else 0) = ((if p then x else 0 : ℝ) : EReal) := by
  split <;> rfl
theorem zero_sub_coe (x : ℝ) : (0 : EReal) - (x : EReal) = ((-x : ℝ) : EReal) := by
  rw [← EReal.coe_zero, ← EReal.coe_sub, zero_sub]

/-- The mask of a chunk, as words: column not past row. -/
theorem mask_word : ∀ i j : Fin 64, IntOp.cmpi .sle (BitVec.ofNat 32 j.val) (BitVec.ofNat 32 i.val) = if j.val ≤ i.val then 1#1 else 0#1 := by
  decide +kernel
theorem select_mask {α : Type} (i j : Fin 64) (a b : α) :
    Scalar.select (IntOp.cmpi .sle (BitVec.ofNat 32 j.val) (BitVec.ofNat 32 i.val)) a b = if j.val ≤ i.val then a else b := by
  rw [mask_word]
  by_cases h : j.val ≤ i.val
  · rw [if_pos h, if_pos h]; rfl
  · rw [if_neg h, if_neg h]; rfl

variable (q k v a : ℕ → ℕ → ℝ)

/-- The logarithms of the gates, summed within chunk `n` up to row `i`. -/
def cum (n i c : ℕ) : ℝ := ∑ j : Fin 64, if j.val ≤ i then a (64 * n + j.val) c else 0
/-- Query and keys under their decays. -/
def qd (n i c : ℕ) : ℝ := q (64 * n + i) c * sc * Real.exp (cum a n i c)
def kd (n i c : ℕ) : ℝ := k (64 * n + i) c * Real.exp (-cum a n i c)
def ke (n i c : ℕ) : ℝ := k (64 * n + i) c * Real.exp (cum a n 63 c - cum a n i c)
/-- The state of head `h` before chunk `n`. -/
def st : ℕ → ℕ → ℕ → ℕ → ℝ
  | 0, _, _, _ => 0
  | n + 1, h, e, d => st n h e d * Real.exp (cum a n 63 (128 * h + d)) + ∑ j : Fin 64, v (64 * n + j.val) (128 * h + e) * ke k a n j.val (128 * h + d)
theorem st_succ (n h e d : ℕ) : st k v a (n + 1) h e d
    = st k v a n h e d * Real.exp (cum a n 63 (128 * h + d)) + ∑ j : Fin 64, v (64 * n + j.val) (128 * h + e) * ke k a n j.val (128 * h + d) := rfl
/-- The output of head `h` at row `i` of chunk `n`. -/
def out (n h i e : ℕ) : ℝ :=
  (∑ j : Fin 64, if j.val ≤ i then (∑ d : Fin 128, qd q a n i (128 * h + d.val) * kd k a n j.val (128 * h + d.val)) * v (64 * n + j.val) (128 * h + e) else 0)
    + ∑ d : Fin 128, qd q a n i (128 * h + d.val) * st k v a n h e d.val

end Cert.Proof.GlaModel

end
-- ==== Proof.GlaFwd.lean ====
/- One chunk of the forward recurrence, as the kernel computes it. -/
module

public import proofs.«01_k».proof.Proof.Gen.Kernel20Ideal.Value
public import proofs.«01_k».proof.Proof.GlaModel
public import Idealize.ShloMosaic.Lib.Pipeline.ReadBack
public import Idealize.ShloMosaic.Lib.Pipeline.ValueKit.Acc
public import Idealize.ShloMosaic.Lib.Pipeline.ValueKit.Tiles

@[expose] public section

noncomputable section

namespace Cert.Proof.GlaFwd

open Cert.Kernel20Ideal Cert.Kernel20Ideal.Gen Cert.Kernel20Ideal.Value Idealize.ShloMosaic Idealize.ShloMosaic.TcCoe
open Cert.Proof.Arith Cert.Proof.GlaModel

/-- A block's array at chunk `n`, every entry the real of `f`. -/
def Is (n : ℕ) (f : ℕ → ℕ → ℝ) (x : Vec Ideal S64x512 .f32) : Prop := ∀ (i : Fin 64) (c : Fin 512), x (ix2 i c) = ((f (64 * n + i.val) c.val : ℝ) : EReal)

/-- The mask as a real: one below the diagonal. -/
theorem mask_real (p : Prop) [Decidable p] :
    (FloatOps.sitofp (F := Ideal) .f32 (BitVec.setWidth 32 (if p then 1#1 else 0#1)) : EReal) = ((if p then 1 else 0 : ℝ) : EReal) := by
  by_cases h : p
  · rw [if_pos h, if_pos h]
    show (((BitVec.setWidth 32 1#1).toInt : ℝ) : EReal) = _
    rw [show (BitVec.setWidth 32 1#1).toInt = 1 by decide, Int.cast_one]
  · rw [if_neg h, if_neg h]
    show (((BitVec.setWidth 32 0#1).toInt : ℝ) : EReal) = _
    rw [show (BitVec.setWidth 32 0#1).toInt = 0 by decide, Int.cast_zero]

/-- The product with the ones below the diagonal, in three rounded parts, is the running sum. -/
theorem pay5_val {n : ℕ} {a : ℕ → ℕ → ℝ} (x : Vec Ideal S64x512 .f32) (h : Is n a x) (i : Fin 64) (c : Fin 512) :
    k0_pay5 x (ix2 i c) = ((cum a n i.val c.val : ℝ) : EReal) := by
  pointwise [k0_pay5, k0_pay4]
  simp only [mask_word, mask_real, h i, h _ c, ← EReal.coe_sub, ← EReal.coe_mul, coe_sum, ← EReal.coe_add, sub_self, mul_zero, Finset.sum_const_zero, add_zero]
  unfold cum
  simp only [ite_mul, one_mul, zero_mul]

/-- What a point leaves in its block of the output, over the state `acc`. -/
def outBlk (x0 x1 x2 x3 : Vec Ideal S64x512 .f32) (acc : Vec Ideal S512x128 .f32) : FVec Ideal S64x512 .f32 :=
  k0_pay2 k0_pay4 (k0_pay11 k0_pay4 (View.ld x1 (Rect.unit ![0, 0] ![64, 128] inb_S64x512_S64x128_0_0)) (View.ld x2 (Rect.unit ![0, 0] ![64, 128] inb_S64x512_S64x128_0_0)) (k0_pay9 x3 (View.ld x0 (Rect.unit ![0, 0] ![64, 128] inb_S64x512_S64x128_0_0))) (k0_pay10 x3) (View.ld acc (Rect.unit ![0, 0] ![128, 128] inb_S512x128_S128x128_0_0))) (k0_pay17 k0_pay4 (View.ld x2 (Rect.unit ![0, 128] ![64, 128] inb_S64x512_S64x128_0_128)) (k0_pay15 (k0_pay5 x3) (View.ld x0 (Rect.unit ![0, 128] ![64, 128] inb_S64x512_S64x128_0_128))) (k0_pay16 (k0_pay5 x3) (View.ld x1 (Rect.unit ![0, 128] ![64, 128] inb_S64x512_S64x128_0_128))) (View.ld acc (Rect.unit ![128, 0] ![128, 128] inb_S512x128_S128x128_128_0))) (k0_pay24 k0_pay4 (View.ld x2 (Rect.unit ![0, 256] ![64, 128] inb_S64x512_S64x128_0_256)) (k0_pay21 (k0_pay5 x3) (View.ld x0 (Rect.unit ![0, 256] ![64, 128] inb_S64x512_S64x128_0_256))) (k0_pay22 (k0_pay5 x3) (View.ld x1 (Rect.unit ![0, 256] ![64, 128] inb_S64x512_S64x128_0_256))) (View.ld acc (Rect.unit ![256, 0] ![128, 128] inb_S512x128_S128x128_256_0))) (View.ld x2 (Rect.unit ![0, 384] ![64, 128] inb_S64x512_S64x128_0_384)) (k0_pay28 (k0_pay5 x3) (View.ld x0 (Rect.unit ![0, 384] ![64, 128] inb_S64x512_S64x128_0_384))) (k0_pay29 (k0_pay5 x3) (View.ld x1 (Rect.unit ![0, 384] ![64, 128] inb_S64x512_S64x128_0_384))) (View.ld acc (Rect.unit ![384, 0] ![128, 128] inb_S512x128_S128x128_384_0))
/-- What it leaves of the state, head by head. -/
def stPcs (x1 x2 x3 : Vec Ideal S64x512 .f32) (acc : Vec Ideal S512x128 .f32) : List (View.Piece (Elt Ideal) S512x128 .f32) :=
  [⟨Rect.unit ![384, 0] ![128, 128] inb_S512x128_S128x128_384_0, k0_pay1 (k0_pay27 (k0_pay5 x3)) (View.ld x2 (Rect.unit ![0, 384] ![64, 128] inb_S64x512_S64x128_0_384)) (k0_pay30 (k0_pay5 x3) (View.ld x1 (Rect.unit ![0, 384] ![64, 128] inb_S64x512_S64x128_0_384))) (View.ld acc (Rect.unit ![384, 0] ![128, 128] inb_S512x128_S128x128_384_0))⟩,
    ⟨Rect.unit ![256, 0] ![128, 128] inb_S512x128_S128x128_256_0, k0_pay25 (k0_pay20 (k0_pay5 x3)) (View.ld x1 (Rect.unit ![0, 256] ![64, 128] inb_S64x512_S64x128_0_256)) (View.ld x2 (Rect.unit ![0, 256] ![64, 128] inb_S64x512_S64x128_0_256)) (k0_pay23 (k0_pay5 x3)) (View.ld acc (Rect.unit ![256, 0] ![128, 128] inb_S512x128_S128x128_256_0))⟩,
    ⟨Rect.unit ![128, 0] ![128, 128] inb_S512x128_S128x128_128_0, k0_pay18 (k0_pay13 (k0_pay5 x3)) (k0_pay14 (k0_pay5 x3)) (View.ld x1 (Rect.unit ![0, 128] ![64, 128] inb_S64x512_S64x128_0_128)) (View.ld x2 (Rect.unit ![0, 128] ![64, 128] inb_S64x512_S64x128_0_128)) (View.ld acc (Rect.unit ![128, 0] ![128, 128] inb_S512x128_S128x128_128_0))⟩,
    ⟨Rect.unit ![0, 0] ![128, 128] inb_S512x128_S128x128_0_0, k0_pay12 (k0_pay7 x3) (k0_pay8 x3) (View.ld x1 (Rect.unit ![0, 0] ![64, 128] inb_S64x512_S64x128_0_0)) (View.ld x2 (Rect.unit ![0, 0] ![64, 128] inb_S64x512_S64x128_0_0)) (View.ld acc (Rect.unit ![0, 0] ![128, 128] inb_S512x128_S128x128_0_0))⟩]

section Cases
variable (c : Dev nD) (t : Fin cfg0.N) (x0 x1 x2 x3 : Vec Ideal S64x512 .f32) (acc : Vec Ideal S512x128 .f32)
theorem out_A (h0 : t.val % 64 = 0) : out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) x0 x1 x2 x3 = outBlk x0 x1 x2 x3 (k0_pay3 (F := Ideal)) := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
  rfl
theorem out_B (h0 : ¬t.val % 64 = 0) : out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) x0 x1 x2 x3 acc = outBlk x0 x1 x2 x3 acc := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
  rfl
theorem states_A (h0 : t.val % 64 = 0) : out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) x0 x1 x2 x3 = k0_pay6 (F := Ideal) (k0_pay3 (F := Ideal)) := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
theorem states_B (h0 : ¬t.val % 64 = 0) : out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) x0 x1 x2 x3 acc = k0_pay6 (F := Ideal) acc := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
theorem sout_A (h0 : t.val % 64 = 0) : sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) x0 x1 x2 x3
    = View.canon (stPcs x1 x2 x3 (k0_pay3 (F := Ideal)) ++ [⟨Rect.unit ![0, 0] ![512, 128] inb_S512x128_S512x128_0_0, k0_pay3 (F := Ideal)⟩]) := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
  rfl
theorem sout_B (h0 : ¬t.val % 64 = 0) : sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) x0 x1 x2 x3 acc = View.canon (stPcs x1 x2 x3 acc ++ []) := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
  rfl
end Cases

section Heads
variable {q k v a : ℕ → ℕ → ℝ} {n : ℕ} {x0 x1 x2 x3 : Vec Ideal S64x512 .f32} {acc : Vec Ideal S512x128 .f32}

/-- The state's array before chunk `n`. -/
def IsSt (k v a : ℕ → ℕ → ℝ) (n : ℕ) (acc : Vec Ideal S512x128 .f32) : Prop :=
  ∀ (r : Fin 512) (d : Fin 128), acc (ix2 r d) = ((st k v a n (r.val / 128) (r.val % 128) d.val : ℝ) : EReal)

theorem c63 : ((63 : Fin 64) : ℕ) = 63 := rfl
theorem dv0 (e : Fin 128) : e.val / 128 = 0 := by omega
theorem md0 (e : Fin 128) : e.val % 128 = e.val := by omega
theorem dv1 (e : Fin 128) : (128 + e.val) / 128 = 1 := by omega
theorem md1 (e : Fin 128) : (128 + e.val) % 128 = e.val := by omega
theorem dv2 (e : Fin 128) : (256 + e.val) / 128 = 2 := by omega
theorem md2 (e : Fin 128) : (256 + e.val) % 128 = e.val := by omega
theorem dv3 (e : Fin 128) : (384 + e.val) / 128 = 3 := by omega
theorem md3 (e : Fin 128) : (384 + e.val) % 128 = e.val := by omega

theorem out0 (h0 : Is n q x0) (h1 : Is n k x1) (h2 : Is n v x2) (h3 : Is n a x3) (hs : IsSt k v a n acc) (i : Fin 64) (e : Fin 128) :
    k0_pay11 k0_pay4 (View.ld x1 (Rect.unit ![0, 0] ![64, 128] inb_S64x512_S64x128_0_0)) (View.ld x2 (Rect.unit ![0, 0] ![64, 128] inb_S64x512_S64x128_0_0)) (k0_pay9 x3 (View.ld x0 (Rect.unit ![0, 0] ![64, 128] inb_S64x512_S64x128_0_0))) (k0_pay10 x3) (View.ld acc (Rect.unit ![0, 0] ![128, 128] inb_S512x128_S128x128_0_0)) (ix2 i e) = ((out q k v a n 0 i.val e.val : ℝ) : EReal) := by
  pointwise [k0_pay11, k0_pay4, k0_pay9, k0_pay10, k0_pay7]
  simp only [h0 _ _, h1 _ _, h2 _ _, hs _ _, pay5_val x3 h3, dv0, md0, ← EReal.coe_sub, ← EReal.coe_mul, coe_sum, ← EReal.coe_add, sc_word, exp_coe, zero_sub_coe, ite_coe, select_mask]
  unfold out qd kd
  simp only [Nat.reduceMul, Nat.zero_add]
theorem st0 (h1 : Is n k x1) (h2 : Is n v x2) (h3 : Is n a x3) (hs : IsSt k v a n acc) (e d : Fin 128) :
    k0_pay12 (k0_pay7 x3) (k0_pay8 x3) (View.ld x1 (Rect.unit ![0, 0] ![64, 128] inb_S64x512_S64x128_0_0)) (View.ld x2 (Rect.unit ![0, 0] ![64, 128] inb_S64x512_S64x128_0_0)) (View.ld acc (Rect.unit ![0, 0] ![128, 128] inb_S512x128_S128x128_0_0)) (ix2 e d) = ((st k v a (n + 1) 0 e.val d.val : ℝ) : EReal) := by
  pointwise [k0_pay12, k0_pay7, k0_pay8]
  simp only [h1 _ _, h2 _ _, hs _ _, pay5_val x3 h3, dv0, md0, ← EReal.coe_sub, ← EReal.coe_mul, coe_sum, ← EReal.coe_add, sc_word, exp_coe, zero_sub_coe, ite_coe, select_mask]
  rw [st_succ]; unfold ke
  simp only [Nat.reduceMul, Nat.zero_add, c63]
theorem out1 (h0 : Is n q x0) (h1 : Is n k x1) (h2 : Is n v x2) (h3 : Is n a x3) (hs : IsSt k v a n acc) (i : Fin 64) (e : Fin 128) :
    k0_pay17 k0_pay4 (View.ld x2 (Rect.unit ![0, 128] ![64, 128] inb_S64x512_S64x128_0_128)) (k0_pay15 (k0_pay5 x3) (View.ld x0 (Rect.unit ![0, 128] ![64, 128] inb_S64x512_S64x128_0_128))) (k0_pay16 (k0_pay5 x3) (View.ld x1 (Rect.unit ![0, 128] ![64, 128] inb_S64x512_S64x128_0_128))) (View.ld acc (Rect.unit ![128, 0] ![128, 128] inb_S512x128_S128x128_128_0)) (ix2 i e) = ((out q k v a n 1 i.val e.val : ℝ) : EReal) := by
  pointwise [k0_pay17, k0_pay4, k0_pay15, k0_pay16, k0_pay13]
  simp only [h0 _ _, h1 _ _, h2 _ _, hs _ _, pay5_val x3 h3, dv1, md1, ← EReal.coe_sub, ← EReal.coe_mul, coe_sum, ← EReal.coe_add, sc_word, exp_coe, zero_sub_coe, ite_coe, select_mask]
  unfold out qd kd
  simp only [Nat.reduceMul, Nat.zero_add]
theorem st1 (h1 : Is n k x1) (h2 : Is n v x2) (h3 : Is n a x3) (hs : IsSt k v a n acc) (e d : Fin 128) :
    k0_pay18 (k0_pay13 (k0_pay5 x3)) (k0_pay14 (k0_pay5 x3)) (View.ld x1 (Rect.unit ![0, 128] ![64, 128] inb_S64x512_S64x128_0_128)) (View.ld x2 (Rect.unit ![0, 128] ![64, 128] inb_S64x512_S64x128_0_128)) (View.ld acc (Rect.unit ![128, 0] ![128, 128] inb_S512x128_S128x128_128_0)) (ix2 e d) = ((st k v a (n + 1) 1 e.val d.val : ℝ) : EReal) := by
  pointwise [k0_pay18, k0_pay13, k0_pay14]
  simp only [h1 _ _, h2 _ _, hs _ _, pay5_val x3 h3, dv1, md1, ← EReal.coe_sub, ← EReal.coe_mul, coe_sum, ← EReal.coe_add, sc_word, exp_coe, zero_sub_coe, ite_coe, select_mask]
  rw [st_succ]; unfold ke
  simp only [Nat.reduceMul, Nat.zero_add, c63]
theorem out2 (h0 : Is n q x0) (h1 : Is n k x1) (h2 : Is n v x2) (h3 : Is n a x3) (hs : IsSt k v a n acc) (i : Fin 64) (e : Fin 128) :
    k0_pay24 k0_pay4 (View.ld x2 (Rect.unit ![0, 256] ![64, 128] inb_S64x512_S64x128_0_256)) (k0_pay21 (k0_pay5 x3) (View.ld x0 (Rect.unit ![0, 256] ![64, 128] inb_S64x512_S64x128_0_256))) (k0_pay22 (k0_pay5 x3) (View.ld x1 (Rect.unit ![0, 256] ![64, 128] inb_S64x512_S64x128_0_256))) (View.ld acc (Rect.unit ![256, 0] ![128, 128] inb_S512x128_S128x128_256_0)) (ix2 i e) = ((out q k v a n 2 i.val e.val : ℝ) : EReal) := by
  pointwise [k0_pay24, k0_pay4, k0_pay21, k0_pay22, k0_pay19]
  simp only [h0 _ _, h1 _ _, h2 _ _, hs _ _, pay5_val x3 h3, dv2, md2, ← EReal.coe_sub, ← EReal.coe_mul, coe_sum, ← EReal.coe_add, sc_word, exp_coe, zero_sub_coe, ite_coe, select_mask]
  unfold out qd kd
  simp only [Nat.reduceMul, Nat.zero_add]
theorem st2 (h1 : Is n k x1) (h2 : Is n v x2) (h3 : Is n a x3) (hs : IsSt k v a n acc) (e d : Fin 128) :
    k0_pay25 (k0_pay20 (k0_pay5 x3)) (View.ld x1 (Rect.unit ![0, 256] ![64, 128] inb_S64x512_S64x128_0_256)) (View.ld x2 (Rect.unit ![0, 256] ![64, 128] inb_S64x512_S64x128_0_256)) (k0_pay23 (k0_pay5 x3)) (View.ld acc (Rect.unit ![256, 0] ![128, 128] inb_S512x128_S128x128_256_0)) (ix2 e d) = ((st k v a (n + 1) 2 e.val d.val : ℝ) : EReal) := by
  pointwise [k0_pay25, k0_pay20, k0_pay23, k0_pay19]
  simp only [h1 _ _, h2 _ _, hs _ _, pay5_val x3 h3, dv2, md2, ← EReal.coe_sub, ← EReal.coe_mul, coe_sum, ← EReal.coe_add, sc_word, exp_coe, zero_sub_coe, ite_coe, select_mask]
  rw [st_succ]; unfold ke
  simp only [Nat.reduceMul, Nat.zero_add, c63]
theorem out3 (h0 : Is n q x0) (h1 : Is n k x1) (h2 : Is n v x2) (h3 : Is n a x3) (hs : IsSt k v a n acc) (i : Fin 64) (e : Fin 128) :
    outBlk x0 x1 x2 x3 acc (ix2 i ⟨384 + e.val, by omega⟩) = ((out q k v a n 3 i.val e.val : ℝ) : EReal) := by
  pointwise [outBlk, k0_pay2, k0_pay4, k0_pay28, k0_pay29, k0_pay26]
  rw [dif_neg (by omega), dif_neg (by omega), dif_neg (by omega)]
  simp only [show 384 + e.val - 128 - 128 - 128 = e.val by omega]
  simp only [h0 _ _, h1 _ _, h2 _ _, hs _ _, pay5_val x3 h3, dv3, md3, ← EReal.coe_sub, ← EReal.coe_mul, coe_sum, ← EReal.coe_add, sc_word, exp_coe, zero_sub_coe, ite_coe, select_mask]
  unfold out qd kd
  simp only [Nat.reduceMul, Nat.zero_add]
theorem st3 (h1 : Is n k x1) (h2 : Is n v x2) (h3 : Is n a x3) (hs : IsSt k v a n acc) (e d : Fin 128) :
    k0_pay1 (k0_pay27 (k0_pay5 x3)) (View.ld x2 (Rect.unit ![0, 384] ![64, 128] inb_S64x512_S64x128_0_384)) (k0_pay30 (k0_pay5 x3) (View.ld x1 (Rect.unit ![0, 384] ![64, 128] inb_S64x512_S64x128_0_384))) (View.ld acc (Rect.unit ![384, 0] ![128, 128] inb_S512x128_S128x128_384_0)) (ix2 e d) = ((st k v a (n + 1) 3 e.val d.val : ℝ) : EReal) := by
  pointwise [k0_pay1, k0_pay27, k0_pay30, k0_pay26]
  simp only [h1 _ _, h2 _ _, hs _ _, pay5_val x3 h3, dv3, md3, ← EReal.coe_sub, ← EReal.coe_mul, coe_sum, ← EReal.coe_add, sc_word, exp_coe, zero_sub_coe, ite_coe, select_mask]
  rw [st_succ]; unfold ke
  simp only [Nat.reduceMul, Nat.zero_add, c63]
end Heads

end Cert.Proof.GlaFwd

end
-- ==== Proof.GlaPt.lean ====
/- One point of `gla_fwd`: its blocks of the output and of the state it leaves are those of the real recurrence. -/
module

public import proofs.«01_k».proof.Proof.Gen.Kernel20Ideal.Value
public import proofs.«01_k».proof.Proof.GlaModel
public import proofs.«01_k».proof.Proof.GlaFwd
public import Idealize.ShloMosaic.Lib.Pipeline.ReadBack
public import Idealize.ShloMosaic.Lib.Pipeline.ValueKit.Acc
public import Idealize.ShloMosaic.Lib.Pipeline.ValueKit.Tiles

@[expose] public section

noncomputable section

namespace Cert.Proof.GlaPt

open Cert.Kernel20Ideal Cert.Kernel20Ideal.Gen Cert.Kernel20Ideal.Value Idealize.ShloMosaic Idealize.ShloMosaic.TcCoe Cert.Proof.GlaModel Cert.Proof.GlaFwd Idealize.SL.Sem

variable {q k v a : ℕ → ℕ → ℝ} {n : ℕ} {x0 x1 x2 x3 : Vec Ideal S64x512 .f32} {acc : Vec Ideal S512x128 .f32}

/-- The whole block of the output. -/
theorem outBlk_val (h0 : Is n q x0) (h1 : Is n k x1) (h2 : Is n v x2) (h3 : Is n a x3) (hs : IsSt k v a n acc) (i : Fin 64) (c : Fin 512) :
    outBlk x0 x1 x2 x3 acc (ix2 i c) = ((out q k v a n (c.val / 128) i.val (c.val % 128) : ℝ) : EReal) := by
  obtain ⟨h, e, rfl⟩ : ∃ (h : Fin 4) (e : Fin 128), c = ⟨128 * h.val + e.val, by omega⟩ :=
    ⟨⟨c.val / 128, by omega⟩, ⟨c.val % 128, by omega⟩, Fin.ext (by show c.val = 128 * (c.val / 128) + c.val % 128; omega)⟩
  have e1 : (128 * h.val + e.val) / 128 = h.val := by omega
  have e2 : (128 * h.val + e.val) % 128 = e.val := by omega
  show _ = ((out q k v a n ((128 * h.val + e.val) / 128) i.val ((128 * h.val + e.val) % 128) : ℝ) : EReal)
  rw [e1, e2]
  match h with
  | ⟨0, _⟩ =>
    rw [← out0 h0 h1 h2 h3 hs i e]
    pointwise [outBlk, k0_pay2]
  | ⟨1, _⟩ =>
    rw [← out1 h0 h1 h2 h3 hs i e]
    pointwise [outBlk, k0_pay2]
  | ⟨2, _⟩ =>
    rw [← out2 h0 h1 h2 h3 hs i e]
    pointwise [outBlk, k0_pay2]
    rw [dif_neg (by omega), dif_neg (by omega), dif_pos (by omega)]
    simp only [show 256 + e.val - 128 - 128 = e.val by omega]
  | ⟨3, _⟩ => exact out3 h0 h1 h2 h3 hs i e

/-- The state after the chunk. -/
theorem stPcs_val (L : List (View.Piece (Elt Ideal) S512x128 .f32)) (h1 : Is n k x1) (h2 : Is n v x2) (h3 : Is n a x3) (hs : IsSt k v a n acc) :
    IsSt k v a (n + 1) (View.canon (stPcs x1 x2 x3 acc ++ L)) := by
  intro r d
  refine View.canon_append_of_piecesOf (Val := Elt Ideal)
    (fun y : S512x128.Idx => ((st k v a (n + 1) ((y 0).val / 128) ((y 0).val % 128) (y 1).val : ℝ) : EReal)) L (stPcs x1 x2 x3 acc)
    ⟨fun x => ?_, fun x => ?_, fun x => ?_, fun x => ?_, trivial⟩ (ix2 r d) (View.cover_of_tiledL (stPcs x1 x2 x3 acc) S128x128.size (by sl_kernel_rfl) _)
  · refine (congrArg _ (eq_ix2 x)).trans ((st3 h1 h2 h3 hs (x 0) (x 1)).trans ?_)
    have hx : (x 0).val < 128 := (x 0).isLt
    show _ = ((st k v a (n + 1) ((384 + 1 * (x 0).val) / 128) ((384 + 1 * (x 0).val) % 128) (0 + 1 * (x 1).val) : ℝ) : EReal)
    rw [show (384 + 1 * (x 0).val) / 128 = 3 by omega, show (384 + 1 * (x 0).val) % 128 = (x 0).val by omega, show 0 + 1 * (x 1).val = (x 1).val by omega]
  · refine (congrArg _ (eq_ix2 x)).trans ((st2 h1 h2 h3 hs (x 0) (x 1)).trans ?_)
    have hx : (x 0).val < 128 := (x 0).isLt
    show _ = ((st k v a (n + 1) ((256 + 1 * (x 0).val) / 128) ((256 + 1 * (x 0).val) % 128) (0 + 1 * (x 1).val) : ℝ) : EReal)
    rw [show (256 + 1 * (x 0).val) / 128 = 2 by omega, show (256 + 1 * (x 0).val) % 128 = (x 0).val by omega, show 0 + 1 * (x 1).val = (x 1).val by omega]
  · refine (congrArg _ (eq_ix2 x)).trans ((st1 h1 h2 h3 hs (x 0) (x 1)).trans ?_)
    have hx : (x 0).val < 128 := (x 0).isLt
    show _ = ((st k v a (n + 1) ((128 + 1 * (x 0).val) / 128) ((128 + 1 * (x 0).val) % 128) (0 + 1 * (x 1).val) : ℝ) : EReal)
    rw [show (128 + 1 * (x 0).val) / 128 = 1 by omega, show (128 + 1 * (x 0).val) % 128 = (x 0).val by omega, show 0 + 1 * (x 1).val = (x 1).val by omega]
  · refine (congrArg _ (eq_ix2 x)).trans ((st0 h1 h2 h3 hs (x 0) (x 1)).trans ?_)
    have hx : (x 0).val < 128 := (x 0).isLt
    show _ = ((st k v a (n + 1) ((0 + 1 * (x 0).val) / 128) ((0 + 1 * (x 0).val) % 128) (0 + 1 * (x 1).val) : ℝ) : EReal)
    rw [show (0 + 1 * (x 0).val) / 128 = 0 by omega, show (0 + 1 * (x 0).val) % 128 = (x 0).val by omega, show 0 + 1 * (x 1).val = (x 1).val by omega]

end Cert.Proof.GlaPt

end
-- ==== Proof.GlaRun.lean ====
/- The two arrays `gla_fwd` leaves: the recurrence's output and the state before every chunk, the arguments being real. -/
module

public import proofs.«01_k».proof.Proof.Gen.Kernel20Ideal.Value
public import proofs.«01_k».proof.Proof.GlaModel
public import proofs.«01_k».proof.Proof.GlaFwd
public import proofs.«01_k».proof.Proof.GlaPt
public import Idealize.ShloMosaic.Lib.Pipeline.ReadBack
public import Idealize.ShloMosaic.Lib.Pipeline.ValueKit.Acc
public import Idealize.ShloMosaic.Lib.Pipeline.ValueKit.Tiles

@[expose] public section

noncomputable section

namespace Cert.Proof.GlaRun

open Cert.Kernel20Ideal Cert.Kernel20Ideal.Gen Cert.Kernel20Ideal.Value Idealize.ShloMosaic Idealize.ShloMosaic.TcCoe Cert.Proof.GlaModel Cert.Proof.GlaFwd Idealize.SL.Sem Cert.Proof.GlaPt

variable (m : (ℓ : Loc nD τ sig) → Buf (Elt Ideal) ℓ) (c : Dev nD) {q k v a : ℕ → ℕ → ℝ}

/-- What the blocks of the point `t` hold, the launched arrays being real. -/
structure Real (q k v a : ℕ → ℕ → ℝ) : Prop where
  hq : ∀ (r : Fin 4096) (x : Fin 512), m ((c : Thread nD τ).loc main_arg0) (ix2 r ⟨3584 + x.val, by omega⟩ : S4096x6656.Idx) = ((q r.val x.val : ℝ) : EReal)
  hk : ∀ (r : Fin 4096) (x : Fin 512), m ((c : Thread nD τ).loc main_arg0) (ix2 r ⟨4096 + x.val, by omega⟩ : S4096x6656.Idx) = ((k r.val x.val : ℝ) : EReal)
  hv : ∀ (r : Fin 4096) (x : Fin 512), m ((c : Thread nD τ).loc main_arg0) (ix2 r ⟨4608 + x.val, by omega⟩ : S4096x6656.Idx) = ((v r.val x.val : ℝ) : EReal)
  ha : ∀ (r : Fin 4096) (x : Fin 512), m ((c : Thread nD τ).loc main_arg1) (ix2 r x : S4096x512.Idx) = ((a r.val x.val : ℝ) : EReal)

/-- Where the blocks lie. -/
theorem idx : ∀ t : Fin cfg0.N, (win0_0.index t (0 : Fin 2) = t.val ∧ win0_0.index t (1 : Fin 2) = 7) ∧ (win0_1.index t (0 : Fin 2) = t.val ∧ win0_1.index t (1 : Fin 2) = 8)
    ∧ (win0_2.index t (0 : Fin 2) = t.val ∧ win0_2.index t (1 : Fin 2) = 9) ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 3) = t.val ∧ win0_5.index t (1 : Fin 3) = 0 ∧ win0_5.index t (2 : Fin 3) = 0) :=
  (by decide +kernel : ∀ t : Fin grid0.N, _)

variable {m c}

theorem blk_q (h : Real m c q k v a) (t : Fin cfg0.N) : Is t.val q (iblk m c 0 t) := by
  intro i x
  have ht : t.val < 64 := lt_of_lt_of_eq t.isLt N_0
  have hr : 64 * t.val + i.val < 4096 := by omega
  obtain ⟨e0, e1⟩ := (idx t).1
  refine Eq.trans ?_ (h.hq ⟨64 * t.val + i.val, hr⟩ x)
  show V m c main_arg0 (((cfg0.win 0).blk t).view.emb (ix2 i x : S64x512.Idx)) = _
  rw [V_main_arg0 m c]
  congr 1; funext z; apply Fin.ext
  match z with
  | ⟨0, _⟩ => show win0_0.index t (0 : Fin 2) * 64 + 1 * i.val = 64 * t.val + i.val; omega
  | ⟨1, _⟩ => show win0_0.index t (1 : Fin 2) * 512 + 1 * x.val = 3584 + x.val; omega

theorem blk_k (h : Real m c q k v a) (t : Fin cfg0.N) : Is t.val k (iblk m c 1 t) := by
  intro i x
  have ht : t.val < 64 := lt_of_lt_of_eq t.isLt N_0
  have hr : 64 * t.val + i.val < 4096 := by omega
  obtain ⟨e0, e1⟩ := (idx t).2.1
  refine Eq.trans ?_ (h.hk ⟨64 * t.val + i.val, hr⟩ x)
  show V m c main_arg0 (((cfg0.win 1).blk t).view.emb (ix2 i x : S64x512.Idx)) = _
  rw [V_main_arg0 m c]
  congr 1; funext z; apply Fin.ext
  match z with
  | ⟨0, _⟩ => show win0_1.index t (0 : Fin 2) * 64 + 1 * i.val = 64 * t.val + i.val; omega
  | ⟨1, _⟩ => show win0_1.index t (1 : Fin 2) * 512 + 1 * x.val = 4096 + x.val; omega

theorem blk_v (h : Real m c q k v a) (t : Fin cfg0.N) : Is t.val v (iblk m c 2 t) := by
  intro i x
  have ht : t.val < 64 := lt_of_lt_of_eq t.isLt N_0
  have hr : 64 * t.val + i.val < 4096 := by omega
  obtain ⟨e0, e1⟩ := (idx t).2.2.1
  refine Eq.trans ?_ (h.hv ⟨64 * t.val + i.val, hr⟩ x)
  show V m c main_arg0 (((cfg0.win 2).blk t).view.emb (ix2 i x : S64x512.Idx)) = _
  rw [V_main_arg0 m c]
  congr 1; funext z; apply Fin.ext
  match z with
  | ⟨0, _⟩ => show win0_2.index t (0 : Fin 2) * 64 + 1 * i.val = 64 * t.val + i.val; omega
  | ⟨1, _⟩ => show win0_2.index t (1 : Fin 2) * 512 + 1 * x.val = 4608 + x.val; omega

theorem blk_a (h : Real m c q k v a) (t : Fin cfg0.N) : Is t.val a (iblk m c 3 t) := by
  intro i x
  have ht : t.val < 64 := lt_of_lt_of_eq t.isLt N_0
  have hr : 64 * t.val + i.val < 4096 := by omega
  obtain ⟨e0, e1⟩ := (idx t).2.2.2.1
  refine Eq.trans ?_ (h.ha ⟨64 * t.val + i.val, hr⟩ x)
  show V m c main_arg1 (((cfg0.win 3).blk t).view.emb (ix2 i x : S64x512.Idx)) = _
  rw [V_main_arg1 m c]
  congr 1; funext z; apply Fin.ext
  match z with
  | ⟨0, _⟩ => show win0_3.index t (0 : Fin 2) * 64 + 1 * i.val = 64 * t.val + i.val; omega
  | ⟨1, _⟩ => show win0_3.index t (1 : Fin 2) * 512 + 1 * x.val = x.val; omega

theorem zero_val : IsSt k v a 0 (k0_pay3 (F := Ideal)) := by
  intro r d
  pointwise [k0_pay3]
  exact EReal.coe_zero.symm

/-- The state a point leaves. -/
theorem scr (h : Real m c q k v a) : ∀ (n : ℕ) (hn : n < cfg0.N), IsSt k v a (n + 1) (outsAt0 m c n hn).2.2
  | 0, hn => by
    rw [outsAt0_A m c ⟨0, hn⟩ (Nat.zero_mod _)]
    dsimp only
    rw [sout_A (t := ⟨0, hn⟩) (h0 := Nat.zero_mod _)]
    exact stPcs_val _ (blk_k h ⟨0, hn⟩) (blk_v h ⟨0, hn⟩) (blk_a h ⟨0, hn⟩) zero_val
  | n + 1, hn => by
    have hN : n + 1 < 64 := lt_of_lt_of_eq hn N_0
    have ih := scr h n (Nat.lt_of_succ_lt hn)
    rw [outsAt0_B m c ⟨n + 1, hn⟩ (show ¬(n + 1) % 64 = 0 by omega)]
    dsimp only
    rw [sout_B]
    exact stPcs_val _ (blk_k h ⟨n + 1, hn⟩) (blk_v h ⟨n + 1, hn⟩) (blk_a h ⟨n + 1, hn⟩) ih

/-- The results, entry by entry. -/
def O (q k v a : ℕ → ℕ → ℝ) : FVec Ideal S4096x512 .f32 :=
  fun j => ((out q k v a ((j 0).val / 64) ((j 1).val / 128) ((j 0).val % 64) ((j 1).val % 128) : ℝ) : EReal)
def S (k v a : ℕ → ℕ → ℝ) : FVec Ideal S64x512x128 .f32 :=
  fun j => ((st k v a (j 0).val ((j 1).val / 128) ((j 1).val % 128) (j 2).val : ℝ) : EReal)

theorem flushed_o (h : Real m c q k v a) (t : Fin cfg0.N) :
    (dats m 0 c).flushed 4 t = ((cfg0.win 4).blk t).view.read (Elt Ideal) (O q k v a) := by
  obtain ⟨e0, e1⟩ := (idx t).2.2.2.2.1
  have ht : t.val < 64 := lt_of_lt_of_eq t.isLt N_0
  have key : ∀ j : S64x512.Idx, (dats m 0 c).flushed 4 t j = ((out q k v a t.val ((j 1).val / 128) (j 0).val ((j 1).val % 128) : ℝ) : EReal) := by
    intro j
    by_cases h0 : t.val % 64 = 0
    · rw [flushed4_A m c t h0]
      show out0_A_4 _ _ _ _ _ _ _ _ _ _ _ _ _ _ _ _ _ _ _ _ _ j = _
      rw [out_A (h0 := h0)]
      have z : IsSt k v a t.val (k0_pay3 (F := Ideal)) := by rw [show t.val = 0 by omega]; exact zero_val
      exact (congrArg _ (eq_ix2 j)).trans (outBlk_val (blk_q h t) (blk_k h t) (blk_v h t) (blk_a h t) z (j 0) (j 1))
    · rw [flushed4_B m c t h0]
      show out0_B_4 _ _ _ _ _ _ _ _ _ _ _ _ _ _ _ _ _ _ _ _ _ _ j = _
      rw [out_B]
      have z := scr h (t.val - 1) (Nat.lt_of_le_of_lt (Nat.sub_le _ _) t.isLt)
      rw [show t.val - 1 + 1 = t.val by omega] at z
      exact (congrArg _ (eq_ix2 j)).trans (outBlk_val (blk_q h t) (blk_k h t) (blk_v h t) (blk_a h t) z (j 0) (j 1))
  funext j
  refine (key j).trans ?_
  have hj0 : (j 0).val < 64 := (j 0).isLt
  have hj1 : (j 1).val < 512 := (j 1).isLt
  show _ = ((out q k v a ((win0_4.index t (0 : Fin 2) * 64 + 1 * (j 0).val) / 64) ((win0_4.index t (1 : Fin 2) * 512 + 1 * (j 1).val) / 128)
    ((win0_4.index t (0 : Fin 2) * 64 + 1 * (j 0).val) % 64) ((win0_4.index t (1 : Fin 2) * 512 + 1 * (j 1).val) % 128) : ℝ) : EReal)
  rw [e0, e1, show (t.val * 64 + 1 * (j 0).val) / 64 = t.val by omega, show (t.val * 64 + 1 * (j 0).val) % 64 = (j 0).val by omega,
    show 0 * 512 + 1 * (j 1).val = (j 1).val by omega]

theorem flushed_s (h : Real m c q k v a) (t : Fin cfg0.N) :
    (dats m 0 c).flushed 5 t = ((cfg0.win 5).blk t).view.read (Elt Ideal) (S k v a) := by
  obtain ⟨e0, e1, e2⟩ := (idx t).2.2.2.2.2
  have ht : t.val < 64 := lt_of_lt_of_eq t.isLt N_0
  have pay6 : ∀ (acc : Vec Ideal S512x128 .f32) (_ : IsSt k v a t.val acc) (j : S1x512x128.Idx), k0_pay6 (F := Ideal) acc j = ((st k v a t.val ((j 1).val / 128) ((j 1).val % 128) (j 2).val : ℝ) : EReal) := by
    intro acc hs j
    refine Eq.trans ?_ (hs (j 1) (j 2))
    refine (congrArg _ (eq_ix3 j)).trans ?_
    generalize j 0 = x; generalize j 1 = y; generalize j 2 = z
    pointwise [k0_pay6]
  have key : ∀ j : S1x512x128.Idx, (dats m 0 c).flushed 5 t j = ((st k v a t.val ((j 1).val / 128) ((j 1).val % 128) (j 2).val : ℝ) : EReal) := by
    intro j
    by_cases h0 : t.val % 64 = 0
    · rw [flushed5_A m c t h0]
      show out0_A_5 _ _ _ _ _ _ _ _ _ _ _ _ _ _ _ _ _ _ _ _ _ j = _
      rw [states_A (h0 := h0)]
      have z : IsSt k v a t.val (k0_pay3 (F := Ideal)) := by rw [show t.val = 0 by omega]; exact zero_val
      exact pay6 _ z j
    · rw [flushed5_B m c t h0]
      show out0_B_5 _ _ _ _ _ _ _ _ _ _ _ _ _ _ _ _ _ _ _ _ _ _ j = _
      rw [states_B]
      have z := scr h (t.val - 1) (Nat.lt_of_le_of_lt (Nat.sub_le _ _) t.isLt)
      rw [show t.val - 1 + 1 = t.val by omega] at z
      exact pay6 _ z j
  funext j
  refine (key j).trans ?_
  have hj0 : (j 0).val < 1 := (j 0).isLt
  show _ = ((st k v a (win0_5.index t (0 : Fin 3) * 1 + 1 * (j 0).val) ((win0_5.index t (1 : Fin 3) * 512 + 1 * (j 1).val) / 128)
    ((win0_5.index t (1 : Fin 3) * 512 + 1 * (j 1).val) % 128) (win0_5.index t (2 : Fin 3) * 128 + 1 * (j 2).val) : ℝ) : EReal)
  rw [e0, e1, e2, show t.val * 1 + 1 * (j 0).val = t.val by omega,
    show 0 * 512 + 1 * (j 1).val = (j 1).val by omega, show 0 * 128 + 1 * (j 2).val = (j 2).val by omega]

theorem covered_o (i : S4096x512.Idx) : ∃ t : Fin cfg0.N, (cfg0.win 4).flush t = true ∧ i ∈ ((cfg0.win 4).blk t).view.set := by
  have h0 : (i 0).val < 4096 := (i 0).isLt
  have h1 : (i 1).val < 512 := (i 1).isLt
  let t : Fin cfg0.N := ⟨(i 0).val / 64, lt_of_lt_of_eq (show (i 0).val / 64 < 64 by omega) N_0.symm⟩
  obtain ⟨e0, e1⟩ := (idx t).2.2.2.2.1
  have et : t.val = (i 0).val / 64 := rfl
  refine ⟨t, flush0_4 t, ?_⟩
  have h := ((cfg0.win 4).blk t).view.emb_mem_set (ix2 ⟨(i 0).val % 64, by omega⟩ (i 1) : S64x512.Idx)
  have e : ((cfg0.win 4).blk t).view.emb (ix2 ⟨(i 0).val % 64, by omega⟩ (i 1) : S64x512.Idx) = i := by
    funext z; apply Fin.ext
    match z with
    | ⟨0, _⟩ => show win0_4.index t (0 : Fin 2) * 64 + 1 * ((i 0).val % 64) = (i 0).val; omega
    | ⟨1, _⟩ => show win0_4.index t (1 : Fin 2) * 512 + 1 * (i 1).val = (i 1).val; omega
  rwa [e] at h

theorem covered_s (i : S64x512x128.Idx) : ∃ t : Fin cfg0.N, (cfg0.win 5).flush t = true ∧ i ∈ ((cfg0.win 5).blk t).view.set := by
  have h0 : (i 0).val < 64 := (i 0).isLt
  let t : Fin cfg0.N := ⟨(i 0).val, lt_of_lt_of_eq h0 N_0.symm⟩
  obtain ⟨e0, e1, e2⟩ := (idx t).2.2.2.2.2
  have et : t.val = (i 0).val := rfl
  refine ⟨t, flush0_5 t, ?_⟩
  have h := ((cfg0.win 5).blk t).view.emb_mem_set (ix3 0 (i 1) (i 2) : S1x512x128.Idx)
  have e : ((cfg0.win 5).blk t).view.emb (ix3 0 (i 1) (i 2) : S1x512x128.Idx) = i := by
    funext z; apply Fin.ext
    match z with
    | ⟨0, _⟩ => show win0_5.index t (0 : Fin 3) * 1 + 1 * 0 = (i 0).val; omega
    | ⟨1, _⟩ => show win0_5.index t (1 : Fin 3) * 512 + 1 * (i 1).val = (i 1).val; omega
    | ⟨2, _⟩ => show win0_5.index t (2 : Fin 3) * 128 + 1 * (i 2).val = (i 2).val; omega
  rwa [e] at h

theorem final_o (h : Real m c q k v a) : (dats m 0 c).arrAt 4 cfg0.N = O q k v a :=
  (dats m 0 c).arrAt_eq_of_cover 4 _ (fun t _ => flushed_o h t) covered_o
theorem final_s (h : Real m c q k v a) : (dats m 0 c).arrAt 5 cfg0.N = S k v a :=
  (dats m 0 c).arrAt_eq_of_cover 5 _ (fun t _ => flushed_s h t) covered_s

end Cert.Proof.GlaRun

end
-- ==== Proof.GlaSum.lean ====
/- A running sum within the chunks of 64 rows, as the host writes it (a window of 64, padded 63 low), read entry by entry. -/
module

public import proofs.«01_k».proof.Defs
public import Idealize.ShloMosaic.Lib.Pointwise

@[expose] public section

noncomputable section

namespace Cert.Proof.GlaSum

open Cert.Reference20Ideal Idealize.ShloMosaic

/-- A fold that adds is the start and the sum of the list. -/
theorem foldl_add {ι : Type} (g : ι → EReal) (l : List ι) : ∀ z : EReal, l.foldl (fun r n => r + g n) z = z + (l.map g).sum := by
  induction l with
  | nil => intro z; simp
  | cons x xs ih => intro z; rw [List.foldl_cons, ih, List.map_cons, List.sum_cons, add_assoc]

/-- The entries a window meets, counted from the window's low end or by their own row. -/
theorem reindex (g : Fin 64 → EReal) (i : Fin 64) :
    (∑ c : Fin 64, if hc : 63 ≤ i.val + c.val then g ⟨i.val + c.val - 63, by omega⟩ else 0) = ∑ j : Fin 64, if j.val ≤ i.val then g j else 0 := by
  have e : ∀ c : Fin 64, (if hc : 63 ≤ i.val + c.val then g ⟨i.val + c.val - 63, by omega⟩ else 0)
      = ∑ j : Fin 64, if j.val + 63 = i.val + c.val then g j else 0 := by
    intro c
    by_cases hc : 63 ≤ i.val + c.val
    · rw [dif_pos hc, Finset.sum_eq_single (⟨i.val + c.val - 63, by omega⟩ : Fin 64)]
      · rw [if_pos (by show i.val + c.val - 63 + 63 = _; omega)]
      · intro b _ hb
        rw [if_neg]
        intro h
        exact hb (Fin.ext (by show b.val = i.val + c.val - 63; omega))
      · intro h; exact absurd (Finset.mem_univ _) h
    · rw [dif_neg hc]
      refine (Finset.sum_eq_zero fun j _ => if_neg ?_).symm
      omega
  simp only [e]
  rw [Finset.sum_comm]
  refine Finset.sum_congr rfl fun j _ => ?_
  by_cases hj : j.val ≤ i.val
  · rw [if_pos hj, Finset.sum_eq_single (⟨j.val + 63 - i.val, by omega⟩ : Fin 64)]
    · rw [if_pos (by show j.val + 63 = i.val + (j.val + 63 - i.val); omega)]
    · intro b _ hb
      rw [if_neg]
      intro h
      exact hb (Fin.ext (by show b.val = j.val + 63 - i.val; omega))
    · intro h; exact absurd (Finset.mem_univ _) h
  · rw [if_neg hj]
    refine Finset.sum_eq_zero fun c _ => if_neg ?_
    have := c.isLt
    omega

/-- The entries a window meets, counted from the window's high end. -/
theorem reindex_up (g : Fin 64 → EReal) (i : Fin 64) :
    (∑ c : Fin 64, if hc : i.val + c.val < 64 then g ⟨i.val + c.val, hc⟩ else 0) = ∑ j : Fin 64, if i.val ≤ j.val then g j else 0 := by
  have e : ∀ c : Fin 64, (if hc : i.val + c.val < 64 then g ⟨i.val + c.val, hc⟩ else 0)
      = ∑ j : Fin 64, if j.val = i.val + c.val then g j else 0 := by
    intro c
    by_cases hc : i.val + c.val < 64
    · rw [dif_pos hc, Finset.sum_eq_single (⟨i.val + c.val, hc⟩ : Fin 64)]
      · rw [if_pos rfl]
      · intro b _ hb
        rw [if_neg]
        intro h
        exact hb (Fin.ext h)
      · intro h; exact absurd (Finset.mem_univ _) h
    · rw [dif_neg hc]
      refine (Finset.sum_eq_zero fun j _ => if_neg ?_).symm
      have := j.isLt
      omega
  simp only [e]
  rw [Finset.sum_comm]
  refine Finset.sum_congr rfl fun j _ => ?_
  by_cases hj : i.val ≤ j.val
  · rw [if_pos hj, Finset.sum_eq_single (⟨j.val - i.val, by omega⟩ : Fin 64)]
    · rw [if_pos (by show j.val = i.val + (j.val - i.val); omega)]
    · intro b _ hb
      rw [if_neg]
      intro h
      exact hb (Fin.ext (by show b.val = j.val - i.val; omega))
    · intro h; exact absurd (Finset.mem_univ _) h
  · rw [if_neg hj]
    refine Finset.sum_eq_zero fun c _ => if_neg ?_
    omega

/-- A sum over windows that start from nothing, entry by entry: the entries of the operand that the window meets. -/
theorem window_apply {s t : Shape} (window strides lo hi : Fin s.rank → ℕ) (x : FVec Ideal s .f32) (w : FVec Ideal S_ .f32)
    (hw : w ix0 = 0) (hr : s.ReduceWindows window strides lo hi t) (hp : 0 < S_.numel) (j : t.Idx) :
    Host.reduceWindowAdd (F := Ideal) (φ := .f32) window strides lo hi x w hr hp j
      = ∑ y : (⟨s.rank, window⟩ : Shape).Idx,
          if hin : ∀ a : Fin s.rank, lo a ≤ (j (a.cast hr.1.symm)).val * strides a + (y a).val
              ∧ (j (a.cast hr.1.symm)).val * strides a + (y a).val - lo a < s.size a
          then (x (fun a => ⟨(j (a.cast hr.1.symm)).val * strides a + (y a).val - lo a, (hin a).2⟩) : EReal) else 0 := by
  have hw' : w (Shape.Idx.first hp) = (0 : EReal) := by rw [← hw]; congr 1; funext a; exact a.elim0
  rw [Host.reduceWindowAdd, Ideal.hostReduceWindowAdd_def, Ideal.hostReduceWindowAdd, Host.reduceWindow]
  dsimp only
  rw [hw']
  exact (foldl_add (fun n => _) _ _).trans (by
    rw [zero_add, ← Fin.sum_univ_def]
    refine Eq.trans ?_ (Equiv.sum_comp (⟨s.rank, window⟩ : Shape).rowMajor.symm (fun y =>
      if hin : ∀ a : Fin s.rank, lo a ≤ (j (a.cast hr.1.symm)).val * strides a + (y a).val
              ∧ (j (a.cast hr.1.symm)).val * strides a + (y a).val - lo a < s.size a
          then (x (fun a => ⟨(j (a.cast hr.1.symm)).val * strides a + (y a).val - lo a, (hin a).2⟩) : EReal) else 0))
    refine Finset.sum_congr rfl fun m _ => ?_
    congr)

/-- A window of 64 padded 63 low is the sum of the entries up to the index. -/
theorem cumsum_apply (x : FVec Ideal S1x64x64x4x128 .f32) (w : FVec Ideal S_ .f32) (hw : w ix0 = 0) (hr) (hp)
    (n i : Fin 64) (h : Fin 4) (d : Fin 128) :
    Host.reduceWindowAdd (F := Ideal) (s := S1x64x64x4x128) (t := S1x64x64x4x128) (u := S_) (φ := .f32) ![1, 1, 64, 1, 1] ![1, 1, 1, 1, 1] ![0, 0, 63, 0, 0] ![0, 0, 0, 0, 0] x w hr hp (ix5 0 n i h d)
      = ∑ j : Fin 64, if j.val ≤ i.val then x (ix5 0 n j h d) else 0 := by
  rw [window_apply _ _ _ _ x w hw hr hp, ← reindex (fun j => x (ix5 0 n j h d)) i]
  refine (sum_idx5 (n0 := 1) (n1 := 1) (n2 := 64) (n3 := 1) (n4 := 1) _).trans ?_
  rw [Fin.sum_univ_one, Fin.sum_univ_one]
  refine Finset.sum_congr rfl fun c _ => ?_
  rw [Fin.sum_univ_one, Fin.sum_univ_one]
  by_cases hc : 63 ≤ i.val + c.val
  · rw [dif_pos hc, dif_pos]
    · refine congrArg x ?_
      funext a
      fin_cases a
      · exact Fin.ext (by show 0 * 1 + 0 - 0 = 0; rfl)
      · exact Fin.ext (by show n.val * 1 + 0 - 0 = n.val; omega)
      · exact Fin.ext (by show i.val * 1 + c.val - 63 = i.val + c.val - 63; omega)
      · exact Fin.ext (by show h.val * 1 + 0 - 0 = h.val; omega)
      · exact Fin.ext (by show d.val * 1 + 0 - 0 = d.val; omega)
    · intro a
      have h0 := n.isLt
      have h1 := i.isLt
      have h2 := h.isLt
      have h3 := d.isLt
      have h4 := c.isLt
      fin_cases a
      · show 0 ≤ 0 * 1 + 0 ∧ 0 * 1 + 0 - 0 < 1; omega
      · show 0 ≤ n.val * 1 + 0 ∧ n.val * 1 + 0 - 0 < 64; omega
      · show 63 ≤ i.val * 1 + c.val ∧ i.val * 1 + c.val - 63 < 64; omega
      · show 0 ≤ h.val * 1 + 0 ∧ h.val * 1 + 0 - 0 < 4; omega
      · show 0 ≤ d.val * 1 + 0 ∧ d.val * 1 + 0 - 0 < 128; omega
  · rw [dif_neg hc, dif_neg]
    intro hin
    have : 63 ≤ i.val * 1 + c.val := (hin 2).1
    omega

/-- A window of 64 padded 63 high is the sum of the entries from the index on. -/
theorem cumsum_up_apply (x : FVec Ideal S1x64x64x4x128 .f32) (w : FVec Ideal S_ .f32) (hw : w ix0 = 0) (hr) (hp)
    (n i : Fin 64) (h : Fin 4) (d : Fin 128) :
    Host.reduceWindowAdd (F := Ideal) (s := S1x64x64x4x128) (t := S1x64x64x4x128) (u := S_) (φ := .f32) ![1, 1, 64, 1, 1] ![1, 1, 1, 1, 1] ![0, 0, 0, 0, 0] ![0, 0, 63, 0, 0] x w hr hp (ix5 0 n i h d)
      = ∑ j : Fin 64, if i.val ≤ j.val then x (ix5 0 n j h d) else 0 := by
  rw [window_apply _ _ _ _ x w hw hr hp, ← reindex_up (fun j => x (ix5 0 n j h d)) i]
  refine (sum_idx5 (n0 := 1) (n1 := 1) (n2 := 64) (n3 := 1) (n4 := 1) _).trans ?_
  rw [Fin.sum_univ_one, Fin.sum_univ_one]
  refine Finset.sum_congr rfl fun c _ => ?_
  rw [Fin.sum_univ_one, Fin.sum_univ_one]
  by_cases hc : i.val + c.val < 64
  · rw [dif_pos hc, dif_pos]
    · refine congrArg x ?_
      funext a
      fin_cases a
      · exact Fin.ext (by show 0 * 1 + 0 - 0 = 0; rfl)
      · exact Fin.ext (by show n.val * 1 + 0 - 0 = n.val; omega)
      · exact Fin.ext (by show i.val * 1 + c.val - 0 = i.val + c.val; omega)
      · exact Fin.ext (by show h.val * 1 + 0 - 0 = h.val; omega)
      · exact Fin.ext (by show d.val * 1 + 0 - 0 = d.val; omega)
    · intro a
      have h0 := n.isLt
      have h1 := i.isLt
      have h2 := h.isLt
      have h3 := d.isLt
      have h4 := c.isLt
      fin_cases a
      · show 0 ≤ 0 * 1 + 0 ∧ 0 * 1 + 0 - 0 < 1; omega
      · show 0 ≤ n.val * 1 + 0 ∧ n.val * 1 + 0 - 0 < 64; omega
      · show 0 ≤ i.val * 1 + c.val ∧ i.val * 1 + c.val - 0 < 64; omega
      · show 0 ≤ h.val * 1 + 0 ∧ h.val * 1 + 0 - 0 < 4; omega
      · show 0 ≤ d.val * 1 + 0 ∧ d.val * 1 + 0 - 0 < 128; omega
  · rw [dif_neg hc, dif_neg]
    intro hin
    have : i.val * 1 + c.val - 0 < 64 := (hin 2).2
    omega

end Cert.Proof.GlaSum

end
-- ==== Proof.GlaRef.lean ====
/- The reference of `gla_fwd` read entry by entry: its values before its loop. -/
module

public import proofs.«01_k».proof.Defs
public import proofs.«01_k».proof.Proof.GlaModel
public import proofs.«01_k».proof.Proof.GlaSum
public import proofs.«01_k».proof.Proof.Gen.Reference20Ideal.Run
public import Idealize.ShloMosaic.Lib.Pointwise

@[expose] public section

noncomputable section

namespace Cert.Proof.GlaRef

open Cert.Reference20Ideal Cert.Reference20Ideal.Gen Cert.Reference20Ideal.Value Idealize.ShloMosaic Idealize.ShloMosaic.TcCoe Cert.Proof.Arith Cert.Proof.GlaModel Cert.Proof.GlaSum

def val_main_v0 (x0 : FVec Ideal S4096x6656 .f32) (x1 : FVec Ideal S4096x512 .f32) : FVec Ideal S4096x512 .f32 :=
  (extractStridedSlice S4096x512 ![0, 3584] · slices_S4096x6656_S4096x512_0_3584) x0
def val_main_v1 (x0 : FVec Ideal S4096x6656 .f32) (x1 : FVec Ideal S4096x512 .f32) : FVec Ideal S4096x512 .f32 :=
  (extractStridedSlice S4096x512 ![0, 4096] · slices_S4096x6656_S4096x512_0_4096) x0
def val_main_v2 (x0 : FVec Ideal S4096x6656 .f32) (x1 : FVec Ideal S4096x512 .f32) : FVec Ideal S4096x512 .f32 :=
  (extractStridedSlice S4096x512 ![0, 4608] · slices_S4096x6656_S4096x512_0_4608) x0
def val_main_v3 (x0 : FVec Ideal S4096x6656 .f32) (x1 : FVec Ideal S4096x512 .f32) : FVec Ideal S1x4096x4x128 .f32 :=
  shapeCast S1x4096x4x128 (val_main_v0 x0 x1) shapeCasts_S4096x512_S1x4096x4x128
def val_main_cst (x0 : FVec Ideal S4096x6656 .f32) (x1 : FVec Ideal S4096x512 .f32) : FVec Ideal S_ .f32 :=
  (constant S_ .f32 0x3DB504F3#32)
def val_main_v4 (x0 : FVec Ideal S4096x6656 .f32) (x1 : FVec Ideal S4096x512 .f32) : FVec Ideal S1x4096x4x128 .f32 :=
  (broadcastInDim S1x4096x4x128 ![] bcast_S_S1x4096x4x128) (val_main_cst x0 x1)
def val_main_v5 (x0 : FVec Ideal S4096x6656 .f32) (x1 : FVec Ideal S4096x512 .f32) : FVec Ideal S1x4096x4x128 .f32 :=
  mulf (val_main_v3 x0 x1) (val_main_v4 x0 x1)
def val_main_v6 (x0 : FVec Ideal S4096x6656 .f32) (x1 : FVec Ideal S4096x512 .f32) : FVec Ideal S1x4096x4x128 .f32 :=
  shapeCast S1x4096x4x128 (val_main_v1 x0 x1) shapeCasts_S4096x512_S1x4096x4x128
def val_main_v7 (x0 : FVec Ideal S4096x6656 .f32) (x1 : FVec Ideal S4096x512 .f32) : FVec Ideal S1x4096x4x128 .f32 :=
  shapeCast S1x4096x4x128 (val_main_v2 x0 x1) shapeCasts_S4096x512_S1x4096x4x128
def val_main_v8 (x0 : FVec Ideal S4096x6656 .f32) (x1 : FVec Ideal S4096x512 .f32) : FVec Ideal S1x4096x4x128 .f32 :=
  shapeCast S1x4096x4x128 x1 shapeCasts_S4096x512_S1x4096x4x128
def val_main_v9 (x0 : FVec Ideal S4096x6656 .f32) (x1 : FVec Ideal S4096x512 .f32) : FVec Ideal S1x64x64x4x128 .f32 :=
  shapeCast S1x64x64x4x128 (val_main_v5 x0 x1) shapeCasts_S1x4096x4x128_S1x64x64x4x128
def val_main_v10 (x0 : FVec Ideal S4096x6656 .f32) (x1 : FVec Ideal S4096x512 .f32) : FVec Ideal S1x64x64x4x128 .f32 :=
  shapeCast S1x64x64x4x128 (val_main_v6 x0 x1) shapeCasts_S1x4096x4x128_S1x64x64x4x128
def val_main_v11 (x0 : FVec Ideal S4096x6656 .f32) (x1 : FVec Ideal S4096x512 .f32) : FVec Ideal S1x64x64x4x128 .f32 :=
  shapeCast S1x64x64x4x128 (val_main_v7 x0 x1) shapeCasts_S1x4096x4x128_S1x64x64x4x128
def val_main_v12 (x0 : FVec Ideal S4096x6656 .f32) (x1 : FVec Ideal S4096x512 .f32) : FVec Ideal S1x64x64x4x128 .f32 :=
  shapeCast S1x64x64x4x128 (val_main_v8 x0 x1) shapeCasts_S1x4096x4x128_S1x64x64x4x128
def val_main_call0_call0_cst (x0 : FVec Ideal S4096x6656 .f32) (x1 : FVec Ideal S4096x512 .f32) : FVec Ideal S_ .f32 :=
  (constant S_ .f32 0x00000000#32)
def val_main_call0_call0_v0 (x0 : FVec Ideal S4096x6656 .f32) (x1 : FVec Ideal S4096x512 .f32) : FVec Ideal S_ .f32 :=
  (broadcastInDim S_ ![] bcast_S_S_) (val_main_call0_call0_cst x0 x1)
def val_main_v13 (x0 : FVec Ideal S4096x6656 .f32) (x1 : FVec Ideal S4096x512 .f32) : FVec Ideal S1x64x64x4x128 .f32 :=
  (fun x v => Host.reduceWindowAdd ![1, 1, 64, 1, 1] ![1, 1, 1, 1, 1] ![0, 0, 63, 0, 0] ![0, 0, 0, 0, 0] x v reduceWindows_S1x64x64x4x128_S1x64x64x4x128_w1s1p0_0_w1s1p0_0_w64s1p63_0_w1s1p0_0_w1s1p0_0 h_S_) (val_main_v12 x0 x1) (val_main_call0_call0_v0 x0 x1)
def val_main_v14 (x0 : FVec Ideal S4096x6656 .f32) (x1 : FVec Ideal S4096x512 .f32) : FVec Ideal S1x64x1x4x128 .f32 :=
  (extractStridedSlice S1x64x1x4x128 ![0, 0, 63, 0, 0] · slices_S1x64x64x4x128_S1x64x1x4x128_0_0_63_0_0) (val_main_v13 x0 x1)
def val_main_v15 (x0 : FVec Ideal S4096x6656 .f32) (x1 : FVec Ideal S4096x512 .f32) : FVec Ideal S1x64x4x128 .f32 :=
  shapeCast S1x64x4x128 (val_main_v14 x0 x1) shapeCasts_S1x64x1x4x128_S1x64x4x128
def val_main_v16 (x0 : FVec Ideal S4096x6656 .f32) (x1 : FVec Ideal S4096x512 .f32) : FVec Ideal S1x64x64x4x128 .f32 :=
  Host.exp (val_main_v13 x0 x1)
def val_main_v17 (x0 : FVec Ideal S4096x6656 .f32) (x1 : FVec Ideal S4096x512 .f32) : FVec Ideal S1x64x64x4x128 .f32 :=
  mulf (val_main_v9 x0 x1) (val_main_v16 x0 x1)
def val_main_v18 (x0 : FVec Ideal S4096x6656 .f32) (x1 : FVec Ideal S4096x512 .f32) : FVec Ideal S1x64x64x4x128 .f32 :=
  Host.negf (val_main_v13 x0 x1)
def val_main_v19 (x0 : FVec Ideal S4096x6656 .f32) (x1 : FVec Ideal S4096x512 .f32) : FVec Ideal S1x64x64x4x128 .f32 :=
  Host.exp (val_main_v18 x0 x1)
def val_main_v20 (x0 : FVec Ideal S4096x6656 .f32) (x1 : FVec Ideal S4096x512 .f32) : FVec Ideal S1x64x64x4x128 .f32 :=
  mulf (val_main_v10 x0 x1) (val_main_v19 x0 x1)
def val_main_c (x0 : FVec Ideal S4096x6656 .f32) (x1 : FVec Ideal S4096x512 .f32) : IVec S_ 1 :=
  (constantI S_ 1 1#1)
def val_main_v21 (x0 : FVec Ideal S4096x6656 .f32) (x1 : FVec Ideal S4096x512 .f32) : IVec S64x64 1 :=
  (broadcastInDim S64x64 ![] bcast_S_S64x64) (val_main_c x0 x1)
def val_main_call1_v0 (x0 : FVec Ideal S4096x6656 .f32) (x1 : FVec Ideal S4096x512 .f32) : IVec S64x64 32 :=
  (iotaInDim S64x64 32 0)
def val_main_call1_c (x0 : FVec Ideal S4096x6656 .f32) (x1 : FVec Ideal S4096x512 .f32) : IVec S_ 32 :=
  (constantI S_ 32 0#32)
def val_main_call1_v1 (x0 : FVec Ideal S4096x6656 .f32) (x1 : FVec Ideal S4096x512 .f32) : IVec S64x64 32 :=
  (broadcastInDim S64x64 ![] bcast_S_S64x64) (val_main_call1_c x0 x1)
def val_main_call1_v2 (x0 : FVec Ideal S4096x6656 .f32) (x1 : FVec Ideal S4096x512 .f32) : IVec S64x64 32 :=
  addi (val_main_call1_v0 x0 x1) (val_main_call1_v1 x0 x1)
def val_main_call1_v3 (x0 : FVec Ideal S4096x6656 .f32) (x1 : FVec Ideal S4096x512 .f32) : IVec S64x64 32 :=
  (iotaInDim S64x64 32 1)
def val_main_call1_v4 (x0 : FVec Ideal S4096x6656 .f32) (x1 : FVec Ideal S4096x512 .f32) : IVec S64x64 1 :=
  (cmpi .sge) (val_main_call1_v2 x0 x1) (val_main_call1_v3 x0 x1)
def val_main_call1_c_0 (x0 : FVec Ideal S4096x6656 .f32) (x1 : FVec Ideal S4096x512 .f32) : IVec S_ 1 :=
  (constantI S_ 1 0#1)
def val_main_call1_v5 (x0 : FVec Ideal S4096x6656 .f32) (x1 : FVec Ideal S4096x512 .f32) : IVec S64x64 1 :=
  (broadcastInDim S64x64 ![] bcast_S_S64x64) (val_main_call1_c_0 x0 x1)
def val_main_v22 (x0 : FVec Ideal S4096x6656 .f32) (x1 : FVec Ideal S4096x512 .f32) : IVec S64x64 1 :=
  select (val_main_call1_v4 x0 x1) (val_main_v21 x0 x1) (val_main_call1_v5 x0 x1)
def val_main_v23 (x0 : FVec Ideal S4096x6656 .f32) (x1 : FVec Ideal S4096x512 .f32) : FVec Ideal S1x64x4x64x64 .f32 :=
  (fun l r => Host.dotGeneral dot_S1x64x64x4x128_S1x64x64x4x128_S1x64x4x64x64_4_4_2_2_013_013 none l r) (val_main_v17 x0 x1) (val_main_v20 x0 x1)
def val_main_cst_0 (x0 : FVec Ideal S4096x6656 .f32) (x1 : FVec Ideal S4096x512 .f32) : FVec Ideal S_ .f32 :=
  (constant S_ .f32 0x00000000#32)
def val_main_call2_v1 (x0 : FVec Ideal S4096x6656 .f32) (x1 : FVec Ideal S4096x512 .f32) : IVec S1x64x4x64x64 1 :=
  (broadcastInDim S1x64x4x64x64 ![3, 4] bcast_S64x64_S1x64x4x64x64_3_4) (val_main_v22 x0 x1)
def val_main_call2_v2 (x0 : FVec Ideal S4096x6656 .f32) (x1 : FVec Ideal S4096x512 .f32) : FVec Ideal S1x64x4x64x64 .f32 :=
  (broadcastInDim S1x64x4x64x64 ![] bcast_S_S1x64x4x64x64) (val_main_cst_0 x0 x1)
def val_main_v24 (x0 : FVec Ideal S4096x6656 .f32) (x1 : FVec Ideal S4096x512 .f32) : FVec Ideal S1x64x4x64x64 .f32 :=
  select (val_main_call2_v1 x0 x1) (val_main_v23 x0 x1) (val_main_call2_v2 x0 x1)
def val_main_v25 (x0 : FVec Ideal S4096x6656 .f32) (x1 : FVec Ideal S4096x512 .f32) : FVec Ideal S1x64x4x128x64 .f32 :=
  (fun l r => Host.dotGeneral dot_S1x64x64x4x128_S1x64x4x64x64_S1x64x4x128x64_2_4_4_3_013_012 none l r) (val_main_v11 x0 x1) (val_main_v24 x0 x1)
def val_main_v26 (x0 : FVec Ideal S4096x6656 .f32) (x1 : FVec Ideal S4096x512 .f32) : FVec Ideal S1x64x64x4x128 .f32 :=
  (transpose S1x64x64x4x128 [0, 1, 4, 2, 3] · transposes_S1x64x4x128x64_S1x64x64x4x128_0_1_4_2_3) (val_main_v25 x0 x1)
def val_main_v27 (x0 : FVec Ideal S4096x6656 .f32) (x1 : FVec Ideal S4096x512 .f32) : FVec Ideal S1x64x1x4x128 .f32 :=
  (broadcastInDim S1x64x1x4x128 ![0, 1, 3, 4] bcast_S1x64x4x128_S1x64x1x4x128_0_1_3_4) (val_main_v15 x0 x1)
def val_main_v28 (x0 : FVec Ideal S4096x6656 .f32) (x1 : FVec Ideal S4096x512 .f32) : FVec Ideal S1x64x64x4x128 .f32 :=
  (broadcastInDim S1x64x64x4x128 ![0, 1, 2, 3, 4] bcast_S1x64x1x4x128_S1x64x64x4x128_0_1_2_3_4) (val_main_v27 x0 x1)
def val_main_v29 (x0 : FVec Ideal S4096x6656 .f32) (x1 : FVec Ideal S4096x512 .f32) : FVec Ideal S1x64x64x4x128 .f32 :=
  subf (val_main_v28 x0 x1) (val_main_v13 x0 x1)
def val_main_v30 (x0 : FVec Ideal S4096x6656 .f32) (x1 : FVec Ideal S4096x512 .f32) : FVec Ideal S1x64x64x4x128 .f32 :=
  Host.exp (val_main_v29 x0 x1)
def val_main_v31 (x0 : FVec Ideal S4096x6656 .f32) (x1 : FVec Ideal S4096x512 .f32) : FVec Ideal S1x64x64x4x128 .f32 :=
  mulf (val_main_v10 x0 x1) (val_main_v30 x0 x1)
def val_main_v32 (x0 : FVec Ideal S4096x6656 .f32) (x1 : FVec Ideal S4096x512 .f32) : FVec Ideal S64x1x4x128x128 .f32 :=
  (fun l r => Host.dotGeneral dot_S1x64x64x4x128_S1x64x64x4x128_S64x1x4x128x128_2_2_4_4_103_103 none l r) (val_main_v31 x0 x1) (val_main_v11 x0 x1)
def val_main_v33 (x0 : FVec Ideal S4096x6656 .f32) (x1 : FVec Ideal S4096x512 .f32) : FVec Ideal S64x1x4x128 .f32 :=
  (transpose S64x1x4x128 [1, 0, 2, 3] · transposes_S1x64x4x128_S64x1x4x128_1_0_2_3) (val_main_v15 x0 x1)
def val_main_v34 (x0 : FVec Ideal S4096x6656 .f32) (x1 : FVec Ideal S4096x512 .f32) : FVec Ideal S64x1x4x128 .f32 :=
  Host.exp (val_main_v33 x0 x1)
def val_main_cst_1 (x0 : FVec Ideal S4096x6656 .f32) (x1 : FVec Ideal S4096x512 .f32) : FVec Ideal S_ .f32 :=
  (constant S_ .f32 0x00000000#32)
def val_main_v35 (x0 : FVec Ideal S4096x6656 .f32) (x1 : FVec Ideal S4096x512 .f32) : FVec Ideal S1x4x128x128 .f32 :=
  (broadcastInDim S1x4x128x128 ![] bcast_S_S1x4x128x128) (val_main_cst_1 x0 x1)
def val_main_cst_2 (x0 : FVec Ideal S4096x6656 .f32) (x1 : FVec Ideal S4096x512 .f32) : FVec Ideal S_ .f32 :=
  (constant S_ .f32 0x00000000#32)
def val_main_v36 (x0 : FVec Ideal S4096x6656 .f32) (x1 : FVec Ideal S4096x512 .f32) : FVec Ideal S64x1x4x128x128 .f32 :=
  (broadcastInDim S64x1x4x128x128 ![] bcast_S_S64x1x4x128x128) (val_main_cst_2 x0 x1)
def val_main_c_3 (x0 : FVec Ideal S4096x6656 .f32) (x1 : FVec Ideal S4096x512 .f32) : IVec S_ 32 :=
  (constantI S_ 32 0#32)

variable {q k v a : ℕ → ℕ → ℝ} {x0 : FVec Ideal S4096x6656 .f32} {x1 : FVec Ideal S4096x512 .f32}

/-- The queries, keys, values and gates as functions of a row and a column, read in the reference's arguments. -/
structure Real (q k v a : ℕ → ℕ → ℝ) (x0 : FVec Ideal S4096x6656 .f32) (x1 : FVec Ideal S4096x512 .f32) : Prop where
  hq : ∀ (r x : ℕ) (hr : r < 4096) (hx : 3584 + x < 6656), x < 512 → x0 (ix2 ⟨r, hr⟩ ⟨3584 + x, hx⟩) = ((q r x : ℝ) : EReal)
  hk : ∀ (r x : ℕ) (hr : r < 4096) (hx : 4096 + x < 6656), x < 512 → x0 (ix2 ⟨r, hr⟩ ⟨4096 + x, hx⟩) = ((k r x : ℝ) : EReal)
  hv : ∀ (r x : ℕ) (hr : r < 4096) (hx : 4608 + x < 6656), x < 512 → x0 (ix2 ⟨r, hr⟩ ⟨4608 + x, hx⟩) = ((v r x : ℝ) : EReal)
  ha : ∀ (r x : ℕ) (hr : r < 4096) (hx : x < 512), x1 (ix2 ⟨r, hr⟩ ⟨x, hx⟩) = ((a r x : ℝ) : EReal)

/-- The mask of a chunk, as the reference writes it. -/
theorem tril_word : ∀ i j : Fin 64, IntOp.cmpi .sge (IntOp.addi (BitVec.ofNat 32 i.val) 0#32) (BitVec.ofNat 32 j.val) = if j.val ≤ i.val then 1#1 else 0#1 := by
  decide +kernel
theorem select_tril {α : Type} (i j : Fin 64) (x y : α) :
    Scalar.select (Scalar.select (IntOp.cmpi .sge (IntOp.addi (BitVec.ofNat 32 i.val) 0#32) (BitVec.ofNat 32 j.val)) 1#1 0#1) x y = if j.val ≤ i.val then x else y := by
  rw [tril_word]
  by_cases h : j.val ≤ i.val
  · rw [if_pos h, if_pos h]; rfl
  · rw [if_neg h, if_neg h]; rfl

theorem v9_val (H : Real q k v a x0 x1) (n i : Fin 64) (h : Fin 4) (d : Fin 128) :
    val_main_v9 x0 x1 (ix5 0 n i h d) = ((q (64 * n.val + i.val) (128 * h.val + d.val) * sc : ℝ) : EReal) := by
  pointwise [val_main_v9, val_main_v5, val_main_v3, val_main_v0, val_main_v4, val_main_cst]
  rw [H.hq _ _ _ _ (by omega), sc_word, ← EReal.coe_mul, Nat.mul_comm n.val, Nat.mul_comm h.val]
theorem v10_val (H : Real q k v a x0 x1) (n i : Fin 64) (h : Fin 4) (d : Fin 128) :
    val_main_v10 x0 x1 (ix5 0 n i h d) = ((k (64 * n.val + i.val) (128 * h.val + d.val) : ℝ) : EReal) := by
  pointwise [val_main_v10, val_main_v6, val_main_v1]
  rw [H.hk _ _ _ _ (by omega), Nat.mul_comm n.val, Nat.mul_comm h.val]
theorem v11_val (H : Real q k v a x0 x1) (n i : Fin 64) (h : Fin 4) (d : Fin 128) :
    val_main_v11 x0 x1 (ix5 0 n i h d) = ((v (64 * n.val + i.val) (128 * h.val + d.val) : ℝ) : EReal) := by
  pointwise [val_main_v11, val_main_v7, val_main_v2]
  rw [H.hv _ _ _ _ (by omega), Nat.mul_comm n.val, Nat.mul_comm h.val]
theorem v12_val (H : Real q k v a x0 x1) (n i : Fin 64) (h : Fin 4) (d : Fin 128) :
    val_main_v12 x0 x1 (ix5 0 n i h d) = ((a (64 * n.val + i.val) (128 * h.val + d.val) : ℝ) : EReal) := by
  pointwise [val_main_v12, val_main_v8]
  rw [H.ha _ _ _ _, Nat.mul_comm n.val, Nat.mul_comm h.val]
theorem v13_val (H : Real q k v a x0 x1) (n i : Fin 64) (h : Fin 4) (d : Fin 128) :
    val_main_v13 x0 x1 (ix5 0 n i h d) = ((cum a n.val i.val (128 * h.val + d.val) : ℝ) : EReal) := by
  unfold val_main_v13
  refine (cumsum_apply _ _ ?_ _ _ n i h d).trans ?_
  · pointwise [val_main_call0_call0_v0, val_main_call0_call0_cst]
  · simp only [v12_val H, ite_coe, coe_sum]
    rfl
theorem v15_val (H : Real q k v a x0 x1) (n : Fin 64) (h : Fin 4) (d : Fin 128) :
    val_main_v15 x0 x1 (ix4 0 n h d) = ((cum a n.val 63 (128 * h.val + d.val) : ℝ) : EReal) := by
  pointwise [val_main_v15, val_main_v14]
  exact v13_val H n 63 h d
theorem v17_val (H : Real q k v a x0 x1) (n i : Fin 64) (h : Fin 4) (d : Fin 128) :
    val_main_v17 x0 x1 (ix5 0 n i h d) = ((qd q a n.val i.val (128 * h.val + d.val) : ℝ) : EReal) := by
  pointwise [val_main_v17, val_main_v16]
  rw [v9_val H, v13_val H, exp_coe, ← EReal.coe_mul]
  rfl
theorem v20_val (H : Real q k v a x0 x1) (n i : Fin 64) (h : Fin 4) (d : Fin 128) :
    val_main_v20 x0 x1 (ix5 0 n i h d) = ((kd k a n.val i.val (128 * h.val + d.val) : ℝ) : EReal) := by
  pointwise [val_main_v20, val_main_v19, val_main_v18]
  rw [v10_val H, v13_val H, ← EReal.coe_neg, exp_coe, ← EReal.coe_mul]
  rfl
theorem v24_val (H : Real q k v a x0 x1) (n i j : Fin 64) (h : Fin 4) :
    val_main_v24 x0 x1 (ix5 0 n h i j)
      = ((if j.val ≤ i.val then ∑ d : Fin 128, qd q a n.val i.val (128 * h.val + d.val) * kd k a n.val j.val (128 * h.val + d.val) else 0 : ℝ) : EReal) := by
  pointwise [val_main_v24, val_main_call2_v1, val_main_v22, val_main_call1_v4, val_main_call1_v2, val_main_call1_v0, val_main_call1_v1, val_main_call1_c, val_main_v21, val_main_c, val_main_call1_v5, val_main_call1_c_0, val_main_call1_v3, val_main_v23, val_main_call2_v2, val_main_cst_0]
  rw [select_tril]
  simp only [v17_val H, v20_val H, ← EReal.coe_mul, coe_sum, ite_coe]
theorem v26_val (H : Real q k v a x0 x1) (n i : Fin 64) (h : Fin 4) (e : Fin 128) :
    val_main_v26 x0 x1 (ix5 0 n i h e)
      = ((∑ j : Fin 64, if j.val ≤ i.val then (∑ d : Fin 128, qd q a n.val i.val (128 * h.val + d.val) * kd k a n.val j.val (128 * h.val + d.val)) * v (64 * n.val + j.val) (128 * h.val + e.val) else 0 : ℝ) : EReal) := by
  pointwise [val_main_v26, val_main_v25]
  simp only [v11_val H, v24_val H, ← EReal.coe_mul, coe_sum]
  refine congrArg _ (Finset.sum_congr rfl fun j _ => ?_)
  split
  · exact mul_comm _ _
  · exact mul_zero _
theorem v34_val (H : Real q k v a x0 x1) (n : Fin 64) (h : Fin 4) (d : Fin 128) :
    val_main_v34 x0 x1 (ix4 n 0 h d) = ((Real.exp (cum a n.val 63 (128 * h.val + d.val)) : ℝ) : EReal) := by
  pointwise [val_main_v34, val_main_v33]
  rw [v15_val H, exp_coe]
theorem v32_val (H : Real q k v a x0 x1) (n : Fin 64) (h : Fin 4) (d e : Fin 128) :
    val_main_v32 x0 x1 (ix5 n 0 h d e)
      = ((∑ j : Fin 64, v (64 * n.val + j.val) (128 * h.val + e.val) * ke k a n.val j.val (128 * h.val + d.val) : ℝ) : EReal) := by
  pointwise [val_main_v32, val_main_v31, val_main_v30, val_main_v29, val_main_v28, val_main_v27]
  simp only [v10_val H, v11_val H, v13_val H, v15_val H, ← EReal.coe_sub, exp_coe, ← EReal.coe_mul, coe_sum]
  refine congrArg _ (Finset.sum_congr rfl fun j _ => mul_comm _ _)

end Cert.Proof.GlaRef

end
-- ==== Proof.GlaSlice.lean ====
/- One chunk read from, or written into, an array that holds all of them, at a position the loop counts. -/
module

public import proofs.«01_k».proof.Defs
public import Idealize.ShloMosaic.Lib.Pointwise
public import Idealize.ShloMosaic.Lib.WordCmp

@[expose] public section

noncomputable section

namespace Cert.Proof.GlaSlice

open Cert.Reference20Ideal Idealize.ShloMosaic

variable {α : Type}

theorem slice4 (x : S64x1x4x128.Idx → α) (start : Fin 4 → ℤ) (h) (k : Fin 64) (e0 : start 0 = k.val) (e1 : start 1 = 0) (e2 : start 2 = 0) (e3 : start 3 = 0) :
    Host.dynamicSlice (s := S64x1x4x128) S1x1x4x128 x start h = fun j => x (ix4 k (j 1) (j 2) (j 3)) := by
  have hk : S64x1x4x128.Slices (![k.val, 0, 0, 0] : Fin 4 → ℕ) S1x1x4x128 := ⟨rfl, fun a => by
    have := k.isLt
    fin_cases a
    · show k.val + 1 ≤ 64; omega
    · exact Nat.le_of_eq (Nat.zero_add _)
    · exact Nat.le_of_eq (Nat.zero_add _)
    · exact Nat.le_of_eq (Nat.zero_add _)⟩
  rw [WordCmp.dynamicSlice_eq_extract S1x1x4x128 x start h (![k.val, 0, 0, 0] : Fin 4 → ℕ) hk (fun a => by fin_cases a; exacts [e0, e1, e2, e3])]
  funext j
  refine congrArg x ?_
  funext a
  fin_cases a
  · refine Fin.ext ?_
    show k.val + (j 0).val = k.val
    have : (j 0).val < 1 := (j 0).isLt
    omega
  · exact Fin.ext (Nat.zero_add _)
  · exact Fin.ext (Nat.zero_add _)
  · exact Fin.ext (Nat.zero_add _)

theorem slice5 (x : S64x1x4x128x128.Idx → α) (start : Fin 5 → ℤ) (h) (k : Fin 64) (e0 : start 0 = k.val) (e1 : start 1 = 0) (e2 : start 2 = 0) (e3 : start 3 = 0) (e4 : start 4 = 0) :
    Host.dynamicSlice (s := S64x1x4x128x128) S1x1x4x128x128 x start h = fun j => x (ix5 k (j 1) (j 2) (j 3) (j 4)) := by
  have hk : S64x1x4x128x128.Slices (![k.val, 0, 0, 0, 0] : Fin 5 → ℕ) S1x1x4x128x128 := ⟨rfl, fun a => by
    have := k.isLt
    fin_cases a
    · show k.val + 1 ≤ 64; omega
    · exact Nat.le_of_eq (Nat.zero_add _)
    · exact Nat.le_of_eq (Nat.zero_add _)
    · exact Nat.le_of_eq (Nat.zero_add _)
    · exact Nat.le_of_eq (Nat.zero_add _)⟩
  rw [WordCmp.dynamicSlice_eq_extract S1x1x4x128x128 x start h (![k.val, 0, 0, 0, 0] : Fin 5 → ℕ) hk (fun a => by fin_cases a; exacts [e0, e1, e2, e3, e4])]
  funext j
  refine congrArg x ?_
  funext a
  fin_cases a
  · refine Fin.ext ?_
    show k.val + (j 0).val = k.val
    have : (j 0).val < 1 := (j 0).isLt
    omega
  · exact Fin.ext (Nat.zero_add _)
  · exact Fin.ext (Nat.zero_add _)
  · exact Fin.ext (Nat.zero_add _)
  · exact Fin.ext (Nat.zero_add _)

theorem update5 (x : S64x1x4x128x128.Idx → α) (u : S1x1x4x128x128.Idx → α) (start : Fin 5 → ℤ) (h) (k : Fin 64) (e0 : start 0 = k.val) (e1 : start 1 = 0) (e2 : start 2 = 0) (e3 : start 3 = 0) (e4 : start 4 = 0) :
    Host.dynamicUpdateSlice (s := S64x1x4x128x128) (u := S1x1x4x128x128) x u start h
      = fun j => if (j 0).val = k.val then u (ix5 0 (j 1) (j 2) (j 3) (j 4)) else x j := by
  have hk : S64x1x4x128x128.Slices (![k.val, 0, 0, 0, 0] : Fin 5 → ℕ) S1x1x4x128x128 := ⟨rfl, fun a => by
    have := k.isLt
    fin_cases a
    · show k.val + 1 ≤ 64; omega
    · exact Nat.le_of_eq (Nat.zero_add _)
    · exact Nat.le_of_eq (Nat.zero_add _)
    · exact Nat.le_of_eq (Nat.zero_add _)
    · exact Nat.le_of_eq (Nat.zero_add _)⟩
  rw [WordCmp.dynamicUpdateSlice_eq_update x u start h (![k.val, 0, 0, 0, 0] : Fin 5 → ℕ) hk (fun a => by fin_cases a; exacts [e0, e1, e2, e3, e4])]
  funext j
  unfold updateSlice
  by_cases hj : (j 0).val = k.val
  · rw [if_pos hj, dif_pos]
    · refine congrArg u ?_
      funext a
      fin_cases a
      · exact Fin.ext (by show (j 0).val - k.val = 0; omega)
      · exact Fin.ext (Nat.sub_zero _)
      · exact Fin.ext (Nat.sub_zero _)
      · exact Fin.ext (Nat.sub_zero _)
      · exact Fin.ext (Nat.sub_zero _)
    · intro a
      fin_cases a
      · show k.val ≤ (j 0).val ∧ (j 0).val < k.val + 1; omega
      · exact ⟨Nat.zero_le _, by show (j 1).val < 0 + 1; rw [Nat.zero_add]; exact (j 1).isLt⟩
      · exact ⟨Nat.zero_le _, by show (j 2).val < 0 + 4; rw [Nat.zero_add]; exact (j 2).isLt⟩
      · exact ⟨Nat.zero_le _, by show (j 3).val < 0 + 128; rw [Nat.zero_add]; exact (j 3).isLt⟩
      · exact ⟨Nat.zero_le _, by show (j 4).val < 0 + 128; rw [Nat.zero_add]; exact (j 4).isLt⟩
  · rw [if_neg hj, dif_neg]
    intro hin
    have h0 : k.val ≤ (j 0).val ∧ (j 0).val < k.val + 1 := hin 0
    omega

end Cert.Proof.GlaSlice

end
-- ==== Proof.GlaLoop.lean ====
/- The reference of `gla_fwd` after its loop: the states it carries, and its two results. -/
module

public import proofs.«01_k».proof.Proof.GlaRef
public import proofs.«01_k».proof.Proof.GlaSlice

@[expose] public section

noncomputable section

namespace Cert.Proof.GlaLoop

open Cert.Reference20Ideal Cert.Reference20Ideal.Gen Cert.Reference20Ideal.Value Idealize.ShloMosaic Idealize.ShloMosaic.TcCoe Idealize.ShloMosaic.Tactic Idealize.ShloMosaic.StableHlo Cert.Proof.Arith Cert.Proof.GlaModel Cert.Proof.GlaRef Cert.Proof.GlaSlice

variable (m : (ℓ : Loc nD τ sig) → Buf (Elt Ideal) ℓ) (c : Dev nD)

/-- The reference's arguments. -/
abbrev A0 : FVec Ideal S4096x6656 .f32 := m ((c.tc : Thread nD τ).loc main_arg0)
abbrev A1 : FVec Ideal S4096x512 .f32 := m ((c.tc : Thread nD τ).loc main_arg1)

set_option maxRecDepth 100000 in
set_option maxHeartbeats 4000000 in
/-- The buffers when the loop is entered. -/
theorem entry_v17 : entryContents preI m c (Proc.devRef .tc main_v17) = val_main_v17 (A0 m c) (A1 m c) := by
  simp only [entryContents, afterL_cons, afterL_nil]
  after_reads_simp
  rfl
set_option maxRecDepth 100000 in
set_option maxHeartbeats 4000000 in
theorem entry_v26 : entryContents preI m c (Proc.devRef .tc main_v26) = val_main_v26 (A0 m c) (A1 m c) := by
  simp only [entryContents, afterL_cons, afterL_nil]
  after_reads_simp
  rfl
set_option maxRecDepth 100000 in
set_option maxHeartbeats 4000000 in
theorem entry_a : entryContents preI m c (Proc.devRef .tc main_v37_0) = val_main_v34 (A0 m c) (A1 m c) := by
  simp only [entryContents, afterL_cons, afterL_nil]
  after_reads_simp
  rfl
set_option maxRecDepth 100000 in
set_option maxHeartbeats 4000000 in
theorem entry_b : entryContents preI m c (Proc.devRef .tc main_v37_1) = val_main_v32 (A0 m c) (A1 m c) := by
  simp only [entryContents, afterL_cons, afterL_nil]
  after_reads_simp
  rfl
set_option maxRecDepth 100000 in
set_option maxHeartbeats 4000000 in
theorem entry_s : entryContents preI m c (Proc.devRef .tc main_v37_3) = val_main_v35 (A0 m c) (A1 m c) := by
  simp only [entryContents, afterL_cons, afterL_nil]
  after_reads_simp
  rfl
set_option maxRecDepth 100000 in
set_option maxHeartbeats 4000000 in
theorem entry_all : entryContents preI m c (Proc.devRef .tc main_v37_4) = val_main_v36 (A0 m c) (A1 m c) := by
  simp only [entryContents, afterL_cons, afterL_nil]
  after_reads_simp
  rfl

/-- A buffer that the loop doesn't write. -/
theorem kept (b : Ref sig .tc) (hc : b ∉ condOps_W)
    (h0 : b ∉ while0Ops0_W)
    (h1 : b ∉ while0Ops0_1_W)
    (h2 : b ∉ while0Ops0_2_W)
    (h3 : b ∉ while0Ops0_3_W)
    (h4 : b ∉ while0Ops0_4_W) :
    ∀ k, atK m k c (Proc.devRef .tc b) = entryContents preI m c (Proc.devRef .tc b)
  | 0 => rfl
  | k + 1 => by
    rw [show atK m (k + 1) c = afterL bodyI (after condOps (atK m k c)) from rfl]
    simp only [afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc]
    exact kept b hc h0 h1 h2 h3 h4 k

theorem at_v17 (k : ℕ) : atK m k c (Proc.devRef .tc main_v17) = val_main_v17 (A0 m c) (A1 m c) :=
  (kept m c main_v17 (by decide +kernel) (by decide +kernel) (by decide +kernel) (by decide +kernel) (by decide +kernel) (by decide +kernel) k).trans (entry_v17 m c)
theorem at_v26 (k : ℕ) : atK m k c (Proc.devRef .tc main_v26) = val_main_v26 (A0 m c) (A1 m c) :=
  (kept m c main_v26 (by decide +kernel) (by decide +kernel) (by decide +kernel) (by decide +kernel) (by decide +kernel) (by decide +kernel) k).trans (entry_v26 m c)

theorem at_a : ∀ k, atK m k c (Proc.devRef .tc main_v37_0) = val_main_v34 (A0 m c) (A1 m c)
  | 0 => entry_a m c
  | k + 1 => ((trip_agree (atK m k c) main_v37_0 (by decide)).trans (STEP_main_v37_0 _)).trans (at_a k)
theorem at_b : ∀ k, atK m k c (Proc.devRef .tc main_v37_1) = val_main_v32 (A0 m c) (A1 m c)
  | 0 => entry_b m c
  | k + 1 => ((trip_agree (atK m k c) main_v37_1 (by decide)).trans (STEP_main_v37_1 _)).trans (at_b k)

/-- The counter, read signed. -/
theorem ctr_int (k : ℕ) (hk : k < 64) : (Scf.iv 0#32 1#32 k).toInt = k := by
  have : ∀ k : Fin 64, (Scf.iv 0#32 1#32 k.val).toInt = k.val := by decide +kernel
  exact this ⟨k, hk⟩

variable {m c} {q k v a : ℕ → ℕ → ℝ}

/-- One trip's state, entry by entry. -/
theorem next_s (P : FVec Ideal S1x1x4x128 .f32) (Q : FVec Ideal S1x1x4x128x128 .f32) (X : FVec Ideal S1x4x128x128 .f32) (h : Fin 4) (d e : Fin 128) :
    (id (addf (mulf (broadcastInDim S1x4x128x128 ![0, 1, 2, 3] bcast_S1x4x128x1_S1x4x128x128_0_1_2_3 (broadcastInDim S1x4x128x1 ![0, 1, 2] bcast_S1x4x128_S1x4x128x1_0_1_2
      (shapeCast S1x4x128 P shapeCasts_S1x1x4x128_S1x4x128))) X) (shapeCast S1x4x128x128 Q shapeCasts_S1x1x4x128x128_S1x4x128x128)) : FVec Ideal S1x4x128x128 .f32) (ix4 0 h d e)
      = P (ix4 0 0 h d) * X (ix4 0 h d e) + Q (ix5 0 0 h d e) := by
  unfold id
  pointwise []

/-- The carried state and the states kept, before trip `t`. -/
theorem at_s (H : Real q k v a (A0 m c) (A1 m c)) : ∀ t, t ≤ 64 → ∀ (h : Fin 4) (d e : Fin 128),
    (atK m t c (Proc.devRef .tc main_v37_3) : FVec Ideal S1x4x128x128 .f32) (ix4 0 h d e) = ((st k v a t h.val e.val d.val : ℝ) : EReal)
  | 0, _, h, d, e => by
    rw [show atK m 0 c = entryContents preI m c from rfl, entry_s]
    pointwise [val_main_v35, val_main_cst_1]
    rfl
  | t + 1, ht, h, d, e => by
    rw [show atK m (t + 1) c (Proc.devRef .tc main_v37_3) = step_main_v37_3 (atK m t c) from (trip_agree (atK m t c) main_v37_3 (by decide)).trans (STEP_main_v37_3 _)]
    unfold step_main_v37_3
    rw [at_a, at_b, atK_ctr, slice4 _ _ _ ⟨t, by omega⟩ (ctr_int t (by omega)) rfl rfl rfl, slice5 _ _ _ ⟨t, by omega⟩ (ctr_int t (by omega)) rfl rfl rfl rfl]
    have ih := at_s H t (by omega)
    generalize (atK m t c (Proc.devRef .tc main_v37_3)) = X at ih ⊢
    refine (next_s _ _ _ h d e).trans ?_
    refine (congrArg₂ (· + ·) (congrArg₂ (· * ·) (v34_val H ⟨t, by omega⟩ h d) (ih h d e)) (v32_val H ⟨t, by omega⟩ h d e)).trans ?_
    rw [st_succ, mul_comm (st k v a t h.val e.val d.val), EReal.coe_add, EReal.coe_mul]

theorem at_all (H : Real q k v a (A0 m c) (A1 m c)) : ∀ t, t ≤ 64 → ∀ (n : Fin 64) (h : Fin 4) (d e : Fin 128),
    (atK m t c (Proc.devRef .tc main_v37_4) : FVec Ideal S64x1x4x128x128 .f32) (ix5 n 0 h d e)
      = ((if n.val < t then st k v a n.val h.val e.val d.val else 0 : ℝ) : EReal)
  | 0, _, n, h, d, e => by
    rw [show atK m 0 c = entryContents preI m c from rfl, entry_all]
    pointwise [val_main_v36, val_main_cst_2]
    rw [if_neg (Nat.not_lt_zero _)]
    rfl
  | t + 1, ht, n, h, d, e => by
    rw [show atK m (t + 1) c (Proc.devRef .tc main_v37_4) = step_main_v37_4 (atK m t c) from (trip_agree (atK m t c) main_v37_4 (by decide)).trans (STEP_main_v37_4 _)]
    unfold step_main_v37_4
    rw [atK_ctr, update5 _ _ _ _ ⟨t, by omega⟩ (ctr_int t (by omega)) rfl rfl rfl rfl]
    have ih := at_all H t (by omega) n h d e
    have ihs := at_s H t (by omega) h d e
    generalize (atK m t c (Proc.devRef .tc main_v37_3)) = X at ihs ⊢
    generalize (atK m t c (Proc.devRef .tc main_v37_4)) = Y at ih ⊢
    show (if n.val = t then _ else _) = _
    by_cases hn : n.val = t
    · rw [if_pos hn, if_pos (by omega), hn]
      pointwise []
      exact ihs
    · rw [if_neg hn]
      refine ih.trans (congrArg _ ?_)
      by_cases h1 : n.val < t
      · rw [if_pos h1, if_pos (by omega)]
      · rw [if_neg h1, if_neg (by omega)]

/-! ## The results -/

/-- The two results, of the states the loop leaves and of what was computed before it. -/
def res_o (Z : FVec Ideal S64x1x4x128x128 .f32) (x y : FVec Ideal S1x64x64x4x128 .f32) : FVec Ideal S4096x512 .f32 :=
  shapeCast S4096x512 (shapeCast S1x4096x4x128 (addf y (transpose S1x64x64x4x128 [0, 1, 4, 2, 3]
    (Host.dotGeneral dot_S64x1x4x128x128_S1x64x64x4x128_S1x64x4x128x64_3_4_4_2_102_013 none Z x) transposes_S1x64x4x128x64_S1x64x64x4x128_0_1_4_2_3)) shapeCasts_S1x64x64x4x128_S1x4096x4x128) shapeCasts_S1x4096x4x128_S4096x512
def res_s (Z : FVec Ideal S64x1x4x128x128 .f32) : FVec Ideal S64x512x128 .f32 :=
  shapeCast S64x512x128 (transpose S64x1x4x128x128 [0, 1, 2, 4, 3] Z transposes_S64x1x4x128x128_S64x1x4x128x128_0_1_2_4_3) shapeCasts_S64x1x4x128x128_S64x512x128

set_option maxRecDepth 100000 in
theorem post_o (V : Valuation τ sig (Elt Ideal)) : afterL postI V (Proc.devRef .tc main_v42)
    = res_o (V (Proc.devRef .tc main_v37_4)) (V (Proc.devRef .tc main_v17)) (V (Proc.devRef .tc main_v26)) := by
  simp only [afterL_cons, afterL_nil]
  after_results
  rfl
set_option maxRecDepth 100000 in
theorem post_s (V : Valuation τ sig (Elt Ideal)) : afterL postI V (Proc.devRef .tc main_v44) = res_s (V (Proc.devRef .tc main_v37_4)) := by
  simp only [afterL_cons, afterL_nil]
  after_results
  rfl

theorem res_o_val (H : Real q k v a (A0 m c) (A1 m c)) (Z : FVec Ideal S64x1x4x128x128 .f32)
    (hZ : ∀ (n : Fin 64) (h : Fin 4) (d e : Fin 128), Z (ix5 n 0 h d e) = ((st k v a n.val h.val e.val d.val : ℝ) : EReal)) (r : Fin 4096) (x : Fin 512) :
    res_o Z (val_main_v17 (A0 m c) (A1 m c)) (val_main_v26 (A0 m c) (A1 m c)) (ix2 r x)
      = ((out q k v a (r.val / 64) (x.val / 128) (r.val % 64) (x.val % 128) : ℝ) : EReal) := by
  pointwise [res_o]
  rw [v26_val H]
  simp only [hZ, v17_val H, ← EReal.coe_mul, coe_sum, ← EReal.coe_add]
  refine congrArg _ ?_
  unfold out
  exact congrArg₂ _ rfl (Finset.sum_congr rfl fun _ _ => mul_comm _ _)

theorem res_s_val (Z : FVec Ideal S64x1x4x128x128 .f32)
    (hZ : ∀ (n : Fin 64) (h : Fin 4) (d e : Fin 128), Z (ix5 n 0 h d e) = ((st k v a n.val h.val e.val d.val : ℝ) : EReal)) (n : Fin 64) (x : Fin 512) (d : Fin 128) :
    res_s Z (ix3 n x d) = ((st k v a n.val (x.val / 128) (x.val % 128) d.val : ℝ) : EReal) := by
  pointwise [res_s]
  exact hZ n _ d _

/-- What the reference's two results are at the end. -/
theorem final_o (H : Real q k v a (A0 m c) (A1 m c)) (r : Fin 4096) (x : Fin 512) :
    (finalContents condOps preI bodyI postI 64 m c (Proc.devRef .tc main_v42) : FVec Ideal S4096x512 .f32) (ix2 r x)
      = ((out q k v a (r.val / 64) (x.val / 128) (r.val % 64) (x.val % 128) : ℝ) : EReal) := by
  unfold finalContents
  rw [post_o, after_of_writes_sub condOps _ condOps_writes (r := main_v37_4) (by decide +kernel), after_of_writes_sub condOps _ condOps_writes (r := main_v17) (by decide +kernel),
    after_of_writes_sub condOps _ condOps_writes (r := main_v26) (by decide +kernel),
    show atTrip condOps bodyI (entryContents preI m) 64 c (Proc.devRef .tc main_v17) = _ from at_v17 m c 64, show atTrip condOps bodyI (entryContents preI m) 64 c (Proc.devRef .tc main_v26) = _ from at_v26 m c 64]
  exact res_o_val H _ (fun n h d e => (at_all H 64 (le_refl _) n h d e).trans (by rw [if_pos n.isLt])) r x
theorem final_s (H : Real q k v a (A0 m c) (A1 m c)) (n : Fin 64) (x : Fin 512) (d : Fin 128) :
    (finalContents condOps preI bodyI postI 64 m c (Proc.devRef .tc main_v44) : FVec Ideal S64x512x128 .f32) (ix3 n x d)
      = ((st k v a n.val (x.val / 128) (x.val % 128) d.val : ℝ) : EReal) := by
  unfold finalContents
  rw [post_s, after_of_writes_sub condOps _ condOps_writes (r := main_v37_4) (by decide +kernel)]
  exact res_s_val _ (fun n h d e => (at_all H 64 (le_refl _) n h d e).trans (by rw [if_pos n.isLt])) n x d

end Cert.Proof.GlaLoop

end
-- ==== Proof.Gla.lean ====
/- The gated recurrence's forward call against its reference. -/
module

public import proofs.«01_k».proof.Proof.GlaRun
public import proofs.«01_k».proof.Proof.GlaLoop
public import proofs.«01_k».proof.Proof.Dgu
public import Idealize.ShloMosaic.Lib.Quiescent

@[expose] public section

noncomputable section

namespace Cert.Proof.Gla

open Idealize.ShloMosaic Idealize.ShloMosaic.TcCoe Idealize.ShloMosaic.Tactic Idealize.ShloMosaic.StableHlo Idealize.SL.Sem Cert.Proof.GlaModel

/-! ## The reference keeps its arguments -/

section
open Cert.Reference20Ideal Cert.Reference20Ideal.Gen Cert.Reference20Ideal.Value

set_option maxRecDepth 100000 in
set_option maxHeartbeats 4000000 in
theorem kept0 (m : (ℓ : Loc nD τ sig) → Buf (Elt Ideal) ℓ) (c : Dev nD) :
    finalContents condOps preI bodyI postI 64 m c (Proc.devRef .tc main_arg0) = m ((c.tc : Thread nD τ).loc main_arg0) := by
  unfold finalContents
  rw [show ∀ V, afterL postI V (Proc.devRef .tc main_arg0) = V (Proc.devRef .tc main_arg0) from fun V => by simp only [afterL_cons, afterL_nil]; after_results,
    after_of_writes_sub condOps _ condOps_writes (r := main_arg0) (by decide +kernel)]
  refine (GlaLoop.kept m c main_arg0 (by decide +kernel) (by decide +kernel) (by decide +kernel) (by decide +kernel) (by decide +kernel) (by decide +kernel) 64).trans ?_
  simp only [entryContents, afterL_cons, afterL_nil]
  after_reads_simp
set_option maxRecDepth 100000 in
set_option maxHeartbeats 4000000 in
theorem kept1 (m : (ℓ : Loc nD τ sig) → Buf (Elt Ideal) ℓ) (c : Dev nD) :
    finalContents condOps preI bodyI postI 64 m c (Proc.devRef .tc main_arg1) = m ((c.tc : Thread nD τ).loc main_arg1) := by
  unfold finalContents
  rw [show ∀ V, afterL postI V (Proc.devRef .tc main_arg1) = V (Proc.devRef .tc main_arg1) from fun V => by simp only [afterL_cons, afterL_nil]; after_results,
    after_of_writes_sub condOps _ condOps_writes (r := main_arg1) (by decide +kernel)]
  refine (GlaLoop.kept m c main_arg1 (by decide +kernel) (by decide +kernel) (by decide +kernel) (by decide +kernel) (by decide +kernel) (by decide +kernel) 64).trans ?_
  simp only [entryContents, afterL_cons, afterL_nil]
  after_reads_simp

theorem frame_ref : Cert.quiescent_Reference20Ideal := fun m ρ _ =>
  (θ_run defs _ _).mono (fun r h => ⟨fun c => ⟨(h c main_arg0 rfl).trans (kept0 m c), (h c main_arg1 rfl).trans (kept1 m c)⟩, sem_eq_zero_of_no_sems rfl _⟩) (run_fold m ρ)
theorem frame_ref_pre [Cert.Pre_finite_gla.Facts] : Cert.quiescent_Reference20Ideal_pre_finite_gla := fun m ρ _ => frame_ref m ρ trivial
end

/-! ## The precondition -/

open Cert.Kernel20Ideal in
/-- The precondition holds of reals only: of the queries', keys' and values' columns, and of the gates. -/
theorem real_of_pre [Cert.Pre_finite_gla.Facts] (x0 : FVec Ideal S4096x6656 .f32) (x1 : FVec Ideal S4096x512 .f32) (h : Cert.Pre_finite_gla.fn (F := Ideal) x0 x1 = fun _ => 1#1) :
    ∃ q k v a : ℕ → ℕ → ℝ, ∀ (r : Fin 4096) (x : Fin 512),
      x0 (ix2 r ⟨3584 + x.val, by omega⟩) = ((q r.val x.val : ℝ) : EReal) ∧ x0 (ix2 r ⟨4096 + x.val, by omega⟩) = ((k r.val x.val : ℝ) : EReal)
      ∧ x0 (ix2 r ⟨4608 + x.val, by omega⟩) = ((v r.val x.val : ℝ) : EReal) ∧ x1 (ix2 r x) = ((a r.val x.val : ℝ) : EReal) := by
  have e := congrFun h (fun a => a.elim0)
  haveI : Subsingleton Cert.Pre_finite_gla.S_.Idx := ⟨fun x y => funext fun a => a.elim0⟩
  have and1 : ∀ x y : BitVec 1, IntOp.andi x y = 1#1 → x = 1#1 ∧ y = 1#1 := by decide
  obtain ⟨e, h3⟩ := and1 _ _ e
  obtain ⟨e, h2⟩ := and1 _ _ e
  obtain ⟨e, h1⟩ := and1 _ _ e
  obtain ⟨e, h0⟩ := and1 _ _ e
  have word : ∀ (p : FVec Ideal S4096x512 .f32), (∀ i, ∃ y : ℝ, p i = (y : EReal)) → ∃ f : ℕ → ℕ → ℝ, ∀ (r : Fin 4096) (x : Fin 512), p (ix2 r x) = ((f r.val x.val : ℝ) : EReal) := by
    intro p hp
    refine ⟨fun r x => if h : r < 4096 ∧ x < 512 then (hp (ix2 ⟨r, h.1⟩ ⟨x, h.2⟩)).choose else 0, fun r x => ?_⟩
    dsimp only
    rw [dif_pos ⟨r.isLt, x.isLt⟩]
    exact (hp (ix2 r x)).choose_spec
  obtain ⟨q, hq⟩ := word _ fun i => Dgu.real_of_lt _ (Host.reduce_andi_all _ _ _ _ _ h0 i)
  obtain ⟨k, hk⟩ := word _ fun i => Dgu.real_of_lt _ (Host.reduce_andi_all _ _ _ _ _ h1 i)
  obtain ⟨v, hv⟩ := word _ fun i => Dgu.real_of_lt _ (Host.reduce_andi_all _ _ _ _ _ h2 i)
  obtain ⟨a, ha⟩ := word _ fun i => Dgu.real_of_lt _ (Host.reduce_andi_all _ _ _ _ _ h3 i)
  refine ⟨q, k, v, a, fun r x => ⟨?_, ?_, ?_, ha r x⟩⟩
  · have := hq r x
    revert this
    pointwise []
    exact id
  · have := hk r x
    revert this
    pointwise []
    exact id
  · have := hv r x
    revert this
    pointwise []
    exact id

/-- The call and the recurrence, chunk by chunk, end with equal results. -/
theorem algebraic [Cert.Pre_finite_gla.Facts] : Cert.algebraic_Kernel20Ideal_Reference20Ideal_pre_finite_gla := by
  intro m g m' g' hp hm
  refine ⟨_, _, Cert.Kernel20Ideal.Value.run_blocks m g, ?_⟩
  refine (θ_run Cert.Reference20Ideal.defs _ _).mono (fun r h c => ?_) (Cert.Reference20Ideal.Value.run_fold m' g')
  obtain ⟨q, k, v, a, hr⟩ := real_of_pre _ _ (hp c)
  obtain ⟨e0, e1⟩ := hm c
  have H : GlaRef.Real q k v a (GlaLoop.A0 m' c) (GlaLoop.A1 m' c) := by
    unfold GlaLoop.A0 GlaLoop.A1
    rw [e0, e1]
    exact ⟨fun r x h1 _ h3 => (hr ⟨r, h1⟩ ⟨x, h3⟩).1, fun r x h1 _ h3 => (hr ⟨r, h1⟩ ⟨x, h3⟩).2.1, fun r x h1 _ h3 => (hr ⟨r, h1⟩ ⟨x, h3⟩).2.2.1, fun r x h1 h3 => (hr ⟨r, h1⟩ ⟨x, h3⟩).2.2.2⟩
  have K : GlaRun.Real m c q k v a := ⟨fun r x => (hr r x).1, fun r x => (hr r x).2.1, fun r x => (hr r x).2.2.1, fun r x => (hr r x).2.2.2⟩
  refine ⟨(h c Cert.Reference20Ideal.main_v42 rfl).trans ?_, (h c Cert.Reference20Ideal.main_v44 rfl).trans ?_, (h c Cert.Reference20Ideal.main_arg0 rfl).trans (kept0 m' c), (h c Cert.Reference20Ideal.main_arg1 rfl).trans (kept1 m' c)⟩
  · rw [GlaRun.final_o K]
    funext j
    rw [eq_ix2 j]
    exact GlaLoop.final_o H _ _
  · rw [GlaRun.final_s K]
    funext j
    rw [eq_ix3 j]
    exact GlaLoop.final_s H _ _ _

end Cert.Proof.Gla

end
-- ==== Proof.RunTwo.lean ====
/- The run of a host program with two counted loops, one after the other at its top level: stretches of operations, a loop, stretches, a loop,
   stretches. Each buffer ends at the fold of the operations over what it held at first. -/
module

public import Idealize.ShloMosaic.Lib.StableHlo.RunLoop

@[expose] public section

noncomputable section

namespace Cert.Proof.RunTwo

open Idealize.ShloMosaic Idealize.ShloMosaic.StableHlo Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs)

variable {nD : Nat} {τ : Topo} {sig : RefSig} {F : FTy → Type} {Λ₀ : Idealize.SL.Sem.Labels}

/-- A list of stretches of operations. -/
abbrev Items (τ : Topo) (sig : RefSig) (F : FTy → Type) := List (List (HloOp τ sig (Elt F)))

/-- One loop: its condition's operations, its body's stretches, and how often it runs. -/
structure Loop (τ : Topo) (sig : RefSig) (F : FTy → Type) where
  test : List (HloOp τ sig (Elt F))
  body : Items τ sig F
  trips : ℕ

/-- The buffers when a loop that was entered at `W` is left. -/
abbrev Loop.left (a : Loop τ sig F) (W : Dev nD → Valuation τ sig (Elt F)) (c : Dev nD) : Valuation τ sig (Elt F) :=
  after a.test (atTrip a.test a.body W a.trips c)

/-- The buffers when the second loop is entered. -/
abbrev second (pre mid : Items τ sig F) (a : Loop τ sig F) (m : (ℓ : Loc nD τ sig) → Buf (Elt F) ℓ) (c : Dev nD) : Valuation τ sig (Elt F) :=
  afterL mid (a.left (entryContents pre m) c)
/-- The buffers at the end. -/
abbrev final (pre mid post : Items τ sig F) (a b : Loop τ sig F) (m : (ℓ : Loc nD τ sig) → Buf (Elt F) ℓ) (c : Dev nD) : Valuation τ sig (Elt F) :=
  afterL post (b.left (second pre mid a m) c)

local notation "𝕄" => MT nD τ sig Unit (Elt F) ℕ (Option PUnit) ℕ

section
variable (pcs : Fin 0 → PCfg sig Λ₀ (Elt F))

-- no kernel region: nothing admitted, nothing to claim, no level
abbrev none' : (p : Fin 0) → (pcs p).Adm := fun p => p.elim0
abbrev tickets : Fin 0 → Ticket (Ix := Unit) (Name := ℕ) (U := Option PUnit) (Lvl := ℕ) (nD := nD) (τ := τ) pcs (none' pcs) := fun j => j.elim0
abbrev cells : GSem nD τ sig → Finset Unit := fun _ => ∅
abbrev levels : GSem nD τ sig → Unit → ℕ := fun _ _ => 0

/-- What a core carries beside its buffers. -/
abbrev Owed (c : Dev nD) : sProp 𝕄 := iprop(∃ W, owes (c : Thread nD τ) (0 : CellTallies nD τ sig Unit) W)
end

/-- A condition's specification holds beside what the core carries. -/
theorem framed (pcs : Fin 0 → PCfg sig Λ₀ (Elt F)) (defs₀ : Defs nD τ sig (Elt F) Λ₀) {nL : Nat}
    (loops : Fin nL → Prog (TpuEff nD τ sig (Elt F) (HostLoop.Sig (Pipeline.Sig Λ₀ (Fin 0) fun p => (pcs p).Adm) nL) .tc) PUnit)
    (cond : Prog (TpuEff nD τ sig (Elt F) (HostLoop.Sig (Pipeline.Sig Λ₀ (Fin 0) fun p => (pcs p).Adm) nL) .tc) (Elt F .i1))
    (a : Loop τ sig F) (W : Dev nD → Valuation τ sig (Elt F)) (h : CondSpec pcs defs₀ loops cond a.test a.body W a.trips) :
    LoopCond pcs defs₀ Variants.none loops (fun c => Owed c) cond a.test a.body W a.trips := fun k hk c bd => by
  have hv : ∀ v : Elt F .i1,
      iprop(iprop(⌜v = 1#1 ↔ k < a.trips⌝ ∗ boundary (c : Thread nD τ) ∗ held (c : Thread nD τ) (ucRefs τ sig) (after a.test (atTrip a.test a.body W k c))) ∗ Owed c)
        ⊢ iprop(⌜v = 1#1 ↔ k < a.trips⌝ ∗ boundary (c : Thread nD τ) ∗ held (c : Thread nD τ) (ucRefs τ sig) (after a.test (atTrip a.test a.body W k c)) ∗ Owed c) := fun v => by
    iintro ⟨⟨%hv, Hb, Hh⟩, HO⟩
    isplitr; · ipureintro; exact hv
    isplitl [Hb]; · iexact Hb
    isplitl [Hh] <;> iassumption
  refine BIBase.Entails.trans ?_ (((sep_mono_left (h k hk c bd)).trans (wp_frame_r _ _ _)).trans (wp_mono _ _ _ hv))
  iintro ⟨Hb, Hh, HO⟩
  isplitl [Hb Hh]; · isplitl [Hb] <;> iassumption
  iexact HO

/-- From any memory with zero counters every weakly fair execution ends, with every unscoped buffer at the fold. -/
theorem run [∀ e, Nonempty (Elt F e)]
    (pcs : Fin 0 → PCfg sig Λ₀ (Elt F)) (defs₀ : Defs nD τ sig (Elt F) Λ₀) {nL : Nat}
    (loops : Fin nL → Prog (TpuEff nD τ sig (Elt F) (HostLoop.Sig (Pipeline.Sig Λ₀ (Fin 0) fun p => (pcs p).Adm) nL) .tc) PUnit)
    (main : Dev nD → Prog (TpuEff nD τ sig (Elt F) (HostLoop.Sig (Pipeline.Sig Λ₀ (Fin 0) fun p => (pcs p).Adm) nL) .tc) PUnit)
    (l₀ l₁ : Fin nL) (c₀ c₁ : Prog (TpuEff nD τ sig (Elt F) (HostLoop.Sig (Pipeline.Sig Λ₀ (Fin 0) fun p => (pcs p).Adm) nL) .tc) (Elt F .i1))
    (b₀ b₁ : Prog (TpuEff nD τ sig (Elt F) (HostLoop.Sig (Pipeline.Sig Λ₀ (Fin 0) fun p => (pcs p).Adm) nL) .tc) PUnit)
    (e₀ : loops l₀ = HostLoop.step l₀ c₀ b₀) (e₁ : loops l₁ = HostLoop.step l₁ c₁ b₁)
    (pre mid post : Items τ sig F) (a b : Loop τ sig F)
    (hpre : Plain pre) (hmid : Plain mid) (hpost : Plain post) (ha : Plain a.body) (hb : Plain b.body)
    (hmain : ∀ c, main c = Pipeline.chain ((pre.map fun ops => (seq ops : Prog _ PUnit))
      ++ HostLoop.enter l₀ :: ((mid.map fun ops => (seq ops : Prog _ PUnit)) ++ HostLoop.enter l₁ :: post.map fun ops => (seq ops : Prog _ PUnit))))
    (hb₀ : b₀ = Pipeline.chain (a.body.map fun ops => (seq ops : Prog _ PUnit)))
    (hb₁ : b₁ = Pipeline.chain (b.body.map fun ops => (seq ops : Prog _ PUnit)))
    (m : (ℓ : Loc nD τ sig) → Buf (Elt F) ℓ) (ρ : Dev nD → PrngReg)
    (h₀ : CondSpec pcs defs₀ loops c₀ a.test a.body (entryContents pre m) a.trips)
    (h₁ : CondSpec pcs defs₀ loops c₁ b.test b.body (second pre mid a m) b.trips) :
    θ_run (HostLoop.defs loops (Pipeline.defs pcs defs₀)) (onTc (τ := τ) main) ⟨m, fun _ => 0, ρ⟩
      (fun r => ∀ (c : Dev nD) (x : Ref sig .tc), (Proc.devRef .tc x : DevRef τ sig).isScoped = false →
        r.2.mem ((c.tc : Thread nD τ).loc x) = final pre mid post a b m c (Proc.devRef .tc x)) := by
  let part := fun (items : Items τ sig F) (h : Plain items) (V : Dev nD → Valuation τ sig (Elt F)) =>
    segsOf pcs (none' pcs) defs₀ Variants.none cells levels loops (tickets pcs) (fun c => Owed c) items h V
  let segs : List (CSeg pcs (none' pcs) defs₀ Variants.none cells levels loops (tickets pcs)) :=
    part pre hpre (launchContents m)
      ++ loopSeg pcs (none' pcs) defs₀ Variants.none cells levels loops (tickets pcs) l₀ c₀ b₀ e₀ a.test a.body ha hb₀ a.trips (entryContents pre m) (fun c => Owed c) (framed _ _ _ _ a _ h₀)
      :: (part mid hmid (a.left (entryContents pre m))
        ++ loopSeg pcs (none' pcs) defs₀ Variants.none cells levels loops (tickets pcs) l₁ c₁ b₁ e₁ b.test b.body hb hb₁ b.trips (second pre mid a m) (fun c => Owed c) (framed _ _ _ _ b _ h₁)
        :: part post hpost (b.left (second pre mid a m)))
  have prog : segs.map CSeg.prog = (pre.map fun ops => (seq ops : Prog _ PUnit))
      ++ HostLoop.enter l₀ :: ((mid.map fun ops => (seq ops : Prog _ PUnit)) ++ HostLoop.enter l₁ :: post.map fun ops => (seq ops : Prog _ PUnit)) := by
    simp only [segs, part, List.map_append, List.map_cons, segsOf_prog]
    rfl
  exact Pipeline.θ_run_regions_loop_kit (Ix := Unit) (Name := ℕ) (U := Option PUnit) (Lvl := ℕ) (J := Fin 0) (P := Fin 0) (Val := Elt F)
    pcs (none' pcs) (fun k => k.1.elim0) defs₀ Variants.none cells levels loops (tickets pcs) m ρ main segs
    (fun c Q => by
      rw [hmain c]
      show wp _ _ _ (Pipeline.chain (segs.map CSeg.prog)) Q ⊢ _
      rw [prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Owed c))
    (Tₙ := fun c => iprop(held (c : Thread nD τ) (ucRefs τ sig) (final pre mid post a b m c)))
    (hch := CSeg.Chains.append (segsOf_chains _ _ _ _ _ _ _ _ (fun c => Owed c) pre hpre _)
      ⟨fun _ => .rfl, CSeg.Chains.append (segsOf_chains _ _ _ _ _ _ _ _ (fun c => Owed c) mid hmid _)
        ⟨fun _ => .rfl, segsOf_chains _ _ _ _ _ _ _ _ (fun c => Owed c) post hpost _⟩⟩)
    (hinit := by
      refine Pipeline.initEach cells levels fun c => ?_
      rw [show unscopedBufs c (fun x => m ((c : Thread nD τ).loc x)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ x ∈ ucRefs τ sig, s.mem ((c : Dev nD), x) = final pre mid post a b m c x)
    (hfin := fun c s' => by
      unfold held
      iintro ⟨Hh, HSI⟩
      ihave Hr := (pointsTo_read_all (ucRefs τ sig) (fun x => ((c : Dev nD), x)) (fun x => final pre mid post a b m c x) s') $$ [Hh HSI]
      · isplitl [Hh] <;> iassumption
      icases Hr with ⟨%h, HSI⟩
      imodintro
      isplitr; · ipureintro; exact h
      iexact HSI)
    (hQ := fun _ h c x hx => h c _ (devRef_mem_ucRefs x hx))

end Cert.Proof.RunTwo

end
-- ==== Proof.GlaBOps.lean ====
/- The reference of the gradient of gated linear attention: its operations, stretch by stretch, and the chains they make. -/
module

public import proofs.«01_k».proof.Proof.Gen.Reference21Ideal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.Proof.GlaBOps

open Idealize.ShloMosaic Idealize.ShloMosaic.TcCoe Idealize.ShloMosaic.StableHlo
open Idealize.SL Idealize.SL.RA Idealize.SL.BI
open scoped Idealize.SL.BI
open Idealize.SL.BI.BIBase Idealize.SL.Sem
open Cert.Reference21Ideal Cert.Reference21Ideal.Gen

variable {F : FTy → Type} [FloatOps F]

/-- A stretch of operations. -/
abbrev main_part0_ops0 : List (HloOp τ sig (Elt F)) :=
  [ StableHlo.unary main_arg0 main_v0 ((extractStridedSlice S4096x512 ![0, 3584] · slices_S4096x6656_S4096x512_0_3584) : (⟨S4096x6656, .f32⟩ : BufTy).Contents (Elt F) → (⟨S4096x512, .f32⟩ : BufTy).Contents (Elt F)),
    StableHlo.unary main_arg0 main_v1 ((extractStridedSlice S4096x512 ![0, 4096] · slices_S4096x6656_S4096x512_0_4096) : (⟨S4096x6656, .f32⟩ : BufTy).Contents (Elt F) → (⟨S4096x512, .f32⟩ : BufTy).Contents (Elt F)),
    StableHlo.unary main_arg0 main_v2 ((extractStridedSlice S4096x512 ![0, 4608] · slices_S4096x6656_S4096x512_0_4608) : (⟨S4096x6656, .f32⟩ : BufTy).Contents (Elt F) → (⟨S4096x512, .f32⟩ : BufTy).Contents (Elt F)),
    StableHlo.reshape main_v0 main_v3 (rfl : (.f32 : EltTy) = .f32) shapeCasts_S4096x512_S1x4096x4x128,
    StableHlo.nullary main_cst (constant S_ .f32 0x3DB504F3#32),
    StableHlo.unary main_cst main_v4 (broadcastInDim S1x4096x4x128 ![] bcast_S_S1x4096x4x128 : (⟨S_, .f32⟩ : BufTy).Contents (Elt F) → (⟨S1x4096x4x128, .f32⟩ : BufTy).Contents (Elt F)),
    StableHlo.binary main_v3 main_v4 main_v5 (mulf : (⟨S1x4096x4x128, .f32⟩ : BufTy).Contents (Elt F) → (⟨S1x4096x4x128, .f32⟩ : BufTy).Contents (Elt F) → (⟨S1x4096x4x128, .f32⟩ : BufTy).Contents (Elt F)),
    StableHlo.reshape main_v1 main_v6 (rfl : (.f32 : EltTy) = .f32) shapeCasts_S4096x512_S1x4096x4x128,
    StableHlo.reshape main_v2 main_v7 (rfl : (.f32 : EltTy) = .f32) shapeCasts_S4096x512_S1x4096x4x128,
    StableHlo.reshape main_arg1 main_v8 (rfl : (.f32 : EltTy) = .f32) shapeCasts_S4096x512_S1x4096x4x128,
    StableHlo.reshape main_v5 main_v9 (rfl : (.f32 : EltTy) = .f32) shapeCasts_S1x4096x4x128_S1x64x64x4x128,
    StableHlo.reshape main_v6 main_v10 (rfl : (.f32 : EltTy) = .f32) shapeCasts_S1x4096x4x128_S1x64x64x4x128,
    StableHlo.reshape main_v7 main_v11 (rfl : (.f32 : EltTy) = .f32) shapeCasts_S1x4096x4x128_S1x64x64x4x128,
    StableHlo.reshape main_v8 main_v12 (rfl : (.f32 : EltTy) = .f32) shapeCasts_S1x4096x4x128_S1x64x64x4x128 ]
/-- They touch the core's buffers only. -/
theorem main_part0_ops0_sub : (main_part0_ops0 : List (HloOp τ sig (Elt F))).Forall fun op => op.bufs ⊆ StableHlo.tcRefs τ sig :=
  ⟨StableHlo.unary_bufs_sub .., StableHlo.unary_bufs_sub .., StableHlo.unary_bufs_sub .., StableHlo.reshape_bufs_sub .., StableHlo.nullary_bufs_sub .., StableHlo.unary_bufs_sub .., StableHlo.binary_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub ..⟩
/-- A stretch of operations. -/
abbrev main_part0_ops1 : List (HloOp τ sig (Elt F)) :=
  [ StableHlo.TRef.nullary (.of main_call0_call0_cst : StableHlo.TRef sig ⟨S_, .f32⟩) (constant S_ .f32 0x00000000#32),
    StableHlo.TRef.unary (.of main_call0_call0_cst : StableHlo.TRef sig ⟨S_, .f32⟩) (.of main_call0_call0_v0 : StableHlo.TRef sig ⟨S_, .f32⟩) (broadcastInDim S_ ![] bcast_S_S_),
    StableHlo.TRef.binary (.of main_v12 : StableHlo.TRef sig ⟨S1x64x64x4x128, .f32⟩) (.of main_call0_call0_v0 : StableHlo.TRef sig ⟨S_, .f32⟩) (.of main_v13 : StableHlo.TRef sig ⟨S1x64x64x4x128, .f32⟩) (fun x v => Host.reduceWindowAdd ![1, 1, 64, 1, 1] ![1, 1, 1, 1, 1] ![0, 0, 63, 0, 0] ![0, 0, 0, 0, 0] x v reduceWindows_S1x64x64x4x128_S1x64x64x4x128_w1s1p0_0_w1s1p0_0_w64s1p63_0_w1s1p0_0_w1s1p0_0 h_S_) ]
/-- They touch the core's buffers only. -/
theorem main_part0_ops1_sub : (main_part0_ops1 : List (HloOp τ sig (Elt F))).Forall fun op => op.bufs ⊆ StableHlo.tcRefs τ sig :=
  ⟨StableHlo.nullary_bufs_sub .., StableHlo.unary_bufs_sub .., StableHlo.binary_bufs_sub ..⟩
/-- A stretch of operations. -/
abbrev main_part0_ops2 : List (HloOp τ sig (Elt F)) :=
  [ StableHlo.unary main_v13 main_v14 ((extractStridedSlice S1x64x1x4x128 ![0, 0, 63, 0, 0] · slices_S1x64x64x4x128_S1x64x1x4x128_0_0_63_0_0) : (⟨S1x64x64x4x128, .f32⟩ : BufTy).Contents (Elt F) → (⟨S1x64x1x4x128, .f32⟩ : BufTy).Contents (Elt F)),
    StableHlo.reshape main_v14 main_v15 (rfl : (.f32 : EltTy) = .f32) shapeCasts_S1x64x1x4x128_S1x64x4x128,
    StableHlo.unary main_v13 main_v16 (Host.exp : (⟨S1x64x64x4x128, .f32⟩ : BufTy).Contents (Elt F) → (⟨S1x64x64x4x128, .f32⟩ : BufTy).Contents (Elt F)),
    StableHlo.binary main_v9 main_v16 main_v17 (mulf : (⟨S1x64x64x4x128, .f32⟩ : BufTy).Contents (Elt F) → (⟨S1x64x64x4x128, .f32⟩ : BufTy).Contents (Elt F) → (⟨S1x64x64x4x128, .f32⟩ : BufTy).Contents (Elt F)),
    StableHlo.unary main_v13 main_v18 (Host.negf : (⟨S1x64x64x4x128, .f32⟩ : BufTy).Contents (Elt F) → (⟨S1x64x64x4x128, .f32⟩ : BufTy).Contents (Elt F)),
    StableHlo.unary main_v18 main_v19 (Host.exp : (⟨S1x64x64x4x128, .f32⟩ : BufTy).Contents (Elt F) → (⟨S1x64x64x4x128, .f32⟩ : BufTy).Contents (Elt F)),
    StableHlo.binary main_v10 main_v19 main_v20 (mulf : (⟨S1x64x64x4x128, .f32⟩ : BufTy).Contents (Elt F) → (⟨S1x64x64x4x128, .f32⟩ : BufTy).Contents (Elt F) → (⟨S1x64x64x4x128, .f32⟩ : BufTy).Contents (Elt F)),
    StableHlo.nullary main_c (constantI S_ 1 1#1),
    StableHlo.unary main_c main_v21 (broadcastInDim S64x64 ![] bcast_S_S64x64 : (⟨S_, .i1⟩ : BufTy).Contents (Elt F) → (⟨S64x64, .i1⟩ : BufTy).Contents (Elt F)) ]
/-- They touch the core's buffers only. -/
theorem main_part0_ops2_sub : (main_part0_ops2 : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub ..⟩
/-- A stretch of operations. -/
abbrev main_part0_ops3 : List (HloOp τ sig (Elt F)) :=
  [ StableHlo.TRef.nullary (.of main_call1_v0 : StableHlo.TRef sig ⟨S64x64, .i32⟩) (iotaInDim S64x64 32 0),
    StableHlo.TRef.nullary (.of main_call1_c : StableHlo.TRef sig ⟨S_, .i32⟩) (constantI S_ 32 0#32),
    StableHlo.TRef.unary (.of main_call1_c : StableHlo.TRef sig ⟨S_, .i32⟩) (.of main_call1_v1 : StableHlo.TRef sig ⟨S64x64, .i32⟩) (broadcastInDim S64x64 ![] bcast_S_S64x64),
    StableHlo.TRef.binary (.of main_call1_v0 : StableHlo.TRef sig ⟨S64x64, .i32⟩) (.of main_call1_v1 : StableHlo.TRef sig ⟨S64x64, .i32⟩) (.of main_call1_v2 : StableHlo.TRef sig ⟨S64x64, .i32⟩) addi,
    StableHlo.TRef.nullary (.of main_call1_v3 : StableHlo.TRef sig ⟨S64x64, .i32⟩) (iotaInDim S64x64 32 1),
    StableHlo.TRef.binary (.of main_call1_v2 : StableHlo.TRef sig ⟨S64x64, .i32⟩) (.of main_call1_v3 : StableHlo.TRef sig ⟨S64x64, .i32⟩) (.of main_call1_v4 : StableHlo.TRef sig ⟨S64x64, .i1⟩) (cmpi .sge),
    StableHlo.TRef.nullary (.of main_call1_c_0 : StableHlo.TRef sig ⟨S_, .i1⟩) (constantI S_ 1 0#1),
    StableHlo.TRef.unary (.of main_call1_c_0 : StableHlo.TRef sig ⟨S_, .i1⟩) (.of main_call1_v5 : StableHlo.TRef sig ⟨S64x64, .i1⟩) (broadcastInDim S64x64 ![] bcast_S_S64x64),
    StableHlo.TRef.ternary (.of main_call1_v4 : StableHlo.TRef sig ⟨S64x64, .i1⟩) (.of main_v21 : StableHlo.TRef sig ⟨S64x64, .i1⟩) (.of main_call1_v5 : StableHlo.TRef sig ⟨S64x64, .i1⟩) (.of main_v22 : StableHlo.TRef sig ⟨S64x64, .i1⟩) select ]
/-- They touch the core's buffers only. -/
theorem main_part0_ops3_sub : (main_part0_ops3 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub ..⟩
/-- A stretch of operations. -/
abbrev main_part0_ops4 : List (HloOp τ sig (Elt F)) :=
  [ StableHlo.binary main_v17 main_v20 main_v23 ((fun l r => Host.dotGeneral dot_S1x64x64x4x128_S1x64x64x4x128_S1x64x4x64x64_4_4_2_2_013_013 none l r) : (⟨S1x64x64x4x128, .f32⟩ : BufTy).Contents (Elt F) → (⟨S1x64x64x4x128, .f32⟩ : BufTy).Contents (Elt F) → (⟨S1x64x4x64x64, .f32⟩ : BufTy).Contents (Elt F)),
    StableHlo.nullary main_cst_0 (constant S_ .f32 0x00000000#32) ]
/-- They touch the core's buffers only. -/
theorem main_part0_ops4_sub : (main_part0_ops4 : List (HloOp τ sig (Elt F))).Forall fun op => op.bufs ⊆ StableHlo.tcRefs τ sig :=
  ⟨StableHlo.binary_bufs_sub .., StableHlo.nullary_bufs_sub ..⟩
/-- A stretch of operations. -/
abbrev main_part0_ops5 : List (HloOp τ sig (Elt F)) :=
  [ StableHlo.TRef.unary (.of main_cst_0 : StableHlo.TRef sig ⟨S_, .f32⟩) (.of main_call2_v0 : StableHlo.TRef sig ⟨S_, .f32⟩) id,
    StableHlo.TRef.unary (.of main_v22 : StableHlo.TRef sig ⟨S64x64, .i1⟩) (.of main_v24_1 : StableHlo.TRef sig ⟨S1x64x4x64x64, .i1⟩) (broadcastInDim S1x64x4x64x64 ![3, 4] bcast_S64x64_S1x64x4x64x64_3_4),
    StableHlo.TRef.unary (.of main_call2_v0 : StableHlo.TRef sig ⟨S_, .f32⟩) (.of main_call2_v2 : StableHlo.TRef sig ⟨S1x64x4x64x64, .f32⟩) (broadcastInDim S1x64x4x64x64 ![] bcast_S_S1x64x4x64x64),
    StableHlo.TRef.ternary (.of main_v24_1 : StableHlo.TRef sig ⟨S1x64x4x64x64, .i1⟩) (.of main_v23 : StableHlo.TRef sig ⟨S1x64x4x64x64, .f32⟩) (.of main_call2_v2 : StableHlo.TRef sig ⟨S1x64x4x64x64, .f32⟩) (.of main_v24_0 : StableHlo.TRef sig ⟨S1x64x4x64x64, .f32⟩) select,
    StableHlo.TRef.nullary (.of main_call2_cst : StableHlo.TRef sig ⟨S_, .f32⟩) (constant S_ .f32 0x00000000#32),
    StableHlo.TRef.unary (.of main_call2_cst : StableHlo.TRef sig ⟨S_, .f32⟩) (.of main_v24_2 : StableHlo.TRef sig ⟨S1x64x4x64x64, .f32⟩) (broadcastInDim S1x64x4x64x64 ![] bcast_S_S1x64x4x64x64) ]
/-- They touch the core's buffers only. -/
theorem main_part0_ops5_sub : (main_part0_ops5 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub .., StableHlo.nullary_bufs_sub .., StableHlo.unary_bufs_sub ..⟩
/-- A stretch of operations. -/
abbrev main_part0_ops6 : List (HloOp τ sig (Elt F)) :=
  [ StableHlo.binary main_v11 main_v24_0 main_v25 ((fun l r => Host.dotGeneral dot_S1x64x64x4x128_S1x64x4x64x64_S1x64x4x128x64_2_4_4_3_013_012 none l r) : (⟨S1x64x64x4x128, .f32⟩ : BufTy).Contents (Elt F) → (⟨S1x64x4x64x64, .f32⟩ : BufTy).Contents (Elt F) → (⟨S1x64x4x128x64, .f32⟩ : BufTy).Contents (Elt F)),
    StableHlo.unary main_v25 main_v26 ((transpose S1x64x64x4x128 [0, 1, 4, 2, 3] · transposes_S1x64x4x128x64_S1x64x64x4x128_0_1_4_2_3) : (⟨S1x64x4x128x64, .f32⟩ : BufTy).Contents (Elt F) → (⟨S1x64x64x4x128, .f32⟩ : BufTy).Contents (Elt F)),
    StableHlo.unary main_v15 main_v27 (broadcastInDim S1x64x1x4x128 ![0, 1, 3, 4] bcast_S1x64x4x128_S1x64x1x4x128_0_1_3_4 : (⟨S1x64x4x128, .f32⟩ : BufTy).Contents (Elt F) → (⟨S1x64x1x4x128, .f32⟩ : BufTy).Contents (Elt F)),
    StableHlo.unary main_v27 main_v28 (broadcastInDim S1x64x64x4x128 ![0, 1, 2, 3, 4] bcast_S1x64x1x4x128_S1x64x64x4x128_0_1_2_3_4 : (⟨S1x64x1x4x128, .f32⟩ : BufTy).Contents (Elt F) → (⟨S1x64x64x4x128, .f32⟩ : BufTy).Contents (Elt F)),
    StableHlo.binary main_v28 main_v13 main_v29 (subf : (⟨S1x64x64x4x128, .f32⟩ : BufTy).Contents (Elt F) → (⟨S1x64x64x4x128, .f32⟩ : BufTy).Contents (Elt F) → (⟨S1x64x64x4x128, .f32⟩ : BufTy).Contents (Elt F)),
    StableHlo.unary main_v29 main_v30 (Host.exp : (⟨S1x64x64x4x128, .f32⟩ : BufTy).Contents (Elt F) → (⟨S1x64x64x4x128, .f32⟩ : BufTy).Contents (Elt F)),
    StableHlo.binary main_v10 main_v30 main_v31 (mulf : (⟨S1x64x64x4x128, .f32⟩ : BufTy).Contents (Elt F) → (⟨S1x64x64x4x128, .f32⟩ : BufTy).Contents (Elt F) → (⟨S1x64x64x4x128, .f32⟩ : BufTy).Contents (Elt F)),
    StableHlo.binary main_v31 main_v11 main_v32 ((fun l r => Host.dotGeneral dot_S1x64x64x4x128_S1x64x64x4x128_S64x1x4x128x128_2_2_4_4_103_103 none l r) : (⟨S1x64x64x4x128, .f32⟩ : BufTy).Contents (Elt F) → (⟨S1x64x64x4x128, .f32⟩ : BufTy).Contents (Elt F) → (⟨S64x1x4x128x128, .f32⟩ : BufTy).Contents (Elt F)),
    StableHlo.unary main_v15 main_v33 ((transpose S64x1x4x128 [1, 0, 2, 3] · transposes_S1x64x4x128_S64x1x4x128_1_0_2_3) : (⟨S1x64x4x128, .f32⟩ : BufTy).Contents (Elt F) → (⟨S64x1x4x128, .f32⟩ : BufTy).Contents (Elt F)),
    StableHlo.unary main_v33 main_v34 (Host.exp : (⟨S64x1x4x128, .f32⟩ : BufTy).Contents (Elt F) → (⟨S64x1x4x128, .f32⟩ : BufTy).Contents (Elt F)),
    StableHlo.nullary main_cst_1 (constant S_ .f32 0x00000000#32),
    StableHlo.unary main_cst_1 main_v35 (broadcastInDim S1x4x128x128 ![] bcast_S_S1x4x128x128 : (⟨S_, .f32⟩ : BufTy).Contents (Elt F) → (⟨S1x4x128x128, .f32⟩ : BufTy).Contents (Elt F)),
    StableHlo.nullary main_cst_2 (constant S_ .f32 0x00000000#32),
    StableHlo.unary main_cst_2 main_v36 (broadcastInDim S64x1x4x128x128 ![] bcast_S_S64x1x4x128x128 : (⟨S_, .f32⟩ : BufTy).Contents (Elt F) → (⟨S64x1x4x128x128, .f32⟩ : BufTy).Contents (Elt F)),
    StableHlo.nullary main_cst_3 (constant S_ .f32 0x00000000#32),
    StableHlo.unary main_cst_3 main_v37 (broadcastInDim S64x1x4x128x1 ![] bcast_S_S64x1x4x128x1 : (⟨S_, .f32⟩ : BufTy).Contents (Elt F) → (⟨S64x1x4x128x1, .f32⟩ : BufTy).Contents (Elt F)),
    StableHlo.nullary main_c_4 (constantI S_ 32 0#32),
    StableHlo.unary main_v34 main_v38_0 id,
    StableHlo.unary main_v32 main_v38_1 id,
    StableHlo.unary main_c_4 main_v38_2 id,
    StableHlo.unary main_v35 main_v38_3 id,
    StableHlo.unary main_v36 main_v38_4 id,
    StableHlo.unary main_v37 main_v38_5 id ]
/-- They touch the core's buffers only. -/
theorem main_part0_ops6_sub : (main_part0_ops6 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- A stretch of operations. -/
abbrev main_part0_ops7 : List (HloOp τ sig (Elt F)) :=
  [ StableHlo.binary main_v38_4 main_v17 main_v39 ((fun l r => Host.dotGeneral dot_S64x1x4x128x128_S1x64x64x4x128_S1x64x4x128x64_3_4_4_2_102_013 none l r) : (⟨S64x1x4x128x128, .f32⟩ : BufTy).Contents (Elt F) → (⟨S1x64x64x4x128, .f32⟩ : BufTy).Contents (Elt F) → (⟨S1x64x4x128x64, .f32⟩ : BufTy).Contents (Elt F)),
    StableHlo.unary main_v39 main_v40 ((transpose S1x64x64x4x128 [0, 1, 4, 2, 3] · transposes_S1x64x4x128x64_S1x64x64x4x128_0_1_4_2_3) : (⟨S1x64x4x128x64, .f32⟩ : BufTy).Contents (Elt F) → (⟨S1x64x64x4x128, .f32⟩ : BufTy).Contents (Elt F)),
    StableHlo.binary main_v26 main_v40 main_v41 (addf : (⟨S1x64x64x4x128, .f32⟩ : BufTy).Contents (Elt F) → (⟨S1x64x64x4x128, .f32⟩ : BufTy).Contents (Elt F) → (⟨S1x64x64x4x128, .f32⟩ : BufTy).Contents (Elt F)),
    StableHlo.reshape main_v41 main_v42 (rfl : (.f32 : EltTy) = .f32) shapeCasts_S1x64x64x4x128_S1x4096x4x128,
    StableHlo.reshape main_v42 main_v43 (rfl : (.f32 : EltTy) = .f32) shapeCasts_S1x4096x4x128_S4096x512,
    StableHlo.unary main_v38_4 main_v44 ((transpose S64x1x4x128x128 [0, 1, 2, 4, 3] · transposes_S64x1x4x128x128_S64x1x4x128x128_0_1_2_4_3) : (⟨S64x1x4x128x128, .f32⟩ : BufTy).Contents (Elt F) → (⟨S64x1x4x128x128, .f32⟩ : BufTy).Contents (Elt F)),
    StableHlo.reshape main_v44 main_v45 (rfl : (.f32 : EltTy) = .f32) shapeCasts_S64x1x4x128x128_S64x512x128,
    StableHlo.nullary main_cst_5 (constant S_ .f32 0x00000000#32) ]
/-- They touch the core's buffers only. -/
theorem main_part0_ops7_sub : (main_part0_ops7 : List (HloOp τ sig (Elt F))).Forall fun op => op.bufs ⊆ StableHlo.tcRefs τ sig :=
  ⟨StableHlo.binary_bufs_sub .., StableHlo.unary_bufs_sub .., StableHlo.binary_bufs_sub .., StableHlo.reshape_bufs_sub .., StableHlo.reshape_bufs_sub .., StableHlo.unary_bufs_sub .., StableHlo.reshape_bufs_sub .., StableHlo.nullary_bufs_sub ..⟩
/-- The text as the chain of its stretches. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    HostLoop.enter 0 ]
  (StableHlo.seq main_part0_ops7) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl
/-- A stretch of operations. -/
abbrev main_part1_ops0 : List (HloOp τ sig (Elt F)) :=
  [ StableHlo.unary main_cst_5 main_v46 (broadcastInDim S1x4x128x128 ![] bcast_S_S1x4x128x128 : (⟨S_, .f32⟩ : BufTy).Contents (Elt F) → (⟨S1x4x128x128, .f32⟩ : BufTy).Contents (Elt F)),
    StableHlo.reshape main_arg2 main_v47 (rfl : (.f32 : EltTy) = .f32) shapeCasts_S4096x512_S1x4096x4x128,
    StableHlo.reshape main_v47 main_v48 (rfl : (.f32 : EltTy) = .f32) shapeCasts_S1x4096x4x128_S1x64x64x4x128,
    StableHlo.unary main_v48 main_v49 ((transpose S1x64x4x128x64 [0, 1, 3, 4, 2] · transposes_S1x64x64x4x128_S1x64x4x128x64_0_1_3_4_2) : (⟨S1x64x64x4x128, .f32⟩ : BufTy).Contents (Elt F) → (⟨S1x64x4x128x64, .f32⟩ : BufTy).Contents (Elt F)),
    StableHlo.binary main_v49 main_v38_4 main_v50 ((fun l r => Host.dotGeneral dot_S1x64x4x128x64_S64x1x4x128x128_S1x64x4x64x128_3_4_4_3_012_102 none l r) : (⟨S1x64x4x128x64, .f32⟩ : BufTy).Contents (Elt F) → (⟨S64x1x4x128x128, .f32⟩ : BufTy).Contents (Elt F) → (⟨S1x64x4x64x128, .f32⟩ : BufTy).Contents (Elt F)),
    StableHlo.unary main_v50 main_v51 ((transpose S1x64x64x4x128 [0, 1, 3, 2, 4] · transposes_S1x64x4x64x128_S1x64x64x4x128_0_1_3_2_4) : (⟨S1x64x4x64x128, .f32⟩ : BufTy).Contents (Elt F) → (⟨S1x64x64x4x128, .f32⟩ : BufTy).Contents (Elt F)),
    StableHlo.binary main_v49 main_v17 main_v52 ((fun l r => Host.dotGeneral dot_S1x64x4x128x64_S1x64x64x4x128_S1x64x4x128x128_4_2_3_4_012_013 none l r) : (⟨S1x64x4x128x64, .f32⟩ : BufTy).Contents (Elt F) → (⟨S1x64x64x4x128, .f32⟩ : BufTy).Contents (Elt F) → (⟨S1x64x4x128x128, .f32⟩ : BufTy).Contents (Elt F)),
    StableHlo.unary main_v52 main_v53 ((transpose S64x1x4x128x128 [1, 0, 2, 4, 3] · transposes_S1x64x4x128x128_S64x1x4x128x128_1_0_2_4_3) : (⟨S1x64x4x128x128, .f32⟩ : BufTy).Contents (Elt F) → (⟨S64x1x4x128x128, .f32⟩ : BufTy).Contents (Elt F)),
    StableHlo.nullary main_cst_6 (constant S_ .f32 0x00000000#32),
    StableHlo.unary main_cst_6 main_v54 (broadcastInDim S1x4x128x128 ![] bcast_S_S1x4x128x128 : (⟨S_, .f32⟩ : BufTy).Contents (Elt F) → (⟨S1x4x128x128, .f32⟩ : BufTy).Contents (Elt F)),
    StableHlo.nullary main_cst_7 (constant S_ .f32 0x00000000#32),
    StableHlo.unary main_cst_7 main_v55 (broadcastInDim S64x1x4x128 ![] bcast_S_S64x1x4x128 : (⟨S_, .f32⟩ : BufTy).Contents (Elt F) → (⟨S64x1x4x128, .f32⟩ : BufTy).Contents (Elt F)),
    StableHlo.nullary main_cst_8 (constant S_ .f32 0x00000000#32),
    StableHlo.unary main_cst_8 main_v56 (broadcastInDim S64x1x4x128x128 ![] bcast_S_S64x1x4x128x128 : (⟨S_, .f32⟩ : BufTy).Contents (Elt F) → (⟨S64x1x4x128x128, .f32⟩ : BufTy).Contents (Elt F)),
    StableHlo.nullary main_c_9 (constantI S_ 32 0#32),
    StableHlo.unary main_v53 main_v57_0 id,
    StableHlo.unary main_v38_4 main_v57_1 id,
    StableHlo.unary main_v38_5 main_v57_2 id,
    StableHlo.unary main_c_9 main_v57_3 id,
    StableHlo.unary main_v54 main_v57_4 id,
    StableHlo.unary main_v55 main_v57_5 id,
    StableHlo.unary main_v56 main_v57_6 id ]
/-- They touch the core's buffers only. -/
theorem main_part1_ops0_sub : (main_part1_ops0 : List (HloOp τ sig (Elt F))).Forall fun op => op.bufs ⊆ StableHlo.tcRefs τ sig :=
  ⟨StableHlo.unary_bufs_sub .., StableHlo.reshape_bufs_sub .., StableHlo.reshape_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- A stretch of operations. -/
abbrev main_part1_ops1 : List (HloOp τ sig (Elt F)) :=
  [ StableHlo.binary main_v57_5 main_v34 main_v58 (mulf : (⟨S64x1x4x128, .f32⟩ : BufTy).Contents (Elt F) → (⟨S64x1x4x128, .f32⟩ : BufTy).Contents (Elt F) → (⟨S64x1x4x128, .f32⟩ : BufTy).Contents (Elt F)),
    StableHlo.unary main_v58 main_v59 ((transpose S1x64x4x128 [1, 0, 2, 3] · transposes_S64x1x4x128_S1x64x4x128_1_0_2_3) : (⟨S64x1x4x128, .f32⟩ : BufTy).Contents (Elt F) → (⟨S1x64x4x128, .f32⟩ : BufTy).Contents (Elt F)),
    StableHlo.binary main_v57_6 main_v31 main_v60 ((fun l r => Host.dotGeneral dot_S64x1x4x128x128_S1x64x64x4x128_S64x1x4x128x64_3_4_4_2_012_103 none l r) : (⟨S64x1x4x128x128, .f32⟩ : BufTy).Contents (Elt F) → (⟨S1x64x64x4x128, .f32⟩ : BufTy).Contents (Elt F) → (⟨S64x1x4x128x64, .f32⟩ : BufTy).Contents (Elt F)),
    StableHlo.unary main_v60 main_v61 ((transpose S1x64x64x4x128 [1, 0, 4, 2, 3] · transposes_S64x1x4x128x64_S1x64x64x4x128_1_0_4_2_3) : (⟨S64x1x4x128x64, .f32⟩ : BufTy).Contents (Elt F) → (⟨S1x64x64x4x128, .f32⟩ : BufTy).Contents (Elt F)),
    StableHlo.binary main_v57_6 main_v11 main_v62 ((fun l r => Host.dotGeneral dot_S64x1x4x128x128_S1x64x64x4x128_S64x1x4x128x64_4_4_3_2_012_103 none l r) : (⟨S64x1x4x128x128, .f32⟩ : BufTy).Contents (Elt F) → (⟨S1x64x64x4x128, .f32⟩ : BufTy).Contents (Elt F) → (⟨S64x1x4x128x64, .f32⟩ : BufTy).Contents (Elt F)),
    StableHlo.unary main_v62 main_v63 ((transpose S1x64x64x4x128 [1, 0, 4, 2, 3] · transposes_S64x1x4x128x64_S1x64x64x4x128_1_0_4_2_3) : (⟨S64x1x4x128x64, .f32⟩ : BufTy).Contents (Elt F) → (⟨S1x64x64x4x128, .f32⟩ : BufTy).Contents (Elt F)),
    StableHlo.binary main_v10 main_v63 main_v64 (mulf : (⟨S1x64x64x4x128, .f32⟩ : BufTy).Contents (Elt F) → (⟨S1x64x64x4x128, .f32⟩ : BufTy).Contents (Elt F) → (⟨S1x64x64x4x128, .f32⟩ : BufTy).Contents (Elt F)),
    StableHlo.binary main_v63 main_v30 main_v65 (mulf : (⟨S1x64x64x4x128, .f32⟩ : BufTy).Contents (Elt F) → (⟨S1x64x64x4x128, .f32⟩ : BufTy).Contents (Elt F) → (⟨S1x64x64x4x128, .f32⟩ : BufTy).Contents (Elt F)),
    StableHlo.binary main_v64 main_v30 main_v66 (mulf : (⟨S1x64x64x4x128, .f32⟩ : BufTy).Contents (Elt F) → (⟨S1x64x64x4x128, .f32⟩ : BufTy).Contents (Elt F) → (⟨S1x64x64x4x128, .f32⟩ : BufTy).Contents (Elt F)),
    StableHlo.nullary main_cst_10 (constant S_ .f32 0x00000000#32),
    StableHlo.binary main_v66 main_cst_10 main_v67 ((fun x v => Host.reduceAdd x v reducesTo_S1x64x64x4x128_S1x64x4x128_d2 h_S_) : (⟨S1x64x64x4x128, .f32⟩ : BufTy).Contents (Elt F) → (⟨S_, .f32⟩ : BufTy).Contents (Elt F) → (⟨S1x64x4x128, .f32⟩ : BufTy).Contents (Elt F)),
    StableHlo.reshape main_v67 main_v68 (rfl : (.f32 : EltTy) = .f32) shapeCasts_S1x64x4x128_S1x64x1x4x128,
    StableHlo.unary main_v66 main_v69 (Host.negf : (⟨S1x64x64x4x128, .f32⟩ : BufTy).Contents (Elt F) → (⟨S1x64x64x4x128, .f32⟩ : BufTy).Contents (Elt F)),
    StableHlo.nullary main_cst_11 (constant S_ .f32 0x00000000#32),
    StableHlo.binary main_v68 main_cst_11 main_v70 ((fun x v => Host.reduceAdd x v reducesTo_S1x64x1x4x128_S64x4x128_d0_2 h_S_) : (⟨S1x64x1x4x128, .f32⟩ : BufTy).Contents (Elt F) → (⟨S_, .f32⟩ : BufTy).Contents (Elt F) → (⟨S64x4x128, .f32⟩ : BufTy).Contents (Elt F)),
    StableHlo.unary main_v70 main_v71 (broadcastInDim S1x64x4x128 ![1, 2, 3] bcast_S64x4x128_S1x64x4x128_1_2_3 : (⟨S64x4x128, .f32⟩ : BufTy).Contents (Elt F) → (⟨S1x64x4x128, .f32⟩ : BufTy).Contents (Elt F)),
    StableHlo.binary main_v59 main_v71 main_v72 (addf : (⟨S1x64x4x128, .f32⟩ : BufTy).Contents (Elt F) → (⟨S1x64x4x128, .f32⟩ : BufTy).Contents (Elt F) → (⟨S1x64x4x128, .f32⟩ : BufTy).Contents (Elt F)),
    StableHlo.unary main_v48 main_v73 ((transpose S1x64x4x128x64 [0, 1, 3, 4, 2] · transposes_S1x64x64x4x128_S1x64x4x128x64_0_1_3_4_2) : (⟨S1x64x64x4x128, .f32⟩ : BufTy).Contents (Elt F) → (⟨S1x64x4x128x64, .f32⟩ : BufTy).Contents (Elt F)),
    StableHlo.binary main_v73 main_v11 main_v74 ((fun l r => Host.dotGeneral dot_S1x64x4x128x64_S1x64x64x4x128_S1x64x4x64x64_3_4_4_2_012_013 none l r) : (⟨S1x64x4x128x64, .f32⟩ : BufTy).Contents (Elt F) → (⟨S1x64x64x4x128, .f32⟩ : BufTy).Contents (Elt F) → (⟨S1x64x4x64x64, .f32⟩ : BufTy).Contents (Elt F)),
    StableHlo.binary main_v73 main_v24_0 main_v75 ((fun l r => Host.dotGeneral dot_S1x64x4x128x64_S1x64x4x64x64_S1x64x4x128x64_4_3_3_4_012_012 none l r) : (⟨S1x64x4x128x64, .f32⟩ : BufTy).Contents (Elt F) → (⟨S1x64x4x64x64, .f32⟩ : BufTy).Contents (Elt F) → (⟨S1x64x4x128x64, .f32⟩ : BufTy).Contents (Elt F)),
    StableHlo.unary main_v75 main_v76 ((transpose S1x64x64x4x128 [0, 1, 4, 2, 3] · transposes_S1x64x4x128x64_S1x64x64x4x128_0_1_4_2_3) : (⟨S1x64x4x128x64, .f32⟩ : BufTy).Contents (Elt F) → (⟨S1x64x64x4x128, .f32⟩ : BufTy).Contents (Elt F)),
    StableHlo.binary main_v61 main_v76 main_v77 (addf : (⟨S1x64x64x4x128, .f32⟩ : BufTy).Contents (Elt F) → (⟨S1x64x64x4x128, .f32⟩ : BufTy).Contents (Elt F) → (⟨S1x64x64x4x128, .f32⟩ : BufTy).Contents (Elt F)) ]
/-- They touch the core's buffers only. -/
theorem main_part1_ops1_sub : (main_part1_ops1 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.unary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub ..⟩
/-- A stretch of operations. -/
abbrev main_part1_ops2 : List (HloOp τ sig (Elt F)) :=
  [ StableHlo.TRef.nullary (.of main_call12_cst : StableHlo.TRef sig ⟨S_, .f32⟩) (constant S_ .f32 0x00000000#32),
    StableHlo.TRef.unary (.of main_call12_cst : StableHlo.TRef sig ⟨S_, .f32⟩) (.of main_call12_v0 : StableHlo.TRef sig ⟨S1x64x4x64x64, .f32⟩) (broadcastInDim S1x64x4x64x64 ![] bcast_S_S1x64x4x64x64),
    StableHlo.TRef.ternary (.of main_v24_1 : StableHlo.TRef sig ⟨S1x64x4x64x64, .i1⟩) (.of main_v74 : StableHlo.TRef sig ⟨S1x64x4x64x64, .f32⟩) (.of main_call12_v0 : StableHlo.TRef sig ⟨S1x64x4x64x64, .f32⟩) (.of main_v78 : StableHlo.TRef sig ⟨S1x64x4x64x64, .f32⟩) select ]
/-- They touch the core's buffers only. -/
theorem main_part1_ops2_sub : (main_part1_ops2 : List (HloOp τ sig (Elt F))).Forall fun op => op.bufs ⊆ StableHlo.tcRefs τ sig :=
  ⟨StableHlo.nullary_bufs_sub .., StableHlo.unary_bufs_sub .., StableHlo.ternary_bufs_sub ..⟩
/-- A stretch of operations. -/
abbrev main_part1_ops3 : List (HloOp τ sig (Elt F)) :=
  [ StableHlo.binary main_v78 main_v17 main_v79 ((fun l r => Host.dotGeneral dot_S1x64x4x64x64_S1x64x64x4x128_S1x64x4x64x128_3_2_4_4_012_013 none l r) : (⟨S1x64x4x64x64, .f32⟩ : BufTy).Contents (Elt F) → (⟨S1x64x64x4x128, .f32⟩ : BufTy).Contents (Elt F) → (⟨S1x64x4x64x128, .f32⟩ : BufTy).Contents (Elt F)),
    StableHlo.unary main_v79 main_v80 ((transpose S1x64x64x4x128 [0, 1, 3, 2, 4] · transposes_S1x64x4x64x128_S1x64x64x4x128_0_1_3_2_4) : (⟨S1x64x4x64x128, .f32⟩ : BufTy).Contents (Elt F) → (⟨S1x64x64x4x128, .f32⟩ : BufTy).Contents (Elt F)),
    StableHlo.binary main_v78 main_v20 main_v81 ((fun l r => Host.dotGeneral dot_S1x64x4x64x64_S1x64x64x4x128_S1x64x4x64x128_4_2_3_4_012_013 none l r) : (⟨S1x64x4x64x64, .f32⟩ : BufTy).Contents (Elt F) → (⟨S1x64x64x4x128, .f32⟩ : BufTy).Contents (Elt F) → (⟨S1x64x4x64x128, .f32⟩ : BufTy).Contents (Elt F)),
    StableHlo.unary main_v81 main_v82 ((transpose S1x64x64x4x128 [0, 1, 3, 2, 4] · transposes_S1x64x4x64x128_S1x64x64x4x128_0_1_3_2_4) : (⟨S1x64x4x64x128, .f32⟩ : BufTy).Contents (Elt F) → (⟨S1x64x64x4x128, .f32⟩ : BufTy).Contents (Elt F)),
    StableHlo.binary main_v51 main_v82 main_v83 (addf : (⟨S1x64x64x4x128, .f32⟩ : BufTy).Contents (Elt F) → (⟨S1x64x64x4x128, .f32⟩ : BufTy).Contents (Elt F) → (⟨S1x64x64x4x128, .f32⟩ : BufTy).Contents (Elt F)),
    StableHlo.binary main_v10 main_v80 main_v84 (mulf : (⟨S1x64x64x4x128, .f32⟩ : BufTy).Contents (Elt F) → (⟨S1x64x64x4x128, .f32⟩ : BufTy).Contents (Elt F) → (⟨S1x64x64x4x128, .f32⟩ : BufTy).Contents (Elt F)),
    StableHlo.binary main_v80 main_v19 main_v85 (mulf : (⟨S1x64x64x4x128, .f32⟩ : BufTy).Contents (Elt F) → (⟨S1x64x64x4x128, .f32⟩ : BufTy).Contents (Elt F) → (⟨S1x64x64x4x128, .f32⟩ : BufTy).Contents (Elt F)),
    StableHlo.binary main_v65 main_v85 main_v86 (addf : (⟨S1x64x64x4x128, .f32⟩ : BufTy).Contents (Elt F) → (⟨S1x64x64x4x128, .f32⟩ : BufTy).Contents (Elt F) → (⟨S1x64x64x4x128, .f32⟩ : BufTy).Contents (Elt F)),
    StableHlo.binary main_v84 main_v19 main_v87 (mulf : (⟨S1x64x64x4x128, .f32⟩ : BufTy).Contents (Elt F) → (⟨S1x64x64x4x128, .f32⟩ : BufTy).Contents (Elt F) → (⟨S1x64x64x4x128, .f32⟩ : BufTy).Contents (Elt F)),
    StableHlo.unary main_v87 main_v88 (Host.negf : (⟨S1x64x64x4x128, .f32⟩ : BufTy).Contents (Elt F) → (⟨S1x64x64x4x128, .f32⟩ : BufTy).Contents (Elt F)),
    StableHlo.binary main_v69 main_v88 main_v89 (addf : (⟨S1x64x64x4x128, .f32⟩ : BufTy).Contents (Elt F) → (⟨S1x64x64x4x128, .f32⟩ : BufTy).Contents (Elt F) → (⟨S1x64x64x4x128, .f32⟩ : BufTy).Contents (Elt F)),
    StableHlo.binary main_v9 main_v83 main_v90 (mulf : (⟨S1x64x64x4x128, .f32⟩ : BufTy).Contents (Elt F) → (⟨S1x64x64x4x128, .f32⟩ : BufTy).Contents (Elt F) → (⟨S1x64x64x4x128, .f32⟩ : BufTy).Contents (Elt F)),
    StableHlo.binary main_v83 main_v16 main_v91 (mulf : (⟨S1x64x64x4x128, .f32⟩ : BufTy).Contents (Elt F) → (⟨S1x64x64x4x128, .f32⟩ : BufTy).Contents (Elt F) → (⟨S1x64x64x4x128, .f32⟩ : BufTy).Contents (Elt F)),
    StableHlo.binary main_v90 main_v16 main_v92 (mulf : (⟨S1x64x64x4x128, .f32⟩ : BufTy).Contents (Elt F) → (⟨S1x64x64x4x128, .f32⟩ : BufTy).Contents (Elt F) → (⟨S1x64x64x4x128, .f32⟩ : BufTy).Contents (Elt F)) ]
/-- They touch the core's buffers only. -/
theorem main_part1_ops3_sub : (main_part1_ops3 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub ..⟩
/-- The text as the chain of its stretches. -/
theorem main_part1_chain (c : Dev nD) : main_part1 (F := F) c = (Pipeline.chainK
  [ StableHlo.seq main_part1_ops0,
    HostLoop.enter 1,
    StableHlo.seq main_part1_ops1,
    StableHlo.seq main_part1_ops2 ]
  (StableHlo.seq main_part1_ops3) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons]
  chain_rfl
/-- A stretch of operations. -/
abbrev main_part2_ops0 : List (HloOp τ sig (Elt F)) :=
  [ StableHlo.binary main_v89 main_v92 main_v93 (addf : (⟨S1x64x64x4x128, .f32⟩ : BufTy).Contents (Elt F) → (⟨S1x64x64x4x128, .f32⟩ : BufTy).Contents (Elt F) → (⟨S1x64x64x4x128, .f32⟩ : BufTy).Contents (Elt F)),
    StableHlo.unary main_v72 main_v94 (broadcastInDim S1x64x1x4x128 ![0, 1, 3, 4] bcast_S1x64x4x128_S1x64x1x4x128_0_1_3_4 : (⟨S1x64x4x128, .f32⟩ : BufTy).Contents (Elt F) → (⟨S1x64x1x4x128, .f32⟩ : BufTy).Contents (Elt F)),
    StableHlo.nullary main_cst_12 (constant S_ .f32 0x00000000#32),
    StableHlo.binary main_v94 main_cst_12 main_v95 ((fun x v => pad S1x64x64x4x128 ![0, 0, 63, 0, 0] ![0, 0, 0, 0, 0] ![0, 0, 0, 0, 0] x v pads_S1x64x1x4x128_S1x64x64x4x128_000_000_6300_000_000 h_S_) : (⟨S1x64x1x4x128, .f32⟩ : BufTy).Contents (Elt F) → (⟨S_, .f32⟩ : BufTy).Contents (Elt F) → (⟨S1x64x64x4x128, .f32⟩ : BufTy).Contents (Elt F)),
    StableHlo.binary main_v93 main_v95 main_v96 (addf : (⟨S1x64x64x4x128, .f32⟩ : BufTy).Contents (Elt F) → (⟨S1x64x64x4x128, .f32⟩ : BufTy).Contents (Elt F) → (⟨S1x64x64x4x128, .f32⟩ : BufTy).Contents (Elt F)) ]
/-- They touch the core's buffers only. -/
theorem main_part2_ops0_sub : (main_part2_ops0 : List (HloOp τ sig (Elt F))).Forall fun op => op.bufs ⊆ StableHlo.tcRefs τ sig :=
  ⟨StableHlo.binary_bufs_sub .., StableHlo.unary_bufs_sub .., StableHlo.nullary_bufs_sub .., StableHlo.binary_bufs_sub .., StableHlo.binary_bufs_sub ..⟩
/-- A stretch of operations. -/
abbrev main_part2_ops1 : List (HloOp τ sig (Elt F)) :=
  [ StableHlo.TRef.nullary (.of main_call13_call0_cst : StableHlo.TRef sig ⟨S_, .f32⟩) (constant S_ .f32 0x00000000#32),
    StableHlo.TRef.unary (.of main_call13_call0_cst : StableHlo.TRef sig ⟨S_, .f32⟩) (.of main_call13_call0_v0 : StableHlo.TRef sig ⟨S_, .f32⟩) (broadcastInDim S_ ![] bcast_S_S_),
    StableHlo.TRef.binary (.of main_v96 : StableHlo.TRef sig ⟨S1x64x64x4x128, .f32⟩) (.of main_call13_call0_v0 : StableHlo.TRef sig ⟨S_, .f32⟩) (.of main_v97 : StableHlo.TRef sig ⟨S1x64x64x4x128, .f32⟩) (fun x v => Host.reduceWindowAdd ![1, 1, 64, 1, 1] ![1, 1, 1, 1, 1] ![0, 0, 0, 0, 0] ![0, 0, 63, 0, 0] x v reduceWindows_S1x64x64x4x128_S1x64x64x4x128_w1s1p0_0_w1s1p0_0_w64s1p0_63_w1s1p0_0_w1s1p0_0 h_S_) ]
/-- They touch the core's buffers only. -/
theorem main_part2_ops1_sub : (main_part2_ops1 : List (HloOp τ sig (Elt F))).Forall fun op => op.bufs ⊆ StableHlo.tcRefs τ sig :=
  ⟨StableHlo.nullary_bufs_sub .., StableHlo.unary_bufs_sub .., StableHlo.binary_bufs_sub ..⟩
/-- A stretch of operations. -/
abbrev main_part2_ops2 : List (HloOp τ sig (Elt F)) :=
  [ StableHlo.reshape main_v97 main_v98 (rfl : (.f32 : EltTy) = .f32) shapeCasts_S1x64x64x4x128_S1x4096x4x128,
    StableHlo.reshape main_v77 main_v99 (rfl : (.f32 : EltTy) = .f32) shapeCasts_S1x64x64x4x128_S1x4096x4x128,
    StableHlo.reshape main_v86 main_v100 (rfl : (.f32 : EltTy) = .f32) shapeCasts_S1x64x64x4x128_S1x4096x4x128,
    StableHlo.reshape main_v91 main_v101 (rfl : (.f32 : EltTy) = .f32) shapeCasts_S1x64x64x4x128_S1x4096x4x128,
    StableHlo.reshape main_v98 main_v102 (rfl : (.f32 : EltTy) = .f32) shapeCasts_S1x4096x4x128_S4096x512,
    StableHlo.reshape main_v99 main_v103 (rfl : (.f32 : EltTy) = .f32) shapeCasts_S1x4096x4x128_S4096x512,
    StableHlo.reshape main_v100 main_v104 (rfl : (.f32 : EltTy) = .f32) shapeCasts_S1x4096x4x128_S4096x512,
    StableHlo.nullary main_cst_13 (constant S_ .f32 0x3DB504F3#32),
    StableHlo.unary main_cst_13 main_v105 (broadcastInDim S1x4096x4x128 ![] bcast_S_S1x4096x4x128 : (⟨S_, .f32⟩ : BufTy).Contents (Elt F) → (⟨S1x4096x4x128, .f32⟩ : BufTy).Contents (Elt F)),
    StableHlo.binary main_v101 main_v105 main_v106 (mulf : (⟨S1x4096x4x128, .f32⟩ : BufTy).Contents (Elt F) → (⟨S1x4096x4x128, .f32⟩ : BufTy).Contents (Elt F) → (⟨S1x4096x4x128, .f32⟩ : BufTy).Contents (Elt F)),
    StableHlo.reshape main_v106 main_v107 (rfl : (.f32 : EltTy) = .f32) shapeCasts_S1x4096x4x128_S4096x512 ]
/-- They touch the core's buffers only. -/
theorem main_part2_ops2_sub : (main_part2_ops2 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.nullary_bufs_sub .., StableHlo.unary_bufs_sub .., StableHlo.binary_bufs_sub .., StableHlo.reshape_bufs_sub ..⟩
/-- The text as the chain of its stretches. -/
theorem main_part2_chain (c : Dev nD) : main_part2 (F := F) c = (Pipeline.chain
  [ StableHlo.seq main_part2_ops0,
    StableHlo.seq main_part2_ops1,
    StableHlo.seq main_part2_ops2 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl
/-- The text as the chain of its stretches. -/
theorem main_chain_windows (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    HostLoop.enter 0,
    StableHlo.seq main_part0_ops7,
    StableHlo.seq main_part1_ops0,
    HostLoop.enter 1,
    StableHlo.seq main_part1_ops1,
    StableHlo.seq main_part1_ops2,
    StableHlo.seq main_part1_ops3,
    StableHlo.seq main_part2_ops0,
    StableHlo.seq main_part2_ops1,
    StableHlo.seq main_part2_ops2 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl
/-- A stretch of operations. -/
abbrev while0Ops0 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.unaryIndexed (.of main_v38_0 : StableHlo.TRef sig ⟨S64x1x4x128, .f32⟩) ![(.of main_v38_2 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩)] (.of main_while0b_call3_v0 : StableHlo.TRef sig ⟨S1x1x4x128, .f32⟩) (fun x i => Host.dynamicSlice S1x1x4x128 x (fun k => (i k (Shape.Idx.first h_S_)).toInt) sliceFits_S64x1x4x128_S1x1x4x128),
    StableHlo.TRef.reshape (.of main_while0b_call3_v0 : StableHlo.TRef sig ⟨S1x1x4x128, .f32⟩) (.of main_while0b_v108 : StableHlo.TRef sig ⟨S1x4x128, .f32⟩) (rfl : (.f32 : EltTy) = .f32) shapeCasts_S1x1x4x128_S1x4x128 ]
/-- They touch the core's buffers only. -/
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- A stretch of operations. -/
abbrev while0Ops0_1 : List (HloOp τ sig (Elt F)) :=
  [ StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.nullary (.of main_while0b_call4_c_2 : StableHlo.TRef sig ⟨S_, .i32⟩) (constantI S_ 32 0#32),
    StableHlo.TRef.unaryIndexed (.of main_v38_1 : StableHlo.TRef sig ⟨S64x1x4x128x128, .f32⟩) ![(.of main_v38_2 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩), (.of main_while0b_call4_c_2 : StableHlo.TRef sig ⟨S_, .i32⟩)] (.of main_while0b_call4_v0 : StableHlo.TRef sig ⟨S1x1x4x128x128, .f32⟩) (fun x i => Host.dynamicSlice S1x1x4x128x128 x (fun k => (i k (Shape.Idx.first h_S_)).toInt) sliceFits_S64x1x4x128x128_S1x1x4x128x128),
    StableHlo.TRef.reshape (.of main_while0b_call4_v0 : StableHlo.TRef sig ⟨S1x1x4x128x128, .f32⟩) (.of main_while0b_v109 : StableHlo.TRef sig ⟨S1x4x128x128, .f32⟩) (rfl : (.f32 : EltTy) = .f32) shapeCasts_S1x1x4x128x128_S1x4x128x128 ]
/-- They touch the core's buffers only. -/
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- A stretch of operations. -/
abbrev while0Ops0_2 : List (HloOp τ sig (Elt F)) :=
  [ StableHlo.unary main_while0b_v108 main_while0b_v110 (broadcastInDim S1x4x128x1 ![0, 1, 2] bcast_S1x4x128_S1x4x128x1_0_1_2 : (⟨S1x4x128, .f32⟩ : BufTy).Contents (Elt F) → (⟨S1x4x128x1, .f32⟩ : BufTy).Contents (Elt F)),
    StableHlo.unary main_while0b_v110 main_while0b_v111 (broadcastInDim S1x4x128x128 ![0, 1, 2, 3] bcast_S1x4x128x1_S1x4x128x128_0_1_2_3 : (⟨S1x4x128x1, .f32⟩ : BufTy).Contents (Elt F) → (⟨S1x4x128x128, .f32⟩ : BufTy).Contents (Elt F)),
    StableHlo.binary main_while0b_v111 main_v38_3 main_while0b_v112 (mulf : (⟨S1x4x128x128, .f32⟩ : BufTy).Contents (Elt F) → (⟨S1x4x128x128, .f32⟩ : BufTy).Contents (Elt F) → (⟨S1x4x128x128, .f32⟩ : BufTy).Contents (Elt F)),
    StableHlo.binary main_while0b_v112 main_while0b_v109 main_while0b_v113 (addf : (⟨S1x4x128x128, .f32⟩ : BufTy).Contents (Elt F) → (⟨S1x4x128x128, .f32⟩ : BufTy).Contents (Elt F) → (⟨S1x4x128x128, .f32⟩ : BufTy).Contents (Elt F)) ]
/-- They touch the core's buffers only. -/
theorem while0Ops0_2_sub : (while0Ops0_2 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub ..⟩
/-- A stretch of operations. -/
abbrev while0Ops0_3 : List (HloOp τ sig (Elt F)) :=
  [ StableHlo.TRef.unary (.of main_v38_3 : StableHlo.TRef sig ⟨S1x4x128x128, .f32⟩) (.of main_while0b_call5_v0 : StableHlo.TRef sig ⟨S1x1x4x128x128, .f32⟩) (broadcastInDim S1x1x4x128x128 ![1, 2, 3, 4] bcast_S1x4x128x128_S1x1x4x128x128_1_2_3_4),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.nullary (.of main_while0b_call5_c_2 : StableHlo.TRef sig ⟨S_, .i32⟩) (constantI S_ 32 0#32),
    StableHlo.TRef.binaryIndexed (.of main_v38_4 : StableHlo.TRef sig ⟨S64x1x4x128x128, .f32⟩) (.of main_while0b_call5_v0 : StableHlo.TRef sig ⟨S1x1x4x128x128, .f32⟩) ![(.of main_v38_2 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩), (.of main_while0b_call5_c_2 : StableHlo.TRef sig ⟨S_, .i32⟩)] (.of main_while0b_v114 : StableHlo.TRef sig ⟨S64x1x4x128x128, .f32⟩) (fun x u i => Host.dynamicUpdateSlice x u (fun k => (i k (Shape.Idx.first h_S_)).toInt) updateFits_S64x1x4x128x128_S1x1x4x128x128) ]
/-- They touch the core's buffers only. -/
theorem while0Ops0_3_sub : (while0Ops0_3 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- A stretch of operations. -/
abbrev while0Ops0_4 : List (HloOp τ sig (Elt F)) :=
  [ StableHlo.TRef.unary (.of main_while0b_v110 : StableHlo.TRef sig ⟨S1x4x128x1, .f32⟩) (.of main_while0b_call6_v0 : StableHlo.TRef sig ⟨S1x1x4x128x1, .f32⟩) (broadcastInDim S1x1x4x128x1 ![1, 2, 3, 4] bcast_S1x4x128x1_S1x1x4x128x1_1_2_3_4),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.nullary (.of main_while0b_call6_c_2 : StableHlo.TRef sig ⟨S_, .i32⟩) (constantI S_ 32 0#32),
    StableHlo.TRef.binaryIndexed (.of main_v38_5 : StableHlo.TRef sig ⟨S64x1x4x128x1, .f32⟩) (.of main_while0b_call6_v0 : StableHlo.TRef sig ⟨S1x1x4x128x1, .f32⟩) ![(.of main_v38_2 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩), (.of main_while0b_call6_c_2 : StableHlo.TRef sig ⟨S_, .i32⟩)] (.of main_while0b_v115 : StableHlo.TRef sig ⟨S64x1x4x128x1, .f32⟩) (fun x u i => Host.dynamicUpdateSlice x u (fun k => (i k (Shape.Idx.first h_S_)).toInt) updateFits_S64x1x4x128x1_S1x1x4x128x1) ]
/-- They touch the core's buffers only. -/
theorem while0Ops0_4_sub : (while0Ops0_4 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- A stretch of operations. -/
abbrev while0Ops0_5 : List (HloOp τ sig (Elt F)) :=
  [ StableHlo.nullary main_while0b_c_19 (constantI S_ 32 1#32),
    StableHlo.binary main_v38_2 main_while0b_c_19 main_while0b_v116 (addi : (⟨S_, .i32⟩ : BufTy).Contents (Elt F) → (⟨S_, .i32⟩ : BufTy).Contents (Elt F) → (⟨S_, .i32⟩ : BufTy).Contents (Elt F)),
    StableHlo.unary main_while0b_v116 main_v38_2 id,
    StableHlo.unary main_while0b_v113 main_v38_3 id,
    StableHlo.unary main_while0b_v114 main_v38_4 id,
    StableHlo.unary main_while0b_v115 main_v38_5 id ]
/-- They touch the core's buffers only. -/
theorem while0Ops0_5_sub : (while0Ops0_5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- The text as the chain of its stretches. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, StableHlo.chain_seq_cons]
  chain_rfl
/-- A stretch of operations. -/
abbrev while1Ops0 : List (HloOp τ sig (Elt F)) :=
  [ StableHlo.nullary main_while1b_c_20 (constantI S_ 32 64#32),
    StableHlo.binary main_while1b_c_20 main_v57_3 main_while1b_v108 (subi : (⟨S_, .i32⟩ : BufTy).Contents (Elt F) → (⟨S_, .i32⟩ : BufTy).Contents (Elt F) → (⟨S_, .i32⟩ : BufTy).Contents (Elt F)),
    StableHlo.nullary main_while1b_c_21 (constantI S_ 32 1#32),
    StableHlo.binary main_while1b_v108 main_while1b_c_21 main_while1b_v109 (subi : (⟨S_, .i32⟩ : BufTy).Contents (Elt F) → (⟨S_, .i32⟩ : BufTy).Contents (Elt F) → (⟨S_, .i32⟩ : BufTy).Contents (Elt F)) ]
/-- They touch the core's buffers only. -/
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
/-- A stretch of operations. -/
abbrev while1Ops0_1 : List (HloOp τ sig (Elt F)) :=
  [ StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.nullary (.of main_while1b_call7_c_1 : StableHlo.TRef sig ⟨S_, .i32⟩) (constantI S_ 32 0#32),
    StableHlo.TRef.nullary (.of main_while1b_call7_c_2 : StableHlo.TRef sig ⟨S_, .i32⟩) (constantI S_ 32 0#32),
    StableHlo.TRef.unaryIndexed (.of main_v57_0 : StableHlo.TRef sig ⟨S64x1x4x128x128, .f32⟩) ![(.of main_while1b_v109 : StableHlo.TRef sig ⟨S_, .i32⟩), (.of main_while1b_call7_c : StableHlo.TRef sig ⟨S_, .i32⟩), (.of main_while1b_call7_c_0 : StableHlo.TRef sig ⟨S_, .i32⟩), (.of main_while1b_call7_c_1 : StableHlo.TRef sig ⟨S_, .i32⟩), (.of main_while1b_call7_c_2 : StableHlo.TRef sig ⟨S_, .i32⟩)] (.of main_while1b_call7_v0 : StableHlo.TRef sig ⟨S1x1x4x128x128, .f32⟩) (fun x i => Host.dynamicSlice S1x1x4x128x128 x (fun k => (i k (Shape.Idx.first h_S_)).toInt) sliceFits_S64x1x4x128x128_S1x1x4x128x128),
    StableHlo.TRef.reshape (.of main_while1b_call7_v0 : StableHlo.TRef sig ⟨S1x1x4x128x128, .f32⟩) (.of main_while1b_v110 : StableHlo.TRef sig ⟨S1x4x128x128, .f32⟩) (rfl : (.f32 : EltTy) = .f32) shapeCasts_S1x1x4x128x128_S1x4x128x128 ]
/-- They touch the core's buffers only. -/
theorem while1Ops0_1_sub : (while1Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- A stretch of operations. -/
abbrev while1Ops0_2 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.nullary (.of main_while1b_call8_c_1 : StableHlo.TRef sig ⟨S_, .i32⟩) (constantI S_ 32 0#32),
    StableHlo.TRef.nullary (.of main_while1b_call8_c_2 : StableHlo.TRef sig ⟨S_, .i32⟩) (constantI S_ 32 0#32),
    StableHlo.TRef.unaryIndexed (.of main_v57_1 : StableHlo.TRef sig ⟨S64x1x4x128x128, .f32⟩) ![(.of main_while1b_v109 : StableHlo.TRef sig ⟨S_, .i32⟩), (.of main_while1b_call8_c : StableHlo.TRef sig ⟨S_, .i32⟩), (.of main_while1b_call8_c_0 : StableHlo.TRef sig ⟨S_, .i32⟩), (.of main_while1b_call8_c_1 : StableHlo.TRef sig ⟨S_, .i32⟩), (.of main_while1b_call8_c_2 : StableHlo.TRef sig ⟨S_, .i32⟩)] (.of main_while1b_call8_v0 : StableHlo.TRef sig ⟨S1x1x4x128x128, .f32⟩) (fun x i => Host.dynamicSlice S1x1x4x128x128 x (fun k => (i k (Shape.Idx.first h_S_)).toInt) sliceFits_S64x1x4x128x128_S1x1x4x128x128),
    StableHlo.TRef.reshape (.of main_while1b_call8_v0 : StableHlo.TRef sig ⟨S1x1x4x128x128, .f32⟩) (.of main_while1b_v111 : StableHlo.TRef sig ⟨S1x4x128x128, .f32⟩) (rfl : (.f32 : EltTy) = .f32) shapeCasts_S1x1x4x128x128_S1x4x128x128 ]
/-- They touch the core's buffers only. -/
theorem while1Ops0_2_sub : (while1Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- A stretch of operations. -/
abbrev while1Ops0_3 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.nullary (.of main_while1b_call9_c_1 : StableHlo.TRef sig ⟨S_, .i32⟩) (constantI S_ 32 0#32),
    StableHlo.TRef.nullary (.of main_while1b_call9_c_2 : StableHlo.TRef sig ⟨S_, .i32⟩) (constantI S_ 32 0#32),
    StableHlo.TRef.unaryIndexed (.of main_v57_2 : StableHlo.TRef sig ⟨S64x1x4x128x1, .f32⟩) ![(.of main_while1b_v109 : StableHlo.TRef sig ⟨S_, .i32⟩), (.of main_while1b_call9_c : StableHlo.TRef sig ⟨S_, .i32⟩), (.of main_while1b_call9_c_0 : StableHlo.TRef sig ⟨S_, .i32⟩), (.of main_while1b_call9_c_1 : StableHlo.TRef sig ⟨S_, .i32⟩), (.of main_while1b_call9_c_2 : StableHlo.TRef sig ⟨S_, .i32⟩)] (.of main_while1b_call9_v0 : StableHlo.TRef sig ⟨S1x1x4x128x1, .f32⟩) (fun x i => Host.dynamicSlice S1x1x4x128x1 x (fun k => (i k (Shape.Idx.first h_S_)).toInt) sliceFits_S64x1x4x128x1_S1x1x4x128x1),
    StableHlo.TRef.reshape (.of main_while1b_call9_v0 : StableHlo.TRef sig ⟨S1x1x4x128x1, .f32⟩) (.of main_while1b_v112 : StableHlo.TRef sig ⟨S1x4x128x1, .f32⟩) (rfl : (.f32 : EltTy) = .f32) shapeCasts_S1x1x4x128x1_S1x4x128x1 ]
/-- They touch the core's buffers only. -/
theorem while1Ops0_3_sub : (while1Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- A stretch of operations. -/
abbrev while1Ops0_4 : List (HloOp τ sig (Elt F)) :=
  [ StableHlo.unary main_while1b_v112 main_while1b_v113 (broadcastInDim S1x4x128x128 ![0, 1, 2, 3] bcast_S1x4x128x1_S1x4x128x128_0_1_2_3 : (⟨S1x4x128x1, .f32⟩ : BufTy).Contents (Elt F) → (⟨S1x4x128x128, .f32⟩ : BufTy).Contents (Elt F)),
    StableHlo.binary main_while1b_v113 main_v57_4 main_while1b_v114 (mulf : (⟨S1x4x128x128, .f32⟩ : BufTy).Contents (Elt F) → (⟨S1x4x128x128, .f32⟩ : BufTy).Contents (Elt F) → (⟨S1x4x128x128, .f32⟩ : BufTy).Contents (Elt F)),
    StableHlo.binary main_while1b_v110 main_while1b_v114 main_while1b_v115 (addf : (⟨S1x4x128x128, .f32⟩ : BufTy).Contents (Elt F) → (⟨S1x4x128x128, .f32⟩ : BufTy).Contents (Elt F) → (⟨S1x4x128x128, .f32⟩ : BufTy).Contents (Elt F)),
    StableHlo.binary main_v57_4 main_while1b_v111 main_while1b_v116 (mulf : (⟨S1x4x128x128, .f32⟩ : BufTy).Contents (Elt F) → (⟨S1x4x128x128, .f32⟩ : BufTy).Contents (Elt F) → (⟨S1x4x128x128, .f32⟩ : BufTy).Contents (Elt F)),
    StableHlo.nullary main_while1b_cst_22 (constant S_ .f32 0x00000000#32),
    StableHlo.binary main_while1b_v116 main_while1b_cst_22 main_while1b_v117 ((fun x v => Host.reduceAdd x v reducesTo_S1x4x128x128_S1x4x128_d3 h_S_) : (⟨S1x4x128x128, .f32⟩ : BufTy).Contents (Elt F) → (⟨S_, .f32⟩ : BufTy).Contents (Elt F) → (⟨S1x4x128, .f32⟩ : BufTy).Contents (Elt F)),
    StableHlo.reshape main_while1b_v117 main_while1b_v118 (rfl : (.f32 : EltTy) = .f32) shapeCasts_S1x4x128_S1x4x128x1,
    StableHlo.nullary main_while1b_cst_23 (constant S_ .f32 0x00000000#32),
    StableHlo.binary main_while1b_v118 main_while1b_cst_23 main_while1b_v119 ((fun x v => Host.reduceAdd x v reducesTo_S1x4x128x1_S4x128_d0_3 h_S_) : (⟨S1x4x128x1, .f32⟩ : BufTy).Contents (Elt F) → (⟨S_, .f32⟩ : BufTy).Contents (Elt F) → (⟨S4x128, .f32⟩ : BufTy).Contents (Elt F)),
    StableHlo.unary main_while1b_v119 main_while1b_v120 (broadcastInDim S1x4x128 ![1, 2] bcast_S4x128_S1x4x128_1_2 : (⟨S4x128, .f32⟩ : BufTy).Contents (Elt F) → (⟨S1x4x128, .f32⟩ : BufTy).Contents (Elt F)) ]
/-- They touch the core's buffers only. -/
theorem while1Ops0_4_sub : (while1Ops0_4 : List (HloOp τ sig (Elt F))).Forall fun op => op.bufs ⊆ StableHlo.tcRefs τ sig :=
  ⟨StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub ..⟩
/-- A stretch of operations. -/
abbrev while1Ops0_5 : List (HloOp τ sig (Elt F)) :=
  [ StableHlo.TRef.unary (.of main_while1b_v120 : StableHlo.TRef sig ⟨S1x4x128, .f32⟩) (.of main_while1b_call10_v0 : StableHlo.TRef sig ⟨S1x1x4x128, .f32⟩) (broadcastInDim S1x1x4x128 ![1, 2, 3] bcast_S1x4x128_S1x1x4x128_1_2_3),
    StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.nullary (.of main_while1b_call10_c_1 : StableHlo.TRef sig ⟨S_, .i32⟩) (constantI S_ 32 0#32),
    StableHlo.TRef.binaryIndexed (.of main_v57_5 : StableHlo.TRef sig ⟨S64x1x4x128, .f32⟩) (.of main_while1b_call10_v0 : StableHlo.TRef sig ⟨S1x1x4x128, .f32⟩) ![(.of main_while1b_v109 : StableHlo.TRef sig ⟨S_, .i32⟩), (.of main_while1b_call10_c : StableHlo.TRef sig ⟨S_, .i32⟩), (.of main_while1b_call10_c_0 : StableHlo.TRef sig ⟨S_, .i32⟩), (.of main_while1b_call10_c_1 : StableHlo.TRef sig ⟨S_, .i32⟩)] (.of main_while1b_v121 : StableHlo.TRef sig ⟨S64x1x4x128, .f32⟩) (fun x u i => Host.dynamicUpdateSlice x u (fun k => (i k (Shape.Idx.first h_S_)).toInt) updateFits_S64x1x4x128_S1x1x4x128) ]
/-- They touch the core's buffers only. -/
theorem while1Ops0_5_sub : (while1Ops0_5 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- A stretch of operations. -/
abbrev while1Ops0_6 : List (HloOp τ sig (Elt F)) :=
  [ StableHlo.TRef.unary (.of main_v57_4 : StableHlo.TRef sig ⟨S1x4x128x128, .f32⟩) (.of main_while1b_call11_v0 : StableHlo.TRef sig ⟨S1x1x4x128x128, .f32⟩) (broadcastInDim S1x1x4x128x128 ![1, 2, 3, 4] bcast_S1x4x128x128_S1x1x4x128x128_1_2_3_4),
    StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.nullary (.of main_while1b_call11_c_1 : StableHlo.TRef sig ⟨S_, .i32⟩) (constantI S_ 32 0#32),
    StableHlo.TRef.nullary (.of main_while1b_call11_c_2 : StableHlo.TRef sig ⟨S_, .i32⟩) (constantI S_ 32 0#32),
    StableHlo.TRef.binaryIndexed (.of main_v57_6 : StableHlo.TRef sig ⟨S64x1x4x128x128, .f32⟩) (.of main_while1b_call11_v0 : StableHlo.TRef sig ⟨S1x1x4x128x128, .f32⟩) ![(.of main_while1b_v109 : StableHlo.TRef sig ⟨S_, .i32⟩), (.of main_while1b_call11_c : StableHlo.TRef sig ⟨S_, .i32⟩), (.of main_while1b_call11_c_0 : StableHlo.TRef sig ⟨S_, .i32⟩), (.of main_while1b_call11_c_1 : StableHlo.TRef sig ⟨S_, .i32⟩), (.of main_while1b_call11_c_2 : StableHlo.TRef sig ⟨S_, .i32⟩)] (.of main_while1b_v122 : StableHlo.TRef sig ⟨S64x1x4x128x128, .f32⟩) (fun x u i => Host.dynamicUpdateSlice x u (fun k => (i k (Shape.Idx.first h_S_)).toInt) updateFits_S64x1x4x128x128_S1x1x4x128x128) ]
/-- They touch the core's buffers only. -/
theorem while1Ops0_6_sub : (while1Ops0_6 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- A stretch of operations. -/
abbrev while1Ops0_7 : List (HloOp τ sig (Elt F)) :=
  [ StableHlo.nullary main_while1b_c_24 (constantI S_ 32 1#32),
    StableHlo.binary main_v57_3 main_while1b_c_24 main_while1b_v123 (addi : (⟨S_, .i32⟩ : BufTy).Contents (Elt F) → (⟨S_, .i32⟩ : BufTy).Contents (Elt F) → (⟨S_, .i32⟩ : BufTy).Contents (Elt F)),
    StableHlo.unary main_while1b_v123 main_v57_3 id,
    StableHlo.unary main_while1b_v115 main_v57_4 id,
    StableHlo.unary main_while1b_v121 main_v57_5 id,
    StableHlo.unary main_while1b_v122 main_v57_6 id ]
/-- They touch the core's buffers only. -/
theorem while1Ops0_7_sub : (while1Ops0_7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- The text as the chain of its stretches. -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, StableHlo.chain_seq_cons, Pipeline.chain_cons, Pipeline.chain_cons, StableHlo.chain_seq_cons]
  chain_rfl
/-- None allocates. -/
theorem main_part0_ops0_fresh : (main_part0_ops0 : List (HloOp τ sig (Elt F))).Forall fun op => op.fresh = ∅ :=
  StableHlo.forall_fresh_of_map rfl
/-- What it writes. -/
abbrev main_part0_ops0_W : List (Ref sig .tc) := [main_v0, main_v1, main_v2, main_v3, main_cst, main_v4, main_v5, main_v6, main_v7, main_v8, main_v9, main_v10, main_v11, main_v12]
theorem main_part0_ops0_writes : (main_part0_ops0 : List (HloOp τ sig (Elt F))).Forall fun op => op.writes ⊆ (main_part0_ops0_W.map (Proc.devRef (τ := τ) .tc)).toFinset :=
  StableHlo.forall_writes_sub_of_map rfl
/-- None allocates. -/
theorem main_part0_ops1_fresh : (main_part0_ops1 : List (HloOp τ sig (Elt F))).Forall fun op => op.fresh = ∅ :=
  StableHlo.forall_fresh_of_map rfl
/-- What it writes. -/
abbrev main_part0_ops1_W : List (Ref sig .tc) := [main_call0_call0_cst, main_call0_call0_v0, main_v13]
theorem main_part0_ops1_writes : (main_part0_ops1 : List (HloOp τ sig (Elt F))).Forall fun op => op.writes ⊆ (main_part0_ops1_W.map (Proc.devRef (τ := τ) .tc)).toFinset :=
  StableHlo.forall_writes_sub_of_map rfl
/-- None allocates. -/
theorem main_part0_ops2_fresh : (main_part0_ops2 : List (HloOp τ sig (Elt F))).Forall fun op => op.fresh = ∅ :=
  StableHlo.forall_fresh_of_map rfl
/-- What it writes. -/
abbrev main_part0_ops2_W : List (Ref sig .tc) := [main_v14, main_v15, main_v16, main_v17, main_v18, main_v19, main_v20, main_c, main_v21]
theorem main_part0_ops2_writes : (main_part0_ops2 : List (HloOp τ sig (Elt F))).Forall fun op => op.writes ⊆ (main_part0_ops2_W.map (Proc.devRef (τ := τ) .tc)).toFinset :=
  StableHlo.forall_writes_sub_of_map rfl
/-- None allocates. -/
theorem main_part0_ops3_fresh : (main_part0_ops3 : List (HloOp τ sig (Elt F))).Forall fun op => op.fresh = ∅ :=
  StableHlo.forall_fresh_of_map rfl
/-- What it writes. -/
abbrev main_part0_ops3_W : List (Ref sig .tc) := [main_call1_v0, main_call1_c, main_call1_v1, main_call1_v2, main_call1_v3, main_call1_v4, main_call1_c_0, main_call1_v5, main_v22]
theorem main_part0_ops3_writes : (main_part0_ops3 : List (HloOp τ sig (Elt F))).Forall fun op => op.writes ⊆ (main_part0_ops3_W.map (Proc.devRef (τ := τ) .tc)).toFinset :=
  StableHlo.forall_writes_sub_of_map rfl
/-- None allocates. -/
theorem main_part0_ops4_fresh : (main_part0_ops4 : List (HloOp τ sig (Elt F))).Forall fun op => op.fresh = ∅ :=
  StableHlo.forall_fresh_of_map rfl
/-- What it writes. -/
abbrev main_part0_ops4_W : List (Ref sig .tc) := [main_v23, main_cst_0]
theorem main_part0_ops4_writes : (main_part0_ops4 : List (HloOp τ sig (Elt F))).Forall fun op => op.writes ⊆ (main_part0_ops4_W.map (Proc.devRef (τ := τ) .tc)).toFinset :=
  StableHlo.forall_writes_sub_of_map rfl
/-- None allocates. -/
theorem main_part0_ops5_fresh : (main_part0_ops5 : List (HloOp τ sig (Elt F))).Forall fun op => op.fresh = ∅ :=
  StableHlo.forall_fresh_of_map rfl
/-- What it writes. -/
abbrev main_part0_ops5_W : List (Ref sig .tc) := [main_call2_v0, main_v24_1, main_call2_v2, main_v24_0, main_call2_cst, main_v24_2]
theorem main_part0_ops5_writes : (main_part0_ops5 : List (HloOp τ sig (Elt F))).Forall fun op => op.writes ⊆ (main_part0_ops5_W.map (Proc.devRef (τ := τ) .tc)).toFinset :=
  StableHlo.forall_writes_sub_of_map rfl
/-- None allocates. -/
theorem main_part0_ops6_fresh : (main_part0_ops6 : List (HloOp τ sig (Elt F))).Forall fun op => op.fresh = ∅ :=
  StableHlo.forall_fresh_of_map rfl
/-- What it writes. -/
abbrev main_part0_ops6_W : List (Ref sig .tc) := [main_v25, main_v26, main_v27, main_v28, main_v29, main_v30, main_v31, main_v32, main_v33, main_v34, main_cst_1, main_v35, main_cst_2, main_v36, main_cst_3, main_v37, main_c_4, main_v38_0, main_v38_1, main_v38_2, main_v38_3, main_v38_4, main_v38_5]
theorem main_part0_ops6_writes : (main_part0_ops6 : List (HloOp τ sig (Elt F))).Forall fun op => op.writes ⊆ (main_part0_ops6_W.map (Proc.devRef (τ := τ) .tc)).toFinset :=
  StableHlo.forall_writes_sub_of_map rfl
/-- None allocates. -/
theorem main_part0_ops7_fresh : (main_part0_ops7 : List (HloOp τ sig (Elt F))).Forall fun op => op.fresh = ∅ :=
  StableHlo.forall_fresh_of_map rfl
/-- What it writes. -/
abbrev main_part0_ops7_W : List (Ref sig .tc) := [main_v39, main_v40, main_v41, main_v42, main_v43, main_v44, main_v45, main_cst_5]
theorem main_part0_ops7_writes : (main_part0_ops7 : List (HloOp τ sig (Elt F))).Forall fun op => op.writes ⊆ (main_part0_ops7_W.map (Proc.devRef (τ := τ) .tc)).toFinset :=
  StableHlo.forall_writes_sub_of_map rfl
/-- None allocates. -/
theorem main_part1_ops0_fresh : (main_part1_ops0 : List (HloOp τ sig (Elt F))).Forall fun op => op.fresh = ∅ :=
  StableHlo.forall_fresh_of_map rfl
/-- What it writes. -/
abbrev main_part1_ops0_W : List (Ref sig .tc) := [main_v46, main_v47, main_v48, main_v49, main_v50, main_v51, main_v52, main_v53, main_cst_6, main_v54, main_cst_7, main_v55, main_cst_8, main_v56, main_c_9, main_v57_0, main_v57_1, main_v57_2, main_v57_3, main_v57_4, main_v57_5, main_v57_6]
theorem main_part1_ops0_writes : (main_part1_ops0 : List (HloOp τ sig (Elt F))).Forall fun op => op.writes ⊆ (main_part1_ops0_W.map (Proc.devRef (τ := τ) .tc)).toFinset :=
  StableHlo.forall_writes_sub_of_map rfl
/-- None allocates. -/
theorem main_part1_ops1_fresh : (main_part1_ops1 : List (HloOp τ sig (Elt F))).Forall fun op => op.fresh = ∅ :=
  StableHlo.forall_fresh_of_map rfl
/-- What it writes. -/
abbrev main_part1_ops1_W : List (Ref sig .tc) := [main_v58, main_v59, main_v60, main_v61, main_v62, main_v63, main_v64, main_v65, main_v66, main_cst_10, main_v67, main_v68, main_v69, main_cst_11, main_v70, main_v71, main_v72, main_v73, main_v74, main_v75, main_v76, main_v77]
theorem main_part1_ops1_writes : (main_part1_ops1 : List (HloOp τ sig (Elt F))).Forall fun op => op.writes ⊆ (main_part1_ops1_W.map (Proc.devRef (τ := τ) .tc)).toFinset :=
  StableHlo.forall_writes_sub_of_map rfl
/-- None allocates. -/
theorem main_part1_ops2_fresh : (main_part1_ops2 : List (HloOp τ sig (Elt F))).Forall fun op => op.fresh = ∅ :=
  StableHlo.forall_fresh_of_map rfl
/-- What it writes. -/
abbrev main_part1_ops2_W : List (Ref sig .tc) := [main_call12_cst, main_call12_v0, main_v78]
theorem main_part1_ops2_writes : (main_part1_ops2 : List (HloOp τ sig (Elt F))).Forall fun op => op.writes ⊆ (main_part1_ops2_W.map (Proc.devRef (τ := τ) .tc)).toFinset :=
  StableHlo.forall_writes_sub_of_map rfl
/-- None allocates. -/
theorem main_part1_ops3_fresh : (main_part1_ops3 : List (HloOp τ sig (Elt F))).Forall fun op => op.fresh = ∅ :=
  StableHlo.forall_fresh_of_map rfl
/-- What it writes. -/
abbrev main_part1_ops3_W : List (Ref sig .tc) := [main_v79, main_v80, main_v81, main_v82, main_v83, main_v84, main_v85, main_v86, main_v87, main_v88, main_v89, main_v90, main_v91, main_v92]
theorem main_part1_ops3_writes : (main_part1_ops3 : List (HloOp τ sig (Elt F))).Forall fun op => op.writes ⊆ (main_part1_ops3_W.map (Proc.devRef (τ := τ) .tc)).toFinset :=
  StableHlo.forall_writes_sub_of_map rfl
/-- None allocates. -/
theorem main_part2_ops0_fresh : (main_part2_ops0 : List (HloOp τ sig (Elt F))).Forall fun op => op.fresh = ∅ :=
  StableHlo.forall_fresh_of_map rfl
/-- What it writes. -/
abbrev main_part2_ops0_W : List (Ref sig .tc) := [main_v93, main_v94, main_cst_12, main_v95, main_v96]
theorem main_part2_ops0_writes : (main_part2_ops0 : List (HloOp τ sig (Elt F))).Forall fun op => op.writes ⊆ (main_part2_ops0_W.map (Proc.devRef (τ := τ) .tc)).toFinset :=
  StableHlo.forall_writes_sub_of_map rfl
/-- None allocates. -/
theorem main_part2_ops1_fresh : (main_part2_ops1 : List (HloOp τ sig (Elt F))).Forall fun op => op.fresh = ∅ :=
  StableHlo.forall_fresh_of_map rfl
/-- What it writes. -/
abbrev main_part2_ops1_W : List (Ref sig .tc) := [main_call13_call0_cst, main_call13_call0_v0, main_v97]
theorem main_part2_ops1_writes : (main_part2_ops1 : List (HloOp τ sig (Elt F))).Forall fun op => op.writes ⊆ (main_part2_ops1_W.map (Proc.devRef (τ := τ) .tc)).toFinset :=
  StableHlo.forall_writes_sub_of_map rfl
/-- None allocates. -/
theorem main_part2_ops2_fresh : (main_part2_ops2 : List (HloOp τ sig (Elt F))).Forall fun op => op.fresh = ∅ :=
  StableHlo.forall_fresh_of_map rfl
/-- What it writes. -/
abbrev main_part2_ops2_W : List (Ref sig .tc) := [main_v98, main_v99, main_v100, main_v101, main_v102, main_v103, main_v104, main_cst_13, main_v105, main_v106, main_v107]
theorem main_part2_ops2_writes : (main_part2_ops2 : List (HloOp τ sig (Elt F))).Forall fun op => op.writes ⊆ (main_part2_ops2_W.map (Proc.devRef (τ := τ) .tc)).toFinset :=
  StableHlo.forall_writes_sub_of_map rfl
/-- None allocates. -/
theorem while0Ops0_fresh : (while0Ops0 : List (HloOp τ sig (Elt F))).Forall fun op => op.fresh = ∅ :=
  StableHlo.forall_fresh_of_map rfl
/-- What it writes. -/
abbrev while0Ops0_W : List (Ref sig .tc) := [main_while0b_call3_c, main_while0b_call3_c_0, main_while0b_call3_c_1, main_while0b_call3_v0, main_while0b_v108]
theorem while0Ops0_writes : (while0Ops0 : List (HloOp τ sig (Elt F))).Forall fun op => op.writes ⊆ (while0Ops0_W.map (Proc.devRef (τ := τ) .tc)).toFinset :=
  StableHlo.forall_writes_sub_of_map rfl
/-- None allocates. -/
theorem while0Ops0_1_fresh : (while0Ops0_1 : List (HloOp τ sig (Elt F))).Forall fun op => op.fresh = ∅ :=
  StableHlo.forall_fresh_of_map rfl
/-- What it writes. -/
abbrev while0Ops0_1_W : List (Ref sig .tc) := [main_while0b_call4_c, main_while0b_call4_c_0, main_while0b_call4_c_1, main_while0b_call4_c_2, main_while0b_call4_v0, main_while0b_v109]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- None allocates. -/
theorem while0Ops0_2_fresh : (while0Ops0_2 : List (HloOp τ sig (Elt F))).Forall fun op => op.fresh = ∅ :=
  StableHlo.forall_fresh_of_map rfl
/-- What it writes. -/
abbrev while0Ops0_2_W : List (Ref sig .tc) := [main_while0b_v110, main_while0b_v111, main_while0b_v112, main_while0b_v113]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- None allocates. -/
theorem while0Ops0_3_fresh : (while0Ops0_3 : List (HloOp τ sig (Elt F))).Forall fun op => op.fresh = ∅ :=
  StableHlo.forall_fresh_of_map rfl
/-- What it writes. -/
abbrev while0Ops0_3_W : List (Ref sig .tc) := [main_while0b_call5_v0, main_while0b_call5_c, main_while0b_call5_c_0, main_while0b_call5_c_1, main_while0b_call5_c_2, main_while0b_v114]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- None allocates. -/
theorem while0Ops0_4_fresh : (while0Ops0_4 : List (HloOp τ sig (Elt F))).Forall fun op => op.fresh = ∅ :=
  StableHlo.forall_fresh_of_map rfl
/-- What it writes. -/
abbrev while0Ops0_4_W : List (Ref sig .tc) := [main_while0b_call6_v0, main_while0b_call6_c, main_while0b_call6_c_0, main_while0b_call6_c_1, main_while0b_call6_c_2, main_while0b_v115]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- None allocates. -/
theorem while0Ops0_5_fresh : (while0Ops0_5 : List (HloOp τ sig (Elt F))).Forall fun op => op.fresh = ∅ :=
  StableHlo.forall_fresh_of_map rfl
/-- What it writes. -/
abbrev while0Ops0_5_W : List (Ref sig .tc) := [main_while0b_c_19, main_while0b_v116, main_v38_2, main_v38_3, main_v38_4, main_v38_5]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- None allocates. -/
theorem while1Ops0_fresh : (while1Ops0 : List (HloOp τ sig (Elt F))).Forall fun op => op.fresh = ∅ :=
  StableHlo.forall_fresh_of_map rfl
/-- What it writes. -/
abbrev while1Ops0_W : List (Ref sig .tc) := [main_while1b_c_20, main_while1b_v108, main_while1b_c_21, main_while1b_v109]
theorem while1Ops0_writes : (while1Ops0 : List (HloOp τ sig (Elt F))).Forall fun op => op.writes ⊆ (while1Ops0_W.map (Proc.devRef (τ := τ) .tc)).toFinset :=
  StableHlo.forall_writes_sub_of_map rfl
/-- None allocates. -/
theorem while1Ops0_1_fresh : (while1Ops0_1 : List (HloOp τ sig (Elt F))).Forall fun op => op.fresh = ∅ :=
  StableHlo.forall_fresh_of_map rfl
/-- What it writes. -/
abbrev while1Ops0_1_W : List (Ref sig .tc) := [main_while1b_call7_c, main_while1b_call7_c_0, main_while1b_call7_c_1, main_while1b_call7_c_2, main_while1b_call7_v0, main_while1b_v110]
theorem while1Ops0_1_writes : (while1Ops0_1 : List (HloOp τ sig (Elt F))).Forall fun op => op.writes ⊆ (while1Ops0_1_W.map (Proc.devRef (τ := τ) .tc)).toFinset :=
  StableHlo.forall_writes_sub_of_map rfl
/-- None allocates. -/
theorem while1Ops0_2_fresh : (while1Ops0_2 : List (HloOp τ sig (Elt F))).Forall fun op => op.fresh = ∅ :=
  StableHlo.forall_fresh_of_map rfl
/-- What it writes. -/
abbrev while1Ops0_2_W : List (Ref sig .tc) := [main_while1b_call8_c, main_while1b_call8_c_0, main_while1b_call8_c_1, main_while1b_call8_c_2, main_while1b_call8_v0, main_while1b_v111]
theorem while1Ops0_2_writes : (while1Ops0_2 : List (HloOp τ sig (Elt F))).Forall fun op => op.writes ⊆ (while1Ops0_2_W.map (Proc.devRef (τ := τ) .tc)).toFinset :=
  StableHlo.forall_writes_sub_of_map rfl
/-- None allocates. -/
theorem while1Ops0_3_fresh : (while1Ops0_3 : List (HloOp τ sig (Elt F))).Forall fun op => op.fresh = ∅ :=
  StableHlo.forall_fresh_of_map rfl
/-- What it writes. -/
abbrev while1Ops0_3_W : List (Ref sig .tc) := [main_while1b_call9_c, main_while1b_call9_c_0, main_while1b_call9_c_1, main_while1b_call9_c_2, main_while1b_call9_v0, main_while1b_v112]
theorem while1Ops0_3_writes : (while1Ops0_3 : List (HloOp τ sig (Elt F))).Forall fun op => op.writes ⊆ (while1Ops0_3_W.map (Proc.devRef (τ := τ) .tc)).toFinset :=
  StableHlo.forall_writes_sub_of_map rfl
/-- None allocates. -/
theorem while1Ops0_4_fresh : (while1Ops0_4 : List (HloOp τ sig (Elt F))).Forall fun op => op.fresh = ∅ :=
  StableHlo.forall_fresh_of_map rfl
/-- What it writes. -/
abbrev while1Ops0_4_W : List (Ref sig .tc) := [main_while1b_v113, main_while1b_v114, main_while1b_v115, main_while1b_v116, main_while1b_cst_22, main_while1b_v117, main_while1b_v118, main_while1b_cst_23, main_while1b_v119, main_while1b_v120]
theorem while1Ops0_4_writes : (while1Ops0_4 : List (HloOp τ sig (Elt F))).Forall fun op => op.writes ⊆ (while1Ops0_4_W.map (Proc.devRef (τ := τ) .tc)).toFinset :=
  StableHlo.forall_writes_sub_of_map rfl
/-- None allocates. -/
theorem while1Ops0_5_fresh : (while1Ops0_5 : List (HloOp τ sig (Elt F))).Forall fun op => op.fresh = ∅ :=
  StableHlo.forall_fresh_of_map rfl
/-- What it writes. -/
abbrev while1Ops0_5_W : List (Ref sig .tc) := [main_while1b_call10_v0, main_while1b_call10_c, main_while1b_call10_c_0, main_while1b_call10_c_1, main_while1b_v121]
theorem while1Ops0_5_writes : (while1Ops0_5 : List (HloOp τ sig (Elt F))).Forall fun op => op.writes ⊆ (while1Ops0_5_W.map (Proc.devRef (τ := τ) .tc)).toFinset :=
  StableHlo.forall_writes_sub_of_map rfl
/-- None allocates. -/
theorem while1Ops0_6_fresh : (while1Ops0_6 : List (HloOp τ sig (Elt F))).Forall fun op => op.fresh = ∅ :=
  StableHlo.forall_fresh_of_map rfl
/-- What it writes. -/
abbrev while1Ops0_6_W : List (Ref sig .tc) := [main_while1b_call11_v0, main_while1b_call11_c, main_while1b_call11_c_0, main_while1b_call11_c_1, main_while1b_call11_c_2, main_while1b_v122]
theorem while1Ops0_6_writes : (while1Ops0_6 : List (HloOp τ sig (Elt F))).Forall fun op => op.writes ⊆ (while1Ops0_6_W.map (Proc.devRef (τ := τ) .tc)).toFinset :=
  StableHlo.forall_writes_sub_of_map rfl
/-- None allocates. -/
theorem while1Ops0_7_fresh : (while1Ops0_7 : List (HloOp τ sig (Elt F))).Forall fun op => op.fresh = ∅ :=
  StableHlo.forall_fresh_of_map rfl
/-- What it writes. -/
abbrev while1Ops0_7_W : List (Ref sig .tc) := [main_while1b_c_24, main_while1b_v123, main_v57_3, main_v57_4, main_v57_5, main_v57_6]
theorem while1Ops0_7_writes : (while1Ops0_7 : List (HloOp τ sig (Elt F))).Forall fun op => op.writes ⊆ (while1Ops0_7_W.map (Proc.devRef (τ := τ) .tc)).toFinset :=
  StableHlo.forall_writes_sub_of_map rfl
/-- Before the first loop. -/
abbrev preI : List (List (HloOp τ sig (Elt F))) := [main_part0_ops0, main_part0_ops1, main_part0_ops2, main_part0_ops3, main_part0_ops4, main_part0_ops5, main_part0_ops6]
theorem preI_plain : Plain (preI (F := F)) := .cons main_part0_ops0_sub (hf := List.forall_iff_forall_mem.mp main_part0_ops0_fresh) (.cons main_part0_ops1_sub (hf := List.forall_iff_forall_mem.mp main_part0_ops1_fresh) (.cons main_part0_ops2_sub (hf := List.forall_iff_forall_mem.mp main_part0_ops2_fresh) (.cons main_part0_ops3_sub (hf := List.forall_iff_forall_mem.mp main_part0_ops3_fresh) (.cons main_part0_ops4_sub (hf := List.forall_iff_forall_mem.mp main_part0_ops4_fresh) (.cons main_part0_ops5_sub (hf := List.forall_iff_forall_mem.mp main_part0_ops5_fresh) (.cons main_part0_ops6_sub (hf := List.forall_iff_forall_mem.mp main_part0_ops6_fresh) (.nil)))))))
/-- Between the loops. -/
abbrev midI : List (List (HloOp τ sig (Elt F))) := [main_part0_ops7, main_part1_ops0]
theorem midI_plain : Plain (midI (F := F)) := .cons main_part0_ops7_sub (hf := List.forall_iff_forall_mem.mp main_part0_ops7_fresh) (.cons main_part1_ops0_sub (hf := List.forall_iff_forall_mem.mp main_part1_ops0_fresh) (.nil))
/-- After the second loop. -/
abbrev postI : List (List (HloOp τ sig (Elt F))) := [main_part1_ops1, main_part1_ops2, main_part1_ops3, main_part2_ops0, main_part2_ops1, main_part2_ops2]
theorem postI_plain : Plain (postI (F := F)) := .cons main_part1_ops1_sub (hf := List.forall_iff_forall_mem.mp main_part1_ops1_fresh) (.cons main_part1_ops2_sub (hf := List.forall_iff_forall_mem.mp main_part1_ops2_fresh) (.cons main_part1_ops3_sub (hf := List.forall_iff_forall_mem.mp main_part1_ops3_fresh) (.cons main_part2_ops0_sub (hf := List.forall_iff_forall_mem.mp main_part2_ops0_fresh) (.cons main_part2_ops1_sub (hf := List.forall_iff_forall_mem.mp main_part2_ops1_fresh) (.cons main_part2_ops2_sub (hf := List.forall_iff_forall_mem.mp main_part2_ops2_fresh) (.nil))))))
/-- The first loop's body. -/
abbrev body0 : List (List (HloOp τ sig (Elt F))) := [while0Ops0, while0Ops0_1, while0Ops0_2, while0Ops0_3, while0Ops0_4, while0Ops0_5]
theorem body0_plain : Plain (body0 (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.nil))))))
/-- The second loop's body. -/
abbrev body1 : List (List (HloOp τ sig (Elt F))) := [while1Ops0, while1Ops0_1, while1Ops0_2, while1Ops0_3, while1Ops0_4, while1Ops0_5, while1Ops0_6, while1Ops0_7]
theorem body1_plain : Plain (body1 (F := F)) := .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.cons while1Ops0_5_sub (hf := List.forall_iff_forall_mem.mp while1Ops0_5_fresh) (.cons while1Ops0_6_sub (hf := List.forall_iff_forall_mem.mp while1Ops0_6_fresh) (.cons while1Ops0_7_sub (hf := List.forall_iff_forall_mem.mp while1Ops0_7_fresh) (.nil))))))))

end Cert.Proof.GlaBOps

end
-- ==== Proof.GlaBRun.lean ====
/- The reference of the gradient of gated linear attention ends: its two loops are counted, and every buffer ends at the fold. -/
module

public import proofs.«01_k».proof.Proof.RunTwo
public import proofs.«01_k».proof.Proof.GlaBOps

@[expose] public section

noncomputable section

namespace Cert.Proof.GlaBRun

open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.Sem Idealize.SL.BI.Laws Idealize.SL.ProofMode
open Cert.Reference21Ideal Cert.Reference21Ideal.Gen Cert.Proof.GlaBOps
open Idealize.ShloMosaic.Pipeline (sub_ucRefs)

variable {F : FTy → Type} [FloatOps F]

/-- What the first loop asks before a trip: the bound, and the counter against it. -/
abbrev cond0 : List (HloOp τ sig (Elt F)) :=
  [ StableHlo.nullary main_while0c_c_19 (constantI S_ 32 64#32),
    StableHlo.binary main_v38_2 main_while0c_c_19 main_while0c_v108 (cmpi .slt : (⟨S_, .i32⟩ : BufTy).Contents (Elt F) → (⟨S_, .i32⟩ : BufTy).Contents (Elt F) → (⟨S_, .i1⟩ : BufTy).Contents (Elt F)) ]
abbrev cond0_W : List (Ref sig .tc) := [main_while0c_c_19, main_while0c_v108]
theorem cond0_writes : (cond0 : List (HloOp τ sig (Elt F))).Forall fun op => op.writes ⊆ (cond0_W.map (Proc.devRef (τ := τ) .tc)).toFinset :=
  StableHlo.forall_writes_sub_of_map rfl
/-- The first loop. -/
abbrev loop0 : RunTwo.Loop τ sig F := ⟨cond0, body0, 64⟩

theorem cond0_keeps (V : Valuation τ sig (Elt F)) (b : Ref sig .tc) (h : b ∉ cond0_W) : after cond0 V (Proc.devRef .tc b) = V (Proc.devRef .tc b) :=
  after_of_writes_sub cond0 V cond0_writes h

/-- A buffer the first loop doesn't write. -/
theorem kept0 (b : Ref sig .tc) (hc : b ∉ cond0_W) (h0 : b ∉ while0Ops0_W) (h1 : b ∉ while0Ops0_1_W) (h2 : b ∉ while0Ops0_2_W) (h3 : b ∉ while0Ops0_3_W) (h4 : b ∉ while0Ops0_4_W) (h5 : b ∉ while0Ops0_5_W)
    (W : Dev nD → Valuation τ sig (Elt F)) (c : Dev nD) : ∀ k, atTrip cond0 body0 W k c (Proc.devRef .tc b) = W c (Proc.devRef .tc b)
  | 0 => rfl
  | k + 1 => by
    rw [show atTrip cond0 body0 W (k + 1) c = afterL body0 (after cond0 (atTrip cond0 body0 W k c)) from rfl]
    simp only [afterL_cons, afterL_nil]
    rw [after_of_writes_sub while0Ops0_5 _ while0Ops0_5_writes h5, after_of_writes_sub while0Ops0_4 _ while0Ops0_4_writes h4, after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0, cond0_keeps _ b hc]
    exact kept0 b hc h0 h1 h2 h3 h4 h5 W c k

set_option maxRecDepth 100000 in
/-- One more trip counted. -/
theorem ctr0_step (X : Valuation τ sig (Elt F)) : afterL body0 X (Proc.devRef .tc main_v38_2) = fun i => IntOp.addi (X (Proc.devRef .tc main_v38_2) i) 1#32 := by
  simp only [afterL_cons, afterL_nil]
  after_results
  rfl

theorem ctr0 (W : Dev nD → Valuation τ sig (Elt F)) (c : Dev nD) (hW : W c (Proc.devRef .tc main_v38_2) = fun _ => (0#32 : BitVec 32)) :
    ∀ k, atTrip cond0 body0 W k c (Proc.devRef .tc main_v38_2) = fun _ => Scf.iv 0#32 1#32 k
  | 0 => by rw [show atTrip cond0 body0 W 0 c = W c from rfl, hW, Scf.iv_zero]
  | k + 1 => by
    rw [show atTrip cond0 body0 W (k + 1) c = afterL body0 (after cond0 (atTrip cond0 body0 W k c)) from rfl]
    rw [ctr0_step, cond0_keeps _ _ (by decide +kernel), ctr0 W c hW k, Scf.iv_succ]
    rfl

-- a rule for any thread is used at the core's
set_option backward.isDefEq.respectTransparency.types false in
/-- The condition says whether a trip is left. -/
theorem spec0 (W : Dev nD → Valuation τ sig (Elt F)) (hW : ∀ c, W c (Proc.devRef .tc main_v38_2) = fun _ => (0#32 : BitVec 32)) :
    CondSpec (pcfgs (F := F)) defs₀ loops (main_while0_cond (F := F)) cond0 body0 W 64 := by
  intro k hk c bd
  have hctr := ctr0 W c (hW c) k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0 W k c) main_v38_2 HostLoop.idx0)
        (HloOp.result _ (atTrip cond0 body0 W k c) main_while0c_c_19 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

/-- What the second loop asks before a trip: the bound, and the counter against it. -/
abbrev cond1 : List (HloOp τ sig (Elt F)) :=
  [ StableHlo.nullary main_while1c_c_20 (constantI S_ 32 64#32),
    StableHlo.binary main_v57_3 main_while1c_c_20 main_while1c_v108 (cmpi .slt : (⟨S_, .i32⟩ : BufTy).Contents (Elt F) → (⟨S_, .i32⟩ : BufTy).Contents (Elt F) → (⟨S_, .i1⟩ : BufTy).Contents (Elt F)) ]
abbrev cond1_W : List (Ref sig .tc) := [main_while1c_c_20, main_while1c_v108]
theorem cond1_writes : (cond1 : List (HloOp τ sig (Elt F))).Forall fun op => op.writes ⊆ (cond1_W.map (Proc.devRef (τ := τ) .tc)).toFinset :=
  StableHlo.forall_writes_sub_of_map rfl
/-- The second loop. -/
abbrev loop1 : RunTwo.Loop τ sig F := ⟨cond1, body1, 64⟩

theorem cond1_keeps (V : Valuation τ sig (Elt F)) (b : Ref sig .tc) (h : b ∉ cond1_W) : after cond1 V (Proc.devRef .tc b) = V (Proc.devRef .tc b) :=
  after_of_writes_sub cond1 V cond1_writes h

/-- A buffer the second loop doesn't write. -/
theorem kept1 (b : Ref sig .tc) (hc : b ∉ cond1_W) (h0 : b ∉ while1Ops0_W) (h1 : b ∉ while1Ops0_1_W) (h2 : b ∉ while1Ops0_2_W) (h3 : b ∉ while1Ops0_3_W) (h4 : b ∉ while1Ops0_4_W) (h5 : b ∉ while1Ops0_5_W) (h6 : b ∉ while1Ops0_6_W) (h7 : b ∉ while1Ops0_7_W)
    (W : Dev nD → Valuation τ sig (Elt F)) (c : Dev nD) : ∀ k, atTrip cond1 body1 W k c (Proc.devRef .tc b) = W c (Proc.devRef .tc b)
  | 0 => rfl
  | k + 1 => by
    rw [show atTrip cond1 body1 W (k + 1) c = afterL body1 (after cond1 (atTrip cond1 body1 W k c)) from rfl]
    simp only [afterL_cons, afterL_nil]
    rw [after_of_writes_sub while1Ops0_7 _ while1Ops0_7_writes h7, after_of_writes_sub while1Ops0_6 _ while1Ops0_6_writes h6, after_of_writes_sub while1Ops0_5 _ while1Ops0_5_writes h5, after_of_writes_sub while1Ops0_4 _ while1Ops0_4_writes h4, after_of_writes_sub while1Ops0_3 _ while1Ops0_3_writes h3, after_of_writes_sub while1Ops0_2 _ while1Ops0_2_writes h2, after_of_writes_sub while1Ops0_1 _ while1Ops0_1_writes h1, after_of_writes_sub while1Ops0 _ while1Ops0_writes h0, cond1_keeps _ b hc]
    exact kept1 b hc h0 h1 h2 h3 h4 h5 h6 h7 W c k

set_option maxRecDepth 100000 in
/-- One more trip counted. -/
theorem ctr1_step (X : Valuation τ sig (Elt F)) : afterL body1 X (Proc.devRef .tc main_v57_3) = fun i => IntOp.addi (X (Proc.devRef .tc main_v57_3) i) 1#32 := by
  simp only [afterL_cons, afterL_nil]
  after_results
  rfl

theorem ctr1 (W : Dev nD → Valuation τ sig (Elt F)) (c : Dev nD) (hW : W c (Proc.devRef .tc main_v57_3) = fun _ => (0#32 : BitVec 32)) :
    ∀ k, atTrip cond1 body1 W k c (Proc.devRef .tc main_v57_3) = fun _ => Scf.iv 0#32 1#32 k
  | 0 => by rw [show atTrip cond1 body1 W 0 c = W c from rfl, hW, Scf.iv_zero]
  | k + 1 => by
    rw [show atTrip cond1 body1 W (k + 1) c = afterL body1 (after cond1 (atTrip cond1 body1 W k c)) from rfl]
    rw [ctr1_step, cond1_keeps _ _ (by decide +kernel), ctr1 W c hW k, Scf.iv_succ]
    rfl

-- a rule for any thread is used at the core's
set_option backward.isDefEq.respectTransparency.types false in
/-- The condition says whether a trip is left. -/
theorem spec1 (W : Dev nD → Valuation τ sig (Elt F)) (hW : ∀ c, W c (Proc.devRef .tc main_v57_3) = fun _ => (0#32 : BitVec 32)) :
    CondSpec (pcfgs (F := F)) defs₀ loops (main_while1_cond (F := F)) cond1 body1 W 64 := by
  intro k hk c bd
  have hctr := ctr1 W c (hW c) k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1 W k c) main_v57_3 HostLoop.idx0)
        (HloOp.result _ (atTrip cond1 body1 W k c) main_while1c_c_20 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

variable (m : (ℓ : Loc nD τ sig) → Buf (Elt F) ℓ)

/-- The buffers when the second loop is entered, and at the end. -/
abbrev second (c : Dev nD) : Valuation τ sig (Elt F) := RunTwo.second preI midI loop0 m c
abbrev final (c : Dev nD) : Valuation τ sig (Elt F) := RunTwo.final preI midI postI loop0 loop1 m c

set_option maxRecDepth 100000 in
set_option maxHeartbeats 4000000 in
theorem start0 (c : Dev nD) : entryContents preI m c (Proc.devRef .tc main_v38_2) = fun _ => (0#32 : BitVec 32) := by
  simp only [entryContents, afterL_cons, afterL_nil]
  after_reads_simp
  rfl
set_option maxRecDepth 100000 in
theorem mid_ctr (V : Valuation τ sig (Elt F)) : afterL midI V (Proc.devRef .tc main_v57_3) = fun _ => (0#32 : BitVec 32) := by
  simp only [afterL_cons, afterL_nil]
  after_results
  rfl

set_option maxRecDepth 100000 in
/-- Every execution ends at the fold. -/
theorem run (ρ : Dev nD → PrngReg) : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  RunTwo.run (pcfgs (F := F)) defs₀ loops main 0 1 main_while0_cond main_while1_cond main_while0_body main_while1_body rfl rfl preI midI postI loop0 loop1
    preI_plain midI_plain postI_plain body0_plain body1_plain (fun c => by rw [main_chain_windows]; rfl) (by rw [while0_body_chain]; rfl) (by rw [while1_body_chain]; rfl) m ρ
    (spec0 _ (start0 m)) (spec1 _ fun c => mid_ctr _)

end Cert.Proof.GlaBRun

end
-- ==== Proof.GlaBEntry.lean ====
/- The reference of the gradient of gated linear attention: what it holds when its first loop starts. -/
module

public import proofs.«01_k».proof.Proof.GlaRef
public import proofs.«01_k».proof.Proof.GlaBRun

@[expose] public section

noncomputable section

namespace Cert.Proof.GlaBEntry

open Cert.Reference21Ideal Cert.Reference21Ideal.Gen Idealize.ShloMosaic Idealize.ShloMosaic.TcCoe Idealize.ShloMosaic.Tactic Idealize.ShloMosaic.StableHlo
open Cert.Proof.Arith Cert.Proof.GlaModel Cert.Proof.GlaBOps Cert.Proof.GlaBRun
open Cert.Proof.GlaRef (val_main_v9 val_main_v10 val_main_v11 val_main_v16 val_main_v17 val_main_v19 val_main_v20 val_main_v24 val_main_call2_v1 val_main_v30 val_main_v31 val_main_v32 val_main_v34 val_main_v35 val_main_v36 val_main_cst_1 val_main_cst_2 v32_val v34_val)

variable (m : (ℓ : Loc nD τ sig) → Buf (Elt Ideal) ℓ) (c : Dev nD)

/-- The reference's first two arguments. -/
abbrev A0 : FVec Ideal S4096x6656 .f32 := m ((c.tc : Thread nD τ).loc main_arg0)
abbrev A1 : FVec Ideal S4096x512 .f32 := m ((c.tc : Thread nD τ).loc main_arg1)

set_option maxRecDepth 100000 in
set_option maxHeartbeats 4000000 in
theorem entry_v9 : entryContents preI m c (Proc.devRef .tc main_v9) = val_main_v9 (A0 m c) (A1 m c) := by
  simp only [entryContents, afterL_cons, afterL_nil]
  after_reads_simp
  rfl
set_option maxRecDepth 100000 in
set_option maxHeartbeats 4000000 in
theorem entry_v10 : entryContents preI m c (Proc.devRef .tc main_v10) = val_main_v10 (A0 m c) (A1 m c) := by
  simp only [entryContents, afterL_cons, afterL_nil]
  after_reads_simp
  rfl
set_option maxRecDepth 100000 in
set_option maxHeartbeats 4000000 in
theorem entry_v11 : entryContents preI m c (Proc.devRef .tc main_v11) = val_main_v11 (A0 m c) (A1 m c) := by
  simp only [entryContents, afterL_cons, afterL_nil]
  after_reads_simp
  rfl
set_option maxRecDepth 100000 in
set_option maxHeartbeats 4000000 in
theorem entry_v16 : entryContents preI m c (Proc.devRef .tc main_v16) = val_main_v16 (A0 m c) (A1 m c) := by
  simp only [entryContents, afterL_cons, afterL_nil]
  after_reads_simp
  rfl
set_option maxRecDepth 100000 in
set_option maxHeartbeats 4000000 in
theorem entry_v17 : entryContents preI m c (Proc.devRef .tc main_v17) = val_main_v17 (A0 m c) (A1 m c) := by
  simp only [entryContents, afterL_cons, afterL_nil]
  after_reads_simp
  rfl
set_option maxRecDepth 100000 in
set_option maxHeartbeats 4000000 in
theorem entry_v19 : entryContents preI m c (Proc.devRef .tc main_v19) = val_main_v19 (A0 m c) (A1 m c) := by
  simp only [entryContents, afterL_cons, afterL_nil]
  after_reads_simp
  rfl
set_option maxRecDepth 100000 in
set_option maxHeartbeats 4000000 in
theorem entry_v20 : entryContents preI m c (Proc.devRef .tc main_v20) = val_main_v20 (A0 m c) (A1 m c) := by
  simp only [entryContents, afterL_cons, afterL_nil]
  after_reads_simp
  rfl
set_option maxRecDepth 100000 in
set_option maxHeartbeats 4000000 in
theorem entry_v24_0 : entryContents preI m c (Proc.devRef .tc main_v24_0) = val_main_v24 (A0 m c) (A1 m c) := by
  simp only [entryContents, afterL_cons, afterL_nil]
  after_reads_simp
  rfl
set_option maxRecDepth 100000 in
set_option maxHeartbeats 4000000 in
theorem entry_v24_1 : entryContents preI m c (Proc.devRef .tc main_v24_1) = val_main_call2_v1 (A0 m c) (A1 m c) := by
  simp only [entryContents, afterL_cons, afterL_nil]
  after_reads_simp
  rfl
set_option maxRecDepth 100000 in
set_option maxHeartbeats 4000000 in
theorem entry_v30 : entryContents preI m c (Proc.devRef .tc main_v30) = val_main_v30 (A0 m c) (A1 m c) := by
  simp only [entryContents, afterL_cons, afterL_nil]
  after_reads_simp
  rfl
set_option maxRecDepth 100000 in
set_option maxHeartbeats 4000000 in
theorem entry_v31 : entryContents preI m c (Proc.devRef .tc main_v31) = val_main_v31 (A0 m c) (A1 m c) := by
  simp only [entryContents, afterL_cons, afterL_nil]
  after_reads_simp
  rfl
set_option maxRecDepth 100000 in
set_option maxHeartbeats 4000000 in
theorem entry_v34 : entryContents preI m c (Proc.devRef .tc main_v34) = val_main_v34 (A0 m c) (A1 m c) := by
  simp only [entryContents, afterL_cons, afterL_nil]
  after_reads_simp
  rfl
set_option maxRecDepth 100000 in
set_option maxHeartbeats 4000000 in
theorem entry_v38_0 : entryContents preI m c (Proc.devRef .tc main_v38_0) = val_main_v34 (A0 m c) (A1 m c) := by
  simp only [entryContents, afterL_cons, afterL_nil]
  after_reads_simp
  rfl
set_option maxRecDepth 100000 in
set_option maxHeartbeats 4000000 in
theorem entry_v38_1 : entryContents preI m c (Proc.devRef .tc main_v38_1) = val_main_v32 (A0 m c) (A1 m c) := by
  simp only [entryContents, afterL_cons, afterL_nil]
  after_reads_simp
  rfl
set_option maxRecDepth 100000 in
set_option maxHeartbeats 4000000 in
theorem entry_v38_3 : entryContents preI m c (Proc.devRef .tc main_v38_3) = val_main_v35 (A0 m c) (A1 m c) := by
  simp only [entryContents, afterL_cons, afterL_nil]
  after_reads_simp
  rfl
set_option maxRecDepth 100000 in
set_option maxHeartbeats 4000000 in
theorem entry_v38_4 : entryContents preI m c (Proc.devRef .tc main_v38_4) = val_main_v36 (A0 m c) (A1 m c) := by
  simp only [entryContents, afterL_cons, afterL_nil]
  after_reads_simp
  rfl
set_option maxRecDepth 100000 in
set_option maxHeartbeats 4000000 in
theorem entry_arg2 : entryContents preI m c (Proc.devRef .tc main_arg2) = m ((c.tc : Thread nD τ).loc main_arg2) := by
  simp only [entryContents, afterL_cons, afterL_nil]
  after_reads_simp

end Cert.Proof.GlaBEntry

end
-- ==== Proof.GlaBSlice.lean ====
/- One chunk read from, or written into, an array of decays or of sums; and a position counted from the end. -/
module

public import proofs.«01_k».proof.Defs
public import proofs.«01_k».proof.Proof.GlaSlice
public import Idealize.ShloMosaic.Lib.Pointwise
public import Idealize.ShloMosaic.Lib.WordCmp

@[expose] public section

noncomputable section

namespace Cert.Proof.GlaBSlice

open Cert.Reference21Ideal Idealize.ShloMosaic

variable {α : Type}

theorem slice5_one (x : S64x1x4x128x1.Idx → α) (start : Fin 5 → ℤ) (h) (k : Fin 64) (e0 : start 0 = k.val) (e1 : start 1 = 0) (e2 : start 2 = 0) (e3 : start 3 = 0) (e4 : start 4 = 0) :
    Host.dynamicSlice (s := S64x1x4x128x1) S1x1x4x128x1 x start h = fun j => x (ix5 k (j 1) (j 2) (j 3) (j 4)) := by
  have hk : S64x1x4x128x1.Slices (![k.val, 0, 0, 0, 0] : Fin 5 → ℕ) S1x1x4x128x1 := ⟨rfl, fun a => by
    have := k.isLt
    fin_cases a
    · show k.val + 1 ≤ 64; omega
    · exact Nat.le_of_eq (Nat.zero_add _)
    · exact Nat.le_of_eq (Nat.zero_add _)
    · exact Nat.le_of_eq (Nat.zero_add _)
    · exact Nat.le_of_eq (Nat.zero_add _)⟩
  rw [WordCmp.dynamicSlice_eq_extract S1x1x4x128x1 x start h (![k.val, 0, 0, 0, 0] : Fin 5 → ℕ) hk (fun a => by fin_cases a; exacts [e0, e1, e2, e3, e4])]
  funext j
  refine congrArg x ?_
  funext a
  fin_cases a
  · refine Fin.ext ?_
    show k.val + (j 0).val = k.val
    have : (j 0).val < 1 := (j 0).isLt
    omega
  · exact Fin.ext (Nat.zero_add _)
  · exact Fin.ext (Nat.zero_add _)
  · exact Fin.ext (Nat.zero_add _)
  · exact Fin.ext (Nat.zero_add _)

theorem update5_one (x : S64x1x4x128x1.Idx → α) (u : S1x1x4x128x1.Idx → α) (start : Fin 5 → ℤ) (h) (k : Fin 64) (e0 : start 0 = k.val) (e1 : start 1 = 0) (e2 : start 2 = 0) (e3 : start 3 = 0) (e4 : start 4 = 0) :
    Host.dynamicUpdateSlice (s := S64x1x4x128x1) (u := S1x1x4x128x1) x u start h
      = fun j => if (j 0).val = k.val then u (ix5 0 (j 1) (j 2) (j 3) (j 4)) else x j := by
  have hk : S64x1x4x128x1.Slices (![k.val, 0, 0, 0, 0] : Fin 5 → ℕ) S1x1x4x128x1 := ⟨rfl, fun a => by
    have := k.isLt
    fin_cases a
    · show k.val + 1 ≤ 64; omega
    · exact Nat.le_of_eq (Nat.zero_add _)
    · exact Nat.le_of_eq (Nat.zero_add _)
    · exact Nat.le_of_eq (Nat.zero_add _)
    · exact Nat.le_of_eq (Nat.zero_add _)⟩
  rw [WordCmp.dynamicUpdateSlice_eq_update x u start h (![k.val, 0, 0, 0, 0] : Fin 5 → ℕ) hk (fun a => by fin_cases a; exacts [e0, e1, e2, e3, e4])]
  funext j
  unfold updateSlice
  by_cases hj : (j 0).val = k.val
  · rw [if_pos hj, dif_pos]
    · refine congrArg u ?_
      funext a
      fin_cases a
      · exact Fin.ext (by show (j 0).val - k.val = 0; omega)
      · exact Fin.ext (Nat.sub_zero _)
      · exact Fin.ext (Nat.sub_zero _)
      · exact Fin.ext (Nat.sub_zero _)
      · exact Fin.ext (Nat.sub_zero _)
    · intro a
      fin_cases a
      · show k.val ≤ (j 0).val ∧ (j 0).val < k.val + 1; omega
      · exact ⟨Nat.zero_le _, by show (j 1).val < 0 + 1; rw [Nat.zero_add]; exact (j 1).isLt⟩
      · exact ⟨Nat.zero_le _, by show (j 2).val < 0 + 4; rw [Nat.zero_add]; exact (j 2).isLt⟩
      · exact ⟨Nat.zero_le _, by show (j 3).val < 0 + 128; rw [Nat.zero_add]; exact (j 3).isLt⟩
      · exact ⟨Nat.zero_le _, by show (j 4).val < 0 + 1; rw [Nat.zero_add]; exact (j 4).isLt⟩
  · rw [if_neg hj, dif_neg]
    intro hin
    have h0 : k.val ≤ (j 0).val ∧ (j 0).val < k.val + 1 := hin 0
    omega

theorem update4 (x : S64x1x4x128.Idx → α) (u : S1x1x4x128.Idx → α) (start : Fin 4 → ℤ) (h) (k : Fin 64) (e0 : start 0 = k.val) (e1 : start 1 = 0) (e2 : start 2 = 0) (e3 : start 3 = 0) :
    Host.dynamicUpdateSlice (s := S64x1x4x128) (u := S1x1x4x128) x u start h
      = fun j => if (j 0).val = k.val then u (ix4 0 (j 1) (j 2) (j 3)) else x j := by
  have hk : S64x1x4x128.Slices (![k.val, 0, 0, 0] : Fin 4 → ℕ) S1x1x4x128 := ⟨rfl, fun a => by
    have := k.isLt
    fin_cases a
    · show k.val + 1 ≤ 64; omega
    · exact Nat.le_of_eq (Nat.zero_add _)
    · exact Nat.le_of_eq (Nat.zero_add _)
    · exact Nat.le_of_eq (Nat.zero_add _)⟩
  rw [WordCmp.dynamicUpdateSlice_eq_update x u start h (![k.val, 0, 0, 0] : Fin 4 → ℕ) hk (fun a => by fin_cases a; exacts [e0, e1, e2, e3])]
  funext j
  unfold updateSlice
  by_cases hj : (j 0).val = k.val
  · rw [if_pos hj, dif_pos]
    · refine congrArg u ?_
      funext a
      fin_cases a
      · exact Fin.ext (by show (j 0).val - k.val = 0; omega)
      · exact Fin.ext (Nat.sub_zero _)
      · exact Fin.ext (Nat.sub_zero _)
      · exact Fin.ext (Nat.sub_zero _)
    · intro a
      fin_cases a
      · show k.val ≤ (j 0).val ∧ (j 0).val < k.val + 1; omega
      · exact ⟨Nat.zero_le _, by show (j 1).val < 0 + 1; rw [Nat.zero_add]; exact (j 1).isLt⟩
      · exact ⟨Nat.zero_le _, by show (j 2).val < 0 + 4; rw [Nat.zero_add]; exact (j 2).isLt⟩
      · exact ⟨Nat.zero_le _, by show (j 3).val < 0 + 128; rw [Nat.zero_add]; exact (j 3).isLt⟩
  · rw [if_neg hj, dif_neg]
    intro hin
    have h0 : k.val ≤ (j 0).val ∧ (j 0).val < k.val + 1 := hin 0
    omega

/-- The position of trip `k`, counted from the end, read signed. -/
theorem back_int (k : ℕ) (hk : k < 64) : (IntOp.subi (IntOp.subi 64#32 (Scf.iv 0#32 1#32 k)) 1#32).toInt = (63 - k : ℕ) := by
  have : ∀ k : Fin 64, (IntOp.subi (IntOp.subi 64#32 (Scf.iv 0#32 1#32 k.val)) 1#32).toInt = (63 - k.val : ℕ) := by decide +kernel
  exact this ⟨k, hk⟩

end Cert.Proof.GlaBSlice

end
-- ==== Proof.GlaBTrip.lean ====
/- The reference of the gradient of gated linear attention: one trip of each of its loops, and what lies between them. -/
module

public import proofs.«01_k».proof.Proof.GlaRef
public import proofs.«01_k».proof.Proof.GlaLoop
public import proofs.«01_k».proof.Proof.GlaSlice
public import proofs.«01_k».proof.Proof.GlaBSlice
public import proofs.«01_k».proof.Proof.GlaBEntry

@[expose] public section

noncomputable section

namespace Cert.Proof.GlaBTrip

open Cert.Reference21Ideal Cert.Reference21Ideal.Gen Idealize.ShloMosaic Idealize.ShloMosaic.TcCoe Idealize.ShloMosaic.Tactic Idealize.ShloMosaic.StableHlo
open Cert.Proof.Arith Cert.Proof.GlaModel Cert.Proof.GlaSlice Cert.Proof.GlaBSlice Cert.Proof.GlaBOps Cert.Proof.GlaBRun Cert.Proof.GlaBEntry
open Cert.Proof.GlaRef (val_main_v9 val_main_v10 val_main_v11 val_main_v16 val_main_v17 val_main_v19 val_main_v20 val_main_v24 val_main_call2_v1 val_main_v30 val_main_v31 val_main_v32 val_main_v34 val_main_v35 val_main_v36 val_main_cst_1 val_main_cst_2 v32_val v34_val)

/-- Position `i` of the first axis. -/
abbrev pos4 (i : IVec S_ 32) : Fin 4 → ℤ := fun k => (((![i, constantI S_ 32 0#32, constantI S_ 32 0#32, constantI S_ 32 0#32] : Fin 4 → IVec S_ 32)) k (Shape.Idx.first h_S_)).toInt
abbrev pos5 (i : IVec S_ 32) : Fin 5 → ℤ := fun k => (((![i, constantI S_ 32 0#32, constantI S_ 32 0#32, constantI S_ 32 0#32, constantI S_ 32 0#32] : Fin 5 → IVec S_ 32)) k (Shape.Idx.first h_S_)).toInt

/-- One trip of the first loop: the state, the states kept, the decays kept. -/
def nx_s (i : IVec S_ 32) (P : FVec Ideal S64x1x4x128 .f32) (Q : FVec Ideal S64x1x4x128x128 .f32) (X : FVec Ideal S1x4x128x128 .f32) : FVec Ideal S1x4x128x128 .f32 :=
  id (addf (mulf (broadcastInDim S1x4x128x128 ![0, 1, 2, 3] bcast_S1x4x128x1_S1x4x128x128_0_1_2_3 (broadcastInDim S1x4x128x1 ![0, 1, 2] bcast_S1x4x128_S1x4x128x1_0_1_2 (shapeCast S1x4x128 (Host.dynamicSlice S1x1x4x128 P (pos4 i) sliceFits_S64x1x4x128_S1x1x4x128) shapeCasts_S1x1x4x128_S1x4x128))) X)
    (shapeCast S1x4x128x128 (Host.dynamicSlice S1x1x4x128x128 Q (pos5 i) sliceFits_S64x1x4x128x128_S1x1x4x128x128) shapeCasts_S1x1x4x128x128_S1x4x128x128))
def nx_all (i : IVec S_ 32) (X : FVec Ideal S1x4x128x128 .f32) (Y : FVec Ideal S64x1x4x128x128 .f32) : FVec Ideal S64x1x4x128x128 .f32 :=
  id (Host.dynamicUpdateSlice Y (broadcastInDim S1x1x4x128x128 ![1, 2, 3, 4] bcast_S1x4x128x128_S1x1x4x128x128_1_2_3_4 X) (pos5 i) updateFits_S64x1x4x128x128_S1x1x4x128x128)
def nx_dec (i : IVec S_ 32) (P : FVec Ideal S64x1x4x128 .f32) (Y : FVec Ideal S64x1x4x128x1 .f32) : FVec Ideal S64x1x4x128x1 .f32 :=
  id (Host.dynamicUpdateSlice Y (broadcastInDim S1x1x4x128x1 ![1, 2, 3, 4] bcast_S1x4x128x1_S1x1x4x128x1_1_2_3_4 (broadcastInDim S1x4x128x1 ![0, 1, 2] bcast_S1x4x128_S1x4x128x1_0_1_2
    (shapeCast S1x4x128 (Host.dynamicSlice S1x1x4x128 P (pos4 i) sliceFits_S64x1x4x128_S1x1x4x128) shapeCasts_S1x1x4x128_S1x4x128))) (pos5 i) updateFits_S64x1x4x128x1_S1x1x4x128x1)

set_option maxRecDepth 100000 in
set_option maxHeartbeats 4000000 in
theorem trip_s (X : Valuation τ sig (Elt Ideal)) : afterL body0 X (Proc.devRef .tc main_v38_3)
    = nx_s (X (Proc.devRef .tc main_v38_2)) (X (Proc.devRef .tc main_v38_0)) (X (Proc.devRef .tc main_v38_1)) (X (Proc.devRef .tc main_v38_3)) := by
  simp only [afterL_cons, afterL_nil]
  after_reads_simp [unaryIndexed_result_read, binaryIndexed_result_read, indexContents_tref_cons, indexContents_tref_empty]
  rfl
set_option maxRecDepth 100000 in
set_option maxHeartbeats 4000000 in
theorem trip_all (X : Valuation τ sig (Elt Ideal)) : afterL body0 X (Proc.devRef .tc main_v38_4)
    = nx_all (X (Proc.devRef .tc main_v38_2)) (X (Proc.devRef .tc main_v38_3)) (X (Proc.devRef .tc main_v38_4)) := by
  simp only [afterL_cons, afterL_nil]
  after_reads_simp [unaryIndexed_result_read, binaryIndexed_result_read, indexContents_tref_cons, indexContents_tref_empty]
  rfl
set_option maxRecDepth 100000 in
set_option maxHeartbeats 4000000 in
theorem trip_dec (X : Valuation τ sig (Elt Ideal)) : afterL body0 X (Proc.devRef .tc main_v38_5)
    = nx_dec (X (Proc.devRef .tc main_v38_2)) (X (Proc.devRef .tc main_v38_0)) (X (Proc.devRef .tc main_v38_5)) := by
  simp only [afterL_cons, afterL_nil]
  after_reads_simp [unaryIndexed_result_read, binaryIndexed_result_read, indexContents_tref_cons, indexContents_tref_empty]
  rfl

/-- Counted from the end. -/
abbrev back (i : IVec S_ 32) : IVec S_ 32 := subi (subi (constantI S_ 32 64#32) i) (constantI S_ 32 1#32)
/-- One trip of the second loop: the gradient of the state, the sums kept, the gradients kept. -/
def nx_d (i : IVec S_ 32) (G : FVec Ideal S64x1x4x128x128 .f32) (P : FVec Ideal S64x1x4x128x1 .f32) (X : FVec Ideal S1x4x128x128 .f32) : FVec Ideal S1x4x128x128 .f32 :=
  id (addf (shapeCast S1x4x128x128 (Host.dynamicSlice S1x1x4x128x128 G (pos5 (back i)) sliceFits_S64x1x4x128x128_S1x1x4x128x128) shapeCasts_S1x1x4x128x128_S1x4x128x128)
    (mulf (broadcastInDim S1x4x128x128 ![0, 1, 2, 3] bcast_S1x4x128x1_S1x4x128x128_0_1_2_3
      (shapeCast S1x4x128x1 (Host.dynamicSlice S1x1x4x128x1 P (pos5 (back i)) sliceFits_S64x1x4x128x1_S1x1x4x128x1) shapeCasts_S1x1x4x128x1_S1x4x128x1)) X))
def nx_sum (i : IVec S_ 32) (S : FVec Ideal S64x1x4x128x128 .f32) (X : FVec Ideal S1x4x128x128 .f32) (Y : FVec Ideal S64x1x4x128 .f32) : FVec Ideal S64x1x4x128 .f32 :=
  id (Host.dynamicUpdateSlice Y (broadcastInDim S1x1x4x128 ![1, 2, 3] bcast_S1x4x128_S1x1x4x128_1_2_3 (broadcastInDim S1x4x128 ![1, 2] bcast_S4x128_S1x4x128_1_2
    (Host.reduceAdd (shapeCast S1x4x128x1 (Host.reduceAdd (mulf X (shapeCast S1x4x128x128 (Host.dynamicSlice S1x1x4x128x128 S (pos5 (back i)) sliceFits_S64x1x4x128x128_S1x1x4x128x128) shapeCasts_S1x1x4x128x128_S1x4x128x128))
      (constant S_ .f32 0x00000000#32) reducesTo_S1x4x128x128_S1x4x128_d3 h_S_) shapeCasts_S1x4x128_S1x4x128x1) (constant S_ .f32 0x00000000#32) reducesTo_S1x4x128x1_S4x128_d0_3 h_S_))) (pos4 (back i)) updateFits_S64x1x4x128_S1x1x4x128)
def nx_keep (i : IVec S_ 32) (X : FVec Ideal S1x4x128x128 .f32) (Y : FVec Ideal S64x1x4x128x128 .f32) : FVec Ideal S64x1x4x128x128 .f32 :=
  id (Host.dynamicUpdateSlice Y (broadcastInDim S1x1x4x128x128 ![1, 2, 3, 4] bcast_S1x4x128x128_S1x1x4x128x128_1_2_3_4 X) (pos5 (back i)) updateFits_S64x1x4x128x128_S1x1x4x128x128)

set_option maxRecDepth 100000 in
set_option maxHeartbeats 4000000 in
theorem trip_d (X : Valuation τ sig (Elt Ideal)) : afterL body1 X (Proc.devRef .tc main_v57_4)
    = nx_d (X (Proc.devRef .tc main_v57_3)) (X (Proc.devRef .tc main_v57_0)) (X (Proc.devRef .tc main_v57_2)) (X (Proc.devRef .tc main_v57_4)) := by
  simp only [afterL_cons, afterL_nil]
  after_reads_simp [unaryIndexed_result_read, binaryIndexed_result_read, indexContents_tref_cons, indexContents_tref_empty]
  rfl
set_option maxRecDepth 100000 in
set_option maxHeartbeats 4000000 in
theorem trip_sum (X : Valuation τ sig (Elt Ideal)) : afterL body1 X (Proc.devRef .tc main_v57_5)
    = nx_sum (X (Proc.devRef .tc main_v57_3)) (X (Proc.devRef .tc main_v57_1)) (X (Proc.devRef .tc main_v57_4)) (X (Proc.devRef .tc main_v57_5)) := by
  simp only [afterL_cons, afterL_nil]
  after_reads_simp [unaryIndexed_result_read, binaryIndexed_result_read, indexContents_tref_cons, indexContents_tref_empty]
  rfl
set_option maxRecDepth 100000 in
set_option maxHeartbeats 4000000 in
theorem trip_keep (X : Valuation τ sig (Elt Ideal)) : afterL body1 X (Proc.devRef .tc main_v57_6)
    = nx_keep (X (Proc.devRef .tc main_v57_3)) (X (Proc.devRef .tc main_v57_4)) (X (Proc.devRef .tc main_v57_6)) := by
  simp only [afterL_cons, afterL_nil]
  after_reads_simp [unaryIndexed_result_read, binaryIndexed_result_read, indexContents_tref_cons, indexContents_tref_empty]
  rfl

/-- What is computed between the loops: the result's gradient by chunks, its product with the states, its product with the queries. -/
def mid_do (x2 : FVec Ideal S4096x512 .f32) : FVec Ideal S1x64x64x4x128 .f32 :=
  shapeCast S1x64x64x4x128 (shapeCast S1x4096x4x128 x2 shapeCasts_S4096x512_S1x4096x4x128) shapeCasts_S1x4096x4x128_S1x64x64x4x128
def mid_tr (x2 : FVec Ideal S4096x512 .f32) : FVec Ideal S1x64x4x128x64 .f32 :=
  (transpose S1x64x4x128x64 [0, 1, 3, 4, 2] · transposes_S1x64x64x4x128_S1x64x4x128x64_0_1_3_4_2) (mid_do x2)
def mid_st (x2 : FVec Ideal S4096x512 .f32) (Z : FVec Ideal S64x1x4x128x128 .f32) : FVec Ideal S1x64x64x4x128 .f32 :=
  (transpose S1x64x64x4x128 [0, 1, 3, 2, 4] · transposes_S1x64x4x64x128_S1x64x64x4x128_0_1_3_2_4) (Host.dotGeneral dot_S1x64x4x128x64_S64x1x4x128x128_S1x64x4x64x128_3_4_4_3_012_102 none (mid_tr x2) Z)
def mid_g (x2 : FVec Ideal S4096x512 .f32) (y : FVec Ideal S1x64x64x4x128 .f32) : FVec Ideal S64x1x4x128x128 .f32 :=
  (transpose S64x1x4x128x128 [1, 0, 2, 4, 3] · transposes_S1x64x4x128x128_S64x1x4x128x128_1_0_2_4_3) (Host.dotGeneral dot_S1x64x4x128x64_S1x64x64x4x128_S1x64x4x128x128_4_2_3_4_012_013 none (mid_tr x2) y)
def mid_0 : FVec Ideal S1x4x128x128 .f32 := broadcastInDim S1x4x128x128 ![] bcast_S_S1x4x128x128 (constant S_ .f32 0x00000000#32)

set_option maxRecDepth 100000 in
set_option maxHeartbeats 4000000 in
theorem at_mid_do (X : Valuation τ sig (Elt Ideal)) : afterL midI X (Proc.devRef .tc main_v48)
    = mid_do (X (Proc.devRef .tc main_arg2)) := by
  simp only [afterL_cons, afterL_nil]
  after_reads_simp [unaryIndexed_result_read, binaryIndexed_result_read, indexContents_tref_cons, indexContents_tref_empty]
  rfl
set_option maxRecDepth 100000 in
set_option maxHeartbeats 4000000 in
theorem at_mid_st (X : Valuation τ sig (Elt Ideal)) : afterL midI X (Proc.devRef .tc main_v51)
    = mid_st (X (Proc.devRef .tc main_arg2)) (X (Proc.devRef .tc main_v38_4)) := by
  simp only [afterL_cons, afterL_nil]
  after_reads_simp [unaryIndexed_result_read, binaryIndexed_result_read, indexContents_tref_cons, indexContents_tref_empty]
  rfl
set_option maxRecDepth 100000 in
set_option maxHeartbeats 4000000 in
theorem at_mid_g (X : Valuation τ sig (Elt Ideal)) : afterL midI X (Proc.devRef .tc main_v57_0)
    = mid_g (X (Proc.devRef .tc main_arg2)) (X (Proc.devRef .tc main_v17)) := by
  simp only [afterL_cons, afterL_nil]
  after_reads_simp [unaryIndexed_result_read, binaryIndexed_result_read, indexContents_tref_cons, indexContents_tref_empty]
  rfl
set_option maxRecDepth 100000 in
set_option maxHeartbeats 4000000 in
theorem at_mid_all (X : Valuation τ sig (Elt Ideal)) : afterL midI X (Proc.devRef .tc main_v57_1)
    = X (Proc.devRef .tc main_v38_4) := by
  simp only [afterL_cons, afterL_nil]
  after_reads_simp [unaryIndexed_result_read, binaryIndexed_result_read, indexContents_tref_cons, indexContents_tref_empty]
  rfl
set_option maxRecDepth 100000 in
set_option maxHeartbeats 4000000 in
theorem at_mid_dec (X : Valuation τ sig (Elt Ideal)) : afterL midI X (Proc.devRef .tc main_v57_2)
    = X (Proc.devRef .tc main_v38_5) := by
  simp only [afterL_cons, afterL_nil]
  after_reads_simp [unaryIndexed_result_read, binaryIndexed_result_read, indexContents_tref_cons, indexContents_tref_empty]
  rfl
set_option maxRecDepth 100000 in
set_option maxHeartbeats 4000000 in
theorem at_mid_0 (X : Valuation τ sig (Elt Ideal)) : afterL midI X (Proc.devRef .tc main_v57_4)
    = mid_0 := by
  simp only [afterL_cons, afterL_nil]
  after_reads_simp [unaryIndexed_result_read, binaryIndexed_result_read, indexContents_tref_cons, indexContents_tref_empty]
  rfl

end Cert.Proof.GlaBTrip

end
-- ==== Proof.GlaBModel.lean ====
/- The gradient of the gated recurrence over reals: what one chunk leaves, given the gradient `D` of the state after it and the state `S` before it. -/
module

public import proofs.«01_k».proof.Proof.GlaModel

@[expose] public section

noncomputable section

namespace Cert.Proof.GlaBModel

open Idealize.ShloMosaic Cert.Proof.GlaModel

variable (q k v a g : ℕ → ℕ → ℝ) (D S : ℕ → ℕ → ℕ → ℝ)

/-- The gradient of the state before chunk `n`, from the one after it. -/
def prev (n h e d : ℕ) : ℝ :=
  D h e d * Real.exp (cum a n 63 (128 * h + d)) + ∑ i : Fin 64, g (64 * n + i.val) (128 * h + e) * qd q a n i.val (128 * h + d)
/-- The gradient of the state after the last `t` chunks are taken off. -/
def E : ℕ → ℕ → ℕ → ℕ → ℝ
  | 0, _, _, _ => 0
  | t + 1, h, e, d => prev q a g (E t) (63 - t) h e d
theorem E_succ (t h e d : ℕ) : E q a g (t + 1) h e d = prev q a g (E q a g t) (63 - t) h e d := rfl

/-- Gradient of the masked products at row `i`, column `j`. -/
def dp (n h i j : ℕ) : ℝ := if j ≤ i then ∑ e : Fin 128, g (64 * n + i) (128 * h + e.val) * v (64 * n + j) (128 * h + e.val) else 0
/-- The masked products. -/
def pp (n h i j : ℕ) : ℝ := if j ≤ i then ∑ d : Fin 128, qd q a n i (128 * h + d.val) * kd k a n j (128 * h + d.val) else 0
def dqd (n h i d : ℕ) : ℝ := (∑ j : Fin 64, dp v g n h i j.val * kd k a n j.val (128 * h + d)) + ∑ e : Fin 128, g (64 * n + i) (128 * h + e.val) * S h e.val d
def dkd (n h j d : ℕ) : ℝ := ∑ i : Fin 64, dp v g n h i.val j * qd q a n i.val (128 * h + d)
def dke (n h j d : ℕ) : ℝ := ∑ e : Fin 128, v (64 * n + j) (128 * h + e.val) * D h e.val d
def dv (n h j e : ℕ) : ℝ := (∑ i : Fin 64, pp q k a n h i.val j * g (64 * n + i.val) (128 * h + e)) + ∑ d : Fin 128, ke k a n j (128 * h + d.val) * D h e d.val
/-- Gradient of the decay over the whole chunk. -/
def dbl (n h d : ℕ) : ℝ :=
  Real.exp (cum a n 63 (128 * h + d)) * (∑ e : Fin 128, D h e.val d * S h e.val d) + ∑ j : Fin 64, dke v D n h j.val d * ke k a n j.val (128 * h + d)
def db (n h i d : ℕ) : ℝ :=
  dqd k v a g S n h i d * qd q a n i (128 * h + d) - dkd q v a g n h i d * kd k a n i (128 * h + d) - dke v D n h i d * ke k a n i (128 * h + d)
def dbb (n h i d : ℕ) : ℝ := if i = 63 then db q k v a g D S n h i d + dbl k v a D S n h d else db q k v a g D S n h i d
/-- The four gradients of a chunk. -/
def dla (n h i d : ℕ) : ℝ := ∑ j : Fin 64, if i ≤ j.val then dbb q k v a g D S n h j.val d else 0
def dq (n h i d : ℕ) : ℝ := dqd k v a g S n h i d * Real.exp (cum a n i (128 * h + d)) * sc
def dk (n h j d : ℕ) : ℝ :=
  dkd q v a g n h j d * Real.exp (-cum a n j (128 * h + d)) + dke v D n h j d * Real.exp (cum a n 63 (128 * h + d) - cum a n j (128 * h + d))

/-- The last row's mask, as words; and the mask the other way round. -/
theorem last_word : ∀ i : Fin 64, IntOp.cmpi .eq (BitVec.ofNat 32 i.val) 63#32 = if i.val = 63 then 1#1 else 0#1 := by decide +kernel
theorem select_last {α : Type} (i : Fin 64) (x y : α) :
    Scalar.select (IntOp.cmpi .eq (BitVec.ofNat 32 i.val) 63#32) x y = if i.val = 63 then x else y := by
  rw [last_word]
  by_cases h : i.val = 63
  · rw [if_pos h, if_pos h]; rfl
  · rw [if_neg h, if_neg h]; rfl
theorem up_word : ∀ i j : Fin 64, IntOp.cmpi .sge (BitVec.ofNat 32 j.val) (BitVec.ofNat 32 i.val) = if i.val ≤ j.val then 1#1 else 0#1 := by
  decide +kernel
theorem ite_coe2 (p : Prop) [Decidable p] (x y : ℝ) : (if p then (x : EReal) else (y : EReal)) = ((if p then x else y : ℝ) : EReal) := by
  split <;> rfl

end Cert.Proof.GlaBModel

end
-- ==== Proof.GlaBVal.lean ====
/- One trip of each loop of the reference of the gradient of gated linear attention, entry by entry. -/
module

public import proofs.«01_k».proof.Proof.GlaBTrip
public import proofs.«01_k».proof.Proof.GlaBModel
public import Idealize.ShloMosaic.Lib.Pointwise

@[expose] public section

noncomputable section

namespace Cert.Proof.GlaBVal

open Cert.Reference21Ideal Cert.Reference21Ideal.Gen Idealize.ShloMosaic Idealize.ShloMosaic.TcCoe
open Cert.Proof.Arith Cert.Proof.GlaModel Cert.Proof.GlaSlice Cert.Proof.GlaBSlice Cert.Proof.GlaBTrip

variable (i : IVec S_ 32) (k : Fin 64)

theorem nx_s_val (hi : (i (Shape.Idx.first h_S_)).toInt = k.val) (P : FVec Ideal S64x1x4x128 .f32) (Q : FVec Ideal S64x1x4x128x128 .f32) (X : FVec Ideal S1x4x128x128 .f32) (h : Fin 4) (d e : Fin 128) :
    nx_s i P Q X (ix4 0 h d e) = P (ix4 k 0 h d) * X (ix4 0 h d e) + Q (ix5 k 0 h d e) := by
  unfold nx_s
  rw [slice4 P (pos4 i) _ k hi rfl rfl rfl, slice5 Q (pos5 i) _ k hi rfl rfl rfl rfl]
  exact Cert.Proof.GlaLoop.next_s _ _ X h d e

/-- A state, spread to the shape it is kept in. -/
theorem keep_one (X : FVec Ideal S1x4x128x128 .f32) (h : Fin 4) (d e : Fin 128) :
    (broadcastInDim S1x1x4x128x128 ![1, 2, 3, 4] bcast_S1x4x128x128_S1x1x4x128x128_1_2_3_4 X : FVec Ideal S1x1x4x128x128 .f32) (ix5 0 0 h d e) = X (ix4 0 h d e) := by
  pointwise []
theorem nx_all_val (hi : (i (Shape.Idx.first h_S_)).toInt = k.val) (X : FVec Ideal S1x4x128x128 .f32) (Y : FVec Ideal S64x1x4x128x128 .f32) (n : Fin 64) (h : Fin 4) (d e : Fin 128) :
    nx_all i X Y (ix5 n 0 h d e) = if n.val = k.val then X (ix4 0 h d e) else Y (ix5 n 0 h d e) := by
  unfold nx_all
  rw [update5 Y _ (pos5 i) _ k hi rfl rfl rfl rfl]
  unfold id
  show (if n.val = k.val then _ else _) = _
  refine congrArg (fun z => if n.val = k.val then z else _) ?_
  exact keep_one X h d e

/-- A decay, spread to the shape it is kept in. -/
theorem dec_one (P : FVec Ideal S1x1x4x128 .f32) (h : Fin 4) (d : Fin 128) :
    (broadcastInDim S1x1x4x128x1 ![1, 2, 3, 4] bcast_S1x4x128x1_S1x1x4x128x1_1_2_3_4 (broadcastInDim S1x4x128x1 ![0, 1, 2] bcast_S1x4x128_S1x4x128x1_0_1_2
      (shapeCast S1x4x128 P shapeCasts_S1x1x4x128_S1x4x128)) : FVec Ideal S1x1x4x128x1 .f32) (ix5 0 0 h d 0) = P (ix4 0 0 h d) := by
  pointwise []
theorem nx_dec_val (hi : (i (Shape.Idx.first h_S_)).toInt = k.val) (P : FVec Ideal S64x1x4x128 .f32) (Y : FVec Ideal S64x1x4x128x1 .f32) (n : Fin 64) (h : Fin 4) (d : Fin 128) :
    nx_dec i P Y (ix5 n 0 h d 0) = if n.val = k.val then P (ix4 k 0 h d) else Y (ix5 n 0 h d 0) := by
  unfold nx_dec
  rw [slice4 P (pos4 i) _ k hi rfl rfl rfl, update5_one Y _ (pos5 i) _ k hi rfl rfl rfl rfl]
  unfold id
  show (if n.val = k.val then _ else _) = _
  refine congrArg (fun z => if n.val = k.val then z else _) ?_
  exact dec_one _ h d

/-- The gradient of the state after one trip. -/
theorem next_d (G : FVec Ideal S1x1x4x128x128 .f32) (P : FVec Ideal S1x1x4x128x1 .f32) (X : FVec Ideal S1x4x128x128 .f32) (h : Fin 4) (d e : Fin 128) :
    (id (addf (shapeCast S1x4x128x128 G shapeCasts_S1x1x4x128x128_S1x4x128x128)
      (mulf (broadcastInDim S1x4x128x128 ![0, 1, 2, 3] bcast_S1x4x128x1_S1x4x128x128_0_1_2_3 (shapeCast S1x4x128x1 P shapeCasts_S1x1x4x128x1_S1x4x128x1)) X)) : FVec Ideal S1x4x128x128 .f32) (ix4 0 h d e)
      = G (ix5 0 0 h d e) + P (ix5 0 0 h d 0) * X (ix4 0 h d e) := by
  unfold id
  pointwise []
theorem nx_d_val (hi : (back i (Shape.Idx.first h_S_)).toInt = k.val) (G : FVec Ideal S64x1x4x128x128 .f32) (P : FVec Ideal S64x1x4x128x1 .f32) (X : FVec Ideal S1x4x128x128 .f32) (h : Fin 4) (d e : Fin 128) :
    nx_d i G P X (ix4 0 h d e) = G (ix5 k 0 h d e) + P (ix5 k 0 h d 0) * X (ix4 0 h d e) := by
  unfold nx_d
  rw [slice5 G (pos5 (back i)) _ k hi rfl rfl rfl rfl, slice5_one P (pos5 (back i)) _ k hi rfl rfl rfl rfl]
  exact next_d _ _ X h d e

/-- A sum over two axes of one entry each. -/
theorem sum_03 (v : S1x4x128x1.Idx → EReal) (w : EReal) (h : Fin 4) (d : Fin 128) :
    Ideal.hostReduceAdd reducesTo_S1x4x128x1_S4x128_d0_3 v w (ix2 h d : S4x128.Idx) = w + v (ix4 0 h d 0) := by
  unfold Ideal.hostReduceAdd
  refine congrArg (w + ·) ((Finset.sum_filter_eq_sum_of_fiber _ (fun k : Fin 1 => (ix4 k h d 0 : S1x4x128x1.Idx)) (fun _ _ _ => Subsingleton.elim _ _) (fun i => ?_) v).trans (Fin.sum_univ_one _))
  constructor
  · intro e
    refine ⟨i 0, ?_⟩
    funext x
    apply Fin.ext
    match x with
    | ⟨0, _⟩ => rfl
    | ⟨1, _⟩ => exact (congrArg Fin.val (congrFun e (0 : Fin 2))).symm
    | ⟨2, _⟩ => exact (congrArg Fin.val (congrFun e (1 : Fin 2))).symm
    | ⟨3, _⟩ =>
      have : (i 3).val < 1 := (i 3).isLt
      show 0 = (i 3).val
      omega
  · rintro ⟨k, rfl⟩
    funext b
    apply Fin.ext
    match b with
    | ⟨0, _⟩ => rfl
    | ⟨1, _⟩ => rfl
theorem sum_02 (v : S1x64x1x4x128.Idx → EReal) (w : EReal) (n : Fin 64) (h : Fin 4) (d : Fin 128) :
    Ideal.hostReduceAdd reducesTo_S1x64x1x4x128_S64x4x128_d0_2 v w (ix3 n h d : S64x4x128.Idx) = w + v (ix5 0 n 0 h d) := by
  unfold Ideal.hostReduceAdd
  refine congrArg (w + ·) ((Finset.sum_filter_eq_sum_of_fiber _ (fun k : Fin 1 => (ix5 k n 0 h d : S1x64x1x4x128.Idx)) (fun _ _ _ => Subsingleton.elim _ _) (fun i => ?_) v).trans (Fin.sum_univ_one _))
  constructor
  · intro e
    refine ⟨i 0, ?_⟩
    funext x
    apply Fin.ext
    match x with
    | ⟨0, _⟩ => rfl
    | ⟨1, _⟩ => exact (congrArg Fin.val (congrFun e (0 : Fin 3))).symm
    | ⟨2, _⟩ =>
      have : (i 2).val < 1 := (i 2).isLt
      show 0 = (i 2).val
      omega
    | ⟨3, _⟩ => exact (congrArg Fin.val (congrFun e (1 : Fin 3))).symm
    | ⟨4, _⟩ => exact (congrArg Fin.val (congrFun e (2 : Fin 3))).symm
  · rintro ⟨k, rfl⟩
    funext b
    apply Fin.ext
    match b with
    | ⟨0, _⟩ => rfl
    | ⟨1, _⟩ => rfl
    | ⟨2, _⟩ => rfl

/-- The sum kept for one chunk. -/
theorem sum_one (S : FVec Ideal S1x1x4x128x128 .f32) (X : FVec Ideal S1x4x128x128 .f32) (h : Fin 4) (d : Fin 128) :
    (broadcastInDim S1x1x4x128 ![1, 2, 3] bcast_S1x4x128_S1x1x4x128_1_2_3 (broadcastInDim S1x4x128 ![1, 2] bcast_S4x128_S1x4x128_1_2
    (Host.reduceAdd (shapeCast S1x4x128x1 (Host.reduceAdd (mulf X (shapeCast S1x4x128x128 S shapeCasts_S1x1x4x128x128_S1x4x128x128))
      (constant S_ .f32 0x00000000#32) reducesTo_S1x4x128x128_S1x4x128_d3 h_S_) shapeCasts_S1x4x128_S1x4x128x1) (constant S_ .f32 0x00000000#32) reducesTo_S1x4x128x1_S4x128_d0_3 h_S_)) : FVec Ideal S1x1x4x128 .f32) (ix4 0 0 h d)
      = ∑ e : Fin 128, X (ix4 0 h d e) * S (ix5 0 0 h d e) := by
  pointwise []
  rw [sum_03, zero_add]
  pointwise []
theorem nx_sum_val (hi : (back i (Shape.Idx.first h_S_)).toInt = k.val) (S : FVec Ideal S64x1x4x128x128 .f32) (X : FVec Ideal S1x4x128x128 .f32) (Y : FVec Ideal S64x1x4x128 .f32) (n : Fin 64) (h : Fin 4) (d : Fin 128) :
    nx_sum i S X Y (ix4 n 0 h d) = if n.val = k.val then ∑ e : Fin 128, X (ix4 0 h d e) * S (ix5 k 0 h d e) else Y (ix4 n 0 h d) := by
  unfold nx_sum
  rw [slice5 S (pos5 (back i)) _ k hi rfl rfl rfl rfl, update4 Y _ (pos4 (back i)) _ k hi rfl rfl rfl]
  unfold id
  show (if n.val = k.val then _ else _) = _
  refine congrArg (fun z => if n.val = k.val then z else _) ?_
  exact sum_one _ X h d

theorem nx_keep_val (hi : (back i (Shape.Idx.first h_S_)).toInt = k.val) (X : FVec Ideal S1x4x128x128 .f32) (Y : FVec Ideal S64x1x4x128x128 .f32) (n : Fin 64) (h : Fin 4) (d e : Fin 128) :
    nx_keep i X Y (ix5 n 0 h d e) = if n.val = k.val then X (ix4 0 h d e) else Y (ix5 n 0 h d e) :=
  nx_all_val (back i) k hi X Y n h d e

/-! ## Between the loops -/

variable {q k v a g : ℕ → ℕ → ℝ}

/-- The result's gradient as a function of a row and a column. -/
def GReal (g : ℕ → ℕ → ℝ) (x2 : FVec Ideal S4096x512 .f32) : Prop := ∀ (r x : ℕ) (hr : r < 4096) (hx : x < 512), x2 (ix2 ⟨r, hr⟩ ⟨x, hx⟩) = ((g r x : ℝ) : EReal)

theorem mid_do_val {x2 : FVec Ideal S4096x512 .f32} (H : GReal g x2) (n i : Fin 64) (h : Fin 4) (d : Fin 128) :
    mid_do x2 (ix5 0 n i h d) = ((g (64 * n.val + i.val) (128 * h.val + d.val) : ℝ) : EReal) := by
  pointwise [mid_do]
  rw [H _ _ _ _, Nat.mul_comm n.val, Nat.mul_comm h.val]
theorem mid_tr_val {x2 : FVec Ideal S4096x512 .f32} (H : GReal g x2) (n i : Fin 64) (h : Fin 4) (d : Fin 128) :
    mid_tr x2 (ix5 0 n h d i) = ((g (64 * n.val + i.val) (128 * h.val + d.val) : ℝ) : EReal) := by
  pointwise [mid_tr]
  exact mid_do_val H n i h d
theorem mid_st_val {x2 : FVec Ideal S4096x512 .f32} (H : GReal g x2) (Z : FVec Ideal S64x1x4x128x128 .f32)
    (hZ : ∀ (n : Fin 64) (h : Fin 4) (d e : Fin 128), Z (ix5 n 0 h d e) = ((st k v a n.val h.val e.val d.val : ℝ) : EReal)) (n i : Fin 64) (h : Fin 4) (d : Fin 128) :
    mid_st x2 Z (ix5 0 n i h d) = ((∑ e : Fin 128, g (64 * n.val + i.val) (128 * h.val + e.val) * st k v a n.val h.val e.val d.val : ℝ) : EReal) := by
  pointwise [mid_st]
  simp only [mid_tr_val H, hZ, ← EReal.coe_mul, coe_sum]
theorem mid_g_val {x2 : FVec Ideal S4096x512 .f32} (H : GReal g x2) (y : FVec Ideal S1x64x64x4x128 .f32)
    (hy : ∀ (n i : Fin 64) (h : Fin 4) (d : Fin 128), y (ix5 0 n i h d) = ((qd q a n.val i.val (128 * h.val + d.val) : ℝ) : EReal)) (n : Fin 64) (h : Fin 4) (d e : Fin 128) :
    mid_g x2 y (ix5 n 0 h d e) = ((∑ i : Fin 64, g (64 * n.val + i.val) (128 * h.val + e.val) * qd q a n.val i.val (128 * h.val + d.val) : ℝ) : EReal) := by
  pointwise [mid_g]
  simp only [mid_tr_val H, hy, ← EReal.coe_mul, coe_sum]
theorem mid_0_val (h : Fin 4) (d e : Fin 128) : mid_0 (ix4 0 h d e) = (((0 : ℝ)) : EReal) := by
  pointwise [mid_0]
  rfl

end Cert.Proof.GlaBVal

end
-- ==== Proof.GlaBLoop.lean ====
/- The reference of the gradient of gated linear attention: what its two loops leave. -/
module

public import proofs.«01_k».proof.Proof.GlaBEntry
public import proofs.«01_k».proof.Proof.GlaBVal

@[expose] public section

noncomputable section

namespace Cert.Proof.GlaBLoop

open Cert.Reference21Ideal Cert.Reference21Ideal.Gen Idealize.ShloMosaic Idealize.ShloMosaic.TcCoe Idealize.ShloMosaic.Tactic Idealize.ShloMosaic.StableHlo
open Cert.Proof.Arith Cert.Proof.GlaModel Cert.Proof.GlaBModel Cert.Proof.GlaBSlice Cert.Proof.GlaBOps Cert.Proof.GlaBRun Cert.Proof.GlaBEntry Cert.Proof.GlaBTrip Cert.Proof.GlaBVal

variable (m : (ℓ : Loc nD τ sig) → Buf (Elt Ideal) ℓ) (c : Dev nD)

/-- The result's gradient, an argument. -/
abbrev A2 : FVec Ideal S4096x512 .f32 := m ((c.tc : Thread nD τ).loc main_arg2)

/-- The buffers before trip `t` of the first loop, when it is left, before trip `t` of the second, and when that is left. -/
abbrev at0 (t : ℕ) : Valuation τ sig (Elt Ideal) := atTrip cond0 body0 (entryContents preI m) t c
abbrev left0 : Valuation τ sig (Elt Ideal) := loop0.left (entryContents preI m) c
abbrev at1 (t : ℕ) : Valuation τ sig (Elt Ideal) := atTrip cond1 body1 (second m) t c
abbrev left1 : Valuation τ sig (Elt Ideal) := loop1.left (second m) c

/-- What the first loop, the stretch between, and the second loop write. -/
abbrev W0 : List (Ref sig .tc) := cond0_W ++ (while0Ops0_W ++ (while0Ops0_1_W ++ (while0Ops0_2_W ++ (while0Ops0_3_W ++ (while0Ops0_4_W ++ (while0Ops0_5_W))))))
abbrev WM : List (Ref sig .tc) := main_part0_ops7_W ++ main_part1_ops0_W
abbrev W1 : List (Ref sig .tc) := cond1_W ++ (while1Ops0_W ++ (while1Ops0_1_W ++ (while1Ops0_2_W ++ (while1Ops0_3_W ++ (while1Ops0_4_W ++ (while1Ops0_5_W ++ (while1Ops0_6_W ++ (while1Ops0_7_W))))))))

theorem keep0 (b : Ref sig .tc) (h : b ∉ W0) : left0 m c (Proc.devRef .tc b) = entryContents preI m c (Proc.devRef .tc b) := by
  simp only [List.mem_append, not_or] at h
  obtain ⟨hc, h0, h1, h2, h3, h4, h5⟩ := h
  rw [show left0 m c = after cond0 (atTrip cond0 body0 (entryContents preI m) 64 c) from rfl, cond0_keeps _ b hc]
  exact kept0 b hc h0 h1 h2 h3 h4 h5 (entryContents preI m) c 64
theorem keepM (V : Valuation τ sig (Elt Ideal)) (b : Ref sig .tc) (h : b ∉ WM) : afterL midI V (Proc.devRef .tc b) = V (Proc.devRef .tc b) := by
  simp only [List.mem_append, not_or] at h
  simp only [afterL_cons, afterL_nil]
  rw [after_of_writes_sub main_part1_ops0 _ main_part1_ops0_writes h.2, after_of_writes_sub main_part0_ops7 _ main_part0_ops7_writes h.1]
theorem keep1 (b : Ref sig .tc) (h : b ∉ W1) : left1 m c (Proc.devRef .tc b) = second m c (Proc.devRef .tc b) := by
  simp only [List.mem_append, not_or] at h
  obtain ⟨hc, h0, h1, h2, h3, h4, h5, h6, h7⟩ := h
  rw [show left1 m c = after cond1 (atTrip cond1 body1 (second m) 64 c) from rfl, cond1_keeps _ b hc]
  exact kept1 b hc h0 h1 h2 h3 h4 h5 h6 h7 (second m) c 64
/-- A buffer written before the first loop and not after. -/
theorem keep (b : Ref sig .tc) (h0 : b ∉ W0) (hM : b ∉ WM) (h1 : b ∉ W1) : left1 m c (Proc.devRef .tc b) = entryContents preI m c (Proc.devRef .tc b) :=
  (keep1 m c b h1).trans ((keepM (left0 m c) b hM).trans (keep0 m c b h0))

/-- A counter's word at its one index. -/
theorem at0_ctr (t : ℕ) : at0 m c t (Proc.devRef .tc main_v38_2) = fun _ => Scf.iv 0#32 1#32 t := ctr0 (entryContents preI m) c (start0 m c) t
theorem at1_ctr (t : ℕ) : at1 m c t (Proc.devRef .tc main_v57_3) = fun _ => Scf.iv 0#32 1#32 t := ctr1 (second m) c (mid_ctr (left0 m c)) t

theorem at0_a (t : ℕ) : at0 m c t (Proc.devRef .tc main_v38_0) = Cert.Proof.GlaRef.val_main_v34 (A0 m c) (A1 m c) :=
  (kept0 main_v38_0 (by decide +kernel) (by decide +kernel) (by decide +kernel) (by decide +kernel) (by decide +kernel) (by decide +kernel) (by decide +kernel) (entryContents preI m) c t).trans (entry_v38_0 m c)
theorem at0_b (t : ℕ) : at0 m c t (Proc.devRef .tc main_v38_1) = Cert.Proof.GlaRef.val_main_v32 (A0 m c) (A1 m c) :=
  (kept0 main_v38_1 (by decide +kernel) (by decide +kernel) (by decide +kernel) (by decide +kernel) (by decide +kernel) (by decide +kernel) (by decide +kernel) (entryContents preI m) c t).trans (entry_v38_1 m c)

variable {m c} {q k v a g : ℕ → ℕ → ℝ}

/-- The arguments as functions of a row and a column. -/
structure Args (q k v a g : ℕ → ℕ → ℝ) (m : (ℓ : Loc nD τ sig) → Buf (Elt Ideal) ℓ) (c : Dev nD) : Prop where
  fwd : Cert.Proof.GlaRef.Real q k v a (A0 m c) (A1 m c)
  ct : GReal g (A2 m c)

/-- The carried state before trip `t`. -/
theorem at0_s (H : Args q k v a g m c) : ∀ t, t ≤ 64 → ∀ (h : Fin 4) (d e : Fin 128),
    (at0 m c t (Proc.devRef .tc main_v38_3) : FVec Ideal S1x4x128x128 .f32) (ix4 0 h d e) = ((st k v a t h.val e.val d.val : ℝ) : EReal)
  | 0, _, h, d, e => by
    rw [show at0 m c 0 = entryContents preI m c from rfl, entry_v38_3]
    exact mid_0_val h d e
  | t + 1, ht, h, d, e => by
    rw [show at0 m c (t + 1) = afterL body0 (after cond0 (at0 m c t)) from rfl, trip_s, cond0_keeps _ main_v38_0 (by decide +kernel), cond0_keeps _ main_v38_1 (by decide +kernel),
      cond0_keeps _ main_v38_2 (by decide +kernel), cond0_keeps _ main_v38_3 (by decide +kernel), at0_ctr, at0_a, at0_b]
    refine (nx_s_val _ ⟨t, by omega⟩ (Cert.Proof.GlaLoop.ctr_int t (by omega)) _ _ _ h d e).trans ?_
    rw [Cert.Proof.GlaRef.v34_val H.fwd, Cert.Proof.GlaRef.v32_val H.fwd, at0_s H t (by omega) h d e, ← EReal.coe_mul, ← EReal.coe_add, st_succ, mul_comm (st k v a t h.val e.val d.val)]
/-- The states kept before trip `t`. -/
theorem at0_all (H : Args q k v a g m c) : ∀ t, t ≤ 64 → ∀ (n : Fin 64) (h : Fin 4) (d e : Fin 128), n.val < t →
    (at0 m c t (Proc.devRef .tc main_v38_4) : FVec Ideal S64x1x4x128x128 .f32) (ix5 n 0 h d e) = ((st k v a n.val h.val e.val d.val : ℝ) : EReal)
  | 0, _, _, _, _, _, hn => absurd hn (Nat.not_lt_zero _)
  | t + 1, ht, n, h, d, e, hn => by
    rw [show at0 m c (t + 1) = afterL body0 (after cond0 (at0 m c t)) from rfl, trip_all,
      cond0_keeps _ main_v38_2 (by decide +kernel), cond0_keeps _ main_v38_3 (by decide +kernel), cond0_keeps _ main_v38_4 (by decide +kernel), at0_ctr]
    refine (nx_all_val _ ⟨t, by omega⟩ (Cert.Proof.GlaLoop.ctr_int t (by omega)) _ _ n h d e).trans ?_
    by_cases h1 : n.val = t
    · rw [if_pos h1, at0_s H t (by omega) h d e, h1]
    · rw [if_neg h1]
      exact at0_all H t (by omega) n h d e (by omega)
/-- The decays kept before trip `t`. -/
theorem at0_dec (H : Args q k v a g m c) : ∀ t, t ≤ 64 → ∀ (n : Fin 64) (h : Fin 4) (d : Fin 128), n.val < t →
    (at0 m c t (Proc.devRef .tc main_v38_5) : FVec Ideal S64x1x4x128x1 .f32) (ix5 n 0 h d 0) = ((Real.exp (cum a n.val 63 (128 * h.val + d.val)) : ℝ) : EReal)
  | 0, _, _, _, _, hn => absurd hn (Nat.not_lt_zero _)
  | t + 1, ht, n, h, d, hn => by
    rw [show at0 m c (t + 1) = afterL body0 (after cond0 (at0 m c t)) from rfl, trip_dec,
      cond0_keeps _ main_v38_2 (by decide +kernel), cond0_keeps _ main_v38_0 (by decide +kernel), cond0_keeps _ main_v38_5 (by decide +kernel), at0_ctr, at0_a]
    refine (nx_dec_val _ ⟨t, by omega⟩ (Cert.Proof.GlaLoop.ctr_int t (by omega)) _ _ n h d).trans ?_
    by_cases h1 : n.val = t
    · rw [if_pos h1, Cert.Proof.GlaRef.v34_val H.fwd, h1]
    · rw [if_neg h1]
      exact at0_dec H t (by omega) n h d (by omega)

theorem left0_all (H : Args q k v a g m c) (n : Fin 64) (h : Fin 4) (d e : Fin 128) :
    (left0 m c (Proc.devRef .tc main_v38_4) : FVec Ideal S64x1x4x128x128 .f32) (ix5 n 0 h d e) = ((st k v a n.val h.val e.val d.val : ℝ) : EReal) := by
  rw [show left0 m c = after cond0 (at0 m c 64) from rfl, cond0_keeps _ main_v38_4 (by decide +kernel)]
  exact at0_all H 64 (le_refl _) n h d e n.isLt
theorem left0_dec (H : Args q k v a g m c) (n : Fin 64) (h : Fin 4) (d : Fin 128) :
    (left0 m c (Proc.devRef .tc main_v38_5) : FVec Ideal S64x1x4x128x1 .f32) (ix5 n 0 h d 0) = ((Real.exp (cum a n.val 63 (128 * h.val + d.val)) : ℝ) : EReal) := by
  rw [show left0 m c = after cond0 (at0 m c 64) from rfl, cond0_keeps _ main_v38_5 (by decide +kernel)]
  exact at0_dec H 64 (le_refl _) n h d n.isLt

variable (m c) in
theorem left0_arg2 : left0 m c (Proc.devRef .tc main_arg2) = A2 m c := (keep0 m c main_arg2 (by decide +kernel)).trans (entry_arg2 m c)
variable (m c) in
theorem left0_v17 : left0 m c (Proc.devRef .tc main_v17) = Cert.Proof.GlaRef.val_main_v17 (A0 m c) (A1 m c) := (keep0 m c main_v17 (by decide +kernel)).trans (entry_v17 m c)

/-- What the second loop is given. -/
theorem in_g (H : Args q k v a g m c) (t : ℕ) (n : Fin 64) (h : Fin 4) (d e : Fin 128) :
    (at1 m c t (Proc.devRef .tc main_v57_0) : FVec Ideal S64x1x4x128x128 .f32) (ix5 n 0 h d e)
      = ((∑ i : Fin 64, g (64 * n.val + i.val) (128 * h.val + e.val) * qd q a n.val i.val (128 * h.val + d.val) : ℝ) : EReal) := by
  rw [show at1 m c t (Proc.devRef .tc main_v57_0) = _ from kept1 main_v57_0 (by decide +kernel) (by decide +kernel) (by decide +kernel) (by decide +kernel) (by decide +kernel) (by decide +kernel) (by decide +kernel) (by decide +kernel) (by decide +kernel) (second m) c t, show second m c = afterL midI (left0 m c) from rfl, at_mid_g, left0_arg2, left0_v17]
  exact mid_g_val H.ct _ (fun n i h d => Cert.Proof.GlaRef.v17_val H.fwd n i h d) n h d e
theorem in_all (H : Args q k v a g m c) (t : ℕ) (n : Fin 64) (h : Fin 4) (d e : Fin 128) :
    (at1 m c t (Proc.devRef .tc main_v57_1) : FVec Ideal S64x1x4x128x128 .f32) (ix5 n 0 h d e) = ((st k v a n.val h.val e.val d.val : ℝ) : EReal) := by
  rw [show at1 m c t (Proc.devRef .tc main_v57_1) = _ from kept1 main_v57_1 (by decide +kernel) (by decide +kernel) (by decide +kernel) (by decide +kernel) (by decide +kernel) (by decide +kernel) (by decide +kernel) (by decide +kernel) (by decide +kernel) (second m) c t, show second m c = afterL midI (left0 m c) from rfl, at_mid_all]
  exact left0_all H n h d e
theorem in_dec (H : Args q k v a g m c) (t : ℕ) (n : Fin 64) (h : Fin 4) (d : Fin 128) :
    (at1 m c t (Proc.devRef .tc main_v57_2) : FVec Ideal S64x1x4x128x1 .f32) (ix5 n 0 h d 0) = ((Real.exp (cum a n.val 63 (128 * h.val + d.val)) : ℝ) : EReal) := by
  rw [show at1 m c t (Proc.devRef .tc main_v57_2) = _ from kept1 main_v57_2 (by decide +kernel) (by decide +kernel) (by decide +kernel) (by decide +kernel) (by decide +kernel) (by decide +kernel) (by decide +kernel) (by decide +kernel) (by decide +kernel) (second m) c t, show second m c = afterL midI (left0 m c) from rfl, at_mid_dec]
  exact left0_dec H n h d

/-- The carried gradient of the state before trip `t`. -/
theorem at1_d (H : Args q k v a g m c) : ∀ t, t ≤ 64 → ∀ (h : Fin 4) (d e : Fin 128),
    (at1 m c t (Proc.devRef .tc main_v57_4) : FVec Ideal S1x4x128x128 .f32) (ix4 0 h d e) = ((E q a g t h.val e.val d.val : ℝ) : EReal)
  | 0, _, h, d, e => by
    rw [show at1 m c 0 = afterL midI (left0 m c) from rfl, at_mid_0]
    exact mid_0_val h d e
  | t + 1, ht, h, d, e => by
    rw [show at1 m c (t + 1) = afterL body1 (after cond1 (at1 m c t)) from rfl, trip_d, cond1_keeps _ main_v57_0 (by decide +kernel), cond1_keeps _ main_v57_2 (by decide +kernel),
      cond1_keeps _ main_v57_3 (by decide +kernel), cond1_keeps _ main_v57_4 (by decide +kernel), at1_ctr]
    refine (nx_d_val (fun _ => Scf.iv 0#32 1#32 t) ⟨63 - t, by omega⟩ (back_int t (by omega)) _ _ _ h d e).trans ?_
    rw [in_g H, in_dec H, at1_d H t (by omega) h d e, ← EReal.coe_mul, ← EReal.coe_add, E_succ]
    refine congrArg _ ?_
    unfold prev
    rw [add_comm, mul_comm (Real.exp _)]
/-- The sums kept before trip `t`. -/
theorem at1_sum (H : Args q k v a g m c) : ∀ t, t ≤ 64 → ∀ (n : Fin 64) (h : Fin 4) (d : Fin 128), 63 - n.val < t →
    (at1 m c t (Proc.devRef .tc main_v57_5) : FVec Ideal S64x1x4x128 .f32) (ix4 n 0 h d)
      = ((∑ e : Fin 128, E q a g (63 - n.val) h.val e.val d.val * st k v a n.val h.val e.val d.val : ℝ) : EReal)
  | 0, _, _, _, _, hn => absurd hn (Nat.not_lt_zero _)
  | t + 1, ht, n, h, d, hn => by
    rw [show at1 m c (t + 1) = afterL body1 (after cond1 (at1 m c t)) from rfl, trip_sum, cond1_keeps _ main_v57_1 (by decide +kernel),
      cond1_keeps _ main_v57_3 (by decide +kernel), cond1_keeps _ main_v57_4 (by decide +kernel), cond1_keeps _ main_v57_5 (by decide +kernel), at1_ctr]
    refine (nx_sum_val (fun _ => Scf.iv 0#32 1#32 t) ⟨63 - t, by omega⟩ (back_int t (by omega)) _ _ _ n h d).trans ?_
    have hl := n.isLt
    by_cases h1 : n.val = 63 - t
    · rw [if_pos h1, h1, show 63 - (63 - t) = t by omega]
      simp only [at1_d H t (by omega), in_all H, ← EReal.coe_mul, coe_sum]
    · rw [if_neg h1]
      exact at1_sum H t (by omega) n h d (by omega)
/-- The gradients kept before trip `t`. -/
theorem at1_keep (H : Args q k v a g m c) : ∀ t, t ≤ 64 → ∀ (n : Fin 64) (h : Fin 4) (d e : Fin 128), 63 - n.val < t →
    (at1 m c t (Proc.devRef .tc main_v57_6) : FVec Ideal S64x1x4x128x128 .f32) (ix5 n 0 h d e) = ((E q a g (63 - n.val) h.val e.val d.val : ℝ) : EReal)
  | 0, _, _, _, _, _, hn => absurd hn (Nat.not_lt_zero _)
  | t + 1, ht, n, h, d, e, hn => by
    rw [show at1 m c (t + 1) = afterL body1 (after cond1 (at1 m c t)) from rfl, trip_keep,
      cond1_keeps _ main_v57_3 (by decide +kernel), cond1_keeps _ main_v57_4 (by decide +kernel), cond1_keeps _ main_v57_6 (by decide +kernel), at1_ctr]
    refine (nx_keep_val (fun _ => Scf.iv 0#32 1#32 t) ⟨63 - t, by omega⟩ (back_int t (by omega)) _ _ n h d e).trans ?_
    have hl := n.isLt
    by_cases h1 : n.val = 63 - t
    · rw [if_pos h1, at1_d H t (by omega) h d e, h1, show 63 - (63 - t) = t by omega]
    · rw [if_neg h1]
      exact at1_keep H t (by omega) n h d e (by omega)

/-! ## When the second loop is left -/

theorem left1_sum (H : Args q k v a g m c) (n : Fin 64) (h : Fin 4) (d : Fin 128) :
    (left1 m c (Proc.devRef .tc main_v57_5) : FVec Ideal S64x1x4x128 .f32) (ix4 n 0 h d)
      = ((∑ e : Fin 128, E q a g (63 - n.val) h.val e.val d.val * st k v a n.val h.val e.val d.val : ℝ) : EReal) := by
  rw [show left1 m c = after cond1 (at1 m c 64) from rfl, cond1_keeps _ main_v57_5 (by decide +kernel)]
  exact at1_sum H 64 (le_refl _) n h d (by omega)
theorem left1_keep (H : Args q k v a g m c) (n : Fin 64) (h : Fin 4) (d e : Fin 128) :
    (left1 m c (Proc.devRef .tc main_v57_6) : FVec Ideal S64x1x4x128x128 .f32) (ix5 n 0 h d e) = ((E q a g (63 - n.val) h.val e.val d.val : ℝ) : EReal) := by
  rw [show left1 m c = after cond1 (at1 m c 64) from rfl, cond1_keeps _ main_v57_6 (by decide +kernel)]
  exact at1_keep H 64 (le_refl _) n h d e (by omega)
theorem left1_do (H : Args q k v a g m c) (n i : Fin 64) (h : Fin 4) (d : Fin 128) :
    (left1 m c (Proc.devRef .tc main_v48) : FVec Ideal S1x64x64x4x128 .f32) (ix5 0 n i h d) = ((g (64 * n.val + i.val) (128 * h.val + d.val) : ℝ) : EReal) := by
  rw [keep1 m c main_v48 (by decide +kernel), show second m c = afterL midI (left0 m c) from rfl, at_mid_do, left0_arg2]
  exact mid_do_val H.ct n i h d
theorem left1_st (H : Args q k v a g m c) (n i : Fin 64) (h : Fin 4) (d : Fin 128) :
    (left1 m c (Proc.devRef .tc main_v51) : FVec Ideal S1x64x64x4x128 .f32) (ix5 0 n i h d)
      = ((∑ e : Fin 128, g (64 * n.val + i.val) (128 * h.val + e.val) * st k v a n.val h.val e.val d.val : ℝ) : EReal) := by
  rw [keep1 m c main_v51 (by decide +kernel), show second m c = afterL midI (left0 m c) from rfl, at_mid_st, left0_arg2]
  exact mid_st_val H.ct _ (fun n h d e => left0_all H n h d e) n i h d

end Cert.Proof.GlaBLoop

end
-- ==== Proof.GlaBPost.lean ====
/- The reference of the gradient of gated linear attention after its loops: what is computed there, as functions of what the loops leave. -/
module

public import proofs.«01_k».proof.Defs
public import proofs.«01_k».proof.Proof.GlaBOps
public import Idealize.ShloMosaic.Lib.Pointwise

@[expose] public section

noncomputable section

namespace Cert.Proof.GlaBPost

open Cert.Reference21Ideal Cert.Reference21Ideal.Gen Idealize.ShloMosaic Idealize.ShloMosaic.TcCoe Idealize.ShloMosaic.Tactic Idealize.ShloMosaic.StableHlo Cert.Proof.GlaBOps

/-- What this stretch reads. -/
structure In where
  z5 : FVec Ideal S64x1x4x128 .f32
  z6 : FVec Ideal S64x1x4x128x128 .f32
  x34 : FVec Ideal S64x1x4x128 .f32
  x31 : FVec Ideal S1x64x64x4x128 .f32
  x11 : FVec Ideal S1x64x64x4x128 .f32
  x10 : FVec Ideal S1x64x64x4x128 .f32
  x30 : FVec Ideal S1x64x64x4x128 .f32
  x48 : FVec Ideal S1x64x64x4x128 .f32
  p24 : FVec Ideal S1x64x4x64x64 .f32
  m24 : IVec S1x64x4x64x64 1
  x17 : FVec Ideal S1x64x64x4x128 .f32
  x20 : FVec Ideal S1x64x64x4x128 .f32
  x51 : FVec Ideal S1x64x64x4x128 .f32
  x9 : FVec Ideal S1x64x64x4x128 .f32
  x19 : FVec Ideal S1x64x64x4x128 .f32
  x16 : FVec Ideal S1x64x64x4x128 .f32
/-- Read in the buffers. -/
abbrev inp (V : Valuation τ sig (Elt Ideal)) : In :=
  ⟨V (Proc.devRef .tc main_v57_5), V (Proc.devRef .tc main_v57_6), V (Proc.devRef .tc main_v34), V (Proc.devRef .tc main_v31), V (Proc.devRef .tc main_v11), V (Proc.devRef .tc main_v10), V (Proc.devRef .tc main_v30), V (Proc.devRef .tc main_v48), V (Proc.devRef .tc main_v24_0), V (Proc.devRef .tc main_v24_1), V (Proc.devRef .tc main_v17), V (Proc.devRef .tc main_v20), V (Proc.devRef .tc main_v51), V (Proc.devRef .tc main_v9), V (Proc.devRef .tc main_v19), V (Proc.devRef .tc main_v16)⟩

def post_v58 (I : In) : FVec Ideal S64x1x4x128 .f32 :=
  mulf I.z5 I.x34
def post_v59 (I : In) : FVec Ideal S1x64x4x128 .f32 :=
  (transpose S1x64x4x128 [1, 0, 2, 3] · transposes_S64x1x4x128_S1x64x4x128_1_0_2_3) (post_v58 I)
def post_v60 (I : In) : FVec Ideal S64x1x4x128x64 .f32 :=
  (fun l r => Host.dotGeneral dot_S64x1x4x128x128_S1x64x64x4x128_S64x1x4x128x64_3_4_4_2_012_103 none l r) I.z6 I.x31
def post_v61 (I : In) : FVec Ideal S1x64x64x4x128 .f32 :=
  (transpose S1x64x64x4x128 [1, 0, 4, 2, 3] · transposes_S64x1x4x128x64_S1x64x64x4x128_1_0_4_2_3) (post_v60 I)
def post_v62 (I : In) : FVec Ideal S64x1x4x128x64 .f32 :=
  (fun l r => Host.dotGeneral dot_S64x1x4x128x128_S1x64x64x4x128_S64x1x4x128x64_4_4_3_2_012_103 none l r) I.z6 I.x11
def post_v63 (I : In) : FVec Ideal S1x64x64x4x128 .f32 :=
  (transpose S1x64x64x4x128 [1, 0, 4, 2, 3] · transposes_S64x1x4x128x64_S1x64x64x4x128_1_0_4_2_3) (post_v62 I)
def post_v64 (I : In) : FVec Ideal S1x64x64x4x128 .f32 :=
  mulf I.x10 (post_v63 I)
def post_v65 (I : In) : FVec Ideal S1x64x64x4x128 .f32 :=
  mulf (post_v63 I) I.x30
def post_v66 (I : In) : FVec Ideal S1x64x64x4x128 .f32 :=
  mulf (post_v64 I) I.x30
def post_cst_10 (I : In) : FVec Ideal S_ .f32 :=
  (constant S_ .f32 0x00000000#32)
def post_v67 (I : In) : FVec Ideal S1x64x4x128 .f32 :=
  (fun x v => Host.reduceAdd x v reducesTo_S1x64x64x4x128_S1x64x4x128_d2 h_S_) (post_v66 I) (post_cst_10 I)
def post_v68 (I : In) : FVec Ideal S1x64x1x4x128 .f32 :=
  shapeCast S1x64x1x4x128 (post_v67 I) shapeCasts_S1x64x4x128_S1x64x1x4x128
def post_v69 (I : In) : FVec Ideal S1x64x64x4x128 .f32 :=
  Host.negf (post_v66 I)
def post_cst_11 (I : In) : FVec Ideal S_ .f32 :=
  (constant S_ .f32 0x00000000#32)
def post_v70 (I : In) : FVec Ideal S64x4x128 .f32 :=
  (fun x v => Host.reduceAdd x v reducesTo_S1x64x1x4x128_S64x4x128_d0_2 h_S_) (post_v68 I) (post_cst_11 I)
def post_v71 (I : In) : FVec Ideal S1x64x4x128 .f32 :=
  (broadcastInDim S1x64x4x128 ![1, 2, 3] bcast_S64x4x128_S1x64x4x128_1_2_3) (post_v70 I)
def post_v72 (I : In) : FVec Ideal S1x64x4x128 .f32 :=
  addf (post_v59 I) (post_v71 I)
def post_v73 (I : In) : FVec Ideal S1x64x4x128x64 .f32 :=
  (transpose S1x64x4x128x64 [0, 1, 3, 4, 2] · transposes_S1x64x64x4x128_S1x64x4x128x64_0_1_3_4_2) I.x48
def post_v74 (I : In) : FVec Ideal S1x64x4x64x64 .f32 :=
  (fun l r => Host.dotGeneral dot_S1x64x4x128x64_S1x64x64x4x128_S1x64x4x64x64_3_4_4_2_012_013 none l r) (post_v73 I) I.x11
def post_v75 (I : In) : FVec Ideal S1x64x4x128x64 .f32 :=
  (fun l r => Host.dotGeneral dot_S1x64x4x128x64_S1x64x4x64x64_S1x64x4x128x64_4_3_3_4_012_012 none l r) (post_v73 I) I.p24
def post_v76 (I : In) : FVec Ideal S1x64x64x4x128 .f32 :=
  (transpose S1x64x64x4x128 [0, 1, 4, 2, 3] · transposes_S1x64x4x128x64_S1x64x64x4x128_0_1_4_2_3) (post_v75 I)
def post_v77 (I : In) : FVec Ideal S1x64x64x4x128 .f32 :=
  addf (post_v61 I) (post_v76 I)
def post_call12_cst (I : In) : FVec Ideal S_ .f32 :=
  (constant S_ .f32 0x00000000#32)
def post_call12_v0 (I : In) : FVec Ideal S1x64x4x64x64 .f32 :=
  (broadcastInDim S1x64x4x64x64 ![] bcast_S_S1x64x4x64x64) (post_call12_cst I)
def post_v78 (I : In) : FVec Ideal S1x64x4x64x64 .f32 :=
  select I.m24 (post_v74 I) (post_call12_v0 I)
def post_v79 (I : In) : FVec Ideal S1x64x4x64x128 .f32 :=
  (fun l r => Host.dotGeneral dot_S1x64x4x64x64_S1x64x64x4x128_S1x64x4x64x128_3_2_4_4_012_013 none l r) (post_v78 I) I.x17
def post_v80 (I : In) : FVec Ideal S1x64x64x4x128 .f32 :=
  (transpose S1x64x64x4x128 [0, 1, 3, 2, 4] · transposes_S1x64x4x64x128_S1x64x64x4x128_0_1_3_2_4) (post_v79 I)
def post_v81 (I : In) : FVec Ideal S1x64x4x64x128 .f32 :=
  (fun l r => Host.dotGeneral dot_S1x64x4x64x64_S1x64x64x4x128_S1x64x4x64x128_4_2_3_4_012_013 none l r) (post_v78 I) I.x20
def post_v82 (I : In) : FVec Ideal S1x64x64x4x128 .f32 :=
  (transpose S1x64x64x4x128 [0, 1, 3, 2, 4] · transposes_S1x64x4x64x128_S1x64x64x4x128_0_1_3_2_4) (post_v81 I)
def post_v83 (I : In) : FVec Ideal S1x64x64x4x128 .f32 :=
  addf I.x51 (post_v82 I)
def post_v84 (I : In) : FVec Ideal S1x64x64x4x128 .f32 :=
  mulf I.x10 (post_v80 I)
def post_v85 (I : In) : FVec Ideal S1x64x64x4x128 .f32 :=
  mulf (post_v80 I) I.x19
def post_v86 (I : In) : FVec Ideal S1x64x64x4x128 .f32 :=
  addf (post_v65 I) (post_v85 I)
def post_v87 (I : In) : FVec Ideal S1x64x64x4x128 .f32 :=
  mulf (post_v84 I) I.x19
def post_v88 (I : In) : FVec Ideal S1x64x64x4x128 .f32 :=
  Host.negf (post_v87 I)
def post_v89 (I : In) : FVec Ideal S1x64x64x4x128 .f32 :=
  addf (post_v69 I) (post_v88 I)
def post_v90 (I : In) : FVec Ideal S1x64x64x4x128 .f32 :=
  mulf I.x9 (post_v83 I)
def post_v91 (I : In) : FVec Ideal S1x64x64x4x128 .f32 :=
  mulf (post_v83 I) I.x16
def post_v92 (I : In) : FVec Ideal S1x64x64x4x128 .f32 :=
  mulf (post_v90 I) I.x16
def post_v93 (I : In) : FVec Ideal S1x64x64x4x128 .f32 :=
  addf (post_v89 I) (post_v92 I)
def post_v94 (I : In) : FVec Ideal S1x64x1x4x128 .f32 :=
  (broadcastInDim S1x64x1x4x128 ![0, 1, 3, 4] bcast_S1x64x4x128_S1x64x1x4x128_0_1_3_4) (post_v72 I)
def post_cst_12 (I : In) : FVec Ideal S_ .f32 :=
  (constant S_ .f32 0x00000000#32)
def post_v95 (I : In) : FVec Ideal S1x64x64x4x128 .f32 :=
  (fun x v => pad S1x64x64x4x128 ![0, 0, 63, 0, 0] ![0, 0, 0, 0, 0] ![0, 0, 0, 0, 0] x v pads_S1x64x1x4x128_S1x64x64x4x128_000_000_6300_000_000 h_S_) (post_v94 I) (post_cst_12 I)
def post_v96 (I : In) : FVec Ideal S1x64x64x4x128 .f32 :=
  addf (post_v93 I) (post_v95 I)
def post_call13_call0_cst (I : In) : FVec Ideal S_ .f32 :=
  (constant S_ .f32 0x00000000#32)
def post_call13_call0_v0 (I : In) : FVec Ideal S_ .f32 :=
  (broadcastInDim S_ ![] bcast_S_S_) (post_call13_call0_cst I)
def post_v97 (I : In) : FVec Ideal S1x64x64x4x128 .f32 :=
  (fun x v => Host.reduceWindowAdd ![1, 1, 64, 1, 1] ![1, 1, 1, 1, 1] ![0, 0, 0, 0, 0] ![0, 0, 63, 0, 0] x v reduceWindows_S1x64x64x4x128_S1x64x64x4x128_w1s1p0_0_w1s1p0_0_w64s1p0_63_w1s1p0_0_w1s1p0_0 h_S_) (post_v96 I) (post_call13_call0_v0 I)
def post_v98 (I : In) : FVec Ideal S1x4096x4x128 .f32 :=
  shapeCast S1x4096x4x128 (post_v97 I) shapeCasts_S1x64x64x4x128_S1x4096x4x128
def post_v99 (I : In) : FVec Ideal S1x4096x4x128 .f32 :=
  shapeCast S1x4096x4x128 (post_v77 I) shapeCasts_S1x64x64x4x128_S1x4096x4x128
def post_v100 (I : In) : FVec Ideal S1x4096x4x128 .f32 :=
  shapeCast S1x4096x4x128 (post_v86 I) shapeCasts_S1x64x64x4x128_S1x4096x4x128
def post_v101 (I : In) : FVec Ideal S1x4096x4x128 .f32 :=
  shapeCast S1x4096x4x128 (post_v91 I) shapeCasts_S1x64x64x4x128_S1x4096x4x128
def post_v102 (I : In) : FVec Ideal S4096x512 .f32 :=
  shapeCast S4096x512 (post_v98 I) shapeCasts_S1x4096x4x128_S4096x512
def post_v103 (I : In) : FVec Ideal S4096x512 .f32 :=
  shapeCast S4096x512 (post_v99 I) shapeCasts_S1x4096x4x128_S4096x512
def post_v104 (I : In) : FVec Ideal S4096x512 .f32 :=
  shapeCast S4096x512 (post_v100 I) shapeCasts_S1x4096x4x128_S4096x512
def post_cst_13 (I : In) : FVec Ideal S_ .f32 :=
  (constant S_ .f32 0x3DB504F3#32)
def post_v105 (I : In) : FVec Ideal S1x4096x4x128 .f32 :=
  (broadcastInDim S1x4096x4x128 ![] bcast_S_S1x4096x4x128) (post_cst_13 I)
def post_v106 (I : In) : FVec Ideal S1x4096x4x128 .f32 :=
  mulf (post_v101 I) (post_v105 I)
def post_v107 (I : In) : FVec Ideal S4096x512 .f32 :=
  shapeCast S4096x512 (post_v106 I) shapeCasts_S1x4096x4x128_S4096x512

set_option maxRecDepth 100000 in
set_option maxHeartbeats 8000000 in
theorem at_v107 (V : Valuation τ sig (Elt Ideal)) : afterL postI V (Proc.devRef .tc main_v107) = post_v107 (inp V) := by
  simp only [afterL_cons, afterL_nil]
  after_reads_simp
  rfl
set_option maxRecDepth 100000 in
set_option maxHeartbeats 8000000 in
theorem at_v104 (V : Valuation τ sig (Elt Ideal)) : afterL postI V (Proc.devRef .tc main_v104) = post_v104 (inp V) := by
  simp only [afterL_cons, afterL_nil]
  after_reads_simp
  rfl
set_option maxRecDepth 100000 in
set_option maxHeartbeats 8000000 in
theorem at_v103 (V : Valuation τ sig (Elt Ideal)) : afterL postI V (Proc.devRef .tc main_v103) = post_v103 (inp V) := by
  simp only [afterL_cons, afterL_nil]
  after_reads_simp
  rfl
set_option maxRecDepth 100000 in
set_option maxHeartbeats 8000000 in
theorem at_v102 (V : Valuation τ sig (Elt Ideal)) : afterL postI V (Proc.devRef .tc main_v102) = post_v102 (inp V) := by
  simp only [afterL_cons, afterL_nil]
  after_reads_simp
  rfl

end Cert.Proof.GlaBPost

end
-- ==== Proof.GlaBRes.lean ====
/- The reference of the gradient of gated linear attention after its loops: its four results over reals. -/
module

public import proofs.«01_k».proof.Proof.GlaBPost
public import proofs.«01_k».proof.Proof.GlaBVal
public import proofs.«01_k».proof.Proof.GlaSum

@[expose] public section

noncomputable section

namespace Cert.Proof.GlaBRes

open Cert.Reference21Ideal Cert.Reference21Ideal.Gen Idealize.ShloMosaic Idealize.ShloMosaic.TcCoe
open Cert.Proof.Arith Cert.Proof.GlaModel Cert.Proof.GlaBModel Cert.Proof.GlaSum Cert.Proof.GlaBVal Cert.Proof.GlaBPost

variable (q k v a g : ℕ → ℕ → ℝ) (I : In)

/-- What this stretch reads, over reals. -/
structure InReal : Prop where
  z5 : ∀ (n : Fin 64) (h : Fin 4) (d : Fin 128), I.z5 (ix4 n 0 h d) = ((∑ e : Fin 128, E q a g (63 - n.val) h.val e.val d.val * st k v a n.val h.val e.val d.val : ℝ) : EReal)
  z6 : ∀ (n : Fin 64) (h : Fin 4) (d e : Fin 128), I.z6 (ix5 n 0 h d e) = ((E q a g (63 - n.val) h.val e.val d.val : ℝ) : EReal)
  x34 : ∀ (n : Fin 64) (h : Fin 4) (d : Fin 128), I.x34 (ix4 n 0 h d) = ((Real.exp (cum a n.val 63 (128 * h.val + d.val)) : ℝ) : EReal)
  x31 : ∀ (n i : Fin 64) (h : Fin 4) (d : Fin 128), I.x31 (ix5 0 n i h d) = ((ke k a n.val i.val (128 * h.val + d.val) : ℝ) : EReal)
  x11 : ∀ (n i : Fin 64) (h : Fin 4) (d : Fin 128), I.x11 (ix5 0 n i h d) = ((v (64 * n.val + i.val) (128 * h.val + d.val) : ℝ) : EReal)
  x10 : ∀ (n i : Fin 64) (h : Fin 4) (d : Fin 128), I.x10 (ix5 0 n i h d) = ((k (64 * n.val + i.val) (128 * h.val + d.val) : ℝ) : EReal)
  x30 : ∀ (n i : Fin 64) (h : Fin 4) (d : Fin 128), I.x30 (ix5 0 n i h d) = ((Real.exp (cum a n.val 63 (128 * h.val + d.val) - cum a n.val i.val (128 * h.val + d.val)) : ℝ) : EReal)
  x48 : ∀ (n i : Fin 64) (h : Fin 4) (d : Fin 128), I.x48 (ix5 0 n i h d) = ((g (64 * n.val + i.val) (128 * h.val + d.val) : ℝ) : EReal)
  p24 : ∀ (n i j : Fin 64) (h : Fin 4), I.p24 (ix5 0 n h i j) = ((pp q k a n.val h.val i.val j.val : ℝ) : EReal)
  m24 : ∀ (n i j : Fin 64) (h : Fin 4), I.m24 (ix5 0 n h i j) = if j.val ≤ i.val then 1#1 else 0#1
  x17 : ∀ (n i : Fin 64) (h : Fin 4) (d : Fin 128), I.x17 (ix5 0 n i h d) = ((qd q a n.val i.val (128 * h.val + d.val) : ℝ) : EReal)
  x20 : ∀ (n i : Fin 64) (h : Fin 4) (d : Fin 128), I.x20 (ix5 0 n i h d) = ((kd k a n.val i.val (128 * h.val + d.val) : ℝ) : EReal)
  x51 : ∀ (n i : Fin 64) (h : Fin 4) (d : Fin 128), I.x51 (ix5 0 n i h d) = ((∑ e : Fin 128, g (64 * n.val + i.val) (128 * h.val + e.val) * st k v a n.val h.val e.val d.val : ℝ) : EReal)
  x9 : ∀ (n i : Fin 64) (h : Fin 4) (d : Fin 128), I.x9 (ix5 0 n i h d) = ((q (64 * n.val + i.val) (128 * h.val + d.val) * sc : ℝ) : EReal)
  x19 : ∀ (n i : Fin 64) (h : Fin 4) (d : Fin 128), I.x19 (ix5 0 n i h d) = ((Real.exp (-cum a n.val i.val (128 * h.val + d.val)) : ℝ) : EReal)
  x16 : ∀ (n i : Fin 64) (h : Fin 4) (d : Fin 128), I.x16 (ix5 0 n i h d) = ((Real.exp (cum a n.val i.val (128 * h.val + d.val)) : ℝ) : EReal)

variable {q k v a g I}

theorem select_word {α : Type} (i j : Fin 64) (x y : α) : Scalar.select (if j.val ≤ i.val then 1#1 else 0#1) x y = if j.val ≤ i.val then x else y := by
  by_cases h : j.val ≤ i.val
  · rw [if_pos h, if_pos h]; rfl
  · rw [if_neg h, if_neg h]; rfl

theorem v63_val (H : InReal q k v a g I) (n i : Fin 64) (h : Fin 4) (d : Fin 128) : post_v63 I (ix5 0 n i h d) = ((dke v (E q a g (63 - n.val)) n.val h.val i.val d.val : ℝ) : EReal) := by
  pointwise [post_v63, post_v62]
  simp only [H.z6, H.x11, ← EReal.coe_mul, coe_sum]
  refine congrArg _ (Finset.sum_congr rfl fun e _ => mul_comm _ _)
theorem v61_val (H : InReal q k v a g I) (n i : Fin 64) (h : Fin 4) (d : Fin 128) : post_v61 I (ix5 0 n i h d) = ((∑ x : Fin 128, ke k a n.val i.val (128 * h.val + x.val) * E q a g (63 - n.val) h.val d.val x.val : ℝ) : EReal) := by
  pointwise [post_v61, post_v60]
  simp only [H.z6, H.x31, ← EReal.coe_mul, coe_sum]
  refine congrArg _ (Finset.sum_congr rfl fun e _ => mul_comm _ _)
theorem v66_val (H : InReal q k v a g I) (n i : Fin 64) (h : Fin 4) (d : Fin 128) : post_v66 I (ix5 0 n i h d) = ((dke v (E q a g (63 - n.val)) n.val h.val i.val d.val * ke k a n.val i.val (128 * h.val + d.val) : ℝ) : EReal) := by
  pointwise [post_v66, post_v64]
  rw [v63_val H, H.x10, H.x30, ← EReal.coe_mul, ← EReal.coe_mul]
  refine congrArg _ ?_
  unfold ke
  ring
/-- The gradient of the decay over a chunk. -/
theorem v70_val (H : InReal q k v a g I) (n : Fin 64) (h : Fin 4) (d : Fin 128) :
    post_v70 I (ix3 n h d) = ((∑ j : Fin 64, dke v (E q a g (63 - n.val)) n.val h.val j.val d.val * ke k a n.val j.val (128 * h.val + d.val) : ℝ) : EReal) := by
  pointwise [post_v70]
  rw [sum_02]
  pointwise [post_v68, post_v67, post_cst_10, post_cst_11]
  simp only [v66_val H, coe_sum]
theorem v72_val (H : InReal q k v a g I) (n : Fin 64) (h : Fin 4) (d : Fin 128) : post_v72 I (ix4 0 n h d) = ((dbl k v a (E q a g (63 - n.val)) (st k v a n.val) n.val h.val d.val : ℝ) : EReal) := by
  pointwise [post_v72, post_v71, post_v59, post_v58]
  rw [v70_val H, H.z5, H.x34, ← EReal.coe_mul, ← EReal.coe_add]
  refine congrArg _ ?_
  unfold dbl
  rw [mul_comm (Real.exp _)]
theorem v78_val (H : InReal q k v a g I) (n i j : Fin 64) (h : Fin 4) : post_v78 I (ix5 0 n h i j) = ((dp v g n.val h.val i.val j.val : ℝ) : EReal) := by
  pointwise [post_v78, post_v74, post_v73, post_call12_v0, post_call12_cst]
  rw [H.m24, select_word]
  simp only [H.x48, H.x11, ← EReal.coe_mul, coe_sum, ite_coe]
  rfl
theorem v77_val (H : InReal q k v a g I) (n i : Fin 64) (h : Fin 4) (d : Fin 128) : post_v77 I (ix5 0 n i h d) = ((dv q k a g (E q a g (63 - n.val)) n.val h.val i.val d.val : ℝ) : EReal) := by
  pointwise [post_v77, post_v76, post_v75, post_v73]
  rw [v61_val H]
  simp only [H.x48, H.p24, ← EReal.coe_mul, coe_sum, ← EReal.coe_add]
  refine congrArg _ ?_
  unfold dv
  rw [add_comm]
  exact congrArg (· + _) (Finset.sum_congr rfl fun e _ => mul_comm _ _)
theorem v80_val (H : InReal q k v a g I) (n i : Fin 64) (h : Fin 4) (d : Fin 128) : post_v80 I (ix5 0 n i h d) = ((dkd q v a g n.val h.val i.val d.val : ℝ) : EReal) := by
  pointwise [post_v80, post_v79]
  simp only [v78_val H, H.x17, ← EReal.coe_mul, coe_sum]
  rfl
theorem v83_val (H : InReal q k v a g I) (n i : Fin 64) (h : Fin 4) (d : Fin 128) : post_v83 I (ix5 0 n i h d) = ((dqd k v a g (st k v a n.val) n.val h.val i.val d.val : ℝ) : EReal) := by
  pointwise [post_v83, post_v82, post_v81]
  rw [H.x51]
  simp only [v78_val H, H.x20, ← EReal.coe_mul, coe_sum, ← EReal.coe_add]
  refine congrArg _ ?_
  unfold dqd
  rw [add_comm]
theorem v86_val (H : InReal q k v a g I) (n i : Fin 64) (h : Fin 4) (d : Fin 128) : post_v86 I (ix5 0 n i h d) = ((dk q v a g (E q a g (63 - n.val)) n.val h.val i.val d.val : ℝ) : EReal) := by
  pointwise [post_v86, post_v65, post_v85]
  rw [v63_val H, v80_val H, H.x30, H.x19, ← EReal.coe_mul, ← EReal.coe_mul, ← EReal.coe_add, add_comm]
  rfl
theorem v91_val (H : InReal q k v a g I) (n i : Fin 64) (h : Fin 4) (d : Fin 128) : post_v91 I (ix5 0 n i h d) = ((dqd k v a g (st k v a n.val) n.val h.val i.val d.val * Real.exp (cum a n.val i.val (128 * h.val + d.val)) : ℝ) : EReal) := by
  pointwise [post_v91]
  rw [v83_val H, H.x16, ← EReal.coe_mul]
theorem v93_val (H : InReal q k v a g I) (n i : Fin 64) (h : Fin 4) (d : Fin 128) : post_v93 I (ix5 0 n i h d) = ((db q k v a g (E q a g (63 - n.val)) (st k v a n.val) n.val h.val i.val d.val : ℝ) : EReal) := by
  pointwise [post_v93, post_v92, post_v90, post_v89, post_v88, post_v87, post_v84, post_v69]
  rw [v66_val H, v80_val H, v83_val H, H.x10, H.x19, H.x9, H.x16]
  simp only [← EReal.coe_mul, ← EReal.coe_neg, ← EReal.coe_add]
  refine congrArg _ ?_
  unfold db qd kd
  ring
/-- A chunk's own gradient, on its last row. -/
theorem v95_val (H : InReal q k v a g I) (n i : Fin 64) (h : Fin 4) (d : Fin 128) : post_v95 I (ix5 0 n i h d) = ((if i.val = 63 then dbl k v a (E q a g (63 - n.val)) (st k v a n.val) n.val h.val d.val else 0 : ℝ) : EReal) := by
  pointwise [post_v95, post_v94]
  have hz : post_cst_12 I (Shape.Idx.first h_S_) = ((0 : ℝ) : EReal) := by
    unfold post_cst_12
    pointwise []
    exact EReal.coe_zero.symm
  by_cases hi : i.val = 63
  · rw [dif_pos (by omega), if_pos hi, v72_val H]
  · rw [dif_neg (by omega), if_neg hi, hz]
theorem v96_val (H : InReal q k v a g I) (n i : Fin 64) (h : Fin 4) (d : Fin 128) : post_v96 I (ix5 0 n i h d) = ((dbb q k v a g (E q a g (63 - n.val)) (st k v a n.val) n.val h.val i.val d.val : ℝ) : EReal) := by
  pointwise [post_v96]
  rw [v93_val H, v95_val H, ← EReal.coe_add]
  refine congrArg _ ?_
  unfold dbb
  split
  · rfl
  · exact add_zero _
theorem v97_val (H : InReal q k v a g I) (n i : Fin 64) (h : Fin 4) (d : Fin 128) : post_v97 I (ix5 0 n i h d) = ((dla q k v a g (E q a g (63 - n.val)) (st k v a n.val) n.val h.val i.val d.val : ℝ) : EReal) := by
  unfold post_v97
  refine (cumsum_up_apply _ _ ?_ _ _ n i h d).trans ?_
  · pointwise [post_call13_call0_v0, post_call13_call0_cst]
  · simp only [v96_val H, ite_coe, coe_sum]
    rfl

/-! ## The results -/

theorem v107_val (H : InReal q k v a g I) (r : Fin 4096) (x : Fin 512) : post_v107 I (ix2 r x) = ((dq k v a g (st k v a (r.val / 64)) (r.val / 64) (x.val / 128) (r.val % 64) (x.val % 128) : ℝ) : EReal) := by
  pointwise [post_v107, post_v106, post_v105, post_v101, post_cst_13]
  rw [v91_val H, sc_word, ← EReal.coe_mul]
  rfl
theorem v104_val (H : InReal q k v a g I) (r : Fin 4096) (x : Fin 512) : post_v104 I (ix2 r x) = ((dk q v a g (E q a g (63 - r.val / 64)) (r.val / 64) (x.val / 128) (r.val % 64) (x.val % 128) : ℝ) : EReal) := by
  pointwise [post_v104, post_v100]
  rw [v86_val H]
theorem v103_val (H : InReal q k v a g I) (r : Fin 4096) (x : Fin 512) : post_v103 I (ix2 r x) = ((dv q k a g (E q a g (63 - r.val / 64)) (r.val / 64) (x.val / 128) (r.val % 64) (x.val % 128) : ℝ) : EReal) := by
  pointwise [post_v103, post_v99]
  rw [v77_val H]
theorem v102_val (H : InReal q k v a g I) (r : Fin 4096) (x : Fin 512) : post_v102 I (ix2 r x) = ((dla q k v a g (E q a g (63 - r.val / 64)) (st k v a (r.val / 64)) (r.val / 64) (x.val / 128) (r.val % 64) (x.val % 128) : ℝ) : EReal) := by
  pointwise [post_v102, post_v98]
  rw [v97_val H]

end Cert.Proof.GlaBRes

end
-- ==== Proof.GlaBFinal.lean ====
/- The reference of the gradient of gated linear attention: its four results over reals, and its arguments, which it keeps. -/
module

public import proofs.«01_k».proof.Proof.GlaBLoop
public import proofs.«01_k».proof.Proof.GlaBRes

@[expose] public section

noncomputable section

namespace Cert.Proof.GlaBFinal

open Cert.Reference21Ideal Cert.Reference21Ideal.Gen Idealize.ShloMosaic Idealize.ShloMosaic.TcCoe Idealize.ShloMosaic.Tactic Idealize.ShloMosaic.StableHlo
open Cert.Proof.Arith Cert.Proof.GlaModel Cert.Proof.GlaBModel Cert.Proof.GlaBOps Cert.Proof.GlaBRun Cert.Proof.GlaBEntry Cert.Proof.GlaBLoop Cert.Proof.GlaBPost Cert.Proof.GlaBRes

section
open Cert.Proof.GlaRef

/-! ## What the values before the loops are -/

variable {q k v a : ℕ → ℕ → ℝ} {x0 : FVec Ideal S4096x6656 .f32} {x1 : FVec Ideal S4096x512 .f32}

theorem v16_val (H : Real q k v a x0 x1) (n i : Fin 64) (h : Fin 4) (d : Fin 128) :
    val_main_v16 x0 x1 (ix5 0 n i h d) = ((Real.exp (cum a n.val i.val (128 * h.val + d.val)) : ℝ) : EReal) := by
  pointwise [val_main_v16]
  rw [v13_val H, exp_coe]
theorem v19_val (H : Real q k v a x0 x1) (n i : Fin 64) (h : Fin 4) (d : Fin 128) :
    val_main_v19 x0 x1 (ix5 0 n i h d) = ((Real.exp (-cum a n.val i.val (128 * h.val + d.val)) : ℝ) : EReal) := by
  pointwise [val_main_v19, val_main_v18]
  rw [v13_val H, ← EReal.coe_neg, exp_coe]
theorem v30_val (H : Real q k v a x0 x1) (n i : Fin 64) (h : Fin 4) (d : Fin 128) :
    val_main_v30 x0 x1 (ix5 0 n i h d) = ((Real.exp (cum a n.val 63 (128 * h.val + d.val) - cum a n.val i.val (128 * h.val + d.val)) : ℝ) : EReal) := by
  pointwise [val_main_v30, val_main_v29, val_main_v28, val_main_v27]
  rw [v15_val H, v13_val H, ← EReal.coe_sub, exp_coe]
theorem v31_val (H : Real q k v a x0 x1) (n i : Fin 64) (h : Fin 4) (d : Fin 128) :
    val_main_v31 x0 x1 (ix5 0 n i h d) = ((ke k a n.val i.val (128 * h.val + d.val) : ℝ) : EReal) := by
  pointwise [val_main_v31]
  rw [v10_val H, v30_val H, ← EReal.coe_mul]
  rfl
theorem mask_val (n i j : Fin 64) (h : Fin 4) : val_main_call2_v1 x0 x1 (ix5 0 n h i j) = if j.val ≤ i.val then 1#1 else 0#1 := by
  pointwise [val_main_call2_v1, val_main_v22, val_main_call1_v4, val_main_call1_v2, val_main_call1_v0, val_main_call1_v1, val_main_call1_c, val_main_v21, val_main_c, val_main_call1_v5, val_main_call1_c_0, val_main_call1_v3]
  rw [tril_word]
  split <;> rfl

end

variable {q k v a g : ℕ → ℕ → ℝ} {m : (ℓ : Loc nD τ sig) → Buf (Elt Ideal) ℓ} {c : Dev nD}

theorem real_of (V : Valuation τ sig (Elt Ideal))
    (a_z5 : FVec Ideal S64x1x4x128 .f32) (e_z5 : V (Proc.devRef .tc main_v57_5) = a_z5) (h_z5 : ∀ (n : Fin 64) (h : Fin 4) (d : Fin 128), a_z5 (ix4 n 0 h d) = ((∑ e : Fin 128, E q a g (63 - n.val) h.val e.val d.val * st k v a n.val h.val e.val d.val : ℝ) : EReal))
    (a_z6 : FVec Ideal S64x1x4x128x128 .f32) (e_z6 : V (Proc.devRef .tc main_v57_6) = a_z6) (h_z6 : ∀ (n : Fin 64) (h : Fin 4) (d e : Fin 128), a_z6 (ix5 n 0 h d e) = ((E q a g (63 - n.val) h.val e.val d.val : ℝ) : EReal))
    (a_x34 : FVec Ideal S64x1x4x128 .f32) (e_x34 : V (Proc.devRef .tc main_v34) = a_x34) (h_x34 : ∀ (n : Fin 64) (h : Fin 4) (d : Fin 128), a_x34 (ix4 n 0 h d) = ((Real.exp (cum a n.val 63 (128 * h.val + d.val)) : ℝ) : EReal))
    (a_x31 : FVec Ideal S1x64x64x4x128 .f32) (e_x31 : V (Proc.devRef .tc main_v31) = a_x31) (h_x31 : ∀ (n i : Fin 64) (h : Fin 4) (d : Fin 128), a_x31 (ix5 0 n i h d) = ((ke k a n.val i.val (128 * h.val + d.val) : ℝ) : EReal))
    (a_x11 : FVec Ideal S1x64x64x4x128 .f32) (e_x11 : V (Proc.devRef .tc main_v11) = a_x11) (h_x11 : ∀ (n i : Fin 64) (h : Fin 4) (d : Fin 128), a_x11 (ix5 0 n i h d) = ((v (64 * n.val + i.val) (128 * h.val + d.val) : ℝ) : EReal))
    (a_x10 : FVec Ideal S1x64x64x4x128 .f32) (e_x10 : V (Proc.devRef .tc main_v10) = a_x10) (h_x10 : ∀ (n i : Fin 64) (h : Fin 4) (d : Fin 128), a_x10 (ix5 0 n i h d) = ((k (64 * n.val + i.val) (128 * h.val + d.val) : ℝ) : EReal))
    (a_x30 : FVec Ideal S1x64x64x4x128 .f32) (e_x30 : V (Proc.devRef .tc main_v30) = a_x30) (h_x30 : ∀ (n i : Fin 64) (h : Fin 4) (d : Fin 128), a_x30 (ix5 0 n i h d) = ((Real.exp (cum a n.val 63 (128 * h.val + d.val) - cum a n.val i.val (128 * h.val + d.val)) : ℝ) : EReal))
    (a_x48 : FVec Ideal S1x64x64x4x128 .f32) (e_x48 : V (Proc.devRef .tc main_v48) = a_x48) (h_x48 : ∀ (n i : Fin 64) (h : Fin 4) (d : Fin 128), a_x48 (ix5 0 n i h d) = ((g (64 * n.val + i.val) (128 * h.val + d.val) : ℝ) : EReal))
    (a_p24 : FVec Ideal S1x64x4x64x64 .f32) (e_p24 : V (Proc.devRef .tc main_v24_0) = a_p24) (h_p24 : ∀ (n i j : Fin 64) (h : Fin 4), a_p24 (ix5 0 n h i j) = ((pp q k a n.val h.val i.val j.val : ℝ) : EReal))
    (a_m24 : IVec S1x64x4x64x64 1) (e_m24 : V (Proc.devRef .tc main_v24_1) = a_m24) (h_m24 : ∀ (n i j : Fin 64) (h : Fin 4), a_m24 (ix5 0 n h i j) = if j.val ≤ i.val then 1#1 else 0#1)
    (a_x17 : FVec Ideal S1x64x64x4x128 .f32) (e_x17 : V (Proc.devRef .tc main_v17) = a_x17) (h_x17 : ∀ (n i : Fin 64) (h : Fin 4) (d : Fin 128), a_x17 (ix5 0 n i h d) = ((qd q a n.val i.val (128 * h.val + d.val) : ℝ) : EReal))
    (a_x20 : FVec Ideal S1x64x64x4x128 .f32) (e_x20 : V (Proc.devRef .tc main_v20) = a_x20) (h_x20 : ∀ (n i : Fin 64) (h : Fin 4) (d : Fin 128), a_x20 (ix5 0 n i h d) = ((kd k a n.val i.val (128 * h.val + d.val) : ℝ) : EReal))
    (a_x51 : FVec Ideal S1x64x64x4x128 .f32) (e_x51 : V (Proc.devRef .tc main_v51) = a_x51) (h_x51 : ∀ (n i : Fin 64) (h : Fin 4) (d : Fin 128), a_x51 (ix5 0 n i h d) = ((∑ e : Fin 128, g (64 * n.val + i.val) (128 * h.val + e.val) * st k v a n.val h.val e.val d.val : ℝ) : EReal))
    (a_x9 : FVec Ideal S1x64x64x4x128 .f32) (e_x9 : V (Proc.devRef .tc main_v9) = a_x9) (h_x9 : ∀ (n i : Fin 64) (h : Fin 4) (d : Fin 128), a_x9 (ix5 0 n i h d) = ((q (64 * n.val + i.val) (128 * h.val + d.val) * sc : ℝ) : EReal))
    (a_x19 : FVec Ideal S1x64x64x4x128 .f32) (e_x19 : V (Proc.devRef .tc main_v19) = a_x19) (h_x19 : ∀ (n i : Fin 64) (h : Fin 4) (d : Fin 128), a_x19 (ix5 0 n i h d) = ((Real.exp (-cum a n.val i.val (128 * h.val + d.val)) : ℝ) : EReal))
    (a_x16 : FVec Ideal S1x64x64x4x128 .f32) (e_x16 : V (Proc.devRef .tc main_v16) = a_x16) (h_x16 : ∀ (n i : Fin 64) (h : Fin 4) (d : Fin 128), a_x16 (ix5 0 n i h d) = ((Real.exp (cum a n.val i.val (128 * h.val + d.val)) : ℝ) : EReal)) : InReal q k v a g (inp V) := by
  subst e_z5 e_z6 e_x34 e_x31 e_x11 e_x10 e_x30 e_x48 e_p24 e_m24 e_x17 e_x20 e_x51 e_x9 e_x19 e_x16
  exact ⟨h_z5, h_z6, h_x34, h_x31, h_x11, h_x10, h_x30, h_x48, h_p24, h_m24, h_x17, h_x20, h_x51, h_x9, h_x19, h_x16⟩
theorem left1_v34 : left1 m c (Proc.devRef .tc main_v34) = GlaRef.val_main_v34 (A0 m c) (A1 m c) :=
  (keep m c main_v34 (by decide +kernel) (by decide +kernel) (by decide +kernel)).trans (entry_v34 m c)
theorem left1_v31 : left1 m c (Proc.devRef .tc main_v31) = GlaRef.val_main_v31 (A0 m c) (A1 m c) :=
  (keep m c main_v31 (by decide +kernel) (by decide +kernel) (by decide +kernel)).trans (entry_v31 m c)
theorem left1_v11 : left1 m c (Proc.devRef .tc main_v11) = GlaRef.val_main_v11 (A0 m c) (A1 m c) :=
  (keep m c main_v11 (by decide +kernel) (by decide +kernel) (by decide +kernel)).trans (entry_v11 m c)
theorem left1_v10 : left1 m c (Proc.devRef .tc main_v10) = GlaRef.val_main_v10 (A0 m c) (A1 m c) :=
  (keep m c main_v10 (by decide +kernel) (by decide +kernel) (by decide +kernel)).trans (entry_v10 m c)
theorem left1_v30 : left1 m c (Proc.devRef .tc main_v30) = GlaRef.val_main_v30 (A0 m c) (A1 m c) :=
  (keep m c main_v30 (by decide +kernel) (by decide +kernel) (by decide +kernel)).trans (entry_v30 m c)
theorem left1_v24_0 : left1 m c (Proc.devRef .tc main_v24_0) = GlaRef.val_main_v24 (A0 m c) (A1 m c) :=
  (keep m c main_v24_0 (by decide +kernel) (by decide +kernel) (by decide +kernel)).trans (entry_v24_0 m c)
theorem left1_v24_1 : left1 m c (Proc.devRef .tc main_v24_1) = GlaRef.val_main_call2_v1 (A0 m c) (A1 m c) :=
  (keep m c main_v24_1 (by decide +kernel) (by decide +kernel) (by decide +kernel)).trans (entry_v24_1 m c)
theorem left1_v17 : left1 m c (Proc.devRef .tc main_v17) = GlaRef.val_main_v17 (A0 m c) (A1 m c) :=
  (keep m c main_v17 (by decide +kernel) (by decide +kernel) (by decide +kernel)).trans (entry_v17 m c)
theorem left1_v20 : left1 m c (Proc.devRef .tc main_v20) = GlaRef.val_main_v20 (A0 m c) (A1 m c) :=
  (keep m c main_v20 (by decide +kernel) (by decide +kernel) (by decide +kernel)).trans (entry_v20 m c)
theorem left1_v9 : left1 m c (Proc.devRef .tc main_v9) = GlaRef.val_main_v9 (A0 m c) (A1 m c) :=
  (keep m c main_v9 (by decide +kernel) (by decide +kernel) (by decide +kernel)).trans (entry_v9 m c)
theorem left1_v19 : left1 m c (Proc.devRef .tc main_v19) = GlaRef.val_main_v19 (A0 m c) (A1 m c) :=
  (keep m c main_v19 (by decide +kernel) (by decide +kernel) (by decide +kernel)).trans (entry_v19 m c)
theorem left1_v16 : left1 m c (Proc.devRef .tc main_v16) = GlaRef.val_main_v16 (A0 m c) (A1 m c) :=
  (keep m c main_v16 (by decide +kernel) (by decide +kernel) (by decide +kernel)).trans (entry_v16 m c)

theorem in_real (H : Args q k v a g m c) : InReal q k v a g (inp (left1 m c)) :=
  real_of (left1 m c)
    (left1 m c (Proc.devRef .tc main_v57_5)) rfl (left1_sum H)
    (left1 m c (Proc.devRef .tc main_v57_6)) rfl (left1_keep H)
    (GlaRef.val_main_v34 (A0 m c) (A1 m c)) left1_v34 (GlaRef.v34_val H.fwd)
    (GlaRef.val_main_v31 (A0 m c) (A1 m c)) left1_v31 (v31_val H.fwd)
    (GlaRef.val_main_v11 (A0 m c) (A1 m c)) left1_v11 (GlaRef.v11_val H.fwd)
    (GlaRef.val_main_v10 (A0 m c) (A1 m c)) left1_v10 (GlaRef.v10_val H.fwd)
    (GlaRef.val_main_v30 (A0 m c) (A1 m c)) left1_v30 (v30_val H.fwd)
    (left1 m c (Proc.devRef .tc main_v48)) rfl (left1_do H)
    (GlaRef.val_main_v24 (A0 m c) (A1 m c)) left1_v24_0 (GlaRef.v24_val H.fwd)
    (GlaRef.val_main_call2_v1 (A0 m c) (A1 m c)) left1_v24_1 (mask_val)
    (GlaRef.val_main_v17 (A0 m c) (A1 m c)) left1_v17 (GlaRef.v17_val H.fwd)
    (GlaRef.val_main_v20 (A0 m c) (A1 m c)) left1_v20 (GlaRef.v20_val H.fwd)
    (left1 m c (Proc.devRef .tc main_v51)) rfl (left1_st H)
    (GlaRef.val_main_v9 (A0 m c) (A1 m c)) left1_v9 (GlaRef.v9_val H.fwd)
    (GlaRef.val_main_v19 (A0 m c) (A1 m c)) left1_v19 (v19_val H.fwd)
    (GlaRef.val_main_v16 (A0 m c) (A1 m c)) left1_v16 (v16_val H.fwd)

/-! ## At the end -/

theorem final_v107 (H : Args q k v a g m c) (r : Fin 4096) (x : Fin 512) :
    (final m c (Proc.devRef .tc main_v107) : FVec Ideal S4096x512 .f32) (ix2 r x) = ((dq k v a g (st k v a (r.val / 64)) (r.val / 64) (x.val / 128) (r.val % 64) (x.val % 128) : ℝ) : EReal) :=
  (congrFun (at_v107 (left1 m c)) _).trans (v107_val (in_real H) r x)
theorem final_v104 (H : Args q k v a g m c) (r : Fin 4096) (x : Fin 512) :
    (final m c (Proc.devRef .tc main_v104) : FVec Ideal S4096x512 .f32) (ix2 r x) = ((dk q v a g (E q a g (63 - r.val / 64)) (r.val / 64) (x.val / 128) (r.val % 64) (x.val % 128) : ℝ) : EReal) :=
  (congrFun (at_v104 (left1 m c)) _).trans (v104_val (in_real H) r x)
theorem final_v103 (H : Args q k v a g m c) (r : Fin 4096) (x : Fin 512) :
    (final m c (Proc.devRef .tc main_v103) : FVec Ideal S4096x512 .f32) (ix2 r x) = ((dv q k a g (E q a g (63 - r.val / 64)) (r.val / 64) (x.val / 128) (r.val % 64) (x.val % 128) : ℝ) : EReal) :=
  (congrFun (at_v103 (left1 m c)) _).trans (v103_val (in_real H) r x)
theorem final_v102 (H : Args q k v a g m c) (r : Fin 4096) (x : Fin 512) :
    (final m c (Proc.devRef .tc main_v102) : FVec Ideal S4096x512 .f32) (ix2 r x) = ((dla q k v a g (E q a g (63 - r.val / 64)) (st k v a (r.val / 64)) (r.val / 64) (x.val / 128) (r.val % 64) (x.val % 128) : ℝ) : EReal) :=
  (congrFun (at_v102 (left1 m c)) _).trans (v102_val (in_real H) r x)

theorem keep_post (V : Valuation τ sig (Elt Ideal)) (b : Ref sig .tc) (h : b ∉ main_part1_ops1_W ++ (main_part1_ops2_W ++ (main_part1_ops3_W ++ (main_part2_ops0_W ++ (main_part2_ops1_W ++ main_part2_ops2_W))))) :
    afterL postI V (Proc.devRef .tc b) = V (Proc.devRef .tc b) := by
  simp only [List.mem_append, not_or] at h
  obtain ⟨h1, h2, h3, h4, h5, h6⟩ := h
  simp only [afterL_cons, afterL_nil]
  rw [after_of_writes_sub main_part2_ops2 _ main_part2_ops2_writes h6, after_of_writes_sub main_part2_ops1 _ main_part2_ops1_writes h5,
    after_of_writes_sub main_part2_ops0 _ main_part2_ops0_writes h4, after_of_writes_sub main_part1_ops3 _ main_part1_ops3_writes h3,
    after_of_writes_sub main_part1_ops2 _ main_part1_ops2_writes h2, after_of_writes_sub main_part1_ops1 _ main_part1_ops1_writes h1]

variable (m c)
set_option maxRecDepth 100000 in
set_option maxHeartbeats 4000000 in
theorem kept_arg0 : final m c (Proc.devRef .tc main_arg0) = m ((c.tc : Thread nD τ).loc main_arg0) := by
  refine (keep_post (left1 m c) main_arg0 (by decide +kernel)).trans ((keep m c main_arg0 (by decide +kernel) (by decide +kernel) (by decide +kernel)).trans ?_)
  simp only [entryContents, afterL_cons, afterL_nil]
  after_reads_simp
set_option maxRecDepth 100000 in
set_option maxHeartbeats 4000000 in
theorem kept_arg1 : final m c (Proc.devRef .tc main_arg1) = m ((c.tc : Thread nD τ).loc main_arg1) := by
  refine (keep_post (left1 m c) main_arg1 (by decide +kernel)).trans ((keep m c main_arg1 (by decide +kernel) (by decide +kernel) (by decide +kernel)).trans ?_)
  simp only [entryContents, afterL_cons, afterL_nil]
  after_reads_simp
set_option maxRecDepth 100000 in
set_option maxHeartbeats 4000000 in
theorem kept_arg2 : final m c (Proc.devRef .tc main_arg2) = m ((c.tc : Thread nD τ).loc main_arg2) := by
  refine (keep_post (left1 m c) main_arg2 (by decide +kernel)).trans ((keep m c main_arg2 (by decide +kernel) (by decide +kernel) (by decide +kernel)).trans ?_)
  simp only [entryContents, afterL_cons, afterL_nil]
  after_reads_simp
set_option maxRecDepth 100000 in
set_option maxHeartbeats 4000000 in
theorem kept_arg3 : final m c (Proc.devRef .tc main_arg3) = m ((c.tc : Thread nD τ).loc main_arg3) := by
  refine (keep_post (left1 m c) main_arg3 (by decide +kernel)).trans ((keep m c main_arg3 (by decide +kernel) (by decide +kernel) (by decide +kernel)).trans ?_)
  simp only [entryContents, afterL_cons, afterL_nil]
  after_reads_simp

end Cert.Proof.GlaBFinal

end
-- ==== Proof.GlaBPre.lean ====
/- What the precondition on the gradient of gated linear attention says: its arguments are real, and the states given are those of the recurrence. -/
module

public import proofs.«01_k».proof.Proof.Dgu
public import proofs.«01_k».proof.Proof.GlaModel
public import proofs.«01_k».proof.Proof.GlaSum
public import Idealize.ShloMosaic.Lib.Pointwise

@[expose] public section

noncomputable section

namespace Cert.Proof.GlaBPre

open Cert.Pre_carried Cert.Pre_carried.Facts Idealize.ShloMosaic Cert.Proof.Arith Cert.Proof.GlaModel Cert.Proof.GlaSum

/-- A running sum over the chunks' rows. -/
theorem cumsum4_apply (x : FVec Ideal S64x64x4x128 .f32) (w : FVec Ideal S_ .f32) (hw : w ix0 = 0) (hr) (hp)
    (n i : Fin 64) (h : Fin 4) (d : Fin 128) :
    Host.reduceWindowAdd (F := Ideal) (s := S64x64x4x128) (t := S64x64x4x128) (u := S_) (φ := .f32) ![1, 64, 1, 1] ![1, 1, 1, 1] ![0, 63, 0, 0] ![0, 0, 0, 0] x w hr hp (ix4 n i h d)
      = ∑ j : Fin 64, if j.val ≤ i.val then x (ix4 n j h d) else 0 := by
  rw [window_apply _ _ _ _ x w hw hr hp, ← reindex (fun j => x (ix4 n j h d)) i]
  refine (sum_idx4 (n0 := 1) (n1 := 64) (n2 := 1) (n3 := 1) _).trans ?_
  rw [Fin.sum_univ_one]
  refine Finset.sum_congr rfl fun c _ => ?_
  rw [Fin.sum_univ_one, Fin.sum_univ_one]
  by_cases hc : 63 ≤ i.val + c.val
  · rw [dif_pos hc, dif_pos]
    · refine congrArg x ?_
      funext a
      fin_cases a
      · exact Fin.ext (by show n.val * 1 + 0 - 0 = n.val; omega)
      · exact Fin.ext (by show i.val * 1 + c.val - 63 = i.val + c.val - 63; omega)
      · exact Fin.ext (by show h.val * 1 + 0 - 0 = h.val; omega)
      · exact Fin.ext (by show d.val * 1 + 0 - 0 = d.val; omega)
    · intro a
      have h0 := n.isLt
      have h1 := i.isLt
      have h2 := h.isLt
      have h3 := d.isLt
      have h4 := c.isLt
      fin_cases a
      · show 0 ≤ n.val * 1 + 0 ∧ n.val * 1 + 0 - 0 < 64; omega
      · show 63 ≤ i.val * 1 + c.val ∧ i.val * 1 + c.val - 63 < 64; omega
      · show 0 ≤ h.val * 1 + 0 ∧ h.val * 1 + 0 - 0 < 4; omega
      · show 0 ≤ d.val * 1 + 0 ∧ d.val * 1 + 0 - 0 < 128; omega
  · rw [dif_neg hc, dif_neg]
    intro hin
    have : 63 ≤ i.val * 1 + c.val := (hin 1).1
    omega

variable [Facts] (x0 : FVec Ideal S4096x6656 .f32) (x1 x2 : FVec Ideal S4096x512 .f32) (x3 : FVec Ideal S64x512x128 .f32)

/-! ## The arrays it compares -/

def colK : FVec Ideal S4096x512 .f32 := (extractStridedSlice S4096x512 ![0, 4096] · slices_S4096x6656_S4096x512_0_4096) x0
def colV : FVec Ideal S4096x512 .f32 := (extractStridedSlice S4096x512 ![0, 4608] · slices_S4096x6656_S4096x512_0_4608) x0
def dec : FVec Ideal S64x64x4x128 .f32 := fn_cumsum (F := Ideal) (shapeCast S64x64x4x128 x1 shapeCasts_S4096x512_S64x64x4x128)
def last : FVec Ideal S64x4x128 .f32 :=
  shapeCast S64x4x128 ((extractStridedSlice S64x1x4x128 ![0, 63, 0, 0] · slices_S64x64x4x128_S64x1x4x128_0_63_0_0) (dec x1)) shapeCasts_S64x1x4x128_S64x4x128
def keys : FVec Ideal S64x64x4x128 .f32 :=
  mulf (shapeCast S64x64x4x128 (colK x0) shapeCasts_S4096x512_S64x64x4x128)
    (Host.exp (subf (broadcastInDim S64x64x4x128 ![0, 1, 2, 3] bcast_S64x1x4x128_S64x64x4x128_0_1_2_3 (broadcastInDim S64x1x4x128 ![0, 2, 3] bcast_S64x4x128_S64x1x4x128_0_2_3 (last x1))) (dec x1)))
def prods : FVec Ideal S64x4x128x128 .f32 :=
  (fun l r => Host.dotGeneral dot_S64x64x4x128_S64x64x4x128_S64x4x128x128_1_1_3_3_02_02 none l r) (shapeCast S64x64x4x128 (colV x0) shapeCasts_S4096x512_S64x64x4x128) (keys x0 x1)
def states : FVec Ideal S64x4x128x128 .f32 := shapeCast S64x4x128x128 x3 shapeCasts_S64x512x128_S64x4x128x128
def after1 : FVec Ideal S64x4x128x128 .f32 :=
  addf (mulf (broadcastInDim S64x4x128x128 ![0, 1, 2, 3] bcast_S64x4x1x128_S64x4x128x128_0_1_2_3 (broadcastInDim S64x4x1x128 ![0, 1, 3] bcast_S64x4x128_S64x4x1x128_0_1_3 (Host.exp (last x1)))) (states x3)) (prods x0 x1)
def first : FVec Ideal S4x128x128 .f32 :=
  shapeCast S4x128x128 ((extractStridedSlice S1x4x128x128 ![0, 0, 0, 0] · slices_S64x4x128x128_S1x4x128x128_0_0_0_0) (states x3)) shapeCasts_S1x4x128x128_S4x128x128
def later : FVec Ideal S63x4x128x128 .f32 := (extractStridedSlice S63x4x128x128 ![1, 0, 0, 0] · slices_S64x4x128x128_S63x4x128x128_1_0_0_0) (states x3)
def wanted : FVec Ideal S63x4x128x128 .f32 := (extractStridedSlice S63x4x128x128 ![0, 0, 0, 0] · slices_S64x4x128x128_S63x4x128x128_0_0_0_0) (after1 x0 x1 x3)

theorem eq_of_oeq (x y : EReal) (h : Ideal.cmp .oeq x y = 1#1) : x = y := by
  by_contra hn
  rw [Ideal.cmp, decide_eq_false hn] at h
  exact absurd h (by decide)

variable {x0 x1 x2 x3} {k v a : ℕ → ℕ → ℝ}

section
variable (ha : ∀ (r : Fin 4096) (x : Fin 512), x1 (ix2 r x) = ((a r.val x.val : ℝ) : EReal))
include ha
theorem dec_val (n i : Fin 64) (h : Fin 4) (d : Fin 128) : dec x1 (ix4 n i h d) = ((cum a n.val i.val (128 * h.val + d.val) : ℝ) : EReal) := by
  unfold dec fn_cumsum fn_cumsum_0
  dsimp only
  refine (cumsum4_apply _ _ ?_ _ _ n i h d).trans ?_
  · pointwise []
  · pointwise []
    simp only [ha, ite_coe, coe_sum]
    rw [Nat.mul_comm h.val]
    simp only [Nat.mul_comm n.val]
    rfl
theorem last_val (n : Fin 64) (h : Fin 4) (d : Fin 128) : last x1 (ix3 n h d) = ((cum a n.val 63 (128 * h.val + d.val) : ℝ) : EReal) := by
  pointwise [last]
  exact dec_val ha n 63 h d

variable (hk : ∀ (r : Fin 4096) (x : Fin 512), colK x0 (ix2 r x) = ((k r.val x.val : ℝ) : EReal))
include hk
theorem keys_val (n i : Fin 64) (h : Fin 4) (d : Fin 128) : keys x0 x1 (ix4 n i h d) = ((ke k a n.val i.val (128 * h.val + d.val) : ℝ) : EReal) := by
  pointwise [keys]
  rw [hk, last_val ha, dec_val ha, ← EReal.coe_sub, exp_coe, ← EReal.coe_mul]
  dsimp only
  rw [Nat.mul_comm h.val, Nat.mul_comm n.val]
  rfl

variable (hv : ∀ (r : Fin 4096) (x : Fin 512), colV x0 (ix2 r x) = ((v r.val x.val : ℝ) : EReal))
include hv
theorem prods_val (n : Fin 64) (h : Fin 4) (e d : Fin 128) :
    prods x0 x1 (ix4 n h e d) = ((∑ j : Fin 64, v (64 * n.val + j.val) (128 * h.val + e.val) * ke k a n.val j.val (128 * h.val + d.val) : ℝ) : EReal) := by
  pointwise [prods]
  simp only [keys_val ha hk, hv, ← EReal.coe_mul, coe_sum]
  rw [Nat.mul_comm h.val]
  simp only [Nat.mul_comm n.val]

/-- The states are the recurrence's. -/
theorem states_val (h0 : ∀ i, first x3 i = 0) (h1 : ∀ i, later x3 i = wanted x0 x1 x3 i) (n : ℕ) (hn : n < 64) (h : Fin 4) (e d : Fin 128) :
    states x3 (ix4 ⟨n, hn⟩ h e d) = ((st k v a n h.val e.val d.val : ℝ) : EReal) := by
  induction n with
  | zero =>
    have := h0 (ix3 h e d)
    revert this
    pointwise [first]
    exact id
  | succ n ih =>
    have := h1 (ix4 ⟨n, by omega⟩ h e d)
    revert this
    pointwise [later, wanted, after1]
    intro this
    have e1 : (⟨n + 1, hn⟩ : Fin 64) = ⟨1 + n, by omega⟩ := Fin.ext (Nat.add_comm n 1)
    rw [e1, this, last_val ha, prods_val ha hk hv, exp_coe, ih (by omega), ← EReal.coe_mul, ← EReal.coe_add, st_succ, mul_comm (Real.exp _)]
end

variable (x0 x1 x2 x3)

/-- The precondition holds of reals only, and of the recurrence's states. -/
theorem real_of_pre (hp : Cert.Pre_carried.fn (F := Ideal) x0 x1 x2 x3 = fun _ => 1#1) :
    ∃ q k v a g : ℕ → ℕ → ℝ, (∀ (r : Fin 4096) (x : Fin 512),
      x0 (ix2 r ⟨3584 + x.val, by omega⟩) = ((q r.val x.val : ℝ) : EReal) ∧ x0 (ix2 r ⟨4096 + x.val, by omega⟩) = ((k r.val x.val : ℝ) : EReal)
      ∧ x0 (ix2 r ⟨4608 + x.val, by omega⟩) = ((v r.val x.val : ℝ) : EReal) ∧ x1 (ix2 r x) = ((a r.val x.val : ℝ) : EReal)
      ∧ x2 (ix2 r x) = ((g r.val x.val : ℝ) : EReal))
      ∧ ∀ (n : Fin 64) (r : Fin 512) (d : Fin 128), x3 (ix3 n r d) = ((st k v a n.val (r.val / 128) (r.val % 128) d.val : ℝ) : EReal) := by
  have e := congrFun hp (fun a => a.elim0)
  haveI : Subsingleton S_.Idx := ⟨fun x y => funext fun a => a.elim0⟩
  have and1 : ∀ x y : BitVec 1, IntOp.andi x y = 1#1 → x = 1#1 ∧ y = 1#1 := by decide
  obtain ⟨e, h6⟩ := and1 _ _ e
  obtain ⟨e, h5⟩ := and1 _ _ e
  obtain ⟨e, h4⟩ := and1 _ _ e
  obtain ⟨e, h3⟩ := and1 _ _ e
  obtain ⟨e, h2⟩ := and1 _ _ e
  obtain ⟨e, h1⟩ := and1 _ _ e
  obtain ⟨e, h0⟩ := and1 _ _ e
  have word : ∀ (p : FVec Ideal S4096x512 .f32), (∀ i, ∃ y : ℝ, p i = (y : EReal)) → ∃ f : ℕ → ℕ → ℝ, ∀ (r : Fin 4096) (x : Fin 512), p (ix2 r x) = ((f r.val x.val : ℝ) : EReal) := by
    intro p hp
    refine ⟨fun r x => if h : r < 4096 ∧ x < 512 then (hp (ix2 ⟨r, h.1⟩ ⟨x, h.2⟩)).choose else 0, fun r x => ?_⟩
    dsimp only
    rw [dif_pos ⟨r.isLt, x.isLt⟩]
    exact (hp (ix2 r x)).choose_spec
  obtain ⟨q, hq⟩ := word _ fun i => Dgu.real_of_lt _ (Host.reduce_andi_all _ _ _ _ _ h0 i)
  obtain ⟨k, hk⟩ := word _ fun i => Dgu.real_of_lt _ (Host.reduce_andi_all _ _ _ _ _ h1 i)
  obtain ⟨v, hv⟩ := word _ fun i => Dgu.real_of_lt _ (Host.reduce_andi_all _ _ _ _ _ h2 i)
  obtain ⟨a, ha⟩ := word _ fun i => Dgu.real_of_lt _ (Host.reduce_andi_all _ _ _ _ _ h3 i)
  obtain ⟨g, hg⟩ := word _ fun i => Dgu.real_of_lt _ (Host.reduce_andi_all _ _ _ _ _ h4 i)
  have z : ∀ i, first x3 i = 0 := fun i => (eq_of_oeq _ _ (Host.reduce_andi_all _ _ _ _ _ h5 i)).trans (by pointwise [])
  have s : ∀ i, later x3 i = wanted x0 x1 x3 i := fun i => eq_of_oeq _ _ (Host.reduce_andi_all _ _ _ _ _ h6 i)
  have sv := states_val ha (k := k) hk hv z s
  refine ⟨q, k, v, a, g, fun r x => ⟨?_, ?_, ?_, ha r x, hg r x⟩, fun n r d => ?_⟩
  · have := hq r x
    revert this
    pointwise []
    exact id
  · have := hk r x
    revert this
    pointwise []
    exact id
  · have := hv r x
    revert this
    pointwise []
    exact id
  · have := sv n.val n.isLt ⟨r.val / 128, by omega⟩ ⟨r.val % 128, by omega⟩ d
    revert this
    pointwise [states]
    intro this
    refine Eq.trans ?_ this
    congr 2

end Cert.Proof.GlaBPre

end
-- ==== Proof.GlaBwd.lean ====
/- One chunk of the recurrence's gradient, as the kernel computes it. -/
module

public import proofs.«01_k».proof.Proof.Gen.Kernel21Ideal.Value
public import proofs.«01_k».proof.Proof.GlaBModel
public import proofs.«01_k».proof.Proof.GlaFwd

@[expose] public section

noncomputable section

namespace Cert.Proof.GlaBwd

open Cert.Kernel21Ideal Cert.Kernel21Ideal.Gen Cert.Kernel21Ideal.Value Idealize.ShloMosaic Idealize.ShloMosaic.TcCoe
open Cert.Proof.Arith Cert.Proof.GlaModel Cert.Proof.GlaBModel
open Cert.Proof.GlaFwd (mask_real c63 dv0 md0 dv1 md1 dv2 md2 dv3 md3)

/-- A block's array at chunk `n`, every entry the real of `f`. -/
def Is (n : ℕ) (f : ℕ → ℕ → ℝ) (x : Vec Ideal S64x512 .f32) : Prop := ∀ (i : Fin 64) (c : Fin 512), x (ix2 i c) = ((f (64 * n + i.val) c.val : ℝ) : EReal)
/-- The four heads' states, one under the other, and as a block of the array of states. -/
def IsD (D : ℕ → ℕ → ℕ → ℝ) (acc : Vec Ideal S512x128 .f32) : Prop :=
  ∀ (r : Fin 512) (d : Fin 128), acc (ix2 r d) = ((D (r.val / 128) (r.val % 128) d.val : ℝ) : EReal)
def IsS (S : ℕ → ℕ → ℕ → ℝ) (x : Vec Ideal S1x512x128 .f32) : Prop :=
  ∀ (z : Fin 1) (r : Fin 512) (d : Fin 128), x (ix3 z r d) = ((S (r.val / 128) (r.val % 128) d.val : ℝ) : EReal)

/-- The product with the ones below the diagonal, in three rounded parts, is the running sum. -/
theorem pay3_val {n : ℕ} {a : ℕ → ℕ → ℝ} (x : Vec Ideal S64x512 .f32) (h : Is n a x) (i : Fin 64) (c : Fin 512) :
    k0_pay3 x (ix2 i c) = ((cum a n i.val c.val : ℝ) : EReal) := by
  pointwise [k0_pay3, k0_pay2]
  simp only [mask_word, mask_real, h i, h _ c, ← EReal.coe_sub, ← EReal.coe_mul, coe_sum, ← EReal.coe_add, sub_self, mul_zero, Finset.sum_const_zero, add_zero]
  unfold cum
  simp only [ite_mul, one_mul, zero_mul]

variable {q k v a g : ℕ → ℕ → ℝ} {n : ℕ} {D S : ℕ → ℕ → ℕ → ℝ} {x0 x1 x2 x3 x4 : Vec Ideal S64x512 .f32} {x5 : Vec Ideal S1x512x128 .f32} {acc : Vec Ideal S512x128 .f32}

theorem dqd0 (h1 : Is n k x1) (h2 : Is n v x2) (h3 : Is n a x3) (h4 : Is n g x4) (hs : IsS S x5) (i : Fin 64) (d : Fin 128) :
    k0_pay17 k0_pay2 (k0_pay8 x3) (View.ld x1 (Rect.unit ![0, 0] ![64, 128] inb_S64x512_S64x128_0_0)) (View.ld x2 (Rect.unit ![0, 0] ![64, 128] inb_S64x512_S64x128_0_0)) (View.ld x4 (Rect.unit ![0, 0] ![64, 128] inb_S64x512_S64x128_0_0)) (View.ld x5 (Rect.unit ![0, 0, 0] ![1, 128, 128] inb_S1x512x128_S1x128x128_0_0_0)) (ix2 i d) = ((dqd k v a g S n 0 i.val d.val : ℝ) : EReal) := by
  pointwise [k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  simp only [h1 _ _, h2 _ _, pay3_val x3 h3, h4 _ _, hs _ _ _, dv0, md0, ← EReal.coe_sub, ← EReal.coe_mul, coe_sum, ← EReal.coe_add, sc_word, exp_coe, zero_sub_coe, ite_coe, select_mask]
  unfold dqd dp kd
  simp only [Nat.reduceMul, Nat.zero_add, c63, ite_mul, zero_mul]
theorem dkd0 (h0 : Is n q x0) (h2 : Is n v x2) (h3 : Is n a x3) (h4 : Is n g x4) (j : Fin 64) (d : Fin 128) :
    k0_pay18 k0_pay2 (k0_pay7 x3) (View.ld x2 (Rect.unit ![0, 0] ![64, 128] inb_S64x512_S64x128_0_0)) (View.ld x4 (Rect.unit ![0, 0] ![64, 128] inb_S64x512_S64x128_0_0)) (View.ld x0 (Rect.unit ![0, 0] ![64, 128] inb_S64x512_S64x128_0_0)) k0_pay11 (ix2 j d) = ((dkd q v a g n 0 j.val d.val : ℝ) : EReal) := by
  pointwise [k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  simp only [h0 _ _, h2 _ _, pay3_val x3 h3, h4 _ _, dv0, md0, ← EReal.coe_sub, ← EReal.coe_mul, coe_sum, ← EReal.coe_add, sc_word, exp_coe, zero_sub_coe, ite_coe, select_mask]
  unfold dkd dp qd
  simp only [Nat.reduceMul, Nat.zero_add, c63, ite_mul, zero_mul]
theorem dke0 (h2 : Is n v x2) (hd : IsD D acc) (j : Fin 64) (d : Fin 128) :
    k0_pay20 (View.ld x2 (Rect.unit ![0, 0] ![64, 128] inb_S64x512_S64x128_0_0)) (View.ld acc (Rect.unit ![0, 0] ![128, 128] inb_S512x128_S128x128_0_0)) (ix2 j d) = ((dke v D n 0 j.val d.val : ℝ) : EReal) := by
  pointwise [k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  simp only [h2 _ _, hd _ _, dv0, md0, ← EReal.coe_sub, ← EReal.coe_mul, coe_sum, ← EReal.coe_add, sc_word, exp_coe, zero_sub_coe, ite_coe, select_mask]
  unfold dke
  simp only [Nat.reduceMul, Nat.zero_add, c63, ite_mul, zero_mul]
theorem dvv0 (h0 : Is n q x0) (h1 : Is n k x1) (h3 : Is n a x3) (h4 : Is n g x4) (hd : IsD D acc) (j : Fin 64) (e : Fin 128) :
    k0_pay19 k0_pay2 (k0_pay7 x3) (k0_pay8 x3) (k0_pay9 x3) (View.ld x1 (Rect.unit ![0, 0] ![64, 128] inb_S64x512_S64x128_0_0)) (View.ld x4 (Rect.unit ![0, 0] ![64, 128] inb_S64x512_S64x128_0_0)) (View.ld x0 (Rect.unit ![0, 0] ![64, 128] inb_S64x512_S64x128_0_0)) k0_pay11 (View.ld acc (Rect.unit ![0, 0] ![128, 128] inb_S512x128_S128x128_0_0)) (ix2 j e) = ((dv q k a g D n 0 j.val e.val : ℝ) : EReal) := by
  pointwise [k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  simp only [h0 _ _, h1 _ _, pay3_val x3 h3, h4 _ _, hd _ _, dv0, md0, ← EReal.coe_sub, ← EReal.coe_mul, coe_sum, ← EReal.coe_add, sc_word, exp_coe, zero_sub_coe, ite_coe, select_mask]
  unfold dv pp qd kd ke
  simp only [Nat.reduceMul, Nat.zero_add, c63, ite_mul, zero_mul]
theorem prev0 (h0 : Is n q x0) (h3 : Is n a x3) (h4 : Is n g x4) (hd : IsD D acc) (e : Fin 128) (d : Fin 128) :
    k0_pay22 (k0_pay21 (k0_pay7 x3) (k0_pay10 x3) (View.ld x4 (Rect.unit ![0, 0] ![64, 128] inb_S64x512_S64x128_0_0)) (View.ld x0 (Rect.unit ![0, 0] ![64, 128] inb_S64x512_S64x128_0_0)) k0_pay11 (View.ld acc (Rect.unit ![0, 0] ![128, 128] inb_S512x128_S128x128_0_0))) (ix2 e d) = ((prev q a g D n 0 e.val d.val : ℝ) : EReal) := by
  pointwise [k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  simp only [h0 _ _, pay3_val x3 h3, h4 _ _, hd _ _, dv0, md0, ← EReal.coe_sub, ← EReal.coe_mul, coe_sum, ← EReal.coe_add, sc_word, exp_coe, zero_sub_coe, ite_coe, select_mask]
  unfold prev qd
  simp only [Nat.reduceMul, Nat.zero_add, c63, ite_mul, zero_mul]
theorem dqd1 (h1 : Is n k x1) (h2 : Is n v x2) (h3 : Is n a x3) (h4 : Is n g x4) (hs : IsS S x5) (i : Fin 64) (d : Fin 128) :
    k0_pay37 k0_pay2 (View.ld x2 (Rect.unit ![0, 128] ![64, 128] inb_S64x512_S64x128_0_128)) (View.ld x4 (Rect.unit ![0, 128] ![64, 128] inb_S64x512_S64x128_0_128)) (k0_pay33 (k0_pay3 x3) (View.ld x1 (Rect.unit ![0, 128] ![64, 128] inb_S64x512_S64x128_0_128))) (View.ld x5 (Rect.unit ![0, 128, 0] ![1, 128, 128] inb_S1x512x128_S1x128x128_0_128_0)) (ix2 i d) = ((dqd k v a g S n 1 i.val d.val : ℝ) : EReal) := by
  pointwise [k0_pay2, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  simp only [h1 _ _, h2 _ _, pay3_val x3 h3, h4 _ _, hs _ _ _, dv1, md1, ← EReal.coe_sub, ← EReal.coe_mul, coe_sum, ← EReal.coe_add, sc_word, exp_coe, zero_sub_coe, ite_coe, select_mask]
  unfold dqd dp kd
  simp only [Nat.reduceMul, c63, ite_mul, zero_mul]
theorem dkd1 (h0 : Is n q x0) (h2 : Is n v x2) (h3 : Is n a x3) (h4 : Is n g x4) (j : Fin 64) (d : Fin 128) :
    k0_pay38 k0_pay2 (View.ld x2 (Rect.unit ![0, 128] ![64, 128] inb_S64x512_S64x128_0_128)) (View.ld x4 (Rect.unit ![0, 128] ![64, 128] inb_S64x512_S64x128_0_128)) (k0_pay32 (k0_pay3 x3) (View.ld x0 (Rect.unit ![0, 128] ![64, 128] inb_S64x512_S64x128_0_128))) (ix2 j d) = ((dkd q v a g n 1 j.val d.val : ℝ) : EReal) := by
  pointwise [k0_pay2, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  simp only [h0 _ _, h2 _ _, pay3_val x3 h3, h4 _ _, dv1, md1, ← EReal.coe_sub, ← EReal.coe_mul, coe_sum, ← EReal.coe_add, sc_word, exp_coe, zero_sub_coe, ite_coe, select_mask]
  unfold dkd dp qd
  simp only [Nat.reduceMul, c63, ite_mul, zero_mul]
theorem dke1 (h2 : Is n v x2) (hd : IsD D acc) (j : Fin 64) (d : Fin 128) :
    k0_pay40 (View.ld x2 (Rect.unit ![0, 128] ![64, 128] inb_S64x512_S64x128_0_128)) (View.ld acc (Rect.unit ![128, 0] ![128, 128] inb_S512x128_S128x128_128_0)) (ix2 j d) = ((dke v D n 1 j.val d.val : ℝ) : EReal) := by
  pointwise [k0_pay2, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  simp only [h2 _ _, hd _ _, dv1, md1, ← EReal.coe_sub, ← EReal.coe_mul, coe_sum, ← EReal.coe_add, sc_word, exp_coe, zero_sub_coe, ite_coe, select_mask]
  unfold dke
  simp only [Nat.reduceMul, c63, ite_mul, zero_mul]
theorem dvv1 (h0 : Is n q x0) (h1 : Is n k x1) (h3 : Is n a x3) (h4 : Is n g x4) (hd : IsD D acc) (j : Fin 64) (e : Fin 128) :
    k0_pay39 k0_pay2 (View.ld x4 (Rect.unit ![0, 128] ![64, 128] inb_S64x512_S64x128_0_128)) (k0_pay32 (k0_pay3 x3) (View.ld x0 (Rect.unit ![0, 128] ![64, 128] inb_S64x512_S64x128_0_128))) (k0_pay33 (k0_pay3 x3) (View.ld x1 (Rect.unit ![0, 128] ![64, 128] inb_S64x512_S64x128_0_128))) (k0_pay34 (k0_pay3 x3) (View.ld x1 (Rect.unit ![0, 128] ![64, 128] inb_S64x512_S64x128_0_128))) (View.ld acc (Rect.unit ![128, 0] ![128, 128] inb_S512x128_S128x128_128_0)) (ix2 j e) = ((dv q k a g D n 1 j.val e.val : ℝ) : EReal) := by
  pointwise [k0_pay2, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  simp only [h0 _ _, h1 _ _, pay3_val x3 h3, h4 _ _, hd _ _, dv1, md1, ← EReal.coe_sub, ← EReal.coe_mul, coe_sum, ← EReal.coe_add, sc_word, exp_coe, zero_sub_coe, ite_coe, select_mask]
  unfold dv pp qd kd ke
  simp only [Nat.reduceMul, c63, ite_mul, zero_mul]
theorem prev1 (h0 : Is n q x0) (h3 : Is n a x3) (h4 : Is n g x4) (hd : IsD D acc) (e : Fin 128) (d : Fin 128) :
    k0_pay41 (k0_pay31 (k0_pay3 x3)) (View.ld x4 (Rect.unit ![0, 128] ![64, 128] inb_S64x512_S64x128_0_128)) (k0_pay32 (k0_pay3 x3) (View.ld x0 (Rect.unit ![0, 128] ![64, 128] inb_S64x512_S64x128_0_128))) (View.ld acc (Rect.unit ![128, 0] ![128, 128] inb_S512x128_S128x128_128_0)) (ix2 e d) = ((prev q a g D n 1 e.val d.val : ℝ) : EReal) := by
  pointwise [k0_pay2, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  simp only [h0 _ _, pay3_val x3 h3, h4 _ _, hd _ _, dv1, md1, ← EReal.coe_sub, ← EReal.coe_mul, coe_sum, ← EReal.coe_add, sc_word, exp_coe, zero_sub_coe, ite_coe, select_mask]
  unfold prev qd
  simp only [Nat.reduceMul, c63, ite_mul, zero_mul]
theorem dqd2 (h1 : Is n k x1) (h2 : Is n v x2) (h3 : Is n a x3) (h4 : Is n g x4) (hs : IsS S x5) (i : Fin 64) (d : Fin 128) :
    k0_pay56 k0_pay2 (View.ld x2 (Rect.unit ![0, 256] ![64, 128] inb_S64x512_S64x128_0_256)) (View.ld x4 (Rect.unit ![0, 256] ![64, 128] inb_S64x512_S64x128_0_256)) (k0_pay52 (k0_pay3 x3) (View.ld x1 (Rect.unit ![0, 256] ![64, 128] inb_S64x512_S64x128_0_256))) (k0_pay54 (View.ld x5 (Rect.unit ![0, 256, 0] ![1, 128, 128] inb_S1x512x128_S1x128x128_0_256_0))) (ix2 i d) = ((dqd k v a g S n 2 i.val d.val : ℝ) : EReal) := by
  pointwise [k0_pay2, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  simp only [h1 _ _, h2 _ _, pay3_val x3 h3, h4 _ _, hs _ _ _, dv2, md2, ← EReal.coe_sub, ← EReal.coe_mul, coe_sum, ← EReal.coe_add, sc_word, exp_coe, zero_sub_coe, ite_coe, select_mask]
  unfold dqd dp kd
  simp only [Nat.reduceMul, c63, ite_mul, zero_mul]
theorem dkd2 (h0 : Is n q x0) (h2 : Is n v x2) (h3 : Is n a x3) (h4 : Is n g x4) (j : Fin 64) (d : Fin 128) :
    k0_pay57 k0_pay2 (View.ld x2 (Rect.unit ![0, 256] ![64, 128] inb_S64x512_S64x128_0_256)) (View.ld x4 (Rect.unit ![0, 256] ![64, 128] inb_S64x512_S64x128_0_256)) (k0_pay51 (k0_pay3 x3) (View.ld x0 (Rect.unit ![0, 256] ![64, 128] inb_S64x512_S64x128_0_256))) (ix2 j d) = ((dkd q v a g n 2 j.val d.val : ℝ) : EReal) := by
  pointwise [k0_pay2, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  simp only [h0 _ _, h2 _ _, pay3_val x3 h3, h4 _ _, dv2, md2, ← EReal.coe_sub, ← EReal.coe_mul, coe_sum, ← EReal.coe_add, sc_word, exp_coe, zero_sub_coe, ite_coe, select_mask]
  unfold dkd dp qd
  simp only [Nat.reduceMul, c63, ite_mul, zero_mul]
theorem dke2 (h2 : Is n v x2) (hd : IsD D acc) (j : Fin 64) (d : Fin 128) :
    k0_pay59 (View.ld x2 (Rect.unit ![0, 256] ![64, 128] inb_S64x512_S64x128_0_256)) (View.ld acc (Rect.unit ![256, 0] ![128, 128] inb_S512x128_S128x128_256_0)) (ix2 j d) = ((dke v D n 2 j.val d.val : ℝ) : EReal) := by
  pointwise [k0_pay2, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  simp only [h2 _ _, hd _ _, dv2, md2, ← EReal.coe_sub, ← EReal.coe_mul, coe_sum, ← EReal.coe_add, sc_word, exp_coe, zero_sub_coe, ite_coe, select_mask]
  unfold dke
  simp only [Nat.reduceMul, c63, ite_mul, zero_mul]
theorem dvv2 (h0 : Is n q x0) (h1 : Is n k x1) (h3 : Is n a x3) (h4 : Is n g x4) (hd : IsD D acc) (j : Fin 64) (e : Fin 128) :
    k0_pay58 k0_pay2 (View.ld x4 (Rect.unit ![0, 256] ![64, 128] inb_S64x512_S64x128_0_256)) (k0_pay51 (k0_pay3 x3) (View.ld x0 (Rect.unit ![0, 256] ![64, 128] inb_S64x512_S64x128_0_256))) (k0_pay52 (k0_pay3 x3) (View.ld x1 (Rect.unit ![0, 256] ![64, 128] inb_S64x512_S64x128_0_256))) (k0_pay53 (k0_pay3 x3) (View.ld x1 (Rect.unit ![0, 256] ![64, 128] inb_S64x512_S64x128_0_256))) (View.ld acc (Rect.unit ![256, 0] ![128, 128] inb_S512x128_S128x128_256_0)) (ix2 j e) = ((dv q k a g D n 2 j.val e.val : ℝ) : EReal) := by
  pointwise [k0_pay2, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  simp only [h0 _ _, h1 _ _, pay3_val x3 h3, h4 _ _, hd _ _, dv2, md2, ← EReal.coe_sub, ← EReal.coe_mul, coe_sum, ← EReal.coe_add, sc_word, exp_coe, zero_sub_coe, ite_coe, select_mask]
  unfold dv pp qd kd ke
  simp only [Nat.reduceMul, c63, ite_mul, zero_mul]
theorem prev2 (h0 : Is n q x0) (h3 : Is n a x3) (h4 : Is n g x4) (hd : IsD D acc) (e : Fin 128) (d : Fin 128) :
    k0_pay60 (k0_pay50 (k0_pay3 x3)) (View.ld x4 (Rect.unit ![0, 256] ![64, 128] inb_S64x512_S64x128_0_256)) (k0_pay51 (k0_pay3 x3) (View.ld x0 (Rect.unit ![0, 256] ![64, 128] inb_S64x512_S64x128_0_256))) (View.ld acc (Rect.unit ![256, 0] ![128, 128] inb_S512x128_S128x128_256_0)) (ix2 e d) = ((prev q a g D n 2 e.val d.val : ℝ) : EReal) := by
  pointwise [k0_pay2, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  simp only [h0 _ _, pay3_val x3 h3, h4 _ _, hd _ _, dv2, md2, ← EReal.coe_sub, ← EReal.coe_mul, coe_sum, ← EReal.coe_add, sc_word, exp_coe, zero_sub_coe, ite_coe, select_mask]
  unfold prev qd
  simp only [Nat.reduceMul, c63, ite_mul, zero_mul]
theorem dqd3 (h1 : Is n k x1) (h2 : Is n v x2) (h3 : Is n a x3) (h4 : Is n g x4) (hs : IsS S x5) (i : Fin 64) (d : Fin 128) :
    k0_pay78 k0_pay2 (View.ld x2 (Rect.unit ![0, 384] ![64, 128] inb_S64x512_S64x128_0_384)) (View.ld x4 (Rect.unit ![0, 384] ![64, 128] inb_S64x512_S64x128_0_384)) (k0_pay72 (k0_pay3 x3) (View.ld x1 (Rect.unit ![0, 384] ![64, 128] inb_S64x512_S64x128_0_384))) (k0_pay74 (View.ld x5 (Rect.unit ![0, 384, 0] ![1, 128, 128] inb_S1x512x128_S1x128x128_0_384_0))) (ix2 i d) = ((dqd k v a g S n 3 i.val d.val : ℝ) : EReal) := by
  pointwise [k0_pay2, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  simp only [h1 _ _, h2 _ _, pay3_val x3 h3, h4 _ _, hs _ _ _, dv3, md3, ← EReal.coe_sub, ← EReal.coe_mul, coe_sum, ← EReal.coe_add, sc_word, exp_coe, zero_sub_coe, ite_coe, select_mask]
  unfold dqd dp kd
  simp only [Nat.reduceMul, c63, ite_mul, zero_mul]
theorem dkd3 (h0 : Is n q x0) (h2 : Is n v x2) (h3 : Is n a x3) (h4 : Is n g x4) (j : Fin 64) (d : Fin 128) :
    k0_pay79 k0_pay2 (View.ld x2 (Rect.unit ![0, 384] ![64, 128] inb_S64x512_S64x128_0_384)) (View.ld x4 (Rect.unit ![0, 384] ![64, 128] inb_S64x512_S64x128_0_384)) (k0_pay71 (k0_pay3 x3) (View.ld x0 (Rect.unit ![0, 384] ![64, 128] inb_S64x512_S64x128_0_384))) (ix2 j d) = ((dkd q v a g n 3 j.val d.val : ℝ) : EReal) := by
  pointwise [k0_pay2, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  simp only [h0 _ _, h2 _ _, pay3_val x3 h3, h4 _ _, dv3, md3, ← EReal.coe_sub, ← EReal.coe_mul, coe_sum, ← EReal.coe_add, sc_word, exp_coe, zero_sub_coe, ite_coe, select_mask]
  unfold dkd dp qd
  simp only [Nat.reduceMul, c63, ite_mul, zero_mul]
theorem dke3 (h2 : Is n v x2) (hd : IsD D acc) (j : Fin 64) (d : Fin 128) :
    k0_pay81 (View.ld x2 (Rect.unit ![0, 384] ![64, 128] inb_S64x512_S64x128_0_384)) (View.ld acc (Rect.unit ![384, 0] ![128, 128] inb_S512x128_S128x128_384_0)) (ix2 j d) = ((dke v D n 3 j.val d.val : ℝ) : EReal) := by
  pointwise [k0_pay2, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  simp only [h2 _ _, hd _ _, dv3, md3, ← EReal.coe_sub, ← EReal.coe_mul, coe_sum, ← EReal.coe_add, sc_word, exp_coe, zero_sub_coe, ite_coe, select_mask]
  unfold dke
  simp only [Nat.reduceMul, c63, ite_mul, zero_mul]
theorem dvv3 (h0 : Is n q x0) (h1 : Is n k x1) (h3 : Is n a x3) (h4 : Is n g x4) (hd : IsD D acc) (j : Fin 64) (e : Fin 128) :
    k0_pay80 k0_pay2 (View.ld x4 (Rect.unit ![0, 384] ![64, 128] inb_S64x512_S64x128_0_384)) (k0_pay73 (k0_pay3 x3) (View.ld x1 (Rect.unit ![0, 384] ![64, 128] inb_S64x512_S64x128_0_384))) (View.ld acc (Rect.unit ![384, 0] ![128, 128] inb_S512x128_S128x128_384_0)) (k0_pay75 (k0_pay3 x3) (View.ld x0 (Rect.unit ![0, 384] ![64, 128] inb_S64x512_S64x128_0_384))) (k0_pay76 (k0_pay3 x3) (View.ld x1 (Rect.unit ![0, 384] ![64, 128] inb_S64x512_S64x128_0_384))) (constant S64x64 FTy.f32 0#32) (ix2 j e) = ((dv q k a g D n 3 j.val e.val : ℝ) : EReal) := by
  pointwise [k0_pay2, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  simp only [h0 _ _, h1 _ _, pay3_val x3 h3, h4 _ _, hd _ _, dv3, md3, ← EReal.coe_sub, ← EReal.coe_mul, coe_sum, ← EReal.coe_add, sc_word, exp_coe, zero_sub_coe, ite_coe, select_mask]
  unfold dv pp qd kd ke
  simp only [Nat.reduceMul, c63, ite_mul, zero_mul]
theorem prev3 (h0 : Is n q x0) (h3 : Is n a x3) (h4 : Is n g x4) (hd : IsD D acc) (e : Fin 128) (d : Fin 128) :
    k0_pay82 (k0_pay70 (k0_pay3 x3)) (View.ld x4 (Rect.unit ![0, 384] ![64, 128] inb_S64x512_S64x128_0_384)) (k0_pay71 (k0_pay3 x3) (View.ld x0 (Rect.unit ![0, 384] ![64, 128] inb_S64x512_S64x128_0_384))) (View.ld acc (Rect.unit ![384, 0] ![128, 128] inb_S512x128_S128x128_384_0)) (ix2 e d) = ((prev q a g D n 3 e.val d.val : ℝ) : EReal) := by
  pointwise [k0_pay2, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  simp only [h0 _ _, pay3_val x3 h3, h4 _ _, hd _ _, dv3, md3, ← EReal.coe_sub, ← EReal.coe_mul, coe_sum, ← EReal.coe_add, sc_word, exp_coe, zero_sub_coe, ite_coe, select_mask]
  unfold prev qd
  simp only [Nat.reduceMul, c63, ite_mul, zero_mul]
theorem dbb0 (h0 : Is n q x0) (h1 : Is n k x1) (h3 : Is n a x3) (hs : IsS S x5) (hd : IsD D acc) (A B C : FVec Ideal S64x128 .f32)
    (hA : ∀ (i : Fin 64) (d : Fin 128), A (ix2 i d) = ((dqd k v a g S n 0 i.val d.val : ℝ) : EReal))
    (hB : ∀ (i : Fin 64) (d : Fin 128), B (ix2 i d) = ((dkd q v a g n 0 i.val d.val : ℝ) : EReal))
    (hC : ∀ (i : Fin 64) (d : Fin 128), C (ix2 i d) = ((dke v D n 0 i.val d.val : ℝ) : EReal)) (i : Fin 64) (d : Fin 128) :
    k0_pay23 k0_pay4 (k0_pay10 x3) (k0_pay12 (k0_pay7 x3) (View.ld x0 (Rect.unit ![0, 0] ![64, 128] inb_S64x512_S64x128_0_0)) k0_pay11) (k0_pay13 (k0_pay8 x3) (View.ld x1 (Rect.unit ![0, 0] ![64, 128] inb_S64x512_S64x128_0_0))) (k0_pay14 (k0_pay9 x3) (View.ld x1 (Rect.unit ![0, 0] ![64, 128] inb_S64x512_S64x128_0_0))) (k0_pay15 (View.ld x5 (Rect.unit ![0, 0, 0] ![1, 128, 128] inb_S1x512x128_S1x128x128_0_0_0))) (View.ld acc (Rect.unit ![0, 0] ![128, 128] inb_S512x128_S128x128_0_0)) A B C (ix2 i d) = ((dbb q k v a g D S n 0 i.val d.val : ℝ) : EReal) := by
  pointwise [k0_pay4, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  simp only [hA _ _, hB _ _, hC _ _, h0 _ _, h1 _ _, pay3_val x3 h3, hs _ _ _, hd _ _, dv0, md0, ← EReal.coe_sub, ← EReal.coe_mul, coe_sum, ← EReal.coe_add, sc_word, exp_coe, zero_sub_coe, ite_coe, select_mask, select_last, ite_coe2]
  unfold dbb db dbl qd kd ke
  simp only [Nat.reduceMul, Nat.zero_add, c63, ite_mul, zero_mul]
theorem dbb1 (h0 : Is n q x0) (h1 : Is n k x1) (h3 : Is n a x3) (hs : IsS S x5) (hd : IsD D acc) (A B C : FVec Ideal S64x128 .f32)
    (hA : ∀ (i : Fin 64) (d : Fin 128), A (ix2 i d) = ((dqd k v a g S n 1 i.val d.val : ℝ) : EReal))
    (hB : ∀ (i : Fin 64) (d : Fin 128), B (ix2 i d) = ((dkd q v a g n 1 i.val d.val : ℝ) : EReal))
    (hC : ∀ (i : Fin 64) (d : Fin 128), C (ix2 i d) = ((dke v D n 1 i.val d.val : ℝ) : EReal)) (i : Fin 64) (d : Fin 128) :
    k0_pay42 k0_pay4 (k0_pay31 (k0_pay3 x3)) (k0_pay32 (k0_pay3 x3) (View.ld x0 (Rect.unit ![0, 128] ![64, 128] inb_S64x512_S64x128_0_128))) (k0_pay33 (k0_pay3 x3) (View.ld x1 (Rect.unit ![0, 128] ![64, 128] inb_S64x512_S64x128_0_128))) (k0_pay34 (k0_pay3 x3) (View.ld x1 (Rect.unit ![0, 128] ![64, 128] inb_S64x512_S64x128_0_128))) (k0_pay35 (View.ld x5 (Rect.unit ![0, 128, 0] ![1, 128, 128] inb_S1x512x128_S1x128x128_0_128_0))) (View.ld acc (Rect.unit ![128, 0] ![128, 128] inb_S512x128_S128x128_128_0)) A B C (ix2 i d) = ((dbb q k v a g D S n 1 i.val d.val : ℝ) : EReal) := by
  pointwise [k0_pay4, k0_pay2, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  simp only [hA _ _, hB _ _, hC _ _, h0 _ _, h1 _ _, pay3_val x3 h3, hs _ _ _, hd _ _, dv1, md1, ← EReal.coe_sub, ← EReal.coe_mul, coe_sum, ← EReal.coe_add, sc_word, exp_coe, zero_sub_coe, ite_coe, select_mask, select_last, ite_coe2]
  unfold dbb db dbl qd kd ke
  simp only [Nat.reduceMul, c63, ite_mul, zero_mul]
theorem dbb2 (h0 : Is n q x0) (h1 : Is n k x1) (h3 : Is n a x3) (hs : IsS S x5) (hd : IsD D acc) (A B C : FVec Ideal S64x128 .f32)
    (hA : ∀ (i : Fin 64) (d : Fin 128), A (ix2 i d) = ((dqd k v a g S n 2 i.val d.val : ℝ) : EReal))
    (hB : ∀ (i : Fin 64) (d : Fin 128), B (ix2 i d) = ((dkd q v a g n 2 i.val d.val : ℝ) : EReal))
    (hC : ∀ (i : Fin 64) (d : Fin 128), C (ix2 i d) = ((dke v D n 2 i.val d.val : ℝ) : EReal)) (i : Fin 64) (d : Fin 128) :
    k0_pay62 k0_pay4 (k0_pay51 (k0_pay3 x3) (View.ld x0 (Rect.unit ![0, 256] ![64, 128] inb_S64x512_S64x128_0_256))) (k0_pay52 (k0_pay3 x3) (View.ld x1 (Rect.unit ![0, 256] ![64, 128] inb_S64x512_S64x128_0_256))) (k0_pay53 (k0_pay3 x3) (View.ld x1 (Rect.unit ![0, 256] ![64, 128] inb_S64x512_S64x128_0_256))) A B C (k0_pay61 (k0_pay50 (k0_pay3 x3)) (k0_pay54 (View.ld x5 (Rect.unit ![0, 256, 0] ![1, 128, 128] inb_S1x512x128_S1x128x128_0_256_0))) (View.ld acc (Rect.unit ![256, 0] ![128, 128] inb_S512x128_S128x128_256_0))) (ix2 i d) = ((dbb q k v a g D S n 2 i.val d.val : ℝ) : EReal) := by
  pointwise [k0_pay4, k0_pay2, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  simp only [hA _ _, hB _ _, hC _ _, h0 _ _, h1 _ _, pay3_val x3 h3, hs _ _ _, hd _ _, dv2, md2, ← EReal.coe_sub, ← EReal.coe_mul, coe_sum, ← EReal.coe_add, sc_word, exp_coe, zero_sub_coe, ite_coe, select_mask, select_last, ite_coe2]
  unfold dbb db dbl qd kd ke
  simp only [Nat.reduceMul, c63, ite_mul, zero_mul]
/-- The last head's gradient of the decay over the chunk. -/
theorem dbl3 (h1 : Is n k x1) (h2 : Is n v x2) (h3 : Is n a x3) (hs : IsS S x5) (hd : IsD D acc) (z : Fin 1) (d : Fin 128) :
    k0_pay83 (k0_pay70 (k0_pay3 x3)) (View.ld x2 (Rect.unit ![0, 384] ![64, 128] inb_S64x512_S64x128_0_384)) (k0_pay73 (k0_pay3 x3) (View.ld x1 (Rect.unit ![0, 384] ![64, 128] inb_S64x512_S64x128_0_384))) (k0_pay74 (View.ld x5 (Rect.unit ![0, 384, 0] ![1, 128, 128] inb_S1x512x128_S1x128x128_0_384_0))) (View.ld acc (Rect.unit ![384, 0] ![128, 128] inb_S512x128_S128x128_384_0)) (ix2 z d) = ((dbl k v a D S n 3 d.val : ℝ) : EReal) := by
  pointwise [k0_pay2, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  simp only [h1 _ _, h2 _ _, pay3_val x3 h3, hs _ _ _, hd _ _, dv3, md3, ← EReal.coe_sub, ← EReal.coe_mul, coe_sum, ← EReal.coe_add, sc_word, exp_coe, zero_sub_coe, ite_coe, select_mask]
  unfold dbl dke ke
  simp only [Nat.reduceMul, c63, ite_mul, zero_mul]
/-- Four heads' arrays side by side. -/
theorem cat_val (F : ℕ → ℕ → ℕ → ℝ) (X0 X1 X2 X3 : FVec Ideal S64x128 .f32)
    (hX0 : ∀ (i : Fin 64) (d : Fin 128), X0 (ix2 i d) = ((F 0 i.val d.val : ℝ) : EReal)) (hX1 : ∀ (i : Fin 64) (d : Fin 128), X1 (ix2 i d) = ((F 1 i.val d.val : ℝ) : EReal))
    (hX2 : ∀ (i : Fin 64) (d : Fin 128), X2 (ix2 i d) = ((F 2 i.val d.val : ℝ) : EReal)) (hX3 : ∀ (i : Fin 64) (d : Fin 128), X3 (ix2 i d) = ((F 3 i.val d.val : ℝ) : EReal))
    (i : Fin 64) (c : Fin 512) : k0_pay86 X0 X1 X2 X3 (ix2 i c) = ((F (c.val / 128) i.val (c.val % 128) : ℝ) : EReal) := by
  have key : ∀ (h : ℕ) (d : Fin 128) (hc : 128 * h + d.val = c.val) (x : EReal), x = ((F h i.val d.val : ℝ) : EReal) → x = ((F (c.val / 128) i.val (c.val % 128) : ℝ) : EReal) := by
    intro h d hc x hx
    rw [hx, show c.val / 128 = h by omega, show c.val % 128 = d.val by omega]
  pointwise [k0_pay86]
  split
  · exact key 0 _ (by show 128 * 0 + c.val = c.val; omega) _ (hX0 i _)
  split
  · exact key 1 _ (by show 128 * 1 + (c.val - 128) = c.val; omega) _ (hX1 i _)
  split
  · exact key 2 _ (by show 128 * 2 + (c.val - 128 - 128) = c.val; omega) _ (hX2 i _)
  · exact key 3 _ (by show 128 * 3 + (c.val - 128 - 128 - 128) = c.val; omega) _ (hX3 i _)

/-- The sums from a row to the last, in three rounded parts. -/
def sumUp (x : FVec Ideal S64x512 .f32) : FVec Ideal S64x512 .f32 :=
  let M : FVec Ideal S64x64 .bf16 := truncf .bf16 (sitofp .f32 (extui 32 (cmpi .sge (iota .tc S64x64 32 [1] iota_S64x64_d1_w32) (iota .tc S64x64 32 [0] iota_S64x64_d0_w32)) natLt_1_32)) bitsLt_bf16_f32
  let y : FVec Ideal S64x512 .bf16 := truncf .bf16 x bitsLt_bf16_f32
  let r : FVec Ideal S64x512 .f32 := subf x (extf .f32 y bitsLt_bf16_f32)
  let y1 : FVec Ideal S64x512 .bf16 := truncf .bf16 r bitsLt_bf16_f32
  let y2 : FVec Ideal S64x512 .bf16 := truncf .bf16 (subf r (extf .f32 y1 bitsLt_bf16_f32)) bitsLt_bf16_f32
  addf (addf (matmul dot_S64x64_S64x512_S64x512_1_0_0_1_n_n none M y (constant S64x512 .f32 0x00000000#32))
    (matmul dot_S64x64_S64x512_S64x512_1_0_0_1_n_n none M y1 (constant S64x512 .f32 0x00000000#32)))
    (matmul dot_S64x64_S64x512_S64x512_1_0_0_1_n_n none M y2 (constant S64x512 .f32 0x00000000#32))
theorem sumUp_val (f : ℕ → ℕ → ℝ) (x : FVec Ideal S64x512 .f32) (h : ∀ (i : Fin 64) (c : Fin 512), x (ix2 i c) = ((f i.val c.val : ℝ) : EReal)) (i : Fin 64) (c : Fin 512) :
    sumUp x (ix2 i c) = ((∑ j : Fin 64, if i.val ≤ j.val then f j.val c.val else 0 : ℝ) : EReal) := by
  unfold sumUp
  pointwise []
  simp only [up_word, mask_real, h _ c, ← EReal.coe_sub, ← EReal.coe_mul, coe_sum, ← EReal.coe_add, sub_self, mul_zero, Finset.sum_const_zero, add_zero, ite_mul, one_mul, zero_mul]
/-- The last head's gradient of the summed logarithms. -/
def last3 (x0 x1 x3 : Vec Ideal S64x512 .f32) (A B C : FVec Ideal S64x128 .f32) (L : FVec Ideal S1x128 .f32) : FVec Ideal S64x128 .f32 :=
  let b : FVec Ideal S64x128 .f32 := subf (subf (mulf A (k0_pay71 (k0_pay3 x3) (View.ld x0 (Rect.unit ![0, 384] ![64, 128] inb_S64x512_S64x128_0_384)))) (mulf B (k0_pay72 (k0_pay3 x3) (View.ld x1 (Rect.unit ![0, 384] ![64, 128] inb_S64x512_S64x128_0_384))))) (mulf C (k0_pay73 (k0_pay3 x3) (View.ld x1 (Rect.unit ![0, 384] ![64, 128] inb_S64x512_S64x128_0_384))))
  select k0_pay4 (addf b (broadcastTo S64x128 L broadcasts_S1x128_S64x128)) b
theorem dbb3 (h0 : Is n q x0) (h1 : Is n k x1) (h3 : Is n a x3) (A B C : FVec Ideal S64x128 .f32) (L : FVec Ideal S1x128 .f32)
    (hA : ∀ (i : Fin 64) (d : Fin 128), A (ix2 i d) = ((dqd k v a g S n 3 i.val d.val : ℝ) : EReal))
    (hB : ∀ (i : Fin 64) (d : Fin 128), B (ix2 i d) = ((dkd q v a g n 3 i.val d.val : ℝ) : EReal))
    (hC : ∀ (i : Fin 64) (d : Fin 128), C (ix2 i d) = ((dke v D n 3 i.val d.val : ℝ) : EReal))
    (hL : ∀ (z : Fin 1) (d : Fin 128), L (ix2 z d) = ((dbl k v a D S n 3 d.val : ℝ) : EReal)) (i : Fin 64) (d : Fin 128) :
    last3 x0 x1 x3 A B C L (ix2 i d) = ((dbb q k v a g D S n 3 i.val d.val : ℝ) : EReal) := by
  unfold last3
  pointwise [k0_pay4, k0_pay2, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  simp only [hA _ _, hB _ _, hC _ _, hL _ _, h0 _ _, h1 _ _, pay3_val x3 h3, dv3, md3, ← EReal.coe_sub, ← EReal.coe_mul, coe_sum, ← EReal.coe_add, sc_word, exp_coe, zero_sub_coe, ite_coe, select_mask, select_last, ite_coe2]
  unfold dbb db qd kd ke
  simp only [Nat.reduceMul, c63, ite_mul, zero_mul]
theorem pay87_eq (X0 X1 X2 A B C : FVec Ideal S64x128 .f32) (L : FVec Ideal S1x128 .f32) :
    k0_pay87 k0_pay4 X0 X1 X2 (k0_pay71 (k0_pay3 x3) (View.ld x0 (Rect.unit ![0, 384] ![64, 128] inb_S64x512_S64x128_0_384))) (k0_pay72 (k0_pay3 x3) (View.ld x1 (Rect.unit ![0, 384] ![64, 128] inb_S64x512_S64x128_0_384))) (k0_pay73 (k0_pay3 x3) (View.ld x1 (Rect.unit ![0, 384] ![64, 128] inb_S64x512_S64x128_0_384))) A B C L = sumUp (k0_pay86 X0 X1 X2 (last3 x0 x1 x3 A B C L)) := rfl
theorem dq0 (h3 : Is n a x3) (A : FVec Ideal S64x128 .f32) (hA : ∀ (i : Fin 64) (d : Fin 128), A (ix2 i d) = ((dqd k v a g S n 0 i.val d.val : ℝ) : EReal)) (i : Fin 64) (d : Fin 128) :
    (k0_pay24 (k0_pay7 x3) A : FVec Ideal S64x128 .f32) (ix2 i d) = ((dq k v a g S n 0 i.val d.val : ℝ) : EReal) := by
  pointwise [k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  simp only [hA _ _, pay3_val x3 h3, dv0, md0, ← EReal.coe_sub, ← EReal.coe_mul, coe_sum, ← EReal.coe_add, sc_word, exp_coe, zero_sub_coe, ite_coe, select_mask]
  unfold dq
  simp only [Nat.reduceMul, Nat.zero_add, c63, ite_mul, zero_mul]
theorem dk0 (h3 : Is n a x3) (B C : FVec Ideal S64x128 .f32) (hB : ∀ (i : Fin 64) (d : Fin 128), B (ix2 i d) = ((dkd q v a g n 0 i.val d.val : ℝ) : EReal)) (hC : ∀ (i : Fin 64) (d : Fin 128), C (ix2 i d) = ((dke v D n 0 i.val d.val : ℝ) : EReal)) (i : Fin 64) (d : Fin 128) :
    (k0_pay25 (k0_pay8 x3) (k0_pay9 x3) B C : FVec Ideal S64x128 .f32) (ix2 i d) = ((dk q v a g D n 0 i.val d.val : ℝ) : EReal) := by
  pointwise [k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  simp only [hB _ _, hC _ _, pay3_val x3 h3, dv0, md0, ← EReal.coe_sub, ← EReal.coe_mul, coe_sum, ← EReal.coe_add, sc_word, exp_coe, zero_sub_coe, ite_coe, select_mask]
  unfold dk
  simp only [Nat.reduceMul, Nat.zero_add, c63, ite_mul, zero_mul]
theorem dq1 (h3 : Is n a x3) (A : FVec Ideal S64x128 .f32) (hA : ∀ (i : Fin 64) (d : Fin 128), A (ix2 i d) = ((dqd k v a g S n 1 i.val d.val : ℝ) : EReal)) (i : Fin 64) (d : Fin 128) :
    (k0_pay43 (k0_pay28 (k0_pay3 x3)) A : FVec Ideal S64x128 .f32) (ix2 i d) = ((dq k v a g S n 1 i.val d.val : ℝ) : EReal) := by
  pointwise [k0_pay2, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  simp only [hA _ _, pay3_val x3 h3, dv1, md1, ← EReal.coe_sub, ← EReal.coe_mul, coe_sum, ← EReal.coe_add, sc_word, exp_coe, zero_sub_coe, ite_coe, select_mask]
  unfold dq
  simp only [Nat.reduceMul, c63, ite_mul, zero_mul]
theorem dk1 (h3 : Is n a x3) (B C : FVec Ideal S64x128 .f32) (hB : ∀ (i : Fin 64) (d : Fin 128), B (ix2 i d) = ((dkd q v a g n 1 i.val d.val : ℝ) : EReal)) (hC : ∀ (i : Fin 64) (d : Fin 128), C (ix2 i d) = ((dke v D n 1 i.val d.val : ℝ) : EReal)) (i : Fin 64) (d : Fin 128) :
    (k0_pay44 (k0_pay29 (k0_pay3 x3)) (k0_pay30 (k0_pay3 x3)) B C : FVec Ideal S64x128 .f32) (ix2 i d) = ((dk q v a g D n 1 i.val d.val : ℝ) : EReal) := by
  pointwise [k0_pay2, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  simp only [hB _ _, hC _ _, pay3_val x3 h3, dv1, md1, ← EReal.coe_sub, ← EReal.coe_mul, coe_sum, ← EReal.coe_add, sc_word, exp_coe, zero_sub_coe, ite_coe, select_mask]
  unfold dk
  simp only [Nat.reduceMul, c63, ite_mul, zero_mul]
theorem dq2 (h3 : Is n a x3) (A : FVec Ideal S64x128 .f32) (hA : ∀ (i : Fin 64) (d : Fin 128), A (ix2 i d) = ((dqd k v a g S n 2 i.val d.val : ℝ) : EReal)) (i : Fin 64) (d : Fin 128) :
    (k0_pay63 (k0_pay47 (k0_pay3 x3)) A : FVec Ideal S64x128 .f32) (ix2 i d) = ((dq k v a g S n 2 i.val d.val : ℝ) : EReal) := by
  pointwise [k0_pay2, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  simp only [hA _ _, pay3_val x3 h3, dv2, md2, ← EReal.coe_sub, ← EReal.coe_mul, coe_sum, ← EReal.coe_add, sc_word, exp_coe, zero_sub_coe, ite_coe, select_mask]
  unfold dq
  simp only [Nat.reduceMul, c63, ite_mul, zero_mul]
theorem dk2 (h3 : Is n a x3) (B C : FVec Ideal S64x128 .f32) (hB : ∀ (i : Fin 64) (d : Fin 128), B (ix2 i d) = ((dkd q v a g n 2 i.val d.val : ℝ) : EReal)) (hC : ∀ (i : Fin 64) (d : Fin 128), C (ix2 i d) = ((dke v D n 2 i.val d.val : ℝ) : EReal)) (i : Fin 64) (d : Fin 128) :
    (k0_pay64 (k0_pay48 (k0_pay3 x3)) (k0_pay49 (k0_pay3 x3)) B C : FVec Ideal S64x128 .f32) (ix2 i d) = ((dk q v a g D n 2 i.val d.val : ℝ) : EReal) := by
  pointwise [k0_pay2, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  simp only [hB _ _, hC _ _, pay3_val x3 h3, dv2, md2, ← EReal.coe_sub, ← EReal.coe_mul, coe_sum, ← EReal.coe_add, sc_word, exp_coe, zero_sub_coe, ite_coe, select_mask]
  unfold dk
  simp only [Nat.reduceMul, c63, ite_mul, zero_mul]
theorem dq3 (h3 : Is n a x3) (A : FVec Ideal S64x128 .f32) (hA : ∀ (i : Fin 64) (d : Fin 128), A (ix2 i d) = ((dqd k v a g S n 3 i.val d.val : ℝ) : EReal)) (i : Fin 64) (d : Fin 128) :
    (mulf (mulf A (k0_pay67 (k0_pay3 x3))) (broadcast S64x128 (Scalar.ofBits .f32 0x3DB504F3#32)) : FVec Ideal S64x128 .f32) (ix2 i d) = ((dq k v a g S n 3 i.val d.val : ℝ) : EReal) := by
  pointwise [k0_pay2, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  simp only [hA _ _, pay3_val x3 h3, dv3, md3, ← EReal.coe_sub, ← EReal.coe_mul, coe_sum, ← EReal.coe_add, sc_word, exp_coe, zero_sub_coe, ite_coe, select_mask]
  unfold dq
  simp only [Nat.reduceMul, c63, ite_mul, zero_mul]
theorem dk3 (h3 : Is n a x3) (B C : FVec Ideal S64x128 .f32) (hB : ∀ (i : Fin 64) (d : Fin 128), B (ix2 i d) = ((dkd q v a g n 3 i.val d.val : ℝ) : EReal)) (hC : ∀ (i : Fin 64) (d : Fin 128), C (ix2 i d) = ((dke v D n 3 i.val d.val : ℝ) : EReal)) (i : Fin 64) (d : Fin 128) :
    (addf (mulf B (k0_pay68 (k0_pay3 x3))) (mulf C (k0_pay69 (k0_pay3 x3))) : FVec Ideal S64x128 .f32) (ix2 i d) = ((dk q v a g D n 3 i.val d.val : ℝ) : EReal) := by
  pointwise [k0_pay2, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  simp only [hB _ _, hC _ _, pay3_val x3 h3, dv3, md3, ← EReal.coe_sub, ← EReal.coe_mul, coe_sum, ← EReal.coe_add, sc_word, exp_coe, zero_sub_coe, ite_coe, select_mask]
  unfold dk
  simp only [Nat.reduceMul, c63, ite_mul, zero_mul]

/-- The four blocks a point leaves, over the state's gradient `acc`. -/
def dqB (x1 x2 x3 x4 : Vec Ideal S64x512 .f32) (x5 : Vec Ideal S1x512x128 .f32) : FVec Ideal S64x512 .f32 :=
  k0_pay84 (k0_pay24 (k0_pay7 x3) (k0_pay17 k0_pay2 (k0_pay8 x3) (View.ld x1 (Rect.unit ![0, 0] ![64, 128] inb_S64x512_S64x128_0_0)) (View.ld x2 (Rect.unit ![0, 0] ![64, 128] inb_S64x512_S64x128_0_0)) (View.ld x4 (Rect.unit ![0, 0] ![64, 128] inb_S64x512_S64x128_0_0)) (View.ld x5 (Rect.unit ![0, 0, 0] ![1, 128, 128] inb_S1x512x128_S1x128x128_0_0_0)))) (k0_pay43 (k0_pay28 (k0_pay3 x3)) (k0_pay37 k0_pay2 (View.ld x2 (Rect.unit ![0, 128] ![64, 128] inb_S64x512_S64x128_0_128)) (View.ld x4 (Rect.unit ![0, 128] ![64, 128] inb_S64x512_S64x128_0_128)) (k0_pay33 (k0_pay3 x3) (View.ld x1 (Rect.unit ![0, 128] ![64, 128] inb_S64x512_S64x128_0_128))) (View.ld x5 (Rect.unit ![0, 128, 0] ![1, 128, 128] inb_S1x512x128_S1x128x128_0_128_0)))) (k0_pay63 (k0_pay47 (k0_pay3 x3)) (k0_pay56 k0_pay2 (View.ld x2 (Rect.unit ![0, 256] ![64, 128] inb_S64x512_S64x128_0_256)) (View.ld x4 (Rect.unit ![0, 256] ![64, 128] inb_S64x512_S64x128_0_256)) (k0_pay52 (k0_pay3 x3) (View.ld x1 (Rect.unit ![0, 256] ![64, 128] inb_S64x512_S64x128_0_256))) (k0_pay54 (View.ld x5 (Rect.unit ![0, 256, 0] ![1, 128, 128] inb_S1x512x128_S1x128x128_0_256_0))))) (k0_pay67 (k0_pay3 x3)) (k0_pay78 k0_pay2 (View.ld x2 (Rect.unit ![0, 384] ![64, 128] inb_S64x512_S64x128_0_384)) (View.ld x4 (Rect.unit ![0, 384] ![64, 128] inb_S64x512_S64x128_0_384)) (k0_pay72 (k0_pay3 x3) (View.ld x1 (Rect.unit ![0, 384] ![64, 128] inb_S64x512_S64x128_0_384))) (k0_pay74 (View.ld x5 (Rect.unit ![0, 384, 0] ![1, 128, 128] inb_S1x512x128_S1x128x128_0_384_0))))
def dkB (x0 x2 x3 x4 : Vec Ideal S64x512 .f32) (acc : Vec Ideal S512x128 .f32) : FVec Ideal S64x512 .f32 :=
  k0_pay85 (k0_pay25 (k0_pay8 x3) (k0_pay9 x3) (k0_pay18 k0_pay2 (k0_pay7 x3) (View.ld x2 (Rect.unit ![0, 0] ![64, 128] inb_S64x512_S64x128_0_0)) (View.ld x4 (Rect.unit ![0, 0] ![64, 128] inb_S64x512_S64x128_0_0)) (View.ld x0 (Rect.unit ![0, 0] ![64, 128] inb_S64x512_S64x128_0_0)) k0_pay11) (k0_pay20 (View.ld x2 (Rect.unit ![0, 0] ![64, 128] inb_S64x512_S64x128_0_0)) (View.ld acc (Rect.unit ![0, 0] ![128, 128] inb_S512x128_S128x128_0_0)))) (k0_pay44 (k0_pay29 (k0_pay3 x3)) (k0_pay30 (k0_pay3 x3)) (k0_pay38 k0_pay2 (View.ld x2 (Rect.unit ![0, 128] ![64, 128] inb_S64x512_S64x128_0_128)) (View.ld x4 (Rect.unit ![0, 128] ![64, 128] inb_S64x512_S64x128_0_128)) (k0_pay32 (k0_pay3 x3) (View.ld x0 (Rect.unit ![0, 128] ![64, 128] inb_S64x512_S64x128_0_128)))) (k0_pay40 (View.ld x2 (Rect.unit ![0, 128] ![64, 128] inb_S64x512_S64x128_0_128)) (View.ld acc (Rect.unit ![128, 0] ![128, 128] inb_S512x128_S128x128_128_0)))) (k0_pay64 (k0_pay48 (k0_pay3 x3)) (k0_pay49 (k0_pay3 x3)) (k0_pay57 k0_pay2 (View.ld x2 (Rect.unit ![0, 256] ![64, 128] inb_S64x512_S64x128_0_256)) (View.ld x4 (Rect.unit ![0, 256] ![64, 128] inb_S64x512_S64x128_0_256)) (k0_pay51 (k0_pay3 x3) (View.ld x0 (Rect.unit ![0, 256] ![64, 128] inb_S64x512_S64x128_0_256)))) (k0_pay59 (View.ld x2 (Rect.unit ![0, 256] ![64, 128] inb_S64x512_S64x128_0_256)) (View.ld acc (Rect.unit ![256, 0] ![128, 128] inb_S512x128_S128x128_256_0)))) (k0_pay68 (k0_pay3 x3)) (k0_pay69 (k0_pay3 x3)) (k0_pay79 k0_pay2 (View.ld x2 (Rect.unit ![0, 384] ![64, 128] inb_S64x512_S64x128_0_384)) (View.ld x4 (Rect.unit ![0, 384] ![64, 128] inb_S64x512_S64x128_0_384)) (k0_pay71 (k0_pay3 x3) (View.ld x0 (Rect.unit ![0, 384] ![64, 128] inb_S64x512_S64x128_0_384)))) (k0_pay81 (View.ld x2 (Rect.unit ![0, 384] ![64, 128] inb_S64x512_S64x128_0_384)) (View.ld acc (Rect.unit ![384, 0] ![128, 128] inb_S512x128_S128x128_384_0)))
def dvB (x0 x1 x3 x4 : Vec Ideal S64x512 .f32) (acc : Vec Ideal S512x128 .f32) : FVec Ideal S64x512 .f32 :=
  k0_pay86 (k0_pay19 k0_pay2 (k0_pay7 x3) (k0_pay8 x3) (k0_pay9 x3) (View.ld x1 (Rect.unit ![0, 0] ![64, 128] inb_S64x512_S64x128_0_0)) (View.ld x4 (Rect.unit ![0, 0] ![64, 128] inb_S64x512_S64x128_0_0)) (View.ld x0 (Rect.unit ![0, 0] ![64, 128] inb_S64x512_S64x128_0_0)) k0_pay11 (View.ld acc (Rect.unit ![0, 0] ![128, 128] inb_S512x128_S128x128_0_0))) (k0_pay39 k0_pay2 (View.ld x4 (Rect.unit ![0, 128] ![64, 128] inb_S64x512_S64x128_0_128)) (k0_pay32 (k0_pay3 x3) (View.ld x0 (Rect.unit ![0, 128] ![64, 128] inb_S64x512_S64x128_0_128))) (k0_pay33 (k0_pay3 x3) (View.ld x1 (Rect.unit ![0, 128] ![64, 128] inb_S64x512_S64x128_0_128))) (k0_pay34 (k0_pay3 x3) (View.ld x1 (Rect.unit ![0, 128] ![64, 128] inb_S64x512_S64x128_0_128))) (View.ld acc (Rect.unit ![128, 0] ![128, 128] inb_S512x128_S128x128_128_0))) (k0_pay58 k0_pay2 (View.ld x4 (Rect.unit ![0, 256] ![64, 128] inb_S64x512_S64x128_0_256)) (k0_pay51 (k0_pay3 x3) (View.ld x0 (Rect.unit ![0, 256] ![64, 128] inb_S64x512_S64x128_0_256))) (k0_pay52 (k0_pay3 x3) (View.ld x1 (Rect.unit ![0, 256] ![64, 128] inb_S64x512_S64x128_0_256))) (k0_pay53 (k0_pay3 x3) (View.ld x1 (Rect.unit ![0, 256] ![64, 128] inb_S64x512_S64x128_0_256))) (View.ld acc (Rect.unit ![256, 0] ![128, 128] inb_S512x128_S128x128_256_0))) (k0_pay80 k0_pay2 (View.ld x4 (Rect.unit ![0, 384] ![64, 128] inb_S64x512_S64x128_0_384)) (k0_pay73 (k0_pay3 x3) (View.ld x1 (Rect.unit ![0, 384] ![64, 128] inb_S64x512_S64x128_0_384))) (View.ld acc (Rect.unit ![384, 0] ![128, 128] inb_S512x128_S128x128_384_0)) (k0_pay75 (k0_pay3 x3) (View.ld x0 (Rect.unit ![0, 384] ![64, 128] inb_S64x512_S64x128_0_384))) (k0_pay76 (k0_pay3 x3) (View.ld x1 (Rect.unit ![0, 384] ![64, 128] inb_S64x512_S64x128_0_384))) (constant S64x64 FTy.f32 0#32))
def dlaB (x0 x1 x2 x3 x4 : Vec Ideal S64x512 .f32) (x5 : Vec Ideal S1x512x128 .f32) (acc : Vec Ideal S512x128 .f32) : FVec Ideal S64x512 .f32 :=
  k0_pay87 k0_pay4 (k0_pay23 k0_pay4 (k0_pay10 x3) (k0_pay12 (k0_pay7 x3) (View.ld x0 (Rect.unit ![0, 0] ![64, 128] inb_S64x512_S64x128_0_0)) k0_pay11) (k0_pay13 (k0_pay8 x3) (View.ld x1 (Rect.unit ![0, 0] ![64, 128] inb_S64x512_S64x128_0_0))) (k0_pay14 (k0_pay9 x3) (View.ld x1 (Rect.unit ![0, 0] ![64, 128] inb_S64x512_S64x128_0_0))) (k0_pay15 (View.ld x5 (Rect.unit ![0, 0, 0] ![1, 128, 128] inb_S1x512x128_S1x128x128_0_0_0))) (View.ld acc (Rect.unit ![0, 0] ![128, 128] inb_S512x128_S128x128_0_0)) (k0_pay17 k0_pay2 (k0_pay8 x3) (View.ld x1 (Rect.unit ![0, 0] ![64, 128] inb_S64x512_S64x128_0_0)) (View.ld x2 (Rect.unit ![0, 0] ![64, 128] inb_S64x512_S64x128_0_0)) (View.ld x4 (Rect.unit ![0, 0] ![64, 128] inb_S64x512_S64x128_0_0)) (View.ld x5 (Rect.unit ![0, 0, 0] ![1, 128, 128] inb_S1x512x128_S1x128x128_0_0_0))) (k0_pay18 k0_pay2 (k0_pay7 x3) (View.ld x2 (Rect.unit ![0, 0] ![64, 128] inb_S64x512_S64x128_0_0)) (View.ld x4 (Rect.unit ![0, 0] ![64, 128] inb_S64x512_S64x128_0_0)) (View.ld x0 (Rect.unit ![0, 0] ![64, 128] inb_S64x512_S64x128_0_0)) k0_pay11) (k0_pay20 (View.ld x2 (Rect.unit ![0, 0] ![64, 128] inb_S64x512_S64x128_0_0)) (View.ld acc (Rect.unit ![0, 0] ![128, 128] inb_S512x128_S128x128_0_0)))) (k0_pay42 k0_pay4 (k0_pay31 (k0_pay3 x3)) (k0_pay32 (k0_pay3 x3) (View.ld x0 (Rect.unit ![0, 128] ![64, 128] inb_S64x512_S64x128_0_128))) (k0_pay33 (k0_pay3 x3) (View.ld x1 (Rect.unit ![0, 128] ![64, 128] inb_S64x512_S64x128_0_128))) (k0_pay34 (k0_pay3 x3) (View.ld x1 (Rect.unit ![0, 128] ![64, 128] inb_S64x512_S64x128_0_128))) (k0_pay35 (View.ld x5 (Rect.unit ![0, 128, 0] ![1, 128, 128] inb_S1x512x128_S1x128x128_0_128_0))) (View.ld acc (Rect.unit ![128, 0] ![128, 128] inb_S512x128_S128x128_128_0)) (k0_pay37 k0_pay2 (View.ld x2 (Rect.unit ![0, 128] ![64, 128] inb_S64x512_S64x128_0_128)) (View.ld x4 (Rect.unit ![0, 128] ![64, 128] inb_S64x512_S64x128_0_128)) (k0_pay33 (k0_pay3 x3) (View.ld x1 (Rect.unit ![0, 128] ![64, 128] inb_S64x512_S64x128_0_128))) (View.ld x5 (Rect.unit ![0, 128, 0] ![1, 128, 128] inb_S1x512x128_S1x128x128_0_128_0))) (k0_pay38 k0_pay2 (View.ld x2 (Rect.unit ![0, 128] ![64, 128] inb_S64x512_S64x128_0_128)) (View.ld x4 (Rect.unit ![0, 128] ![64, 128] inb_S64x512_S64x128_0_128)) (k0_pay32 (k0_pay3 x3) (View.ld x0 (Rect.unit ![0, 128] ![64, 128] inb_S64x512_S64x128_0_128)))) (k0_pay40 (View.ld x2 (Rect.unit ![0, 128] ![64, 128] inb_S64x512_S64x128_0_128)) (View.ld acc (Rect.unit ![128, 0] ![128, 128] inb_S512x128_S128x128_128_0)))) (k0_pay62 k0_pay4 (k0_pay51 (k0_pay3 x3) (View.ld x0 (Rect.unit ![0, 256] ![64, 128] inb_S64x512_S64x128_0_256))) (k0_pay52 (k0_pay3 x3) (View.ld x1 (Rect.unit ![0, 256] ![64, 128] inb_S64x512_S64x128_0_256))) (k0_pay53 (k0_pay3 x3) (View.ld x1 (Rect.unit ![0, 256] ![64, 128] inb_S64x512_S64x128_0_256))) (k0_pay56 k0_pay2 (View.ld x2 (Rect.unit ![0, 256] ![64, 128] inb_S64x512_S64x128_0_256)) (View.ld x4 (Rect.unit ![0, 256] ![64, 128] inb_S64x512_S64x128_0_256)) (k0_pay52 (k0_pay3 x3) (View.ld x1 (Rect.unit ![0, 256] ![64, 128] inb_S64x512_S64x128_0_256))) (k0_pay54 (View.ld x5 (Rect.unit ![0, 256, 0] ![1, 128, 128] inb_S1x512x128_S1x128x128_0_256_0)))) (k0_pay57 k0_pay2 (View.ld x2 (Rect.unit ![0, 256] ![64, 128] inb_S64x512_S64x128_0_256)) (View.ld x4 (Rect.unit ![0, 256] ![64, 128] inb_S64x512_S64x128_0_256)) (k0_pay51 (k0_pay3 x3) (View.ld x0 (Rect.unit ![0, 256] ![64, 128] inb_S64x512_S64x128_0_256)))) (k0_pay59 (View.ld x2 (Rect.unit ![0, 256] ![64, 128] inb_S64x512_S64x128_0_256)) (View.ld acc (Rect.unit ![256, 0] ![128, 128] inb_S512x128_S128x128_256_0))) (k0_pay61 (k0_pay50 (k0_pay3 x3)) (k0_pay54 (View.ld x5 (Rect.unit ![0, 256, 0] ![1, 128, 128] inb_S1x512x128_S1x128x128_0_256_0))) (View.ld acc (Rect.unit ![256, 0] ![128, 128] inb_S512x128_S128x128_256_0)))) (k0_pay71 (k0_pay3 x3) (View.ld x0 (Rect.unit ![0, 384] ![64, 128] inb_S64x512_S64x128_0_384))) (k0_pay72 (k0_pay3 x3) (View.ld x1 (Rect.unit ![0, 384] ![64, 128] inb_S64x512_S64x128_0_384))) (k0_pay73 (k0_pay3 x3) (View.ld x1 (Rect.unit ![0, 384] ![64, 128] inb_S64x512_S64x128_0_384))) (k0_pay78 k0_pay2 (View.ld x2 (Rect.unit ![0, 384] ![64, 128] inb_S64x512_S64x128_0_384)) (View.ld x4 (Rect.unit ![0, 384] ![64, 128] inb_S64x512_S64x128_0_384)) (k0_pay72 (k0_pay3 x3) (View.ld x1 (Rect.unit ![0, 384] ![64, 128] inb_S64x512_S64x128_0_384))) (k0_pay74 (View.ld x5 (Rect.unit ![0, 384, 0] ![1, 128, 128] inb_S1x512x128_S1x128x128_0_384_0)))) (k0_pay79 k0_pay2 (View.ld x2 (Rect.unit ![0, 384] ![64, 128] inb_S64x512_S64x128_0_384)) (View.ld x4 (Rect.unit ![0, 384] ![64, 128] inb_S64x512_S64x128_0_384)) (k0_pay71 (k0_pay3 x3) (View.ld x0 (Rect.unit ![0, 384] ![64, 128] inb_S64x512_S64x128_0_384)))) (k0_pay81 (View.ld x2 (Rect.unit ![0, 384] ![64, 128] inb_S64x512_S64x128_0_384)) (View.ld acc (Rect.unit ![384, 0] ![128, 128] inb_S512x128_S128x128_384_0))) (k0_pay83 (k0_pay70 (k0_pay3 x3)) (View.ld x2 (Rect.unit ![0, 384] ![64, 128] inb_S64x512_S64x128_0_384)) (k0_pay73 (k0_pay3 x3) (View.ld x1 (Rect.unit ![0, 384] ![64, 128] inb_S64x512_S64x128_0_384))) (k0_pay74 (View.ld x5 (Rect.unit ![0, 384, 0] ![1, 128, 128] inb_S1x512x128_S1x128x128_0_384_0))) (View.ld acc (Rect.unit ![384, 0] ![128, 128] inb_S512x128_S128x128_384_0)))
theorem dqB_val (h1 : Is n k x1) (h2 : Is n v x2) (h3 : Is n a x3) (h4 : Is n g x4) (hs : IsS S x5) (i : Fin 64) (c : Fin 512) :
    dqB x1 x2 x3 x4 x5 (ix2 i c) = ((dq k v a g S n (c.val / 128) i.val (c.val % 128) : ℝ) : EReal) :=
  cat_val (dq k v a g S n) _ _ _ _ (dq0 h3 _ (dqd0 h1 h2 h3 h4 hs)) (dq1 h3 _ (dqd1 h1 h2 h3 h4 hs)) (dq2 h3 _ (dqd2 h1 h2 h3 h4 hs)) (dq3 h3 _ (dqd3 h1 h2 h3 h4 hs)) i c
theorem dkB_val (h0 : Is n q x0) (h2 : Is n v x2) (h3 : Is n a x3) (h4 : Is n g x4) (hd : IsD D acc) (i : Fin 64) (c : Fin 512) :
    dkB x0 x2 x3 x4 acc (ix2 i c) = ((dk q v a g D n (c.val / 128) i.val (c.val % 128) : ℝ) : EReal) :=
  cat_val (dk q v a g D n) _ _ _ _ (dk0 h3 _ _ (dkd0 h0 h2 h3 h4) (dke0 h2 hd)) (dk1 h3 _ _ (dkd1 h0 h2 h3 h4) (dke1 h2 hd)) (dk2 h3 _ _ (dkd2 h0 h2 h3 h4) (dke2 h2 hd)) (dk3 h3 _ _ (dkd3 h0 h2 h3 h4) (dke3 h2 hd)) i c
theorem dvB_val (h0 : Is n q x0) (h1 : Is n k x1) (h3 : Is n a x3) (h4 : Is n g x4) (hd : IsD D acc) (i : Fin 64) (c : Fin 512) :
    dvB x0 x1 x3 x4 acc (ix2 i c) = ((dv q k a g D n (c.val / 128) i.val (c.val % 128) : ℝ) : EReal) :=
  cat_val (dv q k a g D n) _ _ _ _ (dvv0 h0 h1 h3 h4 hd) (dvv1 h0 h1 h3 h4 hd) (dvv2 h0 h1 h3 h4 hd) (dvv3 h0 h1 h3 h4 hd) i c
theorem dlaB_val (h0 : Is n q x0) (h1 : Is n k x1) (h2 : Is n v x2) (h3 : Is n a x3) (h4 : Is n g x4) (hs : IsS S x5) (hd : IsD D acc) (i : Fin 64) (c : Fin 512) :
    dlaB x0 x1 x2 x3 x4 x5 acc (ix2 i c) = ((dla q k v a g D S n (c.val / 128) i.val (c.val % 128) : ℝ) : EReal) := by
  unfold dlaB
  rw [pay87_eq]
  refine sumUp_val (fun j c => dbb q k v a g D S n (c / 128) j (c % 128)) _ (fun i c => cat_val (dbb q k v a g D S n) _ _ _ _
    (dbb0 h0 h1 h3 hs hd _ _ _ (dqd0 h1 h2 h3 h4 hs) (dkd0 h0 h2 h3 h4) (dke0 h2 hd))
    (dbb1 h0 h1 h3 hs hd _ _ _ (dqd1 h1 h2 h3 h4 hs) (dkd1 h0 h2 h3 h4) (dke1 h2 hd))
    (dbb2 h0 h1 h3 hs hd _ _ _ (dqd2 h1 h2 h3 h4 hs) (dkd2 h0 h2 h3 h4) (dke2 h2 hd))
    (dbb3 h0 h1 h3 _ _ _ _ (dqd3 h1 h2 h3 h4 hs) (dkd3 h0 h2 h3 h4) (dke3 h2 hd) (dbl3 h1 h2 h3 hs hd)) i c) i c

/-- What a point leaves of the state's gradient, head by head. -/
def dPcs (x0 x3 x4 : Vec Ideal S64x512 .f32) (acc : Vec Ideal S512x128 .f32) : List (View.Piece (Elt Ideal) S512x128 .f32) :=
  [⟨Rect.unit ![384, 0] ![128, 128] inb_S512x128_S128x128_384_0, k0_pay82 (k0_pay70 (k0_pay3 x3)) (View.ld x4 (Rect.unit ![0, 384] ![64, 128] inb_S64x512_S64x128_0_384)) (k0_pay71 (k0_pay3 x3) (View.ld x0 (Rect.unit ![0, 384] ![64, 128] inb_S64x512_S64x128_0_384))) (View.ld acc (Rect.unit ![384, 0] ![128, 128] inb_S512x128_S128x128_384_0))⟩, ⟨Rect.unit ![256, 0] ![128, 128] inb_S512x128_S128x128_256_0, k0_pay60 (k0_pay50 (k0_pay3 x3)) (View.ld x4 (Rect.unit ![0, 256] ![64, 128] inb_S64x512_S64x128_0_256)) (k0_pay51 (k0_pay3 x3) (View.ld x0 (Rect.unit ![0, 256] ![64, 128] inb_S64x512_S64x128_0_256))) (View.ld acc (Rect.unit ![256, 0] ![128, 128] inb_S512x128_S128x128_256_0))⟩, ⟨Rect.unit ![128, 0] ![128, 128] inb_S512x128_S128x128_128_0, k0_pay41 (k0_pay31 (k0_pay3 x3)) (View.ld x4 (Rect.unit ![0, 128] ![64, 128] inb_S64x512_S64x128_0_128)) (k0_pay32 (k0_pay3 x3) (View.ld x0 (Rect.unit ![0, 128] ![64, 128] inb_S64x512_S64x128_0_128))) (View.ld acc (Rect.unit ![128, 0] ![128, 128] inb_S512x128_S128x128_128_0))⟩, ⟨Rect.unit ![0, 0] ![128, 128] inb_S512x128_S128x128_0_0, k0_pay22 (k0_pay21 (k0_pay7 x3) (k0_pay10 x3) (View.ld x4 (Rect.unit ![0, 0] ![64, 128] inb_S64x512_S64x128_0_0)) (View.ld x0 (Rect.unit ![0, 0] ![64, 128] inb_S64x512_S64x128_0_0)) k0_pay11 (View.ld acc (Rect.unit ![0, 0] ![128, 128] inb_S512x128_S128x128_0_0)))⟩]

end Cert.Proof.GlaBwd

end
-- ==== Proof.GlaBCase.lean ====
/- What one point of `gla_bwd` leaves: its four blocks and the state's gradient, as the heads' formulas. -/
module

public import proofs.«01_k».proof.Proof.Gen.Kernel21Ideal.Value
public import proofs.«01_k».proof.Proof.GlaBModel
public import proofs.«01_k».proof.Proof.GlaBwd
public import Idealize.ShloMosaic.Lib.Pipeline.ReadBack
public import Idealize.ShloMosaic.Lib.Pipeline.ValueKit.Acc
public import Idealize.ShloMosaic.Lib.Pipeline.ValueKit.Tiles

@[expose] public section

noncomputable section

namespace Cert.Proof.GlaBCase

open Cert.Kernel21Ideal Cert.Kernel21Ideal.Gen Cert.Kernel21Ideal.Value Idealize.ShloMosaic Idealize.ShloMosaic.TcCoe Idealize.SL.Sem
open Cert.Proof.GlaModel Cert.Proof.GlaBModel Cert.Proof.GlaBwd

variable (c : Dev nD) (t : Fin cfg0.N) (x0 x1 x2 x3 x4 : Vec Ideal S64x512 .f32) (x5 : Vec Ideal S1x512x128 .f32) (acc : Vec Ideal S512x128 .f32)

theorem dqB_A (h0 : t.val % 64 = 0) : out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) x0 x1 x2 x3 x4 x5 = dqB x1 x2 x3 x4 x5 := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
  rfl
theorem dqB_B (h0 : ¬t.val % 64 = 0) : out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) x0 x1 x2 x3 x4 x5 acc = dqB x1 x2 x3 x4 x5 := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
  rfl
theorem dkB_A (h0 : t.val % 64 = 0) : out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) x0 x1 x2 x3 x4 x5 = dkB x0 x2 x3 x4 (k0_pay1 (F := Ideal)) := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
  rfl
theorem dkB_B (h0 : ¬t.val % 64 = 0) : out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) x0 x1 x2 x3 x4 x5 acc = dkB x0 x2 x3 x4 acc := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
  rfl
theorem dvB_A (h0 : t.val % 64 = 0) : out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) x0 x1 x2 x3 x4 x5 = dvB x0 x1 x3 x4 (k0_pay1 (F := Ideal)) := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
  rfl
theorem dvB_B (h0 : ¬t.val % 64 = 0) : out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) x0 x1 x2 x3 x4 x5 acc = dvB x0 x1 x3 x4 acc := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
  rfl
theorem dlaB_A (h0 : t.val % 64 = 0) : out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) x0 x1 x2 x3 x4 x5 = dlaB x0 x1 x2 x3 x4 x5 (k0_pay1 (F := Ideal)) := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
  rfl
theorem dlaB_B (h0 : ¬t.val % 64 = 0) : out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) x0 x1 x2 x3 x4 x5 acc = dlaB x0 x1 x2 x3 x4 x5 acc := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
  rfl
theorem sout_A (h0 : t.val % 64 = 0) : sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) x0 x1 x2 x3 x4 x5
    = View.canon (dPcs x0 x3 x4 (k0_pay1 (F := Ideal)) ++ [⟨Rect.unit ![0, 0] ![512, 128] inb_S512x128_S512x128_0_0, (k0_pay1 (F := Ideal))⟩]) := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
  rfl
theorem sout_B (h0 : ¬t.val % 64 = 0) : sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) x0 x1 x2 x3 x4 x5 acc = View.canon (dPcs x0 x3 x4 acc ++ []) := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
  rfl

variable {c t x0 x1 x2 x3 x4 x5 acc} {q a g : ℕ → ℕ → ℝ} {n : ℕ} {D : ℕ → ℕ → ℕ → ℝ}

/-- The state's gradient before the chunk. -/
theorem dPcs_val (L : List (View.Piece (Elt Ideal) S512x128 .f32)) (h0 : Is n q x0) (h3 : Is n a x3) (h4 : Is n g x4) (hd : IsD D acc) :
    IsD (prev q a g D n) (View.canon (dPcs x0 x3 x4 acc ++ L)) := by
  intro r d
  refine View.canon_append_of_piecesOf (Val := Elt Ideal)
    (fun y : S512x128.Idx => ((prev q a g D n ((y 0).val / 128) ((y 0).val % 128) (y 1).val : ℝ) : EReal)) L (dPcs x0 x3 x4 acc)
    ⟨fun x => ?_, fun x => ?_, fun x => ?_, fun x => ?_, trivial⟩ (ix2 r d) (View.cover_of_tiledL (dPcs x0 x3 x4 acc) S128x128.size (by sl_kernel_rfl) _)
  · refine (congrArg _ (eq_ix2 x)).trans ((prev3 h0 h3 h4 hd (x 0) (x 1)).trans ?_)
    have hx : (x 0).val < 128 := (x 0).isLt
    show _ = ((prev q a g D n ((384 + 1 * (x 0).val) / 128) ((384 + 1 * (x 0).val) % 128) (0 + 1 * (x 1).val) : ℝ) : EReal)
    rw [show (384 + 1 * (x 0).val) / 128 = 3 by omega, show (384 + 1 * (x 0).val) % 128 = (x 0).val by omega, show 0 + 1 * (x 1).val = (x 1).val by omega]
  · refine (congrArg _ (eq_ix2 x)).trans ((prev2 h0 h3 h4 hd (x 0) (x 1)).trans ?_)
    have hx : (x 0).val < 128 := (x 0).isLt
    show _ = ((prev q a g D n ((256 + 1 * (x 0).val) / 128) ((256 + 1 * (x 0).val) % 128) (0 + 1 * (x 1).val) : ℝ) : EReal)
    rw [show (256 + 1 * (x 0).val) / 128 = 2 by omega, show (256 + 1 * (x 0).val) % 128 = (x 0).val by omega, show 0 + 1 * (x 1).val = (x 1).val by omega]
  · refine (congrArg _ (eq_ix2 x)).trans ((prev1 h0 h3 h4 hd (x 0) (x 1)).trans ?_)
    have hx : (x 0).val < 128 := (x 0).isLt
    show _ = ((prev q a g D n ((128 + 1 * (x 0).val) / 128) ((128 + 1 * (x 0).val) % 128) (0 + 1 * (x 1).val) : ℝ) : EReal)
    rw [show (128 + 1 * (x 0).val) / 128 = 1 by omega, show (128 + 1 * (x 0).val) % 128 = (x 0).val by omega, show 0 + 1 * (x 1).val = (x 1).val by omega]
  · refine (congrArg _ (eq_ix2 x)).trans ((prev0 h0 h3 h4 hd (x 0) (x 1)).trans ?_)
    have hx : (x 0).val < 128 := (x 0).isLt
    show _ = ((prev q a g D n ((0 + 1 * (x 0).val) / 128) ((0 + 1 * (x 0).val) % 128) (0 + 1 * (x 1).val) : ℝ) : EReal)
    rw [show (0 + 1 * (x 0).val) / 128 = 0 by omega, show (0 + 1 * (x 0).val) % 128 = (x 0).val by omega, show 0 + 1 * (x 1).val = (x 1).val by omega]
theorem zero_val (q a g : ℕ → ℕ → ℝ) : IsD (E q a g 0) (k0_pay1 (F := Ideal)) := by
  intro r d
  pointwise [k0_pay1]
  exact EReal.coe_zero.symm

end Cert.Proof.GlaBCase

end
-- ==== Proof.GlaBKer.lean ====
/- The four arrays `gla_bwd` leaves, the arguments being real and the states given being those of the recurrence. -/
module

public import proofs.«01_k».proof.Proof.Gen.Kernel21Ideal.Value
public import proofs.«01_k».proof.Proof.GlaBModel
public import proofs.«01_k».proof.Proof.GlaBwd
public import proofs.«01_k».proof.Proof.GlaBCase
public import Idealize.ShloMosaic.Lib.Pipeline.ReadBack
public import Idealize.ShloMosaic.Lib.Pipeline.ValueKit.Acc
public import Idealize.ShloMosaic.Lib.Pipeline.ValueKit.Tiles

@[expose] public section

noncomputable section

namespace Cert.Proof.GlaBKer

open Cert.Kernel21Ideal Cert.Kernel21Ideal.Gen Cert.Kernel21Ideal.Value Idealize.ShloMosaic Idealize.ShloMosaic.TcCoe Idealize.SL.Sem
open Cert.Proof.GlaModel Cert.Proof.GlaBModel Cert.Proof.GlaBwd
open Cert.Proof.GlaBCase

variable (m : (ℓ : Loc nD τ sig) → Buf (Elt Ideal) ℓ) (c : Dev nD) {q k v a g : ℕ → ℕ → ℝ}

/-- The launched arrays are real, and the states are the recurrence's. -/
structure Real (q k v a g : ℕ → ℕ → ℝ) : Prop where
  hq : ∀ (r : Fin 4096) (x : Fin 512), m ((c : Thread nD τ).loc main_arg0) (ix2 r ⟨3584 + x.val, by omega⟩ : S4096x6656.Idx) = ((q r.val x.val : ℝ) : EReal)
  hk : ∀ (r : Fin 4096) (x : Fin 512), m ((c : Thread nD τ).loc main_arg0) (ix2 r ⟨4096 + x.val, by omega⟩ : S4096x6656.Idx) = ((k r.val x.val : ℝ) : EReal)
  hv : ∀ (r : Fin 4096) (x : Fin 512), m ((c : Thread nD τ).loc main_arg0) (ix2 r ⟨4608 + x.val, by omega⟩ : S4096x6656.Idx) = ((v r.val x.val : ℝ) : EReal)
  ha : ∀ (r : Fin 4096) (x : Fin 512), m ((c : Thread nD τ).loc main_arg1) (ix2 r x : S4096x512.Idx) = ((a r.val x.val : ℝ) : EReal)
  hg : ∀ (r : Fin 4096) (x : Fin 512), m ((c : Thread nD τ).loc main_arg2) (ix2 r x : S4096x512.Idx) = ((g r.val x.val : ℝ) : EReal)
  hs : ∀ (n : Fin 64) (r : Fin 512) (d : Fin 128), m ((c : Thread nD τ).loc main_arg3) (ix3 n r d : S64x512x128.Idx)
    = ((st k v a n.val (r.val / 128) (r.val % 128) d.val : ℝ) : EReal)

/-- Where the blocks lie: the chunks from the last to the first. -/
theorem idx : ∀ t : Fin cfg0.N, (win0_0.index t (0 : Fin 2) = 63 - t.val ∧ win0_0.index t (1 : Fin 2) = 7)
    ∧ (win0_1.index t (0 : Fin 2) = 63 - t.val ∧ win0_1.index t (1 : Fin 2) = 8)
    ∧ (win0_2.index t (0 : Fin 2) = 63 - t.val ∧ win0_2.index t (1 : Fin 2) = 9)
    ∧ (win0_3.index t (0 : Fin 2) = 63 - t.val ∧ win0_3.index t (1 : Fin 2) = 0)
    ∧ (win0_4.index t (0 : Fin 2) = 63 - t.val ∧ win0_4.index t (1 : Fin 2) = 0)
    ∧ (win0_5.index t (0 : Fin 3) = 63 - t.val ∧ win0_5.index t (1 : Fin 3) = 0 ∧ win0_5.index t (2 : Fin 3) = 0)
    ∧ (win0_6.index t (0 : Fin 2) = 63 - t.val ∧ win0_6.index t (1 : Fin 2) = 0)
    ∧ (win0_7.index t (0 : Fin 2) = 63 - t.val ∧ win0_7.index t (1 : Fin 2) = 0)
    ∧ (win0_8.index t (0 : Fin 2) = 63 - t.val ∧ win0_8.index t (1 : Fin 2) = 0)
    ∧ (win0_9.index t (0 : Fin 2) = 63 - t.val ∧ win0_9.index t (1 : Fin 2) = 0) :=
  (by decide +kernel : ∀ t : Fin grid0.N, _)

variable {m c}

theorem blk_q (h : Real m c q k v a g) (t : Fin cfg0.N) : Is (63 - t.val) q (iblk m c 0 t) := by
  intro i x
  have ht : t.val < 64 := lt_of_lt_of_eq t.isLt N_0
  have hr : 64 * (63 - t.val) + i.val < 4096 := by omega
  obtain ⟨e0, e1⟩ := (idx t).1
  refine Eq.trans ?_ (h.hq ⟨64 * (63 - t.val) + i.val, hr⟩ x)
  show V m c main_arg0 (((cfg0.win 0).blk t).view.emb (ix2 i x : S64x512.Idx)) = _
  rw [V_main_arg0 m c]
  congr 1; funext z; apply Fin.ext
  match z with
  | ⟨0, _⟩ => show win0_0.index t (0 : Fin 2) * 64 + 1 * i.val = 64 * (63 - t.val) + i.val; omega
  | ⟨1, _⟩ => show win0_0.index t (1 : Fin 2) * 512 + 1 * x.val = 3584 + x.val; omega

theorem blk_k (h : Real m c q k v a g) (t : Fin cfg0.N) : Is (63 - t.val) k (iblk m c 1 t) := by
  intro i x
  have ht : t.val < 64 := lt_of_lt_of_eq t.isLt N_0
  have hr : 64 * (63 - t.val) + i.val < 4096 := by omega
  obtain ⟨e0, e1⟩ := (idx t).2.1
  refine Eq.trans ?_ (h.hk ⟨64 * (63 - t.val) + i.val, hr⟩ x)
  show V m c main_arg0 (((cfg0.win 1).blk t).view.emb (ix2 i x : S64x512.Idx)) = _
  rw [V_main_arg0 m c]
  congr 1; funext z; apply Fin.ext
  match z with
  | ⟨0, _⟩ => show win0_1.index t (0 : Fin 2) * 64 + 1 * i.val = 64 * (63 - t.val) + i.val; omega
  | ⟨1, _⟩ => show win0_1.index t (1 : Fin 2) * 512 + 1 * x.val = 4096 + x.val; omega

theorem blk_v (h : Real m c q k v a g) (t : Fin cfg0.N) : Is (63 - t.val) v (iblk m c 2 t) := by
  intro i x
  have ht : t.val < 64 := lt_of_lt_of_eq t.isLt N_0
  have hr : 64 * (63 - t.val) + i.val < 4096 := by omega
  obtain ⟨e0, e1⟩ := (idx t).2.2.1
  refine Eq.trans ?_ (h.hv ⟨64 * (63 - t.val) + i.val, hr⟩ x)
  show V m c main_arg0 (((cfg0.win 2).blk t).view.emb (ix2 i x : S64x512.Idx)) = _
  rw [V_main_arg0 m c]
  congr 1; funext z; apply Fin.ext
  match z with
  | ⟨0, _⟩ => show win0_2.index t (0 : Fin 2) * 64 + 1 * i.val = 64 * (63 - t.val) + i.val; omega
  | ⟨1, _⟩ => show win0_2.index t (1 : Fin 2) * 512 + 1 * x.val = 4608 + x.val; omega

theorem blk_a (h : Real m c q k v a g) (t : Fin cfg0.N) : Is (63 - t.val) a (iblk m c 3 t) := by
  intro i x
  have ht : t.val < 64 := lt_of_lt_of_eq t.isLt N_0
  have hr : 64 * (63 - t.val) + i.val < 4096 := by omega
  obtain ⟨e0, e1⟩ := (idx t).2.2.2.1
  refine Eq.trans ?_ (h.ha ⟨64 * (63 - t.val) + i.val, hr⟩ x)
  show V m c main_arg1 (((cfg0.win 3).blk t).view.emb (ix2 i x : S64x512.Idx)) = _
  rw [V_main_arg1 m c]
  congr 1; funext z; apply Fin.ext
  match z with
  | ⟨0, _⟩ => show win0_3.index t (0 : Fin 2) * 64 + 1 * i.val = 64 * (63 - t.val) + i.val; omega
  | ⟨1, _⟩ => show win0_3.index t (1 : Fin 2) * 512 + 1 * x.val = x.val; omega

theorem blk_g (h : Real m c q k v a g) (t : Fin cfg0.N) : Is (63 - t.val) g (iblk m c 4 t) := by
  intro i x
  have ht : t.val < 64 := lt_of_lt_of_eq t.isLt N_0
  have hr : 64 * (63 - t.val) + i.val < 4096 := by omega
  obtain ⟨e0, e1⟩ := (idx t).2.2.2.2.1
  refine Eq.trans ?_ (h.hg ⟨64 * (63 - t.val) + i.val, hr⟩ x)
  show V m c main_arg2 (((cfg0.win 4).blk t).view.emb (ix2 i x : S64x512.Idx)) = _
  rw [V_main_arg2 m c]
  congr 1; funext z; apply Fin.ext
  match z with
  | ⟨0, _⟩ => show win0_4.index t (0 : Fin 2) * 64 + 1 * i.val = 64 * (63 - t.val) + i.val; omega
  | ⟨1, _⟩ => show win0_4.index t (1 : Fin 2) * 512 + 1 * x.val = x.val; omega

theorem blk_s (h : Real m c q k v a g) (t : Fin cfg0.N) : IsS (st k v a (63 - t.val)) (iblk m c 5 t) := by
  intro z i x
  have ht : t.val < 64 := lt_of_lt_of_eq t.isLt N_0
  obtain ⟨e0, e1, e2⟩ := (idx t).2.2.2.2.2.1
  refine Eq.trans ?_ (h.hs ⟨63 - t.val, by omega⟩ i x)
  show V m c main_arg3 (((cfg0.win 5).blk t).view.emb (ix3 z i x : S1x512x128.Idx)) = _
  rw [V_main_arg3 m c]
  congr 1; funext y; apply Fin.ext
  match y with
  | ⟨0, _⟩ => show win0_5.index t (0 : Fin 3) * 1 + 1 * z.val = 63 - t.val; omega
  | ⟨1, _⟩ => show win0_5.index t (1 : Fin 3) * 512 + 1 * i.val = i.val; omega
  | ⟨2, _⟩ => show win0_5.index t (2 : Fin 3) * 128 + 1 * x.val = x.val; omega

/-- The state's gradient a point leaves. -/
theorem scr (h : Real m c q k v a g) : ∀ (n : ℕ) (hn : n < cfg0.N), IsD (E q a g (n + 1)) (outsAt0 m c n hn).2.2.2.2
  | 0, hn => by
    rw [outsAt0_A m c ⟨0, hn⟩ (Nat.zero_mod _)]
    dsimp only
    rw [sout_A (t := ⟨0, hn⟩) (h0 := Nat.zero_mod _)]
    exact dPcs_val _ (blk_q h ⟨0, hn⟩) (blk_a h ⟨0, hn⟩) (blk_g h ⟨0, hn⟩) (zero_val q a g)
  | n + 1, hn => by
    have hN : n + 1 < 64 := lt_of_lt_of_eq hn N_0
    have ih := scr h n (Nat.lt_of_succ_lt hn)
    rw [outsAt0_B m c ⟨n + 1, hn⟩ (show ¬(n + 1) % 64 = 0 by omega)]
    dsimp only
    rw [sout_B]
    exact dPcs_val _ (blk_q h ⟨n + 1, hn⟩) (blk_a h ⟨n + 1, hn⟩) (blk_g h ⟨n + 1, hn⟩) ih

/-- The results, entry by entry: row `64 n + i`, column `128 h + d`, after the last `63 - n` chunks. -/
def Dq (k v a g : ℕ → ℕ → ℝ) : FVec Ideal S4096x512 .f32 :=
  fun j => ((dq k v a g (st k v a ((j 0).val / 64)) ((j 0).val / 64) ((j 1).val / 128) ((j 0).val % 64) ((j 1).val % 128) : ℝ) : EReal)
def Dk (q v a g : ℕ → ℕ → ℝ) : FVec Ideal S4096x512 .f32 :=
  fun j => ((dk q v a g (E q a g (63 - ((j 0).val / 64))) ((j 0).val / 64) ((j 1).val / 128) ((j 0).val % 64) ((j 1).val % 128) : ℝ) : EReal)
def Dv (q k a g : ℕ → ℕ → ℝ) : FVec Ideal S4096x512 .f32 :=
  fun j => ((dv q k a g (E q a g (63 - ((j 0).val / 64))) ((j 0).val / 64) ((j 1).val / 128) ((j 0).val % 64) ((j 1).val % 128) : ℝ) : EReal)
def Dla (q k v a g : ℕ → ℕ → ℝ) : FVec Ideal S4096x512 .f32 :=
  fun j => ((dla q k v a g (E q a g (63 - ((j 0).val / 64))) (st k v a ((j 0).val / 64)) ((j 0).val / 64) ((j 1).val / 128) ((j 0).val % 64) ((j 1).val % 128) : ℝ) : EReal)

theorem flushed_Dq (h : Real m c q k v a g) (t : Fin cfg0.N) :
    (dats m 0 c).flushed 6 t = ((cfg0.win 6).blk t).view.read (Elt Ideal) (Dq k v a g) := by
  obtain ⟨e0, e1⟩ := (idx t).2.2.2.2.2.2.1
  have ht : t.val < 64 := lt_of_lt_of_eq t.isLt N_0
  have key : ∀ j : S64x512.Idx, (dats m 0 c).flushed 6 t j = ((dq k v a g (st k v a (63 - t.val)) (63 - t.val) ((j 1).val / 128) (j 0).val ((j 1).val % 128) : ℝ) : EReal) := by
    intro j
    have e63 : 63 - (63 - t.val) = t.val := by omega
    by_cases h0 : t.val % 64 = 0
    · rw [flushed6_A m c t h0]
      show out0_A_6 _ _ _ _ _ _ _ _ _ _ _ _ _ _ _ _ _ _ _ _ _ _ _ _ _ _ _ _ _ _ _  j = _
      rw [dqB_A (h0 := h0)]
      have z : IsD (E q a g (63 - (63 - t.val))) (k0_pay1 (F := Ideal)) := by rw [e63, show t.val = 0 by omega]; exact zero_val q a g
      exact (congrArg _ (eq_ix2 j)).trans (dqB_val (blk_k h t) (blk_v h t) (blk_a h t) (blk_g h t) (blk_s h t) (j 0) (j 1))
    · rw [flushed6_B m c t h0]
      show out0_B_6 _ _ _ _ _ _ _ _ _ _ _ _ _ _ _ _ _ _ _ _ _ _ _ _ _ _ _ _ _ _ _ _  j = _
      rw [dqB_B]
      have z := scr h (t.val - 1) (Nat.lt_of_le_of_lt (Nat.sub_le _ _) t.isLt)
      rw [show t.val - 1 + 1 = 63 - (63 - t.val) by omega] at z
      exact (congrArg _ (eq_ix2 j)).trans (dqB_val (blk_k h t) (blk_v h t) (blk_a h t) (blk_g h t) (blk_s h t) (j 0) (j 1))
  funext j
  refine (key j).trans ?_
  have hj0 : (j 0).val < 64 := (j 0).isLt
  have hj1 : (j 1).val < 512 := (j 1).isLt
  show _ = Dq k v a g (((cfg0.win 6).blk t).view.emb j)
  have e : (((cfg0.win 6).blk t).view.emb j) = (ix2 ⟨(63 - t.val) * 64 + (j 0).val, by omega⟩ (j 1) : S4096x512.Idx) := by
    funext z; apply Fin.ext
    match z with
    | ⟨0, _⟩ => show win0_6.index t (0 : Fin 2) * 64 + 1 * (j 0).val = (63 - t.val) * 64 + (j 0).val; omega
    | ⟨1, _⟩ => show win0_6.index t (1 : Fin 2) * 512 + 1 * (j 1).val = (j 1).val; omega
  rw [e]
  show _ = ((dq k v a g (st k v a (((63 - t.val) * 64 + (j 0).val) / 64)) (((63 - t.val) * 64 + (j 0).val) / 64) ((j 1).val / 128) (((63 - t.val) * 64 + (j 0).val) % 64) ((j 1).val % 128) : ℝ) : EReal)
  rw [show ((63 - t.val) * 64 + (j 0).val) / 64 = 63 - t.val by omega, show ((63 - t.val) * 64 + (j 0).val) % 64 = (j 0).val by omega]

theorem covered_Dq (i : S4096x512.Idx) : ∃ t : Fin cfg0.N, (cfg0.win 6).flush t = true ∧ i ∈ ((cfg0.win 6).blk t).view.set := by
  have h0 : (i 0).val < 4096 := (i 0).isLt
  have h1 : (i 1).val < 512 := (i 1).isLt
  let t : Fin cfg0.N := ⟨63 - (i 0).val / 64, lt_of_lt_of_eq (show 63 - (i 0).val / 64 < 64 by omega) N_0.symm⟩
  obtain ⟨e0, e1⟩ := (idx t).2.2.2.2.2.2.1
  have et : t.val = 63 - (i 0).val / 64 := rfl
  refine ⟨t, flush0_6 t, ?_⟩
  have h := ((cfg0.win 6).blk t).view.emb_mem_set (ix2 ⟨(i 0).val % 64, by omega⟩ (i 1) : S64x512.Idx)
  have e : ((cfg0.win 6).blk t).view.emb (ix2 ⟨(i 0).val % 64, by omega⟩ (i 1) : S64x512.Idx) = i := by
    funext z; apply Fin.ext
    match z with
    | ⟨0, _⟩ => show win0_6.index t (0 : Fin 2) * 64 + 1 * ((i 0).val % 64) = (i 0).val; omega
    | ⟨1, _⟩ => show win0_6.index t (1 : Fin 2) * 512 + 1 * (i 1).val = (i 1).val; omega
  rwa [e] at h

theorem final_Dq (h : Real m c q k v a g) : (dats m 0 c).arrAt 6 cfg0.N = Dq k v a g :=
  (dats m 0 c).arrAt_eq_of_cover 6 _ (fun t _ => flushed_Dq h t) covered_Dq

theorem flushed_Dk (h : Real m c q k v a g) (t : Fin cfg0.N) :
    (dats m 0 c).flushed 7 t = ((cfg0.win 7).blk t).view.read (Elt Ideal) (Dk q v a g) := by
  obtain ⟨e0, e1⟩ := (idx t).2.2.2.2.2.2.2.1
  have ht : t.val < 64 := lt_of_lt_of_eq t.isLt N_0
  have key : ∀ j : S64x512.Idx, (dats m 0 c).flushed 7 t j = ((dk q v a g (E q a g (63 - (63 - t.val))) (63 - t.val) ((j 1).val / 128) (j 0).val ((j 1).val % 128) : ℝ) : EReal) := by
    intro j
    have e63 : 63 - (63 - t.val) = t.val := by omega
    by_cases h0 : t.val % 64 = 0
    · rw [flushed7_A m c t h0]
      show out0_A_7 _ _ _ _ _ _ _ _ _ _ _ _ _ _ _ _ _ _ _ _ _ _ _ _ _ _ _ _ _ _ _  j = _
      rw [dkB_A (h0 := h0)]
      have z : IsD (E q a g (63 - (63 - t.val))) (k0_pay1 (F := Ideal)) := by rw [e63, show t.val = 0 by omega]; exact zero_val q a g
      exact (congrArg _ (eq_ix2 j)).trans (dkB_val (blk_q h t) (blk_v h t) (blk_a h t) (blk_g h t) (z) (j 0) (j 1))
    · rw [flushed7_B m c t h0]
      show out0_B_7 _ _ _ _ _ _ _ _ _ _ _ _ _ _ _ _ _ _ _ _ _ _ _ _ _ _ _ _ _ _ _ _  j = _
      rw [dkB_B]
      have z := scr h (t.val - 1) (Nat.lt_of_le_of_lt (Nat.sub_le _ _) t.isLt)
      rw [show t.val - 1 + 1 = 63 - (63 - t.val) by omega] at z
      exact (congrArg _ (eq_ix2 j)).trans (dkB_val (blk_q h t) (blk_v h t) (blk_a h t) (blk_g h t) (z) (j 0) (j 1))
  funext j
  refine (key j).trans ?_
  have hj0 : (j 0).val < 64 := (j 0).isLt
  have hj1 : (j 1).val < 512 := (j 1).isLt
  show _ = Dk q v a g (((cfg0.win 7).blk t).view.emb j)
  have e : (((cfg0.win 7).blk t).view.emb j) = (ix2 ⟨(63 - t.val) * 64 + (j 0).val, by omega⟩ (j 1) : S4096x512.Idx) := by
    funext z; apply Fin.ext
    match z with
    | ⟨0, _⟩ => show win0_7.index t (0 : Fin 2) * 64 + 1 * (j 0).val = (63 - t.val) * 64 + (j 0).val; omega
    | ⟨1, _⟩ => show win0_7.index t (1 : Fin 2) * 512 + 1 * (j 1).val = (j 1).val; omega
  rw [e]
  show _ = ((dk q v a g (E q a g (63 - (((63 - t.val) * 64 + (j 0).val) / 64))) (((63 - t.val) * 64 + (j 0).val) / 64) ((j 1).val / 128) (((63 - t.val) * 64 + (j 0).val) % 64) ((j 1).val % 128) : ℝ) : EReal)
  rw [show ((63 - t.val) * 64 + (j 0).val) / 64 = 63 - t.val by omega, show ((63 - t.val) * 64 + (j 0).val) % 64 = (j 0).val by omega]

theorem covered_Dk (i : S4096x512.Idx) : ∃ t : Fin cfg0.N, (cfg0.win 7).flush t = true ∧ i ∈ ((cfg0.win 7).blk t).view.set := by
  have h0 : (i 0).val < 4096 := (i 0).isLt
  have h1 : (i 1).val < 512 := (i 1).isLt
  let t : Fin cfg0.N := ⟨63 - (i 0).val / 64, lt_of_lt_of_eq (show 63 - (i 0).val / 64 < 64 by omega) N_0.symm⟩
  obtain ⟨e0, e1⟩ := (idx t).2.2.2.2.2.2.2.1
  have et : t.val = 63 - (i 0).val / 64 := rfl
  refine ⟨t, flush0_7 t, ?_⟩
  have h := ((cfg0.win 7).blk t).view.emb_mem_set (ix2 ⟨(i 0).val % 64, by omega⟩ (i 1) : S64x512.Idx)
  have e : ((cfg0.win 7).blk t).view.emb (ix2 ⟨(i 0).val % 64, by omega⟩ (i 1) : S64x512.Idx) = i := by
    funext z; apply Fin.ext
    match z with
    | ⟨0, _⟩ => show win0_7.index t (0 : Fin 2) * 64 + 1 * ((i 0).val % 64) = (i 0).val; omega
    | ⟨1, _⟩ => show win0_7.index t (1 : Fin 2) * 512 + 1 * (i 1).val = (i 1).val; omega
  rwa [e] at h

theorem final_Dk (h : Real m c q k v a g) : (dats m 0 c).arrAt 7 cfg0.N = Dk q v a g :=
  (dats m 0 c).arrAt_eq_of_cover 7 _ (fun t _ => flushed_Dk h t) covered_Dk

theorem flushed_Dv (h : Real m c q k v a g) (t : Fin cfg0.N) :
    (dats m 0 c).flushed 8 t = ((cfg0.win 8).blk t).view.read (Elt Ideal) (Dv q k a g) := by
  obtain ⟨e0, e1⟩ := (idx t).2.2.2.2.2.2.2.2.1
  have ht : t.val < 64 := lt_of_lt_of_eq t.isLt N_0
  have key : ∀ j : S64x512.Idx, (dats m 0 c).flushed 8 t j = ((dv q k a g (E q a g (63 - (63 - t.val))) (63 - t.val) ((j 1).val / 128) (j 0).val ((j 1).val % 128) : ℝ) : EReal) := by
    intro j
    have e63 : 63 - (63 - t.val) = t.val := by omega
    by_cases h0 : t.val % 64 = 0
    · rw [flushed8_A m c t h0]
      show out0_A_8 _ _ _ _ _ _ _ _ _ _ _ _ _ _ _ _ _ _ _ _ _ _ _ _ _ _ _ _ _ _ _  j = _
      rw [dvB_A (h0 := h0)]
      have z : IsD (E q a g (63 - (63 - t.val))) (k0_pay1 (F := Ideal)) := by rw [e63, show t.val = 0 by omega]; exact zero_val q a g
      exact (congrArg _ (eq_ix2 j)).trans (dvB_val (blk_q h t) (blk_k h t) (blk_a h t) (blk_g h t) (z) (j 0) (j 1))
    · rw [flushed8_B m c t h0]
      show out0_B_8 _ _ _ _ _ _ _ _ _ _ _ _ _ _ _ _ _ _ _ _ _ _ _ _ _ _ _ _ _ _ _ _  j = _
      rw [dvB_B]
      have z := scr h (t.val - 1) (Nat.lt_of_le_of_lt (Nat.sub_le _ _) t.isLt)
      rw [show t.val - 1 + 1 = 63 - (63 - t.val) by omega] at z
      exact (congrArg _ (eq_ix2 j)).trans (dvB_val (blk_q h t) (blk_k h t) (blk_a h t) (blk_g h t) (z) (j 0) (j 1))
  funext j
  refine (key j).trans ?_
  have hj0 : (j 0).val < 64 := (j 0).isLt
  have hj1 : (j 1).val < 512 := (j 1).isLt
  show _ = Dv q k a g (((cfg0.win 8).blk t).view.emb j)
  have e : (((cfg0.win 8).blk t).view.emb j) = (ix2 ⟨(63 - t.val) * 64 + (j 0).val, by omega⟩ (j 1) : S4096x512.Idx) := by
    funext z; apply Fin.ext
    match z with
    | ⟨0, _⟩ => show win0_8.index t (0 : Fin 2) * 64 + 1 * (j 0).val = (63 - t.val) * 64 + (j 0).val; omega
    | ⟨1, _⟩ => show win0_8.index t (1 : Fin 2) * 512 + 1 * (j 1).val = (j 1).val; omega
  rw [e]
  show _ = ((dv q k a g (E q a g (63 - (((63 - t.val) * 64 + (j 0).val) / 64))) (((63 - t.val) * 64 + (j 0).val) / 64) ((j 1).val / 128) (((63 - t.val) * 64 + (j 0).val) % 64) ((j 1).val % 128) : ℝ) : EReal)
  rw [show ((63 - t.val) * 64 + (j 0).val) / 64 = 63 - t.val by omega, show ((63 - t.val) * 64 + (j 0).val) % 64 = (j 0).val by omega]

theorem covered_Dv (i : S4096x512.Idx) : ∃ t : Fin cfg0.N, (cfg0.win 8).flush t = true ∧ i ∈ ((cfg0.win 8).blk t).view.set := by
  have h0 : (i 0).val < 4096 := (i 0).isLt
  have h1 : (i 1).val < 512 := (i 1).isLt
  let t : Fin cfg0.N := ⟨63 - (i 0).val / 64, lt_of_lt_of_eq (show 63 - (i 0).val / 64 < 64 by omega) N_0.symm⟩
  obtain ⟨e0, e1⟩ := (idx t).2.2.2.2.2.2.2.2.1
  have et : t.val = 63 - (i 0).val / 64 := rfl
  refine ⟨t, flush0_8 t, ?_⟩
  have h := ((cfg0.win 8).blk t).view.emb_mem_set (ix2 ⟨(i 0).val % 64, by omega⟩ (i 1) : S64x512.Idx)
  have e : ((cfg0.win 8).blk t).view.emb (ix2 ⟨(i 0).val % 64, by omega⟩ (i 1) : S64x512.Idx) = i := by
    funext z; apply Fin.ext
    match z with
    | ⟨0, _⟩ => show win0_8.index t (0 : Fin 2) * 64 + 1 * ((i 0).val % 64) = (i 0).val; omega
    | ⟨1, _⟩ => show win0_8.index t (1 : Fin 2) * 512 + 1 * (i 1).val = (i 1).val; omega
  rwa [e] at h

theorem final_Dv (h : Real m c q k v a g) : (dats m 0 c).arrAt 8 cfg0.N = Dv q k a g :=
  (dats m 0 c).arrAt_eq_of_cover 8 _ (fun t _ => flushed_Dv h t) covered_Dv

theorem flushed_Dla (h : Real m c q k v a g) (t : Fin cfg0.N) :
    (dats m 0 c).flushed 9 t = ((cfg0.win 9).blk t).view.read (Elt Ideal) (Dla q k v a g) := by
  obtain ⟨e0, e1⟩ := (idx t).2.2.2.2.2.2.2.2.2
  have ht : t.val < 64 := lt_of_lt_of_eq t.isLt N_0
  have key : ∀ j : S64x512.Idx, (dats m 0 c).flushed 9 t j = ((dla q k v a g (E q a g (63 - (63 - t.val))) (st k v a (63 - t.val)) (63 - t.val) ((j 1).val / 128) (j 0).val ((j 1).val % 128) : ℝ) : EReal) := by
    intro j
    have e63 : 63 - (63 - t.val) = t.val := by omega
    by_cases h0 : t.val % 64 = 0
    · rw [flushed9_A m c t h0]
      show out0_A_9 _ _ _ _ _ _ _ _ _ _ _ _ _ _ _ _ _ _ _ _ _ _ _ _ _ _ _ _ _ _ _  j = _
      rw [dlaB_A (h0 := h0)]
      have z : IsD (E q a g (63 - (63 - t.val))) (k0_pay1 (F := Ideal)) := by rw [e63, show t.val = 0 by omega]; exact zero_val q a g
      exact (congrArg _ (eq_ix2 j)).trans (dlaB_val (blk_q h t) (blk_k h t) (blk_v h t) (blk_a h t) (blk_g h t) (blk_s h t) (z) (j 0) (j 1))
    · rw [flushed9_B m c t h0]
      show out0_B_9 _ _ _ _ _ _ _ _ _ _ _ _ _ _ _ _ _ _ _ _ _ _ _ _ _ _ _ _ _ _ _ _  j = _
      rw [dlaB_B]
      have z := scr h (t.val - 1) (Nat.lt_of_le_of_lt (Nat.sub_le _ _) t.isLt)
      rw [show t.val - 1 + 1 = 63 - (63 - t.val) by omega] at z
      exact (congrArg _ (eq_ix2 j)).trans (dlaB_val (blk_q h t) (blk_k h t) (blk_v h t) (blk_a h t) (blk_g h t) (blk_s h t) (z) (j 0) (j 1))
  funext j
  refine (key j).trans ?_
  have hj0 : (j 0).val < 64 := (j 0).isLt
  have hj1 : (j 1).val < 512 := (j 1).isLt
  show _ = Dla q k v a g (((cfg0.win 9).blk t).view.emb j)
  have e : (((cfg0.win 9).blk t).view.emb j) = (ix2 ⟨(63 - t.val) * 64 + (j 0).val, by omega⟩ (j 1) : S4096x512.Idx) := by
    funext z; apply Fin.ext
    match z with
    | ⟨0, _⟩ => show win0_9.index t (0 : Fin 2) * 64 + 1 * (j 0).val = (63 - t.val) * 64 + (j 0).val; omega
    | ⟨1, _⟩ => show win0_9.index t (1 : Fin 2) * 512 + 1 * (j 1).val = (j 1).val; omega
  rw [e]
  show _ = ((dla q k v a g (E q a g (63 - (((63 - t.val) * 64 + (j 0).val) / 64))) (st k v a (((63 - t.val) * 64 + (j 0).val) / 64)) (((63 - t.val) * 64 + (j 0).val) / 64) ((j 1).val / 128) (((63 - t.val) * 64 + (j 0).val) % 64) ((j 1).val % 128) : ℝ) : EReal)
  rw [show ((63 - t.val) * 64 + (j 0).val) / 64 = 63 - t.val by omega, show ((63 - t.val) * 64 + (j 0).val) % 64 = (j 0).val by omega]

theorem covered_Dla (i : S4096x512.Idx) : ∃ t : Fin cfg0.N, (cfg0.win 9).flush t = true ∧ i ∈ ((cfg0.win 9).blk t).view.set := by
  have h0 : (i 0).val < 4096 := (i 0).isLt
  have h1 : (i 1).val < 512 := (i 1).isLt
  let t : Fin cfg0.N := ⟨63 - (i 0).val / 64, lt_of_lt_of_eq (show 63 - (i 0).val / 64 < 64 by omega) N_0.symm⟩
  obtain ⟨e0, e1⟩ := (idx t).2.2.2.2.2.2.2.2.2
  have et : t.val = 63 - (i 0).val / 64 := rfl
  refine ⟨t, flush0_9 t, ?_⟩
  have h := ((cfg0.win 9).blk t).view.emb_mem_set (ix2 ⟨(i 0).val % 64, by omega⟩ (i 1) : S64x512.Idx)
  have e : ((cfg0.win 9).blk t).view.emb (ix2 ⟨(i 0).val % 64, by omega⟩ (i 1) : S64x512.Idx) = i := by
    funext z; apply Fin.ext
    match z with
    | ⟨0, _⟩ => show win0_9.index t (0 : Fin 2) * 64 + 1 * ((i 0).val % 64) = (i 0).val; omega
    | ⟨1, _⟩ => show win0_9.index t (1 : Fin 2) * 512 + 1 * (i 1).val = (i 1).val; omega
  rwa [e] at h

theorem final_Dla (h : Real m c q k v a g) : (dats m 0 c).arrAt 9 cfg0.N = Dla q k v a g :=
  (dats m 0 c).arrAt_eq_of_cover 9 _ (fun t _ => flushed_Dla h t) covered_Dla

end Cert.Proof.GlaBKer

end
-- ==== Proof.GlaB.lean ====
/- The gradient of the gated recurrence against its reference. -/
module

public import proofs.«01_k».proof.Proof.GlaBFinal
public import proofs.«01_k».proof.Proof.GlaBPre
public import proofs.«01_k».proof.Proof.GlaBKer
public import Idealize.ShloMosaic.Lib.Quiescent

@[expose] public section

noncomputable section

namespace Cert.Proof.GlaB

open Idealize.ShloMosaic Idealize.ShloMosaic.TcCoe Idealize.SL.Sem Cert.Proof.GlaModel Cert.Proof.GlaBModel

theorem frame_ref : Cert.quiescent_Reference21Ideal := fun m ρ _ =>
  (θ_run Cert.Reference21Ideal.defs _ _).mono (fun r h => ⟨fun c =>
    ⟨(h c Cert.Reference21Ideal.main_arg0 rfl).trans (GlaBFinal.kept_arg0 m c), (h c Cert.Reference21Ideal.main_arg1 rfl).trans (GlaBFinal.kept_arg1 m c),
      (h c Cert.Reference21Ideal.main_arg2 rfl).trans (GlaBFinal.kept_arg2 m c), (h c Cert.Reference21Ideal.main_arg3 rfl).trans (GlaBFinal.kept_arg3 m c)⟩,
    sem_eq_zero_of_no_sems rfl _⟩) (GlaBRun.run m ρ)
theorem frame_ref_pre [Cert.Pre_carried.Facts] : Cert.quiescent_Reference21Ideal_pre_carried := fun m ρ _ => frame_ref m ρ trivial

/-- The call and the derivative of the recurrence, chunk by chunk, end with equal results. -/
theorem algebraic [Cert.Pre_carried.Facts] : Cert.algebraic_Kernel21Ideal_Reference21Ideal_pre_carried := by
  intro m g m' g' hp hm
  refine ⟨_, _, _, _, Cert.Kernel21Ideal.Value.run_blocks m g, ?_⟩
  refine (θ_run Cert.Reference21Ideal.defs _ _).mono (fun r h c => ?_) (GlaBRun.run m' g')
  obtain ⟨q, k, v, a, y, hr, hs⟩ := GlaBPre.real_of_pre _ _ _ _ (hp c)
  obtain ⟨e0, e1, e2, e3⟩ := hm c
  have H : GlaBLoop.Args q k v a y m' c := by
    refine ⟨?_, ?_⟩
    · unfold GlaBEntry.A0 GlaBEntry.A1
      rw [e0, e1]
      exact ⟨fun r x h1 _ h3 => (hr ⟨r, h1⟩ ⟨x, h3⟩).1, fun r x h1 _ h3 => (hr ⟨r, h1⟩ ⟨x, h3⟩).2.1, fun r x h1 _ h3 => (hr ⟨r, h1⟩ ⟨x, h3⟩).2.2.1,
        fun r x h1 h3 => (hr ⟨r, h1⟩ ⟨x, h3⟩).2.2.2.1⟩
    · unfold GlaBLoop.A2
      rw [e2]
      exact fun r x h1 h3 => (hr ⟨r, h1⟩ ⟨x, h3⟩).2.2.2.2
  have K : GlaBKer.Real m c q k v a y := ⟨fun r x => (hr r x).1, fun r x => (hr r x).2.1, fun r x => (hr r x).2.2.1, fun r x => (hr r x).2.2.2.1, fun r x => (hr r x).2.2.2.2, hs⟩
  refine ⟨(h c Cert.Reference21Ideal.main_v107 rfl).trans ?_, (h c Cert.Reference21Ideal.main_v104 rfl).trans ?_, (h c Cert.Reference21Ideal.main_v103 rfl).trans ?_,
    (h c Cert.Reference21Ideal.main_v102 rfl).trans ?_,
    (h c Cert.Reference21Ideal.main_arg0 rfl).trans (GlaBFinal.kept_arg0 m' c), (h c Cert.Reference21Ideal.main_arg1 rfl).trans (GlaBFinal.kept_arg1 m' c),
    (h c Cert.Reference21Ideal.main_arg2 rfl).trans (GlaBFinal.kept_arg2 m' c), (h c Cert.Reference21Ideal.main_arg3 rfl).trans (GlaBFinal.kept_arg3 m' c)⟩
  · rw [GlaBKer.final_Dq K]
    funext j
    rw [eq_ix2 j]
    exact GlaBFinal.final_v107 H _ _
  · rw [GlaBKer.final_Dk K]
    funext j
    rw [eq_ix2 j]
    exact GlaBFinal.final_v104 H _ _
  · rw [GlaBKer.final_Dv K]
    funext j
    rw [eq_ix2 j]
    exact GlaBFinal.final_v103 H _ _
  · rw [GlaBKer.final_Dla K]
    funext j
    rw [eq_ix2 j]
    exact GlaBFinal.final_v102 H _ _

end Cert.Proof.GlaB

end
-- ==== Proof.GluBwd.lean ====
/- `s5_glu_bwd`, the gradient of the state space branch's gate: entry by entry the call's two products are the reference's, the
   call's logistic function being the hyperbolic tangent, the reference's the quotient. -/
module

public import proofs.«01_k».proof.Defs
public import proofs.«01_k».proof.Proof.Arith
public import proofs.«01_k».proof.Proof.FfnUp
public import proofs.«01_k».proof.Proof.Gen.Kernel22Ideal.Value
public import proofs.«01_k».proof.Proof.Gen.Reference22Ideal.Read
public import Idealize.ShloMosaic.Lib.Pointwise

@[expose] public section

noncomputable section

namespace Cert.Proof.GluBwd

open Cert.Kernel22Ideal Cert.Kernel22Ideal.Gen Idealize.ShloMosaic Idealize.ShloMosaic.TcCoe Idealize.SL.Sem
open Cert.Proof.FfnUp (ks ks_eq)

/-- The gradient of the gate's logit, and that of the activations, entry by entry. -/
def T (dy yg t : FVec Ideal S4096x512 .f32) : FVec Ideal S4096x512 .bf16 :=
  fun i => HMul.hMul (α := EReal) (β := EReal) (γ := EReal) (HMul.hMul (α := EReal) (β := EReal) (γ := EReal)
    (HMul.hMul (α := EReal) (β := EReal) (γ := EReal) (dy i) (yg i)) (ks (t i))) (((1 : ℝ) : EReal) - ks (t i))
def Y (dy t : FVec Ideal S4096x512 .f32) : FVec Ideal S4096x512 .f32 :=
  fun i => HMul.hMul (α := EReal) (β := EReal) (γ := EReal) (dy i) (ks (t i))

theorem ker_t (dy yg t : FVec Ideal S4096x512 .f32) : Cert.Kernel22Ideal.Value.G3 (F := Ideal) dy yg t = T dy yg t := by
  funext i
  unfold T ks
  rw [← Arith.ofBits_half, ← Arith.ofBits_one]
  rfl
theorem ker_y (dy t : FVec Ideal S4096x512 .f32) : Cert.Kernel22Ideal.Value.G4 (F := Ideal) dy t = Y dy t := by
  funext i
  unfold Y ks
  rw [← Arith.ofBits_half]
  rfl

open Cert.Reference22Ideal.Read

/-- The reference's logistic function is the call's. -/
theorem ref_s (t : FVec Ideal S4096x512 .f32) (i : S4096x512.Idx) : val_main_v5 (F := Ideal) t i = ks (t i) := by
  rw [val_main_v5_apply, val_main_v4_apply, val_main_cst_0_apply, val_main_v3_apply, val_main_v2_apply, val_main_cst_apply,
    val_main_v1_apply, val_main_v0_apply, ks_eq, ← Arith.ofBits_one]
  rfl
theorem ref_t (dy yg t : FVec Ideal S4096x512 .f32) : val_main_v13 (F := Ideal) dy yg t = T dy yg t := by
  funext i
  rw [val_main_v13_apply, val_main_v12_apply, val_main_v10_apply, val_main_v8_apply, val_main_v7_apply, val_main_v6_apply,
    val_main_cst_1_apply, ref_s]
  show HMul.hMul (α := EReal) (β := EReal) (γ := EReal) (HMul.hMul (α := EReal) (β := EReal) (γ := EReal) (yg i) (dy i))
    (HMul.hMul (α := EReal) (β := EReal) (γ := EReal) (ks (t i)) (Ideal.ofBits .f32 0x3F800000#32 - ks (t i))) = _
  rw [Arith.ofBits_one]
  unfold T
  rw [mul_comm (yg i : EReal) (dy i), mul_assoc, mul_assoc, mul_assoc]
theorem ref_y (dy t : FVec Ideal S4096x512 .f32) : val_main_v11 (F := Ideal) dy t = Y dy t := by
  funext i
  rw [val_main_v11_apply, ref_s]
  rfl

/-- The call and its reference end with equal results. -/
theorem algebraic : Cert.algebraic_Kernel22Ideal_Reference22Ideal := by
  intro m g m' g' _ hm
  refine ⟨fun c => T (m ((c : Thread nD τ).loc main_arg0)) (m ((c : Thread nD τ).loc main_arg1)) (m ((c : Thread nD τ).loc main_arg2)),
    fun c => Y (m ((c : Thread nD τ).loc main_arg0)) (m ((c : Thread nD τ).loc main_arg2)), ?_, ?_⟩
  · exact (θ_run defs _ _).mono (fun r h c => ⟨(h c).1.trans (ker_t _ _ _), (h c).2.1.trans (ker_y _ _), (h c).2.2⟩) (Cert.Kernel22Ideal.Value.run m g)
  · refine (θ_run Cert.Reference22Ideal.defs _ _).mono (fun r h c => ?_) (Cert.Reference22Ideal.Value.run m' g')
    obtain ⟨e0, e1, e2⟩ := hm c
    refine ⟨(h c).1.trans ?_, (h c).2.1.trans ?_, (h c).2.2⟩
    · rw [e0, e1, e2]
      exact ref_t _ _ _
    · rw [e0, e2]
      exact ref_y _ _

end Cert.Proof.GluBwd

end
-- ==== Proof.GlaDwalpha.lean ====
/- `gla_dwalpha`, the gradient of a direction's gate weight: the result of the one tile is one whole product, the cotangent
   transposed against the 128 columns of the mixer's projection that the gates read, and so is the reference's. -/
module

public import proofs.«01_k».proof.Defs
public import proofs.«01_k».proof.Proof.Arith
public import proofs.«01_k».proof.Proof.Gen.Kernel23Ideal.Value
public import proofs.«01_k».proof.Proof.Gen.Reference23Ideal.Read
public import Idealize.ShloMosaic.Lib.Pointwise

@[expose] public section

noncomputable section

namespace Cert.Proof.GlaDwalpha

open Cert.Kernel23Ideal Cert.Kernel23Ideal.Gen Cert.Kernel23Ideal.Value Idealize.ShloMosaic Idealize.ShloMosaic.TcCoe Idealize.SL.Sem

/-- Column `n` of the gates' columns, in the whole projection. -/
def col (n : Fin 128) : Fin 6656 := ⟨6400 + n.val, by omega⟩

/-- The whole result, entry by entry. -/
def G (pg : FVec Ideal S4096x6656 .f32) (dlg : FVec Ideal S4096x512 .f32) : FVec Ideal S512x128 .f32 :=
  fun j => ∑ k : Fin 4096, dlg (ix2 k (j 0)) * pg (ix2 k (col (j 1)))

theorem hz : (![0, 0] : Fin 2 → Nat) = fun _ => 0 := funext fun a => by fin_cases a <;> rfl

/-- What the one grid point writes: the result. -/
theorem out_apply (x0 : Vec Ideal S4096x512 .bf16) (x1 : Vec Ideal S4096x128 .f32) (j : S512x128.Idx) :
    out0_2 x0 x1 j = ∑ k : Fin 4096, x0 (ix2 k (j 0)) * x1 (ix2 k (j 1)) := by
  unfold out0_2
  rw [View.canon_unit_zero hz, View.ld_unit_zero hz, View.ld_unit_zero hz]
  simp only [k0_pay1, pointwise, zero_add]

variable (m : (ℓ : Loc nD τ sig) → Buf (Elt Ideal) ℓ) (ρ : Dev nD → PrngReg)

/-- The operands the call takes are the arguments: the host's rounding is the identity over the extended reals. -/
theorem V0 (c : Dev nD) : V m c main_v0 = m ((c : Thread nD τ).loc main_arg1) := by
  unfold V; after_results; rfl
theorem V1 (c : Dev nD) : V m c main_arg0 = m ((c : Thread nD τ).loc main_arg0) := by
  unfold V; after_results

/-- Where the operands' blocks and the result's stand. -/
theorem idx : ∀ t : Fin cfg0.N, (win0_0.index t (0 : Fin 2) = 0 ∧ win0_0.index t (1 : Fin 2) = 0)
    ∧ (win0_1.index t (0 : Fin 2) = 0 ∧ win0_1.index t (1 : Fin 2) = 50)
    ∧ win0_2.index t (0 : Fin 2) = 0 ∧ win0_2.index t (1 : Fin 2) = 0 :=
  (by decide +kernel : ∀ t : Fin grid0.N, _)
theorem idx_onto : ∃ t : Fin cfg0.N, win0_2.index t (0 : Fin 2) = 0 ∧ win0_2.index t (1 : Fin 2) = 0 :=
  (by decide +kernel : ∃ t : Fin grid0.N, _)

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨⟨e0, e1⟩, ⟨e2, e3⟩, e4, e5⟩ := idx t
  rw [flushed2]
  funext j
  refine (out_apply _ _ j).trans ?_
  show _ = G _ _ (((cfg0.win 2).blk t).view.emb j)
  unfold G
  refine Finset.sum_congr rfl fun k _ => ?_
  show HMul.hMul (α := EReal) (β := EReal) (γ := EReal) (V m c main_v0 (((cfg0.win 0).blk t).view.emb _))
    (V m c main_arg0 (((cfg0.win 1).blk t).view.emb _)) = _
  rw [V0, V1]
  congr 1
  · congr 1; funext a; apply Fin.ext
    match a with
    | ⟨0, _⟩ => show win0_0.index t (0 : Fin 2) * 4096 + 1 * k.val = k.val; omega
    | ⟨1, _⟩ => show win0_0.index t (1 : Fin 2) * 512 + 1 * (j 0).val = win0_2.index t (0 : Fin 2) * 512 + 1 * (j 0).val; omega
  · congr 1; funext a; apply Fin.ext
    match a with
    | ⟨0, _⟩ => show win0_1.index t (0 : Fin 2) * 4096 + 1 * k.val = k.val; omega
    | ⟨1, _⟩ => show win0_1.index t (1 : Fin 2) * 128 + 1 * (j 1).val = 6400 + (win0_2.index t (1 : Fin 2) * 128 + 1 * (j 1).val); omega

/-- The tile covers the result. -/
theorem covered (i : S512x128.Idx) :
    ∃ t : Fin cfg0.N, (cfg0.win 2).flush t = true ∧ i ∈ ((cfg0.win 2).blk t).view.set := by
  obtain ⟨t, e0, e1⟩ := idx_onto
  refine ⟨t, flush0_2 t, ?_⟩
  have h := ((cfg0.win 2).blk t).view.emb_mem_set (i : S512x128.Idx)
  have e : ((cfg0.win 2).blk t).view.emb (i : S512x128.Idx) = i := by
    funext a; apply Fin.ext
    match a with
    | ⟨0, _⟩ => show win0_2.index t (0 : Fin 2) * 512 + 1 * (i 0).val = (i 0).val; omega
    | ⟨1, _⟩ => show win0_2.index t (1 : Fin 2) * 128 + 1 * (i 1).val = (i 1).val; omega
  rwa [e] at h

theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) covered

open Cert.Reference23Ideal.Read

/-- The reference's product is the same sum. -/
theorem ref_eq (pg : FVec Ideal S4096x6656 .f32) (dlg : FVec Ideal S4096x512 .f32) :
    val_main_v5 (F := Ideal) pg dlg = G pg dlg := by
  funext j
  rw [val_main_v5_apply, val_main_v4_apply, val_main_v3_apply]
  unfold G
  refine Finset.sum_congr rfl fun k _ => ?_
  rw [val_main_v0_apply]
  congr 1
  · congr 1; funext a; apply Fin.ext
    match a with
    | ⟨0, _⟩ => rfl
    | ⟨1, _⟩ => rfl
  · congr 1; funext a; apply Fin.ext
    match a with
    | ⟨0, _⟩ => rfl
    | ⟨1, _⟩ => rfl

/-- The call and its reference end with equal results. -/
theorem algebraic : Cert.algebraic_Kernel23Ideal_Reference23Ideal := by
  intro m g m' g' _ hm
  refine ⟨fun c => G (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference23Ideal.defs _ _).mono (fun r h c => ⟨(h c).1.trans ?_, (h c).2⟩) (Cert.Reference23Ideal.Value.run m' g')
    rw [(hm c).1, (hm c).2]
    exact ref_eq _ _

end Cert.Proof.GlaDwalpha

end
-- ==== Proof.NormBwd.lean ====
/- `rmsnorm_bwd`, the gradient of the norm: the call goes through the rows in sixteen blocks, writes each block's gradient of the
   input, and sums the gradient of the gain over the blocks. The call subtracts one product with the cubed reciprocal root; the
   transposed rule adds, twice, half of a product with the reciprocal root divided by the mean square. The two agree at the
   infinities as well. -/
module

public import proofs.«01_k».proof.Defs
public import proofs.«01_k».proof.Proof.Arith
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pointwise
public import Idealize.ShloMosaic.Lib.Pipeline.ReadBack
public import Idealize.ShloMosaic.Lib.Pipeline.ValueKit.Acc
public import Idealize.ShloMosaic.Lib.Pipeline.ValueKit.Tiles

@[expose] public section

noncomputable section

namespace Cert.Proof.NormBwd

open Cert.Kernel24Ideal Cert.Kernel24Ideal.Gen Cert.Kernel24Ideal.Value Idealize.ShloMosaic Idealize.ShloMosaic.TcCoe Idealize.SL.Sem

abbrev c1024 : EReal := Ideal.ofBits .f32 0x44800000#32
abbrev ceps : EReal := Ideal.ofBits .f32 0x358637BD#32

/-- The reciprocal root of a row's mean square. -/
def rs (f : Fin 1024 → EReal) : EReal := Ideal.rsqrt (Ideal.div (∑ k, f k * f k) c1024 + ceps)
/-- The gradient at an entry of a row. -/
def dxv (f d g : Fin 1024 → EReal) (e : EReal) (j : Fin 1024) : EReal :=
  e + (rs f * (d j * g j) - f j * (rs f * rs f * rs f) * Ideal.div (∑ k, f k * (d k * g k)) c1024)

theorem dxv_congr {f f' d d' g g' : Fin 1024 → EReal} {e e' : EReal} (hf : ∀ k, f k = f' k) (hd : ∀ k, d k = d' k) (hg : ∀ k, g k = g' k)
    (he : e = e') (j : Fin 1024) : dxv f d g e j = dxv f' d' g' e' j := by
  obtain rfl := funext hf
  obtain rfl := funext hd
  obtain rfl := funext hg
  rw [he]

theorem pay2_val (v0 : Vec Ideal S256x1024 .f32) (i : Fin 256) (z : Fin 1) :
    k0_pay2 (F := Ideal) v0 (ix2 i z) = rs fun k => v0 (ix2 i k) := by
  simp only [k0_pay2, pointwise, zero_add]
  rfl
theorem pay3_val (v0 v1 v2 : Vec Ideal S256x1024 .f32) (v3 : Vec Ideal S1x1024 .f32) (i : Fin 256) (j : Fin 1024) :
    k0_pay3 (F := Ideal) v0 v1 v2 v3 (ix2 i j) = dxv (fun k => v0 (ix2 i k)) (fun k => v1 (ix2 i k)) (fun k => v3 (ix2 0 k)) (v2 (ix2 i j)) j := by
  simp only [k0_pay3, pointwise, zero_add]
  simp only [show ¬(256 : ℕ) = 1 by decide, show ¬(1024 : ℕ) = 1 by decide, ↓reduceDIte, pay2_val]
  rfl
theorem pay4_val (v0 v1 : Vec Ideal S256x1024 .f32) (z : Fin 1) (j : Fin 1024) :
    k0_pay4 (F := Ideal) v0 v1 (ix2 z j) = ∑ i : Fin 256, HMul.hMul (α := EReal) (β := EReal) (γ := EReal) (HMul.hMul (α := EReal) (β := EReal) (γ := EReal) (v1 (ix2 i j)) (v0 (ix2 i j))) (rs fun k => v0 (ix2 i k)) := by
  simp only [k0_pay4, pointwise, zero_add]
  simp only [show ¬(256 : ℕ) = 1 by decide, show ¬(1024 : ℕ) = 1 by decide, ↓reduceDIte, pay2_val]
theorem pay1_val (p a : Vec Ideal S1x1024 .f32) (z : Fin 1) (j : Fin 1024) :
    k0_pay1 (F := Ideal) p a (ix2 z j) = HAdd.hAdd (α := EReal) (β := EReal) (γ := EReal) (a (ix2 z j)) (p (ix2 z j)) := by
  simp only [k0_pay1, pointwise]

section Cases
variable (c : Dev nD) (t : Fin cfg0.N) (x0 x1 x2 : Vec Ideal S256x1024 .f32) (x3 acc : Vec Ideal S1x1024 .f32)
theorem out_A (h0 : t.val % 16 = 0) (h1 : ¬1 ≤ t.val) : out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) x0 x1 x2 x3 = k0_pay3 (F := Ideal) x0 x1 x2 x3 := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
theorem out_B (h0 : ¬t.val % 16 = 0) (h1 : 1 ≤ t.val) : out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) x0 x1 x2 x3 acc = k0_pay3 (F := Ideal) x0 x1 x2 x3 := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
theorem gain_A (h0 : t.val % 16 = 0) (h1 : ¬1 ≤ t.val) : out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) x0 x1 x2 x3 = k0_pay4 (F := Ideal) x0 x1 := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
theorem gain_B (h0 : ¬t.val % 16 = 0) (h1 : 1 ≤ t.val) : out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) x0 x1 x2 x3 acc = k0_pay1 (F := Ideal) (k0_pay4 (F := Ideal) x0 x1) acc := by
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread, read_unread_whole]
end Cases

/-! ## The arrays the call leaves -/

/-- A row of an array, and the two results at an entry. -/
abbrev row (x : FVec Ideal S4096x1024 .f32) (r : Fin 4096) : Fin 1024 → EReal := fun k => x (ix2 r k)
def DX (x : FVec Ideal S4096x1024 .f32) (g : FVec Ideal S1024 .f32) (dh dres : FVec Ideal S4096x1024 .f32) : FVec Ideal S4096x1024 .f32 :=
  fun i => dxv (row x (i 0)) (row dh (i 0)) (fun k => g (ix1 k)) (dres i) (i 1)
/-- One row's part of the gain's gradient. -/
def part (x dh : FVec Ideal S4096x1024 .f32) (j : Fin 1024) (r : Fin 4096) : EReal :=
  HMul.hMul (α := EReal) (β := EReal) (γ := EReal) (HMul.hMul (α := EReal) (β := EReal) (γ := EReal) (dh (ix2 r j)) (x (ix2 r j))) (rs (row x r))
def DG (x dh : FVec Ideal S4096x1024 .f32) : FVec Ideal S1x1024 .f32 := fun i => ∑ r, part x dh (i 1) r
/-- The same, rows counted by numbers. -/
def partN (x dh : FVec Ideal S4096x1024 .f32) (j : Fin 1024) (n : ℕ) : EReal := if h : n < 4096 then part x dh j ⟨n, h⟩ else 0

variable (m : (ℓ : Loc nD τ sig) → Buf (Elt Ideal) ℓ) (ρ : Dev nD → PrngReg) (c : Dev nD)

theorem V0 : V m c main_v0 = fun i : S1x1024.Idx => (m ((c : Thread nD τ).loc main_arg1) : FVec Ideal S1024 .f32) (ix1 (i 1)) := by
  unfold V; after_results
  funext i
  exact shapeCast_apply _ shapeCasts_S1024_S1x1024 i (ix1 (i 1))
    (by rewrite [Shape.rowMajor_val_one, Shape.rowMajor_val_two]; have h0 : (i 0).val < 1 := (i 0).isLt; show (i 1).val = (i 0).val * 1024 + (i 1).val; omega)

theorem idx : ∀ t : Fin cfg0.N, (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_3.index t (0 : Fin 2) = 0 ∧ win0_3.index t (1 : Fin 2) = 0)
    ∧ (win0_4.index t (0 : Fin 2) = t.val ∧ win0_4.index t (1 : Fin 2) = 0) ∧ (win0_5.index t (0 : Fin 2) = 0 ∧ win0_5.index t (1 : Fin 2) = 0) :=
  (by decide +kernel : ∀ t : Fin grid0.N, _)

theorem lt16 (t : Fin cfg0.N) : t.val < 16 := lt_of_lt_of_eq t.isLt N_0
/-- The row of the whole array under row `i` of point `t`'s block. -/
def rw' (t : Fin cfg0.N) (i : Fin 256) : Fin 4096 := ⟨256 * t.val + i.val, by have := lt16 t; omega⟩

theorem blk_x (t : Fin cfg0.N) (i : Fin 256) (j : Fin 1024) :
    (iblk m c 0 t : Vec Ideal S256x1024 .f32) (ix2 i j) = (m ((c : Thread nD τ).loc main_arg0) : FVec Ideal S4096x1024 .f32) (ix2 (rw' t i) j) := by
  obtain ⟨e0, e1⟩ := (idx t).1
  show V m c main_arg0 (((cfg0.win 0).blk t).view.emb (ix2 i j : S256x1024.Idx)) = _
  rw [V_main_arg0 m c]
  congr 1; funext z; apply Fin.ext
  match z with
  | ⟨0, _⟩ => show win0_0.index t (0 : Fin 2) * 256 + 1 * i.val = 256 * t.val + i.val; omega
  | ⟨1, _⟩ => show win0_0.index t (1 : Fin 2) * 1024 + 1 * j.val = j.val; omega
theorem blk_dh (t : Fin cfg0.N) (i : Fin 256) (j : Fin 1024) :
    (iblk m c 1 t : Vec Ideal S256x1024 .f32) (ix2 i j) = (m ((c : Thread nD τ).loc main_arg2) : FVec Ideal S4096x1024 .f32) (ix2 (rw' t i) j) := by
  obtain ⟨e0, e1⟩ := (idx t).2.1
  show V m c main_arg2 (((cfg0.win 1).blk t).view.emb (ix2 i j : S256x1024.Idx)) = _
  rw [V_main_arg2 m c]
  congr 1; funext z; apply Fin.ext
  match z with
  | ⟨0, _⟩ => show win0_1.index t (0 : Fin 2) * 256 + 1 * i.val = 256 * t.val + i.val; omega
  | ⟨1, _⟩ => show win0_1.index t (1 : Fin 2) * 1024 + 1 * j.val = j.val; omega
theorem blk_dres (t : Fin cfg0.N) (i : Fin 256) (j : Fin 1024) :
    (iblk m c 2 t : Vec Ideal S256x1024 .f32) (ix2 i j) = (m ((c : Thread nD τ).loc main_arg3) : FVec Ideal S4096x1024 .f32) (ix2 (rw' t i) j) := by
  obtain ⟨e0, e1⟩ := (idx t).2.2.1
  show V m c main_arg3 (((cfg0.win 2).blk t).view.emb (ix2 i j : S256x1024.Idx)) = _
  rw [V_main_arg3 m c]
  congr 1; funext z; apply Fin.ext
  match z with
  | ⟨0, _⟩ => show win0_2.index t (0 : Fin 2) * 256 + 1 * i.val = 256 * t.val + i.val; omega
  | ⟨1, _⟩ => show win0_2.index t (1 : Fin 2) * 1024 + 1 * j.val = j.val; omega
theorem blk_g (t : Fin cfg0.N) (i : Fin 1) (j : Fin 1024) :
    (iblk m c 3 t : Vec Ideal S1x1024 .f32) (ix2 i j) = (m ((c : Thread nD τ).loc main_arg1) : FVec Ideal S1024 .f32) (ix1 j) := by
  obtain ⟨e0, e1⟩ := (idx t).2.2.2.1
  show V m c main_v0 (((cfg0.win 3).blk t).view.emb (ix2 i j : S1x1024.Idx)) = _
  rw [V0 m c]
  show (m ((c : Thread nD τ).loc main_arg1) : FVec Ideal S1024 .f32) _ = _
  congr 1; funext z; apply Fin.ext
  match z with
  | ⟨0, _⟩ => show win0_3.index t (1 : Fin 2) * 1024 + 1 * j.val = j.val; omega

abbrev X : FVec Ideal S4096x1024 .f32 := m ((c : Thread nD τ).loc main_arg0)
abbrev G : FVec Ideal S1024 .f32 := m ((c : Thread nD τ).loc main_arg1)
abbrev DH : FVec Ideal S4096x1024 .f32 := m ((c : Thread nD τ).loc main_arg2)
abbrev DR : FVec Ideal S4096x1024 .f32 := m ((c : Thread nD τ).loc main_arg3)

theorem flushed_x (t : Fin cfg0.N) :
    (dats m 0 c).flushed 4 t = ((cfg0.win 4).blk t).view.read (Elt Ideal) (DX (X m c) (G m c) (DH m c) (DR m c)) := by
  have key : (dats m 0 c).flushed 4 t = (k0_pay3 (F := Ideal) (iblk m c 0 t) (iblk m c 1 t) (iblk m c 2 t) (iblk m c 3 t)) := by
    have ht := lt16 t
    by_cases h0 : t.val % 16 = 0
    · rw [flushed4_A m c t h0 (by omega), out_A (h0 := h0) (h1 := by omega)]
      rfl
    · rw [flushed4_B m c t h0 (by omega), out_B (h0 := h0) (h1 := by omega)]
      rfl
  refine key.trans ?_
  funext j
  obtain ⟨e0, e1⟩ := (idx t).2.2.2.2.1
  have e : ((cfg0.win 4).blk t).view.emb j = (ix2 (rw' t (j 0)) (j 1) : S4096x1024.Idx) := by
    funext z; apply Fin.ext
    match z with
    | ⟨0, _⟩ => show win0_4.index t (0 : Fin 2) * 256 + 1 * (j 0).val = 256 * t.val + (j 0).val; omega
    | ⟨1, _⟩ => show win0_4.index t (1 : Fin 2) * 1024 + 1 * (j 1).val = (j 1).val; omega
  show _ = DX _ _ _ _ (((cfg0.win 4).blk t).view.emb j)
  rw [e]
  refine (congrArg _ (eq_ix2 j)).trans ((pay3_val _ _ _ _ (j 0) (j 1)).trans ?_)
  exact dxv_congr (fun k => blk_x m c t _ k) (fun k => blk_dh m c t _ k) (fun k => blk_g m c t _ k) (blk_dres m c t _ _) _

/-- The part of the gain's gradient that a point's rows make. -/
theorem pay4_blk (t : Fin cfg0.N) (z : Fin 1) (j : Fin 1024) :
    k0_pay4 (F := Ideal) (iblk m c 0 t) (iblk m c 1 t) (ix2 z j) = ∑ i ∈ Finset.range 256, partN (X m c) (DH m c) j (256 * t.val + i) := by
  rw [pay4_val, Finset.sum_range]
  refine Finset.sum_congr rfl fun i _ => ?_
  have h := (rw' t i).isLt
  unfold partN
  rw [dif_pos (show 256 * t.val + i.val < 4096 from h)]
  simp only [blk_x, blk_dh]
  rfl

/-- What the points up to `n` have summed. -/
theorem acc_val : ∀ (n : ℕ) (hn : n < cfg0.N) (z : Fin 1) (j : Fin 1024),
    (outsAt0 m c n hn).2 (ix2 z j) = ∑ i ∈ Finset.range (256 * (n + 1)), partN (X m c) (DH m c) j i
  | 0, hn, z, j => by
    rw [outsAt0_A m c ⟨0, hn⟩ (Nat.zero_mod _) (by simp)]
    dsimp only
    rw [gain_A (h0 := Nat.zero_mod _) (h1 := by simp), pay4_blk]
    simp only [Nat.mul_zero, Nat.zero_add, Nat.mul_one]
  | n + 1, hn, z, j => by
    have hN : n + 1 < 16 := lt_of_lt_of_eq hn N_0
    have ih := acc_val n (Nat.lt_of_succ_lt hn) z j
    rw [outsAt0_B m c ⟨n + 1, hn⟩ (show ¬(n + 1) % 16 = 0 by omega) (show 1 ≤ n + 1 by omega)]
    dsimp only
    rw [gain_B (h0 := show ¬(n + 1) % 16 = 0 by omega) (h1 := show 1 ≤ n + 1 by omega), pay1_val, pay4_blk]
    rw [show 256 * (n + 1 + 1) = 256 * (n + 1) + 256 by ring, Finset.sum_range_add, ← ih]
    rfl

theorem flushed_g (t : Fin cfg0.N) (hf : (cfg0.win 5).flush t = true) :
    (dats m 0 c).flushed 5 t = ((cfg0.win 5).blk t).view.read (Elt Ideal) (DG (X m c) (DH m c)) := by
  have h15 := (flush0_5 t).mp hf
  have ht := lt16 t
  obtain ⟨e0, e1⟩ := (idx t).2.2.2.2.2
  rw [flushed5]
  funext j
  have e : ((cfg0.win 5).blk t).view.emb j = j := by
    funext z; apply Fin.ext
    match z with
    | ⟨0, _⟩ => show win0_5.index t (0 : Fin 2) * 1 + 1 * (j 0).val = (j 0).val; omega
    | ⟨1, _⟩ => show win0_5.index t (1 : Fin 2) * 1024 + 1 * (j 1).val = (j 1).val; omega
  show (outsAt0 m c t.val t.isLt).2 j = DG _ _ (((cfg0.win 5).blk t).view.emb j)
  rw [e]
  refine (congrArg _ (eq_ix2 j)).trans ((acc_val m c t.val t.isLt (j 0) (j 1)).trans ?_)
  rw [show 256 * (t.val + 1) = 4096 by omega, Finset.sum_range]
  unfold DG
  refine Finset.sum_congr rfl fun i _ => ?_
  unfold partN
  rw [dif_pos i.isLt]

theorem covered_x (i : S4096x1024.Idx) : ∃ t : Fin cfg0.N, (cfg0.win 4).flush t = true ∧ i ∈ ((cfg0.win 4).blk t).view.set := by
  have h0 : (i 0).val < 4096 := (i 0).isLt
  let t : Fin cfg0.N := ⟨(i 0).val / 256, lt_of_lt_of_eq (show (i 0).val / 256 < 16 by omega) N_0.symm⟩
  obtain ⟨e0, e1⟩ := (idx t).2.2.2.2.1
  have et : t.val = (i 0).val / 256 := rfl
  refine ⟨t, flush0_4 t, ?_⟩
  have h := ((cfg0.win 4).blk t).view.emb_mem_set (ix2 ⟨(i 0).val % 256, by omega⟩ (i 1) : S256x1024.Idx)
  have e : ((cfg0.win 4).blk t).view.emb (ix2 ⟨(i 0).val % 256, by omega⟩ (i 1) : S256x1024.Idx) = i := by
    funext z; apply Fin.ext
    match z with
    | ⟨0, _⟩ => show win0_4.index t (0 : Fin 2) * 256 + 1 * ((i 0).val % 256) = (i 0).val; omega
    | ⟨1, _⟩ => show win0_4.index t (1 : Fin 2) * 1024 + 1 * (i 1).val = (i 1).val; omega
  rwa [e] at h
theorem covered_g (i : S1x1024.Idx) : ∃ t : Fin cfg0.N, (cfg0.win 5).flush t = true ∧ i ∈ ((cfg0.win 5).blk t).view.set := by
  let t : Fin cfg0.N := ⟨15, lt_of_lt_of_eq (show 15 < 16 by omega) N_0.symm⟩
  obtain ⟨e0, e1⟩ := (idx t).2.2.2.2.2
  refine ⟨t, (flush0_5 t).mpr rfl, ?_⟩
  have h := ((cfg0.win 5).blk t).view.emb_mem_set i
  have e : ((cfg0.win 5).blk t).view.emb i = i := by
    funext z; apply Fin.ext
    match z with
    | ⟨0, _⟩ => show win0_5.index t (0 : Fin 2) * 1 + 1 * (i 0).val = (i 0).val; omega
    | ⟨1, _⟩ => show win0_5.index t (1 : Fin 2) * 1024 + 1 * (i 1).val = (i 1).val; omega
  rwa [e] at h

theorem final_x : (dats m 0 c).arrAt 4 cfg0.N = DX (X m c) (G m c) (DH m c) (DR m c) :=
  (dats m 0 c).arrAt_eq_of_cover 4 _ (fun t _ => flushed_x m c t) covered_x
theorem final_g : (dats m 0 c).arrAt 5 cfg0.N = DG (X m c) (DH m c) :=
  (dats m 0 c).arrAt_eq_of_cover 5 _ (fun t hf => flushed_g m c t hf) covered_g

/-! ## The arithmetic of one entry -/

theorem ofBits_1024 : c1024 = ((1024 : ℝ) : EReal) := by
  simp [Ideal.ofBits, Ideal.ieee, -EReal.coe_mul]; norm_num
theorem ofBits_mhalf : Ideal.ofBits .f32 0xBF000000#32 = ((-(1 / 2) : ℝ) : EReal) := by
  simp [Ideal.ofBits, Ideal.ieee, -EReal.coe_mul]; norm_num
theorem ofBits_eps : ∃ e : ℝ, 0 < e ∧ ceps = (e : EReal) := by
  simp [Ideal.ofBits, Ideal.ieee, -EReal.coe_mul]

/-- A mean square with the constant added is positive, infinite entries or not. -/
theorem mean_pos (f : Fin 1024 → EReal) :
    Ideal.div (∑ k, f k * f k) c1024 + ceps = ⊤ ∨ ∃ p : ℝ, 0 < p ∧ Ideal.div (∑ k, f k * f k) c1024 + ceps = (p : EReal) := by
  obtain ⟨e, he, e'⟩ := ofBits_eps
  have h0 : 0 ≤ ∑ k, f k * f k := Finset.sum_nonneg fun k _ => by
    generalize f k = z
    induction z with
    | bot => rw [EReal.bot_mul_bot]; exact le_top
    | top => rw [EReal.top_mul_top]; exact le_top
    | coe z => rw [← EReal.coe_mul]; exact_mod_cast mul_self_nonneg z
  rw [e', ofBits_1024, Ideal.div_coe (by norm_num)]
  generalize (∑ k, f k * f k) = s at h0
  induction s with
  | bot => exact absurd h0 (by simp)
  | top => left; rw [EReal.top_mul_coe_of_pos (by norm_num)]; rfl
  | coe s =>
    have hs : 0 ≤ s := by exact_mod_cast h0
    right
    exact ⟨s * (1 / 1024) + e, by positivity, by rw [EReal.coe_add, EReal.coe_mul]⟩

theorem twice (z : EReal) (k : ℝ) (hk : k < 0) : z * (k : EReal) + z * (k : EReal) = z * ((k + k : ℝ) : EReal) := by
  induction z with
  | bot => rw [EReal.bot_mul_coe_of_neg hk, EReal.bot_mul_coe_of_neg (by linarith)]; rfl
  | top => rw [EReal.top_mul_coe_of_neg hk, EReal.top_mul_coe_of_neg (by linarith)]; rfl
  | coe z => rw [← EReal.coe_mul, ← EReal.coe_add, ← EReal.coe_mul]; congr 1; ring

/-- The call subtracts one product, the transposed rule adds half of it twice. -/
theorem entry (e b x A s : EReal) (hs : s = ⊤ ∨ ∃ p : ℝ, 0 < p ∧ s = (p : EReal)) :
    e + (Ideal.rsqrt s * b - x * (Ideal.rsqrt s * Ideal.rsqrt s * Ideal.rsqrt s) * Ideal.div A c1024)
      = ((e + b * Ideal.rsqrt s) + x * Ideal.div (A * (Ideal.ofBits .f32 0xBF000000#32 * Ideal.div (Ideal.rsqrt s) s)) c1024)
        + Ideal.div (A * (Ideal.ofBits .f32 0xBF000000#32 * Ideal.div (Ideal.rsqrt s) s)) c1024 * x := by
  rw [ofBits_1024, ofBits_mhalf, Ideal.div_coe (by norm_num), Ideal.div_coe (by norm_num)]
  obtain rfl | ⟨p, hp, rfl⟩ := hs
  · have h1 : Ideal.rsqrt ⊤ = 0 := rfl
    have h2 : Ideal.div 0 ⊤ = 0 := by unfold Ideal.div; rw [if_neg (by simp), zero_mul]
    simp only [h1, h2, mul_zero, zero_mul, add_zero, sub_zero]
  · have hr : Ideal.rsqrt (p : EReal) = (((Real.sqrt p)⁻¹ : ℝ) : EReal) := by
      rw [Ideal.rsqrt_coe, if_neg (by linarith), if_neg (by linarith)]
    have hq : 0 < (Real.sqrt p)⁻¹ := inv_pos.mpr (Real.sqrt_pos.mpr hp)
    have hqq : (Real.sqrt p)⁻¹ * (Real.sqrt p)⁻¹ = 1 / p := by
      rw [← mul_inv, Real.mul_self_sqrt hp.le, one_div]
    rw [hr, Ideal.div_coe hp.ne']
    generalize (Real.sqrt p)⁻¹ = q at hq hqq
    have hk : -(1 / 2) * (q * (1 / p)) * (1 / 1024) < 0 := by
      have : 0 < q * (1 / p) := by positivity
      linarith
    have hv : A * (((-(1 / 2) : ℝ) : EReal) * ((q : EReal) * ((1 / p : ℝ) : EReal))) * ((1 / 1024 : ℝ) : EReal)
        = A * ((-(1 / 2) * (q * (1 / p)) * (1 / 1024) : ℝ) : EReal) := by
      rw [mul_assoc, ← EReal.coe_mul, ← EReal.coe_mul, ← EReal.coe_mul]
    have hw : x * ((q : EReal) * q * q) * (A * ((1 / 1024 : ℝ) : EReal)) = x * A * ((q * q * q * (1 / 1024) : ℝ) : EReal) := by
      rw [← EReal.coe_mul, ← EReal.coe_mul, mul_mul_mul_comm, ← EReal.coe_mul]
    rw [hv, hw, mul_comm (A * _) x, ← mul_assoc x A, add_assoc (e + _), twice _ _ hk, add_assoc e, mul_comm b, sub_eq_add_neg,
      ← mul_neg, ← EReal.coe_neg]
    congr 4
    rw [hqq]
    ring

/-! ## The reference -/

section Ref
open Cert.Reference24Ideal.Read

variable (x : FVec Ideal S4096x1024 .f32) (g : FVec Ideal S1024 .f32) (dh dres : FVec Ideal S4096x1024 .f32)

/-- The reference's mean square with the constant added. -/
theorem ref_s (r : Fin 4096) (z : Fin 1) : val_main_v6 (F := Ideal) x (ix2 r z) = Ideal.div (∑ k, row x r k * row x r k) c1024 + ceps := by
  rw [val_main_v6_apply, val_main_v5_apply, val_main_cst_1_apply, val_main_v4_apply, val_main_v3_apply, val_main_cst_0_apply,
    val_main_v2_apply, val_main_v1_apply, val_main_cst_apply]
  show Ideal.div (Ideal.ofBits .f32 0x00000000#32 + _) _ + _ = _
  rw [show Ideal.ofBits .f32 0x00000000#32 = 0 by simp [Ideal.ofBits, Ideal.ieee], zero_add]
  congr 2
  refine Finset.sum_congr rfl fun k _ => ?_
  rw [val_main_v0_apply]
  have e : idx_main_v1 (idx_main_v2 (ix2 r z : Cert.Reference24Ideal.S4096x1.Idx)) k = (ix2 r k : S4096x1024.Idx) := by
    funext a; apply Fin.ext
    match a with
    | ⟨0, _⟩ => rfl
    | ⟨1, _⟩ => rfl
  rw [e]
  rfl
theorem ref_r (r : Fin 4096) (z : Fin 1) : val_main_v7 (F := Ideal) x (ix2 r z) = rs (row x r) := by
  rw [val_main_v7_apply, ref_s]
  rfl

/-- The reference's cotangent times the gain. -/
theorem ref_b (r : Fin 4096) (j : Fin 1024) : val_main_v20 (F := Ideal) g dh (ix2 r j) = HMul.hMul (α := EReal) (β := EReal) (γ := EReal) (dh (ix2 r j)) (g (ix1 j)) := by
  rw [val_main_v20_apply, val_main_v19_apply, val_main_v13_apply]
  have e : idx_main_v13 (idx_main_v19 (ix2 r j : S4096x1024.Idx)) = (ix1 j : S1024.Idx) := by
    funext a; apply Fin.ext
    match a with
    | ⟨0, _⟩ => rfl
  rw [e]
  rfl
theorem ref_A (r : Fin 4096) (z : Fin 1) : val_main_v24 (F := Ideal) x g dh (ix2 r z) = ∑ k, row x r k * (row dh r k * g (ix1 k)) := by
  rw [val_main_v24_apply, val_main_v23_apply, val_main_cst_5_apply]
  show Ideal.ofBits .f32 0x00000000#32 + _ = _
  rw [show Ideal.ofBits .f32 0x00000000#32 = 0 by simp [Ideal.ofBits, Ideal.ieee], zero_add]
  refine Finset.sum_congr rfl fun k _ => ?_
  have e : idx_main_v23 (idx_main_v24 (ix2 r z : Cert.Reference24Ideal.S4096x1.Idx)) k = (ix2 r k : S4096x1024.Idx) := by
    funext a; apply Fin.ext
    match a with
    | ⟨0, _⟩ => show r.val * 1 + z.val = r.val; omega
    | ⟨1, _⟩ => rfl
  rw [e, val_main_v22_apply, ref_b]
  rfl
/-- The reference's cotangent of the mean square, spread over the row. -/
theorem ref_v (r : Fin 4096) (j : Fin 1024) : val_main_v32 (F := Ideal) x g dh (ix2 r j)
    = Ideal.div ((∑ k, row x r k * (row dh r k * g (ix1 k))) * (Ideal.ofBits .f32 0xBF000000#32 * Ideal.div (rs (row x r)) (Ideal.div (∑ k, row x r k * row x r k) c1024 + ceps))) c1024 := by
  rw [val_main_v32_apply, val_main_v31_apply, val_main_cst_7_apply]
  show Ideal.ofBits .f32 0x00000000#32 + _ = _
  rw [show Ideal.ofBits .f32 0x00000000#32 = 0 by simp [Ideal.ofBits, Ideal.ieee], zero_add, Fin.sum_univ_one]
  have e : idx_main_v31 (idx_main_v32 (ix2 r j : S4096x1024.Idx)) 0 = (ix2 r 0 : Cert.Reference24Ideal.S4096x1.Idx) := by
    funext a; apply Fin.ext
    match a with
    | ⟨0, _⟩ => rfl
    | ⟨1, _⟩ => rfl
  rw [e, val_main_v30_apply, val_main_v29_apply, val_main_cst_6_apply, val_main_v28_apply, ref_A, val_main_v10_apply, val_main_v9_apply,
    val_main_cst_2_apply, val_main_v8_apply, ref_r, ref_s]
  rfl

theorem ref_x : val_main_v36 (F := Ideal) x g dh dres = DX x g dh dres := by
  funext i
  obtain ⟨r, j, rfl⟩ : ∃ (r : Fin 4096) (j : Fin 1024), i = (ix2 r j : S4096x1024.Idx) := ⟨i 0, i 1, eq_ix2 i⟩
  have e : idx_main_v25 (ix2 r j : S4096x1024.Idx) = (ix2 r 0 : Cert.Reference24Ideal.S4096x1.Idx) := by
    funext a; apply Fin.ext
    match a with
    | ⟨0, _⟩ => rfl
    | ⟨1, _⟩ => rfl
  rw [val_main_v36_apply, val_main_v35_apply, val_main_v34_apply, val_main_v33_apply, val_main_v27_apply, val_main_v26_apply, val_main_v25_apply,
    ref_v, ref_b, e, ref_r]
  exact (entry (dres (ix2 r j)) _ (x (ix2 r j)) _ _ (mean_pos (row x r))).symm

theorem ref_g : val_main_v37 (F := Ideal) x dh = DG x dh := by
  funext i
  rw [val_main_v37_apply, val_main_v21_apply, val_main_cst_4_apply]
  show Ideal.ofBits .f32 0x00000000#32 + _ = _
  rw [show Ideal.ofBits .f32 0x00000000#32 = 0 by simp [Ideal.ofBits, Ideal.ieee], zero_add, Fin.sum_univ_one]
  rw [val_main_v18_apply, val_main_v17_apply, val_main_cst_3_apply]
  show Ideal.ofBits .f32 0x00000000#32 + _ = _
  rw [show Ideal.ofBits .f32 0x00000000#32 = 0 by simp [Ideal.ofBits, Ideal.ieee], zero_add]
  unfold DG
  refine Finset.sum_congr rfl fun k _ => ?_
  have e : idx_main_v17 (idx_main_v18 (idx_main_v21 (idx_main_v37 i) 0)) k = (ix2 k (i 1) : S4096x1024.Idx) := by
    have h0 : (i 0).val < 1 := (i 0).isLt
    funext a; apply Fin.ext
    match a with
    | ⟨0, _⟩ => rfl
    | ⟨1, _⟩ => show 0 * 1024 + ((i 0).val * 1024 + (i 1).val) = (i 1).val; omega
  have e' : idx_main_v11 (ix2 k (i 1) : S4096x1024.Idx) = (ix2 k 0 : Cert.Reference24Ideal.S4096x1.Idx) := by
    funext a; apply Fin.ext
    match a with
    | ⟨0, _⟩ => rfl
    | ⟨1, _⟩ => rfl
  rw [e, val_main_v16_apply, val_main_v12_apply, val_main_v11_apply, e', ref_r]
  show HMul.hMul (α := EReal) (β := EReal) (γ := EReal) (HMul.hMul (α := EReal) (β := EReal) (γ := EReal) (x _) (rs _)) (dh _) = _
  unfold part
  rw [mul_comm, mul_assoc]
end Ref

theorem algebraic : Cert.algebraic_Kernel24Ideal_Reference24Ideal := by
  intro m g m' g' _ hm
  refine ⟨fun c => DX (X m c) (G m c) (DH m c) (DR m c), fun c => DG (X m c) (DH m c), ?_, ?_⟩
  · exact (θ_run defs _ _).mono (fun r h c => ⟨(h c).1.trans (final_x m c), (h c).2.1.trans (final_g m c), (h c).2.2⟩) (run_blocks m g)
  · refine (θ_run Cert.Reference24Ideal.defs _ _).mono (fun r h c => ?_) (Cert.Reference24Ideal.Value.run m' g')
    obtain ⟨e0, e1, e2, e3⟩ := hm c
    refine ⟨(h c).1.trans ?_, (h c).2.1.trans ?_, (h c).2.2⟩
    · rw [e0, e1, e2, e3]
      exact (Cert.Reference24Ideal.Read.val_main_v36_eq (F := Ideal) _ _ _ _).trans (ref_x _ _ _ _)
    · rw [e0, e2]
      exact (Cert.Reference24Ideal.Read.val_main_v37_eq (F := Ideal) _ _).trans (ref_g _ _)

end Cert.Proof.NormBwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Pre_finite
public import proofs.«01_k».proof.Proof.Gen.Pre_finite_gla
public import proofs.«01_k».proof.Proof.Gen.Pre_carried
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Kernel21Ideal.Value
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24Ideal.Value
public import proofs.«01_k».proof.Proof.Gen.Reference24Ideal.Run
public import proofs.«01_k».proof.Proof.Gen.Reference24Ideal.Read
public import proofs.«01_k».proof.Proof.Refs
public import proofs.«01_k».proof.Proof.Dgu
public import proofs.«01_k».proof.Proof.Ddown
public import proofs.«01_k».proof.Proof.Dwgu
public import proofs.«01_k».proof.Proof.Dh
public import proofs.«01_k».proof.Proof.DhAdd
public import proofs.«01_k».proof.Proof.MixDwpg
public import proofs.«01_k».proof.Proof.MixDh
public import proofs.«01_k».proof.Proof.MixDwout
public import proofs.«01_k».proof.Proof.MixDmerged
public import proofs.«01_k».proof.Proof.MixDwbranch
public import proofs.«01_k».proof.Proof.MixDy
public import proofs.«01_k».proof.Proof.S5Dwglu
public import proofs.«01_k».proof.Proof.S5Dyg
public import proofs.«01_k».proof.Proof.MixIn
public import proofs.«01_k».proof.Proof.MixBranch
public import proofs.«01_k».proof.Proof.MixOut
public import proofs.«01_k».proof.Proof.FfnDown
public import proofs.«01_k».proof.Proof.S5Glu
public import proofs.«01_k».proof.Proof.FfnUp
public import proofs.«01_k».proof.Proof.Gla
public import proofs.«01_k».proof.Proof.GlaB
public import proofs.«01_k».proof.Proof.GluBwd
public import proofs.«01_k».proof.Proof.GlaDwalpha
public import proofs.«01_k».proof.Proof.NormBwd

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Pre_finite.Gen.facts, Cert.Pre_finite_gla.Gen.facts, Cert.Pre_carried.Gen.facts,
  fun m ρ _ => Cert.Kernel.Gen.frame m ρ, fun m ρ _ => Cert.KernelIdeal.Gen.frame m ρ,
  fun m ρ _ => Cert.KernelIdeal.Gen.frame m ρ,
  Refs.frame1,
  Refs.frame1_pre,
  fun m ρ _ => Cert.Kernel2.Gen.frame m ρ, fun m ρ _ => Cert.Kernel2Ideal.Gen.frame m ρ,
  Refs.frame2,
  fun m ρ _ => Cert.Kernel3.Gen.frame m ρ, fun m ρ _ => Cert.Kernel3Ideal.Gen.frame m ρ,
  Refs.frame3,
  fun m ρ _ => Cert.Kernel4.Gen.frame m ρ, fun m ρ _ => Cert.Kernel4Ideal.Gen.frame m ρ,
  Refs.frame4,
  fun m ρ _ => Cert.Kernel5.Gen.frame m ρ, fun m ρ _ => Cert.Kernel5Ideal.Gen.frame m ρ,
  Refs.frame5,
  fun m ρ _ => Cert.Kernel6.Gen.frame m ρ, fun m ρ _ => Cert.Kernel6Ideal.Gen.frame m ρ,
  Refs.frame6,
  fun m ρ _ => Cert.Kernel7.Gen.frame m ρ, fun m ρ _ => Cert.Kernel7Ideal.Gen.frame m ρ,
  Refs.frame7,
  fun m ρ _ => Cert.Kernel8.Gen.frame m ρ, fun m ρ _ => Cert.Kernel8Ideal.Gen.frame m ρ,
  Refs.frame8,
  fun m ρ _ => Cert.Kernel9.Gen.frame m ρ, fun m ρ _ => Cert.Kernel9Ideal.Gen.frame m ρ,
  Refs.frame9,
  fun m ρ _ => Cert.Kernel10.Gen.frame m ρ, fun m ρ _ => Cert.Kernel10Ideal.Gen.frame m ρ,
  Refs.frame10,
  fun m ρ _ => Cert.Kernel11.Gen.frame m ρ, fun m ρ _ => Cert.Kernel11Ideal.Gen.frame m ρ,
  Refs.frame11,
  fun m ρ _ => Cert.Kernel12.Gen.frame m ρ, fun m ρ _ => Cert.Kernel12Ideal.Gen.frame m ρ,
  Refs.frame12,
  fun m ρ _ => Cert.Kernel13.Gen.frame m ρ, fun m ρ _ => Cert.Kernel13Ideal.Gen.frame m ρ,
  Refs.frame13,
  fun m ρ _ => Cert.Kernel14.Gen.frame m ρ, fun m ρ _ => Cert.Kernel14Ideal.Gen.frame m ρ,
  Refs.frame14,
  fun m ρ _ => Cert.Kernel15.Gen.frame m ρ, fun m ρ _ => Cert.Kernel15Ideal.Gen.frame m ρ,
  Refs.frame15,
  fun m ρ _ => Cert.Kernel16.Gen.frame m ρ, fun m ρ _ => Cert.Kernel16Ideal.Gen.frame m ρ,
  Refs.frame16,
  fun m ρ _ => Cert.Kernel17.Gen.frame m ρ, fun m ρ _ => Cert.Kernel17Ideal.Gen.frame m ρ,
  Refs.frame17,
  fun m ρ _ => Cert.Kernel18.Gen.frame m ρ, fun m ρ _ => Cert.Kernel18Ideal.Gen.frame m ρ,
  Refs.frame18,
  fun m ρ _ => Cert.Kernel19.Gen.frame m ρ, fun m ρ _ => Cert.Kernel19Ideal.Gen.frame m ρ,
  Refs.frame19,
  fun m ρ _ => Cert.Kernel20.Gen.frame m ρ, fun m ρ _ => Cert.Kernel20Ideal.Gen.frame m ρ,
  fun m ρ _ => Cert.Kernel20Ideal.Gen.frame m ρ,
  Gla.frame_ref,
  Gla.frame_ref_pre,
  fun m ρ _ => Cert.Kernel21.Gen.frame m ρ, fun m ρ _ => Cert.Kernel21Ideal.Gen.frame m ρ,
  fun m ρ _ => Cert.Kernel21Ideal.Gen.frame m ρ,
  GlaB.frame_ref,
  GlaB.frame_ref_pre,
  fun m ρ _ => Cert.Kernel22.Gen.frame m ρ, fun m ρ _ => Cert.Kernel22Ideal.Gen.frame m ρ,
  Refs.frame22,
  fun m ρ _ => Cert.Kernel23.Gen.frame m ρ, fun m ρ _ => Cert.Kernel23Ideal.Gen.frame m ρ,
  Refs.frame23,
  fun m ρ _ => Cert.Kernel24.Gen.frame m ρ, fun m ρ _ => Cert.Kernel24Ideal.Gen.frame m ρ,
  Refs.frame24,
  trivial, Dgu.algebraic,
  trivial, Ddown.algebraic,
  trivial, Dwgu.algebraic,
  trivial, Dh.algebraic,
  trivial, DhAdd.algebraic,
  trivial, MixDwpg.algebraic,
  trivial, MixDh.algebraic,
  trivial, MixDwout.algebraic,
  trivial, MixDmerged.algebraic,
  trivial, MixDwbranch.algebraic,
  trivial, MixDy.algebraic,
  trivial, S5Dwglu.algebraic,
  trivial, S5Dyg.algebraic,
  trivial, MixIn.algebraic,
  trivial, MixBranch.algebraic,
  trivial, MixOut.algebraic,
  trivial, FfnDown.algebraic,
  trivial, S5Glu.algebraic,
  trivial, FfnUp.algebraic,
  trivial, Gla.algebraic,
  trivial, GlaB.algebraic,
  trivial, GluBwd.algebraic,
  trivial, GlaDwalpha.algebraic,
  trivial, NormBwd.algebraic⟩

end Cert.Proof

end
